-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S96x128 Cert.KernelIdeal.S48x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176_0) = v0 c
          ∧ r.2.mem ((c.tc : Thread Cert.ReferenceIdeal.nD Cert.ReferenceIdeal.τ).loc Cert.ReferenceIdeal.main_v176_1) = v1 c
          ∧ r.2.mem ((c.tc : Thread Cert.ReferenceIdeal.nD Cert.ReferenceIdeal.τ).loc Cert.ReferenceIdeal.main_v176_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x262144x96 : Shape := ⟨3, ![4, 262144, 96]⟩
abbrev S96 : Shape := ⟨1, ![96]⟩
abbrev S3x96x96 : Shape := ⟨3, ![3, 96, 96]⟩
abbrev S_ : Shape := ⟨0, ![]⟩

class Facts : Prop where
  bcast_S_S4x262144x96 : S_.BroadcastsInDim S4x262144x96 (![] : Fin 0 → Fin S4x262144x96.rank)

variable [Facts]

def fn {F : FTy → Type} [FloatOps F] (main_arg0 : FVec F S4x262144x96 .bf16) (main_arg1 : FVec F S96 .f32) (main_arg2 : FVec F S96 .f32) (main_arg3 : FVec F S3x96x96 .fp8e4m3) (main_arg4 : FVec F S96 .f32) (main_arg5 : FVec F S96 .f32) : IVec S4x262144x96 1 :=
  let main_v0 : FVec F S4x262144x96 .bf16 := Host.absf main_arg0
  let main_cst : FVec F S_ .bf16 := constant S_ .bf16 0x7F80#16
  let main_v1 : FVec F S4x262144x96 .bf16 := broadcastInDim S4x262144x96 ![] bcast_S_S4x262144x96 main_cst
  let main_v2 : IVec S4x262144x96 1 := cmpf .olt main_v0 main_v1
  main_v2
-- ==== Kernel.lean ====
abbrev S4x262144x96 : Shape := ⟨3, ![4, 262144, 96]⟩
abbrev S96 : Shape := ⟨1, ![96]⟩
abbrev S3x96x96 : Shape := ⟨3, ![3, 96, 96]⟩
abbrev S128x240 : Shape := ⟨2, ![128, 240]⟩
abbrev S4x96x262144 : Shape := ⟨3, ![4, 96, 262144]⟩
abbrev S_ : Shape := ⟨0, ![]⟩
abbrev S1x96 : Shape := ⟨2, ![1, 96]⟩
abbrev S4x96 : Shape := ⟨2, ![4, 96]⟩
abbrev S384 : Shape := ⟨1, ![384]⟩
abbrev S1x384 : Shape := ⟨2, ![1, 384]⟩
abbrev S96x3x96 : Shape := ⟨3, ![96, 3, 96]⟩
abbrev S96x288 : Shape := ⟨2, ![96, 288]⟩
abbrev S96x1 : Shape := ⟨2, ![96, 1]⟩
abbrev S96x128 : Shape := ⟨2, ![96, 128]⟩
abbrev S3x4x262144 : Shape := ⟨3, ![3, 4, 262144]⟩
abbrev S4x96x128 : Shape := ⟨3, ![4, 96, 128]⟩
abbrev S4x96x1024 : Shape := ⟨3, ![4, 96, 1024]⟩
abbrev S3x4x1024 : Shape := ⟨3, ![3, 4, 1024]⟩
abbrev S3x1280x128 : Shape := ⟨3, ![3, 1280, 128]⟩
abbrev S384x1280 : Shape := ⟨2, ![384, 1280]⟩
abbrev S12x128 : Shape := ⟨2, ![12, 128]⟩
abbrev S384x128 : Shape := ⟨2, ![384, 128]⟩
abbrev S128x128 : Shape := ⟨2, ![128, 128]⟩
abbrev S1x128x128 : Shape := ⟨3, ![1, 128, 128]⟩
abbrev S1x16x128 : Shape := ⟨3, ![1, 16, 128]⟩
abbrev S16x128 : Shape := ⟨2, ![16, 128]⟩
abbrev S1x128 : Shape := ⟨2, ![1, 128]⟩
abbrev S1x80x128 : Shape := ⟨3, ![1, 80, 128]⟩
abbrev S80x128 : Shape := ⟨2, ![80, 128]⟩
abbrev S80x384 : Shape := ⟨2, ![80, 384]⟩
abbrev S240x384 : Shape := ⟨2, ![240, 384]⟩
abbrev S128x384 : Shape := ⟨2, ![128, 384]⟩
abbrev S64x128 : Shape := ⟨2, ![64, 128]⟩
abbrev S1x64x128 : Shape := ⟨3, ![1, 64, 128]⟩
abbrev S1x1x128 : Shape := ⟨3, ![1, 1, 128]⟩
abbrev S13x128 : Shape := ⟨2, ![13, 128]⟩
abbrev S1x13x128 : Shape := ⟨3, ![1, 13, 128]⟩
abbrev S32x128 : Shape := ⟨2, ![32, 128]⟩
abbrev S4x8x128 : Shape := ⟨3, ![4, 8, 128]⟩
abbrev S8x128 : Shape := ⟨2, ![8, 128]⟩
abbrev S1x32x128 : Shape := ⟨3, ![1, 32, 128]⟩
abbrev S48x128 : Shape := ⟨2, ![48, 128]⟩
abbrev S288x128 : Shape := ⟨2, ![288, 128]⟩
abbrev S1x96x128 : Shape := ⟨3, ![1, 96, 128]⟩

abbrev nBuf : Space → Nat
  | .hbm => 36
  | .vmem => 25
  | .smem => 0
  | _ => 0

abbrev bufTy : (tb : Table) → Fin (tcTables nBuf tb) → BufTy
  | .hbm, ⟨0, _⟩ => ⟨S4x262144x96, .bf16⟩
  | .hbm, ⟨1, _⟩ => ⟨S96, .f32⟩
  | .hbm, ⟨2, _⟩ => ⟨S96, .f32⟩
  | .hbm, ⟨3, _⟩ => ⟨S3x96x96, .fp8e4m3⟩
  | .hbm, ⟨4, _⟩ => ⟨S96, .f32⟩
  | .hbm, ⟨5, _⟩ => ⟨S96, .f32⟩
  | .hbm, ⟨6, _⟩ => ⟨S128x240, .bf16⟩
  | .hbm, ⟨7, _⟩ => ⟨S4x96x262144, .bf16⟩
  | .hbm, ⟨8, _⟩ => ⟨S96, .f32⟩
  | .hbm, ⟨9, _⟩ => ⟨S_, .f32⟩
  | .hbm, ⟨10, _⟩ => ⟨S96, .f32⟩
  | .hbm, ⟨11, _⟩ => ⟨S96, .f32⟩
  | .hbm, ⟨12, _⟩ => ⟨S1x96, .f32⟩
  | .hbm, ⟨13, _⟩ => ⟨S4x96, .f32⟩
  | .hbm, ⟨14, _⟩ => ⟨S384, .f32⟩
  | .hbm, ⟨15, _⟩ => ⟨S1x384, .f32⟩
  | .hbm, ⟨16, _⟩ => ⟨S96, .f32⟩
  | .hbm, ⟨17, _⟩ => ⟨S_, .f32⟩
  | .hbm, ⟨18, _⟩ => ⟨S96, .f32⟩
  | .hbm, ⟨19, _⟩ => ⟨S96, .f32⟩
  | .hbm, ⟨20, _⟩ => ⟨S_, .f32⟩
  | .hbm, ⟨21, _⟩ => ⟨S96, .f32⟩
  | .hbm, ⟨22, _⟩ => ⟨S96, .f32⟩
  | .hbm, ⟨23, _⟩ => ⟨S1x96, .f32⟩
  | .hbm, ⟨24, _⟩ => ⟨S4x96, .f32⟩
  | .hbm, ⟨25, _⟩ => ⟨S384, .f32⟩
  | .hbm, ⟨26, _⟩ => ⟨S1x384, .f32⟩
  | .hbm, ⟨27, _⟩ => ⟨S96x3x96, .fp8e4m3⟩
  | .hbm, ⟨28, _⟩ => ⟨S96x288, .fp8e4m3⟩
  | .hbm, ⟨29, _⟩ => ⟨S96x1, .f32⟩
  | .hbm, ⟨30, _⟩ => ⟨S96x128, .f32⟩
  | .hbm, ⟨31, _⟩ => ⟨S96x1, .f32⟩
  | .hbm, ⟨32, _⟩ => ⟨S96x128, .f32⟩
  | .hbm, ⟨33, _⟩ => ⟨S4x96x262144, .bf16⟩
  | .hbm, ⟨34, _⟩ => ⟨S4x96x262144, .fp8e4m3⟩
  | .hbm, ⟨35, _⟩ => ⟨S3x4x262144, .f32⟩
  | .local _ .vmem, ⟨0, _⟩ => ⟨S4x96x128, .bf16⟩
  | .local _ .vmem, ⟨1, _⟩ => ⟨S4x96x128, .bf16⟩
  | .local _ .vmem, ⟨2, _⟩ => ⟨S4x96x1024, .bf16⟩
  | .local _ .vmem, ⟨3, _⟩ => ⟨S4x96x1024, .bf16⟩
  | .local _ .vmem, ⟨4, _⟩ => ⟨S4x96x128, .bf16⟩
  | .local _ .vmem, ⟨5, _⟩ => ⟨S4x96x128, .bf16⟩
  | .local _ .vmem, ⟨6, _⟩ => ⟨S128x240, .bf16⟩
  | .local _ .vmem, ⟨7, _⟩ => ⟨S1x384, .f32⟩
  | .local _ .vmem, ⟨8, _⟩ => ⟨S1x384, .f32⟩
  | .local _ .vmem, ⟨9, _⟩ => ⟨S96x288, .fp8e4m3⟩
  | .local _ .vmem, ⟨10, _⟩ => ⟨S96x128, .f32⟩
  | .local _ .vmem, ⟨11, _⟩ => ⟨S96x128, .f32⟩
  | .local _ .vmem, ⟨12, _⟩ => ⟨S4x96x1024, .bf16⟩
  | .local _ .vmem, ⟨13, _⟩ => ⟨S4x96x1024, .bf16⟩
  | .local _ .vmem, ⟨14, _⟩ => ⟨S4x96x1024, .fp8e4m3⟩
  | .local _ .vmem, ⟨15, _⟩ => ⟨S4x96x1024, .fp8e4m3⟩
  | .local _ .vmem, ⟨16, _⟩ => ⟨S3x4x1024, .f32⟩
  | .local _ .vmem, ⟨17, _⟩ => ⟨S3x4x1024, .f32⟩
  | .local _ .vmem, ⟨18, _⟩ => ⟨S3x1280x128, .bf16⟩
  | .local _ .vmem, ⟨19, _⟩ => ⟨S3x1280x128, .f32⟩
  | .local _ .vmem, ⟨20, _⟩ => ⟨S3x1280x128, .f32⟩
  | .local _ .vmem, ⟨21, _⟩ => ⟨S384x1280, .bf16⟩
  | .local _ .vmem, ⟨22, _⟩ => ⟨S96x128, .f32⟩
  | .local _ .vmem, ⟨23, _⟩ => ⟨S12x128, .f32⟩
  | .local _ .vmem, ⟨24, _⟩ => ⟨S12x128, .f32⟩
  | _, _ => ⟨S4x262144x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [BitOps F]

abbrev grid0 : Pipeline.Grid := ⟨1, ![256], ![false]⟩

@[reducible] def k0_t1_loop : Scf.Loop 32 :=
  let c0_i32 : BitVec 32 := 0#32
  let c8_i32 : BitVec 32 := 8#32
  let v36 : BitVec 32 := Scalar.addi c0_i32 c8_i32
  let c1_i32 : BitVec 32 := 1#32
  ⟨c0_i32, v36, c1_i32⟩
def k0_mult1 (k0_t1 : Fin k0_t1_loop.trips) : BitVec 32 :=
  let c0_i32_48 : BitVec 32 := 0#32
  let c0_i32 : BitVec 32 := 0#32
  let c1_i32 : BitVec 32 := 1#32
  let arg20 : BitVec 32 := Scf.iv c0_i32 c1_i32 k0_t1
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  v67
def k0_off1 (k0_t1 : Fin k0_t1_loop.trips) : Fin 3 → Nat :=
  let c0_49 : Index := 0#32
  let c0_50 : Index := 0#32
  let c0_i32_48 : BitVec 32 := 0#32
  let c0_i32 : BitVec 32 := 0#32
  let c1_i32 : BitVec 32 := 1#32
  let arg20 : BitVec 32 := Scf.iv c0_i32 c1_i32 k0_t1
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v69 : Index := Scalar.indexCast v68
  ![0, 0, v69.toNat]
def k0_off2 (k0_t1 : Fin k0_t1_loop.trips) : Fin 3 → Nat :=
  let c0_52 : Index := 0#32
  let c128_i32_51 : BitVec 32 := 128#32
  let c0_i32_48 : BitVec 32 := 0#32
  let c0_i32 : BitVec 32 := 0#32
  let c1_i32 : BitVec 32 := 1#32
  let arg20 : BitVec 32 := Scf.iv c0_i32 c1_i32 k0_t1
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v72 : BitVec 32 := Scalar.addi c128_i32_51 v68
  let v76 : Index := Scalar.indexCast v72
  let c0_53 : Index := 0#32
  ![0, v76.toNat, 0]
def k0_off3 (k0_t1 : Fin k0_t1_loop.trips) : Fin 3 → Nat :=
  let c1_54 : Index := 1#32
  let c128_i32_51 : BitVec 32 := 128#32
  let c0_i32_48 : BitVec 32 := 0#32
  let c0_i32 : BitVec 32 := 0#32
  let c1_i32 : BitVec 32 := 1#32
  let arg20 : BitVec 32 := Scf.iv c0_i32 c1_i32 k0_t1
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v72 : BitVec 32 := Scalar.addi c128_i32_51 v68
  let v82 : Index := Scalar.indexCast v72
  let c0_55 : Index := 0#32
  ![1, v82.toNat, 0]
def k0_off4 (k0_t1 : Fin k0_t1_loop.trips) : Fin 3 → Nat :=
  let c2_56 : Index := 2#32
  let c128_i32_51 : BitVec 32 := 128#32
  let c0_i32_48 : BitVec 32 := 0#32
  let c0_i32 : BitVec 32 := 0#32
  let c1_i32 : BitVec 32 := 1#32
  let arg20 : BitVec 32 := Scf.iv c0_i32 c1_i32 k0_t1
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v72 : BitVec 32 := Scalar.addi c128_i32_51 v68
  let v88 : Index := Scalar.indexCast v72
  let c0_57 : Index := 0#32
  ![2, v88.toNat, 0]
@[reducible] def k0_t2_loop : Scf.Loop 32 :=
  let c0_i32_24 : BitVec 32 := 0#32
  let c17_i32 : BitVec 32 := 17#32
  let v43 : BitVec 32 := Scalar.addi c0_i32_24 c17_i32
  let c1_i32_25 : BitVec 32 := 1#32
  ⟨c0_i32_24, v43, c1_i32_25⟩
def k0_mult2 (k0_t2 : Fin k0_t2_loop.trips) : BitVec 32 :=
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  v67
def k0_off5 (k0_t2 : Fin k0_t2_loop.trips) : Fin 3 → Nat :=
  let c0_49 : Index := 0#32
  let c112_i32 : BitVec 32 := 112#32
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  let v68 : BitVec 32 := v67
  let v69 : BitVec 32 := Scalar.addi c112_i32 v68
  let v70 : Index := Scalar.indexCast v69
  let c0_50 : Index := 0#32
  ![0, v70.toNat, 0]
def k0_off6 (k0_t2 : Fin k0_t2_loop.trips) : Fin 3 → Nat :=
  let c1_52 : Index := 1#32
  let c112_i32_51 : BitVec 32 := 112#32
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  let v68 : BitVec 32 := v67
  let v73 : BitVec 32 := Scalar.addi c112_i32_51 v68
  let v74 : Index := Scalar.indexCast v73
  let c0_53 : Index := 0#32
  ![1, v74.toNat, 0]
def k0_off7 (k0_t2 : Fin k0_t2_loop.trips) : Fin 3 → Nat :=
  let c2_55 : Index := 2#32
  let c112_i32_54 : BitVec 32 := 112#32
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  let v68 : BitVec 32 := v67
  let v77 : BitVec 32 := Scalar.addi c112_i32_54 v68
  let v78 : Index := Scalar.indexCast v77
  let c0_56 : Index := 0#32
  ![2, v78.toNat, 0]
def k0_off8 (k0_t2 : Fin k0_t2_loop.trips) : Fin 3 → Nat :=
  let c0_67 : Index := 0#32
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  let v68 : BitVec 32 := v67
  let v111 : Index := Scalar.indexCast v68
  let c0_68 : Index := 0#32
  ![0, v111.toNat, 0]
def k0_off9 (k0_t2 : Fin k0_t2_loop.trips) : Fin 3 → Nat :=
  let c1_78 : Index := 1#32
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  let v68 : BitVec 32 := v67
  let v146 : Index := Scalar.indexCast v68
  let c0_79 : Index := 0#32
  ![1, v146.toNat, 0]
def k0_off10 (k0_t2 : Fin k0_t2_loop.trips) : Fin 3 → Nat :=
  let c2_89 : Index := 2#32
  let c0_i32_48 : BitVec 32 := 0#32
  let c0_i32_24 : BitVec 32 := 0#32
  let c1_i32_25 : BitVec 32 := 1#32
  let arg20 : BitVec 32 := Scf.iv c0_i32_24 c1_i32_25 k0_t2
  let c1_i32_47 : BitVec 32 := 1#32
  let v65 : BitVec 32 := Scalar.muli arg20 c1_i32_47
  let v66 : BitVec 32 := Scalar.addi c0_i32_48 v65
  let c64_i32 : BitVec 32 := 64#32
  let v67 : BitVec 32 := Scalar.muli v66 c64_i32
  let v68 : BitVec 32 := v67
  let v181 : Index := Scalar.indexCast v68
  let c0_90 : Index := 0#32
  ![2, v181.toNat, 0]
@[reducible] def k0_t3_loop : Scf.Loop 32 :=
  let c0_i32_35 : BitVec 32 := 0#32
  let c8_i32_36 : BitVec 32 := 8#32
  let v56 : BitVec 32 := Scalar.addi c0_i32_35 c8_i32_36
  let c1_i32_37 : BitVec 32 := 1#32
  ⟨c0_i32_35, v56, c1_i32_37⟩
def k0_mult3 (k0_t3 : Fin k0_t3_loop.trips) : BitVec 32 :=
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  v67
def k0_off11 (k0_t3 : Fin k0_t3_loop.trips) (c_m2_i32 : BitVec 32) : Fin 3 → Nat :=
  let c0_49 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let c13_i32 : BitVec 32 := 13#32
  let v69 : BitVec 32 := Scalar.addi v68 c13_i32
  let v70 : BitVec 32 := Scalar.addi v69 c_m2_i32
  let v71 : Index := Scalar.indexCast v70
  let c0_50 : Index := 0#32
  ![0, v71.toNat, 0]
def k0_off11_at (r : Fin 7) : BitVec 32 :=
  if r.val < 3 then
    if r.val < 1 then
      4294967294#32
    else
      if r.val < 2 then
        2#32
      else
        4294967295#32
  else
    if r.val < 5 then
      if r.val < 4 then
        1#32
      else
        0#32
    else
      if r.val < 6 then
        3#32
      else
        4294967293#32
def k0_off12 (k0_t3 : Fin k0_t3_loop.trips) (c_m2_i32_106 : BitVec 32) : Fin 3 → Nat :=
  let c1_107 : Index := 1#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let c13_i32_105 : BitVec 32 := 13#32
  let v178 : BitVec 32 := Scalar.addi v68 c13_i32_105
  let v179 : BitVec 32 := Scalar.addi v178 c_m2_i32_106
  let v180 : Index := Scalar.indexCast v179
  let c0_108 : Index := 0#32
  ![1, v180.toNat, 0]
def k0_off12_at (r : Fin 7) : BitVec 32 :=
  if r.val < 3 then
    if r.val < 1 then
      4294967294#32
    else
      if r.val < 2 then
        2#32
      else
        4294967295#32
  else
    if r.val < 5 then
      if r.val < 4 then
        1#32
      else
        0#32
    else
      if r.val < 6 then
        3#32
      else
        4294967293#32
def k0_off13 (k0_t3 : Fin k0_t3_loop.trips) (c_m2_i32_168 : BitVec 32) : Fin 3 → Nat :=
  let c2_169 : Index := 2#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let c13_i32_167 : BitVec 32 := 13#32
  let v287 : BitVec 32 := Scalar.addi v68 c13_i32_167
  let v288 : BitVec 32 := Scalar.addi v287 c_m2_i32_168
  let v289 : Index := Scalar.indexCast v288
  let c0_170 : Index := 0#32
  ![2, v289.toNat, 0]
def k0_off13_at (r : Fin 7) : BitVec 32 :=
  if r.val < 3 then
    if r.val < 1 then
      4294967294#32
    else
      if r.val < 2 then
        2#32
      else
        4294967295#32
  else
    if r.val < 5 then
      if r.val < 4 then
        1#32
      else
        0#32
    else
      if r.val < 6 then
        3#32
      else
        4294967293#32
def k0_off14 (k0_t3 : Fin k0_t3_loop.trips) : Fin 2 → Nat :=
  let c0_257 : Index := 0#32
  let c128_i32_256 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v449 : BitVec 32 := Scalar.addi c128_i32_256 v68
  let v450 : Index := Scalar.indexCast v449
  ![0, v450.toNat]
def k0_off15 (k0_t3 : Fin k0_t3_loop.trips) : Fin 2 → Nat :=
  let c32_265 : Index := 32#32
  let c128_i32_264 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v470 : BitVec 32 := Scalar.addi c128_i32_264 v68
  let v471 : Index := Scalar.indexCast v470
  ![32, v471.toNat]
def k0_off16 (k0_t3 : Fin k0_t3_loop.trips) : Fin 2 → Nat :=
  let c64_273 : Index := 64#32
  let c128_i32_272 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v491 : BitVec 32 := Scalar.addi c128_i32_272 v68
  let v492 : Index := Scalar.indexCast v491
  ![64, v492.toNat]
def k0_off17 (k0_t3 : Fin k0_t3_loop.trips) : Fin 2 → Nat :=
  let c96 : Index := 96#32
  let c128_i32_280 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v512 : BitVec 32 := Scalar.addi c128_i32_280 v68
  let v513 : Index := Scalar.indexCast v512
  ![96, v513.toNat]
def k0_off18 (k0_t3 : Fin k0_t3_loop.trips) : Fin 2 → Nat :=
  let c128 : Index := 128#32
  let c128_i32_287 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v533 : BitVec 32 := Scalar.addi c128_i32_287 v68
  let v534 : Index := Scalar.indexCast v533
  ![128, v534.toNat]
def k0_off19 (k0_t3 : Fin k0_t3_loop.trips) : Fin 2 → Nat :=
  let c160 : Index := 160#32
  let c128_i32_294 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v554 : BitVec 32 := Scalar.addi c128_i32_294 v68
  let v555 : Index := Scalar.indexCast v554
  ![160, v555.toNat]
def k0_off20 (k0_t3 : Fin k0_t3_loop.trips) : Fin 2 → Nat :=
  let c192 : Index := 192#32
  let c128_i32_301 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v575 : BitVec 32 := Scalar.addi c128_i32_301 v68
  let v576 : Index := Scalar.indexCast v575
  ![192, v576.toNat]
def k0_off21 (k0_t3 : Fin k0_t3_loop.trips) : Fin 2 → Nat :=
  let c224 : Index := 224#32
  let c128_i32_308 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v596 : BitVec 32 := Scalar.addi c128_i32_308 v68
  let v597 : Index := Scalar.indexCast v596
  ![224, v597.toNat]
def k0_off22 (k0_t3 : Fin k0_t3_loop.trips) : Fin 2 → Nat :=
  let c256 : Index := 256#32
  let c128_i32_315 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v617 : BitVec 32 := Scalar.addi c128_i32_315 v68
  let v618 : Index := Scalar.indexCast v617
  ![256, v618.toNat]
def k0_off23 (k0_t3 : Fin k0_t3_loop.trips) : Fin 2 → Nat :=
  let c288 : Index := 288#32
  let c128_i32_321 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v638 : BitVec 32 := Scalar.addi c128_i32_321 v68
  let v639 : Index := Scalar.indexCast v638
  ![288, v639.toNat]
def k0_off24 (k0_t3 : Fin k0_t3_loop.trips) : Fin 2 → Nat :=
  let c320 : Index := 320#32
  let c128_i32_327 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v659 : BitVec 32 := Scalar.addi c128_i32_327 v68
  let v660 : Index := Scalar.indexCast v659
  ![320, v660.toNat]
def k0_off25 (k0_t3 : Fin k0_t3_loop.trips) : Fin 2 → Nat :=
  let c352 : Index := 352#32
  let c128_i32_333 : BitVec 32 := 128#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v680 : BitVec 32 := Scalar.addi c128_i32_333 v68
  let v681 : Index := Scalar.indexCast v680
  ![352, v681.toNat]
def k0_off26 (k0_t3 : Fin k0_t3_loop.trips) : Fin 3 → Nat :=
  let c0_334 : Index := 0#32
  let c0_335 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v685 : Index := Scalar.indexCast v68
  ![0, 0, v685.toNat]
def k0_off27 (k0_t3 : Fin k0_t3_loop.trips) : Fin 3 → Nat :=
  let c0_338 : Index := 0#32
  let c0_339 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v690 : Index := Scalar.indexCast v68
  ![0, 0, v690.toNat]
def k0_off28 (k0_t3 : Fin k0_t3_loop.trips) : Fin 3 → Nat :=
  let c0_340 : Index := 0#32
  let c32_341 : Index := 32#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v694 : Index := Scalar.indexCast v68
  ![0, 32, v694.toNat]
def k0_off29 (k0_t3 : Fin k0_t3_loop.trips) : Fin 3 → Nat :=
  let c1_344 : Index := 1#32
  let c0_345 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v699 : Index := Scalar.indexCast v68
  ![1, 0, v699.toNat]
def k0_off30 (k0_t3 : Fin k0_t3_loop.trips) : Fin 3 → Nat :=
  let c0_346 : Index := 0#32
  let c64_347 : Index := 64#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v703 : Index := Scalar.indexCast v68
  ![0, 64, v703.toNat]
def k0_off31 (k0_t3 : Fin k0_t3_loop.trips) : Fin 3 → Nat :=
  let c2_350 : Index := 2#32
  let c0_351 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v708 : Index := Scalar.indexCast v68
  ![2, 0, v708.toNat]
def k0_off32 (k0_t3 : Fin k0_t3_loop.trips) : Fin 3 → Nat :=
  let c1_352 : Index := 1#32
  let c0_353 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v712 : Index := Scalar.indexCast v68
  ![1, 0, v712.toNat]
def k0_off33 (k0_t3 : Fin k0_t3_loop.trips) : Fin 3 → Nat :=
  let c0_356 : Index := 0#32
  let c1_357 : Index := 1#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v717 : Index := Scalar.indexCast v68
  ![0, 1, v717.toNat]
def k0_off34 (k0_t3 : Fin k0_t3_loop.trips) : Fin 3 → Nat :=
  let c1_358 : Index := 1#32
  let c32_359 : Index := 32#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v721 : Index := Scalar.indexCast v68
  ![1, 32, v721.toNat]
def k0_off35 (k0_t3 : Fin k0_t3_loop.trips) : Fin 3 → Nat :=
  let c1_362 : Index := 1#32
  let c1_363 : Index := 1#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v726 : Index := Scalar.indexCast v68
  ![1, 1, v726.toNat]
def k0_off36 (k0_t3 : Fin k0_t3_loop.trips) : Fin 3 → Nat :=
  let c1_364 : Index := 1#32
  let c64_365 : Index := 64#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v730 : Index := Scalar.indexCast v68
  ![1, 64, v730.toNat]
def k0_off37 (k0_t3 : Fin k0_t3_loop.trips) : Fin 3 → Nat :=
  let c2_368 : Index := 2#32
  let c1_369 : Index := 1#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v735 : Index := Scalar.indexCast v68
  ![2, 1, v735.toNat]
def k0_off38 (k0_t3 : Fin k0_t3_loop.trips) : Fin 3 → Nat :=
  let c2_370 : Index := 2#32
  let c0_371 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v739 : Index := Scalar.indexCast v68
  ![2, 0, v739.toNat]
def k0_off39 (k0_t3 : Fin k0_t3_loop.trips) : Fin 3 → Nat :=
  let c0_374 : Index := 0#32
  let c2_375 : Index := 2#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v744 : Index := Scalar.indexCast v68
  ![0, 2, v744.toNat]
def k0_off40 (k0_t3 : Fin k0_t3_loop.trips) : Fin 3 → Nat :=
  let c2_376 : Index := 2#32
  let c32_377 : Index := 32#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v748 : Index := Scalar.indexCast v68
  ![2, 32, v748.toNat]
def k0_off41 (k0_t3 : Fin k0_t3_loop.trips) : Fin 3 → Nat :=
  let c1_380 : Index := 1#32
  let c2_381 : Index := 2#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v753 : Index := Scalar.indexCast v68
  ![1, 2, v753.toNat]
def k0_off42 (k0_t3 : Fin k0_t3_loop.trips) : Fin 3 → Nat :=
  let c2_382 : Index := 2#32
  let c64_383 : Index := 64#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v757 : Index := Scalar.indexCast v68
  ![2, 64, v757.toNat]
def k0_off43 (k0_t3 : Fin k0_t3_loop.trips) : Fin 3 → Nat :=
  let c2_386 : Index := 2#32
  let c2_387 : Index := 2#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v762 : Index := Scalar.indexCast v68
  ![2, 2, v762.toNat]
def k0_off44 (k0_t3 : Fin k0_t3_loop.trips) : Fin 3 → Nat :=
  let c3_388 : Index := 3#32
  let c0_389 : Index := 0#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v766 : Index := Scalar.indexCast v68
  ![3, 0, v766.toNat]
def k0_off45 (k0_t3 : Fin k0_t3_loop.trips) : Fin 3 → Nat :=
  let c0_392 : Index := 0#32
  let c3_393 : Index := 3#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v771 : Index := Scalar.indexCast v68
  ![0, 3, v771.toNat]
def k0_off46 (k0_t3 : Fin k0_t3_loop.trips) : Fin 3 → Nat :=
  let c3_394 : Index := 3#32
  let c32_395 : Index := 32#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v775 : Index := Scalar.indexCast v68
  ![3, 32, v775.toNat]
def k0_off47 (k0_t3 : Fin k0_t3_loop.trips) : Fin 3 → Nat :=
  let c1_398 : Index := 1#32
  let c3_399 : Index := 3#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v780 : Index := Scalar.indexCast v68
  ![1, 3, v780.toNat]
def k0_off48 (k0_t3 : Fin k0_t3_loop.trips) : Fin 3 → Nat :=
  let c3_400 : Index := 3#32
  let c64_401 : Index := 64#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v784 : Index := Scalar.indexCast v68
  ![3, 64, v784.toNat]
def k0_off49 (k0_t3 : Fin k0_t3_loop.trips) : Fin 3 → Nat :=
  let c2_404 : Index := 2#32
  let c3_405 : Index := 3#32
  let c0_i32_48 : BitVec 32 := 0#32
  let c0_i32_35 : BitVec 32 := 0#32
  let c1_i32_37 : BitVec 32 := 1#32
  let arg20 : BitVec 32 := Scf.iv c0_i32_35 c1_i32_37 k0_t3
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v789 : Index := Scalar.indexCast v68
  ![2, 3, v789.toNat]
@[reducible] def k0_t4_loop : Scf.Loop 32 :=
  let c0_i32_43 : BitVec 32 := 0#32
  let c8_i32_44 : BitVec 32 := 8#32
  let v64 : BitVec 32 := Scalar.addi c0_i32_43 c8_i32_44
  let c1_i32_45 : BitVec 32 := 1#32
  ⟨c0_i32_43, v64, c1_i32_45⟩
def k0_mult4 (k0_t4 : Fin k0_t4_loop.trips) : BitVec 32 :=
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  v67
def k0_off50 (k0_t4 : Fin k0_t4_loop.trips) : Fin 2 → Nat :=
  let c0_49 : Index := 0#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v69 : Index := Scalar.indexCast v68
  ![0, v69.toNat]
def k0_off51 (k0_t4 : Fin k0_t4_loop.trips) (c128_i32_50 : BitVec 32) : Fin 2 → Nat :=
  let c0_51 : Index := 0#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v72 : BitVec 32 := Scalar.addi v68 c128_i32_50
  let v73 : Index := Scalar.indexCast v72
  ![0, v73.toNat]
def k0_off52 (k0_t4 : Fin k0_t4_loop.trips) : Fin 3 → Nat :=
  let c0_60 : Index := 0#32
  let c0_61 : Index := 0#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v101 : Index := Scalar.indexCast v68
  ![0, 0, v101.toNat]
def k0_off53 (k0_t4 : Fin k0_t4_loop.trips) : Fin 2 → Nat :=
  let c96 : Index := 96#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v117 : Index := Scalar.indexCast v68
  ![96, v117.toNat]
def k0_off54 (k0_t4 : Fin k0_t4_loop.trips) (c128_i32_68 : BitVec 32) : Fin 2 → Nat :=
  let c96_69 : Index := 96#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v120 : BitVec 32 := Scalar.addi v68 c128_i32_68
  let v121 : Index := Scalar.indexCast v120
  ![96, v121.toNat]
def k0_off55 (k0_t4 : Fin k0_t4_loop.trips) : Fin 3 → Nat :=
  let c1_81 : Index := 1#32
  let c0_82 : Index := 0#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v149 : Index := Scalar.indexCast v68
  ![1, 0, v149.toNat]
def k0_off56 (k0_t4 : Fin k0_t4_loop.trips) : Fin 2 → Nat :=
  let c192 : Index := 192#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v165 : Index := Scalar.indexCast v68
  ![192, v165.toNat]
def k0_off57 (k0_t4 : Fin k0_t4_loop.trips) (c128_i32_89 : BitVec 32) : Fin 2 → Nat :=
  let c192_90 : Index := 192#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v168 : BitVec 32 := Scalar.addi v68 c128_i32_89
  let v169 : Index := Scalar.indexCast v168
  ![192, v169.toNat]
def k0_off58 (k0_t4 : Fin k0_t4_loop.trips) : Fin 3 → Nat :=
  let c2_102 : Index := 2#32
  let c0_103 : Index := 0#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v197 : Index := Scalar.indexCast v68
  ![2, 0, v197.toNat]
def k0_off59 (k0_t4 : Fin k0_t4_loop.trips) : Fin 2 → Nat :=
  let c288 : Index := 288#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v213 : Index := Scalar.indexCast v68
  ![288, v213.toNat]
def k0_off60 (k0_t4 : Fin k0_t4_loop.trips) (c128_i32_110 : BitVec 32) : Fin 2 → Nat :=
  let c288_111 : Index := 288#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v216 : BitVec 32 := Scalar.addi v68 c128_i32_110
  let v217 : Index := Scalar.indexCast v216
  ![288, v217.toNat]
def k0_off61 (k0_t4 : Fin k0_t4_loop.trips) : Fin 3 → Nat :=
  let c3 : Index := 3#32
  let c0_123 : Index := 0#32
  let c0_i32_48 : BitVec 32 := 0#32
  let c0_i32_43 : BitVec 32 := 0#32
  let c1_i32_45 : BitVec 32 := 1#32
  let arg20 : BitVec 32 := Scf.iv c0_i32_43 c1_i32_45 k0_t4
  let c1_i32_47 : BitVec 32 := 1#32
  let v65 : BitVec 32 := Scalar.muli arg20 c1_i32_47
  let v66 : BitVec 32 := Scalar.addi c0_i32_48 v65
  let c128_i32 : BitVec 32 := 128#32
  let v67 : BitVec 32 := Scalar.muli v66 c128_i32
  let v68 : BitVec 32 := v67
  let v245 : Index := Scalar.indexCast v68
  ![3, 0, v245.toNat]
def cc0_transform_0 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, c0_i32_1.toNat, v2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c2047_i32 : BitVec 32 := 2047#32
  let v2 : BitVec 32 := Scalar.minsi v1 c2047_i32
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x96x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x96x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x96x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x96x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F]
-- ==== ReferenceIdeal.lean ====
abbrev S4x262144x96 : Shape := ⟨3, ![4, 262144, 96]⟩
abbrev S96 : Shape := ⟨1, ![96]⟩
abbrev S3x96x96 : Shape := ⟨3, ![3, 96, 96]⟩
abbrev S4x1x96 : Shape := ⟨3, ![4, 1, 96]⟩
abbrev S4x3x96 : Shape := ⟨3, ![4, 3, 96]⟩
abbrev S4x262150x96 : Shape := ⟨3, ![4, 262150, 96]⟩
abbrev S_ : Shape := ⟨0, ![]⟩
abbrev S4x262144x1x96 : Shape := ⟨4, ![4, 262144, 1, 96]⟩
abbrev S4x262144x2x96 : Shape := ⟨4, ![4, 262144, 2, 96]⟩
abbrev S1x1x1x96 : Shape := ⟨4, ![1, 1, 1, 96]⟩
abbrev S4x524288x96 : Shape := ⟨3, ![4, 524288, 96]⟩
abbrev S4x5x96 : Shape := ⟨3, ![4, 5, 96]⟩
abbrev S4x6x96 : Shape := ⟨3, ![4, 6, 96]⟩
abbrev S4x524299x96 : Shape := ⟨3, ![4, 524299, 96]⟩
abbrev S4x262144x3x32 : Shape := ⟨4, ![4, 262144, 3, 32]⟩
abbrev S4x262144x3 : Shape := ⟨3, ![4, 262144, 3]⟩
abbrev S4x262144x3x1 : Shape := ⟨4, ![4, 262144, 3, 1]⟩
abbrev S4x96x262144 : Shape := ⟨3, ![4, 96, 262144]⟩
abbrev S3x4x262144 : Shape := ⟨3, ![3, 4, 262144]⟩
abbrev S1048576x96 : Shape := ⟨2, ![1048576, 96]⟩
abbrev S1x96x96 : Shape := ⟨3, ![1, 96, 96]⟩
abbrev S96x96 : Shape := ⟨2, ![96, 96]⟩
abbrev S4x262145x96 : Shape := ⟨3, ![4, 262145, 96]⟩
abbrev S4x262146x96 : Shape := ⟨3, ![4, 262146, 96]⟩
abbrev S1x1x96 : Shape := ⟨3, ![1, 1, 96]⟩

abbrev nBuf : Space → Nat
  | .hbm => 229
  | .vmem => 10
  | .smem => 0
  | _ => 0

abbrev hbmTy0_0 (i : Nat) : BufTy := match i % 128 with
  | 0 => ⟨S4x262144x96, .bf16⟩
  | 1 => ⟨S96, .f32⟩
  | 2 => ⟨S96, .f32⟩
  | 3 => ⟨S3x96x96, .fp8e4m3⟩
  | 4 => ⟨S96, .f32⟩
  | 5 => ⟨S96, .f32⟩
  | 6 => ⟨S4x262144x96, .f32⟩
  | 7 => ⟨S4x1x96, .f32⟩
  | 8 => ⟨S4x3x96, .f32⟩
  | 9 => ⟨S4x1x96, .f32⟩
  | 10 => ⟨S4x3x96, .f32⟩
  | 11 => ⟨S4x262150x96, .f32⟩
  | 12 => ⟨S4x262144x96, .f32⟩
  | 13 => ⟨S_, .f32⟩
  | 14 => ⟨S4x262144x96, .f32⟩
  | 15 => ⟨S4x262144x96, .f32⟩
  | 16 => ⟨S_, .f32⟩
  | 17 => ⟨S4x262144x96, .f32⟩
  | 18 => ⟨S4x262144x96, .f32⟩
  | 19 => ⟨S4x262144x96, .f32⟩
  | 20 => ⟨S_, .f32⟩
  | 21 => ⟨S4x262144x96, .f32⟩
  | 22 => ⟨S4x262144x96, .f32⟩
  | 23 => ⟨S4x262144x96, .f32⟩
  | 24 => ⟨S4x262144x96, .f32⟩
  | 25 => ⟨S_, .f32⟩
  | 26 => ⟨S4x262144x96, .f32⟩
  | 27 => ⟨S4x262144x96, .f32⟩
  | 28 => ⟨S4x262144x96, .f32⟩
  | 29 => ⟨S4x262144x96, .f32⟩
  | 30 => ⟨S_, .f32⟩
  | 31 => ⟨S4x262144x96, .f32⟩
  | 32 => ⟨S4x262144x96, .f32⟩
  | 33 => ⟨S4x262144x96, .f32⟩
  | 34 => ⟨S4x262144x96, .f32⟩
  | 35 => ⟨S_, .f32⟩
  | 36 => ⟨S4x262144x96, .f32⟩
  | 37 => ⟨S4x262144x96, .f32⟩
  | 38 => ⟨S4x262144x96, .f32⟩
  | 39 => ⟨S4x262144x96, .f32⟩
  | 40 => ⟨S_, .f32⟩
  | 41 => ⟨S4x262144x96, .f32⟩
  | 42 => ⟨S4x262144x96, .f32⟩
  | 43 => ⟨S4x262144x96, .f32⟩
  | 44 => ⟨S4x262144x96, .f32⟩
  | 45 => ⟨S_, .f32⟩
  | 46 => ⟨S4x262144x96, .f32⟩
  | 47 => ⟨S4x262144x96, .f32⟩
  | 48 => ⟨S_, .f32⟩
  | 49 => ⟨S4x262144x96, .f32⟩
  | 50 => ⟨S4x262144x96, .f32⟩
  | 51 => ⟨S4x262144x96, .f32⟩
  | 52 => ⟨S_, .f32⟩
  | 53 => ⟨S4x262144x96, .f32⟩
  | 54 => ⟨S4x262144x96, .f32⟩
  | 55 => ⟨S4x262144x96, .f32⟩
  | 56 => ⟨S4x262144x96, .f32⟩
  | 57 => ⟨S_, .f32⟩
  | 58 => ⟨S4x262144x96, .f32⟩
  | 59 => ⟨S4x262144x96, .f32⟩
  | 60 => ⟨S4x262144x96, .f32⟩
  | 61 => ⟨S4x262144x96, .f32⟩
  | 62 => ⟨S_, .f32⟩
  | 63 => ⟨S4x262144x96, .f32⟩
  | 64 => ⟨S4x262144x96, .f32⟩
  | 65 => ⟨S4x262144x96, .f32⟩
  | 66 => ⟨S4x262144x96, .f32⟩
  | 67 => ⟨S_, .f32⟩
  | 68 => ⟨S4x262144x96, .f32⟩
  | 69 => ⟨S4x262144x96, .f32⟩
  | 70 => ⟨S4x262144x96, .f32⟩
  | 71 => ⟨S4x262144x96, .f32⟩
  | 72 => ⟨S_, .f32⟩
  | 73 => ⟨S4x262144x96, .f32⟩
  | 74 => ⟨S4x262144x96, .f32⟩
  | 75 => ⟨S4x262144x96, .f32⟩
  | 76 => ⟨S4x262144x1x96, .f32⟩
  | 77 => ⟨S4x262144x1x96, .f32⟩
  | 78 => ⟨S4x262144x2x96, .f32⟩
  | 79 => ⟨S_, .f32⟩
  | 80 => ⟨S4x262144x2x96, .f32⟩
  | 81 => ⟨S4x262144x2x96, .f32⟩
  | 82 => ⟨S96, .f32⟩
  | 83 => ⟨S1x1x1x96, .f32⟩
  | 84 => ⟨S4x262144x2x96, .f32⟩
  | 85 => ⟨S4x262144x2x96, .f32⟩
  | 86 => ⟨S_, .f32⟩
  | 87 => ⟨S4x262144x2x96, .f32⟩
  | 88 => ⟨S4x262144x2x96, .f32⟩
  | 89 => ⟨S4x262144x2x96, .f32⟩
  | 90 => ⟨S4x262144x2x96, .f32⟩
  | 91 => ⟨S4x262144x2x96, .f32⟩
  | 92 => ⟨S_, .f32⟩
  | 93 => ⟨S4x262144x2x96, .f32⟩
  | 94 => ⟨S4x262144x2x96, .f32⟩
  | 95 => ⟨S4x262144x2x96, .f32⟩
  | 96 => ⟨S_, .f32⟩
  | 97 => ⟨S4x262144x2x96, .f32⟩
  | 98 => ⟨S4x262144x2x96, .f32⟩
  | 99 => ⟨S4x262144x2x96, .f32⟩
  | 100 => ⟨S_, .f32⟩
  | 101 => ⟨S4x262144x2x96, .f32⟩
  | 102 => ⟨S4x262144x2x96, .f32⟩
  | 103 => ⟨S4x262144x2x96, .f32⟩
  | 104 => ⟨S_, .f32⟩
  | 105 => ⟨S4x262144x2x96, .f32⟩
  | 106 => ⟨S4x262144x2x96, .f32⟩
  | 107 => ⟨S4x262144x2x96, .f32⟩
  | 108 => ⟨S_, .f32⟩
  | 109 => ⟨S4x262144x2x96, .f32⟩
  | 110 => ⟨S4x262144x2x96, .f32⟩
  | 111 => ⟨S96, .f32⟩
  | 112 => ⟨S_, .f32⟩
  | 113 => ⟨S96, .f32⟩
  | 114 => ⟨S96, .f32⟩
  | 115 => ⟨S1x1x1x96, .f32⟩
  | 116 => ⟨S4x262144x2x96, .f32⟩
  | 117 => ⟨S4x262144x2x96, .f32⟩
  | 118 => ⟨S4x262144x2x96, .f32⟩
  | 119 => ⟨S4x524288x96, .f32⟩
  | 120 => ⟨S4x1x96, .f32⟩
  | 121 => ⟨S4x5x96, .f32⟩
  | 122 => ⟨S4x1x96, .f32⟩
  | 123 => ⟨S4x6x96, .f32⟩
  | 124 => ⟨S4x524299x96, .f32⟩
  | 125 => ⟨S4x262144x96, .f32⟩
  | 126 => ⟨S_, .f32⟩
  | 127 => ⟨S4x262144x96, .f32⟩
  | _ => ⟨S4x262144x96, .bf16⟩

abbrev hbmTy0_1 (i : Nat) : BufTy := match i % 128 with
  | 0 => ⟨S4x262144x96, .f32⟩
  | 1 => ⟨S_, .f32⟩
  | 2 => ⟨S4x262144x96, .f32⟩
  | 3 => ⟨S4x262144x96, .f32⟩
  | 4 => ⟨S4x262144x96, .f32⟩
  | 5 => ⟨S_, .f32⟩
  | 6 => ⟨S4x262144x96, .f32⟩
  | 7 => ⟨S4x262144x96, .f32⟩
  | 8 => ⟨S4x262144x96, .f32⟩
  | 9 => ⟨S4x262144x96, .f32⟩
  | 10 => ⟨S_, .f32⟩
  | 11 => ⟨S4x262144x96, .f32⟩
  | 12 => ⟨S4x262144x96, .f32⟩
  | 13 => ⟨S4x262144x96, .f32⟩
  | 14 => ⟨S4x262144x96, .f32⟩
  | 15 => ⟨S_, .f32⟩
  | 16 => ⟨S4x262144x96, .f32⟩
  | 17 => ⟨S4x262144x96, .f32⟩
  | 18 => ⟨S4x262144x96, .f32⟩
  | 19 => ⟨S4x262144x96, .f32⟩
  | 20 => ⟨S_, .f32⟩
  | 21 => ⟨S4x262144x96, .f32⟩
  | 22 => ⟨S4x262144x96, .f32⟩
  | 23 => ⟨S4x262144x96, .f32⟩
  | 24 => ⟨S4x262144x96, .f32⟩
  | 25 => ⟨S_, .f32⟩
  | 26 => ⟨S4x262144x96, .f32⟩
  | 27 => ⟨S4x262144x96, .f32⟩
  | 28 => ⟨S4x262144x96, .f32⟩
  | 29 => ⟨S4x262144x96, .f32⟩
  | 30 => ⟨S_, .f32⟩
  | 31 => ⟨S4x262144x96, .f32⟩
  | 32 => ⟨S4x262144x96, .f32⟩
  | 33 => ⟨S4x262144x96, .f32⟩
  | 34 => ⟨S4x262144x96, .f32⟩
  | 35 => ⟨S_, .f32⟩
  | 36 => ⟨S4x262144x96, .f32⟩
  | 37 => ⟨S4x262144x96, .f32⟩
  | 38 => ⟨S4x262144x96, .f32⟩
  | 39 => ⟨S4x262144x96, .f32⟩
  | 40 => ⟨S_, .f32⟩
  | 41 => ⟨S4x262144x96, .f32⟩
  | 42 => ⟨S4x262144x96, .f32⟩
  | 43 => ⟨S4x262144x96, .f32⟩
  | 44 => ⟨S4x262144x96, .f32⟩
  | 45 => ⟨S_, .f32⟩
  | 46 => ⟨S4x262144x96, .f32⟩
  | 47 => ⟨S4x262144x96, .f32⟩
  | 48 => ⟨S4x262144x96, .f32⟩
  | 49 => ⟨S4x262144x96, .f32⟩
  | 50 => ⟨S_, .f32⟩
  | 51 => ⟨S4x262144x96, .f32⟩
  | 52 => ⟨S4x262144x96, .f32⟩
  | 53 => ⟨S4x262144x96, .f32⟩
  | 54 => ⟨S4x262144x96, .f32⟩
  | 55 => ⟨S_, .f32⟩
  | 56 => ⟨S4x262144x96, .f32⟩
  | 57 => ⟨S4x262144x96, .f32⟩
  | 58 => ⟨S4x262144x96, .f32⟩
  | 59 => ⟨S4x262144x3x32, .f32⟩
  | 60 => ⟨S4x262144x3x32, .f32⟩
  | 61 => ⟨S_, .f32⟩
  | 62 => ⟨S4x262144x3, .f32⟩
  | 63 => ⟨S_, .f32⟩
  | 64 => ⟨S4x262144x3, .f32⟩
  | 65 => ⟨S4x262144x3, .i1⟩
  | 66 => ⟨S_, .f32⟩
  | 67 => ⟨S4x262144x3, .f32⟩
  | 68 => ⟨S_, .f32⟩
  | 69 => ⟨S4x262144x3, .f32⟩
  | 70 => ⟨S4x262144x3, .f32⟩
  | 71 => ⟨S4x262144x3, .f32⟩
  | 72 => ⟨S_, .f32⟩
  | 73 => ⟨S4x262144x3, .f32⟩
  | 74 => ⟨S4x262144x3, .f32⟩
  | 75 => ⟨S4x262144x3, .f32⟩
  | 76 => ⟨S_, .f32⟩
  | 77 => ⟨S4x262144x3, .f32⟩
  | 78 => ⟨S4x262144x3, .f32⟩
  | 79 => ⟨S4x262144x3, .f32⟩
  | 80 => ⟨S_, .f32⟩
  | 81 => ⟨S4x262144x3, .f32⟩
  | 82 => ⟨S4x262144x3, .f32⟩
  | 83 => ⟨S4x262144x3, .f32⟩
  | 84 => ⟨S4x262144x3, .f32⟩
  | 85 => ⟨S4x262144x3x1, .f32⟩
  | 86 => ⟨S4x262144x3x32, .f32⟩
  | 87 => ⟨S4x262144x3x32, .f32⟩
  | 88 => ⟨S_, .f32⟩
  | 89 => ⟨S4x262144x3x32, .f32⟩
  | 90 => ⟨S4x262144x3x32, .f32⟩
  | 91 => ⟨S_, .f32⟩
  | 92 => ⟨S4x262144x3x32, .f32⟩
  | 93 => ⟨S4x262144x3x32, .f32⟩
  | 94 => ⟨S4x262144x96, .f32⟩
  | 95 => ⟨S4x262144x3x1, .f32⟩
  | 96 => ⟨S4x262144x3x32, .f32⟩
  | 97 => ⟨S4x262144x96, .f32⟩
  | 98 => ⟨S4x96x262144, .bf16⟩
  | 99 => ⟨S4x96x262144, .fp8e4m3⟩
  | 100 => ⟨S3x4x262144, .f32⟩
  | _ => ⟨S4x262144x96, .bf16⟩

abbrev hbmTy (i : Nat) : BufTy := match i / 128 with
  | 0 => hbmTy0_0 i
  | 1 => hbmTy0_1 i
  | _ => ⟨S4x262144x96, .bf16⟩

abbrev bufTy : (tb : Table) → Fin (tcTables nBuf tb) → BufTy
  | .hbm, ⟨i, _⟩ => hbmTy i
  | .local _ .vmem, ⟨0, _⟩ => ⟨S4x262144x96, .bf16⟩
  | .local _ .vmem, ⟨1, _⟩ => ⟨S4x262144x96, .f32⟩
  | .local _ .vmem, ⟨2, _⟩ => ⟨S4x262144x96, .f32⟩
  | .local _ .vmem, ⟨3, _⟩ => ⟨S4x262144x3, .f32⟩
  | .local _ .vmem, ⟨4, _⟩ => ⟨S3x96x96, .fp8e4m3⟩
  | .local _ .vmem, ⟨5, _⟩ => ⟨S96, .f32⟩
  | .local _ .vmem, ⟨6, _⟩ => ⟨S96, .f32⟩
  | .local _ .vmem, ⟨7, _⟩ => ⟨S4x96x262144, .bf16⟩
  | .local _ .vmem, ⟨8, _⟩ => ⟨S4x96x262144, .fp8e4m3⟩
  | .local _ .vmem, ⟨9, _⟩ => ⟨S3x4x262144, .f32⟩
  | _, _ => ⟨S4x262144x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_18 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_20 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_21 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_25 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_26 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_27 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_28 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_29 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_31 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_32 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_33 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_34 : Ref sig .tc := ⟨.hbm, 189, rfl⟩
abbrev main_v148 : Ref sig .tc := ⟨.hbm, 190, rfl⟩
abbrev main_cst_35 : Ref sig .tc := ⟨.hbm, 191, rfl⟩
abbrev main_v149 : Ref sig .tc := ⟨.hbm, 192, rfl⟩
abbrev main_v150 : Ref sig .tc := ⟨.hbm, 193, rfl⟩
abbrev main_cst_36 : Ref sig .tc := ⟨.hbm, 194, rfl⟩
abbrev main_v151 : Ref sig .tc := ⟨.hbm, 195, rfl⟩
abbrev main_cst_37 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_cst_38 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_39 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_40 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_41 : Ref sig .tc := ⟨.hbm, 216, rfl⟩
abbrev main_v168 : Ref sig .tc := ⟨.hbm, 217, rfl⟩
abbrev main_v169 : Ref sig .tc := ⟨.hbm, 218, rfl⟩
abbrev main_cst_42 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176_0 : Ref sig .tc := ⟨.hbm, 226, rfl⟩
abbrev main_v176_1 : Ref sig .tc := ⟨.hbm, 227, rfl⟩
abbrev main_v176_2 : Ref sig .tc := ⟨.hbm, 228, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x262144x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x262144x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x262144x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x262144x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x96x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x96x262144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x96x262144 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x4x262144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Sem.lean ====
/-
  A small program logic for kernels that run on one core, load and store boxes of a few memrefs, and branch and loop.

  `Den R p f` says: started from a state `s` (the contents of every memref, held through the resource `R s`), the program
  `p` returns `(f s).1` and leaves the state `(f s).2`. `f` is a function in Lean, so all that is said about what the
  program computes is said about `f`, with no separation logic left. `Keep R p` says only that `p` runs and hands the
  resource back.
-/
module

public import Idealize.ShloMosaic.Lib.Exec
public import Idealize.ShloMosaic.Lib.Tactic
public import Idealize.ShloMosaic.Lib.Memref
public import Idealize.ShloMosaic.Lib.VecWindow
public import Idealize.ShloMosaic.Lib.Writes
public import Idealize.ShloMosaic.Lib.Scf

@[expose] public section

noncomputable section

namespace Cert.Sem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## State functions -/

/-- A state function: from a state, a result and a state. -/
def M (St : Type) (α : Type) : Type := St → α × St

section Fun

variable {St α β σ : Type}

def ret (a : α) : M St α := fun s => (a, s)

def bnd (f : M St α) (g : α → M St β) : M St β := fun s => g (f s).1 (f s).2

instance : Monad (M St) where
  pure := ret
  bind := bnd

theorem bind_apply (f : M St α) (g : α → M St β) (s : St) : (f >>= g) s = g (f s).1 (f s).2 := rfl
theorem pure_apply (a : α) (s : St) : (pure a : M St α) s = (a, s) := rfl

/-- The trips of a loop, in the order of the list. -/
def loopFrom {n : ℕ} (g : Fin n → σ → M St σ) : List (Fin n) → σ → M St σ
  | [], a => ret a
  | k :: ks, a => bnd (g k a) fun a' => loopFrom g ks a'

/-- The loop of `n` trips. -/
def loop {n : ℕ} (g : Fin n → σ → M St σ) (a : σ) : M St σ := loopFrom g (List.finRange n) a

/-- A property that every trip carries from `k` to `k + 1` is carried by the loop. -/
theorem loopFrom_inv {n : ℕ} (g : Fin n → σ → M St σ) (I : ℕ → St → Prop)
    (h : ∀ (k : Fin n) a s, I k.val s → I (k.val + 1) (g k a s).2) :
    ∀ (k : ℕ) (_ : k ≤ n) (a : σ) (s : St), I k s → I n (loopFrom g ((List.finRange n).drop k) a s).2 := by
  intro k
  induction hm : n - k generalizing k with
  | zero =>
    intro hk a s hs
    obtain rfl : k = n := by omega
    rw [List.drop_of_length_le (by simp)]; exact hs
  | succ m ih =>
    intro hk a s hs
    have hlt : k < n := by omega
    rw [List.drop_eq_getElem_cons (by simpa using hlt), List.getElem_finRange, Fin.cast_mk]
    exact ih (k + 1) (by omega) (by omega) _ _ (h ⟨k, hlt⟩ a s hs)

theorem loop_inv {n : ℕ} (g : Fin n → σ → M St σ) (I : ℕ → St → Prop)
    (h : ∀ (k : Fin n) a s, I k.val s → I (k.val + 1) (g k a s).2) (a : σ) (s : St) (hs : I 0 s) : I n (loop g a s).2 :=
  loopFrom_inv g I h 0 (Nat.zero_le _) a s hs

variable {s : Shape} {γ : Type}

/-- The elements of `x` at the places of `r`. -/
def rd (x : s.Idx → γ) (r : LoadRect s) : r.shape.Idx → γ := fun y => x (r.idx y)

/-- Load the elements of the component `get` at the places of `r`. -/
def ld (get : St → s.Idx → γ) (r : LoadRect s) : M St (r.shape.Idx → γ) :=
  fun x => (rd (get x) r, x)

/-- Store `w` to the box of sizes `size` at `off` of the component `get`. -/
def st (get : St → s.Idx → γ) (set : St → (s.Idx → γ) → St) (off size : Fin s.rank → ℕ)
    (w : ((a : Fin s.rank) → Fin (size a)) → γ) : M St PUnit :=
  fun x => (⟨⟩, set x (VecWindow.put (get x) off size w))

end Fun

/-! ## Programs as state functions -/

section Den

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {s : Shape} {e : EltTy} {α β σ St : Type}

local notation "𝕄" => MT nD τ sig Ix Val Name U Lvl

/-- From any state, `p` runs, returns the result of `f` and leaves the state of `f`. -/
def Den (defs : Defs nD τ sig Val Λ) (𝒱 : Variants) (c : Thread nD τ) (bd : Option 𝒱.V) (E : Set Name) (R : St → sProp 𝕄)
    (p : Prog (TpuEff nD τ sig Val Λ c.2) α) (f : M St α) : Prop :=
  ∀ (x : St) (Q : α → sProp 𝕄), R x ⊢ iprop((R (f x).2 -∗ Q (f x).1) -∗ wp frame (wpE defs 𝒱 c bd) E p Q)

/-- `p` runs and hands the resource back, at some state. -/
def Keep (defs : Defs nD τ sig Val Λ) (𝒱 : Variants) (c : Thread nD τ) (bd : Option 𝒱.V) (E : Set Name) (R : St → sProp 𝕄)
    (p : Prog (TpuEff nD τ sig Val Λ c.2) α) : Prop :=
  ∀ (x : St) (Q : α → sProp 𝕄), R x ⊢ iprop((∀ a x', R x' -∗ Q a) -∗ wp frame (wpE defs 𝒱 c bd) E p Q)

/-- The memref `m` holds the component `get` of the state, which `set` replaces. -/
def Acc (c : Thread nD τ) (R : St → sProp 𝕄) {sp : Space} (m : Memref sig c.2.kind sp s e) (get : St → s.Idx → Val e)
    (set : St → (s.Idx → Val e) → St) : Prop :=
  (∀ x, set x (get x) = x) ∧ ∀ x, R x ⊢ iprop(owns c m fullShare (get x) ∗ (∀ X, owns c m fullShare X -∗ R (set x X)))

theorem den_pure {R : St → sProp 𝕄} (a : α) : Den defs 𝒱 c bd E R (pure a) (pure a) := fun x Q => by
  change R x ⊢ iprop((R x -∗ Q a) -∗ wp frame (wpE defs 𝒱 c bd) E (Prog.ret a) Q)
  rw [wp_ret]
  iintro HR HQ
  imodintro
  iapply HQ
  iexact HR

theorem keep_pure {R : St → sProp 𝕄} (a : α) : Keep defs 𝒱 c bd E R (pure a) := fun x Q => by
  change R x ⊢ iprop((∀ a x', R x' -∗ Q a) -∗ wp frame (wpE defs 𝒱 c bd) E (Prog.ret a) Q)
  rw [wp_ret]
  iintro HR HQ
  imodintro
  iapply HQ
  iexact HR

theorem den_bind {R : St → sProp 𝕄} {p : Prog (TpuEff nD τ sig Val Λ c.2) α} {k : α → Prog (TpuEff nD τ sig Val Λ c.2) β} {f : M St α}
    {g : α → M St β} (hp : Den defs 𝒱 c bd E R p f) (hk : ∀ a, Den defs 𝒱 c bd E R (k a) (g a)) :
    Den defs 𝒱 c bd E R (p >>= k) (f >>= g) := fun x Q => by
  rw [wp_bind]
  iintro HR HQ
  iapply (hp x (fun a => wp frame (wpE defs 𝒱 c bd) E (k a) Q)) $$ HR
  iintro HR
  iapply (hk (f x).1 (f x).2 Q) $$ HR
  iexact HQ

theorem keep_bind {R : St → sProp 𝕄} {p : Prog (TpuEff nD τ sig Val Λ c.2) α} {k : α → Prog (TpuEff nD τ sig Val Λ c.2) β}
    (hp : Keep defs 𝒱 c bd E R p) (hk : ∀ a, Keep defs 𝒱 c bd E R (k a)) :
    Keep defs 𝒱 c bd E R (p >>= k) := fun x Q => by
  rw [wp_bind]
  iintro HR HQ
  iapply (hp x (fun a => wp frame (wpE defs 𝒱 c bd) E (k a) Q)) $$ HR
  iintro %a %x' HR
  iapply (hk a x' Q) $$ HR
  iexact HQ

section Mem

variable {cs : CoreSpace} {m : Memref sig c.2.kind cs s e} {get : St → s.Idx → Val e} {set : St → (s.Idx → Val e) → St}

theorem wp_ld {R : St → sProp 𝕄} (ha : Acc c R m get set) {r : LoadRect s} {hl : m.view.LoadsAt r} (x : St) (Q : _ → sProp 𝕄) :
    R x ⊢ iprop((R x -∗ Q (rd (get x) r))
      -∗ wp frame (wpE defs 𝒱 c bd) E (Prog.lift (.load m r hl)) Q) := by
  iintro HR HQ
  ihave H := (ha.2 x) $$ HR
  icases H with ⟨Ho, Hc⟩
  ihave H' := (show owns c m fullShare (get x) ⊢ iprop(∃ g, ⌜m.view.read Val g = get x⌝ ∗ m.view.loc c ↦[m.view.set]{fullShare} g) from .rfl) $$ Ho
  icases H' with ⟨%g, %hg, Hg⟩
  iapply (wp_load (defs := defs) 𝒱 c bd E (m := m) (r := r) (hl := hl)
    (k := fun v => .ret v) (View.setOn_subset_set _ _)) $$ Hg
  iintro Hg
  rw [wp_ret]
  imodintro
  rw [show m.view.readAt Val r g = rd (get x) r by rw [← hg]; rfl]
  iapply HQ
  ihave HR := Hc $$ %(get x) [Hg]
  · unfold owns
    iexists g
    isplitr
    · ipureintro; exact hg
    · iexact Hg
  rw [ha.1 x]
  iexact HR

theorem wp_st {R : St → sProp 𝕄} (ha : Acc c R m get set) {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1} (x : St) (Q : PUnit → sProp 𝕄) :
    R x ⊢ iprop((R (set x (VecWindow.put (get x) off size w)) -∗ Q ⟨⟩)
      -∗ wp frame (wpE defs 𝒱 c bd) E (Prog.lift (.store m (Rect.unit off size inb) w Finset.univ hx hm)) Q) := by
  iintro HR HQ
  ihave H := (ha.2 x) $$ HR
  icases H with ⟨Ho, Hc⟩
  ihave H' := (show owns c m fullShare (get x) ⊢ iprop(∃ g, ⌜m.view.read Val g = get x⌝ ∗ m.view.loc c ↦[m.view.set]{fullShare} g) from .rfl) $$ Ho
  icases H' with ⟨%g, %hg, Hg⟩
  iapply (wp_store_writes₀ (defs := defs) 𝒱 c bd E (m := m) (r := Rect.unit off size inb) (w := w) (hx := hx) (hm := hm)
    (k := fun v => .ret v) (View.set_slice_subset _ _)) $$ Hg
  iintro Hg
  rw [wp_ret]
  imodintro
  iapply HQ
  iapply Hc
  unfold owns
  iexists (m.view.writes Val g [⟨Rect.unit off size inb, w⟩])
  isplitr
  · ipureintro
    rw [View.read_writes_cons_put m.view g inb w [] rfl, View.writes_nil, hg]
  · iexact Hg

theorem den_ld {R : St → sProp 𝕄} (ha : Acc c R m get set) {r : LoadRect s} {hl : m.view.LoadsAt r} :
    Den defs 𝒱 c bd E R (Prog.lift (.load m r hl)) (ld get r) :=
  fun x Q => wp_ld ha x Q

theorem den_st {R : St → sProp 𝕄} (ha : Acc c R m get set) {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1} :
    Den defs 𝒱 c bd E R (Prog.lift (.store m (Rect.unit off size inb) w Finset.univ hx hm)) (st get set off size w) :=
  fun x Q => wp_st ha x Q

/-- A load whose value is not used changes nothing. -/
theorem den_dead {R : St → sProp 𝕄} (ha : Acc c R m get set) {r : LoadRect s} {hl : m.view.LoadsAt r} {k : Prog (TpuEff nD τ sig Val Λ c.2) β} {g : M St β}
    (hk : Den defs 𝒱 c bd E R k g) :
    Den defs 𝒱 c bd E R (Prog.lift (.load m r hl) >>= fun _ => k) g := fun x Q => by
  rw [wp_bind]
  iintro HR HQ
  iapply (wp_ld ha x (fun _ => wp frame (wpE defs 𝒱 c bd) E k Q)) $$ HR
  iintro HR
  iapply (hk x Q) $$ HR
  iexact HQ

theorem keep_ld {R : St → sProp 𝕄} (ha : Acc c R m get set) {r : LoadRect s} {hl : m.view.LoadsAt r} :
    Keep defs 𝒱 c bd E R (Prog.lift (.load m r hl)) := fun x Q => by
  iintro HR HQ
  iapply (wp_ld ha x Q) $$ HR
  iintro HR
  iapply HQ
  iexact HR

theorem keep_st {R : St → sProp 𝕄} (ha : Acc c R m get set) {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1} :
    Keep defs 𝒱 c bd E R (Prog.lift (.store m (Rect.unit off size inb) w Finset.univ hx hm)) := fun x Q => by
  iintro HR HQ
  iapply (wp_st ha x Q) $$ HR
  iintro HR
  iapply HQ
  iexact HR

/-- A load, then the rest. -/
theorem den_rd {R : St → sProp 𝕄} (ha : Acc c R m get set) {r : LoadRect s} {hl : m.view.LoadsAt r} {k : _ → Prog (TpuEff nD τ sig Val Λ c.2) β} {g : _ → M St β}
    (hk : ∀ a, Den defs 𝒱 c bd E R (k a) (g a)) :
    Den defs 𝒱 c bd E R (Prog.lift (.load m r hl) >>= k) (ld get r >>= g) :=
  den_bind (den_ld ha) hk

theorem keep_rd {R : St → sProp 𝕄} (ha : Acc c R m get set) {r : LoadRect s} {hl : m.view.LoadsAt r} {k : _ → Prog (TpuEff nD τ sig Val Λ c.2) β}
    (hk : ∀ a, Keep defs 𝒱 c bd E R (k a)) :
    Keep defs 𝒱 c bd E R (Prog.lift (.load m r hl) >>= k) :=
  keep_bind (keep_ld ha) hk

/-- A store after a load of the same place whose value is not used, then the rest. -/
theorem den_put {R : St → sProp 𝕄} (ha : Acc c R m get set) {r : LoadRect s} {hl : m.view.LoadsAt r} {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1} {k : PUnit → Prog (TpuEff nD τ sig Val Λ c.2) β} {g : PUnit → M St β}
    (hk : ∀ u, Den defs 𝒱 c bd E R (k u) (g u)) :
    Den defs 𝒱 c bd E R (Prog.lift (.load m r hl) >>= fun _ => Prog.lift (.store m (Rect.unit off size inb) w Finset.univ hx hm) >>= k) (st get set off size w >>= g) :=
  den_dead ha (den_bind (den_st ha) hk)

theorem keep_put {R : St → sProp 𝕄} (ha : Acc c R m get set) {r : LoadRect s} {hl : m.view.LoadsAt r} {off size : Fin s.rank → ℕ} {inb : ∀ a, off a + size a ≤ s.size a}
    {w : (Rect.unit off size inb).shape.Idx → Val e}
    {hx : (m.access (Rect.unit off size inb)).Stores Finset.univ}
    {hm : Finset.univ = Finset.univ ∨ ∀ a, (Rect.unit off size inb).stride a = 1} {k : PUnit → Prog (TpuEff nD τ sig Val Λ c.2) β}
    (hk : ∀ u, Keep defs 𝒱 c bd E R (k u)) :
    Keep defs 𝒱 c bd E R (Prog.lift (.load m r hl) >>= fun _ => Prog.lift (.store m (Rect.unit off size inb) w Finset.univ hx hm) >>= k) :=
  keep_bind (keep_ld ha) fun _ => keep_bind (keep_st ha) hk

end Mem

/-- A program that runs as a state function keeps the resource. -/
theorem keep_of_den {R : St → sProp 𝕄} {p : Prog (TpuEff nD τ sig Val Λ c.2) α} {f : M St α} (h : Den defs 𝒱 c bd E R p f) :
    Keep defs 𝒱 c bd E R p := fun x Q => by
  iintro HR HQ
  iapply (h x Q) $$ HR
  iintro HR
  iapply HQ
  iexact HR

/-- A branch: each side by itself. -/
theorem den_dite {R : St → sProp 𝕄} {P : Prop} [Decidable P] {p : P → Prog (TpuEff nD τ sig Val Λ c.2) α} {q : ¬P → Prog (TpuEff nD τ sig Val Λ c.2) α}
    {f g : M St α} (hp : ∀ h, Den defs 𝒱 c bd E R (p h) f) (hq : ∀ h, Den defs 𝒱 c bd E R (q h) g) :
    Den defs 𝒱 c bd E R (dite P p q) (if P then f else g) := by
  by_cases h : P
  · rw [dif_pos h, if_pos h]; exact hp h
  · rw [dif_neg h, if_neg h]; exact hq h

theorem keep_dite {R : St → sProp 𝕄} {P : Prop} [Decidable P] {p : P → Prog (TpuEff nD τ sig Val Λ c.2) α} {q : ¬P → Prog (TpuEff nD τ sig Val Λ c.2) α}
    (hp : ∀ h, Keep defs 𝒱 c bd E R (p h)) (hq : ∀ h, Keep defs 𝒱 c bd E R (q h)) :
    Keep defs 𝒱 c bd E R (dite P p q) := by
  by_cases h : P
  · rw [dif_pos h]; exact hp h
  · rw [dif_neg h]; exact hq h

variable {w : ℕ} {lb ub st : BitVec w}

theorem den_forFrom {R : St → sProp 𝕄} {n : ℕ} {body : Fin n → σ → Prog (TpuEff nD τ sig Val Λ c.2) σ} {g : Fin n → σ → M St σ}
    (h : ∀ k a, Den defs 𝒱 c bd E R (body k a) (g k a)) (l : List (Fin n)) :
    ∀ a, Den defs 𝒱 c bd E R (Scf.forFrom body l a) (loopFrom g l a) := by
  induction l with
  | nil => exact fun a => den_pure a
  | cons k ks ih => exact fun a => den_bind (h k a) ih

theorem keep_forFrom {R : St → sProp 𝕄} {n : ℕ} {body : Fin n → σ → Prog (TpuEff nD τ sig Val Λ c.2) σ}
    (h : ∀ k a, Keep defs 𝒱 c bd E R (body k a)) (l : List (Fin n)) :
    ∀ a, Keep defs 𝒱 c bd E R (Scf.forFrom body l a) := by
  induction l with
  | nil => exact fun a => keep_pure a
  | cons k ks ih => exact fun a => keep_bind (h k a) ih

/-- A counted loop: its trips in order. -/
theorem den_for {R : St → sProp 𝕄} {hok : Scf.OK lb ub st} {init : σ} {body : Fin (Scf.trips lb ub st) → σ → Prog (TpuEff nD τ sig Val Λ c.2) σ}
    {g : Fin (Scf.trips lb ub st) → σ → M St σ} (h : ∀ k a, Den defs 𝒱 c bd E R (body k a) (g k a)) :
    Den defs 𝒱 c bd E R (Scf.for lb ub st hok init body) (loop g init) := by
  rw [Scf.for_eq]; exact den_forFrom h _ _

theorem keep_for {R : St → sProp 𝕄} {hok : Scf.OK lb ub st} {init : σ} {body : Fin (Scf.trips lb ub st) → σ → Prog (TpuEff nD τ sig Val Λ c.2) σ}
    (h : ∀ k a, Keep defs 𝒱 c bd E R (body k a)) :
    Keep defs 𝒱 c bd E R (Scf.for lb ub st hok init body) := by
  rw [Scf.for_eq]; exact keep_forFrom h _ _

end Den

end Cert.Sem

end

end
-- ==== Proof.KernelState.lean ====
/-
  The contents of the nineteen memrefs the kernel body is given, as one state, and the resource that holds them.
-/
module

public import proofs.«01_k».proof.Proof.Sem
public import proofs.«01_k».proof.Proof.Gen.Kernel.Skeleton
public import proofs.«01_k».proof.Proof.Gen.Kernel.Launch

@[expose] public section

set_option maxRecDepth 16384
set_option maxHeartbeats 1000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sem Cert.Kernel.Gen

variable {F : FTy → Type} [BitOps F]

local notation "𝕄" => MT nD τ sig Unit (Elt F) ℕ (UR sig nD τ) ℕ

/-- What each memref of the kernel body holds. -/
structure St (F : FTy → Type) where
  s1 : Vec F S4x96x128 .bf16
  s2 : Vec F S4x96x1024 .bf16
  s3 : Vec F S4x96x128 .bf16
  s4 : Vec F S128x240 .bf16
  s5 : Vec F S1x384 .f32
  s6 : Vec F S1x384 .f32
  s7 : Vec F S96x288 .fp8e4m3
  s8 : Vec F S96x128 .f32
  s9 : Vec F S96x128 .f32
  s10 : Vec F S4x96x1024 .bf16
  s11 : Vec F S4x96x1024 .fp8e4m3
  s12 : Vec F S3x4x1024 .f32
  s13 : Vec F S3x1280x128 .bf16
  s14 : Vec F S3x1280x128 .f32
  s15 : Vec F S3x1280x128 .f32
  s16 : Vec F S384x1280 .bf16
  s17 : Vec F S96x128 .f32
  s18 : Vec F S12x128 .f32
  s19 : Vec F S12x128 .f32

def St.set1 (x : St F) (v : Vec F S4x96x128 .bf16) : St F := { x with s1 := v }
def St.set2 (x : St F) (v : Vec F S4x96x1024 .bf16) : St F := { x with s2 := v }
def St.set3 (x : St F) (v : Vec F S4x96x128 .bf16) : St F := { x with s3 := v }
def St.set4 (x : St F) (v : Vec F S128x240 .bf16) : St F := { x with s4 := v }
def St.set5 (x : St F) (v : Vec F S1x384 .f32) : St F := { x with s5 := v }
def St.set6 (x : St F) (v : Vec F S1x384 .f32) : St F := { x with s6 := v }
def St.set7 (x : St F) (v : Vec F S96x288 .fp8e4m3) : St F := { x with s7 := v }
def St.set8 (x : St F) (v : Vec F S96x128 .f32) : St F := { x with s8 := v }
def St.set9 (x : St F) (v : Vec F S96x128 .f32) : St F := { x with s9 := v }
def St.set10 (x : St F) (v : Vec F S4x96x1024 .bf16) : St F := { x with s10 := v }
def St.set11 (x : St F) (v : Vec F S4x96x1024 .fp8e4m3) : St F := { x with s11 := v }
def St.set12 (x : St F) (v : Vec F S3x4x1024 .f32) : St F := { x with s12 := v }
def St.set13 (x : St F) (v : Vec F S3x1280x128 .bf16) : St F := { x with s13 := v }
def St.set14 (x : St F) (v : Vec F S3x1280x128 .f32) : St F := { x with s14 := v }
def St.set15 (x : St F) (v : Vec F S3x1280x128 .f32) : St F := { x with s15 := v }
def St.set16 (x : St F) (v : Vec F S384x1280 .bf16) : St F := { x with s16 := v }
def St.set17 (x : St F) (v : Vec F S96x128 .f32) : St F := { x with s17 := v }
def St.set18 (x : St F) (v : Vec F S12x128 .f32) : St F := { x with s18 := v }
def St.set19 (x : St F) (v : Vec F S12x128 .f32) : St F := { x with s19 := v }

/-- Each memref, held whole at its component of the state. -/
def Res (c : Dev nD) (arg1 : Memref sig .tc .vmem S4x96x128 .bf16) (arg2 : Memref sig .tc .vmem S4x96x1024 .bf16) (arg3 : Memref sig .tc .vmem S4x96x128 .bf16) (arg4 : Memref sig .tc .vmem S128x240 .bf16) (arg5 arg6 : Memref sig .tc .vmem S1x384 .f32) (arg7 : Memref sig .tc .vmem S96x288 .fp8e4m3) (arg8 arg9 : Memref sig .tc .vmem S96x128 .f32) (arg10 : Memref sig .tc .vmem S4x96x1024 .bf16) (arg11 : Memref sig .tc .vmem S4x96x1024 .fp8e4m3) (arg12 : Memref sig .tc .vmem S3x4x1024 .f32) (arg13 : Memref sig .tc .vmem S3x1280x128 .bf16) (arg14 arg15 : Memref sig .tc .vmem S3x1280x128 .f32) (arg16 : Memref sig .tc .vmem S384x1280 .bf16) (arg17 : Memref sig .tc .vmem S96x128 .f32) (arg18 arg19 : Memref sig .tc .vmem S12x128 .f32) (x : St F) : sProp 𝕄 :=
  iprop(owns (c : Thread nD τ) arg1 fullShare x.s1
    ∗ owns (c : Thread nD τ) arg2 fullShare x.s2
    ∗ owns (c : Thread nD τ) arg3 fullShare x.s3
    ∗ owns (c : Thread nD τ) arg4 fullShare x.s4
    ∗ owns (c : Thread nD τ) arg5 fullShare x.s5
    ∗ owns (c : Thread nD τ) arg6 fullShare x.s6
    ∗ owns (c : Thread nD τ) arg7 fullShare x.s7
    ∗ owns (c : Thread nD τ) arg8 fullShare x.s8
    ∗ owns (c : Thread nD τ) arg9 fullShare x.s9
    ∗ owns (c : Thread nD τ) arg10 fullShare x.s10
    ∗ owns (c : Thread nD τ) arg11 fullShare x.s11
    ∗ owns (c : Thread nD τ) arg12 fullShare x.s12
    ∗ owns (c : Thread nD τ) arg13 fullShare x.s13
    ∗ owns (c : Thread nD τ) arg14 fullShare x.s14
    ∗ owns (c : Thread nD τ) arg15 fullShare x.s15
    ∗ owns (c : Thread nD τ) arg16 fullShare x.s16
    ∗ owns (c : Thread nD τ) arg17 fullShare x.s17
    ∗ owns (c : Thread nD τ) arg18 fullShare x.s18
    ∗ owns (c : Thread nD τ) arg19 fullShare x.s19)

variable {arg1 : Memref sig .tc .vmem S4x96x128 .bf16} {arg2 : Memref sig .tc .vmem S4x96x1024 .bf16} {arg3 : Memref sig .tc .vmem S4x96x128 .bf16} {arg4 : Memref sig .tc .vmem S128x240 .bf16} {arg5 : Memref sig .tc .vmem S1x384 .f32} {arg6 : Memref sig .tc .vmem S1x384 .f32} {arg7 : Memref sig .tc .vmem S96x288 .fp8e4m3} {arg8 : Memref sig .tc .vmem S96x128 .f32} {arg9 : Memref sig .tc .vmem S96x128 .f32} {arg10 : Memref sig .tc .vmem S4x96x1024 .bf16} {arg11 : Memref sig .tc .vmem S4x96x1024 .fp8e4m3} {arg12 : Memref sig .tc .vmem S3x4x1024 .f32} {arg13 : Memref sig .tc .vmem S3x1280x128 .bf16} {arg14 : Memref sig .tc .vmem S3x1280x128 .f32} {arg15 : Memref sig .tc .vmem S3x1280x128 .f32} {arg16 : Memref sig .tc .vmem S384x1280 .bf16} {arg17 : Memref sig .tc .vmem S96x128 .f32} {arg18 : Memref sig .tc .vmem S12x128 .f32} {arg19 : Memref sig .tc .vmem S12x128 .f32}

theorem acc1 (c : Dev nD) :
    Acc (c : Thread nD τ) (Res (F := F) c arg1 arg2 arg3 arg4 arg5 arg6 arg7 arg8 arg9 arg10 arg11 arg12 arg13 arg14 arg15 arg16 arg17 arg18 arg19) arg1 St.s1 St.set1 := by
  refine ⟨fun _ => rfl, fun x => ?_⟩
  unfold Res
  iintro ⟨H1, H2, H3, H4, H5, H6, H7, H8, H9, H10, H11, H12, H13, H14, H15, H16, H17, H18, H19⟩
  isplitl [H1]
  · iexact H1
  iintro %X HX
  isplitl [HX]; · iexact HX
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc2 (c : Dev nD) :
    Acc (c : Thread nD τ) (Res (F := F) c arg1 arg2 arg3 arg4 arg5 arg6 arg7 arg8 arg9 arg10 arg11 arg12 arg13 arg14 arg15 arg16 arg17 arg18 arg19) arg2 St.s2 St.set2 := by
  refine ⟨fun _ => rfl, fun x => ?_⟩
  unfold Res
  iintro ⟨H1, H2, H3, H4, H5, H6, H7, H8, H9, H10, H11, H12, H13, H14, H15, H16, H17, H18, H19⟩
  isplitl [H2]
  · iexact H2
  iintro %X HX
  isplitl [H1]; · iexact H1
  isplitl [HX]; · iexact HX
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc3 (c : Dev nD) :
    Acc (c : Thread nD τ) (Res (F := F) c arg1 arg2 arg3 arg4 arg5 arg6 arg7 arg8 arg9 arg10 arg11 arg12 arg13 arg14 arg15 arg16 arg17 arg18 arg19) arg3 St.s3 St.set3 := by
  refine ⟨fun _ => rfl, fun x => ?_⟩
  unfold Res
  iintro ⟨H1, H2, H3, H4, H5, H6, H7, H8, H9, H10, H11, H12, H13, H14, H15, H16, H17, H18, H19⟩
  isplitl [H3]
  · iexact H3
  iintro %X HX
  isplitl [H1]; · iexact H1
  isplitl [H2]; · iexact H2
  isplitl [HX]; · iexact HX
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc4 (c : Dev nD) :
    Acc (c : Thread nD τ) (Res (F := F) c arg1 arg2 arg3 arg4 arg5 arg6 arg7 arg8 arg9 arg10 arg11 arg12 arg13 arg14 arg15 arg16 arg17 arg18 arg19) arg4 St.s4 St.set4 := by
  refine ⟨fun _ => rfl, fun x => ?_⟩
  unfold Res
  iintro ⟨H1, H2, H3, H4, H5, H6, H7, H8, H9, H10, H11, H12, H13, H14, H15, H16, H17, H18, H19⟩
  isplitl [H4]
  · iexact H4
  iintro %X HX
  isplitl [H1]; · iexact H1
  isplitl [H2]; · iexact H2
  isplitl [H3]; · iexact H3
  isplitl [HX]; · iexact HX
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc5 (c : Dev nD) :
    Acc (c : Thread nD τ) (Res (F := F) c arg1 arg2 arg3 arg4 arg5 arg6 arg7 arg8 arg9 arg10 arg11 arg12 arg13 arg14 arg15 arg16 arg17 arg18 arg19) arg5 St.s5 St.set5 := by
  refine ⟨fun _ => rfl, fun x => ?_⟩
  unfold Res
  iintro ⟨H1, H2, H3, H4, H5, H6, H7, H8, H9, H10, H11, H12, H13, H14, H15, H16, H17, H18, H19⟩
  isplitl [H5]
  · iexact H5
  iintro %X HX
  isplitl [H1]; · iexact H1
  isplitl [H2]; · iexact H2
  isplitl [H3]; · iexact H3
  isplitl [H4]; · iexact H4
  isplitl [HX]; · iexact HX
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc6 (c : Dev nD) :
    Acc (c : Thread nD τ) (Res (F := F) c arg1 arg2 arg3 arg4 arg5 arg6 arg7 arg8 arg9 arg10 arg11 arg12 arg13 arg14 arg15 arg16 arg17 arg18 arg19) arg6 St.s6 St.set6 := by
  refine ⟨fun _ => rfl, fun x => ?_⟩
  unfold Res
  iintro ⟨H1, H2, H3, H4, H5, H6, H7, H8, H9, H10, H11, H12, H13, H14, H15, H16, H17, H18, H19⟩
  isplitl [H6]
  · iexact H6
  iintro %X HX
  isplitl [H1]; · iexact H1
  isplitl [H2]; · iexact H2
  isplitl [H3]; · iexact H3
  isplitl [H4]; · iexact H4
  isplitl [H5]; · iexact H5
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc7 (c : Dev nD) :
    Acc (c : Thread nD τ) (Res (F := F) c arg1 arg2 arg3 arg4 arg5 arg6 arg7 arg8 arg9 arg10 arg11 arg12 arg13 arg14 arg15 arg16 arg17 arg18 arg19) arg7 St.s7 St.set7 := by
  refine ⟨fun _ => rfl, fun x => ?_⟩
  unfold Res
  iintro ⟨H1, H2, H3, H4, H5, H6, H7, H8, H9, H10, H11, H12, H13, H14, H15, H16, H17, H18, H19⟩
  isplitl [H7]
  · iexact H7
  iintro %X HX
  isplitl [H1]; · iexact H1
  isplitl [H2]; · iexact H2
  isplitl [H3]; · iexact H3
  isplitl [H4]; · iexact H4
  isplitl [H5]; · iexact H5
  isplitl [H6]; · iexact H6
  isplitl [HX]; · iexact HX
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc8 (c : Dev nD) :
    Acc (c : Thread nD τ) (Res (F := F) c arg1 arg2 arg3 arg4 arg5 arg6 arg7 arg8 arg9 arg10 arg11 arg12 arg13 arg14 arg15 arg16 arg17 arg18 arg19) arg8 St.s8 St.set8 := by
  refine ⟨fun _ => rfl, fun x => ?_⟩
  unfold Res
  iintro ⟨H1, H2, H3, H4, H5, H6, H7, H8, H9, H10, H11, H12, H13, H14, H15, H16, H17, H18, H19⟩
  isplitl [H8]
  · iexact H8
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc9 (c : Dev nD) :
    Acc (c : Thread nD τ) (Res (F := F) c arg1 arg2 arg3 arg4 arg5 arg6 arg7 arg8 arg9 arg10 arg11 arg12 arg13 arg14 arg15 arg16 arg17 arg18 arg19) arg9 St.s9 St.set9 := by
  refine ⟨fun _ => rfl, fun x => ?_⟩
  unfold Res
  iintro ⟨H1, H2, H3, H4, H5, H6, H7, H8, H9, H10, H11, H12, H13, H14, H15, H16, H17, H18, H19⟩
  isplitl [H9]
  · iexact H9
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HX]; · iexact HX
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc10 (c : Dev nD) :
    Acc (c : Thread nD τ) (Res (F := F) c arg1 arg2 arg3 arg4 arg5 arg6 arg7 arg8 arg9 arg10 arg11 arg12 arg13 arg14 arg15 arg16 arg17 arg18 arg19) arg10 St.s10 St.set10 := by
  refine ⟨fun _ => rfl, fun x => ?_⟩
  unfold Res
  iintro ⟨H1, H2, H3, H4, H5, H6, H7, H8, H9, H10, H11, H12, H13, H14, H15, H16, H17, H18, H19⟩
  isplitl [H10]
  · iexact H10
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX]; · iexact HX
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc11 (c : Dev nD) :
    Acc (c : Thread nD τ) (Res (F := F) c arg1 arg2 arg3 arg4 arg5 arg6 arg7 arg8 arg9 arg10 arg11 arg12 arg13 arg14 arg15 arg16 arg17 arg18 arg19) arg11 St.s11 St.set11 := by
  refine ⟨fun _ => rfl, fun x => ?_⟩
  unfold Res
  iintro ⟨H1, H2, H3, H4, H5, H6, H7, H8, H9, H10, H11, H12, H13, H14, H15, H16, H17, H18, H19⟩
  isplitl [H11]
  · iexact H11
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HX]; · iexact HX
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc12 (c : Dev nD) :
    Acc (c : Thread nD τ) (Res (F := F) c arg1 arg2 arg3 arg4 arg5 arg6 arg7 arg8 arg9 arg10 arg11 arg12 arg13 arg14 arg15 arg16 arg17 arg18 arg19) arg12 St.s12 St.set12 := by
  refine ⟨fun _ => rfl, fun x => ?_⟩
  unfold Res
  iintro ⟨H1, H2, H3, H4, H5, H6, H7, H8, H9, H10, H11, H12, H13, H14, H15, H16, H17, H18, H19⟩
  isplitl [H12]
  · iexact H12
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HX]; · iexact HX
  isplitl [H13]; · iexact H13
  isplitl [H14]; · iexact H14
  isplitl [H15]; · iexact H15
  isplitl [H16]; · iexact H16
  isplitl [H17]; · iexact H17
  isplitl [H18]; · iexact H18
  iexact H19

theorem acc13 (c : Dev nD) :
    Acc (c : Thread nD τ) (Res (F := F) c arg1 arg2 arg3 arg4 arg5 arg6 arg7 arg8 arg9 arg10 arg11 arg12 arg13 arg14 arg15 arg16 arg17 arg18 arg19) arg13 St.s13 St.set13 := by
  refine ⟨fun _ => rfl, fun x => ?_⟩
  unfold Res
  iintro ⟨H1, H2, H3, H4, H5, H6, H7, H8, H9, H10, H11, H12, H13, H14, H15, H16, H17, H18, H19⟩
  isplitl [H13]
  · iexact H13
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HX]; · iexact HX
  isplitl [H14]; · iexact H14
  isplitl [H15]; · iexact H15
  isplitl [H16]; · iexact H16
  isplitl [H17]; · iexact H17
  isplitl [H18]; · iexact H18
  iexact H19

theorem acc14 (c : Dev nD) :
    Acc (c : Thread nD τ) (Res (F := F) c arg1 arg2 arg3 arg4 arg5 arg6 arg7 arg8 arg9 arg10 arg11 arg12 arg13 arg14 arg15 arg16 arg17 arg18 arg19) arg14 St.s14 St.set14 := by
  refine ⟨fun _ => rfl, fun x => ?_⟩
  unfold Res
  iintro ⟨H1, H2, H3, H4, H5, H6, H7, H8, H9, H10, H11, H12, H13, H14, H15, H16, H17, H18, H19⟩
  isplitl [H14]
  · iexact H14
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HX]; · iexact HX
  isplitl [H15]; · iexact H15
  isplitl [H16]; · iexact H16
  isplitl [H17]; · iexact H17
  isplitl [H18]; · iexact H18
  iexact H19

theorem acc15 (c : Dev nD) :
    Acc (c : Thread nD τ) (Res (F := F) c arg1 arg2 arg3 arg4 arg5 arg6 arg7 arg8 arg9 arg10 arg11 arg12 arg13 arg14 arg15 arg16 arg17 arg18 arg19) arg15 St.s15 St.set15 := by
  refine ⟨fun _ => rfl, fun x => ?_⟩
  unfold Res
  iintro ⟨H1, H2, H3, H4, H5, H6, H7, H8, H9, H10, H11, H12, H13, H14, H15, H16, H17, H18, H19⟩
  isplitl [H15]
  · iexact H15
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HX]; · iexact HX
  isplitl [H16]; · iexact H16
  isplitl [H17]; · iexact H17
  isplitl [H18]; · iexact H18
  iexact H19

theorem acc16 (c : Dev nD) :
    Acc (c : Thread nD τ) (Res (F := F) c arg1 arg2 arg3 arg4 arg5 arg6 arg7 arg8 arg9 arg10 arg11 arg12 arg13 arg14 arg15 arg16 arg17 arg18 arg19) arg16 St.s16 St.set16 := by
  refine ⟨fun _ => rfl, fun x => ?_⟩
  unfold Res
  iintro ⟨H1, H2, H3, H4, H5, H6, H7, H8, H9, H10, H11, H12, H13, H14, H15, H16, H17, H18, H19⟩
  isplitl [H16]
  · iexact H16
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HX]; · iexact HX
  isplitl [H17]; · iexact H17
  isplitl [H18]; · iexact H18
  iexact H19

theorem acc17 (c : Dev nD) :
    Acc (c : Thread nD τ) (Res (F := F) c arg1 arg2 arg3 arg4 arg5 arg6 arg7 arg8 arg9 arg10 arg11 arg12 arg13 arg14 arg15 arg16 arg17 arg18 arg19) arg17 St.s17 St.set17 := by
  refine ⟨fun _ => rfl, fun x => ?_⟩
  unfold Res
  iintro ⟨H1, H2, H3, H4, H5, H6, H7, H8, H9, H10, H11, H12, H13, H14, H15, H16, H17, H18, H19⟩
  isplitl [H17]
  · iexact H17
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HX]; · iexact HX
  isplitl [H18]; · iexact H18
  iexact H19

theorem acc18 (c : Dev nD) :
    Acc (c : Thread nD τ) (Res (F := F) c arg1 arg2 arg3 arg4 arg5 arg6 arg7 arg8 arg9 arg10 arg11 arg12 arg13 arg14 arg15 arg16 arg17 arg18 arg19) arg18 St.s18 St.set18 := by
  refine ⟨fun _ => rfl, fun x => ?_⟩
  unfold Res
  iintro ⟨H1, H2, H3, H4, H5, H6, H7, H8, H9, H10, H11, H12, H13, H14, H15, H16, H17, H18, H19⟩
  isplitl [H18]
  · iexact H18
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HX]; · iexact HX
  iexact H19

theorem acc19 (c : Dev nD) :
    Acc (c : Thread nD τ) (Res (F := F) c arg1 arg2 arg3 arg4 arg5 arg6 arg7 arg8 arg9 arg10 arg11 arg12 arg13 arg14 arg15 arg16 arg17 arg18 arg19) arg19 St.s19 St.set19 := by
  refine ⟨fun _ => rfl, fun x => ?_⟩
  unfold Res
  iintro ⟨H1, H2, H3, H4, H5, H6, H7, H8, H9, H10, H11, H12, H13, H14, H15, H16, H17, H18, H19⟩
  isplitl [H19]
  · iexact H19
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HX

end Cert.Kernel.Run

end

end
-- ==== Proof.KernelRun.lean ====
/-
  Every part of the printed kernel body, run from any state.
-/
module

public import proofs.«01_k».proof.Proof.KernelState

@[expose] public section

set_option maxRecDepth 16384
set_option maxHeartbeats 1000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sem Cert.Kernel.Gen

variable {F : FTy → Type} [BitOps F]

variable {arg1 : Memref sig .tc .vmem S4x96x128 .bf16} {w1 : arg1.IsWhole} {arg2 : Memref sig .tc .vmem S4x96x1024 .bf16} {w2 : arg2.IsWhole} {arg3 : Memref sig .tc .vmem S4x96x128 .bf16} {w3 : arg3.IsWhole} {arg4 : Memref sig .tc .vmem S128x240 .bf16} {w4 : arg4.IsWhole} {arg5 : Memref sig .tc .vmem S1x384 .f32} {w5 : arg5.IsWhole} {arg6 : Memref sig .tc .vmem S1x384 .f32} {w6 : arg6.IsWhole} {arg7 : Memref sig .tc .vmem S96x288 .fp8e4m3} {w7 : arg7.IsWhole} {arg8 : Memref sig .tc .vmem S96x128 .f32} {w8 : arg8.IsWhole} {arg9 : Memref sig .tc .vmem S96x128 .f32} {w9 : arg9.IsWhole} {arg10 : Memref sig .tc .vmem S4x96x1024 .bf16} {w10 : arg10.IsWhole} {arg11 : Memref sig .tc .vmem S4x96x1024 .fp8e4m3} {w11 : arg11.IsWhole} {arg12 : Memref sig .tc .vmem S3x4x1024 .f32} {w12 : arg12.IsWhole} {arg13 : Memref sig .tc .vmem S3x1280x128 .bf16} {w13 : arg13.IsWhole} {arg14 : Memref sig .tc .vmem S3x1280x128 .f32} {w14 : arg14.IsWhole} {arg15 : Memref sig .tc .vmem S3x1280x128 .f32} {w15 : arg15.IsWhole} {arg16 : Memref sig .tc .vmem S384x1280 .bf16} {w16 : arg16.IsWhole} {arg17 : Memref sig .tc .vmem S96x128 .f32} {w17 : arg17.IsWhole} {arg18 : Memref sig .tc .vmem S12x128 .f32} {w18 : arg18.IsWhole} {arg19 : Memref sig .tc .vmem S12x128 .f32} {w19 : arg19.IsWhole}

/-- `p` runs on device `c` and hands the resource back, at some state. -/
abbrev Keeps {α : Type} (c : Dev nD) (R : St F → sProp (MT nD τ sig Unit (Elt F) ℕ (UR sig nD τ) ℕ))
    (p : Prog (TpuEff nD τ sig (Elt F) Λ₀ .tc) α) : Prop :=
  Keep (defs₀ (F := F)) Variants.none (c : Thread nD τ) none Set.univ R p

theorem keep_part38 (c : Dev nD) (i : grid0.Coords) (v63 : IVec S1x128 32) (c0_i32_43 c1_i32_45 : BitVec 32) (k0_t4 : Fin k0_t4_loop.trips) :
    Keeps c (Res c arg1 arg2 arg3 arg4 arg5 arg6 arg7 arg8 arg9 arg10 arg11 arg12 arg13 arg14 arg15 arg16 arg17 arg18 arg19) (k0_part38 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 c0_i32_43 c1_i32_45 k0_t4) := by
  rw [k0_part38_eq_skeleton]; unfold k0_part38_skel
  let arg20 : BitVec 32 := Scf.iv c0_i32_43 c1_i32_45 k0_t4
  let v65 : BitVec 32 := Scalar.muli arg20 1#32
  let v66 : BitVec 32 := Scalar.addi 0#32 v65
  let v67 : BitVec 32 := Scalar.muli v66 128#32
  let v68 : BitVec 32 := v67
  refine keep_rd (acc16 c) fun _ => keep_rd (acc16 c) fun _ => keep_rd (acc16 c) fun _ => keep_rd (acc7 c) fun _ => keep_rd (acc2 c) fun _ => ?_
  exact keep_pure _

theorem keep_part39 (c : Dev nD) (i : grid0.Coords) (v63 : IVec S1x128 32) (k0_t4 : Fin k0_t4_loop.trips) (v68 : BitVec 32) (v100 v104 : FVec F S96x128 .f32) :
    Keeps c (Res c arg1 arg2 arg3 arg4 arg5 arg6 arg7 arg8 arg9 arg10 arg11 arg12 arg13 arg14 arg15 arg16 arg17 arg18 arg19) (k0_part39 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v100 v104) := by
  rw [k0_part39_eq_skeleton]; unfold k0_part39_skel
  refine keep_rd (acc8 c) fun _ => keep_rd (acc9 c) fun _ => keep_put (acc10 c) fun _ => keep_rd (acc16 c) fun _ => keep_rd (acc16 c) fun _ => ?_
  refine keep_rd (acc16 c) fun _ => ?_
  exact keep_pure _

theorem keep_part40 (c : Dev nD) (i : grid0.Coords) (v63 : IVec S1x128 32) (k0_t4 : Fin k0_t4_loop.trips) (v68 : BitVec 32) (v144 : FVec F S288x128 .bf16) :
    Keeps c (Res c arg1 arg2 arg3 arg4 arg5 arg6 arg7 arg8 arg9 arg10 arg11 arg12 arg13 arg14 arg15 arg16 arg17 arg18 arg19) (k0_part40 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v144) := by
  rw [k0_part40_eq_skeleton]; unfold k0_part40_skel
  refine keep_rd (acc7 c) fun _ => keep_rd (acc2 c) fun _ => keep_rd (acc8 c) fun _ => keep_rd (acc9 c) fun _ => keep_put (acc10 c) fun _ => ?_
  refine keep_rd (acc16 c) fun _ => keep_rd (acc16 c) fun _ => keep_rd (acc16 c) fun _ => ?_
  exact keep_pure _

theorem keep_part41 (c : Dev nD) (i : grid0.Coords) (v63 : IVec S1x128 32) (k0_t4 : Fin k0_t4_loop.trips) (v68 : BitVec 32) (v170 : Vec F S96x128 .bf16) (v171 v175 v182 : IVec S48x128 32) (v184 : IVec S1x128 1) (c127_i32_97 : BitVec 32) :
    Keeps c (Res c arg1 arg2 arg3 arg4 arg5 arg6 arg7 arg8 arg9 arg10 arg11 arg12 arg13 arg14 arg15 arg16 arg17 arg18 arg19) (k0_part41 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v170 v171 v175 v182 v184 c127_i32_97) := by
  rw [k0_part41_eq_skeleton]; unfold k0_part41_skel
  refine keep_rd (acc7 c) fun _ => keep_rd (acc2 c) fun _ => keep_rd (acc8 c) fun _ => keep_rd (acc9 c) fun _ => keep_put (acc10 c) fun _ => ?_
  refine keep_rd (acc16 c) fun _ => keep_rd (acc16 c) fun _ => keep_rd (acc16 c) fun _ => ?_
  exact keep_pure _

theorem keep_t4 (c : Dev nD) (i : grid0.Coords) (v63 : IVec S1x128 32) (k0_t4 : Fin k0_t4_loop.trips) (a : Unit) :
    Keeps c (Res c arg1 arg2 arg3 arg4 arg5 arg6 arg7 arg8 arg9 arg10 arg11 arg12 arg13 arg14 arg15 arg16 arg17 arg18 arg19) (k0_t4_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 a) := by
  unfold k0_t4_body
  refine keep_bind (keep_part38 c i v63 0#32 1#32 k0_t4) fun ⟨v68, v100, v104⟩ => ?_
  refine keep_bind (keep_part39 c i v63 k0_t4 v68 v100 v104) fun v144 => ?_
  refine keep_bind (keep_part40 c i v63 k0_t4 v68 v144) fun ⟨v170, v171, v175, v182, v184, c127_i32_97⟩ => ?_
  refine keep_bind (keep_part41 c i v63 k0_t4 v68 v170 v171 v175 v182 v184 c127_i32_97) fun ⟨v215, v218, v219, v223, v225⟩ => ?_
  refine keep_rd (acc7 c) fun _ => keep_rd (acc2 c) fun _ => keep_rd (acc8 c) fun _ => keep_rd (acc9 c) fun _ => keep_put (acc10 c) fun _ => ?_
  exact keep_pure _

theorem keep_part42 (c : Dev nD) (i : grid0.Coords) :
    Keeps c (Res c arg1 arg2 arg3 arg4 arg5 arg6 arg7 arg8 arg9 arg10 arg11 arg12 arg13 arg14 arg15 arg16 arg17 arg18 arg19) (k0_part42 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) := by
  rw [k0_part42_eq_skeleton]; unfold k0_part42_skel
  let arg0 : BitVec 32 := BitVec.ofNat 32 (i 0).val
  refine keep_rd (acc1 c) fun _ => keep_put (acc13 c) fun _ => keep_put (acc13 c) fun _ => keep_put (acc13 c) fun _ => keep_rd (acc3 c) fun _ => ?_
  refine keep_put (acc13 c) fun _ => keep_put (acc13 c) fun _ => ?_
  exact keep_pure _

theorem keep_t1 (c : Dev nD) (i : grid0.Coords) (arg0 : BitVec 32) (v32 : FVec F S128x128 .bf16) (k0_t1 : Fin k0_t1_loop.trips) (a : Unit) :
    Keeps c (Res c arg1 arg2 arg3 arg4 arg5 arg6 arg7 arg8 arg9 arg10 arg11 arg12 arg13 arg14 arg15 arg16 arg17 arg18 arg19) (k0_t1_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32 k0_t1 a) := by
  unfold k0_t1_body
  refine keep_rd (acc2 c) fun _ => keep_put (acc13 c) fun _ => keep_put (acc13 c) fun _ => keep_put (acc13 c) fun _ => ?_
  exact keep_pure _

theorem keep_part1 (c : Dev nD) (i : grid0.Coords) (c0_i32_24 c1_i32_25 : BitVec 32) (k0_t2 : Fin k0_t2_loop.trips) :
    Keeps c (Res c arg1 arg2 arg3 arg4 arg5 arg6 arg7 arg8 arg9 arg10 arg11 arg12 arg13 arg14 arg15 arg16 arg17 arg18 arg19) (k0_part1 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 c0_i32_24 c1_i32_25 k0_t2) := by
  rw [k0_part1_eq_skeleton]; unfold k0_part1_skel
  let arg20 : BitVec 32 := Scf.iv c0_i32_24 c1_i32_25 k0_t2
  let v65 : BitVec 32 := Scalar.muli arg20 1#32
  let v66 : BitVec 32 := Scalar.addi 0#32 v65
  let v67 : BitVec 32 := Scalar.muli v66 64#32
  let v68 : BitVec 32 := v67
  refine keep_rd (acc13 c) fun _ => keep_rd (acc13 c) fun _ => keep_rd (acc13 c) fun _ => keep_rd (acc4 c) fun _ => keep_rd (acc5 c) fun _ => ?_
  exact keep_pure _

theorem keep_part2 (c : Dev nD) (i : grid0.Coords) (k0_t2 : Fin k0_t2_loop.trips) (v68 : BitVec 32) (v84 : FVec F S128x384 .f32) (v85 v101 : FVec F S128x128 .f32) :
    Keeps c (Res c arg1 arg2 arg3 arg4 arg5 arg6 arg7 arg8 arg9 arg10 arg11 arg12 arg13 arg14 arg15 arg16 arg17 arg18 arg19) (k0_part2 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t2 v68 v84 v85 v101) := by
  rw [k0_part2_eq_skeleton]; unfold k0_part2_skel
  refine keep_rd (acc6 c) fun _ => keep_put (acc14 c) fun _ => keep_put (acc15 c) fun _ => keep_rd (acc5 c) fun _ => keep_rd (acc6 c) fun _ => ?_
  exact keep_pure _

theorem keep_part3 (c : Dev nD) (i : grid0.Coords) (k0_t2 : Fin k0_t2_loop.trips) (v68 : BitVec 32) (v84 : FVec F S128x384 .f32) (v144 : FVec F S128x128 .f32) (v145 : FVec F S64x128 .f32) :
    Keeps c (Res c arg1 arg2 arg3 arg4 arg5 arg6 arg7 arg8 arg9 arg10 arg11 arg12 arg13 arg14 arg15 arg16 arg17 arg18 arg19) (k0_part3 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t2 v68 v84 v144 v145) := by
  rw [k0_part3_eq_skeleton]; unfold k0_part3_skel
  refine keep_put (acc14 c) fun _ => keep_put (acc15 c) fun _ => keep_rd (acc5 c) fun _ => keep_rd (acc6 c) fun _ => keep_put (acc14 c) fun _ => ?_
  refine keep_rd (acc15 c) fun _ => ?_
  exact keep_pure _

theorem keep_t2 (c : Dev nD) (i : grid0.Coords) (arg0 : BitVec 32) (v32 : FVec F S128x128 .bf16) (k0_t2 : Fin k0_t2_loop.trips) (a : Unit) :
    Keeps c (Res c arg1 arg2 arg3 arg4 arg5 arg6 arg7 arg8 arg9 arg10 arg11 arg12 arg13 arg14 arg15 arg16 arg17 arg18 arg19) (k0_t2_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32 k0_t2 a) := by
  unfold k0_t2_body
  refine keep_bind (keep_part1 c i 0#32 1#32 k0_t2) fun ⟨v68, v84, v85, v101⟩ => ?_
  refine keep_bind (keep_part2 c i k0_t2 v68 v84 v85 v101) fun ⟨v144, v145⟩ => ?_
  refine keep_bind (keep_part3 c i k0_t2 v68 v84 v144 v145) fun ⟨v185, v187⟩ => ?_
  refine keep_bind (keep_st (acc15 c)) fun _ => ?_
  exact keep_pure _

theorem keep_part4 (c : Dev nD) (i : grid0.Coords) :
    Keeps c (Res c arg1 arg2 arg3 arg4 arg5 arg6 arg7 arg8 arg9 arg10 arg11 arg12 arg13 arg14 arg15 arg16 arg17 arg18 arg19) (k0_part4 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) := by
  rw [k0_part4_eq_skeleton]; unfold k0_part4_skel
  refine keep_rd (acc14 c) fun _ => keep_put (acc14 c) fun _ => keep_put (acc15 c) fun _ => keep_rd (acc14 c) fun _ => keep_put (acc14 c) fun _ => ?_
  refine keep_put (acc15 c) fun _ => keep_rd (acc14 c) fun _ => keep_put (acc14 c) fun _ => keep_rd (acc15 c) fun _ => ?_
  exact keep_pure _

theorem keep_part5 (c : Dev nD) (i : grid0.Coords) :
    Keeps c (Res c arg1 arg2 arg3 arg4 arg5 arg6 arg7 arg8 arg9 arg10 arg11 arg12 arg13 arg14 arg15 arg16 arg17 arg18 arg19) (k0_part5 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) := by
  rw [k0_part5_eq_skeleton]; unfold k0_part5_skel
  refine keep_rd (acc15 c) fun _ => keep_put (acc14 c) fun _ => keep_put (acc15 c) fun _ => keep_rd (acc15 c) fun _ => keep_put (acc14 c) fun _ => ?_
  refine keep_put (acc15 c) fun _ => keep_rd (acc15 c) fun _ => keep_put (acc14 c) fun _ => keep_rd (acc15 c) fun _ => ?_
  exact keep_pure _

theorem keep_part6 (c : Dev nD) (i : grid0.Coords) (c0_i32_35 c1_i32_37 : BitVec 32) (k0_t3 : Fin k0_t3_loop.trips) :
    Keeps c (Res c arg1 arg2 arg3 arg4 arg5 arg6 arg7 arg8 arg9 arg10 arg11 arg12 arg13 arg14 arg15 arg16 arg17 arg18 arg19) (k0_part6 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 c0_i32_35 c1_i32_37 k0_t3) := by
  rw [k0_part6_eq_skeleton]; unfold k0_part6_skel
  let arg20 : BitVec 32 := Scf.iv c0_i32_35 c1_i32_37 k0_t3
  let v65 : BitVec 32 := Scalar.muli arg20 1#32
  let v66 : BitVec 32 := Scalar.addi 0#32 v65
  let v67 : BitVec 32 := Scalar.muli v66 128#32
  let v68 : BitVec 32 := v67
  refine keep_rd (acc14 c) fun _ => keep_rd (acc15 c) fun _ => keep_rd (acc14 c) fun _ => keep_rd (acc15 c) fun _ => ?_
  exact keep_pure _

theorem keep_part7 (c : Dev nD) (i : grid0.Coords) (k0_t3 : Fin k0_t3_loop.trips) (v68 : BitVec 32) (v95 : FVec F S128x128 .f32) :
    Keeps c (Res c arg1 arg2 arg3 arg4 arg5 arg6 arg7 arg8 arg9 arg10 arg11 arg12 arg13 arg14 arg15 arg16 arg17 arg18 arg19) (k0_part7 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v95) := by
  rw [k0_part7_eq_skeleton]; unfold k0_part7_skel
  refine keep_rd (acc14 c) fun _ => keep_rd (acc15 c) fun _ => keep_rd (acc14 c) fun _ => keep_rd (acc15 c) fun _ => keep_rd (acc14 c) fun _ => ?_
  refine keep_rd (acc15 c) fun _ => ?_
  exact keep_pure _

theorem keep_part8 (c : Dev nD) (i : grid0.Coords) (k0_t3 : Fin k0_t3_loop.trips) (v68 : BitVec 32) (v123 v134 v135 : FVec F S128x128 .f32) :
    Keeps c (Res c arg1 arg2 arg3 arg4 arg5 arg6 arg7 arg8 arg9 arg10 arg11 arg12 arg13 arg14 arg15 arg16 arg17 arg18 arg19) (k0_part8 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v123 v134 v135) := by
  rw [k0_part8_eq_skeleton]; unfold k0_part8_skel
  refine keep_rd (acc14 c) fun _ => keep_rd (acc15 c) fun _ => keep_put (acc17 c) fun _ => keep_put (acc17 c) fun _ => keep_put (acc17 c) fun _ => ?_
  exact keep_pure _

theorem keep_part9 (c : Dev nD) (i : grid0.Coords) (k0_t3 : Fin k0_t3_loop.trips) (v68 : BitVec 32) (v173 : FVec F S4x8x128 .f32) :
    Keeps c (Res c arg1 arg2 arg3 arg4 arg5 arg6 arg7 arg8 arg9 arg10 arg11 arg12 arg13 arg14 arg15 arg16 arg17 arg18 arg19) (k0_part9 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v173) := by
  rw [k0_part9_eq_skeleton]; unfold k0_part9_skel
  refine keep_put (acc17 c) fun _ => keep_rd (acc14 c) fun _ => keep_rd (acc15 c) fun _ => keep_rd (acc14 c) fun _ => keep_rd (acc15 c) fun _ => ?_
  refine keep_rd (acc14 c) fun _ => ?_
  exact keep_pure _

theorem keep_part10 (c : Dev nD) (i : grid0.Coords) (k0_t3 : Fin k0_t3_loop.trips) (v68 : BitVec 32) (v204 : FVec F S128x128 .f32) (v208 : Vec F S1x128x128 .f32) :
    Keeps c (Res c arg1 arg2 arg3 arg4 arg5 arg6 arg7 arg8 arg9 arg10 arg11 arg12 arg13 arg14 arg15 arg16 arg17 arg18 arg19) (k0_part10 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v204 v208) := by
  rw [k0_part10_eq_skeleton]; unfold k0_part10_skel
  refine keep_rd (acc15 c) fun _ => keep_rd (acc14 c) fun _ => keep_rd (acc15 c) fun _ => keep_rd (acc14 c) fun _ => keep_rd (acc15 c) fun _ => ?_
  exact keep_pure _

theorem keep_part11 (c : Dev nD) (i : grid0.Coords) (k0_t3 : Fin k0_t3_loop.trips) (v68 : BitVec 32) (v232 v245 : FVec F S128x128 .f32) :
    Keeps c (Res c arg1 arg2 arg3 arg4 arg5 arg6 arg7 arg8 arg9 arg10 arg11 arg12 arg13 arg14 arg15 arg16 arg17 arg18 arg19) (k0_part11 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v232 v245) := by
  rw [k0_part11_eq_skeleton]; unfold k0_part11_skel
  refine keep_rd (acc14 c) fun _ => keep_rd (acc15 c) fun _ => keep_put (acc17 c) fun _ => keep_put (acc17 c) fun _ => keep_put (acc17 c) fun _ => ?_
  exact keep_pure _

theorem keep_part12 (c : Dev nD) (i : grid0.Coords) (k0_t3 : Fin k0_t3_loop.trips) (v68 : BitVec 32) (v283 : FVec F S8x128 .f32) :
    Keeps c (Res c arg1 arg2 arg3 arg4 arg5 arg6 arg7 arg8 arg9 arg10 arg11 arg12 arg13 arg14 arg15 arg16 arg17 arg18 arg19) (k0_part12 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v283) := by
  rw [k0_part12_eq_skeleton]; unfold k0_part12_skel
  refine keep_put (acc17 c) fun _ => keep_rd (acc14 c) fun _ => keep_rd (acc15 c) fun _ => keep_rd (acc14 c) fun _ => keep_rd (acc15 c) fun _ => ?_
  refine keep_rd (acc14 c) fun _ => ?_
  exact keep_pure _

theorem keep_part13 (c : Dev nD) (i : grid0.Coords) (k0_t3 : Fin k0_t3_loop.trips) (v68 : BitVec 32) (v313 v318 : FVec F S128x128 .f32) :
    Keeps c (Res c arg1 arg2 arg3 arg4 arg5 arg6 arg7 arg8 arg9 arg10 arg11 arg12 arg13 arg14 arg15 arg16 arg17 arg18 arg19) (k0_part13 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v313 v318) := by
  rw [k0_part13_eq_skeleton]; unfold k0_part13_skel
  refine keep_rd (acc15 c) fun _ => keep_rd (acc14 c) fun _ => keep_rd (acc15 c) fun _ => keep_rd (acc14 c) fun _ => keep_rd (acc15 c) fun _ => ?_
  exact keep_pure _

theorem keep_part14 (c : Dev nD) (i : grid0.Coords) (k0_t3 : Fin k0_t3_loop.trips) (v68 : BitVec 32) (v355 : FVec F S128x128 .f32) :
    Keeps c (Res c arg1 arg2 arg3 arg4 arg5 arg6 arg7 arg8 arg9 arg10 arg11 arg12 arg13 arg14 arg15 arg16 arg17 arg18 arg19) (k0_part14 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v355) := by
  rw [k0_part14_eq_skeleton]; unfold k0_part14_skel
  refine keep_rd (acc14 c) fun _ => keep_rd (acc15 c) fun _ => keep_put (acc17 c) fun _ => keep_put (acc17 c) fun _ => keep_put (acc17 c) fun _ => ?_
  exact keep_pure _

theorem keep_part15 (c : Dev nD) (i : grid0.Coords) (v392 : FVec F S8x128 .f32) :
    Keeps c (Res c arg1 arg2 arg3 arg4 arg5 arg6 arg7 arg8 arg9 arg10 arg11 arg12 arg13 arg14 arg15 arg16 arg17 arg18 arg19) (k0_part15 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v392) := by
  rw [k0_part15_eq_skeleton]; unfold k0_part15_skel
  refine keep_put (acc17 c) fun _ => keep_rd (acc17 c) fun _ => keep_rd (acc17 c) fun _ => keep_rd (acc17 c) fun _ => keep_rd (acc17 c) fun _ => ?_
  refine keep_rd (acc17 c) fun _ => keep_rd (acc17 c) fun _ => keep_rd (acc17 c) fun _ => keep_rd (acc17 c) fun _ => keep_put (acc18 c) fun _ => ?_
  exact keep_pure _

theorem keep_part16 (c : Dev nD) (i : grid0.Coords) (k0_t3 : Fin k0_t3_loop.trips) (v68 : BitVec 32) (v152 : FVec F S128x128 .f32) (v422 : FVec F S12x128 .f32) :
    Keeps c (Res c arg1 arg2 arg3 arg4 arg5 arg6 arg7 arg8 arg9 arg10 arg11 arg12 arg13 arg14 arg15 arg16 arg17 arg18 arg19) (k0_part16 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v152 v422) := by
  rw [k0_part16_eq_skeleton]; unfold k0_part16_skel
  refine keep_put (acc19 c) fun _ => keep_rd (acc19 c) fun _ => keep_rd (acc18 c) fun _ => keep_put (acc16 c) fun _ => keep_rd (acc19 c) fun _ => ?_
  refine keep_rd (acc18 c) fun _ => ?_
  exact keep_pure _

theorem keep_part17 (c : Dev nD) (i : grid0.Coords) (k0_t3 : Fin k0_t3_loop.trips) (v68 : BitVec 32) (v152 : FVec F S128x128 .f32) (v463 : FVec F S32x128 .fp8e4m3) (v467 : FVec F S32x128 .bf16) :
    Keeps c (Res c arg1 arg2 arg3 arg4 arg5 arg6 arg7 arg8 arg9 arg10 arg11 arg12 arg13 arg14 arg15 arg16 arg17 arg18 arg19) (k0_part17 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v152 v463 v467) := by
  rw [k0_part17_eq_skeleton]; unfold k0_part17_skel
  refine keep_put (acc16 c) fun _ => keep_rd (acc19 c) fun _ => keep_rd (acc18 c) fun _ => keep_put (acc16 c) fun _ => keep_rd (acc19 c) fun _ => ?_
  refine keep_rd (acc18 c) fun _ => ?_
  exact keep_pure _

theorem keep_part18 (c : Dev nD) (i : grid0.Coords) (k0_t3 : Fin k0_t3_loop.trips) (v68 : BitVec 32) (v261 : FVec F S128x128 .f32) (v505 : FVec F S32x128 .fp8e4m3) (v509 : FVec F S32x128 .bf16) :
    Keeps c (Res c arg1 arg2 arg3 arg4 arg5 arg6 arg7 arg8 arg9 arg10 arg11 arg12 arg13 arg14 arg15 arg16 arg17 arg18 arg19) (k0_part18 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v261 v505 v509) := by
  rw [k0_part18_eq_skeleton]; unfold k0_part18_skel
  refine keep_put (acc16 c) fun _ => keep_rd (acc19 c) fun _ => keep_rd (acc18 c) fun _ => keep_put (acc16 c) fun _ => keep_rd (acc19 c) fun _ => ?_
  refine keep_rd (acc18 c) fun _ => ?_
  exact keep_pure _

theorem keep_part19 (c : Dev nD) (i : grid0.Coords) (k0_t3 : Fin k0_t3_loop.trips) (v68 : BitVec 32) (v261 : FVec F S128x128 .f32) (v547 : FVec F S32x128 .fp8e4m3) (v551 : FVec F S32x128 .bf16) :
    Keeps c (Res c arg1 arg2 arg3 arg4 arg5 arg6 arg7 arg8 arg9 arg10 arg11 arg12 arg13 arg14 arg15 arg16 arg17 arg18 arg19) (k0_part19 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v261 v547 v551) := by
  rw [k0_part19_eq_skeleton]; unfold k0_part19_skel
  refine keep_put (acc16 c) fun _ => keep_rd (acc19 c) fun _ => keep_rd (acc18 c) fun _ => keep_put (acc16 c) fun _ => keep_rd (acc19 c) fun _ => ?_
  refine keep_rd (acc18 c) fun _ => ?_
  exact keep_pure _

theorem keep_part20 (c : Dev nD) (i : grid0.Coords) (k0_t3 : Fin k0_t3_loop.trips) (v68 : BitVec 32) (v370 : FVec F S128x128 .f32) (v589 : FVec F S32x128 .fp8e4m3) (v593 : FVec F S32x128 .bf16) :
    Keeps c (Res c arg1 arg2 arg3 arg4 arg5 arg6 arg7 arg8 arg9 arg10 arg11 arg12 arg13 arg14 arg15 arg16 arg17 arg18 arg19) (k0_part20 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v370 v589 v593) := by
  rw [k0_part20_eq_skeleton]; unfold k0_part20_skel
  refine keep_put (acc16 c) fun _ => keep_rd (acc19 c) fun _ => keep_rd (acc18 c) fun _ => keep_put (acc16 c) fun _ => keep_rd (acc19 c) fun _ => ?_
  refine keep_rd (acc18 c) fun _ => ?_
  exact keep_pure _

theorem keep_part21 (c : Dev nD) (i : grid0.Coords) (k0_t3 : Fin k0_t3_loop.trips) (v68 : BitVec 32) (v370 : FVec F S128x128 .f32) (v631 : FVec F S32x128 .fp8e4m3) (v635 : FVec F S32x128 .bf16) :
    Keeps c (Res c arg1 arg2 arg3 arg4 arg5 arg6 arg7 arg8 arg9 arg10 arg11 arg12 arg13 arg14 arg15 arg16 arg17 arg18 arg19) (k0_part21 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v370 v631 v635) := by
  rw [k0_part21_eq_skeleton]; unfold k0_part21_skel
  refine keep_put (acc16 c) fun _ => keep_rd (acc19 c) fun _ => keep_rd (acc18 c) fun _ => keep_put (acc16 c) fun _ => keep_rd (acc19 c) fun _ => ?_
  refine keep_rd (acc18 c) fun _ => ?_
  exact keep_pure _

theorem keep_part22 (c : Dev nD) (i : grid0.Coords) (k0_t3 : Fin k0_t3_loop.trips) (v68 : BitVec 32) (v442 v463 v484 v673 : FVec F S32x128 .fp8e4m3) (v677 : FVec F S32x128 .bf16) :
    Keeps c (Res c arg1 arg2 arg3 arg4 arg5 arg6 arg7 arg8 arg9 arg10 arg11 arg12 arg13 arg14 arg15 arg16 arg17 arg18 arg19) (k0_part22 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v442 v463 v484 v673 v677) := by
  rw [k0_part22_eq_skeleton]; unfold k0_part22_skel
  refine keep_put (acc16 c) fun _ => keep_put (acc11 c) fun _ => keep_rd (acc18 c) fun _ => keep_put (acc12 c) fun _ => keep_put (acc11 c) fun _ => ?_
  refine keep_rd (acc18 c) fun _ => keep_put (acc12 c) fun _ => keep_put (acc11 c) fun _ => keep_rd (acc18 c) fun _ => keep_rd (acc12 c) fun _ => ?_
  exact keep_pure _

theorem keep_part23 (c : Dev nD) (i : grid0.Coords) (k0_t3 : Fin k0_t3_loop.trips) (v68 : BitVec 32) (v505 v526 v547 v568 : FVec F S32x128 .fp8e4m3) (v711 : FVec F S1x1x128 .f32) :
    Keeps c (Res c arg1 arg2 arg3 arg4 arg5 arg6 arg7 arg8 arg9 arg10 arg11 arg12 arg13 arg14 arg15 arg16 arg17 arg18 arg19) (k0_part23 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v505 v526 v547 v568 v711) := by
  rw [k0_part23_eq_skeleton]; unfold k0_part23_skel
  refine keep_bind (keep_st (acc12 c)) fun _ => ?_
  refine keep_put (acc11 c) fun _ => keep_rd (acc18 c) fun _ => keep_put (acc12 c) fun _ => keep_put (acc11 c) fun _ => keep_rd (acc18 c) fun _ => ?_
  refine keep_put (acc12 c) fun _ => keep_put (acc11 c) fun _ => keep_rd (acc18 c) fun _ => keep_put (acc12 c) fun _ => keep_put (acc11 c) fun _ => ?_
  exact keep_pure _

theorem keep_part24 (c : Dev nD) (i : grid0.Coords) (k0_t3 : Fin k0_t3_loop.trips) (v68 : BitVec 32) (v589 v610 v631 : FVec F S32x128 .fp8e4m3) :
    Keeps c (Res c arg1 arg2 arg3 arg4 arg5 arg6 arg7 arg8 arg9 arg10 arg11 arg12 arg13 arg14 arg15 arg16 arg17 arg18 arg19) (k0_part24 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v589 v610 v631) := by
  rw [k0_part24_eq_skeleton]; unfold k0_part24_skel
  refine keep_rd (acc18 c) fun _ => keep_put (acc12 c) fun _ => keep_put (acc11 c) fun _ => keep_rd (acc18 c) fun _ => keep_put (acc12 c) fun _ => ?_
  refine keep_put (acc11 c) fun _ => keep_rd (acc18 c) fun _ => keep_put (acc12 c) fun _ => keep_put (acc11 c) fun _ => keep_rd (acc18 c) fun _ => ?_
  refine keep_put (acc12 c) fun _ => ?_
  exact keep_pure _

theorem keep_t3 (c : Dev nD) (i : grid0.Coords) (arg0 : BitVec 32) (v32 : FVec F S128x128 .bf16) (k0_t3 : Fin k0_t3_loop.trips) (a : Unit) :
    Keeps c (Res c arg1 arg2 arg3 arg4 arg5 arg6 arg7 arg8 arg9 arg10 arg11 arg12 arg13 arg14 arg15 arg16 arg17 arg18 arg19) (k0_t3_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32 k0_t3 a) := by
  unfold k0_t3_body
  refine keep_bind (keep_part6 c i 0#32 1#32 k0_t3) fun ⟨v68, v95⟩ => ?_
  refine keep_bind (keep_part7 c i k0_t3 v68 v95) fun ⟨v123, v134, v135⟩ => ?_
  refine keep_bind (keep_part8 c i k0_t3 v68 v123 v134 v135) fun ⟨v152, v173⟩ => ?_
  refine keep_bind (keep_part9 c i k0_t3 v68 v173) fun ⟨v204, v208⟩ => ?_
  refine keep_bind (keep_part10 c i k0_t3 v68 v204 v208) fun ⟨v232, v245⟩ => ?_
  refine keep_bind (keep_part11 c i k0_t3 v68 v232 v245) fun ⟨v261, v283⟩ => ?_
  refine keep_bind (keep_part12 c i k0_t3 v68 v283) fun ⟨v313, v318⟩ => ?_
  refine keep_bind (keep_part13 c i k0_t3 v68 v313 v318) fun v355 => ?_
  refine keep_bind (keep_part14 c i k0_t3 v68 v355) fun ⟨v370, v392⟩ => ?_
  refine keep_bind (keep_part15 c i v392) fun v422 => ?_
  refine keep_bind (keep_part16 c i k0_t3 v68 v152 v422) fun ⟨v442, v463, v467⟩ => ?_
  refine keep_bind (keep_part17 c i k0_t3 v68 v152 v463 v467) fun ⟨v484, v505, v509⟩ => ?_
  refine keep_bind (keep_part18 c i k0_t3 v68 v261 v505 v509) fun ⟨v526, v547, v551⟩ => ?_
  refine keep_bind (keep_part19 c i k0_t3 v68 v261 v547 v551) fun ⟨v568, v589, v593⟩ => ?_
  refine keep_bind (keep_part20 c i k0_t3 v68 v370 v589 v593) fun ⟨v610, v631, v635⟩ => ?_
  refine keep_bind (keep_part21 c i k0_t3 v68 v370 v631 v635) fun ⟨v652, v673, v677⟩ => ?_
  refine keep_bind (keep_part22 c i k0_t3 v68 v442 v463 v484 v673 v677) fun v711 => ?_
  refine keep_bind (keep_part23 c i k0_t3 v68 v505 v526 v547 v568 v711) fun _ => ?_
  refine keep_bind (keep_part24 c i k0_t3 v68 v589 v610 v631) fun _ => ?_
  refine keep_put (acc11 c) fun _ => keep_rd (acc18 c) fun _ => keep_put (acc12 c) fun _ => keep_put (acc11 c) fun _ => keep_rd (acc18 c) fun _ => ?_
  refine keep_put (acc12 c) fun _ => ?_
  exact keep_pure _

theorem keep_part43 (c : Dev nD) (i : grid0.Coords) (arg0 : BitVec 32) (v32 : FVec F S128x128 .bf16) :
    Keeps c (Res c arg1 arg2 arg3 arg4 arg5 arg6 arg7 arg8 arg9 arg10 arg11 arg12 arg13 arg14 arg15 arg16 arg17 arg18 arg19) (k0_part43 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32) := by
  rw [k0_part43_eq_skeleton]; unfold k0_part43_skel
  refine keep_put (acc13 c) fun _ => ?_
  refine keep_bind (keep_for fun k a => keep_t1 c i arg0 v32 k a) fun _ => ?_
  extract_lets -underBinder -merge -useContext v37 v38 v39 jp_h1
  have hj_h1 : ∀ r, Keeps c (Res c arg1 arg2 arg3 arg4 arg5 arg6 arg7 arg8 arg9 arg10 arg11 arg12 arg13 arg14 arg15 arg16 arg17 arg18 arg19) (jp_h1 r) := by
    intro r; simp -zeta -zetaHave only [jp_h1]
    extract_lets -underBinder -merge -useContext v40 v41 v42 jp_h2
    have hj_h2 : ∀ r, Keeps c (Res c arg1 arg2 arg3 arg4 arg5 arg6 arg7 arg8 arg9 arg10 arg11 arg12 arg13 arg14 arg15 arg16 arg17 arg18 arg19) (jp_h2 r) := by
      intro r; simp -zeta -zetaHave only [jp_h2]
      refine keep_bind (keep_for fun k a => keep_t2 c i arg0 v32 k a) fun _ => ?_
      extract_lets -underBinder -merge -useContext v44 v45 v46 jp_h3
      have hj_h3 : ∀ r, Keeps c (Res c arg1 arg2 arg3 arg4 arg5 arg6 arg7 arg8 arg9 arg10 arg11 arg12 arg13 arg14 arg15 arg16 arg17 arg18 arg19) (jp_h3 r) := by
        intro r; simp -zeta -zetaHave only [jp_h3]
        extract_lets -underBinder -merge -useContext v47 v48 v49 jp_h4
        have hj_h4 : ∀ r, Keeps c (Res c arg1 arg2 arg3 arg4 arg5 arg6 arg7 arg8 arg9 arg10 arg11 arg12 arg13 arg14 arg15 arg16 arg17 arg18 arg19) (jp_h4 r) := by
          intro r; simp -zeta -zetaHave only [jp_h4]
          extract_lets -underBinder -merge -useContext v50 v51 v52 jp_h5
          have hj_h5 : ∀ r, Keeps c (Res c arg1 arg2 arg3 arg4 arg5 arg6 arg7 arg8 arg9 arg10 arg11 arg12 arg13 arg14 arg15 arg16 arg17 arg18 arg19) (jp_h5 r) := by
            intro r; simp -zeta -zetaHave only [jp_h5]
            extract_lets -underBinder -merge -useContext v53 v54 v55 jp_h6
            have hj_h6 : ∀ r, Keeps c (Res c arg1 arg2 arg3 arg4 arg5 arg6 arg7 arg8 arg9 arg10 arg11 arg12 arg13 arg14 arg15 arg16 arg17 arg18 arg19) (jp_h6 r) := by
              intro r; simp -zeta -zetaHave only [jp_h6]
              refine keep_bind (keep_for fun k a => keep_t3 c i arg0 v32 k a) fun _ => ?_
              exact keep_pure _
            clear_value jp_h6
            refine keep_dite (fun _ => ?_) (fun _ => hj_h6 _)
            refine keep_rd (acc16 c) fun _ => keep_put (acc16 c) fun _ => ?_
            exact hj_h6 _
          clear_value jp_h5
          refine keep_dite (fun _ => ?_) (fun _ => hj_h5 _)
          refine keep_put (acc16 c) fun _ => ?_
          exact hj_h5 _
        clear_value jp_h4
        refine keep_dite (fun _ => ?_) (fun _ => hj_h4 _)
        refine keep_bind (keep_part5 c i) fun ⟨v88, v92⟩ => ?_
        refine keep_bind (keep_st (acc15 c)) fun _ => ?_
        exact hj_h4 _
      clear_value jp_h3
      refine keep_dite (fun _ => ?_) (fun _ => hj_h3 _)
      refine keep_bind (keep_part4 c i) fun ⟨v88, v92⟩ => ?_
      refine keep_bind (keep_st (acc15 c)) fun _ => ?_
      exact hj_h3 _
    clear_value jp_h2
    refine keep_dite (fun _ => ?_) (fun _ => hj_h2 _)
    refine keep_rd (acc13 c) fun _ => keep_put (acc13 c) fun _ => keep_rd (acc13 c) fun _ => keep_put (acc13 c) fun _ => keep_rd (acc13 c) fun _ => ?_
    refine keep_put (acc13 c) fun _ => ?_
    exact hj_h2 _
  clear_value jp_h1
  refine keep_dite (fun _ => ?_) (fun _ => hj_h1 _)
  refine keep_rd (acc13 c) fun _ => keep_put (acc13 c) fun _ => keep_rd (acc13 c) fun _ => keep_put (acc13 c) fun _ => keep_rd (acc13 c) fun _ => ?_
  refine keep_put (acc13 c) fun _ => ?_
  exact hj_h1 _

theorem keep_part25 (c : Dev nD) (i : grid0.Coords) :
    Keeps c (Res c arg1 arg2 arg3 arg4 arg5 arg6 arg7 arg8 arg9 arg10 arg11 arg12 arg13 arg14 arg15 arg16 arg17 arg18 arg19) (k0_part25 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) := by
  rw [k0_part25_eq_skeleton]; unfold k0_part25_skel
  refine keep_rd (acc14 c) fun _ => keep_rd (acc15 c) fun _ => keep_rd (acc14 c) fun _ => keep_rd (acc15 c) fun _ => keep_rd (acc14 c) fun _ => ?_
  refine keep_rd (acc15 c) fun _ => keep_rd (acc14 c) fun _ => keep_rd (acc15 c) fun _ => ?_
  exact keep_pure _

theorem keep_part26 (c : Dev nD) (i : grid0.Coords) (v95 : FVec F S128x128 .f32) :
    Keeps c (Res c arg1 arg2 arg3 arg4 arg5 arg6 arg7 arg8 arg9 arg10 arg11 arg12 arg13 arg14 arg15 arg16 arg17 arg18 arg19) (k0_part26 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v95) := by
  rw [k0_part26_eq_skeleton]; unfold k0_part26_skel
  refine keep_rd (acc14 c) fun _ => keep_rd (acc15 c) fun _ => keep_rd (acc14 c) fun _ => keep_rd (acc15 c) fun _ => keep_put (acc17 c) fun _ => ?_
  refine keep_put (acc17 c) fun _ => keep_rd (acc17 c) fun _ => ?_
  exact keep_pure _

theorem keep_part27 (c : Dev nD) (i : grid0.Coords) (v113 : FVec F S128x128 .f32) (v131 : FVec F S8x128 .f32) :
    Keeps c (Res c arg1 arg2 arg3 arg4 arg5 arg6 arg7 arg8 arg9 arg10 arg11 arg12 arg13 arg14 arg15 arg16 arg17 arg18 arg19) (k0_part27 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v113 v131) := by
  rw [k0_part27_eq_skeleton]; unfold k0_part27_skel
  refine keep_bind (keep_st (acc17 c)) fun _ => ?_
  refine keep_put (acc17 c) fun _ => keep_rd (acc14 c) fun _ => keep_rd (acc15 c) fun _ => keep_rd (acc14 c) fun _ => keep_rd (acc15 c) fun _ => ?_
  refine keep_rd (acc14 c) fun _ => keep_rd (acc15 c) fun _ => keep_rd (acc14 c) fun _ => ?_
  exact keep_pure _

theorem keep_part28 (c : Dev nD) (i : grid0.Coords) (v160 v162 : FVec F S128x128 .f32) :
    Keeps c (Res c arg1 arg2 arg3 arg4 arg5 arg6 arg7 arg8 arg9 arg10 arg11 arg12 arg13 arg14 arg15 arg16 arg17 arg18 arg19) (k0_part28 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v160 v162) := by
  rw [k0_part28_eq_skeleton]; unfold k0_part28_skel
  refine keep_rd (acc15 c) fun _ => keep_rd (acc14 c) fun _ => keep_rd (acc15 c) fun _ => keep_rd (acc14 c) fun _ => keep_rd (acc15 c) fun _ => ?_
  refine keep_put (acc17 c) fun _ => keep_rd (acc17 c) fun _ => ?_
  exact keep_pure _

theorem keep_part29 (c : Dev nD) (i : grid0.Coords) (v186 : FVec F S128x128 .f32) (v195 : FVec F S8x128 .f32) :
    Keeps c (Res c arg1 arg2 arg3 arg4 arg5 arg6 arg7 arg8 arg9 arg10 arg11 arg12 arg13 arg14 arg15 arg16 arg17 arg18 arg19) (k0_part29 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v186 v195) := by
  rw [k0_part29_eq_skeleton]; unfold k0_part29_skel
  refine keep_bind (keep_st (acc17 c)) fun _ => ?_
  refine keep_put (acc17 c) fun _ => keep_put (acc17 c) fun _ => keep_rd (acc14 c) fun _ => keep_rd (acc15 c) fun _ => keep_rd (acc14 c) fun _ => ?_
  refine keep_rd (acc15 c) fun _ => keep_rd (acc14 c) fun _ => keep_rd (acc15 c) fun _ => ?_
  exact keep_pure _

theorem keep_part30 (c : Dev nD) (i : grid0.Coords) (v225 v227 : FVec F S128x128 .f32) (v228 : Vec F S1x128x128 .f32) :
    Keeps c (Res c arg1 arg2 arg3 arg4 arg5 arg6 arg7 arg8 arg9 arg10 arg11 arg12 arg13 arg14 arg15 arg16 arg17 arg18 arg19) (k0_part30 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v225 v227 v228) := by
  rw [k0_part30_eq_skeleton]; unfold k0_part30_skel
  refine keep_rd (acc14 c) fun _ => keep_rd (acc15 c) fun _ => keep_rd (acc14 c) fun _ => keep_rd (acc15 c) fun _ => keep_rd (acc14 c) fun _ => ?_
  refine keep_rd (acc15 c) fun _ => keep_rd (acc17 c) fun _ => ?_
  exact keep_pure _

theorem keep_part31 (c : Dev nD) (i : grid0.Coords) (v259 : FVec F S128x128 .f32) (v262 : FVec F S8x128 .f32) (v263 : Vec F S8x128 .f32) :
    Keeps c (Res c arg1 arg2 arg3 arg4 arg5 arg6 arg7 arg8 arg9 arg10 arg11 arg12 arg13 arg14 arg15 arg16 arg17 arg18 arg19) (k0_part31 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v259 v262 v263) := by
  rw [k0_part31_eq_skeleton]; unfold k0_part31_skel
  refine keep_bind (keep_st (acc17 c)) fun _ => ?_
  refine keep_put (acc17 c) fun _ => keep_put (acc17 c) fun _ => keep_put (acc17 c) fun _ => keep_rd (acc17 c) fun _ => keep_rd (acc17 c) fun _ => ?_
  refine keep_rd (acc17 c) fun _ => keep_rd (acc17 c) fun _ => keep_rd (acc17 c) fun _ => keep_rd (acc17 c) fun _ => keep_rd (acc17 c) fun _ => ?_
  exact keep_pure _

theorem keep_part32 (c : Dev nD) (i : grid0.Coords) (v112 : FVec F S128x128 .f32) (v296 : FVec F S12x128 .f32) :
    Keeps c (Res c arg1 arg2 arg3 arg4 arg5 arg6 arg7 arg8 arg9 arg10 arg11 arg12 arg13 arg14 arg15 arg16 arg17 arg18 arg19) (k0_part32 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v112 v296) := by
  rw [k0_part32_eq_skeleton]; unfold k0_part32_skel
  refine keep_rd (acc17 c) fun _ => keep_put (acc18 c) fun _ => keep_put (acc19 c) fun _ => keep_rd (acc19 c) fun _ => keep_rd (acc18 c) fun _ => ?_
  exact keep_pure _

theorem keep_part33 (c : Dev nD) (i : grid0.Coords) (v112 : FVec F S128x128 .f32) (v336 : FVec F S32x128 .bf16) :
    Keeps c (Res c arg1 arg2 arg3 arg4 arg5 arg6 arg7 arg8 arg9 arg10 arg11 arg12 arg13 arg14 arg15 arg16 arg17 arg18 arg19) (k0_part33 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v112 v336) := by
  rw [k0_part33_eq_skeleton]; unfold k0_part33_skel
  refine keep_put (acc16 c) fun _ => keep_rd (acc19 c) fun _ => keep_rd (acc18 c) fun _ => keep_put (acc16 c) fun _ => keep_rd (acc19 c) fun _ => ?_
  refine keep_rd (acc18 c) fun _ => keep_rd (acc16 c) fun _ => ?_
  exact keep_pure _

theorem keep_part34 (c : Dev nD) (i : grid0.Coords) (v112 v185 : FVec F S128x128 .f32) (v374 : FVec F S32x128 .bf16) :
    Keeps c (Res c arg1 arg2 arg3 arg4 arg5 arg6 arg7 arg8 arg9 arg10 arg11 arg12 arg13 arg14 arg15 arg16 arg17 arg18 arg19) (k0_part34 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v112 v185 v374) := by
  rw [k0_part34_eq_skeleton]; unfold k0_part34_skel
  refine keep_bind (keep_st (acc16 c)) fun _ => ?_
  refine keep_rd (acc19 c) fun _ => keep_rd (acc18 c) fun _ => keep_put (acc16 c) fun _ => keep_rd (acc19 c) fun _ => keep_rd (acc18 c) fun _ => ?_
  refine keep_put (acc16 c) fun _ => ?_
  exact keep_pure _

theorem keep_part35 (c : Dev nD) (i : grid0.Coords) (v185 : FVec F S128x128 .f32) :
    Keeps c (Res c arg1 arg2 arg3 arg4 arg5 arg6 arg7 arg8 arg9 arg10 arg11 arg12 arg13 arg14 arg15 arg16 arg17 arg18 arg19) (k0_part35 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v185) := by
  rw [k0_part35_eq_skeleton]; unfold k0_part35_skel
  refine keep_rd (acc19 c) fun _ => keep_rd (acc18 c) fun _ => keep_put (acc16 c) fun _ => keep_rd (acc19 c) fun _ => keep_rd (acc18 c) fun _ => ?_
  refine keep_put (acc16 c) fun _ => keep_rd (acc19 c) fun _ => ?_
  exact keep_pure _

theorem keep_part36 (c : Dev nD) (i : grid0.Coords) (v258 : FVec F S128x128 .f32) (v456 v457 : FVec F S32x128 .f32) :
    Keeps c (Res c arg1 arg2 arg3 arg4 arg5 arg6 arg7 arg8 arg9 arg10 arg11 arg12 arg13 arg14 arg15 arg16 arg17 arg18 arg19) (k0_part36 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v258 v456 v457) := by
  rw [k0_part36_eq_skeleton]; unfold k0_part36_skel
  refine keep_rd (acc18 c) fun _ => keep_put (acc16 c) fun _ => keep_rd (acc19 c) fun _ => keep_rd (acc18 c) fun _ => keep_put (acc16 c) fun _ => ?_
  refine keep_rd (acc19 c) fun _ => ?_
  let cst_279 : F .f32 := Scalar.ofBits .f32 0x43E00000#32
  exact keep_pure _

theorem keep_part37 (c : Dev nD) (i : grid0.Coords) (v258 : FVec F S128x128 .f32) (v496 : FVec F S32x128 .f32) (cst_279 : F .f32) (v497 : FVec F S32x128 .f32) :
    Keeps c (Res c arg1 arg2 arg3 arg4 arg5 arg6 arg7 arg8 arg9 arg10 arg11 arg12 arg13 arg14 arg15 arg16 arg17 arg18 arg19) (k0_part37 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v258 v496 cst_279 v497) := by
  rw [k0_part37_eq_skeleton]; unfold k0_part37_skel
  refine keep_rd (acc18 c) fun _ => keep_put (acc16 c) fun _ => keep_rd (acc19 c) fun _ => keep_rd (acc18 c) fun _ => keep_put (acc16 c) fun _ => ?_
  refine keep_rd (acc19 c) fun _ => ?_
  exact keep_pure _

theorem keep_body (c : Dev nD) (i : grid0.Coords) :
    Keeps c (Res c arg1 arg2 arg3 arg4 arg5 arg6 arg7 arg8 arg9 arg10 arg11 arg12 arg13 arg14 arg15 arg16 arg17 arg18 arg19) (cc0_amp_unit (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) := by
  rw [cc0_amp_unit_eq_skeleton]; unfold cc0_amp_unit_skel
  refine keep_bind (keep_part42 c i) fun ⟨arg0, v32⟩ => ?_
  refine keep_bind (keep_part43 c i arg0 v32) fun _ => ?_
  extract_lets -underBinder -merge -useContext v57 v58 v59 jp_h7
  have hj_h7 : ∀ r, Keeps c (Res c arg1 arg2 arg3 arg4 arg5 arg6 arg7 arg8 arg9 arg10 arg11 arg12 arg13 arg14 arg15 arg16 arg17 arg18 arg19) (jp_h7 r) := by
    intro r; simp -zeta -zetaHave only [jp_h7]
    extract_lets -underBinder -merge -useContext v60 v61 v62 jp_h8
    have hj_h8 : ∀ r, Keeps c (Res c arg1 arg2 arg3 arg4 arg5 arg6 arg7 arg8 arg9 arg10 arg11 arg12 arg13 arg14 arg15 arg16 arg17 arg18 arg19) (jp_h8 r) := by
      intro r; simp -zeta -zetaHave only [jp_h8]
      let v63 : IVec S1x128 32 := iota .tc S1x128 32 [1] iota_S1x128_d1_w32
      refine keep_bind (keep_for fun k a => keep_t4 c i v63 k a) fun _ => ?_
      exact keep_pure _
    clear_value jp_h8
    refine keep_dite (fun _ => ?_) (fun _ => hj_h8 _)
    refine keep_put (acc16 c) fun _ => ?_
    exact hj_h8 _
  clear_value jp_h7
  refine keep_dite (fun _ => ?_) (fun _ => hj_h7 _)
  refine keep_bind (keep_part25 c i) fun v95 => ?_
  refine keep_bind (keep_part26 c i v95) fun ⟨v112, v113, v131⟩ => ?_
  refine keep_bind (keep_part27 c i v113 v131) fun ⟨v160, v162⟩ => ?_
  refine keep_bind (keep_part28 c i v160 v162) fun ⟨v185, v186, v195⟩ => ?_
  refine keep_bind (keep_part29 c i v186 v195) fun ⟨v225, v227, v228⟩ => ?_
  refine keep_bind (keep_part30 c i v225 v227 v228) fun ⟨v258, v259, v262, v263⟩ => ?_
  refine keep_bind (keep_part31 c i v259 v262 v263) fun v296 => ?_
  refine keep_bind (keep_part32 c i v112 v296) fun v336 => ?_
  refine keep_bind (keep_part33 c i v112 v336) fun v374 => ?_
  refine keep_bind (keep_part34 c i v112 v185 v374) fun _ => ?_
  refine keep_bind (keep_part35 c i v185) fun ⟨v456, v457⟩ => ?_
  refine keep_bind (keep_part36 c i v258 v456 v457) fun ⟨v496, cst_279, v497⟩ => ?_
  refine keep_bind (keep_part37 c i v258 v496 cst_279 v497) fun v539 => ?_
  refine keep_rd (acc18 c) fun _ => keep_put (acc16 c) fun _ => ?_
  exact hj_h7 _

end Cert.Kernel.Run

end

end
-- ==== Proof.KernelFrame.lean ====
/-
  The kernel runs to its end from any memory and changes none of its arguments: its body keeps
  every buffer it is given, at whatever contents.
-/
module

public import proofs.«01_k».proof.Proof.KernelRun
public import proofs.«01_k».proof.Proof.Gen.Kernel.Frame
public import Idealize.ShloMosaic.Lib.Pipeline.FrameBody
public import Idealize.ShloMosaic.Lib.Claim

@[expose] public section

set_option maxRecDepth 16384
set_option pp.maxSteps 60

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen Cert.Kernel.Run

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The seven scratch buffers at some contents, each as a memref held whole. -/
theorem scratch_eq (c : Dev nD) :
    (Pipeline.scopedRest (Ix := Unit) (Name := ℕ) (U := UR sig nD τ) (Lvl := ℕ) (Val := Elt F) spec0 c : sProp 𝕄)
      = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) := by
  rw [scopedRest0_eq]
  simp only [owns_whole]

/-- The body at any point keeps what it is given. -/
theorem body_keeps (c : Dev nD) (t : Fin cfg0.N) (O : sProp 𝕄) :
    (iprop(Pipeline.ΦA spec0 c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X)) : sProp 𝕄)
      ⊢ wp frame (wpE (defs₀ (F := F)) Variants.none c none) Set.univ (bodyAt0 t) (fun _ =>
        iprop(Pipeline.ΦA spec0 c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))) := by
  unfold Pipeline.ΦA
  rw [scratch_eq]
  iintro ⟨⟨⟨⟨%f0, S0⟩, ⟨%f1, S1⟩, ⟨%f2, S2⟩, ⟨%f3, S3⟩, ⟨%f4, S4⟩, ⟨%f5, S5⟩, ⟨%f6, S6⟩⟩, Hg⟩, HO, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩⟩
  ihave HR := (show (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ owns (c : Thread nD τ) (st0_7 t) fullShare x7 ∗ owns (c : Thread nD τ) (st0_8 t) fullShare x8 ∗ owns (c : Thread nD τ) (st0_9 t) fullShare x9 ∗ owns (c : Thread nD τ) (st0_10 t) fullShare x10 ∗ owns (c : Thread nD τ) (st0_11 t) fullShare x11 ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6) : sProp 𝕄)
      ⊢ Res c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) ⟨x0, x1, x2, x3, x4, x5, x6, x7, x8, x9, x10, x11, f0, f1, f2, f3, f4, f5, f6⟩ from .rfl) $$ [H0 H1 H2 H3 H4 H5 H6 H7 H8 H9 H10 H11 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  iapply ((Run.keep_body c _) _ _) $$ HR
  iintro %a %x HR
  ihave HR := (show Res c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) x ⊢ (iprop(owns (c : Thread nD τ) (st0_0 t) fullShare x.s1 ∗ owns (c : Thread nD τ) (st0_1 t) fullShare x.s2 ∗ owns (c : Thread nD τ) (st0_2 t) fullShare x.s3 ∗ owns (c : Thread nD τ) (st0_3 t) fullShare x.s4 ∗ owns (c : Thread nD τ) (st0_4 t) fullShare x.s5 ∗ owns (c : Thread nD τ) (st0_5 t) fullShare x.s6 ∗ owns (c : Thread nD τ) (st0_6 t) fullShare x.s7 ∗ owns (c : Thread nD τ) (st0_7 t) fullShare x.s8 ∗ owns (c : Thread nD τ) (st0_8 t) fullShare x.s9 ∗ owns (c : Thread nD τ) (st0_9 t) fullShare x.s10 ∗ owns (c : Thread nD τ) (st0_10 t) fullShare x.s11 ∗ owns (c : Thread nD τ) (st0_11 t) fullShare x.s12 ∗ owns (c : Thread nD τ) (Memref.whole cc0_scratch0) fullShare x.s13 ∗ owns (c : Thread nD τ) (Memref.whole cc0_scratch1) fullShare x.s14 ∗ owns (c : Thread nD τ) (Memref.whole cc0_scratch2) fullShare x.s15 ∗ owns (c : Thread nD τ) (Memref.whole cc0_scratch3) fullShare x.s16 ∗ owns (c : Thread nD τ) (Memref.whole cc0_scratch4) fullShare x.s17 ∗ owns (c : Thread nD τ) (Memref.whole cc0_scratch5) fullShare x.s18 ∗ owns (c : Thread nD τ) (Memref.whole cc0_scratch6) fullShare x.s19) : sProp 𝕄) from .rfl) $$ HR
  icases HR with ⟨H0, H1, H2, H3, H4, H5, H6, H7, H8, H9, H10, H11, S0, S1, S2, S3, S4, S5, S6⟩
  isplitl [S0 S1 S2 S3 S4 S5 S6 Hg]
  · isplitr [Hg]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    · iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The proof data of the frame: nothing is said of what any window holds. -/
def loose (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem loose_obligation (c : Dev nD) :
    BodyObligationLoose (loose (F := F) m 0 c) (defs₀ (F := F)) Variants.none () Set.univ (fun _ => true) := fun t => by
  rw [bigSep_W0, defs₀_row]
  exact body_keeps c t _

set_option backward.isDefEq.respectTransparency.types false in
set_option maxHeartbeats 800000 in
/-- The kernel ends, with every counter at zero and every argument as it was. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget_shared (Q' := _) cfgs (loose m) (0 : Fin 1) launch₀0 defs₀ Variants.none (fun _ => true) m ρ main
    (hbody := fun c => loose_obligation m c) (hq := fun _ _ _ => rfl)
    (howed := fun _ _ => rfl) (V := V m) (hmain := hmain m Variants.none) (hA := fun _ _ => by dsimp only [loose]) (hΦ := fun _ _ => rfl)
    (hQ' := fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩)

end Cert.Kernel.Whole

end

end
-- ==== Proof.KernelIdealState.lean ====
/-
  The contents of the nineteen memrefs the kernel body is given, as one state, and the resource that holds them.
-/
module

public import proofs.«01_k».proof.Proof.Sem
public import proofs.«01_k».proof.Proof.Gen.KernelIdeal.Skeleton
public import proofs.«01_k».proof.Proof.Gen.KernelIdeal.Launch

@[expose] public section

set_option maxRecDepth 16384
set_option maxHeartbeats 1000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sem Cert.KernelIdeal.Gen

variable {F : FTy → Type} [FloatOps F]

local notation "𝕄" => MT nD τ sig Unit (Elt F) ℕ (UR sig nD τ) ℕ

/-- What each memref of the kernel body holds. -/
structure St (F : FTy → Type) where
  s1 : Vec F S4x96x128 .bf16
  s2 : Vec F S4x96x1024 .bf16
  s3 : Vec F S4x96x128 .bf16
  s4 : Vec F S128x240 .bf16
  s5 : Vec F S1x384 .f32
  s6 : Vec F S1x384 .f32
  s7 : Vec F S96x288 .fp8e4m3
  s8 : Vec F S96x128 .f32
  s9 : Vec F S96x128 .f32
  s10 : Vec F S4x96x1024 .bf16
  s11 : Vec F S4x96x1024 .fp8e4m3
  s12 : Vec F S3x4x1024 .f32
  s13 : Vec F S3x1280x128 .bf16
  s14 : Vec F S3x1280x128 .f32
  s15 : Vec F S3x1280x128 .f32
  s16 : Vec F S384x1280 .bf16
  s17 : Vec F S96x128 .f32
  s18 : Vec F S12x128 .f32
  s19 : Vec F S12x128 .f32

def St.set1 (x : St F) (v : Vec F S4x96x128 .bf16) : St F := { x with s1 := v }
def St.set2 (x : St F) (v : Vec F S4x96x1024 .bf16) : St F := { x with s2 := v }
def St.set3 (x : St F) (v : Vec F S4x96x128 .bf16) : St F := { x with s3 := v }
def St.set4 (x : St F) (v : Vec F S128x240 .bf16) : St F := { x with s4 := v }
def St.set5 (x : St F) (v : Vec F S1x384 .f32) : St F := { x with s5 := v }
def St.set6 (x : St F) (v : Vec F S1x384 .f32) : St F := { x with s6 := v }
def St.set7 (x : St F) (v : Vec F S96x288 .fp8e4m3) : St F := { x with s7 := v }
def St.set8 (x : St F) (v : Vec F S96x128 .f32) : St F := { x with s8 := v }
def St.set9 (x : St F) (v : Vec F S96x128 .f32) : St F := { x with s9 := v }
def St.set10 (x : St F) (v : Vec F S4x96x1024 .bf16) : St F := { x with s10 := v }
def St.set11 (x : St F) (v : Vec F S4x96x1024 .fp8e4m3) : St F := { x with s11 := v }
def St.set12 (x : St F) (v : Vec F S3x4x1024 .f32) : St F := { x with s12 := v }
def St.set13 (x : St F) (v : Vec F S3x1280x128 .bf16) : St F := { x with s13 := v }
def St.set14 (x : St F) (v : Vec F S3x1280x128 .f32) : St F := { x with s14 := v }
def St.set15 (x : St F) (v : Vec F S3x1280x128 .f32) : St F := { x with s15 := v }
def St.set16 (x : St F) (v : Vec F S384x1280 .bf16) : St F := { x with s16 := v }
def St.set17 (x : St F) (v : Vec F S96x128 .f32) : St F := { x with s17 := v }
def St.set18 (x : St F) (v : Vec F S12x128 .f32) : St F := { x with s18 := v }
def St.set19 (x : St F) (v : Vec F S12x128 .f32) : St F := { x with s19 := v }

/-- Each memref, held whole at its component of the state. -/
def Res (c : Dev nD) (arg1 : Memref sig .tc .vmem S4x96x128 .bf16) (arg2 : Memref sig .tc .vmem S4x96x1024 .bf16) (arg3 : Memref sig .tc .vmem S4x96x128 .bf16) (arg4 : Memref sig .tc .vmem S128x240 .bf16) (arg5 arg6 : Memref sig .tc .vmem S1x384 .f32) (arg7 : Memref sig .tc .vmem S96x288 .fp8e4m3) (arg8 arg9 : Memref sig .tc .vmem S96x128 .f32) (arg10 : Memref sig .tc .vmem S4x96x1024 .bf16) (arg11 : Memref sig .tc .vmem S4x96x1024 .fp8e4m3) (arg12 : Memref sig .tc .vmem S3x4x1024 .f32) (arg13 : Memref sig .tc .vmem S3x1280x128 .bf16) (arg14 arg15 : Memref sig .tc .vmem S3x1280x128 .f32) (arg16 : Memref sig .tc .vmem S384x1280 .bf16) (arg17 : Memref sig .tc .vmem S96x128 .f32) (arg18 arg19 : Memref sig .tc .vmem S12x128 .f32) (x : St F) : sProp 𝕄 :=
  iprop(owns (c : Thread nD τ) arg1 fullShare x.s1
    ∗ owns (c : Thread nD τ) arg2 fullShare x.s2
    ∗ owns (c : Thread nD τ) arg3 fullShare x.s3
    ∗ owns (c : Thread nD τ) arg4 fullShare x.s4
    ∗ owns (c : Thread nD τ) arg5 fullShare x.s5
    ∗ owns (c : Thread nD τ) arg6 fullShare x.s6
    ∗ owns (c : Thread nD τ) arg7 fullShare x.s7
    ∗ owns (c : Thread nD τ) arg8 fullShare x.s8
    ∗ owns (c : Thread nD τ) arg9 fullShare x.s9
    ∗ owns (c : Thread nD τ) arg10 fullShare x.s10
    ∗ owns (c : Thread nD τ) arg11 fullShare x.s11
    ∗ owns (c : Thread nD τ) arg12 fullShare x.s12
    ∗ owns (c : Thread nD τ) arg13 fullShare x.s13
    ∗ owns (c : Thread nD τ) arg14 fullShare x.s14
    ∗ owns (c : Thread nD τ) arg15 fullShare x.s15
    ∗ owns (c : Thread nD τ) arg16 fullShare x.s16
    ∗ owns (c : Thread nD τ) arg17 fullShare x.s17
    ∗ owns (c : Thread nD τ) arg18 fullShare x.s18
    ∗ owns (c : Thread nD τ) arg19 fullShare x.s19)

variable {arg1 : Memref sig .tc .vmem S4x96x128 .bf16} {arg2 : Memref sig .tc .vmem S4x96x1024 .bf16} {arg3 : Memref sig .tc .vmem S4x96x128 .bf16} {arg4 : Memref sig .tc .vmem S128x240 .bf16} {arg5 : Memref sig .tc .vmem S1x384 .f32} {arg6 : Memref sig .tc .vmem S1x384 .f32} {arg7 : Memref sig .tc .vmem S96x288 .fp8e4m3} {arg8 : Memref sig .tc .vmem S96x128 .f32} {arg9 : Memref sig .tc .vmem S96x128 .f32} {arg10 : Memref sig .tc .vmem S4x96x1024 .bf16} {arg11 : Memref sig .tc .vmem S4x96x1024 .fp8e4m3} {arg12 : Memref sig .tc .vmem S3x4x1024 .f32} {arg13 : Memref sig .tc .vmem S3x1280x128 .bf16} {arg14 : Memref sig .tc .vmem S3x1280x128 .f32} {arg15 : Memref sig .tc .vmem S3x1280x128 .f32} {arg16 : Memref sig .tc .vmem S384x1280 .bf16} {arg17 : Memref sig .tc .vmem S96x128 .f32} {arg18 : Memref sig .tc .vmem S12x128 .f32} {arg19 : Memref sig .tc .vmem S12x128 .f32}

theorem acc1 (c : Dev nD) :
    Acc (c : Thread nD τ) (Res (F := F) c arg1 arg2 arg3 arg4 arg5 arg6 arg7 arg8 arg9 arg10 arg11 arg12 arg13 arg14 arg15 arg16 arg17 arg18 arg19) arg1 St.s1 St.set1 := by
  refine ⟨fun _ => rfl, fun x => ?_⟩
  unfold Res
  iintro ⟨H1, H2, H3, H4, H5, H6, H7, H8, H9, H10, H11, H12, H13, H14, H15, H16, H17, H18, H19⟩
  isplitl [H1]
  · iexact H1
  iintro %X HX
  isplitl [HX]; · iexact HX
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc2 (c : Dev nD) :
    Acc (c : Thread nD τ) (Res (F := F) c arg1 arg2 arg3 arg4 arg5 arg6 arg7 arg8 arg9 arg10 arg11 arg12 arg13 arg14 arg15 arg16 arg17 arg18 arg19) arg2 St.s2 St.set2 := by
  refine ⟨fun _ => rfl, fun x => ?_⟩
  unfold Res
  iintro ⟨H1, H2, H3, H4, H5, H6, H7, H8, H9, H10, H11, H12, H13, H14, H15, H16, H17, H18, H19⟩
  isplitl [H2]
  · iexact H2
  iintro %X HX
  isplitl [H1]; · iexact H1
  isplitl [HX]; · iexact HX
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc3 (c : Dev nD) :
    Acc (c : Thread nD τ) (Res (F := F) c arg1 arg2 arg3 arg4 arg5 arg6 arg7 arg8 arg9 arg10 arg11 arg12 arg13 arg14 arg15 arg16 arg17 arg18 arg19) arg3 St.s3 St.set3 := by
  refine ⟨fun _ => rfl, fun x => ?_⟩
  unfold Res
  iintro ⟨H1, H2, H3, H4, H5, H6, H7, H8, H9, H10, H11, H12, H13, H14, H15, H16, H17, H18, H19⟩
  isplitl [H3]
  · iexact H3
  iintro %X HX
  isplitl [H1]; · iexact H1
  isplitl [H2]; · iexact H2
  isplitl [HX]; · iexact HX
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc4 (c : Dev nD) :
    Acc (c : Thread nD τ) (Res (F := F) c arg1 arg2 arg3 arg4 arg5 arg6 arg7 arg8 arg9 arg10 arg11 arg12 arg13 arg14 arg15 arg16 arg17 arg18 arg19) arg4 St.s4 St.set4 := by
  refine ⟨fun _ => rfl, fun x => ?_⟩
  unfold Res
  iintro ⟨H1, H2, H3, H4, H5, H6, H7, H8, H9, H10, H11, H12, H13, H14, H15, H16, H17, H18, H19⟩
  isplitl [H4]
  · iexact H4
  iintro %X HX
  isplitl [H1]; · iexact H1
  isplitl [H2]; · iexact H2
  isplitl [H3]; · iexact H3
  isplitl [HX]; · iexact HX
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc5 (c : Dev nD) :
    Acc (c : Thread nD τ) (Res (F := F) c arg1 arg2 arg3 arg4 arg5 arg6 arg7 arg8 arg9 arg10 arg11 arg12 arg13 arg14 arg15 arg16 arg17 arg18 arg19) arg5 St.s5 St.set5 := by
  refine ⟨fun _ => rfl, fun x => ?_⟩
  unfold Res
  iintro ⟨H1, H2, H3, H4, H5, H6, H7, H8, H9, H10, H11, H12, H13, H14, H15, H16, H17, H18, H19⟩
  isplitl [H5]
  · iexact H5
  iintro %X HX
  isplitl [H1]; · iexact H1
  isplitl [H2]; · iexact H2
  isplitl [H3]; · iexact H3
  isplitl [H4]; · iexact H4
  isplitl [HX]; · iexact HX
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc6 (c : Dev nD) :
    Acc (c : Thread nD τ) (Res (F := F) c arg1 arg2 arg3 arg4 arg5 arg6 arg7 arg8 arg9 arg10 arg11 arg12 arg13 arg14 arg15 arg16 arg17 arg18 arg19) arg6 St.s6 St.set6 := by
  refine ⟨fun _ => rfl, fun x => ?_⟩
  unfold Res
  iintro ⟨H1, H2, H3, H4, H5, H6, H7, H8, H9, H10, H11, H12, H13, H14, H15, H16, H17, H18, H19⟩
  isplitl [H6]
  · iexact H6
  iintro %X HX
  isplitl [H1]; · iexact H1
  isplitl [H2]; · iexact H2
  isplitl [H3]; · iexact H3
  isplitl [H4]; · iexact H4
  isplitl [H5]; · iexact H5
  isplitl [HX]; · iexact HX
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc7 (c : Dev nD) :
    Acc (c : Thread nD τ) (Res (F := F) c arg1 arg2 arg3 arg4 arg5 arg6 arg7 arg8 arg9 arg10 arg11 arg12 arg13 arg14 arg15 arg16 arg17 arg18 arg19) arg7 St.s7 St.set7 := by
  refine ⟨fun _ => rfl, fun x => ?_⟩
  unfold Res
  iintro ⟨H1, H2, H3, H4, H5, H6, H7, H8, H9, H10, H11, H12, H13, H14, H15, H16, H17, H18, H19⟩
  isplitl [H7]
  · iexact H7
  iintro %X HX
  isplitl [H1]; · iexact H1
  isplitl [H2]; · iexact H2
  isplitl [H3]; · iexact H3
  isplitl [H4]; · iexact H4
  isplitl [H5]; · iexact H5
  isplitl [H6]; · iexact H6
  isplitl [HX]; · iexact HX
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc8 (c : Dev nD) :
    Acc (c : Thread nD τ) (Res (F := F) c arg1 arg2 arg3 arg4 arg5 arg6 arg7 arg8 arg9 arg10 arg11 arg12 arg13 arg14 arg15 arg16 arg17 arg18 arg19) arg8 St.s8 St.set8 := by
  refine ⟨fun _ => rfl, fun x => ?_⟩
  unfold Res
  iintro ⟨H1, H2, H3, H4, H5, H6, H7, H8, H9, H10, H11, H12, H13, H14, H15, H16, H17, H18, H19⟩
  isplitl [H8]
  · iexact H8
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc9 (c : Dev nD) :
    Acc (c : Thread nD τ) (Res (F := F) c arg1 arg2 arg3 arg4 arg5 arg6 arg7 arg8 arg9 arg10 arg11 arg12 arg13 arg14 arg15 arg16 arg17 arg18 arg19) arg9 St.s9 St.set9 := by
  refine ⟨fun _ => rfl, fun x => ?_⟩
  unfold Res
  iintro ⟨H1, H2, H3, H4, H5, H6, H7, H8, H9, H10, H11, H12, H13, H14, H15, H16, H17, H18, H19⟩
  isplitl [H9]
  · iexact H9
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HX]; · iexact HX
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc10 (c : Dev nD) :
    Acc (c : Thread nD τ) (Res (F := F) c arg1 arg2 arg3 arg4 arg5 arg6 arg7 arg8 arg9 arg10 arg11 arg12 arg13 arg14 arg15 arg16 arg17 arg18 arg19) arg10 St.s10 St.set10 := by
  refine ⟨fun _ => rfl, fun x => ?_⟩
  unfold Res
  iintro ⟨H1, H2, H3, H4, H5, H6, H7, H8, H9, H10, H11, H12, H13, H14, H15, H16, H17, H18, H19⟩
  isplitl [H10]
  · iexact H10
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX]; · iexact HX
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc11 (c : Dev nD) :
    Acc (c : Thread nD τ) (Res (F := F) c arg1 arg2 arg3 arg4 arg5 arg6 arg7 arg8 arg9 arg10 arg11 arg12 arg13 arg14 arg15 arg16 arg17 arg18 arg19) arg11 St.s11 St.set11 := by
  refine ⟨fun _ => rfl, fun x => ?_⟩
  unfold Res
  iintro ⟨H1, H2, H3, H4, H5, H6, H7, H8, H9, H10, H11, H12, H13, H14, H15, H16, H17, H18, H19⟩
  isplitl [H11]
  · iexact H11
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HX]; · iexact HX
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem acc12 (c : Dev nD) :
    Acc (c : Thread nD τ) (Res (F := F) c arg1 arg2 arg3 arg4 arg5 arg6 arg7 arg8 arg9 arg10 arg11 arg12 arg13 arg14 arg15 arg16 arg17 arg18 arg19) arg12 St.s12 St.set12 := by
  refine ⟨fun _ => rfl, fun x => ?_⟩
  unfold Res
  iintro ⟨H1, H2, H3, H4, H5, H6, H7, H8, H9, H10, H11, H12, H13, H14, H15, H16, H17, H18, H19⟩
  isplitl [H12]
  · iexact H12
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HX]; · iexact HX
  isplitl [H13]; · iexact H13
  isplitl [H14]; · iexact H14
  isplitl [H15]; · iexact H15
  isplitl [H16]; · iexact H16
  isplitl [H17]; · iexact H17
  isplitl [H18]; · iexact H18
  iexact H19

theorem acc13 (c : Dev nD) :
    Acc (c : Thread nD τ) (Res (F := F) c arg1 arg2 arg3 arg4 arg5 arg6 arg7 arg8 arg9 arg10 arg11 arg12 arg13 arg14 arg15 arg16 arg17 arg18 arg19) arg13 St.s13 St.set13 := by
  refine ⟨fun _ => rfl, fun x => ?_⟩
  unfold Res
  iintro ⟨H1, H2, H3, H4, H5, H6, H7, H8, H9, H10, H11, H12, H13, H14, H15, H16, H17, H18, H19⟩
  isplitl [H13]
  · iexact H13
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HX]; · iexact HX
  isplitl [H14]; · iexact H14
  isplitl [H15]; · iexact H15
  isplitl [H16]; · iexact H16
  isplitl [H17]; · iexact H17
  isplitl [H18]; · iexact H18
  iexact H19

theorem acc14 (c : Dev nD) :
    Acc (c : Thread nD τ) (Res (F := F) c arg1 arg2 arg3 arg4 arg5 arg6 arg7 arg8 arg9 arg10 arg11 arg12 arg13 arg14 arg15 arg16 arg17 arg18 arg19) arg14 St.s14 St.set14 := by
  refine ⟨fun _ => rfl, fun x => ?_⟩
  unfold Res
  iintro ⟨H1, H2, H3, H4, H5, H6, H7, H8, H9, H10, H11, H12, H13, H14, H15, H16, H17, H18, H19⟩
  isplitl [H14]
  · iexact H14
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HX]; · iexact HX
  isplitl [H15]; · iexact H15
  isplitl [H16]; · iexact H16
  isplitl [H17]; · iexact H17
  isplitl [H18]; · iexact H18
  iexact H19

theorem acc15 (c : Dev nD) :
    Acc (c : Thread nD τ) (Res (F := F) c arg1 arg2 arg3 arg4 arg5 arg6 arg7 arg8 arg9 arg10 arg11 arg12 arg13 arg14 arg15 arg16 arg17 arg18 arg19) arg15 St.s15 St.set15 := by
  refine ⟨fun _ => rfl, fun x => ?_⟩
  unfold Res
  iintro ⟨H1, H2, H3, H4, H5, H6, H7, H8, H9, H10, H11, H12, H13, H14, H15, H16, H17, H18, H19⟩
  isplitl [H15]
  · iexact H15
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HX]; · iexact HX
  isplitl [H16]; · iexact H16
  isplitl [H17]; · iexact H17
  isplitl [H18]; · iexact H18
  iexact H19

theorem acc16 (c : Dev nD) :
    Acc (c : Thread nD τ) (Res (F := F) c arg1 arg2 arg3 arg4 arg5 arg6 arg7 arg8 arg9 arg10 arg11 arg12 arg13 arg14 arg15 arg16 arg17 arg18 arg19) arg16 St.s16 St.set16 := by
  refine ⟨fun _ => rfl, fun x => ?_⟩
  unfold Res
  iintro ⟨H1, H2, H3, H4, H5, H6, H7, H8, H9, H10, H11, H12, H13, H14, H15, H16, H17, H18, H19⟩
  isplitl [H16]
  · iexact H16
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HX]; · iexact HX
  isplitl [H17]; · iexact H17
  isplitl [H18]; · iexact H18
  iexact H19

theorem acc17 (c : Dev nD) :
    Acc (c : Thread nD τ) (Res (F := F) c arg1 arg2 arg3 arg4 arg5 arg6 arg7 arg8 arg9 arg10 arg11 arg12 arg13 arg14 arg15 arg16 arg17 arg18 arg19) arg17 St.s17 St.set17 := by
  refine ⟨fun _ => rfl, fun x => ?_⟩
  unfold Res
  iintro ⟨H1, H2, H3, H4, H5, H6, H7, H8, H9, H10, H11, H12, H13, H14, H15, H16, H17, H18, H19⟩
  isplitl [H17]
  · iexact H17
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HX]; · iexact HX
  isplitl [H18]; · iexact H18
  iexact H19

theorem acc18 (c : Dev nD) :
    Acc (c : Thread nD τ) (Res (F := F) c arg1 arg2 arg3 arg4 arg5 arg6 arg7 arg8 arg9 arg10 arg11 arg12 arg13 arg14 arg15 arg16 arg17 arg18 arg19) arg18 St.s18 St.set18 := by
  refine ⟨fun _ => rfl, fun x => ?_⟩
  unfold Res
  iintro ⟨H1, H2, H3, H4, H5, H6, H7, H8, H9, H10, H11, H12, H13, H14, H15, H16, H17, H18, H19⟩
  isplitl [H18]
  · iexact H18
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HX]; · iexact HX
  iexact H19

theorem acc19 (c : Dev nD) :
    Acc (c : Thread nD τ) (Res (F := F) c arg1 arg2 arg3 arg4 arg5 arg6 arg7 arg8 arg9 arg10 arg11 arg12 arg13 arg14 arg15 arg16 arg17 arg18 arg19) arg19 St.s19 St.set19 := by
  refine ⟨fun _ => rfl, fun x => ?_⟩
  unfold Res
  iintro ⟨H1, H2, H3, H4, H5, H6, H7, H8, H9, H10, H11, H12, H13, H14, H15, H16, H17, H18, H19⟩
  isplitl [H19]
  · iexact H19
  iintro %X HX
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HX

end Cert.KernelIdeal.Run

end

end
-- ==== Proof.KernelIdealRun.lean ====
/-
  Every part of the printed kernel body as a state function, and that it runs as that function.
-/
module

public import proofs.«01_k».proof.Proof.KernelIdealState

@[expose] public section

set_option maxRecDepth 16384
set_option maxHeartbeats 1000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Sem Cert.KernelIdeal.Gen

variable {F : FTy → Type} [FloatOps F]

variable {arg1 : Memref sig .tc .vmem S4x96x128 .bf16} {w1 : arg1.IsWhole} {arg2 : Memref sig .tc .vmem S4x96x1024 .bf16} {w2 : arg2.IsWhole} {arg3 : Memref sig .tc .vmem S4x96x128 .bf16} {w3 : arg3.IsWhole} {arg4 : Memref sig .tc .vmem S128x240 .bf16} {w4 : arg4.IsWhole} {arg5 : Memref sig .tc .vmem S1x384 .f32} {w5 : arg5.IsWhole} {arg6 : Memref sig .tc .vmem S1x384 .f32} {w6 : arg6.IsWhole} {arg7 : Memref sig .tc .vmem S96x288 .fp8e4m3} {w7 : arg7.IsWhole} {arg8 : Memref sig .tc .vmem S96x128 .f32} {w8 : arg8.IsWhole} {arg9 : Memref sig .tc .vmem S96x128 .f32} {w9 : arg9.IsWhole} {arg10 : Memref sig .tc .vmem S4x96x1024 .bf16} {w10 : arg10.IsWhole} {arg11 : Memref sig .tc .vmem S4x96x1024 .fp8e4m3} {w11 : arg11.IsWhole} {arg12 : Memref sig .tc .vmem S3x4x1024 .f32} {w12 : arg12.IsWhole} {arg13 : Memref sig .tc .vmem S3x1280x128 .bf16} {w13 : arg13.IsWhole} {arg14 : Memref sig .tc .vmem S3x1280x128 .f32} {w14 : arg14.IsWhole} {arg15 : Memref sig .tc .vmem S3x1280x128 .f32} {w15 : arg15.IsWhole} {arg16 : Memref sig .tc .vmem S384x1280 .bf16} {w16 : arg16.IsWhole} {arg17 : Memref sig .tc .vmem S96x128 .f32} {w17 : arg17.IsWhole} {arg18 : Memref sig .tc .vmem S12x128 .f32} {w18 : arg18.IsWhole} {arg19 : Memref sig .tc .vmem S12x128 .f32} {w19 : arg19.IsWhole}

/-- `p` runs on device `c` as the state function `f`. -/
abbrev Runs {α : Type} (c : Dev nD) (R : St F → sProp (MT nD τ sig Unit (Elt F) ℕ (UR sig nD τ) ℕ))
    (p : Prog (TpuEff nD τ sig (Elt F) Λ₀ .tc) α) (f : M (St F) α) : Prop :=
  Den (defs₀ (F := F)) Variants.none (c : Thread nD τ) none Set.univ R p f

def m_part38 (i : grid0.Coords) (v63 : IVec S1x128 32) (c0_i32_43 c1_i32_45 : BitVec 32) (k0_t4 : Fin k0_t4_loop.trips) : M (St F) ((Σ' (v68 : BitVec 32) (v96 : FVec F S288x128 .bf16), FVec F S96x288 .fp8e4m3)) := do
  let arg20 : BitVec 32 := Scf.iv c0_i32_43 c1_i32_45 k0_t4
  let v65 : BitVec 32 := Scalar.muli arg20 1#32
  let v66 : BitVec 32 := Scalar.addi 0#32 v65
  let v67 : BitVec 32 := Scalar.muli v66 128#32
  let v68 : BitVec 32 := v67
  let v70 : Vec F S96x128 .bf16 ← ld St.s16 (Rect.unit (s := S384x1280) (k0_off50 k0_t4) S96x128.size (k0_off50_inb k0_t4)).toLoadRect
  let v74 : Vec F S96x128 .bf16 ← ld St.s16 (Rect.unit (s := S384x1280) (k0_off51 k0_t4 128#32) S96x128.size (k0_off51_inb k0_t4 0)).toLoadRect
  let v78 : Vec F S96x128 .bf16 ← ld St.s16 (Rect.unit (s := S384x1280) (k0_off51 k0_t4 256#32) S96x128.size (k0_off51_inb k0_t4 1)).toLoadRect
  let v97 : Vec F S96x288 .fp8e4m3 ← ld St.s7 (Rect.unit (s := S96x288) ![0, 0] S96x288.size inb_S96x288_S96x288_0_0).toLoadRect
  pure ⟨v68, k0_pay164 v63 v70 v74 v78, k0_pay165 v97⟩

theorem den_part38 (c : Dev nD) (i : grid0.Coords) (v63 : IVec S1x128 32) (c0_i32_43 c1_i32_45 : BitVec 32) (k0_t4 : Fin k0_t4_loop.trips) :
    Runs c (Res c arg1 arg2 arg3 arg4 arg5 arg6 arg7 arg8 arg9 arg10 arg11 arg12 arg13 arg14 arg15 arg16 arg17 arg18 arg19) (k0_part38 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 c0_i32_43 c1_i32_45 k0_t4) (m_part38 i v63 c0_i32_43 c1_i32_45 k0_t4) := by
  rw [k0_part38_eq_skeleton]; unfold k0_part38_skel m_part38
  let arg20 : BitVec 32 := Scf.iv c0_i32_43 c1_i32_45 k0_t4
  let v65 : BitVec 32 := Scalar.muli arg20 1#32
  let v66 : BitVec 32 := Scalar.addi 0#32 v65
  let v67 : BitVec 32 := Scalar.muli v66 128#32
  let v68 : BitVec 32 := v67
  refine den_rd (acc16 c) fun v70 => den_rd (acc16 c) fun v74 => den_rd (acc16 c) fun v78 => den_rd (acc7 c) fun v97 => ?_
  exact den_pure _

def m_part39 (i : grid0.Coords) (v63 : IVec S1x128 32) (k0_t4 : Fin k0_t4_loop.trips) (v68 : BitVec 32) (v96 : FVec F S288x128 .bf16) (v98 : FVec F S96x288 .fp8e4m3) : M (St F) ((Σ' (v122 : Vec F S96x128 .bf16) (v123_lo v123_hi v127_lo v127_hi v134_lo : FVec F S48x128 .bf16), FVec F S48x128 .bf16)) := do
  let v102 : Vec F S1x96x128 .bf16 ← ld St.s2 (Rect.unit (s := S4x96x1024) (k0_off52 k0_t4) S1x96x128.size (k0_off52_inb k0_t4)).toLoadRect
  let v105 : Vec F S96x128 .f32 ← ld St.s8 (Rect.unit (s := S96x128) ![0, 0] S96x128.size inb_S96x128_S96x128_0_0).toLoadRect
  let v108 : Vec F S96x128 .f32 ← ld St.s9 (Rect.unit (s := S96x128) ![0, 0] S96x128.size inb_S96x128_S96x128_0_0).toLoadRect
  st St.s10 St.set10 (k0_off52 k0_t4) S1x96x128.size (k0_pay166 v96 v98 v102 v105 v108)
  let v118 : Vec F S96x128 .bf16 ← ld St.s16 (Rect.unit (s := S384x1280) (k0_off53 k0_t4) S96x128.size (k0_off53_inb k0_t4)).toLoadRect
  let v122 : Vec F S96x128 .bf16 ← ld St.s16 (Rect.unit (s := S384x1280) (k0_off54 k0_t4 128#32) S96x128.size (k0_off54_inb k0_t4 0)).toLoadRect
  let v126 : Vec F S96x128 .bf16 ← ld St.s16 (Rect.unit (s := S384x1280) (k0_off54 k0_t4 256#32) S96x128.size (k0_off54_inb k0_t4 1)).toLoadRect
  pure ⟨v122, k0_pay167 v122, k0_pay168 v122, k0_pay169 v126, k0_pay170 v126, k0_pay172 v63 v118 v122, k0_pay173 v63 v118 v122⟩

theorem den_part39 (c : Dev nD) (i : grid0.Coords) (v63 : IVec S1x128 32) (k0_t4 : Fin k0_t4_loop.trips) (v68 : BitVec 32) (v96 : FVec F S288x128 .bf16) (v98 : FVec F S96x288 .fp8e4m3) :
    Runs c (Res c arg1 arg2 arg3 arg4 arg5 arg6 arg7 arg8 arg9 arg10 arg11 arg12 arg13 arg14 arg15 arg16 arg17 arg18 arg19) (k0_part39 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v96 v98) (m_part39 i v63 k0_t4 v68 v96 v98) := by
  rw [k0_part39_eq_skeleton]; unfold k0_part39_skel m_part39
  refine den_rd (acc2 c) fun v102 => den_rd (acc8 c) fun v105 => den_rd (acc9 c) fun v108 => den_put (acc10 c) fun _ => den_rd (acc16 c) fun v118 => ?_
  refine den_rd (acc16 c) fun v122 => den_rd (acc16 c) fun v126 => ?_
  exact den_pure _

def m_part40 (i : grid0.Coords) (v63 : IVec S1x128 32) (k0_t4 : Fin k0_t4_loop.trips) (v68 : BitVec 32) (v122 : Vec F S96x128 .bf16) (v123_lo v123_hi v127_lo v127_hi v134_lo v134_hi : FVec F S48x128 .bf16) : M (St F) ((Σ' (v167_lo v167_hi : FVec F S48x128 .bf16) (v170 : Vec F S96x128 .bf16) (v171_lo : FVec F S48x128 .bf16), FVec F S48x128 .bf16)) := do
  let v145 : Vec F S96x288 .fp8e4m3 ← ld St.s7 (Rect.unit (s := S96x288) ![0, 0] S96x288.size inb_S96x288_S96x288_0_0).toLoadRect
  let v150 : Vec F S1x96x128 .bf16 ← ld St.s2 (Rect.unit (s := S4x96x1024) (k0_off55 k0_t4) S1x96x128.size (k0_off55_inb k0_t4)).toLoadRect
  let v153 : Vec F S96x128 .f32 ← ld St.s8 (Rect.unit (s := S96x128) ![0, 0] S96x128.size inb_S96x128_S96x128_0_0).toLoadRect
  let v156 : Vec F S96x128 .f32 ← ld St.s9 (Rect.unit (s := S96x128) ![0, 0] S96x128.size inb_S96x128_S96x128_0_0).toLoadRect
  st St.s10 St.set10 (k0_off55 k0_t4) S1x96x128.size (k0_pay174 v63 v122 v123_lo v123_hi v127_lo v127_hi v134_lo v134_hi v145 v150 v153 v156)
  let v166 : Vec F S96x128 .bf16 ← ld St.s16 (Rect.unit (s := S384x1280) (k0_off56 k0_t4) S96x128.size (k0_off56_inb k0_t4)).toLoadRect
  let v170 : Vec F S96x128 .bf16 ← ld St.s16 (Rect.unit (s := S384x1280) (k0_off57 k0_t4 128#32) S96x128.size (k0_off57_inb k0_t4 0)).toLoadRect
  pure ⟨k0_pay175 v166, k0_pay176 v166, v170, k0_pay177 v170, k0_pay178 v170⟩

theorem den_part40 (c : Dev nD) (i : grid0.Coords) (v63 : IVec S1x128 32) (k0_t4 : Fin k0_t4_loop.trips) (v68 : BitVec 32) (v122 : Vec F S96x128 .bf16) (v123_lo v123_hi v127_lo v127_hi v134_lo v134_hi : FVec F S48x128 .bf16) :
    Runs c (Res c arg1 arg2 arg3 arg4 arg5 arg6 arg7 arg8 arg9 arg10 arg11 arg12 arg13 arg14 arg15 arg16 arg17 arg18 arg19) (k0_part40 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v122 v123_lo v123_hi v127_lo v127_hi v134_lo v134_hi) (m_part40 i v63 k0_t4 v68 v122 v123_lo v123_hi v127_lo v127_hi v134_lo v134_hi) := by
  rw [k0_part40_eq_skeleton]; unfold k0_part40_skel m_part40
  refine den_rd (acc7 c) fun v145 => den_rd (acc2 c) fun v150 => den_rd (acc8 c) fun v153 => den_rd (acc9 c) fun v156 => den_put (acc10 c) fun _ => ?_
  refine den_rd (acc16 c) fun v166 => den_rd (acc16 c) fun v170 => ?_
  exact den_pure _

def m_part41 (i : grid0.Coords) (v63 : IVec S1x128 32) (k0_t4 : Fin k0_t4_loop.trips) (v68 : BitVec 32) (v167_lo v167_hi : FVec F S48x128 .bf16) (v170 : Vec F S96x128 .bf16) (v171_lo v171_hi : FVec F S48x128 .bf16) : M (St F) ((FVec F S96x128 .f32)) := do
  let v174 : Vec F S96x128 .bf16 ← ld St.s16 (Rect.unit (s := S384x1280) (k0_off57 k0_t4 256#32) S96x128.size (k0_off57_inb k0_t4 1)).toLoadRect
  let v193 : Vec F S96x288 .fp8e4m3 ← ld St.s7 (Rect.unit (s := S96x288) ![0, 0] S96x288.size inb_S96x288_S96x288_0_0).toLoadRect
  let v198 : Vec F S1x96x128 .bf16 ← ld St.s2 (Rect.unit (s := S4x96x1024) (k0_off58 k0_t4) S1x96x128.size (k0_off58_inb k0_t4)).toLoadRect
  let v201 : Vec F S96x128 .f32 ← ld St.s8 (Rect.unit (s := S96x128) ![0, 0] S96x128.size inb_S96x128_S96x128_0_0).toLoadRect
  let v204 : Vec F S96x128 .f32 ← ld St.s9 (Rect.unit (s := S96x128) ![0, 0] S96x128.size inb_S96x128_S96x128_0_0).toLoadRect
  pure (k0_pay179 v63 v167_lo v167_hi v170 v171_lo v171_hi v174 v193 v198 v201 v204)

theorem den_part41 (c : Dev nD) (i : grid0.Coords) (v63 : IVec S1x128 32) (k0_t4 : Fin k0_t4_loop.trips) (v68 : BitVec 32) (v167_lo v167_hi : FVec F S48x128 .bf16) (v170 : Vec F S96x128 .bf16) (v171_lo v171_hi : FVec F S48x128 .bf16) :
    Runs c (Res c arg1 arg2 arg3 arg4 arg5 arg6 arg7 arg8 arg9 arg10 arg11 arg12 arg13 arg14 arg15 arg16 arg17 arg18 arg19) (k0_part41 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v167_lo v167_hi v170 v171_lo v171_hi) (m_part41 i v63 k0_t4 v68 v167_lo v167_hi v170 v171_lo v171_hi) := by
  rw [k0_part41_eq_skeleton]; unfold k0_part41_skel m_part41
  refine den_rd (acc16 c) fun v174 => den_rd (acc7 c) fun v193 => den_rd (acc2 c) fun v198 => den_rd (acc8 c) fun v201 => den_rd (acc9 c) fun v204 => ?_
  exact den_pure _

def m_part42 (i : grid0.Coords) (v63 : IVec S1x128 32) (k0_t4 : Fin k0_t4_loop.trips) (v68 : BitVec 32) (v207 : FVec F S96x128 .f32) : M (St F) ((Σ' (v240 : FVec F S288x128 .bf16), FVec F S96x288 .fp8e4m3)) := do
  st St.s10 St.set10 (k0_off58 k0_t4) S1x96x128.size (k0_pay180 v207)
  let v214 : Vec F S96x128 .bf16 ← ld St.s16 (Rect.unit (s := S384x1280) (k0_off59 k0_t4) S96x128.size (k0_off59_inb k0_t4)).toLoadRect
  let v218 : Vec F S96x128 .bf16 ← ld St.s16 (Rect.unit (s := S384x1280) (k0_off60 k0_t4 128#32) S96x128.size (k0_off60_inb k0_t4 0)).toLoadRect
  let v222 : Vec F S96x128 .bf16 ← ld St.s16 (Rect.unit (s := S384x1280) (k0_off60 k0_t4 256#32) S96x128.size (k0_off60_inb k0_t4 1)).toLoadRect
  let v241 : Vec F S96x288 .fp8e4m3 ← ld St.s7 (Rect.unit (s := S96x288) ![0, 0] S96x288.size inb_S96x288_S96x288_0_0).toLoadRect
  pure ⟨k0_pay181 v63 v214 v218 v222, k0_pay182 v241⟩

theorem den_part42 (c : Dev nD) (i : grid0.Coords) (v63 : IVec S1x128 32) (k0_t4 : Fin k0_t4_loop.trips) (v68 : BitVec 32) (v207 : FVec F S96x128 .f32) :
    Runs c (Res c arg1 arg2 arg3 arg4 arg5 arg6 arg7 arg8 arg9 arg10 arg11 arg12 arg13 arg14 arg15 arg16 arg17 arg18 arg19) (k0_part42 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 v68 v207) (m_part42 i v63 k0_t4 v68 v207) := by
  rw [k0_part42_eq_skeleton]; unfold k0_part42_skel m_part42
  refine den_put (acc10 c) fun _ => den_rd (acc16 c) fun v214 => den_rd (acc16 c) fun v218 => den_rd (acc16 c) fun v222 => den_rd (acc7 c) fun v241 => ?_
  exact den_pure _

def m_t4 (i : grid0.Coords) (v63 : IVec S1x128 32) :
    Fin k0_t4_loop.trips → Unit → M (St F) Unit :=
  fun k0_t4 _ => do
let ⟨v68, v96, v98⟩ : Σ' (v68 : BitVec 32) (v96 : FVec F S288x128 .bf16), FVec F S96x288 .fp8e4m3 ← m_part38 i v63 0#32 1#32 k0_t4
let ⟨v122, v123_lo, v123_hi, v127_lo, v127_hi, v134_lo, v134_hi⟩ : Σ' (v122 : Vec F S96x128 .bf16) (v123_lo v123_hi v127_lo v127_hi v134_lo : FVec F S48x128 .bf16), FVec F S48x128 .bf16 ← m_part39 i v63 k0_t4 v68 v96 v98
let ⟨v167_lo, v167_hi, v170, v171_lo, v171_hi⟩ : Σ' (v167_lo v167_hi : FVec F S48x128 .bf16) (v170 : Vec F S96x128 .bf16) (v171_lo : FVec F S48x128 .bf16), FVec F S48x128 .bf16 ← m_part40 i v63 k0_t4 v68 v122 v123_lo v123_hi v127_lo v127_hi v134_lo v134_hi
let v207 : FVec F S96x128 .f32 ← m_part41 i v63 k0_t4 v68 v167_lo v167_hi v170 v171_lo v171_hi
let ⟨v240, v242⟩ : Σ' (v240 : FVec F S288x128 .bf16), FVec F S96x288 .fp8e4m3 ← m_part42 i v63 k0_t4 v68 v207
let v246 : Vec F S1x96x128 .bf16 ← ld St.s2 (Rect.unit (s := S4x96x1024) (k0_off61 k0_t4) S1x96x128.size (k0_off61_inb k0_t4)).toLoadRect
let v249 : Vec F S96x128 .f32 ← ld St.s8 (Rect.unit (s := S96x128) ![0, 0] S96x128.size inb_S96x128_S96x128_0_0).toLoadRect
let v252 : Vec F S96x128 .f32 ← ld St.s9 (Rect.unit (s := S96x128) ![0, 0] S96x128.size inb_S96x128_S96x128_0_0).toLoadRect
st St.s10 St.set10 (k0_off61 k0_t4) S1x96x128.size (k0_pay3 v240 v242 v246 v249 v252)
pure ⟨⟩

theorem den_t4 (c : Dev nD) (i : grid0.Coords) (v63 : IVec S1x128 32) (k0_t4 : Fin k0_t4_loop.trips) (a : Unit) :
    Runs c (Res c arg1 arg2 arg3 arg4 arg5 arg6 arg7 arg8 arg9 arg10 arg11 arg12 arg13 arg14 arg15 arg16 arg17 arg18 arg19) (k0_t4_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v63 k0_t4 a) (m_t4 i v63 k0_t4 a) := by
  unfold k0_t4_body m_t4
  refine den_bind (den_part38 c i v63 0#32 1#32 k0_t4) fun ⟨v68, v96, v98⟩ => ?_
  refine den_bind (den_part39 c i v63 k0_t4 v68 v96 v98) fun ⟨v122, v123_lo, v123_hi, v127_lo, v127_hi, v134_lo, v134_hi⟩ => ?_
  refine den_bind (den_part40 c i v63 k0_t4 v68 v122 v123_lo v123_hi v127_lo v127_hi v134_lo v134_hi) fun ⟨v167_lo, v167_hi, v170, v171_lo, v171_hi⟩ => ?_
  refine den_bind (den_part41 c i v63 k0_t4 v68 v167_lo v167_hi v170 v171_lo v171_hi) fun v207 => ?_
  refine den_bind (den_part42 c i v63 k0_t4 v68 v207) fun ⟨v240, v242⟩ => ?_
  refine den_rd (acc2 c) fun v246 => den_rd (acc8 c) fun v249 => den_rd (acc9 c) fun v252 => den_put (acc10 c) fun _ => ?_
  exact den_pure _

def m_part43 (i : grid0.Coords) : M (St F) ((Σ' (arg0 : BitVec 32), FVec F S128x128 .bf16)) := do
  let arg0 : BitVec 32 := BitVec.ofNat 32 (i 0).val
  let v0 : Vec F S4x96x128 .bf16 ← ld St.s1 (Rect.unit (s := S4x96x128) ![0, 0, 0] S4x96x128.size inb_S4x96x128_S4x96x128_0_0_0).toLoadRect
  st St.s13 St.set13 ![0, 0, 0] S1x128x128.size (k0_pay184 v0)
  st St.s13 St.set13 ![1, 0, 0] S1x128x128.size (k0_pay185 v0)
  st St.s13 St.set13 ![2, 0, 0] S1x128x128.size (k0_pay186 v0)
  let v18 : Vec F S4x96x128 .bf16 ← ld St.s3 (Rect.unit (s := S4x96x128) ![0, 0, 0] S4x96x128.size inb_S4x96x128_S4x96x128_0_0_0).toLoadRect
  st St.s13 St.set13 ![0, 1152, 0] S1x128x128.size (k0_pay188 v18)
  st St.s13 St.set13 ![1, 1152, 0] S1x128x128.size (k0_pay189 v18)
  pure ⟨arg0, k0_pay190 v18⟩

theorem den_part43 (c : Dev nD) (i : grid0.Coords) :
    Runs c (Res c arg1 arg2 arg3 arg4 arg5 arg6 arg7 arg8 arg9 arg10 arg11 arg12 arg13 arg14 arg15 arg16 arg17 arg18 arg19) (k0_part43 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) (m_part43 i) := by
  rw [k0_part43_eq_skeleton]; unfold k0_part43_skel m_part43
  let arg0 : BitVec 32 := BitVec.ofNat 32 (i 0).val
  refine den_rd (acc1 c) fun v0 => den_put (acc13 c) fun _ => den_put (acc13 c) fun _ => den_put (acc13 c) fun _ => den_rd (acc3 c) fun v18 => ?_
  refine den_put (acc13 c) fun _ => den_put (acc13 c) fun _ => ?_
  exact den_pure _

def m_t1 (i : grid0.Coords) (arg0 : BitVec 32) (v32 : FVec F S128x128 .bf16) :
    Fin k0_t1_loop.trips → Unit → M (St F) Unit :=
  fun k0_t1 _ => do
let v70 : Vec F S4x96x128 .bf16 ← ld St.s2 (Rect.unit (s := S4x96x1024) (k0_off1 k0_t1) S4x96x128.size (k0_off1_inb k0_t1)).toLoadRect
st St.s13 St.set13 (k0_off2 k0_t1) S1x128x128.size (k0_pay193 v70)
st St.s13 St.set13 (k0_off3 k0_t1) S1x128x128.size (k0_pay194 v70)
st St.s13 St.set13 (k0_off4 k0_t1) S1x128x128.size (k0_pay195 v70)
pure ⟨⟩

theorem den_t1 (c : Dev nD) (i : grid0.Coords) (arg0 : BitVec 32) (v32 : FVec F S128x128 .bf16) (k0_t1 : Fin k0_t1_loop.trips) (a : Unit) :
    Runs c (Res c arg1 arg2 arg3 arg4 arg5 arg6 arg7 arg8 arg9 arg10 arg11 arg12 arg13 arg14 arg15 arg16 arg17 arg18 arg19) (k0_t1_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32 k0_t1 a) (m_t1 i arg0 v32 k0_t1 a) := by
  unfold k0_t1_body m_t1
  refine den_rd (acc2 c) fun v70 => den_put (acc13 c) fun _ => den_put (acc13 c) fun _ => den_put (acc13 c) fun _ => ?_
  exact den_pure _

def m_part1 (i : grid0.Coords) (c0_i32_24 c1_i32_25 : BitVec 32) (k0_t2 : Fin k0_t2_loop.trips) : M (St F) ((Σ' (v68 : BitVec 32) (v84 : FVec F S128x384 .f32) (v85 : FVec F S128x128 .f32), FVec F S128x128 .f32)) := do
  let arg20 : BitVec 32 := Scf.iv c0_i32_24 c1_i32_25 k0_t2
  let v65 : BitVec 32 := Scalar.muli arg20 1#32
  let v66 : BitVec 32 := Scalar.addi 0#32 v65
  let v67 : BitVec 32 := Scalar.muli v66 64#32
  let v68 : BitVec 32 := v67
  let v71 : Vec F S1x80x128 .bf16 ← ld St.s13 (Rect.unit (s := S3x1280x128) (k0_off5 k0_t2) S1x80x128.size (k0_off5_inb k0_t2)).toLoadRect
  let v75 : Vec F S1x80x128 .bf16 ← ld St.s13 (Rect.unit (s := S3x1280x128) (k0_off6 k0_t2) S1x80x128.size (k0_off6_inb k0_t2)).toLoadRect
  let v79 : Vec F S1x80x128 .bf16 ← ld St.s13 (Rect.unit (s := S3x1280x128) (k0_off7 k0_t2) S1x80x128.size (k0_off7_inb k0_t2)).toLoadRect
  let v82 : Vec F S128x240 .bf16 ← ld St.s4 (Rect.unit (s := S128x240) ![0, 0] S128x240.size inb_S128x240_S128x240_0_0).toLoadRect
  let v86 : Vec F S1x128 .f32 ← ld St.s5 (Rect.unit (s := S1x384) ![0, 0] S1x128.size inb_S1x384_S1x128_0_0).toLoadRect
  pure ⟨v68, k0_pay4 v71 v75 v79 v82, k0_pay5 v71 v75 v79 v82, k0_pay6 v71 v75 v79 v82 v86⟩

theorem den_part1 (c : Dev nD) (i : grid0.Coords) (c0_i32_24 c1_i32_25 : BitVec 32) (k0_t2 : Fin k0_t2_loop.trips) :
    Runs c (Res c arg1 arg2 arg3 arg4 arg5 arg6 arg7 arg8 arg9 arg10 arg11 arg12 arg13 arg14 arg15 arg16 arg17 arg18 arg19) (k0_part1 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 c0_i32_24 c1_i32_25 k0_t2) (m_part1 i c0_i32_24 c1_i32_25 k0_t2) := by
  rw [k0_part1_eq_skeleton]; unfold k0_part1_skel m_part1
  let arg20 : BitVec 32 := Scf.iv c0_i32_24 c1_i32_25 k0_t2
  let v65 : BitVec 32 := Scalar.muli arg20 1#32
  let v66 : BitVec 32 := Scalar.addi 0#32 v65
  let v67 : BitVec 32 := Scalar.muli v66 64#32
  let v68 : BitVec 32 := v67
  refine den_rd (acc13 c) fun v71 => den_rd (acc13 c) fun v75 => den_rd (acc13 c) fun v79 => den_rd (acc4 c) fun v82 => den_rd (acc5 c) fun v86 => ?_
  exact den_pure _

def m_part2 (i : grid0.Coords) (k0_t2 : Fin k0_t2_loop.trips) (v68 : BitVec 32) (v84 : FVec F S128x384 .f32) (v85 v101 : FVec F S128x128 .f32) : M (St F) ((Σ' (v144 : FVec F S128x128 .f32), FVec F S64x128 .f32)) := do
  let v102 : Vec F S1x128 .f32 ← ld St.s6 (Rect.unit (s := S1x384) ![0, 0] S1x128.size inb_S1x384_S1x128_0_0).toLoadRect
  st St.s14 St.set14 (k0_off8 k0_t2) S1x64x128.size (k0_pay8 v85 v101 v102)
  st St.s15 St.set15 (k0_off8 k0_t2) S1x64x128.size (k0_pay9 v85 v101 v102)
  let v121 : Vec F S1x128 .f32 ← ld St.s5 (Rect.unit (s := S1x384) ![0, 128] S1x128.size inb_S1x384_S1x128_0_128).toLoadRect
  let v137 : Vec F S1x128 .f32 ← ld St.s6 (Rect.unit (s := S1x384) ![0, 128] S1x128.size inb_S1x384_S1x128_0_128).toLoadRect
  pure ⟨k0_pay10 v84 v121 v137, k0_pay11 v84 v121 v137⟩

theorem den_part2 (c : Dev nD) (i : grid0.Coords) (k0_t2 : Fin k0_t2_loop.trips) (v68 : BitVec 32) (v84 : FVec F S128x384 .f32) (v85 v101 : FVec F S128x128 .f32) :
    Runs c (Res c arg1 arg2 arg3 arg4 arg5 arg6 arg7 arg8 arg9 arg10 arg11 arg12 arg13 arg14 arg15 arg16 arg17 arg18 arg19) (k0_part2 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t2 v68 v84 v85 v101) (m_part2 i k0_t2 v68 v84 v85 v101) := by
  rw [k0_part2_eq_skeleton]; unfold k0_part2_skel m_part2
  refine den_rd (acc6 c) fun v102 => den_put (acc14 c) fun _ => den_put (acc15 c) fun _ => den_rd (acc5 c) fun v121 => den_rd (acc6 c) fun v137 => ?_
  exact den_pure _

def m_part3 (i : grid0.Coords) (k0_t2 : Fin k0_t2_loop.trips) (v68 : BitVec 32) (v84 : FVec F S128x384 .f32) (v144 : FVec F S128x128 .f32) (v145 : FVec F S64x128 .f32) : M (St F) ((Σ' (v185 : FVec F S64x128 .f32), Vec F S1x64x128 .f32)) := do
  st St.s14 St.set14 (k0_off9 k0_t2) S1x64x128.size (k0_pay12 v145)
  st St.s15 St.set15 (k0_off9 k0_t2) S1x64x128.size (k0_pay13 v144)
  let v156 : Vec F S1x128 .f32 ← ld St.s5 (Rect.unit (s := S1x384) ![0, 256] S1x128.size inb_S1x384_S1x128_0_256).toLoadRect
  let v172 : Vec F S1x128 .f32 ← ld St.s6 (Rect.unit (s := S1x384) ![0, 256] S1x128.size inb_S1x384_S1x128_0_256).toLoadRect
  st St.s14 St.set14 (k0_off10 k0_t2) S1x64x128.size (k0_pay15 v84 v156 v172)
  let v187 : Vec F S1x64x128 .f32 ← ld St.s15 (Rect.unit (s := S3x1280x128) (k0_off10 k0_t2) S1x64x128.size (k0_off10_inb k0_t2)).toLoadRect
  pure ⟨k0_pay16 v84 v156 v172, v187⟩

theorem den_part3 (c : Dev nD) (i : grid0.Coords) (k0_t2 : Fin k0_t2_loop.trips) (v68 : BitVec 32) (v84 : FVec F S128x384 .f32) (v144 : FVec F S128x128 .f32) (v145 : FVec F S64x128 .f32) :
    Runs c (Res c arg1 arg2 arg3 arg4 arg5 arg6 arg7 arg8 arg9 arg10 arg11 arg12 arg13 arg14 arg15 arg16 arg17 arg18 arg19) (k0_part3 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t2 v68 v84 v144 v145) (m_part3 i k0_t2 v68 v84 v144 v145) := by
  rw [k0_part3_eq_skeleton]; unfold k0_part3_skel m_part3
  refine den_put (acc14 c) fun _ => den_put (acc15 c) fun _ => den_rd (acc5 c) fun v156 => den_rd (acc6 c) fun v172 => den_put (acc14 c) fun _ => ?_
  refine den_rd (acc15 c) fun v187 => ?_
  exact den_pure _

def m_t2 (i : grid0.Coords) (arg0 : BitVec 32) (v32 : FVec F S128x128 .bf16) :
    Fin k0_t2_loop.trips → Unit → M (St F) Unit :=
  fun k0_t2 _ => do
let ⟨v68, v84, v85, v101⟩ : Σ' (v68 : BitVec 32) (v84 : FVec F S128x384 .f32) (v85 : FVec F S128x128 .f32), FVec F S128x128 .f32 ← m_part1 i 0#32 1#32 k0_t2
let ⟨v144, v145⟩ : Σ' (v144 : FVec F S128x128 .f32), FVec F S64x128 .f32 ← m_part2 i k0_t2 v68 v84 v85 v101
let ⟨v185, v187⟩ : Σ' (v185 : FVec F S64x128 .f32), Vec F S1x64x128 .f32 ← m_part3 i k0_t2 v68 v84 v144 v145
st St.s15 St.set15 (k0_off10 k0_t2) S1x64x128.size (k0_pay202 v185)
pure ⟨⟩

theorem den_t2 (c : Dev nD) (i : grid0.Coords) (arg0 : BitVec 32) (v32 : FVec F S128x128 .bf16) (k0_t2 : Fin k0_t2_loop.trips) (a : Unit) :
    Runs c (Res c arg1 arg2 arg3 arg4 arg5 arg6 arg7 arg8 arg9 arg10 arg11 arg12 arg13 arg14 arg15 arg16 arg17 arg18 arg19) (k0_t2_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32 k0_t2 a) (m_t2 i arg0 v32 k0_t2 a) := by
  unfold k0_t2_body m_t2
  refine den_bind (den_part1 c i 0#32 1#32 k0_t2) fun ⟨v68, v84, v85, v101⟩ => ?_
  refine den_bind (den_part2 c i k0_t2 v68 v84 v85 v101) fun ⟨v144, v145⟩ => ?_
  refine den_bind (den_part3 c i k0_t2 v68 v84 v144 v145) fun ⟨v185, v187⟩ => ?_
  refine den_bind (den_st (acc15 c)) fun _ => ?_
  exact den_pure _

def m_part4 (i : grid0.Coords) : M (St F) ((Σ' (v88 : FVec F S13x128 .f32), Vec F S1x13x128 .f32)) := do
  let v65 : Vec F S1x1x128 .f32 ← ld St.s14 (Rect.unit (s := S3x1280x128) ![0, 13, 0] S1x1x128.size inb_S3x1280x128_S1x1x128_0_13_0).toLoadRect
  st St.s14 St.set14 ![0, 0, 0] S1x13x128.size (k0_pay18 v65)
  st St.s15 St.set15 ![0, 0, 0] S1x13x128.size (k0_pay19 v65)
  let v75 : Vec F S1x1x128 .f32 ← ld St.s14 (Rect.unit (s := S3x1280x128) ![1, 13, 0] S1x1x128.size inb_S3x1280x128_S1x1x128_1_13_0).toLoadRect
  st St.s14 St.set14 ![1, 0, 0] S1x13x128.size (k0_pay21 v75)
  st St.s15 St.set15 ![1, 0, 0] S1x13x128.size (k0_pay22 v75)
  let v85 : Vec F S1x1x128 .f32 ← ld St.s14 (Rect.unit (s := S3x1280x128) ![2, 13, 0] S1x1x128.size inb_S3x1280x128_S1x1x128_2_13_0).toLoadRect
  st St.s14 St.set14 ![2, 0, 0] S1x13x128.size (k0_pay24 v85)
  let v92 : Vec F S1x13x128 .f32 ← ld St.s15 (Rect.unit (s := S3x1280x128) ![2, 0, 0] S1x13x128.size inb_S3x1280x128_S1x13x128_2_0_0).toLoadRect
  pure ⟨k0_pay23 v85, v92⟩

theorem den_part4 (c : Dev nD) (i : grid0.Coords) :
    Runs c (Res c arg1 arg2 arg3 arg4 arg5 arg6 arg7 arg8 arg9 arg10 arg11 arg12 arg13 arg14 arg15 arg16 arg17 arg18 arg19) (k0_part4 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) (m_part4 i) := by
  rw [k0_part4_eq_skeleton]; unfold k0_part4_skel m_part4
  refine den_rd (acc14 c) fun v65 => den_put (acc14 c) fun _ => den_put (acc15 c) fun _ => den_rd (acc14 c) fun v75 => den_put (acc14 c) fun _ => ?_
  refine den_put (acc15 c) fun _ => den_rd (acc14 c) fun v85 => den_put (acc14 c) fun _ => den_rd (acc15 c) fun v92 => ?_
  exact den_pure _

def m_part5 (i : grid0.Coords) : M (St F) ((Σ' (v88 : FVec F S16x128 .f32), Vec F S1x16x128 .f32)) := do
  let v65 : Vec F S1x1x128 .f32 ← ld St.s15 (Rect.unit (s := S3x1280x128) ![0, 1036, 0] S1x1x128.size inb_S3x1280x128_S1x1x128_0_1036_0).toLoadRect
  st St.s14 St.set14 ![0, 1037, 0] S1x16x128.size (k0_pay26 v65)
  st St.s15 St.set15 ![0, 1037, 0] S1x16x128.size (k0_pay27 v65)
  let v75 : Vec F S1x1x128 .f32 ← ld St.s15 (Rect.unit (s := S3x1280x128) ![1, 1036, 0] S1x1x128.size inb_S3x1280x128_S1x1x128_1_1036_0).toLoadRect
  st St.s14 St.set14 ![1, 1037, 0] S1x16x128.size (k0_pay29 v75)
  st St.s15 St.set15 ![1, 1037, 0] S1x16x128.size (k0_pay30 v75)
  let v85 : Vec F S1x1x128 .f32 ← ld St.s15 (Rect.unit (s := S3x1280x128) ![2, 1036, 0] S1x1x128.size inb_S3x1280x128_S1x1x128_2_1036_0).toLoadRect
  st St.s14 St.set14 ![2, 1037, 0] S1x16x128.size (k0_pay32 v85)
  let v92 : Vec F S1x16x128 .f32 ← ld St.s15 (Rect.unit (s := S3x1280x128) ![2, 1037, 0] S1x16x128.size inb_S3x1280x128_S1x16x128_2_1037_0).toLoadRect
  pure ⟨k0_pay31 v85, v92⟩

theorem den_part5 (c : Dev nD) (i : grid0.Coords) :
    Runs c (Res c arg1 arg2 arg3 arg4 arg5 arg6 arg7 arg8 arg9 arg10 arg11 arg12 arg13 arg14 arg15 arg16 arg17 arg18 arg19) (k0_part5 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) (m_part5 i) := by
  rw [k0_part5_eq_skeleton]; unfold k0_part5_skel m_part5
  refine den_rd (acc15 c) fun v65 => den_put (acc14 c) fun _ => den_put (acc15 c) fun _ => den_rd (acc15 c) fun v75 => den_put (acc14 c) fun _ => ?_
  refine den_put (acc15 c) fun _ => den_rd (acc15 c) fun v85 => den_put (acc14 c) fun _ => den_rd (acc15 c) fun v92 => ?_
  exact den_pure _

def m_part6 (i : grid0.Coords) (c0_i32_35 c1_i32_37 : BitVec 32) (k0_t3 : Fin k0_t3_loop.trips) : M (St F) ((Σ' (v68 : BitVec 32), FVec F S128x128 .f32)) := do
  let arg20 : BitVec 32 := Scf.iv c0_i32_35 c1_i32_37 k0_t3
  let v65 : BitVec 32 := Scalar.muli arg20 1#32
  let v66 : BitVec 32 := Scalar.addi 0#32 v65
  let v67 : BitVec 32 := Scalar.muli v66 128#32
  let v68 : BitVec 32 := v67
  let v72 : Vec F S1x128x128 .f32 ← ld St.s14 (Rect.unit (s := S3x1280x128) (k0_off11 k0_t3 4294967294#32) S1x128x128.size (k0_off11_inb k0_t3 0)).toLoadRect
  let v77 : Vec F S1x128x128 .f32 ← ld St.s15 (Rect.unit (s := S3x1280x128) (k0_off11 k0_t3 2#32) S1x128x128.size (k0_off11_inb k0_t3 1)).toLoadRect
  let v85 : Vec F S1x128x128 .f32 ← ld St.s14 (Rect.unit (s := S3x1280x128) (k0_off11 k0_t3 4294967295#32) S1x128x128.size (k0_off11_inb k0_t3 2)).toLoadRect
  let v90 : Vec F S1x128x128 .f32 ← ld St.s15 (Rect.unit (s := S3x1280x128) (k0_off11 k0_t3 1#32) S1x128x128.size (k0_off11_inb k0_t3 3)).toLoadRect
  pure ⟨v68, k0_pay33 v72 v77 v85 v90⟩

theorem den_part6 (c : Dev nD) (i : grid0.Coords) (c0_i32_35 c1_i32_37 : BitVec 32) (k0_t3 : Fin k0_t3_loop.trips) :
    Runs c (Res c arg1 arg2 arg3 arg4 arg5 arg6 arg7 arg8 arg9 arg10 arg11 arg12 arg13 arg14 arg15 arg16 arg17 arg18 arg19) (k0_part6 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 c0_i32_35 c1_i32_37 k0_t3) (m_part6 i c0_i32_35 c1_i32_37 k0_t3) := by
  rw [k0_part6_eq_skeleton]; unfold k0_part6_skel m_part6
  let arg20 : BitVec 32 := Scf.iv c0_i32_35 c1_i32_37 k0_t3
  let v65 : BitVec 32 := Scalar.muli arg20 1#32
  let v66 : BitVec 32 := Scalar.addi 0#32 v65
  let v67 : BitVec 32 := Scalar.muli v66 128#32
  let v68 : BitVec 32 := v67
  refine den_rd (acc14 c) fun v72 => den_rd (acc15 c) fun v77 => den_rd (acc14 c) fun v85 => den_rd (acc15 c) fun v90 => ?_
  exact den_pure _

def m_part7 (i : grid0.Coords) (k0_t3 : Fin k0_t3_loop.trips) (v68 : BitVec 32) (v95 : FVec F S128x128 .f32) : M (St F) ((Σ' (v123 v134 : FVec F S128x128 .f32), FVec F S128x128 .f32)) := do
  let v99 : Vec F S1x128x128 .f32 ← ld St.s14 (Rect.unit (s := S3x1280x128) (k0_off11 k0_t3 0#32) S1x128x128.size (k0_off11_inb k0_t3 4)).toLoadRect
  let v104 : Vec F S1x128x128 .f32 ← ld St.s15 (Rect.unit (s := S3x1280x128) (k0_off11 k0_t3 0#32) S1x128x128.size (k0_off11_inb k0_t3 4)).toLoadRect
  let v113 : Vec F S1x128x128 .f32 ← ld St.s14 (Rect.unit (s := S3x1280x128) (k0_off11 k0_t3 1#32) S1x128x128.size (k0_off11_inb k0_t3 3)).toLoadRect
  let v118 : Vec F S1x128x128 .f32 ← ld St.s15 (Rect.unit (s := S3x1280x128) (k0_off11 k0_t3 4294967295#32) S1x128x128.size (k0_off11_inb k0_t3 2)).toLoadRect
  let v127 : Vec F S1x128x128 .f32 ← ld St.s14 (Rect.unit (s := S3x1280x128) (k0_off11 k0_t3 2#32) S1x128x128.size (k0_off11_inb k0_t3 1)).toLoadRect
  let v132 : Vec F S1x128x128 .f32 ← ld St.s15 (Rect.unit (s := S3x1280x128) (k0_off11 k0_t3 4294967294#32) S1x128x128.size (k0_off11_inb k0_t3 0)).toLoadRect
  pure ⟨k0_pay34 v95 v99 v104 v113 v118, k0_pay35 v127 v132, k0_pay36 (F := F)⟩

theorem den_part7 (c : Dev nD) (i : grid0.Coords) (k0_t3 : Fin k0_t3_loop.trips) (v68 : BitVec 32) (v95 : FVec F S128x128 .f32) :
    Runs c (Res c arg1 arg2 arg3 arg4 arg5 arg6 arg7 arg8 arg9 arg10 arg11 arg12 arg13 arg14 arg15 arg16 arg17 arg18 arg19) (k0_part7 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v95) (m_part7 i k0_t3 v68 v95) := by
  rw [k0_part7_eq_skeleton]; unfold k0_part7_skel m_part7
  refine den_rd (acc14 c) fun v99 => den_rd (acc15 c) fun v104 => den_rd (acc14 c) fun v113 => den_rd (acc15 c) fun v118 => den_rd (acc14 c) fun v127 => ?_
  refine den_rd (acc15 c) fun v132 => ?_
  exact den_pure _

def m_part8 (i : grid0.Coords) (k0_t3 : Fin k0_t3_loop.trips) (v68 : BitVec 32) (v123 v134 v135 : FVec F S128x128 .f32) : M (St F) ((Σ' (v152 : FVec F S128x128 .f32), FVec F S4x8x128 .f32)) := do
  let v141 : Vec F S1x128x128 .f32 ← ld St.s14 (Rect.unit (s := S3x1280x128) (k0_off11 k0_t3 3#32) S1x128x128.size (k0_off11_inb k0_t3 5)).toLoadRect
  let v146 : Vec F S1x128x128 .f32 ← ld St.s15 (Rect.unit (s := S3x1280x128) (k0_off11 k0_t3 4294967293#32) S1x128x128.size (k0_off11_inb k0_t3 6)).toLoadRect
  st St.s17 St.set17 ![0, 0] S8x128.size (k0_pay39 v123 v134 v135 v141 v146)
  st St.s17 St.set17 ![8, 0] S8x128.size (k0_pay40 v123 v134 v135 v141 v146)
  st St.s17 St.set17 ![16, 0] S8x128.size (k0_pay41 v123 v134 v135 v141 v146)
  pure ⟨k0_pay37 v123 v134 v135 v141 v146, k0_pay42 v123 v134 v135 v141 v146⟩

theorem den_part8 (c : Dev nD) (i : grid0.Coords) (k0_t3 : Fin k0_t3_loop.trips) (v68 : BitVec 32) (v123 v134 v135 : FVec F S128x128 .f32) :
    Runs c (Res c arg1 arg2 arg3 arg4 arg5 arg6 arg7 arg8 arg9 arg10 arg11 arg12 arg13 arg14 arg15 arg16 arg17 arg18 arg19) (k0_part8 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v123 v134 v135) (m_part8 i k0_t3 v68 v123 v134 v135) := by
  rw [k0_part8_eq_skeleton]; unfold k0_part8_skel m_part8
  refine den_rd (acc14 c) fun v141 => den_rd (acc15 c) fun v146 => den_put (acc17 c) fun _ => den_put (acc17 c) fun _ => den_put (acc17 c) fun _ => ?_
  exact den_pure _

def m_part9 (i : grid0.Coords) (k0_t3 : Fin k0_t3_loop.trips) (v68 : BitVec 32) (v173 : FVec F S4x8x128 .f32) : M (St F) ((Σ' (v204 : FVec F S128x128 .f32), Vec F S1x128x128 .f32)) := do
  st St.s17 St.set17 ![24, 0] S8x128.size (k0_pay43 v173)
  let v181 : Vec F S1x128x128 .f32 ← ld St.s14 (Rect.unit (s := S3x1280x128) (k0_off12 k0_t3 4294967294#32) S1x128x128.size (k0_off12_inb k0_t3 0)).toLoadRect
  let v186 : Vec F S1x128x128 .f32 ← ld St.s15 (Rect.unit (s := S3x1280x128) (k0_off12 k0_t3 2#32) S1x128x128.size (k0_off12_inb k0_t3 1)).toLoadRect
  let v194 : Vec F S1x128x128 .f32 ← ld St.s14 (Rect.unit (s := S3x1280x128) (k0_off12 k0_t3 4294967295#32) S1x128x128.size (k0_off12_inb k0_t3 2)).toLoadRect
  let v199 : Vec F S1x128x128 .f32 ← ld St.s15 (Rect.unit (s := S3x1280x128) (k0_off12 k0_t3 1#32) S1x128x128.size (k0_off12_inb k0_t3 3)).toLoadRect
  let v208 : Vec F S1x128x128 .f32 ← ld St.s14 (Rect.unit (s := S3x1280x128) (k0_off12 k0_t3 0#32) S1x128x128.size (k0_off12_inb k0_t3 4)).toLoadRect
  pure ⟨k0_pay44 v181 v186 v194 v199, v208⟩

theorem den_part9 (c : Dev nD) (i : grid0.Coords) (k0_t3 : Fin k0_t3_loop.trips) (v68 : BitVec 32) (v173 : FVec F S4x8x128 .f32) :
    Runs c (Res c arg1 arg2 arg3 arg4 arg5 arg6 arg7 arg8 arg9 arg10 arg11 arg12 arg13 arg14 arg15 arg16 arg17 arg18 arg19) (k0_part9 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v173) (m_part9 i k0_t3 v68 v173) := by
  rw [k0_part9_eq_skeleton]; unfold k0_part9_skel m_part9
  refine den_put (acc17 c) fun _ => den_rd (acc14 c) fun v181 => den_rd (acc15 c) fun v186 => den_rd (acc14 c) fun v194 => den_rd (acc15 c) fun v199 => ?_
  refine den_rd (acc14 c) fun v208 => ?_
  exact den_pure _

def m_part10 (i : grid0.Coords) (k0_t3 : Fin k0_t3_loop.trips) (v68 : BitVec 32) (v204 : FVec F S128x128 .f32) (v208 : Vec F S1x128x128 .f32) : M (St F) ((Σ' (v232 : FVec F S128x128 .f32), FVec F S128x128 .f32)) := do
  let v213 : Vec F S1x128x128 .f32 ← ld St.s15 (Rect.unit (s := S3x1280x128) (k0_off12 k0_t3 0#32) S1x128x128.size (k0_off12_inb k0_t3 4)).toLoadRect
  let v222 : Vec F S1x128x128 .f32 ← ld St.s14 (Rect.unit (s := S3x1280x128) (k0_off12 k0_t3 1#32) S1x128x128.size (k0_off12_inb k0_t3 3)).toLoadRect
  let v227 : Vec F S1x128x128 .f32 ← ld St.s15 (Rect.unit (s := S3x1280x128) (k0_off12 k0_t3 4294967295#32) S1x128x128.size (k0_off12_inb k0_t3 2)).toLoadRect
  let v236 : Vec F S1x128x128 .f32 ← ld St.s14 (Rect.unit (s := S3x1280x128) (k0_off12 k0_t3 2#32) S1x128x128.size (k0_off12_inb k0_t3 1)).toLoadRect
  let v241 : Vec F S1x128x128 .f32 ← ld St.s15 (Rect.unit (s := S3x1280x128) (k0_off12 k0_t3 4294967294#32) S1x128x128.size (k0_off12_inb k0_t3 0)).toLoadRect
  pure ⟨k0_pay45 v204 v208 v213 v222 v227, k0_pay46 v236 v241⟩

theorem den_part10 (c : Dev nD) (i : grid0.Coords) (k0_t3 : Fin k0_t3_loop.trips) (v68 : BitVec 32) (v204 : FVec F S128x128 .f32) (v208 : Vec F S1x128x128 .f32) :
    Runs c (Res c arg1 arg2 arg3 arg4 arg5 arg6 arg7 arg8 arg9 arg10 arg11 arg12 arg13 arg14 arg15 arg16 arg17 arg18 arg19) (k0_part10 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v204 v208) (m_part10 i k0_t3 v68 v204 v208) := by
  rw [k0_part10_eq_skeleton]; unfold k0_part10_skel m_part10
  refine den_rd (acc15 c) fun v213 => den_rd (acc14 c) fun v222 => den_rd (acc15 c) fun v227 => den_rd (acc14 c) fun v236 => den_rd (acc15 c) fun v241 => ?_
  exact den_pure _

def m_part11 (i : grid0.Coords) (k0_t3 : Fin k0_t3_loop.trips) (v68 : BitVec 32) (v232 v245 : FVec F S128x128 .f32) : M (St F) ((Σ' (v261 : FVec F S128x128 .f32), FVec F S8x128 .f32)) := do
  let v250 : Vec F S1x128x128 .f32 ← ld St.s14 (Rect.unit (s := S3x1280x128) (k0_off12 k0_t3 3#32) S1x128x128.size (k0_off12_inb k0_t3 5)).toLoadRect
  let v255 : Vec F S1x128x128 .f32 ← ld St.s15 (Rect.unit (s := S3x1280x128) (k0_off12 k0_t3 4294967293#32) S1x128x128.size (k0_off12_inb k0_t3 6)).toLoadRect
  st St.s17 St.set17 ![32, 0] S8x128.size (k0_pay49 v232 v245 v250 v255)
  st St.s17 St.set17 ![40, 0] S8x128.size (k0_pay50 v232 v245 v250 v255)
  st St.s17 St.set17 ![48, 0] S8x128.size (k0_pay51 v232 v245 v250 v255)
  pure ⟨k0_pay47 v232 v245 v250 v255, k0_pay52 v232 v245 v250 v255⟩

theorem den_part11 (c : Dev nD) (i : grid0.Coords) (k0_t3 : Fin k0_t3_loop.trips) (v68 : BitVec 32) (v232 v245 : FVec F S128x128 .f32) :
    Runs c (Res c arg1 arg2 arg3 arg4 arg5 arg6 arg7 arg8 arg9 arg10 arg11 arg12 arg13 arg14 arg15 arg16 arg17 arg18 arg19) (k0_part11 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v232 v245) (m_part11 i k0_t3 v68 v232 v245) := by
  rw [k0_part11_eq_skeleton]; unfold k0_part11_skel m_part11
  refine den_rd (acc14 c) fun v250 => den_rd (acc15 c) fun v255 => den_put (acc17 c) fun _ => den_put (acc17 c) fun _ => den_put (acc17 c) fun _ => ?_
  exact den_pure _

def m_part12 (i : grid0.Coords) (k0_t3 : Fin k0_t3_loop.trips) (v68 : BitVec 32) (v283 : FVec F S8x128 .f32) : M (St F) ((Σ' (v313 : FVec F S128x128 .f32), FVec F S128x128 .f32)) := do
  st St.s17 St.set17 ![56, 0] S8x128.size (k0_pay53 v283)
  let v290 : Vec F S1x128x128 .f32 ← ld St.s14 (Rect.unit (s := S3x1280x128) (k0_off13 k0_t3 4294967294#32) S1x128x128.size (k0_off13_inb k0_t3 0)).toLoadRect
  let v295 : Vec F S1x128x128 .f32 ← ld St.s15 (Rect.unit (s := S3x1280x128) (k0_off13 k0_t3 2#32) S1x128x128.size (k0_off13_inb k0_t3 1)).toLoadRect
  let v303 : Vec F S1x128x128 .f32 ← ld St.s14 (Rect.unit (s := S3x1280x128) (k0_off13 k0_t3 4294967295#32) S1x128x128.size (k0_off13_inb k0_t3 2)).toLoadRect
  let v308 : Vec F S1x128x128 .f32 ← ld St.s15 (Rect.unit (s := S3x1280x128) (k0_off13 k0_t3 1#32) S1x128x128.size (k0_off13_inb k0_t3 3)).toLoadRect
  let v317 : Vec F S1x128x128 .f32 ← ld St.s14 (Rect.unit (s := S3x1280x128) (k0_off13 k0_t3 0#32) S1x128x128.size (k0_off13_inb k0_t3 4)).toLoadRect
  pure ⟨k0_pay54 v290 v295 v303 v308, k0_pay55 v317⟩

theorem den_part12 (c : Dev nD) (i : grid0.Coords) (k0_t3 : Fin k0_t3_loop.trips) (v68 : BitVec 32) (v283 : FVec F S8x128 .f32) :
    Runs c (Res c arg1 arg2 arg3 arg4 arg5 arg6 arg7 arg8 arg9 arg10 arg11 arg12 arg13 arg14 arg15 arg16 arg17 arg18 arg19) (k0_part12 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v283) (m_part12 i k0_t3 v68 v283) := by
  rw [k0_part12_eq_skeleton]; unfold k0_part12_skel m_part12
  refine den_put (acc17 c) fun _ => den_rd (acc14 c) fun v290 => den_rd (acc15 c) fun v295 => den_rd (acc14 c) fun v303 => den_rd (acc15 c) fun v308 => ?_
  refine den_rd (acc14 c) fun v317 => ?_
  exact den_pure _

def m_part13 (i : grid0.Coords) (k0_t3 : Fin k0_t3_loop.trips) (v68 : BitVec 32) (v313 v318 : FVec F S128x128 .f32) : M (St F) ((FVec F S128x128 .f32)) := do
  let v322 : Vec F S1x128x128 .f32 ← ld St.s15 (Rect.unit (s := S3x1280x128) (k0_off13 k0_t3 0#32) S1x128x128.size (k0_off13_inb k0_t3 4)).toLoadRect
  let v331 : Vec F S1x128x128 .f32 ← ld St.s14 (Rect.unit (s := S3x1280x128) (k0_off13 k0_t3 1#32) S1x128x128.size (k0_off13_inb k0_t3 3)).toLoadRect
  let v336 : Vec F S1x128x128 .f32 ← ld St.s15 (Rect.unit (s := S3x1280x128) (k0_off13 k0_t3 4294967295#32) S1x128x128.size (k0_off13_inb k0_t3 2)).toLoadRect
  let v345 : Vec F S1x128x128 .f32 ← ld St.s14 (Rect.unit (s := S3x1280x128) (k0_off13 k0_t3 2#32) S1x128x128.size (k0_off13_inb k0_t3 1)).toLoadRect
  let v350 : Vec F S1x128x128 .f32 ← ld St.s15 (Rect.unit (s := S3x1280x128) (k0_off13 k0_t3 4294967294#32) S1x128x128.size (k0_off13_inb k0_t3 0)).toLoadRect
  pure (k0_pay56 v313 v318 v322 v331 v336 v345 v350)

theorem den_part13 (c : Dev nD) (i : grid0.Coords) (k0_t3 : Fin k0_t3_loop.trips) (v68 : BitVec 32) (v313 v318 : FVec F S128x128 .f32) :
    Runs c (Res c arg1 arg2 arg3 arg4 arg5 arg6 arg7 arg8 arg9 arg10 arg11 arg12 arg13 arg14 arg15 arg16 arg17 arg18 arg19) (k0_part13 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v313 v318) (m_part13 i k0_t3 v68 v313 v318) := by
  rw [k0_part13_eq_skeleton]; unfold k0_part13_skel m_part13
  refine den_rd (acc15 c) fun v322 => den_rd (acc14 c) fun v331 => den_rd (acc15 c) fun v336 => den_rd (acc14 c) fun v345 => den_rd (acc15 c) fun v350 => ?_
  exact den_pure _

def m_part14 (i : grid0.Coords) (k0_t3 : Fin k0_t3_loop.trips) (v68 : BitVec 32) (v355 : FVec F S128x128 .f32) : M (St F) ((Σ' (v370 : FVec F S128x128 .f32), FVec F S8x128 .f32)) := do
  let v359 : Vec F S1x128x128 .f32 ← ld St.s14 (Rect.unit (s := S3x1280x128) (k0_off13 k0_t3 3#32) S1x128x128.size (k0_off13_inb k0_t3 5)).toLoadRect
  let v364 : Vec F S1x128x128 .f32 ← ld St.s15 (Rect.unit (s := S3x1280x128) (k0_off13 k0_t3 4294967293#32) S1x128x128.size (k0_off13_inb k0_t3 6)).toLoadRect
  st St.s17 St.set17 ![64, 0] S8x128.size (k0_pay59 v355 v359 v364)
  st St.s17 St.set17 ![72, 0] S8x128.size (k0_pay60 v355 v359 v364)
  st St.s17 St.set17 ![80, 0] S8x128.size (k0_pay61 v355 v359 v364)
  pure ⟨k0_pay57 v355 v359 v364, k0_pay62 v355 v359 v364⟩

theorem den_part14 (c : Dev nD) (i : grid0.Coords) (k0_t3 : Fin k0_t3_loop.trips) (v68 : BitVec 32) (v355 : FVec F S128x128 .f32) :
    Runs c (Res c arg1 arg2 arg3 arg4 arg5 arg6 arg7 arg8 arg9 arg10 arg11 arg12 arg13 arg14 arg15 arg16 arg17 arg18 arg19) (k0_part14 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v355) (m_part14 i k0_t3 v68 v355) := by
  rw [k0_part14_eq_skeleton]; unfold k0_part14_skel m_part14
  refine den_rd (acc14 c) fun v359 => den_rd (acc15 c) fun v364 => den_put (acc17 c) fun _ => den_put (acc17 c) fun _ => den_put (acc17 c) fun _ => ?_
  exact den_pure _

def m_part15 (i : grid0.Coords) (v392 : FVec F S8x128 .f32) : M (St F) ((FVec F S12x128 .f32)) := do
  st St.s17 St.set17 ![88, 0] S8x128.size (k0_pay63 v392)
  let v396 : Vec F S12x128 .f32 ← ld St.s17 (⟨![0, 0], S12x128.size, ![8, 1], inb_S96x128_S12x128_0_0_s_8_1⟩ : LoadRect S96x128)
  let v397 : Vec F S12x128 .f32 ← ld St.s17 (⟨![1, 0], S12x128.size, ![8, 1], inb_S96x128_S12x128_1_0_s_8_1⟩ : LoadRect S96x128)
  let v399 : Vec F S12x128 .f32 ← ld St.s17 (⟨![2, 0], S12x128.size, ![8, 1], inb_S96x128_S12x128_2_0_s_8_1⟩ : LoadRect S96x128)
  let v401 : Vec F S12x128 .f32 ← ld St.s17 (⟨![3, 0], S12x128.size, ![8, 1], inb_S96x128_S12x128_3_0_s_8_1⟩ : LoadRect S96x128)
  let v403 : Vec F S12x128 .f32 ← ld St.s17 (⟨![4, 0], S12x128.size, ![8, 1], inb_S96x128_S12x128_4_0_s_8_1⟩ : LoadRect S96x128)
  let v405 : Vec F S12x128 .f32 ← ld St.s17 (⟨![5, 0], S12x128.size, ![8, 1], inb_S96x128_S12x128_5_0_s_8_1⟩ : LoadRect S96x128)
  let v407 : Vec F S12x128 .f32 ← ld St.s17 (⟨![6, 0], S12x128.size, ![8, 1], inb_S96x128_S12x128_6_0_s_8_1⟩ : LoadRect S96x128)
  let v409 : Vec F S12x128 .f32 ← ld St.s17 (⟨![7, 0], S12x128.size, ![8, 1], inb_S96x128_S12x128_7_0_s_8_1⟩ : LoadRect S96x128)
  st St.s18 St.set18 ![0, 0] S12x128.size (k0_pay65 v396 v397 v399 v401 v403 v405 v407 v409)
  pure (k0_pay64 v396 v397 v399 v401 v403 v405 v407 v409)

theorem den_part15 (c : Dev nD) (i : grid0.Coords) (v392 : FVec F S8x128 .f32) :
    Runs c (Res c arg1 arg2 arg3 arg4 arg5 arg6 arg7 arg8 arg9 arg10 arg11 arg12 arg13 arg14 arg15 arg16 arg17 arg18 arg19) (k0_part15 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v392) (m_part15 i v392) := by
  rw [k0_part15_eq_skeleton]; unfold k0_part15_skel m_part15
  refine den_put (acc17 c) fun _ => den_rd (acc17 c) fun v396 => den_rd (acc17 c) fun v397 => den_rd (acc17 c) fun v399 => den_rd (acc17 c) fun v401 => ?_
  refine den_rd (acc17 c) fun v403 => den_rd (acc17 c) fun v405 => den_rd (acc17 c) fun v407 => den_rd (acc17 c) fun v409 => den_put (acc18 c) fun _ => ?_
  exact den_pure _

def m_part16 (i : grid0.Coords) (k0_t3 : Fin k0_t3_loop.trips) (v68 : BitVec 32) (v152 : FVec F S128x128 .f32) (v422 : FVec F S12x128 .f32) : M (St F) ((Σ' (v442 v463 : FVec F S32x128 .fp8e4m3), FVec F S32x128 .bf16)) := do
  st St.s19 St.set19 ![0, 0] S12x128.size (k0_pay66 v422)
  let v433 : Vec F S1x128 .f32 ← ld St.s19 (Rect.unit (s := S12x128) ![0, 0] S1x128.size inb_S12x128_S1x128_0_0).toLoadRect
  let v443 : Vec F S1x128 .f32 ← ld St.s18 (Rect.unit (s := S12x128) ![0, 0] S1x128.size inb_S12x128_S1x128_0_0).toLoadRect
  st St.s16 St.set16 (k0_off14 k0_t3) S32x128.size (k0_pay68 v152 v433 v443)
  let v454 : Vec F S1x128 .f32 ← ld St.s19 (Rect.unit (s := S12x128) ![1, 0] S1x128.size inb_S12x128_S1x128_1_0).toLoadRect
  let v464 : Vec F S1x128 .f32 ← ld St.s18 (Rect.unit (s := S12x128) ![1, 0] S1x128.size inb_S12x128_S1x128_1_0).toLoadRect
  pure ⟨k0_pay67 v152 v433, k0_pay69 v152 v454, k0_pay70 v464⟩

theorem den_part16 (c : Dev nD) (i : grid0.Coords) (k0_t3 : Fin k0_t3_loop.trips) (v68 : BitVec 32) (v152 : FVec F S128x128 .f32) (v422 : FVec F S12x128 .f32) :
    Runs c (Res c arg1 arg2 arg3 arg4 arg5 arg6 arg7 arg8 arg9 arg10 arg11 arg12 arg13 arg14 arg15 arg16 arg17 arg18 arg19) (k0_part16 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v152 v422) (m_part16 i k0_t3 v68 v152 v422) := by
  rw [k0_part16_eq_skeleton]; unfold k0_part16_skel m_part16
  refine den_put (acc19 c) fun _ => den_rd (acc19 c) fun v433 => den_rd (acc18 c) fun v443 => den_put (acc16 c) fun _ => den_rd (acc19 c) fun v454 => ?_
  refine den_rd (acc18 c) fun v464 => ?_
  exact den_pure _

def m_part17 (i : grid0.Coords) (k0_t3 : Fin k0_t3_loop.trips) (v68 : BitVec 32) (v152 : FVec F S128x128 .f32) (v463 : FVec F S32x128 .fp8e4m3) (v467 : FVec F S32x128 .bf16) : M (St F) ((Σ' (v484 v505 : FVec F S32x128 .fp8e4m3), FVec F S32x128 .bf16)) := do
  st St.s16 St.set16 (k0_off15 k0_t3) S32x128.size (k0_pay71 v463 v467)
  let v475 : Vec F S1x128 .f32 ← ld St.s19 (Rect.unit (s := S12x128) ![2, 0] S1x128.size inb_S12x128_S1x128_2_0).toLoadRect
  let v485 : Vec F S1x128 .f32 ← ld St.s18 (Rect.unit (s := S12x128) ![2, 0] S1x128.size inb_S12x128_S1x128_2_0).toLoadRect
  st St.s16 St.set16 (k0_off16 k0_t3) S32x128.size (k0_pay73 v152 v475 v485)
  let v496 : Vec F S1x128 .f32 ← ld St.s19 (Rect.unit (s := S12x128) ![3, 0] S1x128.size inb_S12x128_S1x128_3_0).toLoadRect
  let v506 : Vec F S1x128 .f32 ← ld St.s18 (Rect.unit (s := S12x128) ![3, 0] S1x128.size inb_S12x128_S1x128_3_0).toLoadRect
  pure ⟨k0_pay72 v152 v475, k0_pay74 v152 v496, k0_pay75 v506⟩

theorem den_part17 (c : Dev nD) (i : grid0.Coords) (k0_t3 : Fin k0_t3_loop.trips) (v68 : BitVec 32) (v152 : FVec F S128x128 .f32) (v463 : FVec F S32x128 .fp8e4m3) (v467 : FVec F S32x128 .bf16) :
    Runs c (Res c arg1 arg2 arg3 arg4 arg5 arg6 arg7 arg8 arg9 arg10 arg11 arg12 arg13 arg14 arg15 arg16 arg17 arg18 arg19) (k0_part17 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v152 v463 v467) (m_part17 i k0_t3 v68 v152 v463 v467) := by
  rw [k0_part17_eq_skeleton]; unfold k0_part17_skel m_part17
  refine den_put (acc16 c) fun _ => den_rd (acc19 c) fun v475 => den_rd (acc18 c) fun v485 => den_put (acc16 c) fun _ => den_rd (acc19 c) fun v496 => ?_
  refine den_rd (acc18 c) fun v506 => ?_
  exact den_pure _

def m_part18 (i : grid0.Coords) (k0_t3 : Fin k0_t3_loop.trips) (v68 : BitVec 32) (v261 : FVec F S128x128 .f32) (v505 : FVec F S32x128 .fp8e4m3) (v509 : FVec F S32x128 .bf16) : M (St F) ((Σ' (v526 v547 : FVec F S32x128 .fp8e4m3), FVec F S32x128 .bf16)) := do
  st St.s16 St.set16 (k0_off17 k0_t3) S32x128.size (k0_pay76 v505 v509)
  let v517 : Vec F S1x128 .f32 ← ld St.s19 (Rect.unit (s := S12x128) ![4, 0] S1x128.size inb_S12x128_S1x128_4_0).toLoadRect
  let v527 : Vec F S1x128 .f32 ← ld St.s18 (Rect.unit (s := S12x128) ![4, 0] S1x128.size inb_S12x128_S1x128_4_0).toLoadRect
  st St.s16 St.set16 (k0_off18 k0_t3) S32x128.size (k0_pay78 v261 v517 v527)
  let v538 : Vec F S1x128 .f32 ← ld St.s19 (Rect.unit (s := S12x128) ![5, 0] S1x128.size inb_S12x128_S1x128_5_0).toLoadRect
  let v548 : Vec F S1x128 .f32 ← ld St.s18 (Rect.unit (s := S12x128) ![5, 0] S1x128.size inb_S12x128_S1x128_5_0).toLoadRect
  pure ⟨k0_pay77 v261 v517, k0_pay79 v261 v538, k0_pay80 v548⟩

theorem den_part18 (c : Dev nD) (i : grid0.Coords) (k0_t3 : Fin k0_t3_loop.trips) (v68 : BitVec 32) (v261 : FVec F S128x128 .f32) (v505 : FVec F S32x128 .fp8e4m3) (v509 : FVec F S32x128 .bf16) :
    Runs c (Res c arg1 arg2 arg3 arg4 arg5 arg6 arg7 arg8 arg9 arg10 arg11 arg12 arg13 arg14 arg15 arg16 arg17 arg18 arg19) (k0_part18 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v261 v505 v509) (m_part18 i k0_t3 v68 v261 v505 v509) := by
  rw [k0_part18_eq_skeleton]; unfold k0_part18_skel m_part18
  refine den_put (acc16 c) fun _ => den_rd (acc19 c) fun v517 => den_rd (acc18 c) fun v527 => den_put (acc16 c) fun _ => den_rd (acc19 c) fun v538 => ?_
  refine den_rd (acc18 c) fun v548 => ?_
  exact den_pure _

def m_part19 (i : grid0.Coords) (k0_t3 : Fin k0_t3_loop.trips) (v68 : BitVec 32) (v261 : FVec F S128x128 .f32) (v547 : FVec F S32x128 .fp8e4m3) (v551 : FVec F S32x128 .bf16) : M (St F) ((Σ' (v568 v589 : FVec F S32x128 .fp8e4m3), FVec F S32x128 .bf16)) := do
  st St.s16 St.set16 (k0_off19 k0_t3) S32x128.size (k0_pay81 v547 v551)
  let v559 : Vec F S1x128 .f32 ← ld St.s19 (Rect.unit (s := S12x128) ![6, 0] S1x128.size inb_S12x128_S1x128_6_0).toLoadRect
  let v569 : Vec F S1x128 .f32 ← ld St.s18 (Rect.unit (s := S12x128) ![6, 0] S1x128.size inb_S12x128_S1x128_6_0).toLoadRect
  st St.s16 St.set16 (k0_off20 k0_t3) S32x128.size (k0_pay83 v261 v559 v569)
  let v580 : Vec F S1x128 .f32 ← ld St.s19 (Rect.unit (s := S12x128) ![7, 0] S1x128.size inb_S12x128_S1x128_7_0).toLoadRect
  let v590 : Vec F S1x128 .f32 ← ld St.s18 (Rect.unit (s := S12x128) ![7, 0] S1x128.size inb_S12x128_S1x128_7_0).toLoadRect
  pure ⟨k0_pay82 v261 v559, k0_pay84 v261 v580, k0_pay85 v590⟩

theorem den_part19 (c : Dev nD) (i : grid0.Coords) (k0_t3 : Fin k0_t3_loop.trips) (v68 : BitVec 32) (v261 : FVec F S128x128 .f32) (v547 : FVec F S32x128 .fp8e4m3) (v551 : FVec F S32x128 .bf16) :
    Runs c (Res c arg1 arg2 arg3 arg4 arg5 arg6 arg7 arg8 arg9 arg10 arg11 arg12 arg13 arg14 arg15 arg16 arg17 arg18 arg19) (k0_part19 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v261 v547 v551) (m_part19 i k0_t3 v68 v261 v547 v551) := by
  rw [k0_part19_eq_skeleton]; unfold k0_part19_skel m_part19
  refine den_put (acc16 c) fun _ => den_rd (acc19 c) fun v559 => den_rd (acc18 c) fun v569 => den_put (acc16 c) fun _ => den_rd (acc19 c) fun v580 => ?_
  refine den_rd (acc18 c) fun v590 => ?_
  exact den_pure _

def m_part20 (i : grid0.Coords) (k0_t3 : Fin k0_t3_loop.trips) (v68 : BitVec 32) (v370 : FVec F S128x128 .f32) (v589 : FVec F S32x128 .fp8e4m3) (v593 : FVec F S32x128 .bf16) : M (St F) ((Σ' (v610 v631 : FVec F S32x128 .fp8e4m3), FVec F S32x128 .bf16)) := do
  st St.s16 St.set16 (k0_off21 k0_t3) S32x128.size (k0_pay86 v589 v593)
  let v601 : Vec F S1x128 .f32 ← ld St.s19 (Rect.unit (s := S12x128) ![8, 0] S1x128.size inb_S12x128_S1x128_8_0).toLoadRect
  let v611 : Vec F S1x128 .f32 ← ld St.s18 (Rect.unit (s := S12x128) ![8, 0] S1x128.size inb_S12x128_S1x128_8_0).toLoadRect
  st St.s16 St.set16 (k0_off22 k0_t3) S32x128.size (k0_pay88 v370 v601 v611)
  let v622 : Vec F S1x128 .f32 ← ld St.s19 (Rect.unit (s := S12x128) ![9, 0] S1x128.size inb_S12x128_S1x128_9_0).toLoadRect
  let v632 : Vec F S1x128 .f32 ← ld St.s18 (Rect.unit (s := S12x128) ![9, 0] S1x128.size inb_S12x128_S1x128_9_0).toLoadRect
  pure ⟨k0_pay87 v370 v601, k0_pay89 v370 v622, k0_pay90 v632⟩

theorem den_part20 (c : Dev nD) (i : grid0.Coords) (k0_t3 : Fin k0_t3_loop.trips) (v68 : BitVec 32) (v370 : FVec F S128x128 .f32) (v589 : FVec F S32x128 .fp8e4m3) (v593 : FVec F S32x128 .bf16) :
    Runs c (Res c arg1 arg2 arg3 arg4 arg5 arg6 arg7 arg8 arg9 arg10 arg11 arg12 arg13 arg14 arg15 arg16 arg17 arg18 arg19) (k0_part20 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v370 v589 v593) (m_part20 i k0_t3 v68 v370 v589 v593) := by
  rw [k0_part20_eq_skeleton]; unfold k0_part20_skel m_part20
  refine den_put (acc16 c) fun _ => den_rd (acc19 c) fun v601 => den_rd (acc18 c) fun v611 => den_put (acc16 c) fun _ => den_rd (acc19 c) fun v622 => ?_
  refine den_rd (acc18 c) fun v632 => ?_
  exact den_pure _

def m_part21 (i : grid0.Coords) (k0_t3 : Fin k0_t3_loop.trips) (v68 : BitVec 32) (v370 : FVec F S128x128 .f32) (v631 : FVec F S32x128 .fp8e4m3) (v635 : FVec F S32x128 .bf16) : M (St F) ((Σ' (v652 v673 : FVec F S32x128 .fp8e4m3), FVec F S32x128 .bf16)) := do
  st St.s16 St.set16 (k0_off23 k0_t3) S32x128.size (k0_pay91 v631 v635)
  let v643 : Vec F S1x128 .f32 ← ld St.s19 (Rect.unit (s := S12x128) ![10, 0] S1x128.size inb_S12x128_S1x128_10_0).toLoadRect
  let v653 : Vec F S1x128 .f32 ← ld St.s18 (Rect.unit (s := S12x128) ![10, 0] S1x128.size inb_S12x128_S1x128_10_0).toLoadRect
  st St.s16 St.set16 (k0_off24 k0_t3) S32x128.size (k0_pay93 v370 v643 v653)
  let v664 : Vec F S1x128 .f32 ← ld St.s19 (Rect.unit (s := S12x128) ![11, 0] S1x128.size inb_S12x128_S1x128_11_0).toLoadRect
  let v674 : Vec F S1x128 .f32 ← ld St.s18 (Rect.unit (s := S12x128) ![11, 0] S1x128.size inb_S12x128_S1x128_11_0).toLoadRect
  pure ⟨k0_pay92 v370 v643, k0_pay94 v370 v664, k0_pay95 v674⟩

theorem den_part21 (c : Dev nD) (i : grid0.Coords) (k0_t3 : Fin k0_t3_loop.trips) (v68 : BitVec 32) (v370 : FVec F S128x128 .f32) (v631 : FVec F S32x128 .fp8e4m3) (v635 : FVec F S32x128 .bf16) :
    Runs c (Res c arg1 arg2 arg3 arg4 arg5 arg6 arg7 arg8 arg9 arg10 arg11 arg12 arg13 arg14 arg15 arg16 arg17 arg18 arg19) (k0_part21 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v370 v631 v635) (m_part21 i k0_t3 v68 v370 v631 v635) := by
  rw [k0_part21_eq_skeleton]; unfold k0_part21_skel m_part21
  refine den_put (acc16 c) fun _ => den_rd (acc19 c) fun v643 => den_rd (acc18 c) fun v653 => den_put (acc16 c) fun _ => den_rd (acc19 c) fun v664 => ?_
  refine den_rd (acc18 c) fun v674 => ?_
  exact den_pure _

def m_part22 (i : grid0.Coords) (k0_t3 : Fin k0_t3_loop.trips) (v68 : BitVec 32) (v442 v463 v484 v673 : FVec F S32x128 .fp8e4m3) (v677 : FVec F S32x128 .bf16) : M (St F) ((FVec F S1x1x128 .f32)) := do
  st St.s16 St.set16 (k0_off25 k0_t3) S32x128.size (k0_pay96 v673 v677)
  st St.s11 St.set11 (k0_off26 k0_t3) S1x32x128.size (k0_pay97 v442)
  let v689 : Vec F S1x128 .f32 ← ld St.s18 (Rect.unit (s := S12x128) ![0, 0] S1x128.size inb_S12x128_S1x128_0_0).toLoadRect
  st St.s12 St.set12 (k0_off27 k0_t3) S1x1x128.size (k0_pay98 v689)
  st St.s11 St.set11 (k0_off28 k0_t3) S1x32x128.size (k0_pay99 v463)
  let v698 : Vec F S1x128 .f32 ← ld St.s18 (Rect.unit (s := S12x128) ![1, 0] S1x128.size inb_S12x128_S1x128_1_0).toLoadRect
  st St.s12 St.set12 (k0_off29 k0_t3) S1x1x128.size (k0_pay100 v698)
  st St.s11 St.set11 (k0_off30 k0_t3) S1x32x128.size (k0_pay101 v484)
  let v707 : Vec F S1x128 .f32 ← ld St.s18 (Rect.unit (s := S12x128) ![2, 0] S1x128.size inb_S12x128_S1x128_2_0).toLoadRect
  pure (k0_pay102 v707)

theorem den_part22 (c : Dev nD) (i : grid0.Coords) (k0_t3 : Fin k0_t3_loop.trips) (v68 : BitVec 32) (v442 v463 v484 v673 : FVec F S32x128 .fp8e4m3) (v677 : FVec F S32x128 .bf16) :
    Runs c (Res c arg1 arg2 arg3 arg4 arg5 arg6 arg7 arg8 arg9 arg10 arg11 arg12 arg13 arg14 arg15 arg16 arg17 arg18 arg19) (k0_part22 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v442 v463 v484 v673 v677) (m_part22 i k0_t3 v68 v442 v463 v484 v673 v677) := by
  rw [k0_part22_eq_skeleton]; unfold k0_part22_skel m_part22
  refine den_put (acc16 c) fun _ => den_put (acc11 c) fun _ => den_rd (acc18 c) fun v689 => den_put (acc12 c) fun _ => den_put (acc11 c) fun _ => ?_
  refine den_rd (acc18 c) fun v698 => den_put (acc12 c) fun _ => den_put (acc11 c) fun _ => den_rd (acc18 c) fun v707 => ?_
  refine den_dead (acc12 c) ?_
  exact den_pure _

def m_part23 (i : grid0.Coords) (k0_t3 : Fin k0_t3_loop.trips) (v68 : BitVec 32) (v505 v526 v547 v568 : FVec F S32x128 .fp8e4m3) (v711 : FVec F S1x1x128 .f32) : M (St F) ((PUnit)) := do
  st St.s12 St.set12 (k0_off31 k0_t3) S1x1x128.size v711
  st St.s11 St.set11 (k0_off32 k0_t3) S1x32x128.size (k0_pay103 v505)
  let v716 : Vec F S1x128 .f32 ← ld St.s18 (Rect.unit (s := S12x128) ![3, 0] S1x128.size inb_S12x128_S1x128_3_0).toLoadRect
  st St.s12 St.set12 (k0_off33 k0_t3) S1x1x128.size (k0_pay104 v716)
  st St.s11 St.set11 (k0_off34 k0_t3) S1x32x128.size (k0_pay105 v526)
  let v725 : Vec F S1x128 .f32 ← ld St.s18 (Rect.unit (s := S12x128) ![4, 0] S1x128.size inb_S12x128_S1x128_4_0).toLoadRect
  st St.s12 St.set12 (k0_off35 k0_t3) S1x1x128.size (k0_pay106 v725)
  st St.s11 St.set11 (k0_off36 k0_t3) S1x32x128.size (k0_pay107 v547)
  let v734 : Vec F S1x128 .f32 ← ld St.s18 (Rect.unit (s := S12x128) ![5, 0] S1x128.size inb_S12x128_S1x128_5_0).toLoadRect
  st St.s12 St.set12 (k0_off37 k0_t3) S1x1x128.size (k0_pay108 v734)
  st St.s11 St.set11 (k0_off38 k0_t3) S1x32x128.size (k0_pay109 v568)
  pure ⟨⟩

theorem den_part23 (c : Dev nD) (i : grid0.Coords) (k0_t3 : Fin k0_t3_loop.trips) (v68 : BitVec 32) (v505 v526 v547 v568 : FVec F S32x128 .fp8e4m3) (v711 : FVec F S1x1x128 .f32) :
    Runs c (Res c arg1 arg2 arg3 arg4 arg5 arg6 arg7 arg8 arg9 arg10 arg11 arg12 arg13 arg14 arg15 arg16 arg17 arg18 arg19) (k0_part23 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v505 v526 v547 v568 v711) (m_part23 i k0_t3 v68 v505 v526 v547 v568 v711) := by
  rw [k0_part23_eq_skeleton]; unfold k0_part23_skel m_part23
  refine den_bind (den_st (acc12 c)) fun _ => ?_
  refine den_put (acc11 c) fun _ => den_rd (acc18 c) fun v716 => den_put (acc12 c) fun _ => den_put (acc11 c) fun _ => den_rd (acc18 c) fun v725 => ?_
  refine den_put (acc12 c) fun _ => den_put (acc11 c) fun _ => den_rd (acc18 c) fun v734 => den_put (acc12 c) fun _ => den_put (acc11 c) fun _ => ?_
  exact den_pure _

def m_part24 (i : grid0.Coords) (k0_t3 : Fin k0_t3_loop.trips) (v68 : BitVec 32) (v589 v610 v631 : FVec F S32x128 .fp8e4m3) : M (St F) ((PUnit)) := do
  let v743 : Vec F S1x128 .f32 ← ld St.s18 (Rect.unit (s := S12x128) ![6, 0] S1x128.size inb_S12x128_S1x128_6_0).toLoadRect
  st St.s12 St.set12 (k0_off39 k0_t3) S1x1x128.size (k0_pay110 v743)
  st St.s11 St.set11 (k0_off40 k0_t3) S1x32x128.size (k0_pay111 v589)
  let v752 : Vec F S1x128 .f32 ← ld St.s18 (Rect.unit (s := S12x128) ![7, 0] S1x128.size inb_S12x128_S1x128_7_0).toLoadRect
  st St.s12 St.set12 (k0_off41 k0_t3) S1x1x128.size (k0_pay112 v752)
  st St.s11 St.set11 (k0_off42 k0_t3) S1x32x128.size (k0_pay113 v610)
  let v761 : Vec F S1x128 .f32 ← ld St.s18 (Rect.unit (s := S12x128) ![8, 0] S1x128.size inb_S12x128_S1x128_8_0).toLoadRect
  st St.s12 St.set12 (k0_off43 k0_t3) S1x1x128.size (k0_pay114 v761)
  st St.s11 St.set11 (k0_off44 k0_t3) S1x32x128.size (k0_pay115 v631)
  let v770 : Vec F S1x128 .f32 ← ld St.s18 (Rect.unit (s := S12x128) ![9, 0] S1x128.size inb_S12x128_S1x128_9_0).toLoadRect
  st St.s12 St.set12 (k0_off45 k0_t3) S1x1x128.size (k0_pay116 v770)
  pure ⟨⟩

theorem den_part24 (c : Dev nD) (i : grid0.Coords) (k0_t3 : Fin k0_t3_loop.trips) (v68 : BitVec 32) (v589 v610 v631 : FVec F S32x128 .fp8e4m3) :
    Runs c (Res c arg1 arg2 arg3 arg4 arg5 arg6 arg7 arg8 arg9 arg10 arg11 arg12 arg13 arg14 arg15 arg16 arg17 arg18 arg19) (k0_part24 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 k0_t3 v68 v589 v610 v631) (m_part24 i k0_t3 v68 v589 v610 v631) := by
  rw [k0_part24_eq_skeleton]; unfold k0_part24_skel m_part24
  refine den_rd (acc18 c) fun v743 => den_put (acc12 c) fun _ => den_put (acc11 c) fun _ => den_rd (acc18 c) fun v752 => den_put (acc12 c) fun _ => ?_
  refine den_put (acc11 c) fun _ => den_rd (acc18 c) fun v761 => den_put (acc12 c) fun _ => den_put (acc11 c) fun _ => den_rd (acc18 c) fun v770 => ?_
  refine den_put (acc12 c) fun _ => ?_
  exact den_pure _

def m_t3 (i : grid0.Coords) (arg0 : BitVec 32) (v32 : FVec F S128x128 .bf16) :
    Fin k0_t3_loop.trips → Unit → M (St F) Unit :=
  fun k0_t3 _ => do
let ⟨v68, v95⟩ : Σ' (v68 : BitVec 32), FVec F S128x128 .f32 ← m_part6 i 0#32 1#32 k0_t3
let ⟨v123, v134, v135⟩ : Σ' (v123 v134 : FVec F S128x128 .f32), FVec F S128x128 .f32 ← m_part7 i k0_t3 v68 v95
let ⟨v152, v173⟩ : Σ' (v152 : FVec F S128x128 .f32), FVec F S4x8x128 .f32 ← m_part8 i k0_t3 v68 v123 v134 v135
let ⟨v204, v208⟩ : Σ' (v204 : FVec F S128x128 .f32), Vec F S1x128x128 .f32 ← m_part9 i k0_t3 v68 v173
let ⟨v232, v245⟩ : Σ' (v232 : FVec F S128x128 .f32), FVec F S128x128 .f32 ← m_part10 i k0_t3 v68 v204 v208
let ⟨v261, v283⟩ : Σ' (v261 : FVec F S128x128 .f32), FVec F S8x128 .f32 ← m_part11 i k0_t3 v68 v232 v245
let ⟨v313, v318⟩ : Σ' (v313 : FVec F S128x128 .f32), FVec F S128x128 .f32 ← m_part12 i k0_t3 v68 v283
let v355 : FVec F S128x128 .f32 ← m_part13 i k0_t3 v68 v313 v318
let ⟨v370, v392⟩ : Σ' (v370 : FVec F S128x128 .f32), FVec F S8x128 .f32 ← m_part14 i k0_t3 v68 v355
let v422 : FVec F S12x128 .f32 ← m_part15 i v392
let ⟨v442, v463, v467⟩ : Σ' (v442 v463 : FVec F S32x128 .fp8e4m3), FVec F S32x128 .bf16 ← m_part16 i k0_t3 v68 v152 v422
let ⟨v484, v505, v509⟩ : Σ' (v484 v505 : FVec F S32x128 .fp8e4m3), FVec F S32x128 .bf16 ← m_part17 i k0_t3 v68 v152 v463 v467
let ⟨v526, v547, v551⟩ : Σ' (v526 v547 : FVec F S32x128 .fp8e4m3), FVec F S32x128 .bf16 ← m_part18 i k0_t3 v68 v261 v505 v509
let ⟨v568, v589, v593⟩ : Σ' (v568 v589 : FVec F S32x128 .fp8e4m3), FVec F S32x128 .bf16 ← m_part19 i k0_t3 v68 v261 v547 v551
let ⟨v610, v631, v635⟩ : Σ' (v610 v631 : FVec F S32x128 .fp8e4m3), FVec F S32x128 .bf16 ← m_part20 i k0_t3 v68 v370 v589 v593
let ⟨v652, v673, v677⟩ : Σ' (v652 v673 : FVec F S32x128 .fp8e4m3), FVec F S32x128 .bf16 ← m_part21 i k0_t3 v68 v370 v631 v635
let v711 : FVec F S1x1x128 .f32 ← m_part22 i k0_t3 v68 v442 v463 v484 v673 v677
m_part23 i k0_t3 v68 v505 v526 v547 v568 v711
m_part24 i k0_t3 v68 v589 v610 v631
st St.s11 St.set11 (k0_off46 k0_t3) S1x32x128.size (k0_pay207 v652)
let v779 : Vec F S1x128 .f32 ← ld St.s18 (Rect.unit (s := S12x128) ![10, 0] S1x128.size inb_S12x128_S1x128_10_0).toLoadRect
st St.s12 St.set12 (k0_off47 k0_t3) S1x1x128.size (k0_pay208 v779)
st St.s11 St.set11 (k0_off48 k0_t3) S1x32x128.size (k0_pay209 v673)
let v788 : Vec F S1x128 .f32 ← ld St.s18 (Rect.unit (s := S12x128) ![11, 0] S1x128.size inb_S12x128_S1x128_11_0).toLoadRect
st St.s12 St.set12 (k0_off49 k0_t3) S1x1x128.size (k0_pay210 v788)
pure ⟨⟩

theorem den_t3 (c : Dev nD) (i : grid0.Coords) (arg0 : BitVec 32) (v32 : FVec F S128x128 .bf16) (k0_t3 : Fin k0_t3_loop.trips) (a : Unit) :
    Runs c (Res c arg1 arg2 arg3 arg4 arg5 arg6 arg7 arg8 arg9 arg10 arg11 arg12 arg13 arg14 arg15 arg16 arg17 arg18 arg19) (k0_t3_body (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32 k0_t3 a) (m_t3 i arg0 v32 k0_t3 a) := by
  unfold k0_t3_body m_t3
  refine den_bind (den_part6 c i 0#32 1#32 k0_t3) fun ⟨v68, v95⟩ => ?_
  refine den_bind (den_part7 c i k0_t3 v68 v95) fun ⟨v123, v134, v135⟩ => ?_
  refine den_bind (den_part8 c i k0_t3 v68 v123 v134 v135) fun ⟨v152, v173⟩ => ?_
  refine den_bind (den_part9 c i k0_t3 v68 v173) fun ⟨v204, v208⟩ => ?_
  refine den_bind (den_part10 c i k0_t3 v68 v204 v208) fun ⟨v232, v245⟩ => ?_
  refine den_bind (den_part11 c i k0_t3 v68 v232 v245) fun ⟨v261, v283⟩ => ?_
  refine den_bind (den_part12 c i k0_t3 v68 v283) fun ⟨v313, v318⟩ => ?_
  refine den_bind (den_part13 c i k0_t3 v68 v313 v318) fun v355 => ?_
  refine den_bind (den_part14 c i k0_t3 v68 v355) fun ⟨v370, v392⟩ => ?_
  refine den_bind (den_part15 c i v392) fun v422 => ?_
  refine den_bind (den_part16 c i k0_t3 v68 v152 v422) fun ⟨v442, v463, v467⟩ => ?_
  refine den_bind (den_part17 c i k0_t3 v68 v152 v463 v467) fun ⟨v484, v505, v509⟩ => ?_
  refine den_bind (den_part18 c i k0_t3 v68 v261 v505 v509) fun ⟨v526, v547, v551⟩ => ?_
  refine den_bind (den_part19 c i k0_t3 v68 v261 v547 v551) fun ⟨v568, v589, v593⟩ => ?_
  refine den_bind (den_part20 c i k0_t3 v68 v370 v589 v593) fun ⟨v610, v631, v635⟩ => ?_
  refine den_bind (den_part21 c i k0_t3 v68 v370 v631 v635) fun ⟨v652, v673, v677⟩ => ?_
  refine den_bind (den_part22 c i k0_t3 v68 v442 v463 v484 v673 v677) fun v711 => ?_
  refine den_bind (den_part23 c i k0_t3 v68 v505 v526 v547 v568 v711) fun _ => ?_
  refine den_bind (den_part24 c i k0_t3 v68 v589 v610 v631) fun _ => ?_
  refine den_put (acc11 c) fun _ => den_rd (acc18 c) fun v779 => den_put (acc12 c) fun _ => den_put (acc11 c) fun _ => den_rd (acc18 c) fun v788 => ?_
  refine den_put (acc12 c) fun _ => ?_
  exact den_pure _

def m_h6_rest (i : grid0.Coords) (arg0 : BitVec 32) (v32 : FVec F S128x128 .bf16) : M (St F) PUnit := do
  let _ ← loop (m_t3 i arg0 v32) ()
  pure ⟨⟩

def m_h6 (i : grid0.Coords) (arg0 : BitVec 32) (v32 : FVec F S128x128 .bf16) (K : M (St F) PUnit) : M (St F) PUnit := do
  let v65 : Vec F S384x128 .bf16 ← ld St.s16 (Rect.unit (s := S384x1280) ![0, 1024] S384x128.size inb_S384x1280_S384x128_0_1024).toLoadRect
  st St.s16 St.set16 ![0, 0] S384x128.size (k0_pay206 v65)
  K

def m_h5_rest (i : grid0.Coords) (arg0 : BitVec 32) (v32 : FVec F S128x128 .bf16) : M (St F) PUnit := do
  if (Scalar.cmpi .ne (Scalar.extui (Scalar.cmpi .sgt arg0 0#32)) 0#32) = 1#1 then m_h6 i arg0 v32 (m_h6_rest i arg0 v32) else m_h6_rest i arg0 v32

def m_h5 (i : grid0.Coords) (arg0 : BitVec 32) (v32 : FVec F S128x128 .bf16) (K : M (St F) PUnit) : M (St F) PUnit := do
  let v66 : Vec F S384x128 .bf16 ← ld St.s16 (Rect.unit (s := S384x1280) ![0, 0] S384x128.size inb_S384x1280_S384x128_0_0).toLoadRect
  st St.s16 St.set16 ![0, 0] S384x128.size (k0_pay205 (F := F))
  K

def m_h4_rest (i : grid0.Coords) (arg0 : BitVec 32) (v32 : FVec F S128x128 .bf16) : M (St F) PUnit := do
  if (Scalar.cmpi .ne (Scalar.extui (Scalar.cmpi .eq arg0 0#32)) 0#32) = 1#1 then m_h5 i arg0 v32 (m_h5_rest i arg0 v32) else m_h5_rest i arg0 v32

def m_h4 (i : grid0.Coords) (arg0 : BitVec 32) (v32 : FVec F S128x128 .bf16) (K : M (St F) PUnit) : M (St F) PUnit := do
  let ⟨v88, v92⟩ : Σ' (v88 : FVec F S16x128 .f32), Vec F S1x16x128 .f32 ← m_part5 i
  st St.s15 St.set15 ![2, 1037, 0] S1x16x128.size (k0_pay204 v88)
  K

def m_h3_rest (i : grid0.Coords) (arg0 : BitVec 32) (v32 : FVec F S128x128 .bf16) : M (St F) PUnit := do
  if (Scalar.cmpi .ne (Scalar.extui (Scalar.cmpi .eq arg0 255#32)) 0#32) = 1#1 then m_h4 i arg0 v32 (m_h4_rest i arg0 v32) else m_h4_rest i arg0 v32

def m_h3 (i : grid0.Coords) (arg0 : BitVec 32) (v32 : FVec F S128x128 .bf16) (K : M (St F) PUnit) : M (St F) PUnit := do
  let ⟨v88, v92⟩ : Σ' (v88 : FVec F S13x128 .f32), Vec F S1x13x128 .f32 ← m_part4 i
  st St.s15 St.set15 ![2, 0, 0] S1x13x128.size (k0_pay203 v88)
  K

def m_h2_rest (i : grid0.Coords) (arg0 : BitVec 32) (v32 : FVec F S128x128 .bf16) : M (St F) PUnit := do
  let _ ← loop (m_t2 i arg0 v32) ()
  if (Scalar.cmpi .ne (Scalar.extui (Scalar.cmpi .eq arg0 0#32)) 0#32) = 1#1 then m_h3 i arg0 v32 (m_h3_rest i arg0 v32) else m_h3_rest i arg0 v32

def m_h2 (i : grid0.Coords) (arg0 : BitVec 32) (v32 : FVec F S128x128 .bf16) (K : M (St F) PUnit) : M (St F) PUnit := do
  let v65 : Vec F S1x16x128 .bf16 ← ld St.s13 (Rect.unit (s := S3x1280x128) ![0, 1136, 0] S1x16x128.size inb_S3x1280x128_S1x16x128_0_1136_0).toLoadRect
  st St.s13 St.set13 ![0, 1152, 0] S1x16x128.size (k0_pay199 v65)
  let v75 : Vec F S1x16x128 .bf16 ← ld St.s13 (Rect.unit (s := S3x1280x128) ![1, 1136, 0] S1x16x128.size inb_S3x1280x128_S1x16x128_1_1136_0).toLoadRect
  st St.s13 St.set13 ![1, 1152, 0] S1x16x128.size (k0_pay200 v75)
  let v85 : Vec F S1x16x128 .bf16 ← ld St.s13 (Rect.unit (s := S3x1280x128) ![2, 1136, 0] S1x16x128.size inb_S3x1280x128_S1x16x128_2_1136_0).toLoadRect
  let v92 : Vec F S1x16x128 .bf16 ← ld St.s13 (Rect.unit (s := S3x1280x128) ![2, 1152, 0] S1x16x128.size inb_S3x1280x128_S1x16x128_2_1152_0).toLoadRect
  st St.s13 St.set13 ![2, 1152, 0] S1x16x128.size (k0_pay201 v85)
  K

def m_h1_rest (i : grid0.Coords) (arg0 : BitVec 32) (v32 : FVec F S128x128 .bf16) : M (St F) PUnit := do
  if (Scalar.cmpi .ne (Scalar.extui (Scalar.cmpi .eq arg0 255#32)) 0#32) = 1#1 then m_h2 i arg0 v32 (m_h2_rest i arg0 v32) else m_h2_rest i arg0 v32

def m_h1 (i : grid0.Coords) (arg0 : BitVec 32) (v32 : FVec F S128x128 .bf16) (K : M (St F) PUnit) : M (St F) PUnit := do
  let v65 : Vec F S1x16x128 .bf16 ← ld St.s13 (Rect.unit (s := S3x1280x128) ![0, 128, 0] S1x16x128.size inb_S3x1280x128_S1x16x128_0_128_0).toLoadRect
  let v72 : Vec F S1x16x128 .bf16 ← ld St.s13 (Rect.unit (s := S3x1280x128) ![0, 112, 0] S1x16x128.size inb_S3x1280x128_S1x16x128_0_112_0).toLoadRect
  st St.s13 St.set13 ![0, 112, 0] S1x16x128.size (k0_pay196 v65)
  let v75 : Vec F S1x16x128 .bf16 ← ld St.s13 (Rect.unit (s := S3x1280x128) ![1, 128, 0] S1x16x128.size inb_S3x1280x128_S1x16x128_1_128_0).toLoadRect
  let v82 : Vec F S1x16x128 .bf16 ← ld St.s13 (Rect.unit (s := S3x1280x128) ![1, 112, 0] S1x16x128.size inb_S3x1280x128_S1x16x128_1_112_0).toLoadRect
  st St.s13 St.set13 ![1, 112, 0] S1x16x128.size (k0_pay197 v75)
  let v85 : Vec F S1x16x128 .bf16 ← ld St.s13 (Rect.unit (s := S3x1280x128) ![2, 128, 0] S1x16x128.size inb_S3x1280x128_S1x16x128_2_128_0).toLoadRect
  let v92 : Vec F S1x16x128 .bf16 ← ld St.s13 (Rect.unit (s := S3x1280x128) ![2, 112, 0] S1x16x128.size inb_S3x1280x128_S1x16x128_2_112_0).toLoadRect
  st St.s13 St.set13 ![2, 112, 0] S1x16x128.size (k0_pay198 v85)
  K

def m_part44 (i : grid0.Coords) (arg0 : BitVec 32) (v32 : FVec F S128x128 .bf16) : M (St F) ((PUnit)) := do
  st St.s13 St.set13 ![2, 1152, 0] S1x128x128.size (k0_pay191 v32)
  let _ ← loop (m_t1 i arg0 v32) ()
  if (Scalar.cmpi .ne (Scalar.extui (Scalar.cmpi .eq arg0 0#32)) 0#32) = 1#1 then m_h1 i arg0 v32 (m_h1_rest i arg0 v32) else m_h1_rest i arg0 v32

theorem den_part44 (c : Dev nD) (i : grid0.Coords) (arg0 : BitVec 32) (v32 : FVec F S128x128 .bf16) :
    Runs c (Res c arg1 arg2 arg3 arg4 arg5 arg6 arg7 arg8 arg9 arg10 arg11 arg12 arg13 arg14 arg15 arg16 arg17 arg18 arg19) (k0_part44 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 arg0 v32) (m_part44 i arg0 v32) := by
  rw [k0_part44_eq_skeleton]; unfold k0_part44_skel m_part44
  refine den_put (acc13 c) fun _ => ?_
  refine den_bind (den_for fun k a => den_t1 c i arg0 v32 k a) fun _ => ?_
  extract_lets -underBinder -merge -useContext v37 v38 v39 jp_h1
  have hj_h1 : ∀ r, Runs c (Res c arg1 arg2 arg3 arg4 arg5 arg6 arg7 arg8 arg9 arg10 arg11 arg12 arg13 arg14 arg15 arg16 arg17 arg18 arg19) (jp_h1 r) (m_h1_rest i arg0 v32) := by
    intro r; simp -zeta -zetaHave only [jp_h1]; unfold m_h1_rest
    extract_lets -underBinder -merge -useContext v40 v41 v42 jp_h2
    have hj_h2 : ∀ r, Runs c (Res c arg1 arg2 arg3 arg4 arg5 arg6 arg7 arg8 arg9 arg10 arg11 arg12 arg13 arg14 arg15 arg16 arg17 arg18 arg19) (jp_h2 r) (m_h2_rest i arg0 v32) := by
      intro r; simp -zeta -zetaHave only [jp_h2]; unfold m_h2_rest
      refine den_bind (den_for fun k a => den_t2 c i arg0 v32 k a) fun _ => ?_
      extract_lets -underBinder -merge -useContext v44 v45 v46 jp_h3
      have hj_h3 : ∀ r, Runs c (Res c arg1 arg2 arg3 arg4 arg5 arg6 arg7 arg8 arg9 arg10 arg11 arg12 arg13 arg14 arg15 arg16 arg17 arg18 arg19) (jp_h3 r) (m_h3_rest i arg0 v32) := by
        intro r; simp -zeta -zetaHave only [jp_h3]; unfold m_h3_rest
        extract_lets -underBinder -merge -useContext v47 v48 v49 jp_h4
        have hj_h4 : ∀ r, Runs c (Res c arg1 arg2 arg3 arg4 arg5 arg6 arg7 arg8 arg9 arg10 arg11 arg12 arg13 arg14 arg15 arg16 arg17 arg18 arg19) (jp_h4 r) (m_h4_rest i arg0 v32) := by
          intro r; simp -zeta -zetaHave only [jp_h4]; unfold m_h4_rest
          extract_lets -underBinder -merge -useContext v50 v51 v52 jp_h5
          have hj_h5 : ∀ r, Runs c (Res c arg1 arg2 arg3 arg4 arg5 arg6 arg7 arg8 arg9 arg10 arg11 arg12 arg13 arg14 arg15 arg16 arg17 arg18 arg19) (jp_h5 r) (m_h5_rest i arg0 v32) := by
            intro r; simp -zeta -zetaHave only [jp_h5]; unfold m_h5_rest
            extract_lets -underBinder -merge -useContext v53 v54 v55 jp_h6
            have hj_h6 : ∀ r, Runs c (Res c arg1 arg2 arg3 arg4 arg5 arg6 arg7 arg8 arg9 arg10 arg11 arg12 arg13 arg14 arg15 arg16 arg17 arg18 arg19) (jp_h6 r) (m_h6_rest i arg0 v32) := by
              intro r; simp -zeta -zetaHave only [jp_h6]; unfold m_h6_rest
              refine den_bind (den_for fun k a => den_t3 c i arg0 v32 k a) fun _ => ?_
              exact den_pure _
            clear_value jp_h6
            refine den_dite (fun _ => ?_) (fun _ => hj_h6 _)
            unfold m_h6
            refine den_rd (acc16 c) fun v65 => den_put (acc16 c) fun _ => ?_
            exact hj_h6 _
          clear_value jp_h5
          refine den_dite (fun _ => ?_) (fun _ => hj_h5 _)
          unfold m_h5
          refine den_rd (acc16 c) fun v66 => ?_
          refine den_bind (den_st (acc16 c)) fun _ => ?_
          exact hj_h5 _
        clear_value jp_h4
        refine den_dite (fun _ => ?_) (fun _ => hj_h4 _)
        unfold m_h4
        refine den_bind (den_part5 c i) fun ⟨v88, v92⟩ => ?_
        refine den_bind (den_st (acc15 c)) fun _ => ?_
        exact hj_h4 _
      clear_value jp_h3
      refine den_dite (fun _ => ?_) (fun _ => hj_h3 _)
      unfold m_h3
      refine den_bind (den_part4 c i) fun ⟨v88, v92⟩ => ?_
      refine den_bind (den_st (acc15 c)) fun _ => ?_
      exact hj_h3 _
    clear_value jp_h2
    refine den_dite (fun _ => ?_) (fun _ => hj_h2 _)
    unfold m_h2
    refine den_rd (acc13 c) fun v65 => den_put (acc13 c) fun _ => den_rd (acc13 c) fun v75 => den_put (acc13 c) fun _ => den_rd (acc13 c) fun v85 => ?_
    refine den_rd (acc13 c) fun v92 => ?_
    refine den_bind (den_st (acc13 c)) fun _ => ?_
    exact hj_h2 _
  clear_value jp_h1
  refine den_dite (fun _ => ?_) (fun _ => hj_h1 _)
  unfold m_h1
  refine den_rd (acc13 c) fun v65 => den_rd (acc13 c) fun v72 => ?_
  refine den_bind (den_st (acc13 c)) fun _ => ?_
  refine den_rd (acc13 c) fun v75 => den_rd (acc13 c) fun v82 => ?_
  refine den_bind (den_st (acc13 c)) fun _ => ?_
  refine den_rd (acc13 c) fun v85 => den_rd (acc13 c) fun v92 => ?_
  refine den_bind (den_st (acc13 c)) fun _ => ?_
  exact hj_h1 _

def m_part25 (i : grid0.Coords) : M (St F) ((FVec F S128x128 .f32)) := do
  let v65 : Vec F S1x128x128 .f32 ← ld St.s14 (Rect.unit (s := S3x1280x128) ![0, 1035, 0] S1x128x128.size inb_S3x1280x128_S1x128x128_0_1035_0).toLoadRect
  let v67 : Vec F S1x128x128 .f32 ← ld St.s15 (Rect.unit (s := S3x1280x128) ![0, 1039, 0] S1x128x128.size inb_S3x1280x128_S1x128x128_0_1039_0).toLoadRect
  let v72 : Vec F S1x128x128 .f32 ← ld St.s14 (Rect.unit (s := S3x1280x128) ![0, 1036, 0] S1x128x128.size inb_S3x1280x128_S1x128x128_0_1036_0).toLoadRect
  let v74 : Vec F S1x128x128 .f32 ← ld St.s15 (Rect.unit (s := S3x1280x128) ![0, 1038, 0] S1x128x128.size inb_S3x1280x128_S1x128x128_0_1038_0).toLoadRect
  let v80 : Vec F S1x128x128 .f32 ← ld St.s14 (Rect.unit (s := S3x1280x128) ![0, 1037, 0] S1x128x128.size inb_S3x1280x128_S1x128x128_0_1037_0).toLoadRect
  let v82 : Vec F S1x128x128 .f32 ← ld St.s15 (Rect.unit (s := S3x1280x128) ![0, 1037, 0] S1x128x128.size inb_S3x1280x128_S1x128x128_0_1037_0).toLoadRect
  let v88 : Vec F S1x128x128 .f32 ← ld St.s14 (Rect.unit (s := S3x1280x128) ![0, 1038, 0] S1x128x128.size inb_S3x1280x128_S1x128x128_0_1038_0).toLoadRect
  let v90 : Vec F S1x128x128 .f32 ← ld St.s15 (Rect.unit (s := S3x1280x128) ![0, 1036, 0] S1x128x128.size inb_S3x1280x128_S1x128x128_0_1036_0).toLoadRect
  pure (k0_pay117 v65 v67 v72 v74 v80 v82 v88 v90)

theorem den_part25 (c : Dev nD) (i : grid0.Coords) :
    Runs c (Res c arg1 arg2 arg3 arg4 arg5 arg6 arg7 arg8 arg9 arg10 arg11 arg12 arg13 arg14 arg15 arg16 arg17 arg18 arg19) (k0_part25 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) (m_part25 i) := by
  rw [k0_part25_eq_skeleton]; unfold k0_part25_skel m_part25
  refine den_rd (acc14 c) fun v65 => den_rd (acc15 c) fun v67 => den_rd (acc14 c) fun v72 => den_rd (acc15 c) fun v74 => den_rd (acc14 c) fun v80 => ?_
  refine den_rd (acc15 c) fun v82 => den_rd (acc14 c) fun v88 => den_rd (acc15 c) fun v90 => ?_
  exact den_pure _

def m_part26 (i : grid0.Coords) (v95 : FVec F S128x128 .f32) : M (St F) ((Σ' (v112 v113 : FVec F S128x128 .f32), FVec F S8x128 .f32)) := do
  let v96 : Vec F S1x128x128 .f32 ← ld St.s14 (Rect.unit (s := S3x1280x128) ![0, 1039, 0] S1x128x128.size inb_S3x1280x128_S1x128x128_0_1039_0).toLoadRect
  let v98 : Vec F S1x128x128 .f32 ← ld St.s15 (Rect.unit (s := S3x1280x128) ![0, 1035, 0] S1x128x128.size inb_S3x1280x128_S1x128x128_0_1035_0).toLoadRect
  let v104 : Vec F S1x128x128 .f32 ← ld St.s14 (Rect.unit (s := S3x1280x128) ![0, 1040, 0] S1x128x128.size inb_S3x1280x128_S1x128x128_0_1040_0).toLoadRect
  let v106 : Vec F S1x128x128 .f32 ← ld St.s15 (Rect.unit (s := S3x1280x128) ![0, 1034, 0] S1x128x128.size inb_S3x1280x128_S1x128x128_0_1034_0).toLoadRect
  st St.s17 St.set17 ![0, 0] S8x128.size (k0_pay120 v95 v96 v98 v104 v106)
  st St.s17 St.set17 ![8, 0] S8x128.size (k0_pay121 v95 v96 v98 v104 v106)
  pure ⟨k0_pay118 v95 v96 v98 v104 v106, k0_pay119 v95 v96 v98 v104 v106, k0_pay122 v95 v96 v98 v104 v106⟩

theorem den_part26 (c : Dev nD) (i : grid0.Coords) (v95 : FVec F S128x128 .f32) :
    Runs c (Res c arg1 arg2 arg3 arg4 arg5 arg6 arg7 arg8 arg9 arg10 arg11 arg12 arg13 arg14 arg15 arg16 arg17 arg18 arg19) (k0_part26 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v95) (m_part26 i v95) := by
  rw [k0_part26_eq_skeleton]; unfold k0_part26_skel m_part26
  refine den_rd (acc14 c) fun v96 => den_rd (acc15 c) fun v98 => den_rd (acc14 c) fun v104 => den_rd (acc15 c) fun v106 => den_put (acc17 c) fun _ => ?_
  refine den_put (acc17 c) fun _ => ?_
  refine den_dead (acc17 c) ?_
  exact den_pure _

def m_part27 (i : grid0.Coords) (v113 : FVec F S128x128 .f32) (v131 : FVec F S8x128 .f32) : M (St F) ((Σ' (v160 : FVec F S128x128 .f32), FVec F S128x128 .f32)) := do
  st St.s17 St.set17 ![16, 0] S8x128.size v131
  st St.s17 St.set17 ![24, 0] S8x128.size (k0_pay123 v113)
  let v138 : Vec F S1x128x128 .f32 ← ld St.s14 (Rect.unit (s := S3x1280x128) ![1, 1035, 0] S1x128x128.size inb_S3x1280x128_S1x128x128_1_1035_0).toLoadRect
  let v140 : Vec F S1x128x128 .f32 ← ld St.s15 (Rect.unit (s := S3x1280x128) ![1, 1039, 0] S1x128x128.size inb_S3x1280x128_S1x128x128_1_1039_0).toLoadRect
  let v145 : Vec F S1x128x128 .f32 ← ld St.s14 (Rect.unit (s := S3x1280x128) ![1, 1036, 0] S1x128x128.size inb_S3x1280x128_S1x128x128_1_1036_0).toLoadRect
  let v147 : Vec F S1x128x128 .f32 ← ld St.s15 (Rect.unit (s := S3x1280x128) ![1, 1038, 0] S1x128x128.size inb_S3x1280x128_S1x128x128_1_1038_0).toLoadRect
  let v153 : Vec F S1x128x128 .f32 ← ld St.s14 (Rect.unit (s := S3x1280x128) ![1, 1037, 0] S1x128x128.size inb_S3x1280x128_S1x128x128_1_1037_0).toLoadRect
  let v155 : Vec F S1x128x128 .f32 ← ld St.s15 (Rect.unit (s := S3x1280x128) ![1, 1037, 0] S1x128x128.size inb_S3x1280x128_S1x128x128_1_1037_0).toLoadRect
  let v161 : Vec F S1x128x128 .f32 ← ld St.s14 (Rect.unit (s := S3x1280x128) ![1, 1038, 0] S1x128x128.size inb_S3x1280x128_S1x128x128_1_1038_0).toLoadRect
  pure ⟨k0_pay124 v138 v140 v145 v147 v153 v155, k0_pay125 v161⟩

theorem den_part27 (c : Dev nD) (i : grid0.Coords) (v113 : FVec F S128x128 .f32) (v131 : FVec F S8x128 .f32) :
    Runs c (Res c arg1 arg2 arg3 arg4 arg5 arg6 arg7 arg8 arg9 arg10 arg11 arg12 arg13 arg14 arg15 arg16 arg17 arg18 arg19) (k0_part27 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v113 v131) (m_part27 i v113 v131) := by
  rw [k0_part27_eq_skeleton]; unfold k0_part27_skel m_part27
  refine den_bind (den_st (acc17 c)) fun _ => ?_
  refine den_put (acc17 c) fun _ => den_rd (acc14 c) fun v138 => den_rd (acc15 c) fun v140 => den_rd (acc14 c) fun v145 => den_rd (acc15 c) fun v147 => ?_
  refine den_rd (acc14 c) fun v153 => den_rd (acc15 c) fun v155 => den_rd (acc14 c) fun v161 => ?_
  exact den_pure _

def m_part28 (i : grid0.Coords) (v160 v162 : FVec F S128x128 .f32) : M (St F) ((Σ' (v185 v186 : FVec F S128x128 .f32), FVec F S8x128 .f32)) := do
  let v163 : Vec F S1x128x128 .f32 ← ld St.s15 (Rect.unit (s := S3x1280x128) ![1, 1036, 0] S1x128x128.size inb_S3x1280x128_S1x128x128_1_1036_0).toLoadRect
  let v169 : Vec F S1x128x128 .f32 ← ld St.s14 (Rect.unit (s := S3x1280x128) ![1, 1039, 0] S1x128x128.size inb_S3x1280x128_S1x128x128_1_1039_0).toLoadRect
  let v171 : Vec F S1x128x128 .f32 ← ld St.s15 (Rect.unit (s := S3x1280x128) ![1, 1035, 0] S1x128x128.size inb_S3x1280x128_S1x128x128_1_1035_0).toLoadRect
  let v177 : Vec F S1x128x128 .f32 ← ld St.s14 (Rect.unit (s := S3x1280x128) ![1, 1040, 0] S1x128x128.size inb_S3x1280x128_S1x128x128_1_1040_0).toLoadRect
  let v179 : Vec F S1x128x128 .f32 ← ld St.s15 (Rect.unit (s := S3x1280x128) ![1, 1034, 0] S1x128x128.size inb_S3x1280x128_S1x128x128_1_1034_0).toLoadRect
  st St.s17 St.set17 ![32, 0] S8x128.size (k0_pay128 v160 v162 v163 v169 v171 v177 v179)
  pure ⟨k0_pay126 v160 v162 v163 v169 v171 v177 v179, k0_pay127 v160 v162 v163 v169 v171 v177 v179, k0_pay129 v160 v162 v163 v169 v171 v177 v179⟩

theorem den_part28 (c : Dev nD) (i : grid0.Coords) (v160 v162 : FVec F S128x128 .f32) :
    Runs c (Res c arg1 arg2 arg3 arg4 arg5 arg6 arg7 arg8 arg9 arg10 arg11 arg12 arg13 arg14 arg15 arg16 arg17 arg18 arg19) (k0_part28 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v160 v162) (m_part28 i v160 v162) := by
  rw [k0_part28_eq_skeleton]; unfold k0_part28_skel m_part28
  refine den_rd (acc15 c) fun v163 => den_rd (acc14 c) fun v169 => den_rd (acc15 c) fun v171 => den_rd (acc14 c) fun v177 => den_rd (acc15 c) fun v179 => ?_
  refine den_put (acc17 c) fun _ => ?_
  refine den_dead (acc17 c) ?_
  exact den_pure _

def m_part29 (i : grid0.Coords) (v186 : FVec F S128x128 .f32) (v195 : FVec F S8x128 .f32) : M (St F) ((Σ' (v225 v227 : FVec F S128x128 .f32), Vec F S1x128x128 .f32)) := do
  st St.s17 St.set17 ![40, 0] S8x128.size (k0_pay130 v195)
  st St.s17 St.set17 ![48, 0] S8x128.size (k0_pay131 v186)
  st St.s17 St.set17 ![56, 0] S8x128.size (k0_pay132 v186)
  let v211 : Vec F S1x128x128 .f32 ← ld St.s14 (Rect.unit (s := S3x1280x128) ![2, 1035, 0] S1x128x128.size inb_S3x1280x128_S1x128x128_2_1035_0).toLoadRect
  let v213 : Vec F S1x128x128 .f32 ← ld St.s15 (Rect.unit (s := S3x1280x128) ![2, 1039, 0] S1x128x128.size inb_S3x1280x128_S1x128x128_2_1039_0).toLoadRect
  let v218 : Vec F S1x128x128 .f32 ← ld St.s14 (Rect.unit (s := S3x1280x128) ![2, 1036, 0] S1x128x128.size inb_S3x1280x128_S1x128x128_2_1036_0).toLoadRect
  let v220 : Vec F S1x128x128 .f32 ← ld St.s15 (Rect.unit (s := S3x1280x128) ![2, 1038, 0] S1x128x128.size inb_S3x1280x128_S1x128x128_2_1038_0).toLoadRect
  let v226 : Vec F S1x128x128 .f32 ← ld St.s14 (Rect.unit (s := S3x1280x128) ![2, 1037, 0] S1x128x128.size inb_S3x1280x128_S1x128x128_2_1037_0).toLoadRect
  let v228 : Vec F S1x128x128 .f32 ← ld St.s15 (Rect.unit (s := S3x1280x128) ![2, 1037, 0] S1x128x128.size inb_S3x1280x128_S1x128x128_2_1037_0).toLoadRect
  pure ⟨k0_pay133 v211 v213 v218 v220, k0_pay134 v226, v228⟩

theorem den_part29 (c : Dev nD) (i : grid0.Coords) (v186 : FVec F S128x128 .f32) (v195 : FVec F S8x128 .f32) :
    Runs c (Res c arg1 arg2 arg3 arg4 arg5 arg6 arg7 arg8 arg9 arg10 arg11 arg12 arg13 arg14 arg15 arg16 arg17 arg18 arg19) (k0_part29 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v186 v195) (m_part29 i v186 v195) := by
  rw [k0_part29_eq_skeleton]; unfold k0_part29_skel m_part29
  refine den_bind (den_st (acc17 c)) fun _ => ?_
  refine den_put (acc17 c) fun _ => den_put (acc17 c) fun _ => den_rd (acc14 c) fun v211 => den_rd (acc15 c) fun v213 => den_rd (acc14 c) fun v218 => ?_
  refine den_rd (acc15 c) fun v220 => den_rd (acc14 c) fun v226 => den_rd (acc15 c) fun v228 => ?_
  exact den_pure _

def m_part30 (i : grid0.Coords) (v225 v227 : FVec F S128x128 .f32) (v228 : Vec F S1x128x128 .f32) : M (St F) ((Σ' (v258 v259 : FVec F S128x128 .f32) (v262 : FVec F S8x128 .f32), Vec F S8x128 .f32)) := do
  let v234 : Vec F S1x128x128 .f32 ← ld St.s14 (Rect.unit (s := S3x1280x128) ![2, 1038, 0] S1x128x128.size inb_S3x1280x128_S1x128x128_2_1038_0).toLoadRect
  let v236 : Vec F S1x128x128 .f32 ← ld St.s15 (Rect.unit (s := S3x1280x128) ![2, 1036, 0] S1x128x128.size inb_S3x1280x128_S1x128x128_2_1036_0).toLoadRect
  let v242 : Vec F S1x128x128 .f32 ← ld St.s14 (Rect.unit (s := S3x1280x128) ![2, 1039, 0] S1x128x128.size inb_S3x1280x128_S1x128x128_2_1039_0).toLoadRect
  let v244 : Vec F S1x128x128 .f32 ← ld St.s15 (Rect.unit (s := S3x1280x128) ![2, 1035, 0] S1x128x128.size inb_S3x1280x128_S1x128x128_2_1035_0).toLoadRect
  let v250 : Vec F S1x128x128 .f32 ← ld St.s14 (Rect.unit (s := S3x1280x128) ![2, 1040, 0] S1x128x128.size inb_S3x1280x128_S1x128x128_2_1040_0).toLoadRect
  let v252 : Vec F S1x128x128 .f32 ← ld St.s15 (Rect.unit (s := S3x1280x128) ![2, 1034, 0] S1x128x128.size inb_S3x1280x128_S1x128x128_2_1034_0).toLoadRect
  let v263 : Vec F S8x128 .f32 ← ld St.s17 (Rect.unit (s := S96x128) ![64, 0] S8x128.size inb_S96x128_S8x128_64_0).toLoadRect
  pure ⟨k0_pay135 v225 v227 v228 v234 v236 v242 v244 v250 v252, k0_pay136 v225 v227 v228 v234 v236 v242 v244 v250 v252, k0_pay137 v225 v227 v228 v234 v236 v242 v244 v250 v252, v263⟩

theorem den_part30 (c : Dev nD) (i : grid0.Coords) (v225 v227 : FVec F S128x128 .f32) (v228 : Vec F S1x128x128 .f32) :
    Runs c (Res c arg1 arg2 arg3 arg4 arg5 arg6 arg7 arg8 arg9 arg10 arg11 arg12 arg13 arg14 arg15 arg16 arg17 arg18 arg19) (k0_part30 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v225 v227 v228) (m_part30 i v225 v227 v228) := by
  rw [k0_part30_eq_skeleton]; unfold k0_part30_skel m_part30
  refine den_rd (acc14 c) fun v234 => den_rd (acc15 c) fun v236 => den_rd (acc14 c) fun v242 => den_rd (acc15 c) fun v244 => den_rd (acc14 c) fun v250 => ?_
  refine den_rd (acc15 c) fun v252 => den_rd (acc17 c) fun v263 => ?_
  exact den_pure _

def m_part31 (i : grid0.Coords) (v259 : FVec F S128x128 .f32) (v262 : FVec F S8x128 .f32) (v263 : Vec F S8x128 .f32) : M (St F) ((FVec F S12x128 .f32)) := do
  st St.s17 St.set17 ![64, 0] S8x128.size (k0_pay138 v262)
  st St.s17 St.set17 ![72, 0] S8x128.size (k0_pay139 v259)
  st St.s17 St.set17 ![80, 0] S8x128.size (k0_pay140 v259)
  st St.s17 St.set17 ![88, 0] S8x128.size (k0_pay141 v259)
  let v284 : Vec F S12x128 .f32 ← ld St.s17 (⟨![0, 0], S12x128.size, ![8, 1], inb_S96x128_S12x128_0_0_s_8_1⟩ : LoadRect S96x128)
  let v285 : Vec F S12x128 .f32 ← ld St.s17 (⟨![1, 0], S12x128.size, ![8, 1], inb_S96x128_S12x128_1_0_s_8_1⟩ : LoadRect S96x128)
  let v287 : Vec F S12x128 .f32 ← ld St.s17 (⟨![2, 0], S12x128.size, ![8, 1], inb_S96x128_S12x128_2_0_s_8_1⟩ : LoadRect S96x128)
  let v289 : Vec F S12x128 .f32 ← ld St.s17 (⟨![3, 0], S12x128.size, ![8, 1], inb_S96x128_S12x128_3_0_s_8_1⟩ : LoadRect S96x128)
  let v291 : Vec F S12x128 .f32 ← ld St.s17 (⟨![4, 0], S12x128.size, ![8, 1], inb_S96x128_S12x128_4_0_s_8_1⟩ : LoadRect S96x128)
  let v293 : Vec F S12x128 .f32 ← ld St.s17 (⟨![5, 0], S12x128.size, ![8, 1], inb_S96x128_S12x128_5_0_s_8_1⟩ : LoadRect S96x128)
  let v295 : Vec F S12x128 .f32 ← ld St.s17 (⟨![6, 0], S12x128.size, ![8, 1], inb_S96x128_S12x128_6_0_s_8_1⟩ : LoadRect S96x128)
  pure (k0_pay142 v284 v285 v287 v289 v291 v293 v295)

theorem den_part31 (c : Dev nD) (i : grid0.Coords) (v259 : FVec F S128x128 .f32) (v262 : FVec F S8x128 .f32) (v263 : Vec F S8x128 .f32) :
    Runs c (Res c arg1 arg2 arg3 arg4 arg5 arg6 arg7 arg8 arg9 arg10 arg11 arg12 arg13 arg14 arg15 arg16 arg17 arg18 arg19) (k0_part31 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v259 v262 v263) (m_part31 i v259 v262 v263) := by
  rw [k0_part31_eq_skeleton]; unfold k0_part31_skel m_part31
  refine den_bind (den_st (acc17 c)) fun _ => ?_
  refine den_put (acc17 c) fun _ => den_put (acc17 c) fun _ => den_put (acc17 c) fun _ => den_rd (acc17 c) fun v284 => den_rd (acc17 c) fun v285 => ?_
  refine den_rd (acc17 c) fun v287 => den_rd (acc17 c) fun v289 => den_rd (acc17 c) fun v291 => den_rd (acc17 c) fun v293 => den_rd (acc17 c) fun v295 => ?_
  exact den_pure _

def m_part32 (i : grid0.Coords) (v112 : FVec F S128x128 .f32) (v296 : FVec F S12x128 .f32) : M (St F) ((FVec F S32x128 .bf16)) := do
  let v297 : Vec F S12x128 .f32 ← ld St.s17 (⟨![7, 0], S12x128.size, ![8, 1], inb_S96x128_S12x128_7_0_s_8_1⟩ : LoadRect S96x128)
  st St.s18 St.set18 ![0, 0] S12x128.size (k0_pay144 v296 v297)
  st St.s19 St.set19 ![0, 0] S12x128.size (k0_pay145 v296 v297)
  let v321 : Vec F S1x128 .f32 ← ld St.s19 (Rect.unit (s := S12x128) ![0, 0] S1x128.size inb_S12x128_S1x128_0_0).toLoadRect
  let v331 : Vec F S1x128 .f32 ← ld St.s18 (Rect.unit (s := S12x128) ![0, 0] S1x128.size inb_S12x128_S1x128_0_0).toLoadRect
  pure (k0_pay146 v112 v321 v331)

theorem den_part32 (c : Dev nD) (i : grid0.Coords) (v112 : FVec F S128x128 .f32) (v296 : FVec F S12x128 .f32) :
    Runs c (Res c arg1 arg2 arg3 arg4 arg5 arg6 arg7 arg8 arg9 arg10 arg11 arg12 arg13 arg14 arg15 arg16 arg17 arg18 arg19) (k0_part32 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v112 v296) (m_part32 i v112 v296) := by
  rw [k0_part32_eq_skeleton]; unfold k0_part32_skel m_part32
  refine den_rd (acc17 c) fun v297 => den_put (acc18 c) fun _ => den_put (acc19 c) fun _ => den_rd (acc19 c) fun v321 => den_rd (acc18 c) fun v331 => ?_
  exact den_pure _

def m_part33 (i : grid0.Coords) (v112 : FVec F S128x128 .f32) (v336 : FVec F S32x128 .bf16) : M (St F) ((FVec F S32x128 .bf16)) := do
  st St.s16 St.set16 ![0, 1152] S32x128.size (k0_pay147 v336)
  let v340 : Vec F S1x128 .f32 ← ld St.s19 (Rect.unit (s := S12x128) ![1, 0] S1x128.size inb_S12x128_S1x128_1_0).toLoadRect
  let v350 : Vec F S1x128 .f32 ← ld St.s18 (Rect.unit (s := S12x128) ![1, 0] S1x128.size inb_S12x128_S1x128_1_0).toLoadRect
  st St.s16 St.set16 ![32, 1152] S32x128.size (k0_pay148 v112 v340 v350)
  let v359 : Vec F S1x128 .f32 ← ld St.s19 (Rect.unit (s := S12x128) ![2, 0] S1x128.size inb_S12x128_S1x128_2_0).toLoadRect
  let v369 : Vec F S1x128 .f32 ← ld St.s18 (Rect.unit (s := S12x128) ![2, 0] S1x128.size inb_S12x128_S1x128_2_0).toLoadRect
  pure (k0_pay149 v112 v359 v369)

theorem den_part33 (c : Dev nD) (i : grid0.Coords) (v112 : FVec F S128x128 .f32) (v336 : FVec F S32x128 .bf16) :
    Runs c (Res c arg1 arg2 arg3 arg4 arg5 arg6 arg7 arg8 arg9 arg10 arg11 arg12 arg13 arg14 arg15 arg16 arg17 arg18 arg19) (k0_part33 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v112 v336) (m_part33 i v112 v336) := by
  rw [k0_part33_eq_skeleton]; unfold k0_part33_skel m_part33
  refine den_put (acc16 c) fun _ => den_rd (acc19 c) fun v340 => den_rd (acc18 c) fun v350 => den_put (acc16 c) fun _ => den_rd (acc19 c) fun v359 => ?_
  refine den_rd (acc18 c) fun v369 => ?_
  refine den_dead (acc16 c) ?_
  exact den_pure _

def m_part34 (i : grid0.Coords) (v112 v185 : FVec F S128x128 .f32) (v374 : FVec F S32x128 .bf16) : M (St F) ((PUnit)) := do
  st St.s16 St.set16 ![64, 1152] S32x128.size (k0_pay150 v374)
  let v378 : Vec F S1x128 .f32 ← ld St.s19 (Rect.unit (s := S12x128) ![3, 0] S1x128.size inb_S12x128_S1x128_3_0).toLoadRect
  let v388 : Vec F S1x128 .f32 ← ld St.s18 (Rect.unit (s := S12x128) ![3, 0] S1x128.size inb_S12x128_S1x128_3_0).toLoadRect
  st St.s16 St.set16 ![96, 1152] S32x128.size (k0_pay151 v112 v378 v388)
  let v397 : Vec F S1x128 .f32 ← ld St.s19 (Rect.unit (s := S12x128) ![4, 0] S1x128.size inb_S12x128_S1x128_4_0).toLoadRect
  let v407 : Vec F S1x128 .f32 ← ld St.s18 (Rect.unit (s := S12x128) ![4, 0] S1x128.size inb_S12x128_S1x128_4_0).toLoadRect
  st St.s16 St.set16 ![128, 1152] S32x128.size (k0_pay152 v185 v397 v407)
  pure ⟨⟩

theorem den_part34 (c : Dev nD) (i : grid0.Coords) (v112 v185 : FVec F S128x128 .f32) (v374 : FVec F S32x128 .bf16) :
    Runs c (Res c arg1 arg2 arg3 arg4 arg5 arg6 arg7 arg8 arg9 arg10 arg11 arg12 arg13 arg14 arg15 arg16 arg17 arg18 arg19) (k0_part34 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v112 v185 v374) (m_part34 i v112 v185 v374) := by
  rw [k0_part34_eq_skeleton]; unfold k0_part34_skel m_part34
  refine den_bind (den_st (acc16 c)) fun _ => ?_
  refine den_rd (acc19 c) fun v378 => den_rd (acc18 c) fun v388 => den_put (acc16 c) fun _ => den_rd (acc19 c) fun v397 => den_rd (acc18 c) fun v407 => ?_
  refine den_put (acc16 c) fun _ => ?_
  exact den_pure _

def m_part35 (i : grid0.Coords) (v185 : FVec F S128x128 .f32) : M (St F) ((Σ' (v456 : FVec F S32x128 .f32), FVec F S32x128 .f32)) := do
  let v416 : Vec F S1x128 .f32 ← ld St.s19 (Rect.unit (s := S12x128) ![5, 0] S1x128.size inb_S12x128_S1x128_5_0).toLoadRect
  let v426 : Vec F S1x128 .f32 ← ld St.s18 (Rect.unit (s := S12x128) ![5, 0] S1x128.size inb_S12x128_S1x128_5_0).toLoadRect
  st St.s16 St.set16 ![160, 1152] S32x128.size (k0_pay153 v185 v416 v426)
  let v435 : Vec F S1x128 .f32 ← ld St.s19 (Rect.unit (s := S12x128) ![6, 0] S1x128.size inb_S12x128_S1x128_6_0).toLoadRect
  let v445 : Vec F S1x128 .f32 ← ld St.s18 (Rect.unit (s := S12x128) ![6, 0] S1x128.size inb_S12x128_S1x128_6_0).toLoadRect
  st St.s16 St.set16 ![192, 1152] S32x128.size (k0_pay154 v185 v435 v445)
  let v454 : Vec F S1x128 .f32 ← ld St.s19 (Rect.unit (s := S12x128) ![7, 0] S1x128.size inb_S12x128_S1x128_7_0).toLoadRect
  pure ⟨k0_pay155 v454, k0_pay156 v185⟩

theorem den_part35 (c : Dev nD) (i : grid0.Coords) (v185 : FVec F S128x128 .f32) :
    Runs c (Res c arg1 arg2 arg3 arg4 arg5 arg6 arg7 arg8 arg9 arg10 arg11 arg12 arg13 arg14 arg15 arg16 arg17 arg18 arg19) (k0_part35 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v185) (m_part35 i v185) := by
  rw [k0_part35_eq_skeleton]; unfold k0_part35_skel m_part35
  refine den_rd (acc19 c) fun v416 => den_rd (acc18 c) fun v426 => den_put (acc16 c) fun _ => den_rd (acc19 c) fun v435 => den_rd (acc18 c) fun v445 => ?_
  refine den_put (acc16 c) fun _ => den_rd (acc19 c) fun v454 => ?_
  exact den_pure _

def m_part36 (i : grid0.Coords) (v258 : FVec F S128x128 .f32) (v456 v457 : FVec F S32x128 .f32) : M (St F) ((Σ' (v496 : FVec F S32x128 .f32) (cst_279 : F .f32), FVec F S32x128 .f32)) := do
  let v464 : Vec F S1x128 .f32 ← ld St.s18 (Rect.unit (s := S12x128) ![7, 0] S1x128.size inb_S12x128_S1x128_7_0).toLoadRect
  st St.s16 St.set16 ![224, 1152] S32x128.size (k0_pay157 v456 v457 v464)
  let v473 : Vec F S1x128 .f32 ← ld St.s19 (Rect.unit (s := S12x128) ![8, 0] S1x128.size inb_S12x128_S1x128_8_0).toLoadRect
  let v483 : Vec F S1x128 .f32 ← ld St.s18 (Rect.unit (s := S12x128) ![8, 0] S1x128.size inb_S12x128_S1x128_8_0).toLoadRect
  st St.s16 St.set16 ![256, 1152] S32x128.size (k0_pay158 v258 v473 v483)
  let v492 : Vec F S1x128 .f32 ← ld St.s19 (Rect.unit (s := S12x128) ![9, 0] S1x128.size inb_S12x128_S1x128_9_0).toLoadRect
  have cst_279 : F .f32 := Scalar.ofBits .f32 0x43E00000#32
  pure ⟨k0_pay159 v258 v492, cst_279, k0_pay160 (F := F)⟩

theorem den_part36 (c : Dev nD) (i : grid0.Coords) (v258 : FVec F S128x128 .f32) (v456 v457 : FVec F S32x128 .f32) :
    Runs c (Res c arg1 arg2 arg3 arg4 arg5 arg6 arg7 arg8 arg9 arg10 arg11 arg12 arg13 arg14 arg15 arg16 arg17 arg18 arg19) (k0_part36 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v258 v456 v457) (m_part36 i v258 v456 v457) := by
  rw [k0_part36_eq_skeleton]; unfold k0_part36_skel m_part36
  refine den_rd (acc18 c) fun v464 => den_put (acc16 c) fun _ => den_rd (acc19 c) fun v473 => den_rd (acc18 c) fun v483 => den_put (acc16 c) fun _ => ?_
  refine den_rd (acc19 c) fun v492 => ?_
  let cst_279 : F .f32 := Scalar.ofBits .f32 0x43E00000#32
  exact den_pure _

def m_part37 (i : grid0.Coords) (v258 : FVec F S128x128 .f32) (v496 : FVec F S32x128 .f32) (cst_279 : F .f32) (v497 : FVec F S32x128 .f32) : M (St F) ((FVec F S32x128 .fp8e4m3)) := do
  let v502 : Vec F S1x128 .f32 ← ld St.s18 (Rect.unit (s := S12x128) ![9, 0] S1x128.size inb_S12x128_S1x128_9_0).toLoadRect
  st St.s16 St.set16 ![288, 1152] S32x128.size (k0_pay161 v496 cst_279 v497 v502)
  let v511 : Vec F S1x128 .f32 ← ld St.s19 (Rect.unit (s := S12x128) ![10, 0] S1x128.size inb_S12x128_S1x128_10_0).toLoadRect
  let v521 : Vec F S1x128 .f32 ← ld St.s18 (Rect.unit (s := S12x128) ![10, 0] S1x128.size inb_S12x128_S1x128_10_0).toLoadRect
  st St.s16 St.set16 ![320, 1152] S32x128.size (k0_pay162 v258 v511 v521)
  let v530 : Vec F S1x128 .f32 ← ld St.s19 (Rect.unit (s := S12x128) ![11, 0] S1x128.size inb_S12x128_S1x128_11_0).toLoadRect
  pure (k0_pay163 v258 v530)

theorem den_part37 (c : Dev nD) (i : grid0.Coords) (v258 : FVec F S128x128 .f32) (v496 : FVec F S32x128 .f32) (cst_279 : F .f32) (v497 : FVec F S32x128 .f32) :
    Runs c (Res c arg1 arg2 arg3 arg4 arg5 arg6 arg7 arg8 arg9 arg10 arg11 arg12 arg13 arg14 arg15 arg16 arg17 arg18 arg19) (k0_part37 (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19 v258 v496 cst_279 v497) (m_part37 i v258 v496 cst_279 v497) := by
  rw [k0_part37_eq_skeleton]; unfold k0_part37_skel m_part37
  refine den_rd (acc18 c) fun v502 => den_put (acc16 c) fun _ => den_rd (acc19 c) fun v511 => den_rd (acc18 c) fun v521 => den_put (acc16 c) fun _ => ?_
  refine den_rd (acc19 c) fun v530 => ?_
  exact den_pure _

def m_h8_rest (i : grid0.Coords) (arg0 : BitVec 32) (v32 : FVec F S128x128 .bf16) : M (St F) PUnit := do
  have v63 : IVec S1x128 32 := iota .tc S1x128 32 [1] iota_S1x128_d1_w32
  let _ ← loop (m_t4 i v63) ()
  pure ⟨⟩

def m_h8 (i : grid0.Coords) (arg0 : BitVec 32) (v32 : FVec F S128x128 .bf16) (K : M (St F) PUnit) : M (St F) PUnit := do
  st St.s16 St.set16 ![0, 1152] S384x128.size (k0_pay2 (F := F))
  K

def m_h7_rest (i : grid0.Coords) (arg0 : BitVec 32) (v32 : FVec F S128x128 .bf16) : M (St F) PUnit := do
  if (Scalar.cmpi .ne (Scalar.extui (Scalar.cmpi .eq arg0 255#32)) 0#32) = 1#1 then m_h8 i arg0 v32 (m_h8_rest i arg0 v32) else m_h8_rest i arg0 v32

def m_h7 (i : grid0.Coords) (arg0 : BitVec 32) (v32 : FVec F S128x128 .bf16) (K : M (St F) PUnit) : M (St F) PUnit := do
  let v95 : FVec F S128x128 .f32 ← m_part25 i
  let ⟨v112, v113, v131⟩ : Σ' (v112 v113 : FVec F S128x128 .f32), FVec F S8x128 .f32 ← m_part26 i v95
  let ⟨v160, v162⟩ : Σ' (v160 : FVec F S128x128 .f32), FVec F S128x128 .f32 ← m_part27 i v113 v131
  let ⟨v185, v186, v195⟩ : Σ' (v185 v186 : FVec F S128x128 .f32), FVec F S8x128 .f32 ← m_part28 i v160 v162
  let ⟨v225, v227, v228⟩ : Σ' (v225 v227 : FVec F S128x128 .f32), Vec F S1x128x128 .f32 ← m_part29 i v186 v195
  let ⟨v258, v259, v262, v263⟩ : Σ' (v258 v259 : FVec F S128x128 .f32) (v262 : FVec F S8x128 .f32), Vec F S8x128 .f32 ← m_part30 i v225 v227 v228
  let v296 : FVec F S12x128 .f32 ← m_part31 i v259 v262 v263
  let v336 : FVec F S32x128 .bf16 ← m_part32 i v112 v296
  let v374 : FVec F S32x128 .bf16 ← m_part33 i v112 v336
  m_part34 i v112 v185 v374
  let ⟨v456, v457⟩ : Σ' (v456 : FVec F S32x128 .f32), FVec F S32x128 .f32 ← m_part35 i v185
  let ⟨v496, cst_279, v497⟩ : Σ' (v496 : FVec F S32x128 .f32) (cst_279 : F .f32), FVec F S32x128 .f32 ← m_part36 i v258 v456 v457
  let v539 : FVec F S32x128 .fp8e4m3 ← m_part37 i v258 v496 cst_279 v497
  let v540 : Vec F S1x128 .f32 ← ld St.s18 (Rect.unit (s := S12x128) ![11, 0] S1x128.size inb_S12x128_S1x128_11_0).toLoadRect
  st St.s16 St.set16 ![352, 1152] S32x128.size (k0_pay1 v539 v540)
  K

def m_body (i : grid0.Coords) : M (St F) (PUnit) := do
  let ⟨arg0, v32⟩ : Σ' (arg0 : BitVec 32), FVec F S128x128 .bf16 ← m_part43 i
  m_part44 i arg0 v32
  if (Scalar.cmpi .ne (Scalar.extui (Scalar.cmpi .slt arg0 255#32)) 0#32) = 1#1 then m_h7 i arg0 v32 (m_h7_rest i arg0 v32) else m_h7_rest i arg0 v32

theorem den_body (c : Dev nD) (i : grid0.Coords) :
    Runs c (Res c arg1 arg2 arg3 arg4 arg5 arg6 arg7 arg8 arg9 arg10 arg11 arg12 arg13 arg14 arg15 arg16 arg17 arg18 arg19) (cc0_amp_unit (F := F) i arg1 w1 arg2 w2 arg3 w3 arg4 w4 arg5 w5 arg6 w6 arg7 w7 arg8 w8 arg9 w9 arg10 w10 arg11 w11 arg12 w12 arg13 w13 arg14 w14 arg15 w15 arg16 w16 arg17 w17 arg18 w18 arg19 w19) (m_body i) := by
  rw [cc0_amp_unit_eq_skeleton]; unfold cc0_amp_unit_skel m_body
  refine den_bind (den_part43 c i) fun ⟨arg0, v32⟩ => ?_
  refine den_bind (den_part44 c i arg0 v32) fun _ => ?_
  extract_lets -underBinder -merge -useContext v57 v58 v59 jp_h7
  have hj_h7 : ∀ r, Runs c (Res c arg1 arg2 arg3 arg4 arg5 arg6 arg7 arg8 arg9 arg10 arg11 arg12 arg13 arg14 arg15 arg16 arg17 arg18 arg19) (jp_h7 r) (m_h7_rest i arg0 v32) := by
    intro r; simp -zeta -zetaHave only [jp_h7]; unfold m_h7_rest
    extract_lets -underBinder -merge -useContext v60 v61 v62 jp_h8
    have hj_h8 : ∀ r, Runs c (Res c arg1 arg2 arg3 arg4 arg5 arg6 arg7 arg8 arg9 arg10 arg11 arg12 arg13 arg14 arg15 arg16 arg17 arg18 arg19) (jp_h8 r) (m_h8_rest i arg0 v32) := by
      intro r; simp -zeta -zetaHave only [jp_h8]; unfold m_h8_rest
      let v63 : IVec S1x128 32 := iota .tc S1x128 32 [1] iota_S1x128_d1_w32
      refine den_bind (den_for fun k a => den_t4 c i v63 k a) fun _ => ?_
      exact den_pure _
    clear_value jp_h8
    refine den_dite (fun _ => ?_) (fun _ => hj_h8 _)
    unfold m_h8
    refine den_put (acc16 c) fun _ => ?_
    exact hj_h8 _
  clear_value jp_h7
  refine den_dite (fun _ => ?_) (fun _ => hj_h7 _)
  unfold m_h7
  refine den_bind (den_part25 c i) fun v95 => ?_
  refine den_bind (den_part26 c i v95) fun ⟨v112, v113, v131⟩ => ?_
  refine den_bind (den_part27 c i v113 v131) fun ⟨v160, v162⟩ => ?_
  refine den_bind (den_part28 c i v160 v162) fun ⟨v185, v186, v195⟩ => ?_
  refine den_bind (den_part29 c i v186 v195) fun ⟨v225, v227, v228⟩ => ?_
  refine den_bind (den_part30 c i v225 v227 v228) fun ⟨v258, v259, v262, v263⟩ => ?_
  refine den_bind (den_part31 c i v259 v262 v263) fun v296 => ?_
  refine den_bind (den_part32 c i v112 v296) fun v336 => ?_
  refine den_bind (den_part33 c i v112 v336) fun v374 => ?_
  refine den_bind (den_part34 c i v112 v185 v374) fun _ => ?_
  refine den_bind (den_part35 c i v185) fun ⟨v456, v457⟩ => ?_
  refine den_bind (den_part36 c i v258 v456 v457) fun ⟨v496, cst_279, v497⟩ => ?_
  refine den_bind (den_part37 c i v258 v496 cst_279 v497) fun v539 => ?_
  refine den_rd (acc18 c) fun v540 => den_put (acc16 c) fun _ => ?_
  exact hj_h7 _

end Cert.KernelIdeal.Run

end

end
-- ==== Proof.KernelIdealFrame.lean ====
/-
  The kernel runs to its end from any memory and changes none of its arguments: its body keeps
  every buffer it is given, at whatever contents.
-/
module

public import proofs.«01_k».proof.Proof.KernelIdealRun
public import proofs.«01_k».proof.Proof.Gen.KernelIdeal.Frame
public import Idealize.ShloMosaic.Lib.Pipeline.FrameBody
public import Idealize.ShloMosaic.Lib.Claim

@[expose] public section

set_option maxRecDepth 16384
set_option pp.maxSteps 60

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.KernelIdeal.Run

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The seven scratch buffers at some contents, each as a memref held whole. -/
theorem scratch_eq (c : Dev nD) :
    (Pipeline.scopedRest (Ix := Unit) (Name := ℕ) (U := UR sig nD τ) (Lvl := ℕ) (Val := Elt F) spec0 c : sProp 𝕄)
      = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) := by
  rw [scopedRest0_eq]
  simp only [owns_whole]

/-- The body at any point keeps what it is given. -/
theorem body_keeps (c : Dev nD) (t : Fin cfg0.N) (O : sProp 𝕄) :
    (iprop(Pipeline.ΦA spec0 c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X)) : sProp 𝕄)
      ⊢ wp frame (wpE (defs₀ (F := F)) Variants.none c none) Set.univ (bodyAt0 t) (fun _ =>
        iprop(Pipeline.ΦA spec0 c ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X))) := by
  unfold Pipeline.ΦA
  rw [scratch_eq]
  iintro ⟨⟨⟨⟨%f0, S0⟩, ⟨%f1, S1⟩, ⟨%f2, S2⟩, ⟨%f3, S3⟩, ⟨%f4, S4⟩, ⟨%f5, S5⟩, ⟨%f6, S6⟩⟩, Hg⟩, HO, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩⟩
  ihave HR := (show (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare x6 ∗ owns (c : Thread nD τ) (st0_7 t) fullShare x7 ∗ owns (c : Thread nD τ) (st0_8 t) fullShare x8 ∗ owns (c : Thread nD τ) (st0_9 t) fullShare x9 ∗ owns (c : Thread nD τ) (st0_10 t) fullShare x10 ∗ owns (c : Thread nD τ) (st0_11 t) fullShare x11 ∗ owns (c : Thread nD τ) (Memref.whole cc0_scratch0) fullShare f0 ∗ owns (c : Thread nD τ) (Memref.whole cc0_scratch1) fullShare f1 ∗ owns (c : Thread nD τ) (Memref.whole cc0_scratch2) fullShare f2 ∗ owns (c : Thread nD τ) (Memref.whole cc0_scratch3) fullShare f3 ∗ owns (c : Thread nD τ) (Memref.whole cc0_scratch4) fullShare f4 ∗ owns (c : Thread nD τ) (Memref.whole cc0_scratch5) fullShare f5 ∗ owns (c : Thread nD τ) (Memref.whole cc0_scratch6) fullShare f6) : sProp 𝕄)
      ⊢ Res c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) ⟨x0, x1, x2, x3, x4, x5, x6, x7, x8, x9, x10, x11, f0, f1, f2, f3, f4, f5, f6⟩ from .rfl) $$ [H0 H1 H2 H3 H4 H5 H6 H7 H8 H9 H10 H11 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  iapply (Sem.keep_of_den (Run.den_body c _) _ _) $$ HR
  iintro %a %x HR
  ihave HR := (show Res c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) x ⊢ (iprop(owns (c : Thread nD τ) (st0_0 t) fullShare x.s1 ∗ owns (c : Thread nD τ) (st0_1 t) fullShare x.s2 ∗ owns (c : Thread nD τ) (st0_2 t) fullShare x.s3 ∗ owns (c : Thread nD τ) (st0_3 t) fullShare x.s4 ∗ owns (c : Thread nD τ) (st0_4 t) fullShare x.s5 ∗ owns (c : Thread nD τ) (st0_5 t) fullShare x.s6 ∗ owns (c : Thread nD τ) (st0_6 t) fullShare x.s7 ∗ owns (c : Thread nD τ) (st0_7 t) fullShare x.s8 ∗ owns (c : Thread nD τ) (st0_8 t) fullShare x.s9 ∗ owns (c : Thread nD τ) (st0_9 t) fullShare x.s10 ∗ owns (c : Thread nD τ) (st0_10 t) fullShare x.s11 ∗ owns (c : Thread nD τ) (st0_11 t) fullShare x.s12 ∗ owns (c : Thread nD τ) (Memref.whole cc0_scratch0) fullShare x.s13 ∗ owns (c : Thread nD τ) (Memref.whole cc0_scratch1) fullShare x.s14 ∗ owns (c : Thread nD τ) (Memref.whole cc0_scratch2) fullShare x.s15 ∗ owns (c : Thread nD τ) (Memref.whole cc0_scratch3) fullShare x.s16 ∗ owns (c : Thread nD τ) (Memref.whole cc0_scratch4) fullShare x.s17 ∗ owns (c : Thread nD τ) (Memref.whole cc0_scratch5) fullShare x.s18 ∗ owns (c : Thread nD τ) (Memref.whole cc0_scratch6) fullShare x.s19) : sProp 𝕄) from .rfl) $$ HR
  icases HR with ⟨H0, H1, H2, H3, H4, H5, H6, H7, H8, H9, H10, H11, S0, S1, S2, S3, S4, S5, S6⟩
  isplitl [S0 S1 S2 S3 S4 S5 S6 Hg]
  · isplitr [Hg]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    · iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The proof data of the frame: nothing is said of what any window holds. -/
def loose (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem loose_obligation (c : Dev nD) :
    BodyObligationLoose (loose (F := F) m 0 c) (defs₀ (F := F)) Variants.none () Set.univ (fun _ => true) := fun t => by
  rw [bigSep_W0, defs₀_row]
  exact body_keeps c t _

set_option backward.isDefEq.respectTransparency.types false in
set_option maxHeartbeats 800000 in
/-- The kernel ends, with every counter at zero and every argument as it was. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget_shared (Q' := _) cfgs (loose m) (0 : Fin 1) launch₀0 defs₀ Variants.none (fun _ => true) m ρ main
    (hbody := fun c => loose_obligation m c) (hq := fun _ _ _ => rfl)
    (howed := fun _ _ => rfl) (V := V m) (hmain := hmain m Variants.none) (hA := fun _ _ => by dsimp only [loose]) (hΦ := fun _ _ => rfl)
    (hQ' := fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩)

end Cert.KernelIdeal.Whole

end

end
-- ==== Proof.Value.Finite.lean ====
/-
  The precondition: every element of the input is a real number.
-/
module

public import proofs.«01_k».proof.Pre_finite
public import Idealize.ShloMosaic.Lib.Pointwise

@[expose] public section

set_option maxRecDepth 16384

noncomputable section

namespace Cert.Pre_finite

open Idealize.ShloMosaic

instance facts : Cert.Pre_finite.Facts := ⟨by decide⟩

theorem real_of (x : FVec Ideal S4x262144x96 .bf16) (a b : FVec Ideal S96 .f32) (w : FVec Ideal S3x96x96 .fp8e4m3) (d e : FVec Ideal S96 .f32)
    (i : S4x262144x96.Idx) (h : Cert.Pre_finite.fn (F := Ideal) x a b w d e i = 1#1) : (((x : S4x262144x96.Idx → EReal) i).toReal : EReal) = (x : S4x262144x96.Idx → EReal) i := by
  pointwise [fn] at h
  generalize Ideal.ofBits FTy.bf16 32640#16 = z at h
  have hlt : FloatOps.absf (F := Ideal) (φ := .bf16) (x i) < z := by
    by_contra hn
    rw [decide_eq_false hn] at h
    exact absurd h (by decide)
  have habs : ∀ v : EReal, FloatOps.absf (F := Ideal) (φ := .bf16) v = max v (-v) := fun _ => rfl
  rw [habs] at hlt
  refine EReal.coe_toReal (fun ht => ?_) (fun hb => ?_)
  · rw [ht] at hlt
    exact absurd hlt (not_lt.mpr (le_top.trans (le_max_left _ _)))
  · rw [hb] at hlt
    exact absurd hlt (not_lt.mpr (by rw [EReal.neg_bot]; exact le_top.trans (le_max_right _ _)))

end Cert.Pre_finite

end

end
-- ==== Proof.Value.Base.lean ====
/-
  Reading buffers at natural-number coordinates: a store of a box, then a load of a box, element by element.
-/
module

public import proofs.«01_k».proof.Proof.Sem
public import Idealize.ShloMosaic.Lib.Pointwise

@[expose] public section

noncomputable section

namespace Cert.Val

open Idealize.ShloMosaic Cert.Sem

variable {γ : Type} {n0 n1 n2 m0 m1 m2 : ℕ}

/-- The element of a matrix at row `i` and column `j`. -/
def g2 [NeZero n0] [NeZero n1] (x : (⟨2, ![n0, n1]⟩ : Shape).Idx → γ) (i j : ℕ) : γ := x (ix2 (Fin.ofNat n0 i) (Fin.ofNat n1 j))

/-- The element of a three-dimensional array at `i`, `j`, `k`. -/
def g3 [NeZero n0] [NeZero n1] [NeZero n2] (x : (⟨3, ![n0, n1, n2]⟩ : Shape).Idx → γ) (i j k : ℕ) : γ :=
  x (ix3 (Fin.ofNat n0 i) (Fin.ofNat n1 j) (Fin.ofNat n2 k))

theorem g2_eq [NeZero n0] [NeZero n1] (x : (⟨2, ![n0, n1]⟩ : Shape).Idx → γ) (i : Fin n0) (j : Fin n1) :
    x (ix2 i j) = g2 x i.val j.val := by
  unfold g2; congr 2 <;> apply Fin.ext <;> simp [Fin.ofNat, Nat.mod_eq_of_lt]

theorem g3_eq [NeZero n0] [NeZero n1] [NeZero n2] (x : (⟨3, ![n0, n1, n2]⟩ : Shape).Idx → γ) (i : Fin n0) (j : Fin n1) (k : Fin n2) :
    x (ix3 i j k) = g3 x i.val j.val k.val := by
  unfold g3; congr 2 <;> apply Fin.ext <;> simp [Fin.ofNat, Nat.mod_eq_of_lt]

variable [NeZero n0] [NeZero n1] [NeZero n2] [NeZero m0] [NeZero m1] [NeZero m2]

theorem g2_hit (x : (⟨2, ![n0, n1]⟩ : Shape).Idx → γ) (a b : ℕ) (w : (⟨2, ![m0, m1]⟩ : Shape).Idx → γ) (i j : ℕ)
    (hi : a ≤ i ∧ i < a + m0) (hj : b ≤ j ∧ j < b + m1) (ha : a + m0 ≤ n0) (hb : b + m1 ≤ n1) :
    g2 (VecWindow.put (s := ⟨2, ![n0, n1]⟩) x ![a, b] ![m0, m1] w) i j = g2 w (i - a) (j - b) := by
  unfold g2 VecWindow.put
  have ei : i % n0 = i := Nat.mod_eq_of_lt (by omega)
  have ej : j % n1 = j := Nat.mod_eq_of_lt (by omega)
  have h : ∀ y : Fin 2, ![a, b] y ≤ (ix2 (Fin.ofNat n0 i) (Fin.ofNat n1 j) y).val ∧
      (ix2 (Fin.ofNat n0 i) (Fin.ofNat n1 j) y).val < ![a, b] y + ![m0, m1] y := by
    intro y; match y with
    | ⟨0, _⟩ => change a ≤ i % n0 ∧ i % n0 < a + m0; omega
    | ⟨1, _⟩ => change b ≤ j % n1 ∧ j % n1 < b + m1; omega
  rw [dif_pos h]
  congr 1; funext y; match y with
  | ⟨0, _⟩ => apply Fin.ext; change i % n0 - a = (i - a) % m0; rw [ei, Nat.mod_eq_of_lt (by omega)]
  | ⟨1, _⟩ => apply Fin.ext; change j % n1 - b = (j - b) % m1; rw [ej, Nat.mod_eq_of_lt (by omega)]

theorem g2_miss (x : (⟨2, ![n0, n1]⟩ : Shape).Idx → γ) (a b : ℕ) (w : (⟨2, ![m0, m1]⟩ : Shape).Idx → γ) (i j : ℕ)
    (hi : i < n0) (hj : j < n1) (h : i < a ∨ a + m0 ≤ i ∨ j < b ∨ b + m1 ≤ j) :
    g2 (VecWindow.put (s := ⟨2, ![n0, n1]⟩) x ![a, b] ![m0, m1] w) i j = g2 x i j := by
  unfold g2 VecWindow.put
  have ei : i % n0 = i := Nat.mod_eq_of_lt hi
  have ej : j % n1 = j := Nat.mod_eq_of_lt hj
  rw [dif_neg]
  intro hh
  have h0 := hh 0
  have h1 := hh 1
  change a ≤ i % n0 ∧ i % n0 < a + m0 at h0
  change b ≤ j % n1 ∧ j % n1 < b + m1 at h1
  omega

theorem g3_hit (x : (⟨3, ![n0, n1, n2]⟩ : Shape).Idx → γ) (a b c : ℕ) (w : (⟨3, ![m0, m1, m2]⟩ : Shape).Idx → γ) (i j k : ℕ)
    (hi : a ≤ i ∧ i < a + m0) (hj : b ≤ j ∧ j < b + m1) (hk : c ≤ k ∧ k < c + m2) (ha : a + m0 ≤ n0) (hb : b + m1 ≤ n1)
    (hc : c + m2 ≤ n2) :
    g3 (VecWindow.put (s := ⟨3, ![n0, n1, n2]⟩) x ![a, b, c] ![m0, m1, m2] w) i j k = g3 w (i - a) (j - b) (k - c) := by
  unfold g3 VecWindow.put
  have ei : i % n0 = i := Nat.mod_eq_of_lt (by omega)
  have ej : j % n1 = j := Nat.mod_eq_of_lt (by omega)
  have ek : k % n2 = k := Nat.mod_eq_of_lt (by omega)
  have h : ∀ y : Fin 3, ![a, b, c] y ≤ (ix3 (Fin.ofNat n0 i) (Fin.ofNat n1 j) (Fin.ofNat n2 k) y).val ∧
      (ix3 (Fin.ofNat n0 i) (Fin.ofNat n1 j) (Fin.ofNat n2 k) y).val < ![a, b, c] y + ![m0, m1, m2] y := by
    intro y; match y with
    | ⟨0, _⟩ => change a ≤ i % n0 ∧ i % n0 < a + m0; omega
    | ⟨1, _⟩ => change b ≤ j % n1 ∧ j % n1 < b + m1; omega
    | ⟨2, _⟩ => change c ≤ k % n2 ∧ k % n2 < c + m2; omega
  rw [dif_pos h]
  congr 1; funext y; match y with
  | ⟨0, _⟩ => apply Fin.ext; change i % n0 - a = (i - a) % m0; rw [ei, Nat.mod_eq_of_lt (by omega)]
  | ⟨1, _⟩ => apply Fin.ext; change j % n1 - b = (j - b) % m1; rw [ej, Nat.mod_eq_of_lt (by omega)]
  | ⟨2, _⟩ => apply Fin.ext; change k % n2 - c = (k - c) % m2; rw [ek, Nat.mod_eq_of_lt (by omega)]

theorem g3_miss (x : (⟨3, ![n0, n1, n2]⟩ : Shape).Idx → γ) (a b c : ℕ) (w : (⟨3, ![m0, m1, m2]⟩ : Shape).Idx → γ) (i j k : ℕ)
    (hi : i < n0) (hj : j < n1) (hk : k < n2) (h : i < a ∨ a + m0 ≤ i ∨ j < b ∨ b + m1 ≤ j ∨ k < c ∨ c + m2 ≤ k) :
    g3 (VecWindow.put (s := ⟨3, ![n0, n1, n2]⟩) x ![a, b, c] ![m0, m1, m2] w) i j k = g3 x i j k := by
  unfold g3 VecWindow.put
  have ei : i % n0 = i := Nat.mod_eq_of_lt hi
  have ej : j % n1 = j := Nat.mod_eq_of_lt hj
  have ek : k % n2 = k := Nat.mod_eq_of_lt hk
  rw [dif_neg]
  intro hh
  have h0 := hh 0
  have h1 := hh 1
  have h2 := hh 2
  change a ≤ i % n0 ∧ i % n0 < a + m0 at h0
  change b ≤ j % n1 ∧ j % n1 < b + m1 at h1
  change c ≤ k % n2 ∧ k % n2 < c + m2 at h2
  omega

theorem g2_rd (x : (⟨2, ![n0, n1]⟩ : Shape).Idx → γ) (a b : ℕ) (inb) (i j : ℕ) (hi : i < m0) (hj : j < m1)
    (ha : a + m0 ≤ n0) (hb : b + m1 ≤ n1) :
    g2 (n0 := m0) (n1 := m1) (rd x (Rect.unit (s := ⟨2, ![n0, n1]⟩) ![a, b] ![m0, m1] inb).toLoadRect) i j = g2 x (a + i) (b + j) := by
  unfold g2 rd
  congr 1; funext y; match y with
  | ⟨0, _⟩ => apply Fin.ext; change a + 1 * (i % m0) = (a + i) % n0; rw [Nat.mod_eq_of_lt hi, Nat.mod_eq_of_lt (by omega)]; omega
  | ⟨1, _⟩ => apply Fin.ext; change b + 1 * (j % m1) = (b + j) % n1; rw [Nat.mod_eq_of_lt hj, Nat.mod_eq_of_lt (by omega)]; omega

theorem g3_rd (x : (⟨3, ![n0, n1, n2]⟩ : Shape).Idx → γ) (a b c : ℕ) (inb) (i j k : ℕ) (hi : i < m0) (hj : j < m1) (hk : k < m2)
    (ha : a + m0 ≤ n0) (hb : b + m1 ≤ n1) (hc : c + m2 ≤ n2) :
    g3 (n0 := m0) (n1 := m1) (n2 := m2) (rd x (Rect.unit (s := ⟨3, ![n0, n1, n2]⟩) ![a, b, c] ![m0, m1, m2] inb).toLoadRect) i j k =
      g3 x (a + i) (b + j) (c + k) := by
  unfold g3 rd
  congr 1; funext y; match y with
  | ⟨0, _⟩ => apply Fin.ext; change a + 1 * (i % m0) = (a + i) % n0; rw [Nat.mod_eq_of_lt hi, Nat.mod_eq_of_lt (by omega)]; omega
  | ⟨1, _⟩ => apply Fin.ext; change b + 1 * (j % m1) = (b + j) % n1; rw [Nat.mod_eq_of_lt hj, Nat.mod_eq_of_lt (by omega)]; omega
  | ⟨2, _⟩ => apply Fin.ext; change c + 1 * (k % m2) = (c + k) % n2; rw [Nat.mod_eq_of_lt hk, Nat.mod_eq_of_lt (by omega)]; omega

theorem g2_rd' (x : (⟨2, ![n0, n1]⟩ : Shape).Idx → γ) (off : Fin 2 → ℕ) (a b : ℕ) (ho : off = ![a, b]) (inb) (i j : ℕ) (hi : i < m0) (hj : j < m1)
    (ha : a + m0 ≤ n0) (hb : b + m1 ≤ n1) :
    g2 (n0 := m0) (n1 := m1) (rd x (Rect.unit (s := ⟨2, ![n0, n1]⟩) off ![m0, m1] inb).toLoadRect) i j = g2 x (a + i) (b + j) := by
  subst ho; exact g2_rd x a b inb i j hi hj ha hb

theorem g3_rd' (x : (⟨3, ![n0, n1, n2]⟩ : Shape).Idx → γ) (off : Fin 3 → ℕ) (a b c : ℕ) (ho : off = ![a, b, c]) (inb) (i j k : ℕ)
    (hi : i < m0) (hj : j < m1) (hk : k < m2) (ha : a + m0 ≤ n0) (hb : b + m1 ≤ n1) (hc : c + m2 ≤ n2) :
    g3 (n0 := m0) (n1 := m1) (n2 := m2) (rd x (Rect.unit (s := ⟨3, ![n0, n1, n2]⟩) off ![m0, m1, m2] inb).toLoadRect) i j k =
      g3 x (a + i) (b + j) (c + k) := by
  subst ho; exact g3_rd x a b c inb i j k hi hj hk ha hb hc

/-- Every eighth row, from row `a`. -/
theorem g2_rd8 (x : (⟨2, ![n0, n1]⟩ : Shape).Idx → γ) (a : ℕ) (inb) (i j : ℕ) (hi : i < m0) (hj : j < n1)
    (ha : a + 8 * (m0 - 1) < n0) :
    g2 (n0 := m0) (n1 := n1) (rd x (⟨![a, 0], ![m0, n1], ![8, 1], inb⟩ : LoadRect ⟨2, ![n0, n1]⟩)) i j = g2 x (a + 8 * i) j := by
  unfold g2 rd
  congr 1; funext y; match y with
  | ⟨0, _⟩ => apply Fin.ext; change a + 8 * (i % m0) = (a + 8 * i) % n0; rw [Nat.mod_eq_of_lt hi, Nat.mod_eq_of_lt (by omega)]
  | ⟨1, _⟩ => apply Fin.ext; change 0 + 1 * (j % n1) = j % n1; omega

end Cert.Val
-- ==== Proof.Value.PayQ.lean ====
/-
  What the downsampling filter, the reduction of magnitudes and the quantiser store, element by element.
-/
module

public import proofs.«01_k».proof.Proof.Value.Base
public import proofs.«01_k».proof.Proof.KernelIdealRun

@[expose] public section

set_option maxRecDepth 16384
set_option maxHeartbeats 400000

noncomputable section

namespace Cert.KernelIdeal.Val

open Idealize.ShloMosaic Cert.Sem Cert.Val Cert.KernelIdeal.Gen Cert.KernelIdeal.Run

/-- The largest magnitude of four values, as the reduction takes it. -/
def mx4 (g : Fin 4 → EReal) : EReal := Finset.fold max (Ideal.ofBits .f32 0xFF800000#32) g Finset.univ

/-- The exponent of the scale of a group whose largest magnitude is `a`. -/
def expo (a : EReal) : EReal :=
  if a * Ideal.ofBits .f32 0x3B124925#32 = 0 then 0
  else Ideal.liftRound Int.floor (Ideal.log (a * Ideal.ofBits .f32 0x3B124925#32) * Ideal.ofBits .f32 0x3FB8AA3B#32) + 1

/-- The value within the range of the codes. -/
def clip (z : EReal) : EReal := min (Ideal.ofBits .f32 0x43E00000#32) (max (Ideal.ofBits .f32 0xC3E00000#32) z)

theorem pay33 (a b c d : Vec Ideal S1x128x128 .f32) (p l : ℕ) (hp : p < 128) (hl : l < 128) :
    g2 (k0_pay33 a b c d) p l = Ideal.ofBits .f32 0x3C19D644#32 * (g3 a 0 p l + g3 b 0 p l) + Ideal.ofBits .f32 0xBD6C2A24#32 * (g3 c 0 p l + g3 d 0 p l) := by
  refine (g2_eq (k0_pay33 a b c d) ⟨p, hp⟩ ⟨l, hl⟩).symm.trans ?_
  pointwise [k0_pay33]
  try simp only [g3_eq, g2_eq]
  try rfl

theorem pay44 (a b c d : Vec Ideal S1x128x128 .f32) (p l : ℕ) (hp : p < 128) (hl : l < 128) :
    g2 (k0_pay44 a b c d) p l = Ideal.ofBits .f32 0x3C19D644#32 * (g3 a 0 p l + g3 b 0 p l) + Ideal.ofBits .f32 0xBD6C2A24#32 * (g3 c 0 p l + g3 d 0 p l) := by
  refine (g2_eq (k0_pay44 a b c d) ⟨p, hp⟩ ⟨l, hl⟩).symm.trans ?_
  pointwise [k0_pay44]
  try simp only [g3_eq, g2_eq]
  try rfl

theorem pay54 (a b c d : Vec Ideal S1x128x128 .f32) (p l : ℕ) (hp : p < 128) (hl : l < 128) :
    g2 (k0_pay54 a b c d) p l = Ideal.ofBits .f32 0x3C19D644#32 * (g3 a 0 p l + g3 b 0 p l) + Ideal.ofBits .f32 0xBD6C2A24#32 * (g3 c 0 p l + g3 d 0 p l) := by
  refine (g2_eq (k0_pay54 a b c d) ⟨p, hp⟩ ⟨l, hl⟩).symm.trans ?_
  pointwise [k0_pay54]
  try simp only [g3_eq, g2_eq]
  try rfl

theorem pay133 (a b c d : Vec Ideal S1x128x128 .f32) (p l : ℕ) (hp : p < 128) (hl : l < 128) :
    g2 (k0_pay133 a b c d) p l = Ideal.ofBits .f32 0x3C19D644#32 * (g3 a 0 p l + g3 b 0 p l) + Ideal.ofBits .f32 0xBD6C2A24#32 * (g3 c 0 p l + g3 d 0 p l) := by
  refine (g2_eq (k0_pay133 a b c d) ⟨p, hp⟩ ⟨l, hl⟩).symm.trans ?_
  pointwise [k0_pay133]
  try simp only [g3_eq, g2_eq]
  try rfl

theorem pay34 (z : FVec Ideal S128x128 .f32) (a b c d : Vec Ideal S1x128x128 .f32) (p l : ℕ) (hp : p < 128) (hl : l < 128) :
    g2 (k0_pay34 z a b c d) p l = g2 z p l + Ideal.ofBits .f32 0x3EE2EC65#32 * (g3 a 0 p l + g3 b 0 p l) + Ideal.ofBits .f32 0x3E03A88A#32 * (g3 c 0 p l + g3 d 0 p l) := by
  refine (g2_eq (k0_pay34 z a b c d) ⟨p, hp⟩ ⟨l, hl⟩).symm.trans ?_
  pointwise [k0_pay34]
  try simp only [g3_eq, g2_eq]
  try rfl

theorem pay45 (z : FVec Ideal S128x128 .f32) (a b c d : Vec Ideal S1x128x128 .f32) (p l : ℕ) (hp : p < 128) (hl : l < 128) :
    g2 (k0_pay45 z a b c d) p l = g2 z p l + Ideal.ofBits .f32 0x3EE2EC65#32 * (g3 a 0 p l + g3 b 0 p l) + Ideal.ofBits .f32 0x3E03A88A#32 * (g3 c 0 p l + g3 d 0 p l) := by
  refine (g2_eq (k0_pay45 z a b c d) ⟨p, hp⟩ ⟨l, hl⟩).symm.trans ?_
  pointwise [k0_pay45]
  try simp only [g3_eq, g2_eq]
  try rfl

theorem pay35 (a b : Vec Ideal S1x128x128 .f32) (p l : ℕ) (hp : p < 128) (hl : l < 128) :
    g2 (k0_pay35 a b) p l = g3 a 0 p l + g3 b 0 p l := by
  refine (g2_eq (k0_pay35 a b) ⟨p, hp⟩ ⟨l, hl⟩).symm.trans ?_
  pointwise [k0_pay35]
  try simp only [g3_eq, g2_eq]
  try rfl

theorem pay36 (p l : ℕ) (hp : p < 128) (hl : l < 128) :
    g2 (k0_pay36) p l = Ideal.ofBits .f32 0xBCD14087#32 := by
  refine (g2_eq (k0_pay36) ⟨p, hp⟩ ⟨l, hl⟩).symm.trans ?_
  pointwise [k0_pay36]
  try simp only [g3_eq, g2_eq]
  try rfl

theorem pay37 (z w c : FVec Ideal S128x128 .f32) (a b : Vec Ideal S1x128x128 .f32) (p l : ℕ) (hp : p < 128) (hl : l < 128) :
    g2 (k0_pay37 z w c a b) p l = g2 z l p + g2 c l p * g2 w l p + Ideal.ofBits .f32 0x3B04F869#32 * (g3 a 0 l p + g3 b 0 l p) := by
  refine (g2_eq (k0_pay37 z w c a b) ⟨p, hp⟩ ⟨l, hl⟩).symm.trans ?_
  pointwise [k0_pay37]
  try simp only [g3_eq, g2_eq]
  try rfl

theorem pay46 (a b : Vec Ideal S1x128x128 .f32) (p l : ℕ) (hp : p < 128) (hl : l < 128) :
    g2 (k0_pay46 a b) p l = Ideal.ofBits .f32 0xBCD14087#32 * (g3 a 0 p l + g3 b 0 p l) := by
  refine (g2_eq (k0_pay46 a b) ⟨p, hp⟩ ⟨l, hl⟩).symm.trans ?_
  pointwise [k0_pay46]
  try simp only [g3_eq, g2_eq]
  try rfl

theorem pay47 (z w : FVec Ideal S128x128 .f32) (a b : Vec Ideal S1x128x128 .f32) (p l : ℕ) (hp : p < 128) (hl : l < 128) :
    g2 (k0_pay47 z w a b) p l = g2 z l p + g2 w l p + Ideal.ofBits .f32 0x3B04F869#32 * (g3 a 0 l p + g3 b 0 l p) := by
  refine (g2_eq (k0_pay47 z w a b) ⟨p, hp⟩ ⟨l, hl⟩).symm.trans ?_
  pointwise [k0_pay47]
  try simp only [g3_eq, g2_eq]
  try rfl

theorem pay55 (a : Vec Ideal S1x128x128 .f32) (p l : ℕ) (hp : p < 128) (hl : l < 128) :
    g2 (k0_pay55 a) p l = g3 a 0 p l := by
  refine (g2_eq (k0_pay55 a) ⟨p, hp⟩ ⟨l, hl⟩).symm.trans ?_
  pointwise [k0_pay55]
  try simp only [g3_eq, g2_eq]
  try rfl

theorem pay125 (a : Vec Ideal S1x128x128 .f32) (p l : ℕ) (hp : p < 128) (hl : l < 128) :
    g2 (k0_pay125 a) p l = g3 a 0 p l := by
  refine (g2_eq (k0_pay125 a) ⟨p, hp⟩ ⟨l, hl⟩).symm.trans ?_
  pointwise [k0_pay125]
  try simp only [g3_eq, g2_eq]
  try rfl

theorem pay134 (a : Vec Ideal S1x128x128 .f32) (p l : ℕ) (hp : p < 128) (hl : l < 128) :
    g2 (k0_pay134 a) p l = g3 a 0 p l := by
  refine (g2_eq (k0_pay134 a) ⟨p, hp⟩ ⟨l, hl⟩).symm.trans ?_
  pointwise [k0_pay134]
  try simp only [g3_eq, g2_eq]
  try rfl

theorem pay56 (z w : FVec Ideal S128x128 .f32) (a b c d e : Vec Ideal S1x128x128 .f32) (p l : ℕ) (hp : p < 128) (hl : l < 128) :
    g2 (k0_pay56 z w a b c d e) p l = g2 z p l + Ideal.ofBits .f32 0x3EE2EC65#32 * (g2 w p l + g3 a 0 p l) + Ideal.ofBits .f32 0x3E03A88A#32 * (g3 b 0 p l + g3 c 0 p l) + Ideal.ofBits .f32 0xBCD14087#32 * (g3 d 0 p l + g3 e 0 p l) := by
  refine (g2_eq (k0_pay56 z w a b c d e) ⟨p, hp⟩ ⟨l, hl⟩).symm.trans ?_
  pointwise [k0_pay56]
  try simp only [g3_eq, g2_eq]
  try rfl

theorem pay57 (z : FVec Ideal S128x128 .f32) (a b : Vec Ideal S1x128x128 .f32) (p l : ℕ) (hp : p < 128) (hl : l < 128) :
    g2 (k0_pay57 z a b) p l = g2 z l p + Ideal.ofBits .f32 0x3B04F869#32 * (g3 a 0 l p + g3 b 0 l p) := by
  refine (g2_eq (k0_pay57 z a b) ⟨p, hp⟩ ⟨l, hl⟩).symm.trans ?_
  pointwise [k0_pay57]
  try simp only [g3_eq, g2_eq]
  try rfl

theorem pay117 (a b c d e f g h : Vec Ideal S1x128x128 .f32) (p l : ℕ) (hp : p < 128) (hl : l < 128) :
    g2 (k0_pay117 a b c d e f g h) p l = Ideal.ofBits .f32 0x3C19D644#32 * (g3 a 0 p l + g3 b 0 p l) + Ideal.ofBits .f32 0xBD6C2A24#32 * (g3 c 0 p l + g3 d 0 p l) + Ideal.ofBits .f32 0x3EE2EC65#32 * (g3 e 0 p l + g3 f 0 p l) + Ideal.ofBits .f32 0x3E03A88A#32 * (g3 g 0 p l + g3 h 0 p l) := by
  refine (g2_eq (k0_pay117 a b c d e f g h) ⟨p, hp⟩ ⟨l, hl⟩).symm.trans ?_
  pointwise [k0_pay117]
  try simp only [g3_eq, g2_eq]
  try rfl

theorem pay118 (z : FVec Ideal S128x128 .f32) (a b c d : Vec Ideal S1x128x128 .f32) (p l : ℕ) (hp : p < 128) (hl : l < 128) :
    g2 (k0_pay118 z a b c d) p l = g2 z l p + Ideal.ofBits .f32 0xBCD14087#32 * (g3 a 0 l p + g3 b 0 l p) + Ideal.ofBits .f32 0x3B04F869#32 * (g3 c 0 l p + g3 d 0 l p) := by
  refine (g2_eq (k0_pay118 z a b c d) ⟨p, hp⟩ ⟨l, hl⟩).symm.trans ?_
  pointwise [k0_pay118]
  try simp only [g3_eq, g2_eq]
  try rfl

theorem pay124 (a b c d e f : Vec Ideal S1x128x128 .f32) (p l : ℕ) (hp : p < 128) (hl : l < 128) :
    g2 (k0_pay124 a b c d e f) p l = Ideal.ofBits .f32 0x3C19D644#32 * (g3 a 0 p l + g3 b 0 p l) + Ideal.ofBits .f32 0xBD6C2A24#32 * (g3 c 0 p l + g3 d 0 p l) + Ideal.ofBits .f32 0x3EE2EC65#32 * (g3 e 0 p l + g3 f 0 p l) := by
  refine (g2_eq (k0_pay124 a b c d e f) ⟨p, hp⟩ ⟨l, hl⟩).symm.trans ?_
  pointwise [k0_pay124]
  try simp only [g3_eq, g2_eq]
  try rfl

theorem pay126 (z w : FVec Ideal S128x128 .f32) (a b c d e : Vec Ideal S1x128x128 .f32) (p l : ℕ) (hp : p < 128) (hl : l < 128) :
    g2 (k0_pay126 z w a b c d e) p l = g2 z l p + Ideal.ofBits .f32 0x3E03A88A#32 * (g2 w l p + g3 a 0 l p) + Ideal.ofBits .f32 0xBCD14087#32 * (g3 b 0 l p + g3 c 0 l p) + Ideal.ofBits .f32 0x3B04F869#32 * (g3 d 0 l p + g3 e 0 l p) := by
  refine (g2_eq (k0_pay126 z w a b c d e) ⟨p, hp⟩ ⟨l, hl⟩).symm.trans ?_
  pointwise [k0_pay126]
  try simp only [g3_eq, g2_eq]
  try rfl

theorem pay135 (z w : FVec Ideal S128x128 .f32) (a b c d e f g : Vec Ideal S1x128x128 .f32) (p l : ℕ) (hp : p < 128) (hl : l < 128) :
    g2 (k0_pay135 z w a b c d e f g) p l = g2 z l p + Ideal.ofBits .f32 0x3EE2EC65#32 * (g2 w l p + g3 a 0 l p) + Ideal.ofBits .f32 0x3E03A88A#32 * (g3 b 0 l p + g3 c 0 l p) + Ideal.ofBits .f32 0xBCD14087#32 * (g3 d 0 l p + g3 e 0 l p) + Ideal.ofBits .f32 0x3B04F869#32 * (g3 f 0 l p + g3 g 0 l p) := by
  refine (g2_eq (k0_pay135 z w a b c d e f g) ⟨p, hp⟩ ⟨l, hl⟩).symm.trans ?_
  pointwise [k0_pay135]
  try simp only [g3_eq, g2_eq]
  try rfl

theorem pay39 (z w c : FVec Ideal S128x128 .f32) (a b : Vec Ideal S1x128x128 .f32) (p l : ℕ) (hp : p < 8) (hl : l < 128) :
    g2 (k0_pay39 z w c a b) p l = mx4 fun x => FloatOps.absf (φ := .f32) (g2 (k0_pay37 z w c a b) (0 + (x.val * 8 + p)) l) := by
  refine (g2_eq (k0_pay39 z w c a b) ⟨p, hp⟩ ⟨l, hl⟩).symm.trans ?_
  unfold k0_pay39 k0_pay38
  generalize k0_pay37 z w c a b = zz
  pointwise
  try simp only [g3_eq, g2_eq]
  try simp only [Nat.zero_add]
  try rfl

theorem pay40 (z w c : FVec Ideal S128x128 .f32) (a b : Vec Ideal S1x128x128 .f32) (p l : ℕ) (hp : p < 8) (hl : l < 128) :
    g2 (k0_pay40 z w c a b) p l = mx4 fun x => FloatOps.absf (φ := .f32) (g2 (k0_pay37 z w c a b) (32 + (x.val * 8 + p)) l) := by
  refine (g2_eq (k0_pay40 z w c a b) ⟨p, hp⟩ ⟨l, hl⟩).symm.trans ?_
  unfold k0_pay40 k0_pay38
  generalize k0_pay37 z w c a b = zz
  pointwise
  try simp only [g3_eq, g2_eq]
  try simp only [Nat.zero_add]
  try rfl

theorem pay41 (z w c : FVec Ideal S128x128 .f32) (a b : Vec Ideal S1x128x128 .f32) (p l : ℕ) (hp : p < 8) (hl : l < 128) :
    g2 (k0_pay41 z w c a b) p l = mx4 fun x => FloatOps.absf (φ := .f32) (g2 (k0_pay37 z w c a b) (64 + (x.val * 8 + p)) l) := by
  refine (g2_eq (k0_pay41 z w c a b) ⟨p, hp⟩ ⟨l, hl⟩).symm.trans ?_
  unfold k0_pay41 k0_pay38
  generalize k0_pay37 z w c a b = zz
  pointwise
  try simp only [g3_eq, g2_eq]
  try simp only [Nat.zero_add]
  try rfl

theorem pay49 (z w : FVec Ideal S128x128 .f32) (a b : Vec Ideal S1x128x128 .f32) (p l : ℕ) (hp : p < 8) (hl : l < 128) :
    g2 (k0_pay49 z w a b) p l = mx4 fun x => FloatOps.absf (φ := .f32) (g2 (k0_pay47 z w a b) (0 + (x.val * 8 + p)) l) := by
  refine (g2_eq (k0_pay49 z w a b) ⟨p, hp⟩ ⟨l, hl⟩).symm.trans ?_
  unfold k0_pay49 k0_pay48
  generalize k0_pay47 z w a b = zz
  pointwise
  try simp only [g3_eq, g2_eq]
  try simp only [Nat.zero_add]
  try rfl

theorem pay50 (z w : FVec Ideal S128x128 .f32) (a b : Vec Ideal S1x128x128 .f32) (p l : ℕ) (hp : p < 8) (hl : l < 128) :
    g2 (k0_pay50 z w a b) p l = mx4 fun x => FloatOps.absf (φ := .f32) (g2 (k0_pay47 z w a b) (32 + (x.val * 8 + p)) l) := by
  refine (g2_eq (k0_pay50 z w a b) ⟨p, hp⟩ ⟨l, hl⟩).symm.trans ?_
  unfold k0_pay50 k0_pay48
  generalize k0_pay47 z w a b = zz
  pointwise
  try simp only [g3_eq, g2_eq]
  try simp only [Nat.zero_add]
  try rfl

theorem pay51 (z w : FVec Ideal S128x128 .f32) (a b : Vec Ideal S1x128x128 .f32) (p l : ℕ) (hp : p < 8) (hl : l < 128) :
    g2 (k0_pay51 z w a b) p l = mx4 fun x => FloatOps.absf (φ := .f32) (g2 (k0_pay47 z w a b) (64 + (x.val * 8 + p)) l) := by
  refine (g2_eq (k0_pay51 z w a b) ⟨p, hp⟩ ⟨l, hl⟩).symm.trans ?_
  unfold k0_pay51 k0_pay48
  generalize k0_pay47 z w a b = zz
  pointwise
  try simp only [g3_eq, g2_eq]
  try simp only [Nat.zero_add]
  try rfl

theorem pay52 (z w : FVec Ideal S128x128 .f32) (a b : Vec Ideal S1x128x128 .f32) (p l : ℕ) (hp : p < 8) (hl : l < 128) :
    g2 (k0_pay52 z w a b) p l = mx4 fun x => FloatOps.absf (φ := .f32) (g2 (k0_pay47 z w a b) (96 + (x.val * 8 + p)) l) := by
  refine (g2_eq (k0_pay52 z w a b) ⟨p, hp⟩ ⟨l, hl⟩).symm.trans ?_
  unfold k0_pay52 k0_pay48
  generalize k0_pay47 z w a b = zz
  pointwise
  try simp only [g3_eq, g2_eq]
  try simp only [Nat.zero_add]
  try rfl

theorem pay59 (z : FVec Ideal S128x128 .f32) (a b : Vec Ideal S1x128x128 .f32) (p l : ℕ) (hp : p < 8) (hl : l < 128) :
    g2 (k0_pay59 z a b) p l = mx4 fun x => FloatOps.absf (φ := .f32) (g2 (k0_pay57 z a b) (0 + (x.val * 8 + p)) l) := by
  refine (g2_eq (k0_pay59 z a b) ⟨p, hp⟩ ⟨l, hl⟩).symm.trans ?_
  unfold k0_pay59 k0_pay58
  generalize k0_pay57 z a b = zz
  pointwise
  try simp only [g3_eq, g2_eq]
  try simp only [Nat.zero_add]
  try rfl

theorem pay60 (z : FVec Ideal S128x128 .f32) (a b : Vec Ideal S1x128x128 .f32) (p l : ℕ) (hp : p < 8) (hl : l < 128) :
    g2 (k0_pay60 z a b) p l = mx4 fun x => FloatOps.absf (φ := .f32) (g2 (k0_pay57 z a b) (32 + (x.val * 8 + p)) l) := by
  refine (g2_eq (k0_pay60 z a b) ⟨p, hp⟩ ⟨l, hl⟩).symm.trans ?_
  unfold k0_pay60 k0_pay58
  generalize k0_pay57 z a b = zz
  pointwise
  try simp only [g3_eq, g2_eq]
  try simp only [Nat.zero_add]
  try rfl

theorem pay61 (z : FVec Ideal S128x128 .f32) (a b : Vec Ideal S1x128x128 .f32) (p l : ℕ) (hp : p < 8) (hl : l < 128) :
    g2 (k0_pay61 z a b) p l = mx4 fun x => FloatOps.absf (φ := .f32) (g2 (k0_pay57 z a b) (64 + (x.val * 8 + p)) l) := by
  refine (g2_eq (k0_pay61 z a b) ⟨p, hp⟩ ⟨l, hl⟩).symm.trans ?_
  unfold k0_pay61 k0_pay58
  generalize k0_pay57 z a b = zz
  pointwise
  try simp only [g3_eq, g2_eq]
  try simp only [Nat.zero_add]
  try rfl

theorem pay62 (z : FVec Ideal S128x128 .f32) (a b : Vec Ideal S1x128x128 .f32) (p l : ℕ) (hp : p < 8) (hl : l < 128) :
    g2 (k0_pay62 z a b) p l = mx4 fun x => FloatOps.absf (φ := .f32) (g2 (k0_pay57 z a b) (96 + (x.val * 8 + p)) l) := by
  refine (g2_eq (k0_pay62 z a b) ⟨p, hp⟩ ⟨l, hl⟩).symm.trans ?_
  unfold k0_pay62 k0_pay58
  generalize k0_pay57 z a b = zz
  pointwise
  try simp only [g3_eq, g2_eq]
  try simp only [Nat.zero_add]
  try rfl

theorem pay120 (z : FVec Ideal S128x128 .f32) (a b c d : Vec Ideal S1x128x128 .f32) (p l : ℕ) (hp : p < 8) (hl : l < 128) :
    g2 (k0_pay120 z a b c d) p l = mx4 fun x => FloatOps.absf (φ := .f32) (g2 (k0_pay118 z a b c d) (0 + (x.val * 8 + p)) l) := by
  refine (g2_eq (k0_pay120 z a b c d) ⟨p, hp⟩ ⟨l, hl⟩).symm.trans ?_
  unfold k0_pay120 k0_pay119
  generalize k0_pay118 z a b c d = zz
  pointwise
  try simp only [g3_eq, g2_eq]
  try simp only [Nat.zero_add]
  try rfl

theorem pay121 (z : FVec Ideal S128x128 .f32) (a b c d : Vec Ideal S1x128x128 .f32) (p l : ℕ) (hp : p < 8) (hl : l < 128) :
    g2 (k0_pay121 z a b c d) p l = mx4 fun x => FloatOps.absf (φ := .f32) (g2 (k0_pay118 z a b c d) (32 + (x.val * 8 + p)) l) := by
  refine (g2_eq (k0_pay121 z a b c d) ⟨p, hp⟩ ⟨l, hl⟩).symm.trans ?_
  unfold k0_pay121 k0_pay119
  generalize k0_pay118 z a b c d = zz
  pointwise
  try simp only [g3_eq, g2_eq]
  try simp only [Nat.zero_add]
  try rfl

theorem pay122 (z : FVec Ideal S128x128 .f32) (a b c d : Vec Ideal S1x128x128 .f32) (p l : ℕ) (hp : p < 8) (hl : l < 128) :
    g2 (k0_pay122 z a b c d) p l = mx4 fun x => FloatOps.absf (φ := .f32) (g2 (k0_pay118 z a b c d) (64 + (x.val * 8 + p)) l) := by
  refine (g2_eq (k0_pay122 z a b c d) ⟨p, hp⟩ ⟨l, hl⟩).symm.trans ?_
  unfold k0_pay122 k0_pay119
  generalize k0_pay118 z a b c d = zz
  pointwise
  try simp only [g3_eq, g2_eq]
  try simp only [Nat.zero_add]
  try rfl

theorem pay128 (z w : FVec Ideal S128x128 .f32) (a b c d e : Vec Ideal S1x128x128 .f32) (p l : ℕ) (hp : p < 8) (hl : l < 128) :
    g2 (k0_pay128 z w a b c d e) p l = mx4 fun x => FloatOps.absf (φ := .f32) (g2 (k0_pay126 z w a b c d e) (0 + (x.val * 8 + p)) l) := by
  refine (g2_eq (k0_pay128 z w a b c d e) ⟨p, hp⟩ ⟨l, hl⟩).symm.trans ?_
  unfold k0_pay128 k0_pay127
  generalize k0_pay126 z w a b c d e = zz
  pointwise
  try simp only [g3_eq, g2_eq]
  try simp only [Nat.zero_add]
  try rfl

theorem pay129 (z w : FVec Ideal S128x128 .f32) (a b c d e : Vec Ideal S1x128x128 .f32) (p l : ℕ) (hp : p < 8) (hl : l < 128) :
    g2 (k0_pay129 z w a b c d e) p l = mx4 fun x => FloatOps.absf (φ := .f32) (g2 (k0_pay126 z w a b c d e) (32 + (x.val * 8 + p)) l) := by
  refine (g2_eq (k0_pay129 z w a b c d e) ⟨p, hp⟩ ⟨l, hl⟩).symm.trans ?_
  unfold k0_pay129 k0_pay127
  generalize k0_pay126 z w a b c d e = zz
  pointwise
  try simp only [g3_eq, g2_eq]
  try simp only [Nat.zero_add]
  try rfl

theorem pay137 (z w : FVec Ideal S128x128 .f32) (a b c d e f g : Vec Ideal S1x128x128 .f32) (p l : ℕ) (hp : p < 8) (hl : l < 128) :
    g2 (k0_pay137 z w a b c d e f g) p l = mx4 fun x => FloatOps.absf (φ := .f32) (g2 (k0_pay135 z w a b c d e f g) (0 + (x.val * 8 + p)) l) := by
  refine (g2_eq (k0_pay137 z w a b c d e f g) ⟨p, hp⟩ ⟨l, hl⟩).symm.trans ?_
  unfold k0_pay137 k0_pay136
  generalize k0_pay135 z w a b c d e f g = zz
  pointwise
  try simp only [g3_eq, g2_eq]
  try simp only [Nat.zero_add]
  try rfl

theorem pay123 (z : FVec Ideal S128x128 .f32) (p l : ℕ) (hp : p < 8) (hl : l < 128) :
    g2 (k0_pay123 z) p l = mx4 fun x => g2 z (96 + (x.val * 8 + p)) l := by
  refine (g2_eq (k0_pay123 z) ⟨p, hp⟩ ⟨l, hl⟩).symm.trans ?_
  pointwise [k0_pay123]
  try simp only [g3_eq, g2_eq]
  try rfl

theorem pay131 (z : FVec Ideal S128x128 .f32) (p l : ℕ) (hp : p < 8) (hl : l < 128) :
    g2 (k0_pay131 z) p l = mx4 fun x => g2 z (64 + (x.val * 8 + p)) l := by
  refine (g2_eq (k0_pay131 z) ⟨p, hp⟩ ⟨l, hl⟩).symm.trans ?_
  pointwise [k0_pay131]
  try simp only [g3_eq, g2_eq]
  try rfl

theorem pay132 (z : FVec Ideal S128x128 .f32) (p l : ℕ) (hp : p < 8) (hl : l < 128) :
    g2 (k0_pay132 z) p l = mx4 fun x => g2 z (96 + (x.val * 8 + p)) l := by
  refine (g2_eq (k0_pay132 z) ⟨p, hp⟩ ⟨l, hl⟩).symm.trans ?_
  pointwise [k0_pay132]
  try simp only [g3_eq, g2_eq]
  try rfl

theorem pay139 (z : FVec Ideal S128x128 .f32) (p l : ℕ) (hp : p < 8) (hl : l < 128) :
    g2 (k0_pay139 z) p l = mx4 fun x => g2 z (32 + (x.val * 8 + p)) l := by
  refine (g2_eq (k0_pay139 z) ⟨p, hp⟩ ⟨l, hl⟩).symm.trans ?_
  pointwise [k0_pay139]
  try simp only [g3_eq, g2_eq]
  try rfl

theorem pay140 (z : FVec Ideal S128x128 .f32) (p l : ℕ) (hp : p < 8) (hl : l < 128) :
    g2 (k0_pay140 z) p l = mx4 fun x => g2 z (64 + (x.val * 8 + p)) l := by
  refine (g2_eq (k0_pay140 z) ⟨p, hp⟩ ⟨l, hl⟩).symm.trans ?_
  pointwise [k0_pay140]
  try simp only [g3_eq, g2_eq]
  try rfl

theorem pay141 (z : FVec Ideal S128x128 .f32) (p l : ℕ) (hp : p < 8) (hl : l < 128) :
    g2 (k0_pay141 z) p l = mx4 fun x => g2 z (96 + (x.val * 8 + p)) l := by
  refine (g2_eq (k0_pay141 z) ⟨p, hp⟩ ⟨l, hl⟩).symm.trans ?_
  pointwise [k0_pay141]
  try simp only [g3_eq, g2_eq]
  try rfl

theorem pay119 (z : FVec Ideal S128x128 .f32) (a b c d : Vec Ideal S1x128x128 .f32) (p l : ℕ) (hp : p < 128) (hl : l < 128) :
    g2 (k0_pay119 z a b c d) p l = FloatOps.absf (φ := .f32) (g2 (k0_pay118 z a b c d) p l) := by
  refine (g2_eq (k0_pay119 z a b c d) ⟨p, hp⟩ ⟨l, hl⟩).symm.trans ?_
  unfold k0_pay119
  generalize k0_pay118 z a b c d = zz
  pointwise
  try simp only [g3_eq, g2_eq]
  try rfl

theorem pay127 (z w : FVec Ideal S128x128 .f32) (a b c d e : Vec Ideal S1x128x128 .f32) (p l : ℕ) (hp : p < 128) (hl : l < 128) :
    g2 (k0_pay127 z w a b c d e) p l = FloatOps.absf (φ := .f32) (g2 (k0_pay126 z w a b c d e) p l) := by
  refine (g2_eq (k0_pay127 z w a b c d e) ⟨p, hp⟩ ⟨l, hl⟩).symm.trans ?_
  unfold k0_pay127
  generalize k0_pay126 z w a b c d e = zz
  pointwise
  try simp only [g3_eq, g2_eq]
  try rfl

theorem pay136 (z w : FVec Ideal S128x128 .f32) (a b c d e f g : Vec Ideal S1x128x128 .f32) (p l : ℕ) (hp : p < 128) (hl : l < 128) :
    g2 (k0_pay136 z w a b c d e f g) p l = FloatOps.absf (φ := .f32) (g2 (k0_pay135 z w a b c d e f g) p l) := by
  refine (g2_eq (k0_pay136 z w a b c d e f g) ⟨p, hp⟩ ⟨l, hl⟩).symm.trans ?_
  unfold k0_pay136
  generalize k0_pay135 z w a b c d e f g = zz
  pointwise
  try simp only [g3_eq, g2_eq]
  try rfl

theorem pay43 (z w c : FVec Ideal S128x128 .f32) (a b : Vec Ideal S1x128x128 .f32) (p l : ℕ) (hp : p < 8) (hl : l < 128) :
    g2 (k0_pay43 (k0_pay42 z w c a b)) p l = mx4 fun x => FloatOps.absf (φ := .f32) (g2 (k0_pay37 z w c a b) (96 + (x.val * 8 + p)) l) := by
  refine (g2_eq (k0_pay43 (k0_pay42 z w c a b)) ⟨p, hp⟩ ⟨l, hl⟩).symm.trans ?_
  unfold k0_pay43 k0_pay42 k0_pay38
  generalize k0_pay37 z w c a b = zz
  pointwise
  simp only [g3_eq, g2_eq]
  try rfl

theorem pay53 (z : FVec Ideal S8x128 .f32) (p l : ℕ) (hp : p < 8) (hl : l < 128) :
    g2 (k0_pay53 z) p l = g2 z p l := by
  refine (g2_eq (k0_pay53 z) ⟨p, hp⟩ ⟨l, hl⟩).symm.trans ?_
  pointwise [k0_pay53]
  try simp only [g3_eq, g2_eq]
  try rfl

theorem pay63 (z : FVec Ideal S8x128 .f32) (p l : ℕ) (hp : p < 8) (hl : l < 128) :
    g2 (k0_pay63 z) p l = g2 z p l := by
  refine (g2_eq (k0_pay63 z) ⟨p, hp⟩ ⟨l, hl⟩).symm.trans ?_
  pointwise [k0_pay63]
  try simp only [g3_eq, g2_eq]
  try rfl

theorem pay130 (z : FVec Ideal S8x128 .f32) (p l : ℕ) (hp : p < 8) (hl : l < 128) :
    g2 (k0_pay130 z) p l = g2 z p l := by
  refine (g2_eq (k0_pay130 z) ⟨p, hp⟩ ⟨l, hl⟩).symm.trans ?_
  pointwise [k0_pay130]
  try simp only [g3_eq, g2_eq]
  try rfl

theorem pay138 (z : FVec Ideal S8x128 .f32) (p l : ℕ) (hp : p < 8) (hl : l < 128) :
    g2 (k0_pay138 z) p l = g2 z p l := by
  refine (g2_eq (k0_pay138 z) ⟨p, hp⟩ ⟨l, hl⟩).symm.trans ?_
  pointwise [k0_pay138]
  try simp only [g3_eq, g2_eq]
  try rfl

theorem pay64 (a b c d e f g h : Vec Ideal S12x128 .f32) (p l : ℕ) (hp : p < 12) (hl : l < 128) :
    g2 (k0_pay64 a b c d e f g h) p l = expo (max (max (max (max (max (max (max (g2 a p l) (g2 b p l)) (g2 c p l)) (g2 d p l)) (g2 e p l)) (g2 f p l)) (g2 g p l)) (g2 h p l)) := by
  refine (g2_eq (k0_pay64 a b c d e f g h) ⟨p, hp⟩ ⟨l, hl⟩).symm.trans ?_
  pointwise [k0_pay64]
  try simp only [g3_eq, g2_eq]
  try unfold expo
  try rfl

theorem pay65 (a b c d e f g h : Vec Ideal S12x128 .f32) (p l : ℕ) (hp : p < 12) (hl : l < 128) :
    g2 (k0_pay65 a b c d e f g h) p l = FloatOps.exp2 (φ := .f32) (expo (max (max (max (max (max (max (max (g2 a p l) (g2 b p l)) (g2 c p l)) (g2 d p l)) (g2 e p l)) (g2 f p l)) (g2 g p l)) (g2 h p l))) := by
  refine (g2_eq (k0_pay65 a b c d e f g h) ⟨p, hp⟩ ⟨l, hl⟩).symm.trans ?_
  pointwise [k0_pay65, k0_pay64]
  try simp only [g3_eq, g2_eq]
  try unfold expo
  try rfl

theorem pay66 (z : FVec Ideal S12x128 .f32) (p l : ℕ) (hp : p < 12) (hl : l < 128) :
    g2 (k0_pay66 z) p l = FloatOps.exp2 (φ := .f32) (0 - g2 z p l) := by
  refine (g2_eq (k0_pay66 z) ⟨p, hp⟩ ⟨l, hl⟩).symm.trans ?_
  pointwise [k0_pay66]
  try simp only [g3_eq, g2_eq]
  try rfl

theorem pay142 (a b c d e f g : Vec Ideal S12x128 .f32) (p l : ℕ) (hp : p < 12) (hl : l < 128) :
    g2 (k0_pay142 a b c d e f g) p l = max (max (max (max (max (max (g2 a p l) (g2 b p l)) (g2 c p l)) (g2 d p l)) (g2 e p l)) (g2 f p l)) (g2 g p l) := by
  refine (g2_eq (k0_pay142 a b c d e f g) ⟨p, hp⟩ ⟨l, hl⟩).symm.trans ?_
  pointwise [k0_pay142]
  try simp only [g3_eq, g2_eq]
  try rfl

theorem pay143 (z : FVec Ideal S12x128 .f32) (h : Vec Ideal S12x128 .f32) (p l : ℕ) (hp : p < 12) (hl : l < 128) :
    g2 (k0_pay143 z h) p l = expo (max (g2 z p l) (g2 h p l)) := by
  refine (g2_eq (k0_pay143 z h) ⟨p, hp⟩ ⟨l, hl⟩).symm.trans ?_
  pointwise [k0_pay143]
  try simp only [g3_eq, g2_eq]
  try unfold expo
  try rfl

theorem pay144 (z : FVec Ideal S12x128 .f32) (h : Vec Ideal S12x128 .f32) (p l : ℕ) (hp : p < 12) (hl : l < 128) :
    g2 (k0_pay144 z h) p l = FloatOps.exp2 (φ := .f32) (expo (max (g2 z p l) (g2 h p l))) := by
  rw [← pay143 z h p l hp hl]
  unfold k0_pay144
  generalize k0_pay143 z h = y
  refine (g2_eq _ ⟨p, hp⟩ ⟨l, hl⟩).symm.trans ?_
  pointwise
  simp only [g2_eq]
  try rfl

theorem pay145 (z : FVec Ideal S12x128 .f32) (h : Vec Ideal S12x128 .f32) (p l : ℕ) (hp : p < 12) (hl : l < 128) :
    g2 (k0_pay145 z h) p l = FloatOps.exp2 (φ := .f32) (0 - expo (max (g2 z p l) (g2 h p l))) := by
  rw [← pay143 z h p l hp hl]
  unfold k0_pay145
  generalize k0_pay143 z h = y
  refine (g2_eq _ ⟨p, hp⟩ ⟨l, hl⟩).symm.trans ?_
  pointwise
  simp only [g2_eq]
  try rfl

theorem pay67 (z : FVec Ideal S128x128 .f32) (a : Vec Ideal S1x128 .f32) (p l : ℕ) (hp : p < 32) (hl : l < 128) :
    g2 (k0_pay67 z a) p l = clip (g2 z (0 + p) l * g2 a 0 l) := by
  refine (g2_eq (k0_pay67 z a) ⟨p, hp⟩ ⟨l, hl⟩).symm.trans ?_
  pointwise [k0_pay67]
  try simp only [g3_eq, g2_eq]
  try simp only [Nat.zero_add]
  try rfl

theorem pay69 (z : FVec Ideal S128x128 .f32) (a : Vec Ideal S1x128 .f32) (p l : ℕ) (hp : p < 32) (hl : l < 128) :
    g2 (k0_pay69 z a) p l = clip (g2 z (32 + p) l * g2 a 0 l) := by
  refine (g2_eq (k0_pay69 z a) ⟨p, hp⟩ ⟨l, hl⟩).symm.trans ?_
  pointwise [k0_pay69]
  try simp only [g3_eq, g2_eq]
  try simp only [Nat.zero_add]
  try rfl

theorem pay72 (z : FVec Ideal S128x128 .f32) (a : Vec Ideal S1x128 .f32) (p l : ℕ) (hp : p < 32) (hl : l < 128) :
    g2 (k0_pay72 z a) p l = clip (g2 z (64 + p) l * g2 a 0 l) := by
  refine (g2_eq (k0_pay72 z a) ⟨p, hp⟩ ⟨l, hl⟩).symm.trans ?_
  pointwise [k0_pay72]
  try simp only [g3_eq, g2_eq]
  try simp only [Nat.zero_add]
  try rfl

theorem pay74 (z : FVec Ideal S128x128 .f32) (a : Vec Ideal S1x128 .f32) (p l : ℕ) (hp : p < 32) (hl : l < 128) :
    g2 (k0_pay74 z a) p l = clip (g2 z (96 + p) l * g2 a 0 l) := by
  refine (g2_eq (k0_pay74 z a) ⟨p, hp⟩ ⟨l, hl⟩).symm.trans ?_
  pointwise [k0_pay74]
  try simp only [g3_eq, g2_eq]
  try simp only [Nat.zero_add]
  try rfl

theorem pay77 (z : FVec Ideal S128x128 .f32) (a : Vec Ideal S1x128 .f32) (p l : ℕ) (hp : p < 32) (hl : l < 128) :
    g2 (k0_pay77 z a) p l = clip (g2 z (0 + p) l * g2 a 0 l) := by
  refine (g2_eq (k0_pay77 z a) ⟨p, hp⟩ ⟨l, hl⟩).symm.trans ?_
  pointwise [k0_pay77]
  try simp only [g3_eq, g2_eq]
  try simp only [Nat.zero_add]
  try rfl

theorem pay79 (z : FVec Ideal S128x128 .f32) (a : Vec Ideal S1x128 .f32) (p l : ℕ) (hp : p < 32) (hl : l < 128) :
    g2 (k0_pay79 z a) p l = clip (g2 z (32 + p) l * g2 a 0 l) := by
  refine (g2_eq (k0_pay79 z a) ⟨p, hp⟩ ⟨l, hl⟩).symm.trans ?_
  pointwise [k0_pay79]
  try simp only [g3_eq, g2_eq]
  try simp only [Nat.zero_add]
  try rfl

theorem pay82 (z : FVec Ideal S128x128 .f32) (a : Vec Ideal S1x128 .f32) (p l : ℕ) (hp : p < 32) (hl : l < 128) :
    g2 (k0_pay82 z a) p l = clip (g2 z (64 + p) l * g2 a 0 l) := by
  refine (g2_eq (k0_pay82 z a) ⟨p, hp⟩ ⟨l, hl⟩).symm.trans ?_
  pointwise [k0_pay82]
  try simp only [g3_eq, g2_eq]
  try simp only [Nat.zero_add]
  try rfl

theorem pay84 (z : FVec Ideal S128x128 .f32) (a : Vec Ideal S1x128 .f32) (p l : ℕ) (hp : p < 32) (hl : l < 128) :
    g2 (k0_pay84 z a) p l = clip (g2 z (96 + p) l * g2 a 0 l) := by
  refine (g2_eq (k0_pay84 z a) ⟨p, hp⟩ ⟨l, hl⟩).symm.trans ?_
  pointwise [k0_pay84]
  try simp only [g3_eq, g2_eq]
  try simp only [Nat.zero_add]
  try rfl

theorem pay87 (z : FVec Ideal S128x128 .f32) (a : Vec Ideal S1x128 .f32) (p l : ℕ) (hp : p < 32) (hl : l < 128) :
    g2 (k0_pay87 z a) p l = clip (g2 z (0 + p) l * g2 a 0 l) := by
  refine (g2_eq (k0_pay87 z a) ⟨p, hp⟩ ⟨l, hl⟩).symm.trans ?_
  pointwise [k0_pay87]
  try simp only [g3_eq, g2_eq]
  try simp only [Nat.zero_add]
  try rfl

theorem pay89 (z : FVec Ideal S128x128 .f32) (a : Vec Ideal S1x128 .f32) (p l : ℕ) (hp : p < 32) (hl : l < 128) :
    g2 (k0_pay89 z a) p l = clip (g2 z (32 + p) l * g2 a 0 l) := by
  refine (g2_eq (k0_pay89 z a) ⟨p, hp⟩ ⟨l, hl⟩).symm.trans ?_
  pointwise [k0_pay89]
  try simp only [g3_eq, g2_eq]
  try simp only [Nat.zero_add]
  try rfl

theorem pay92 (z : FVec Ideal S128x128 .f32) (a : Vec Ideal S1x128 .f32) (p l : ℕ) (hp : p < 32) (hl : l < 128) :
    g2 (k0_pay92 z a) p l = clip (g2 z (64 + p) l * g2 a 0 l) := by
  refine (g2_eq (k0_pay92 z a) ⟨p, hp⟩ ⟨l, hl⟩).symm.trans ?_
  pointwise [k0_pay92]
  try simp only [g3_eq, g2_eq]
  try simp only [Nat.zero_add]
  try rfl

theorem pay94 (z : FVec Ideal S128x128 .f32) (a : Vec Ideal S1x128 .f32) (p l : ℕ) (hp : p < 32) (hl : l < 128) :
    g2 (k0_pay94 z a) p l = clip (g2 z (96 + p) l * g2 a 0 l) := by
  refine (g2_eq (k0_pay94 z a) ⟨p, hp⟩ ⟨l, hl⟩).symm.trans ?_
  pointwise [k0_pay94]
  try simp only [g3_eq, g2_eq]
  try simp only [Nat.zero_add]
  try rfl

theorem pay163 (z : FVec Ideal S128x128 .f32) (a : Vec Ideal S1x128 .f32) (p l : ℕ) (hp : p < 32) (hl : l < 128) :
    g2 (k0_pay163 z a) p l = clip (g2 z (96 + p) l * g2 a 0 l) := by
  refine (g2_eq (k0_pay163 z a) ⟨p, hp⟩ ⟨l, hl⟩).symm.trans ?_
  pointwise [k0_pay163]
  try simp only [g3_eq, g2_eq]
  try rfl

theorem pay68 (z : FVec Ideal S128x128 .f32) (a b : Vec Ideal S1x128 .f32) (p l : ℕ) (hp : p < 32) (hl : l < 128) :
    g2 (k0_pay68 z a b) p l = clip (g2 z (0 + p) l * g2 a 0 l) * g2 b 0 l := by
  refine (g2_eq (k0_pay68 z a b) ⟨p, hp⟩ ⟨l, hl⟩).symm.trans ?_
  pointwise [k0_pay68, k0_pay67]
  try simp only [g3_eq, g2_eq]
  try simp only [Nat.zero_add]
  try rfl

theorem pay73 (z : FVec Ideal S128x128 .f32) (a b : Vec Ideal S1x128 .f32) (p l : ℕ) (hp : p < 32) (hl : l < 128) :
    g2 (k0_pay73 z a b) p l = clip (g2 z (64 + p) l * g2 a 0 l) * g2 b 0 l := by
  refine (g2_eq (k0_pay73 z a b) ⟨p, hp⟩ ⟨l, hl⟩).symm.trans ?_
  pointwise [k0_pay73, k0_pay72]
  try simp only [g3_eq, g2_eq]
  try simp only [Nat.zero_add]
  try rfl

theorem pay78 (z : FVec Ideal S128x128 .f32) (a b : Vec Ideal S1x128 .f32) (p l : ℕ) (hp : p < 32) (hl : l < 128) :
    g2 (k0_pay78 z a b) p l = clip (g2 z (0 + p) l * g2 a 0 l) * g2 b 0 l := by
  refine (g2_eq (k0_pay78 z a b) ⟨p, hp⟩ ⟨l, hl⟩).symm.trans ?_
  pointwise [k0_pay78, k0_pay77]
  try simp only [g3_eq, g2_eq]
  try simp only [Nat.zero_add]
  try rfl

theorem pay83 (z : FVec Ideal S128x128 .f32) (a b : Vec Ideal S1x128 .f32) (p l : ℕ) (hp : p < 32) (hl : l < 128) :
    g2 (k0_pay83 z a b) p l = clip (g2 z (64 + p) l * g2 a 0 l) * g2 b 0 l := by
  refine (g2_eq (k0_pay83 z a b) ⟨p, hp⟩ ⟨l, hl⟩).symm.trans ?_
  pointwise [k0_pay83, k0_pay82]
  try simp only [g3_eq, g2_eq]
  try simp only [Nat.zero_add]
  try rfl

theorem pay88 (z : FVec Ideal S128x128 .f32) (a b : Vec Ideal S1x128 .f32) (p l : ℕ) (hp : p < 32) (hl : l < 128) :
    g2 (k0_pay88 z a b) p l = clip (g2 z (0 + p) l * g2 a 0 l) * g2 b 0 l := by
  refine (g2_eq (k0_pay88 z a b) ⟨p, hp⟩ ⟨l, hl⟩).symm.trans ?_
  pointwise [k0_pay88, k0_pay87]
  try simp only [g3_eq, g2_eq]
  try simp only [Nat.zero_add]
  try rfl

theorem pay93 (z : FVec Ideal S128x128 .f32) (a b : Vec Ideal S1x128 .f32) (p l : ℕ) (hp : p < 32) (hl : l < 128) :
    g2 (k0_pay93 z a b) p l = clip (g2 z (64 + p) l * g2 a 0 l) * g2 b 0 l := by
  refine (g2_eq (k0_pay93 z a b) ⟨p, hp⟩ ⟨l, hl⟩).symm.trans ?_
  pointwise [k0_pay93, k0_pay92]
  try simp only [g3_eq, g2_eq]
  try simp only [Nat.zero_add]
  try rfl

theorem pay71 (z : FVec Ideal S32x128 .fp8e4m3) (b : Vec Ideal S1x128 .f32) (p l : ℕ) (hp : p < 32) (hl : l < 128) :
    g2 (k0_pay71 z (k0_pay70 b)) p l = g2 z p l * g2 b 0 l := by
  refine (g2_eq (k0_pay71 z (k0_pay70 b)) ⟨p, hp⟩ ⟨l, hl⟩).symm.trans ?_
  pointwise [k0_pay71, k0_pay70]
  simp only [g3_eq, g2_eq]
  try rfl

theorem pay76 (z : FVec Ideal S32x128 .fp8e4m3) (b : Vec Ideal S1x128 .f32) (p l : ℕ) (hp : p < 32) (hl : l < 128) :
    g2 (k0_pay76 z (k0_pay75 b)) p l = g2 z p l * g2 b 0 l := by
  refine (g2_eq (k0_pay76 z (k0_pay75 b)) ⟨p, hp⟩ ⟨l, hl⟩).symm.trans ?_
  pointwise [k0_pay76, k0_pay75]
  simp only [g3_eq, g2_eq]
  try rfl

theorem pay81 (z : FVec Ideal S32x128 .fp8e4m3) (b : Vec Ideal S1x128 .f32) (p l : ℕ) (hp : p < 32) (hl : l < 128) :
    g2 (k0_pay81 z (k0_pay80 b)) p l = g2 z p l * g2 b 0 l := by
  refine (g2_eq (k0_pay81 z (k0_pay80 b)) ⟨p, hp⟩ ⟨l, hl⟩).symm.trans ?_
  pointwise [k0_pay81, k0_pay80]
  simp only [g3_eq, g2_eq]
  try rfl

theorem pay86 (z : FVec Ideal S32x128 .fp8e4m3) (b : Vec Ideal S1x128 .f32) (p l : ℕ) (hp : p < 32) (hl : l < 128) :
    g2 (k0_pay86 z (k0_pay85 b)) p l = g2 z p l * g2 b 0 l := by
  refine (g2_eq (k0_pay86 z (k0_pay85 b)) ⟨p, hp⟩ ⟨l, hl⟩).symm.trans ?_
  pointwise [k0_pay86, k0_pay85]
  simp only [g3_eq, g2_eq]
  try rfl

theorem pay91 (z : FVec Ideal S32x128 .fp8e4m3) (b : Vec Ideal S1x128 .f32) (p l : ℕ) (hp : p < 32) (hl : l < 128) :
    g2 (k0_pay91 z (k0_pay90 b)) p l = g2 z p l * g2 b 0 l := by
  refine (g2_eq (k0_pay91 z (k0_pay90 b)) ⟨p, hp⟩ ⟨l, hl⟩).symm.trans ?_
  pointwise [k0_pay91, k0_pay90]
  simp only [g3_eq, g2_eq]
  try rfl

theorem pay96 (z : FVec Ideal S32x128 .fp8e4m3) (b : Vec Ideal S1x128 .f32) (p l : ℕ) (hp : p < 32) (hl : l < 128) :
    g2 (k0_pay96 z (k0_pay95 b)) p l = g2 z p l * g2 b 0 l := by
  refine (g2_eq (k0_pay96 z (k0_pay95 b)) ⟨p, hp⟩ ⟨l, hl⟩).symm.trans ?_
  pointwise [k0_pay96, k0_pay95]
  simp only [g3_eq, g2_eq]
  try rfl

theorem pay1 (z : FVec Ideal S32x128 .fp8e4m3) (b : Vec Ideal S1x128 .f32) (p l : ℕ) (hp : p < 32) (hl : l < 128) :
    g2 (k0_pay1 z b) p l = g2 z p l * g2 b 0 l := by
  refine (g2_eq (k0_pay1 z b) ⟨p, hp⟩ ⟨l, hl⟩).symm.trans ?_
  pointwise [k0_pay1]
  try simp only [g3_eq, g2_eq]
  try rfl

theorem pay146 (z : FVec Ideal S128x128 .f32) (a b : Vec Ideal S1x128 .f32) (p l : ℕ) (hp : p < 32) (hl : l < 128) :
    g2 (k0_pay146 z a b) p l = clip (g2 z (0 + p) l * g2 a 0 l) * g2 b 0 l := by
  refine (g2_eq (k0_pay146 z a b) ⟨p, hp⟩ ⟨l, hl⟩).symm.trans ?_
  pointwise [k0_pay146]
  try simp only [g3_eq, g2_eq]
  try simp only [Nat.zero_add]
  try rfl

theorem pay148 (z : FVec Ideal S128x128 .f32) (a b : Vec Ideal S1x128 .f32) (p l : ℕ) (hp : p < 32) (hl : l < 128) :
    g2 (k0_pay148 z a b) p l = clip (g2 z (32 + p) l * g2 a 0 l) * g2 b 0 l := by
  refine (g2_eq (k0_pay148 z a b) ⟨p, hp⟩ ⟨l, hl⟩).symm.trans ?_
  pointwise [k0_pay148]
  try simp only [g3_eq, g2_eq]
  try simp only [Nat.zero_add]
  try rfl

theorem pay149 (z : FVec Ideal S128x128 .f32) (a b : Vec Ideal S1x128 .f32) (p l : ℕ) (hp : p < 32) (hl : l < 128) :
    g2 (k0_pay149 z a b) p l = clip (g2 z (64 + p) l * g2 a 0 l) * g2 b 0 l := by
  refine (g2_eq (k0_pay149 z a b) ⟨p, hp⟩ ⟨l, hl⟩).symm.trans ?_
  pointwise [k0_pay149]
  try simp only [g3_eq, g2_eq]
  try simp only [Nat.zero_add]
  try rfl

theorem pay151 (z : FVec Ideal S128x128 .f32) (a b : Vec Ideal S1x128 .f32) (p l : ℕ) (hp : p < 32) (hl : l < 128) :
    g2 (k0_pay151 z a b) p l = clip (g2 z (96 + p) l * g2 a 0 l) * g2 b 0 l := by
  refine (g2_eq (k0_pay151 z a b) ⟨p, hp⟩ ⟨l, hl⟩).symm.trans ?_
  pointwise [k0_pay151]
  try simp only [g3_eq, g2_eq]
  try simp only [Nat.zero_add]
  try rfl

theorem pay152 (z : FVec Ideal S128x128 .f32) (a b : Vec Ideal S1x128 .f32) (p l : ℕ) (hp : p < 32) (hl : l < 128) :
    g2 (k0_pay152 z a b) p l = clip (g2 z (0 + p) l * g2 a 0 l) * g2 b 0 l := by
  refine (g2_eq (k0_pay152 z a b) ⟨p, hp⟩ ⟨l, hl⟩).symm.trans ?_
  pointwise [k0_pay152]
  try simp only [g3_eq, g2_eq]
  try simp only [Nat.zero_add]
  try rfl

theorem pay153 (z : FVec Ideal S128x128 .f32) (a b : Vec Ideal S1x128 .f32) (p l : ℕ) (hp : p < 32) (hl : l < 128) :
    g2 (k0_pay153 z a b) p l = clip (g2 z (32 + p) l * g2 a 0 l) * g2 b 0 l := by
  refine (g2_eq (k0_pay153 z a b) ⟨p, hp⟩ ⟨l, hl⟩).symm.trans ?_
  pointwise [k0_pay153]
  try simp only [g3_eq, g2_eq]
  try simp only [Nat.zero_add]
  try rfl

theorem pay154 (z : FVec Ideal S128x128 .f32) (a b : Vec Ideal S1x128 .f32) (p l : ℕ) (hp : p < 32) (hl : l < 128) :
    g2 (k0_pay154 z a b) p l = clip (g2 z (64 + p) l * g2 a 0 l) * g2 b 0 l := by
  refine (g2_eq (k0_pay154 z a b) ⟨p, hp⟩ ⟨l, hl⟩).symm.trans ?_
  pointwise [k0_pay154]
  try simp only [g3_eq, g2_eq]
  try simp only [Nat.zero_add]
  try rfl

theorem pay158 (z : FVec Ideal S128x128 .f32) (a b : Vec Ideal S1x128 .f32) (p l : ℕ) (hp : p < 32) (hl : l < 128) :
    g2 (k0_pay158 z a b) p l = clip (g2 z (0 + p) l * g2 a 0 l) * g2 b 0 l := by
  refine (g2_eq (k0_pay158 z a b) ⟨p, hp⟩ ⟨l, hl⟩).symm.trans ?_
  pointwise [k0_pay158]
  try simp only [g3_eq, g2_eq]
  try simp only [Nat.zero_add]
  try rfl

theorem pay162 (z : FVec Ideal S128x128 .f32) (a b : Vec Ideal S1x128 .f32) (p l : ℕ) (hp : p < 32) (hl : l < 128) :
    g2 (k0_pay162 z a b) p l = clip (g2 z (64 + p) l * g2 a 0 l) * g2 b 0 l := by
  refine (g2_eq (k0_pay162 z a b) ⟨p, hp⟩ ⟨l, hl⟩).symm.trans ?_
  pointwise [k0_pay162]
  try simp only [g3_eq, g2_eq]
  try simp only [Nat.zero_add]
  try rfl

theorem pay147 (z : FVec Ideal S32x128 .bf16) (p l : ℕ) (hp : p < 32) (hl : l < 128) :
    g2 (k0_pay147 z) p l = g2 z p l := by
  refine (g2_eq (k0_pay147 z) ⟨p, hp⟩ ⟨l, hl⟩).symm.trans ?_
  pointwise [k0_pay147]
  try simp only [g3_eq, g2_eq]
  try rfl

theorem pay150 (z : FVec Ideal S32x128 .bf16) (p l : ℕ) (hp : p < 32) (hl : l < 128) :
    g2 (k0_pay150 z) p l = g2 z p l := by
  refine (g2_eq (k0_pay150 z) ⟨p, hp⟩ ⟨l, hl⟩).symm.trans ?_
  pointwise [k0_pay150]
  try simp only [g3_eq, g2_eq]
  try rfl

theorem pay157 (z : FVec Ideal S128x128 .f32) (a b : Vec Ideal S1x128 .f32) (p l : ℕ) (hp : p < 32) (hl : l < 128) :
    g2 (k0_pay157 (k0_pay155 a) (k0_pay156 z) b) p l = clip (g2 z (96 + p) l * g2 a 0 l) * g2 b 0 l := by
  refine (g2_eq (k0_pay157 (k0_pay155 a) (k0_pay156 z) b) ⟨p, hp⟩ ⟨l, hl⟩).symm.trans ?_
  pointwise [k0_pay157, k0_pay155, k0_pay156]
  simp only [g3_eq, g2_eq]
  try rfl

theorem pay161 (z : FVec Ideal S128x128 .f32) (a b : Vec Ideal S1x128 .f32) (p l : ℕ) (hp : p < 32) (hl : l < 128) :
    g2 (k0_pay161 (k0_pay159 z a) (Scalar.ofBits .f32 0x43E00000#32) k0_pay160 b) p l = clip (g2 z (32 + p) l * g2 a 0 l) * g2 b 0 l := by
  refine (g2_eq (k0_pay161 (k0_pay159 z a) (Scalar.ofBits .f32 0x43E00000#32) k0_pay160 b) ⟨p, hp⟩ ⟨l, hl⟩).symm.trans ?_
  pointwise [k0_pay161, k0_pay159, k0_pay160]
  simp only [g3_eq, g2_eq]
  try rfl

theorem pay97 (z : FVec Ideal S32x128 .fp8e4m3) (p l : ℕ) (hp : p < 32) (hl : l < 128) :
    g3 (k0_pay97 z) 0 p l = g2 z p l := by
  refine (g3_eq (k0_pay97 z) 0 ⟨p, hp⟩ ⟨l, hl⟩).symm.trans ?_
  pointwise [k0_pay97]
  try simp only [g3_eq, g2_eq]
  try rfl

theorem pay99 (z : FVec Ideal S32x128 .fp8e4m3) (p l : ℕ) (hp : p < 32) (hl : l < 128) :
    g3 (k0_pay99 z) 0 p l = g2 z p l := by
  refine (g3_eq (k0_pay99 z) 0 ⟨p, hp⟩ ⟨l, hl⟩).symm.trans ?_
  pointwise [k0_pay99]
  try simp only [g3_eq, g2_eq]
  try rfl

theorem pay101 (z : FVec Ideal S32x128 .fp8e4m3) (p l : ℕ) (hp : p < 32) (hl : l < 128) :
    g3 (k0_pay101 z) 0 p l = g2 z p l := by
  refine (g3_eq (k0_pay101 z) 0 ⟨p, hp⟩ ⟨l, hl⟩).symm.trans ?_
  pointwise [k0_pay101]
  try simp only [g3_eq, g2_eq]
  try rfl

theorem pay103 (z : FVec Ideal S32x128 .fp8e4m3) (p l : ℕ) (hp : p < 32) (hl : l < 128) :
    g3 (k0_pay103 z) 0 p l = g2 z p l := by
  refine (g3_eq (k0_pay103 z) 0 ⟨p, hp⟩ ⟨l, hl⟩).symm.trans ?_
  pointwise [k0_pay103]
  try simp only [g3_eq, g2_eq]
  try rfl

theorem pay105 (z : FVec Ideal S32x128 .fp8e4m3) (p l : ℕ) (hp : p < 32) (hl : l < 128) :
    g3 (k0_pay105 z) 0 p l = g2 z p l := by
  refine (g3_eq (k0_pay105 z) 0 ⟨p, hp⟩ ⟨l, hl⟩).symm.trans ?_
  pointwise [k0_pay105]
  try simp only [g3_eq, g2_eq]
  try rfl

theorem pay107 (z : FVec Ideal S32x128 .fp8e4m3) (p l : ℕ) (hp : p < 32) (hl : l < 128) :
    g3 (k0_pay107 z) 0 p l = g2 z p l := by
  refine (g3_eq (k0_pay107 z) 0 ⟨p, hp⟩ ⟨l, hl⟩).symm.trans ?_
  pointwise [k0_pay107]
  try simp only [g3_eq, g2_eq]
  try rfl

theorem pay109 (z : FVec Ideal S32x128 .fp8e4m3) (p l : ℕ) (hp : p < 32) (hl : l < 128) :
    g3 (k0_pay109 z) 0 p l = g2 z p l := by
  refine (g3_eq (k0_pay109 z) 0 ⟨p, hp⟩ ⟨l, hl⟩).symm.trans ?_
  pointwise [k0_pay109]
  try simp only [g3_eq, g2_eq]
  try rfl

theorem pay111 (z : FVec Ideal S32x128 .fp8e4m3) (p l : ℕ) (hp : p < 32) (hl : l < 128) :
    g3 (k0_pay111 z) 0 p l = g2 z p l := by
  refine (g3_eq (k0_pay111 z) 0 ⟨p, hp⟩ ⟨l, hl⟩).symm.trans ?_
  pointwise [k0_pay111]
  try simp only [g3_eq, g2_eq]
  try rfl

theorem pay113 (z : FVec Ideal S32x128 .fp8e4m3) (p l : ℕ) (hp : p < 32) (hl : l < 128) :
    g3 (k0_pay113 z) 0 p l = g2 z p l := by
  refine (g3_eq (k0_pay113 z) 0 ⟨p, hp⟩ ⟨l, hl⟩).symm.trans ?_
  pointwise [k0_pay113]
  try simp only [g3_eq, g2_eq]
  try rfl

theorem pay115 (z : FVec Ideal S32x128 .fp8e4m3) (p l : ℕ) (hp : p < 32) (hl : l < 128) :
    g3 (k0_pay115 z) 0 p l = g2 z p l := by
  refine (g3_eq (k0_pay115 z) 0 ⟨p, hp⟩ ⟨l, hl⟩).symm.trans ?_
  pointwise [k0_pay115]
  try simp only [g3_eq, g2_eq]
  try rfl

theorem pay207 (z : FVec Ideal S32x128 .fp8e4m3) (p l : ℕ) (hp : p < 32) (hl : l < 128) :
    g3 (k0_pay207 z) 0 p l = g2 z p l := by
  refine (g3_eq (k0_pay207 z) 0 ⟨p, hp⟩ ⟨l, hl⟩).symm.trans ?_
  pointwise [k0_pay207]
  try simp only [g3_eq, g2_eq]
  try rfl

theorem pay209 (z : FVec Ideal S32x128 .fp8e4m3) (p l : ℕ) (hp : p < 32) (hl : l < 128) :
    g3 (k0_pay209 z) 0 p l = g2 z p l := by
  refine (g3_eq (k0_pay209 z) 0 ⟨p, hp⟩ ⟨l, hl⟩).symm.trans ?_
  pointwise [k0_pay209]
  try simp only [g3_eq, g2_eq]
  try rfl

theorem pay98 (z : Vec Ideal S1x128 .f32) (p l : ℕ) (hp : p < 1) (hl : l < 128) :
    g3 (k0_pay98 z) 0 p l = g2 z 0 l := by
  refine (g3_eq (k0_pay98 z) 0 ⟨p, hp⟩ ⟨l, hl⟩).symm.trans ?_
  pointwise [k0_pay98]
  try simp only [g3_eq, g2_eq]
  try rfl

theorem pay100 (z : Vec Ideal S1x128 .f32) (p l : ℕ) (hp : p < 1) (hl : l < 128) :
    g3 (k0_pay100 z) 0 p l = g2 z 0 l := by
  refine (g3_eq (k0_pay100 z) 0 ⟨p, hp⟩ ⟨l, hl⟩).symm.trans ?_
  pointwise [k0_pay100]
  try simp only [g3_eq, g2_eq]
  try rfl

theorem pay102 (z : Vec Ideal S1x128 .f32) (p l : ℕ) (hp : p < 1) (hl : l < 128) :
    g3 (k0_pay102 z) 0 p l = g2 z 0 l := by
  refine (g3_eq (k0_pay102 z) 0 ⟨p, hp⟩ ⟨l, hl⟩).symm.trans ?_
  pointwise [k0_pay102]
  try simp only [g3_eq, g2_eq]
  try rfl

theorem pay104 (z : Vec Ideal S1x128 .f32) (p l : ℕ) (hp : p < 1) (hl : l < 128) :
    g3 (k0_pay104 z) 0 p l = g2 z 0 l := by
  refine (g3_eq (k0_pay104 z) 0 ⟨p, hp⟩ ⟨l, hl⟩).symm.trans ?_
  pointwise [k0_pay104]
  try simp only [g3_eq, g2_eq]
  try rfl

theorem pay106 (z : Vec Ideal S1x128 .f32) (p l : ℕ) (hp : p < 1) (hl : l < 128) :
    g3 (k0_pay106 z) 0 p l = g2 z 0 l := by
  refine (g3_eq (k0_pay106 z) 0 ⟨p, hp⟩ ⟨l, hl⟩).symm.trans ?_
  pointwise [k0_pay106]
  try simp only [g3_eq, g2_eq]
  try rfl

theorem pay108 (z : Vec Ideal S1x128 .f32) (p l : ℕ) (hp : p < 1) (hl : l < 128) :
    g3 (k0_pay108 z) 0 p l = g2 z 0 l := by
  refine (g3_eq (k0_pay108 z) 0 ⟨p, hp⟩ ⟨l, hl⟩).symm.trans ?_
  pointwise [k0_pay108]
  try simp only [g3_eq, g2_eq]
  try rfl

theorem pay110 (z : Vec Ideal S1x128 .f32) (p l : ℕ) (hp : p < 1) (hl : l < 128) :
    g3 (k0_pay110 z) 0 p l = g2 z 0 l := by
  refine (g3_eq (k0_pay110 z) 0 ⟨p, hp⟩ ⟨l, hl⟩).symm.trans ?_
  pointwise [k0_pay110]
  try simp only [g3_eq, g2_eq]
  try rfl

theorem pay112 (z : Vec Ideal S1x128 .f32) (p l : ℕ) (hp : p < 1) (hl : l < 128) :
    g3 (k0_pay112 z) 0 p l = g2 z 0 l := by
  refine (g3_eq (k0_pay112 z) 0 ⟨p, hp⟩ ⟨l, hl⟩).symm.trans ?_
  pointwise [k0_pay112]
  try simp only [g3_eq, g2_eq]
  try rfl

theorem pay114 (z : Vec Ideal S1x128 .f32) (p l : ℕ) (hp : p < 1) (hl : l < 128) :
    g3 (k0_pay114 z) 0 p l = g2 z 0 l := by
  refine (g3_eq (k0_pay114 z) 0 ⟨p, hp⟩ ⟨l, hl⟩).symm.trans ?_
  pointwise [k0_pay114]
  try simp only [g3_eq, g2_eq]
  try rfl

theorem pay116 (z : Vec Ideal S1x128 .f32) (p l : ℕ) (hp : p < 1) (hl : l < 128) :
    g3 (k0_pay116 z) 0 p l = g2 z 0 l := by
  refine (g3_eq (k0_pay116 z) 0 ⟨p, hp⟩ ⟨l, hl⟩).symm.trans ?_
  pointwise [k0_pay116]
  try simp only [g3_eq, g2_eq]
  try rfl

theorem pay208 (z : Vec Ideal S1x128 .f32) (p l : ℕ) (hp : p < 1) (hl : l < 128) :
    g3 (k0_pay208 z) 0 p l = g2 z 0 l := by
  refine (g3_eq (k0_pay208 z) 0 ⟨p, hp⟩ ⟨l, hl⟩).symm.trans ?_
  pointwise [k0_pay208]
  try simp only [g3_eq, g2_eq]
  try rfl

theorem pay210 (z : Vec Ideal S1x128 .f32) (p l : ℕ) (hp : p < 1) (hl : l < 128) :
    g3 (k0_pay210 z) 0 p l = g2 z 0 l := by
  refine (g3_eq (k0_pay210 z) 0 ⟨p, hp⟩ ⟨l, hl⟩).symm.trans ?_
  pointwise [k0_pay210]
  try simp only [g3_eq, g2_eq]
  try rfl

end Cert.KernelIdeal.Val
-- ==== Proof.Value.Rows.lean ====
/-
  Buffers of three groups of 128 lanes and 1280 rows: what rows hold after a box of rows is stored in each group.
-/
module

public import proofs.«01_k».proof.Proof.Value.Base
public import proofs.«01_k».proof.Proof.KernelIdealRun

@[expose] public section

noncomputable section

namespace Cert.KernelIdeal.Val

open Idealize.ShloMosaic Cert.Sem Cert.Val Cert.KernelIdeal.Gen

/-- In every group and lane, the rows that satisfy `P` hold `G`. -/
def Rows (x : S3x1280x128.Idx → EReal) (P : ℕ → Prop) (G : ℕ → ℕ → ℕ → EReal) : Prop :=
  ∀ g p l, g < 3 → p < 1280 → l < 128 → P p → g3 x g p l = G g p l

theorem Rows.mono {x : S3x1280x128.Idx → EReal} {P Q : ℕ → Prop} {G : ℕ → ℕ → ℕ → EReal} (h : Rows x P G)
    (hq : ∀ p, p < 1280 → Q p → P p) : Rows x Q G := fun g p l hg hp hl q => h g p l hg hp hl (hq p hp q)

/-- Store `m` rows from row `c` in each group. -/
theorem Rows.put {x : S3x1280x128.Idx → EReal} {P : ℕ → Prop} {G : ℕ → ℕ → ℕ → EReal} (h : Rows x P G) {m : ℕ} [NeZero m] (c : ℕ)
    (w0 w1 w2 : (⟨3, ![1, m, 128]⟩ : Shape).Idx → EReal) (hc : c + m ≤ 1280)
    (h0 : ∀ p l, p < m → l < 128 → g3 w0 0 p l = G 0 (c + p) l)
    (h1 : ∀ p l, p < m → l < 128 → g3 w1 0 p l = G 1 (c + p) l)
    (h2 : ∀ p l, p < m → l < 128 → g3 w2 0 p l = G 2 (c + p) l) :
    Rows (VecWindow.put (s := S3x1280x128) (VecWindow.put (s := S3x1280x128) (VecWindow.put (s := S3x1280x128) x ![0, c, 0] ![1, m, 128] w0)
      ![1, c, 0] ![1, m, 128] w1) ![2, c, 0] ![1, m, 128] w2) (fun p => P p ∨ c ≤ p ∧ p < c + m) G := by
  intro g p l hg hp hl hP
  by_cases hb : c ≤ p ∧ p < c + m
  · obtain rfl | rfl | rfl : g = 0 ∨ g = 1 ∨ g = 2 := by omega
    · rw [g3_miss _ _ _ _ _ _ _ _ (by omega) (by omega) (by omega) (by omega),
        g3_miss _ _ _ _ _ _ _ _ (by omega) (by omega) (by omega) (by omega),
        g3_hit _ _ _ _ _ _ _ _ (by omega) (by omega) (by omega) (by omega) (by omega) (by omega), h0 _ _ (by omega) (by omega)]
      congr 1; omega
    · rw [g3_miss _ _ _ _ _ _ _ _ (by omega) (by omega) (by omega) (by omega),
        g3_hit _ _ _ _ _ _ _ _ (by omega) (by omega) (by omega) (by omega) (by omega) (by omega), h1 _ _ (by omega) (by omega)]
      congr 1; omega
    · rw [g3_hit _ _ _ _ _ _ _ _ (by omega) (by omega) (by omega) (by omega) (by omega) (by omega), h2 _ _ (by omega) (by omega)]
      congr 1; omega
  · rw [g3_miss _ _ _ _ _ _ _ _ (by omega) (by omega) (by omega) (by omega),
      g3_miss _ _ _ _ _ _ _ _ (by omega) (by omega) (by omega) (by omega),
      g3_miss _ _ _ _ _ _ _ _ (by omega) (by omega) (by omega) (by omega)]
    exact h g p l hg hp hl (by tauto)

end Cert.KernelIdeal.Val
-- ==== Proof.Value.Tile.lean ====
/-
  One tile of the downsampling and quantising loop, up to the scales of its groups.
-/
module

public import proofs.«01_k».proof.Proof.Value.PayQ
public import proofs.«01_k».proof.Proof.Value.Rows

@[expose] public section

set_option maxRecDepth 16384
set_option maxHeartbeats 400000

noncomputable section

namespace Cert.KernelIdeal.Val

open Idealize.ShloMosaic Cert.Sem Cert.Val Cert.KernelIdeal.Gen Cert.KernelIdeal.Run

variable (E O : ℕ → ℕ → EReal)

/-- The downsampling filter at row `r`, first two pairs; `p` is three positions before the output's. -/
def za (r p : ℕ) : EReal := Ideal.ofBits .f32 0x3C19D644#32 * (E r (p + 1) + O r (p + 5)) + Ideal.ofBits .f32 0xBD6C2A24#32 * (E r (p + 2) + O r (p + 4))
/-- The first four pairs. -/
def zb (r p : ℕ) : EReal := za E O r p + Ideal.ofBits .f32 0x3EE2EC65#32 * (E r (p + 3) + O r (p + 3)) + Ideal.ofBits .f32 0x3E03A88A#32 * (E r (p + 4) + O r (p + 2))
/-- All six pairs. -/
def zz (r p : ℕ) : EReal := zb E O r p + Ideal.ofBits .f32 0xBCD14087#32 * (E r (p + 5) + O r (p + 1)) + Ideal.ofBits .f32 0x3B04F869#32 * (E r (p + 6) + O r p)

/-- The largest magnitude among rows `j`, `j + 8`, `j + 16` and `j + 24` of group `gi`. -/
def pm (Z : ℕ → ℕ → EReal) (gi j n : ℕ) : EReal := mx4 fun x => FloatOps.absf (F := Ideal) (φ := .f32) (Z (32 * gi + (x.val * 8 + j)) n)

/-- The largest magnitude of group `gi`. -/
def amx (Z : ℕ → ℕ → EReal) (gi n : ℕ) : EReal :=
  max (max (max (max (max (max (max (pm Z gi 0 n) (pm Z gi 1 n)) (pm Z gi 2 n)) (pm Z gi 3 n)) (pm Z gi 4 n)) (pm Z gi 5 n)) (pm Z gi 6 n)) (pm Z gi 7 n)

/-- The scale of group `gi`, its inverse, the code of row `r` and the value it stands for. -/
def scl (Z : ℕ → ℕ → EReal) (gi n : ℕ) : EReal := FloatOps.exp2 (F := Ideal) (φ := .f32) (expo (amx Z gi n))
def isc (Z : ℕ → ℕ → EReal) (gi n : ℕ) : EReal := FloatOps.exp2 (F := Ideal) (φ := .f32) (0 - expo (amx Z gi n))
def cod (Z : ℕ → ℕ → EReal) (r n : ℕ) : EReal := clip (Z r n * isc Z (r / 32) n)
def act (Z : ℕ → ℕ → EReal) (r n : ℕ) : EReal := cod Z r n * scl Z (r / 32) n

theorem ld_rows {x : S3x1280x128.Idx → EReal} {P : ℕ → Prop} {G : ℕ → ℕ → EReal} (h : Rows x P fun g p l => G (128 * g + l) p) (off : Fin 3 → ℕ) (inb) (g b j n l : ℕ)
    (ho : off = ![g, b + j, 0]) (hg : g < 3) (hn : n < 128) (hl : l < 128) (hb : b + j + 128 ≤ 1280) (hP : P (b + n + j)) :
    g3 (n0 := 1) (n1 := 128) (n2 := 128) (rd x (Rect.unit (s := S3x1280x128) off S1x128x128.size inb).toLoadRect) 0 n l = G (128 * g + l) (b + n + j) := by
  rw [g3_rd' _ _ _ _ _ ho _ _ _ _ (by omega) (by omega) (by omega) (by omega) (by omega) (by omega),
    show b + j + n = b + n + j by omega, Nat.add_zero, Nat.zero_add]
  exact h g _ l hg (by omega) hl hP

/-- The partial maxima of the first `j` groups are in place, at the first `m` times. -/
def P17 (m : ℕ) (Z : ℕ → ℕ → EReal) (x : S96x128.Idx → EReal) (j : ℕ) : Prop :=
  ∀ p n, p < 8 * j → n < m → g2 (n0 := 96) (n1 := 128) x p n = pm Z (p / 8) (p % 8) n

theorem P17.put {m : ℕ} {Z : ℕ → ℕ → EReal} {x : S96x128.Idx → EReal} {j : ℕ} (hm : m ≤ 128) (h : P17 m Z x j) (hj : j < 12) (w : S8x128.Idx → EReal)
    (hw : ∀ p n, p < 8 → n < m → g2 (n0 := 8) (n1 := 128) w p n = pm Z j p n) :
    P17 m Z (VecWindow.put (s := S96x128) x ![8 * j, 0] S8x128.size w) (j + 1) := by
  intro p n hp hn
  by_cases h1 : 8 * j ≤ p
  · refine (g2_hit _ _ _ _ _ _ (by omega) (by omega) (by omega) (by omega)).trans ?_
    refine (hw _ _ (by omega) (by omega)).trans ?_
    congr 1 <;> omega
  · refine (g2_miss _ _ _ _ _ _ (by omega) (by omega) (by omega)).trans ?_
    exact h p n (by omega) hn

/-- What a tile's parts share: the phase buffers and the tile's place. -/
structure Tile (m b : ℕ) (s : St Ideal) : Prop where
  hm : m ≤ 128
  hb : b + m + 6 ≤ 1050
  h14 : Rows s.s14 (fun q => q < 1050) fun g q l => E (128 * g + l) q
  h15 : Rows s.s15 (fun q => q < 1050) fun g q l => O (128 * g + l) q

theorem Tile.ld14 {E O : ℕ → ℕ → EReal} {m b : ℕ} {s : St Ideal} (t : Tile E O m b s) (off : Fin 3 → ℕ) (inb) (g j n l : ℕ) (ho : off = ![g, b + j, 0]) (hj : j ≤ 6) (hg : g < 3) (hn : n < m) (hl : l < 128) :
    g3 (n0 := 1) (n1 := 128) (n2 := 128) (rd s.s14 (Rect.unit (s := S3x1280x128) off S1x128x128.size inb).toLoadRect) 0 n l = E (128 * g + l) (b + n + j) := by
  have := t.hm; have := t.hb
  exact ld_rows t.h14 off inb g b j n l ho hg (by omega) hl (by omega) (by omega)

theorem Tile.ld15 {E O : ℕ → ℕ → EReal} {m b : ℕ} {s : St Ideal} (t : Tile E O m b s) (off : Fin 3 → ℕ) (inb) (g j n l : ℕ) (ho : off = ![g, b + j, 0]) (hj : j ≤ 6) (hg : g < 3) (hn : n < m) (hl : l < 128) :
    g3 (n0 := 1) (n1 := 128) (n2 := 128) (rd s.s15 (Rect.unit (s := S3x1280x128) off S1x128x128.size inb).toLoadRect) 0 n l = O (128 * g + l) (b + n + j) := by
  have := t.hm; have := t.hb
  exact ld_rows t.h15 off inb g b j n l ho hg (by omega) hl (by omega) (by omega)

/-- The transposed filter output of lane group `g`. -/
def ZV (m b g : ℕ) (v : S128x128.Idx → EReal) : Prop := ∀ c n, c < 128 → n < m → g2 (n0 := 128) (n1 := 128) v c n = zz E O (128 * g + c) (b + n)

/-- The filter output, by row and time of the tile. -/
def Zt (b : ℕ) : ℕ → ℕ → EReal := fun r n => zz E O r (b + n)

theorem zv_pm {E O : ℕ → ℕ → EReal} {m b g : ℕ} {v : S128x128.Idx → EReal} (h : ZV E O m b g v) (i p n : ℕ) (hi : i < 4) (hp : p < 8) (hn : n < m) :
    (mx4 fun x => FloatOps.absf (F := Ideal) (φ := .f32) (g2 (n0 := 128) (n1 := 128) v (32 * i + (x.val * 8 + p)) n)) = pm (Zt E O b) (4 * g + i) p n := by
  unfold pm Zt
  congr 1; funext x
  have hx := x.isLt
  rw [h _ _ (by omega) hn]
  congr 2
  omega

theorem za_of {r p : ℕ} {a b c d : EReal} (ha : a = E r (p + 1)) (hb : b = O r (p + 5)) (hc : c = E r (p + 2)) (hd : d = O r (p + 4)) :
    Ideal.ofBits .f32 0x3C19D644#32 * (a + b) + Ideal.ofBits .f32 0xBD6C2A24#32 * (c + d) = za E O r p := by rw [ha, hb, hc, hd]; rfl

theorem zb_of {r p : ℕ} {z a b c d : EReal} (hz : z = za E O r p) (ha : a = E r (p + 3)) (hb : b = O r (p + 3)) (hc : c = E r (p + 4)) (hd : d = O r (p + 2)) :
    z + Ideal.ofBits .f32 0x3EE2EC65#32 * (a + b) + Ideal.ofBits .f32 0x3E03A88A#32 * (c + d) = zb E O r p := by rw [hz, ha, hb, hc, hd]; rfl

theorem f9_of {r p : ℕ} {a b : EReal} (ha : a = E r (p + 5)) (hb : b = O r (p + 1)) :
    Ideal.ofBits .f32 0xBCD14087#32 * (a + b) = Ideal.ofBits .f32 0xBCD14087#32 * (E r (p + 5) + O r (p + 1)) := by rw [ha, hb]

theorem zz_of {r p : ℕ} {z w a b : EReal} (hz : z = zb E O r p) (hw : w = Ideal.ofBits .f32 0xBCD14087#32 * (E r (p + 5) + O r (p + 1))) (ha : a = E r (p + 6)) (hb : b = O r p) :
    z + w + Ideal.ofBits .f32 0x3B04F869#32 * (a + b) = zz E O r p := by rw [hz, hw, ha, hb]; rfl

theorem zz_of' {r p : ℕ} {z a b : EReal} (hz : z = zb E O r p + Ideal.ofBits .f32 0xBCD14087#32 * (E r (p + 5) + O r (p + 1))) (ha : a = E r (p + 6)) (hb : b = O r p) :
    z + Ideal.ofBits .f32 0x3B04F869#32 * (a + b) = zz E O r p := by rw [hz, ha, hb]; rfl

theorem off11_m3 : ∀ k : Fin k0_t3_loop.trips, k0_off11 k 4294967293#32 = ![0, 128 * k.val + 10 + 0, 0] := by decide +kernel
theorem off11_m2 : ∀ k : Fin k0_t3_loop.trips, k0_off11 k 4294967294#32 = ![0, 128 * k.val + 10 + 1, 0] := by decide +kernel
theorem off11_m1 : ∀ k : Fin k0_t3_loop.trips, k0_off11 k 4294967295#32 = ![0, 128 * k.val + 10 + 2, 0] := by decide +kernel
theorem off11_z0 : ∀ k : Fin k0_t3_loop.trips, k0_off11 k 0#32 = ![0, 128 * k.val + 10 + 3, 0] := by decide +kernel
theorem off11_p1 : ∀ k : Fin k0_t3_loop.trips, k0_off11 k 1#32 = ![0, 128 * k.val + 10 + 4, 0] := by decide +kernel
theorem off11_p2 : ∀ k : Fin k0_t3_loop.trips, k0_off11 k 2#32 = ![0, 128 * k.val + 10 + 5, 0] := by decide +kernel
theorem off11_p3 : ∀ k : Fin k0_t3_loop.trips, k0_off11 k 3#32 = ![0, 128 * k.val + 10 + 6, 0] := by decide +kernel
theorem off12_m3 : ∀ k : Fin k0_t3_loop.trips, k0_off12 k 4294967293#32 = ![1, 128 * k.val + 10 + 0, 0] := by decide +kernel
theorem off12_m2 : ∀ k : Fin k0_t3_loop.trips, k0_off12 k 4294967294#32 = ![1, 128 * k.val + 10 + 1, 0] := by decide +kernel
theorem off12_m1 : ∀ k : Fin k0_t3_loop.trips, k0_off12 k 4294967295#32 = ![1, 128 * k.val + 10 + 2, 0] := by decide +kernel
theorem off12_z0 : ∀ k : Fin k0_t3_loop.trips, k0_off12 k 0#32 = ![1, 128 * k.val + 10 + 3, 0] := by decide +kernel
theorem off12_p1 : ∀ k : Fin k0_t3_loop.trips, k0_off12 k 1#32 = ![1, 128 * k.val + 10 + 4, 0] := by decide +kernel
theorem off12_p2 : ∀ k : Fin k0_t3_loop.trips, k0_off12 k 2#32 = ![1, 128 * k.val + 10 + 5, 0] := by decide +kernel
theorem off12_p3 : ∀ k : Fin k0_t3_loop.trips, k0_off12 k 3#32 = ![1, 128 * k.val + 10 + 6, 0] := by decide +kernel
theorem off13_m3 : ∀ k : Fin k0_t3_loop.trips, k0_off13 k 4294967293#32 = ![2, 128 * k.val + 10 + 0, 0] := by decide +kernel
theorem off13_m2 : ∀ k : Fin k0_t3_loop.trips, k0_off13 k 4294967294#32 = ![2, 128 * k.val + 10 + 1, 0] := by decide +kernel
theorem off13_m1 : ∀ k : Fin k0_t3_loop.trips, k0_off13 k 4294967295#32 = ![2, 128 * k.val + 10 + 2, 0] := by decide +kernel
theorem off13_z0 : ∀ k : Fin k0_t3_loop.trips, k0_off13 k 0#32 = ![2, 128 * k.val + 10 + 3, 0] := by decide +kernel
theorem off13_p1 : ∀ k : Fin k0_t3_loop.trips, k0_off13 k 1#32 = ![2, 128 * k.val + 10 + 4, 0] := by decide +kernel
theorem off13_p2 : ∀ k : Fin k0_t3_loop.trips, k0_off13 k 2#32 = ![2, 128 * k.val + 10 + 5, 0] := by decide +kernel
theorem off13_p3 : ∀ k : Fin k0_t3_loop.trips, k0_off13 k 3#32 = ![2, 128 * k.val + 10 + 6, 0] := by decide +kernel
theorem trips3 : k0_t3_loop.trips = 8 := by decide +kernel

theorem fin8 {m b : ℕ} (hm : m ≤ 128) (v123 v134 v135 : FVec Ideal S128x128 .f32) (e u : Vec Ideal S1x128x128 .f32) {x : S96x128.Idx → EReal} (h : P17 m (Zt E O b) x 0) (h123 : (∀ p l, p < m → l < 128 → g2 v123 p l = zb E O (128 * 0 + l) (b + p))) (h134 : (∀ p l, p < m → l < 128 → g2 v135 p l * g2 v134 p l = Ideal.ofBits .f32 0xBCD14087#32 * (E (128 * 0 + l) (b + p + 5) + O (128 * 0 + l) (b + p + 1))))
    (he : (∀ p l, p < m → l < 128 → g3 e 0 p l = E (128 * 0 + l) (b + p + 6))) (hu : (∀ p l, p < m → l < 128 → g3 u 0 p l = O (128 * 0 + l) (b + p + 0))) :
    ZV E O m b 0 (k0_pay37 v123 v134 v135 e u) ∧ P17 m (Zt E O b) (VecWindow.put (s := S96x128) (VecWindow.put (s := S96x128) (VecWindow.put (s := S96x128) x ![0, 0] S8x128.size (k0_pay39 v123 v134 v135 e u)) ![8, 0] S8x128.size (k0_pay40 v123 v134 v135 e u)) ![16, 0] S8x128.size (k0_pay41 v123 v134 v135 e u)) 3 ∧ (∀ p n, p < 8 → n < m → g2 (k0_pay43 (k0_pay42 v123 v134 v135 e u)) p n = pm (Zt E O b) 3 p n) := by
  have hz : ZV E O m b 0 (k0_pay37 v123 v134 v135 e u) := fun p l hp hl => (pay37 _ _ _ _ _ p l (by omega) (by omega)).trans (zz_of E O (h123 l p hl hp) (h134 l p hl hp) (he l p hl hp) (hu l p hl hp))
  exact ⟨hz, (((h.put hm (by omega) _ fun p n hp hn => (pay39 _ _ _ _ _ p n hp (by omega)).trans (zv_pm hz 0 p n (by omega) hp hn)).put hm (by omega) _ fun p n hp hn => (pay40 _ _ _ _ _ p n hp (by omega)).trans (zv_pm hz 1 p n (by omega) hp hn)).put hm (by omega) _ fun p n hp hn => (pay41 _ _ _ _ _ p n hp (by omega)).trans (zv_pm hz 2 p n (by omega) hp hn)), fun p n hp hn => (pay43 _ _ _ _ _ p n hp (by omega)).trans (zv_pm hz 3 p n (by omega) hp hn)⟩

theorem fin11 {m b : ℕ} (hm : m ≤ 128) (v232 v245 : FVec Ideal S128x128 .f32) (e u : Vec Ideal S1x128x128 .f32) {x : S96x128.Idx → EReal} (h : P17 m (Zt E O b) x 4) (h232 : (∀ p l, p < m → l < 128 → g2 v232 p l = zb E O (128 * 1 + l) (b + p))) (h245 : (∀ p l, p < m → l < 128 → g2 v245 p l = Ideal.ofBits .f32 0xBCD14087#32 * (E (128 * 1 + l) (b + p + 5) + O (128 * 1 + l) (b + p + 1))))
    (he : (∀ p l, p < m → l < 128 → g3 e 0 p l = E (128 * 1 + l) (b + p + 6))) (hu : (∀ p l, p < m → l < 128 → g3 u 0 p l = O (128 * 1 + l) (b + p + 0))) :
    ZV E O m b 1 (k0_pay47 v232 v245 e u) ∧ P17 m (Zt E O b) (VecWindow.put (s := S96x128) (VecWindow.put (s := S96x128) (VecWindow.put (s := S96x128) x ![32, 0] S8x128.size (k0_pay49 v232 v245 e u)) ![40, 0] S8x128.size (k0_pay50 v232 v245 e u)) ![48, 0] S8x128.size (k0_pay51 v232 v245 e u)) 7 ∧ (∀ p n, p < 8 → n < m → g2 (k0_pay53 (k0_pay52 v232 v245 e u)) p n = pm (Zt E O b) 7 p n) := by
  have hz : ZV E O m b 1 (k0_pay47 v232 v245 e u) := fun p l hp hl => (pay47 _ _ _ _ p l (by omega) (by omega)).trans (zz_of E O (h232 l p hl hp) (h245 l p hl hp) (he l p hl hp) (hu l p hl hp))
  exact ⟨hz, (((h.put hm (by omega) _ fun p n hp hn => (pay49 _ _ _ _ p n hp (by omega)).trans (zv_pm hz 0 p n (by omega) hp hn)).put hm (by omega) _ fun p n hp hn => (pay50 _ _ _ _ p n hp (by omega)).trans (zv_pm hz 1 p n (by omega) hp hn)).put hm (by omega) _ fun p n hp hn => (pay51 _ _ _ _ p n hp (by omega)).trans (zv_pm hz 2 p n (by omega) hp hn)), fun p n hp hn => (pay53 _ p n hp (by omega)).trans ((pay52 _ _ _ _ p n hp (by omega)).trans (zv_pm hz 3 p n (by omega) hp hn))⟩

theorem fin14 {m b : ℕ} (hm : m ≤ 128) (v355 : FVec Ideal S128x128 .f32) (e u : Vec Ideal S1x128x128 .f32) {x : S96x128.Idx → EReal} (h : P17 m (Zt E O b) x 8) (h355 : (∀ p l, p < m → l < 128 → g2 v355 p l = zb E O (128 * 2 + l) (b + p) + Ideal.ofBits .f32 0xBCD14087#32 * (E (128 * 2 + l) (b + p + 5) + O (128 * 2 + l) (b + p + 1))))
    (he : (∀ p l, p < m → l < 128 → g3 e 0 p l = E (128 * 2 + l) (b + p + 6))) (hu : (∀ p l, p < m → l < 128 → g3 u 0 p l = O (128 * 2 + l) (b + p + 0))) :
    ZV E O m b 2 (k0_pay57 v355 e u) ∧ P17 m (Zt E O b) (VecWindow.put (s := S96x128) (VecWindow.put (s := S96x128) (VecWindow.put (s := S96x128) x ![64, 0] S8x128.size (k0_pay59 v355 e u)) ![72, 0] S8x128.size (k0_pay60 v355 e u)) ![80, 0] S8x128.size (k0_pay61 v355 e u)) 11 ∧ (∀ p n, p < 8 → n < m → g2 (k0_pay63 (k0_pay62 v355 e u)) p n = pm (Zt E O b) 11 p n) := by
  have hz : ZV E O m b 2 (k0_pay57 v355 e u) := fun p l hp hl => (pay57 _ _ _ p l (by omega) (by omega)).trans (zz_of' E O (h355 l p hl hp) (he l p hl hp) (hu l p hl hp))
  exact ⟨hz, (((h.put hm (by omega) _ fun p n hp hn => (pay59 _ _ _ p n hp (by omega)).trans (zv_pm hz 0 p n (by omega) hp hn)).put hm (by omega) _ fun p n hp hn => (pay60 _ _ _ p n hp (by omega)).trans (zv_pm hz 1 p n (by omega) hp hn)).put hm (by omega) _ fun p n hp hn => (pay61 _ _ _ p n hp (by omega)).trans (zv_pm hz 2 p n (by omega) hp hn)), fun p n hp hn => (pay63 _ p n hp (by omega)).trans ((pay62 _ _ _ p n hp (by omega)).trans (zv_pm hz 3 p n (by omega) hp hn))⟩

theorem part6_eq (i : grid0.Coords) (k : Fin k0_t3_loop.trips) {m : ℕ} (s : St Ideal) (t : Tile E O m (128 * k.val + 10) s) (c c1 : BitVec 32) :
    ∃ v68 v95, m_part6 i c c1 k s = (⟨v68, v95⟩, s) ∧ (∀ p l, p < m → l < 128 → g2 v95 p l = za E O (128 * 0 + l) ((128 * k.val + 10) + p)) := by
  unfold m_part6
  dsimp only [bind_apply, pure_apply, ld, st, St.set17, St.set18]
  have hm := t.hm
  exact ⟨_, _, rfl, fun p l hp hl => (pay33 _ _ _ _ p l (by omega) hl).trans (za_of E O (t.ld14 _ _ 0 1 p l (off11_m2 k) (by omega) (by omega) hp hl) (t.ld15 _ _ 0 5 p l (off11_p2 k) (by omega) (by omega) hp hl) (t.ld14 _ _ 0 2 p l (off11_m1 k) (by omega) (by omega) hp hl) (t.ld15 _ _ 0 4 p l (off11_p1 k) (by omega) (by omega) hp hl))⟩

theorem part7_eq (i : grid0.Coords) (k : Fin k0_t3_loop.trips) {m : ℕ} (s : St Ideal) (t : Tile E O m (128 * k.val + 10) s) (v68 : BitVec 32) (v95 : FVec Ideal S128x128 .f32) (h95 : (∀ p l, p < m → l < 128 → g2 v95 p l = za E O (128 * 0 + l) ((128 * k.val + 10) + p))) :
    ∃ v123 v134 v135, m_part7 i k v68 v95 s = (⟨v123, v134, v135⟩, s) ∧ (∀ p l, p < m → l < 128 → g2 v123 p l = zb E O (128 * 0 + l) ((128 * k.val + 10) + p)) ∧
      (∀ p l, p < m → l < 128 → g2 v135 p l * g2 v134 p l = Ideal.ofBits .f32 0xBCD14087#32 * (E (128 * 0 + l) ((128 * k.val + 10) + p + 5) + O (128 * 0 + l) ((128 * k.val + 10) + p + 1))) := by
  unfold m_part7
  dsimp only [bind_apply, pure_apply, ld, st, St.set17, St.set18]
  have hm := t.hm
  refine ⟨_, _, _, rfl, fun p l hp hl => ?_, fun p l hp hl => ?_⟩
  · exact (pay34 _ _ _ _ _ p l (by omega) hl).trans (zb_of E O (h95 p l hp hl) (t.ld14 _ _ 0 3 p l (off11_z0 k) (by omega) (by omega) hp hl) (t.ld15 _ _ 0 3 p l (off11_z0 k) (by omega) (by omega) hp hl) (t.ld14 _ _ 0 4 p l (off11_p1 k) (by omega) (by omega) hp hl) (t.ld15 _ _ 0 2 p l (off11_m1 k) (by omega) (by omega) hp hl))
  · rw [pay36 p l (by omega) hl]
    exact (congrArg _ (pay35 _ _ p l (by omega) hl)).trans (f9_of E O (t.ld14 _ _ 0 5 p l (off11_p2 k) (by omega) (by omega) hp hl) (t.ld15 _ _ 0 1 p l (off11_m2 k) (by omega) (by omega) hp hl))

theorem part8_eq (i : grid0.Coords) (k : Fin k0_t3_loop.trips) {m : ℕ} (s : St Ideal) (t : Tile E O m (128 * k.val + 10) s) (v68 : BitVec 32) (v123 v134 v135 : FVec Ideal S128x128 .f32) (h123 : (∀ p l, p < m → l < 128 → g2 v123 p l = zb E O (128 * 0 + l) ((128 * k.val + 10) + p)))
    (h134 : (∀ p l, p < m → l < 128 → g2 v135 p l * g2 v134 p l = Ideal.ofBits .f32 0xBCD14087#32 * (E (128 * 0 + l) ((128 * k.val + 10) + p + 5) + O (128 * 0 + l) ((128 * k.val + 10) + p + 1)))) :
    ∃ v152 v173 x, m_part8 i k v68 v123 v134 v135 s = (⟨v152, v173⟩, { s with s17 := x }) ∧ ZV E O m (128 * k.val + 10) 0 v152 ∧ P17 m (Zt E O (128 * k.val + 10)) x 3 ∧ (∀ p n, p < 8 → n < m → g2 (k0_pay43 v173) p n = pm (Zt E O (128 * k.val + 10)) 3 p n) := by
  unfold m_part8
  dsimp only [bind_apply, pure_apply, ld, st, St.set17, St.set18]
  have hm := t.hm
  refine ⟨_, _, _, rfl, ?_⟩
  exact fin8 E O hm v123 v134 v135 _ _ (fun p n hp _ => absurd hp (by omega)) h123 h134 (fun p l hp hl => (t.ld14 _ _ 0 6 p l (off11_p3 k) (by omega) (by omega) hp hl)) (fun p l hp hl => (t.ld15 _ _ 0 0 p l (off11_m3 k) (by omega) (by omega) hp hl))

theorem part9_eq (i : grid0.Coords) (k : Fin k0_t3_loop.trips) {m : ℕ} (s : St Ideal) (t : Tile E O m (128 * k.val + 10) s) (v68 : BitVec 32) (v173 : FVec Ideal S4x8x128 .f32) (h : P17 m (Zt E O (128 * k.val + 10)) s.s17 3) (h173 : (∀ p n, p < 8 → n < m → g2 (k0_pay43 v173) p n = pm (Zt E O (128 * k.val + 10)) 3 p n)) :
    ∃ v204 v208 x, m_part9 i k v68 v173 s = (⟨v204, v208⟩, { s with s17 := x }) ∧ P17 m (Zt E O (128 * k.val + 10)) x 4 ∧ (∀ p l, p < m → l < 128 → g2 v204 p l = za E O (128 * 1 + l) ((128 * k.val + 10) + p)) ∧ (∀ p l, p < m → l < 128 → g3 v208 0 p l = E (128 * 1 + l) ((128 * k.val + 10) + p + 3)) := by
  unfold m_part9
  dsimp only [bind_apply, pure_apply, ld, st, St.set17, St.set18]
  have hm := t.hm
  refine ⟨_, _, _, rfl, h.put hm (by omega) _ h173, fun p l hp hl => (pay44 _ _ _ _ p l (by omega) hl).trans (za_of E O (t.ld14 _ _ 1 1 p l (off12_m2 k) (by omega) (by omega) hp hl) (t.ld15 _ _ 1 5 p l (off12_p2 k) (by omega) (by omega) hp hl) (t.ld14 _ _ 1 2 p l (off12_m1 k) (by omega) (by omega) hp hl) (t.ld15 _ _ 1 4 p l (off12_p1 k) (by omega) (by omega) hp hl)), fun p l hp hl => (t.ld14 _ _ 1 3 p l (off12_z0 k) (by omega) (by omega) hp hl)⟩

theorem part10_eq (i : grid0.Coords) (k : Fin k0_t3_loop.trips) {m : ℕ} (s : St Ideal) (t : Tile E O m (128 * k.val + 10) s) (v68 : BitVec 32) (v204 : FVec Ideal S128x128 .f32) (v208 : Vec Ideal S1x128x128 .f32) (h204 : (∀ p l, p < m → l < 128 → g2 v204 p l = za E O (128 * 1 + l) ((128 * k.val + 10) + p))) (h208 : (∀ p l, p < m → l < 128 → g3 v208 0 p l = E (128 * 1 + l) ((128 * k.val + 10) + p + 3))) :
    ∃ v232 v245, m_part10 i k v68 v204 v208 s = (⟨v232, v245⟩, s) ∧ (∀ p l, p < m → l < 128 → g2 v232 p l = zb E O (128 * 1 + l) ((128 * k.val + 10) + p)) ∧ (∀ p l, p < m → l < 128 → g2 v245 p l = Ideal.ofBits .f32 0xBCD14087#32 * (E (128 * 1 + l) ((128 * k.val + 10) + p + 5) + O (128 * 1 + l) ((128 * k.val + 10) + p + 1))) := by
  unfold m_part10
  dsimp only [bind_apply, pure_apply, ld, st, St.set17, St.set18]
  have hm := t.hm
  refine ⟨_, _, rfl, fun p l hp hl => ?_, fun p l hp hl => ?_⟩
  · exact (pay45 _ _ _ _ _ p l (by omega) hl).trans (zb_of E O (h204 p l hp hl) (h208 p l hp hl) (t.ld15 _ _ 1 3 p l (off12_z0 k) (by omega) (by omega) hp hl) (t.ld14 _ _ 1 4 p l (off12_p1 k) (by omega) (by omega) hp hl) (t.ld15 _ _ 1 2 p l (off12_m1 k) (by omega) (by omega) hp hl))
  · exact (pay46 _ _ p l (by omega) hl).trans (f9_of E O (t.ld14 _ _ 1 5 p l (off12_p2 k) (by omega) (by omega) hp hl) (t.ld15 _ _ 1 1 p l (off12_m2 k) (by omega) (by omega) hp hl))

theorem part11_eq (i : grid0.Coords) (k : Fin k0_t3_loop.trips) {m : ℕ} (s : St Ideal) (t : Tile E O m (128 * k.val + 10) s) (v68 : BitVec 32) (v232 v245 : FVec Ideal S128x128 .f32) (h : P17 m (Zt E O (128 * k.val + 10)) s.s17 4) (h232 : (∀ p l, p < m → l < 128 → g2 v232 p l = zb E O (128 * 1 + l) ((128 * k.val + 10) + p)))
    (h245 : (∀ p l, p < m → l < 128 → g2 v245 p l = Ideal.ofBits .f32 0xBCD14087#32 * (E (128 * 1 + l) ((128 * k.val + 10) + p + 5) + O (128 * 1 + l) ((128 * k.val + 10) + p + 1)))) :
    ∃ v261 v283 x, m_part11 i k v68 v232 v245 s = (⟨v261, v283⟩, { s with s17 := x }) ∧ ZV E O m (128 * k.val + 10) 1 v261 ∧ P17 m (Zt E O (128 * k.val + 10)) x 7 ∧ (∀ p n, p < 8 → n < m → g2 (k0_pay53 v283) p n = pm (Zt E O (128 * k.val + 10)) 7 p n) := by
  unfold m_part11
  dsimp only [bind_apply, pure_apply, ld, st, St.set17, St.set18]
  have hm := t.hm
  refine ⟨_, _, _, rfl, ?_⟩
  exact fin11 E O hm v232 v245 _ _ h h232 h245 (fun p l hp hl => (t.ld14 _ _ 1 6 p l (off12_p3 k) (by omega) (by omega) hp hl)) (fun p l hp hl => (t.ld15 _ _ 1 0 p l (off12_m3 k) (by omega) (by omega) hp hl))

theorem part12_eq (i : grid0.Coords) (k : Fin k0_t3_loop.trips) {m : ℕ} (s : St Ideal) (t : Tile E O m (128 * k.val + 10) s) (v68 : BitVec 32) (v283 : FVec Ideal S8x128 .f32) (h : P17 m (Zt E O (128 * k.val + 10)) s.s17 7) (h283 : (∀ p n, p < 8 → n < m → g2 (k0_pay53 v283) p n = pm (Zt E O (128 * k.val + 10)) 7 p n)) :
    ∃ v313 v318 x, m_part12 i k v68 v283 s = (⟨v313, v318⟩, { s with s17 := x }) ∧ P17 m (Zt E O (128 * k.val + 10)) x 8 ∧ (∀ p l, p < m → l < 128 → g2 v313 p l = za E O (128 * 2 + l) ((128 * k.val + 10) + p)) ∧
      (∀ p l, p < m → l < 128 → g2 v318 p l = E (128 * 2 + l) ((128 * k.val + 10) + p + 3)) := by
  unfold m_part12
  dsimp only [bind_apply, pure_apply, ld, st, St.set17, St.set18]
  have hm := t.hm
  exact ⟨_, _, _, rfl, h.put hm (by omega) _ h283, fun p l hp hl => (pay54 _ _ _ _ p l (by omega) hl).trans (za_of E O (t.ld14 _ _ 2 1 p l (off13_m2 k) (by omega) (by omega) hp hl) (t.ld15 _ _ 2 5 p l (off13_p2 k) (by omega) (by omega) hp hl) (t.ld14 _ _ 2 2 p l (off13_m1 k) (by omega) (by omega) hp hl) (t.ld15 _ _ 2 4 p l (off13_p1 k) (by omega) (by omega) hp hl)), fun p l hp hl => (pay55 _ p l (by omega) hl).trans (t.ld14 _ _ 2 3 p l (off13_z0 k) (by omega) (by omega) hp hl)⟩

theorem part13_eq (i : grid0.Coords) (k : Fin k0_t3_loop.trips) {m : ℕ} (s : St Ideal) (t : Tile E O m (128 * k.val + 10) s) (v68 : BitVec 32) (v313 v318 : FVec Ideal S128x128 .f32) (h313 : (∀ p l, p < m → l < 128 → g2 v313 p l = za E O (128 * 2 + l) ((128 * k.val + 10) + p))) (h318 : ∀ p l, p < m → l < 128 → g2 v318 p l = E (128 * 2 + l) ((128 * k.val + 10) + p + 3)) :
    ∃ v355, m_part13 i k v68 v313 v318 s = (v355, s) ∧ (∀ p l, p < m → l < 128 → g2 v355 p l = zb E O (128 * 2 + l) ((128 * k.val + 10) + p) + Ideal.ofBits .f32 0xBCD14087#32 * (E (128 * 2 + l) ((128 * k.val + 10) + p + 5) + O (128 * 2 + l) ((128 * k.val + 10) + p + 1))) := by
  unfold m_part13
  dsimp only [bind_apply, pure_apply, ld, st, St.set17, St.set18]
  have hm := t.hm
  exact ⟨_, rfl, fun p l hp hl => (pay56 _ _ _ _ _ _ _ p l (by omega) hl).trans (congrArg₂ _ (zb_of E O (h313 p l hp hl) (h318 p l hp hl) (t.ld15 _ _ 2 3 p l (off13_z0 k) (by omega) (by omega) hp hl) (t.ld14 _ _ 2 4 p l (off13_p1 k) (by omega) (by omega) hp hl) (t.ld15 _ _ 2 2 p l (off13_m1 k) (by omega) (by omega) hp hl)) (f9_of E O (t.ld14 _ _ 2 5 p l (off13_p2 k) (by omega) (by omega) hp hl) (t.ld15 _ _ 2 1 p l (off13_m2 k) (by omega) (by omega) hp hl)))⟩

theorem part14_eq (i : grid0.Coords) (k : Fin k0_t3_loop.trips) {m : ℕ} (s : St Ideal) (t : Tile E O m (128 * k.val + 10) s) (v68 : BitVec 32) (v355 : FVec Ideal S128x128 .f32) (h : P17 m (Zt E O (128 * k.val + 10)) s.s17 8) (h355 : (∀ p l, p < m → l < 128 → g2 v355 p l = zb E O (128 * 2 + l) ((128 * k.val + 10) + p) + Ideal.ofBits .f32 0xBCD14087#32 * (E (128 * 2 + l) ((128 * k.val + 10) + p + 5) + O (128 * 2 + l) ((128 * k.val + 10) + p + 1)))) :
    ∃ v370 v392 x, m_part14 i k v68 v355 s = (⟨v370, v392⟩, { s with s17 := x }) ∧ ZV E O m (128 * k.val + 10) 2 v370 ∧ P17 m (Zt E O (128 * k.val + 10)) x 11 ∧ (∀ p n, p < 8 → n < m → g2 (k0_pay63 v392) p n = pm (Zt E O (128 * k.val + 10)) 11 p n) := by
  unfold m_part14
  dsimp only [bind_apply, pure_apply, ld, st, St.set17, St.set18]
  have hm := t.hm
  refine ⟨_, _, _, rfl, ?_⟩
  exact fin14 E O hm v355 _ _ h h355 (fun p l hp hl => (t.ld14 _ _ 2 6 p l (off13_p3 k) (by omega) (by omega) hp hl)) (fun p l hp hl => (t.ld15 _ _ 2 0 p l (off13_m3 k) (by omega) (by omega) hp hl))

/-- The eight strided reads of the partial maxima. -/
theorem P17.rd8 {m : ℕ} {Z : ℕ → ℕ → EReal} {x : S96x128.Idx → EReal} (hm : m ≤ 128) (h : P17 m Z x 12) (a : ℕ) (ha : a < 8) (inb) (p l : ℕ) (hp : p < 12) (hl : l < m) :
    g2 (n0 := 12) (n1 := 128) (rd x (⟨![a, 0], S12x128.size, ![8, 1], inb⟩ : LoadRect S96x128)) p l = pm Z p a l := by
  refine (g2_rd8 (n0 := 96) (m0 := 12) x a inb p l hp (by omega) (by omega)).trans ?_
  rw [h _ _ (by omega) hl, show (a + 8 * p) / 8 = p by omega, show (a + 8 * p) % 8 = a by omega]

theorem part15_eq (i : grid0.Coords) {m : ℕ} (hm : m ≤ 128) (Z : ℕ → ℕ → EReal) (s : St Ideal) (v392 : FVec Ideal S8x128 .f32) (h : P17 m Z s.s17 11) (h392 : ∀ p n, p < 8 → n < m → g2 (k0_pay63 v392) p n = pm Z 11 p n) :
    ∃ v422 x y, m_part15 i v392 s = (v422, { s with s17 := x, s18 := y }) ∧ (∀ p l, p < 12 → l < m → g2 v422 p l = expo (amx Z p l)) ∧
      (∀ p l, p < 12 → l < m → g2 (n0 := 12) (n1 := 128) y p l = scl Z p l) := by
  unfold m_part15
  dsimp only [bind_apply, pure_apply, ld, st, St.set17, St.set18]
  refine ⟨_, _, _, rfl, ?_⟩
  have h12 := h.put hm (by omega) _ h392
  have r := fun a ha inb p l hp hl => h12.rd8 hm a ha inb p l hp hl
  refine ⟨fun p l hp hl => ?_, fun p l hp hl => ?_⟩
  · refine (pay64 _ _ _ _ _ _ _ _ p l hp (by omega)).trans ?_
    rw [r 0 (by omega) _ p l hp hl, r 1 (by omega) _ p l hp hl, r 2 (by omega) _ p l hp hl, r 3 (by omega) _ p l hp hl, r 4 (by omega) _ p l hp hl, r 5 (by omega) _ p l hp hl, r 6 (by omega) _ p l hp hl, r 7 (by omega) _ p l hp hl]
    rfl
  · refine (g2_hit (n0 := 12) (n1 := 128) _ 0 0 _ p l (by omega) (by omega) (by omega) (by omega)).trans ?_
    rw [Nat.sub_zero, Nat.sub_zero]
    refine (pay65 _ _ _ _ _ _ _ _ p l hp (by omega)).trans ?_
    rw [r 0 (by omega) _ p l hp hl, r 1 (by omega) _ p l hp hl, r 2 (by omega) _ p l hp hl, r 3 (by omega) _ p l hp hl, r 4 (by omega) _ p l hp hl, r 5 (by omega) _ p l hp hl, r 6 (by omega) _ p l hp hl, r 7 (by omega) _ p l hp hl]
    unfold scl amx; rfl

end Cert.KernelIdeal.Val
-- ==== Proof.Value.Tile2.lean ====
/-
  One tile of the quantising loop: codes, scales and the values they stand for; and the loop over tiles.
-/
module

public import proofs.«01_k».proof.Proof.Value.Tile

@[expose] public section

set_option maxRecDepth 16384
set_option maxHeartbeats 400000

noncomputable section

namespace Cert.KernelIdeal.Val

open Idealize.ShloMosaic Cert.Sem Cert.Val Cert.KernelIdeal.Gen Cert.KernelIdeal.Run

/-- Values stored from column `c` for the rows of the first `j` groups; columns before `c` as they were. -/
structure Done16 (m c : ℕ) (A : ℕ → ℕ → EReal) (x0 x : S384x1280.Idx → EReal) (j : ℕ) : Prop where
  old : ∀ r n, r < 384 → n < c → n < 1280 → g2 (n0 := 384) (n1 := 1280) x r n = g2 (n0 := 384) (n1 := 1280) x0 r n
  new : ∀ r n, r < 32 * j → n < m → g2 (n0 := 384) (n1 := 1280) x r (c + n) = A r n

theorem Done16.start {m c : ℕ} {A : ℕ → ℕ → EReal} (x : S384x1280.Idx → EReal) : Done16 m c A x x 0 :=
  ⟨fun _ _ _ _ _ => rfl, fun r n hr _ => absurd hr (by omega)⟩

theorem Done16.put {m c : ℕ} {A : ℕ → ℕ → EReal} {x0 x : S384x1280.Idx → EReal} {j : ℕ} (h : Done16 m c A x0 x j) (hm : m ≤ 128) (hj : j < 12) (hc : c + 128 ≤ 1280)
    (w : S32x128.Idx → EReal) (hw : ∀ p l, p < 32 → l < m → g2 (n0 := 32) (n1 := 128) w p l = A (32 * j + p) l) :
    Done16 m c A x0 (VecWindow.put (s := S384x1280) x ![32 * j, c] S32x128.size w) (j + 1) := by
  constructor
  · intro r n hr hn hn'
    exact (g2_miss _ _ _ _ _ _ (by omega) (by omega) (by omega)).trans (h.old r n hr hn hn')
  · intro r n hr hn
    by_cases h1 : 32 * j ≤ r
    · refine (g2_hit _ _ _ _ _ _ (by omega) (by omega) (by omega) (by omega)).trans ?_
      rw [show c + n - c = n by omega]
      refine (hw _ _ (by omega) (by omega)).trans ?_
      congr 1; omega
    · exact (g2_miss _ _ _ _ _ _ (by omega) (by omega) (by omega)).trans (h.new r n (by omega) hn)

/-- Codes stored from column `c` for the first `j` groups of 32 rows. -/
structure Done11 (c : ℕ) (A : ℕ → ℕ → EReal) (x0 x : S4x96x1024.Idx → EReal) (j : ℕ) : Prop where
  old : ∀ b r n, b < 4 → r < 96 → n < c → n < 1024 → g3 (n0 := 4) (n1 := 96) (n2 := 1024) x b r n = g3 (n0 := 4) (n1 := 96) (n2 := 1024) x0 b r n
  new : ∀ b r n, b < 4 → r < 96 → 96 * b + r < 32 * j → n < 128 → g3 (n0 := 4) (n1 := 96) (n2 := 1024) x b r (c + n) = A (96 * b + r) n

theorem Done11.start {c : ℕ} {A : ℕ → ℕ → EReal} (x : S4x96x1024.Idx → EReal) : Done11 c A x x 0 :=
  ⟨fun _ _ _ _ _ _ _ => rfl, fun b r n _ _ hr _ => absurd hr (by omega)⟩

theorem Done11.put {c : ℕ} {A : ℕ → ℕ → EReal} {x0 x : S4x96x1024.Idx → EReal} {j : ℕ} (h : Done11 c A x0 x j) (a0 a1 : ℕ) (h0 : a0 = j / 3) (h1 : a1 = 32 * (j % 3)) (hj : j < 12) (hc : c + 128 ≤ 1024)
    (w : S1x32x128.Idx → EReal) (hw : ∀ p l, p < 32 → l < 128 → g3 (n0 := 1) (n1 := 32) (n2 := 128) w 0 p l = A (32 * j + p) l) :
    Done11 c A x0 (VecWindow.put (s := S4x96x1024) x ![a0, a1, c] S1x32x128.size w) (j + 1) := by
  constructor
  · intro b r n hb hr hn hn'
    exact (g3_miss _ _ _ _ _ _ _ _ (by omega) (by omega) (by omega) (by omega)).trans (h.old b r n hb hr hn hn')
  · intro b r n hb hr hR hn
    by_cases h2 : 32 * j ≤ 96 * b + r
    · obtain rfl : b = a0 := by omega
      refine (g3_hit _ _ _ _ _ _ _ _ (by omega) (by omega) (by omega) (by omega) (by omega) (by omega)).trans ?_
      rw [show c + n - c = n by omega, Nat.sub_self]
      refine (hw _ _ (by omega) (by omega)).trans ?_
      congr 1; omega
    · exact (g3_miss _ _ _ _ _ _ _ _ (by omega) (by omega) (by omega) (by omega)).trans (h.new b r n hb hr (by omega) hn)

/-- Scales stored from column `c` for the first `j` groups. -/
structure Done12 (c : ℕ) (A : ℕ → ℕ → EReal) (x0 x : S3x4x1024.Idx → EReal) (j : ℕ) : Prop where
  old : ∀ g b n, g < 3 → b < 4 → n < c → n < 1024 → g3 (n0 := 3) (n1 := 4) (n2 := 1024) x g b n = g3 (n0 := 3) (n1 := 4) (n2 := 1024) x0 g b n
  new : ∀ g b n, g < 3 → b < 4 → 3 * b + g < j → n < 128 → g3 (n0 := 3) (n1 := 4) (n2 := 1024) x g b (c + n) = A (3 * b + g) n

theorem Done12.start {c : ℕ} {A : ℕ → ℕ → EReal} (x : S3x4x1024.Idx → EReal) : Done12 c A x x 0 :=
  ⟨fun _ _ _ _ _ _ _ => rfl, fun b r n _ _ hr _ => absurd hr (by omega)⟩

theorem Done12.put {c : ℕ} {A : ℕ → ℕ → EReal} {x0 x : S3x4x1024.Idx → EReal} {j : ℕ} (h : Done12 c A x0 x j) (a0 a1 : ℕ) (h0 : a0 = j % 3) (h1 : a1 = j / 3) (hj : j < 12) (hc : c + 128 ≤ 1024)
    (w : S1x1x128.Idx → EReal) (hw : ∀ l, l < 128 → g3 (n0 := 1) (n1 := 1) (n2 := 128) w 0 0 l = A j l) :
    Done12 c A x0 (VecWindow.put (s := S3x4x1024) x ![a0, a1, c] S1x1x128.size w) (j + 1) := by
  constructor
  · intro b r n hb hr hn hn'
    exact (g3_miss _ _ _ _ _ _ _ _ (by omega) (by omega) (by omega) (by omega)).trans (h.old b r n hb hr hn hn')
  · intro b r n hb hr hR hn
    by_cases h2 : 3 * r + b = j
    · obtain rfl : b = a0 := by omega
      obtain rfl : r = a1 := by omega
      refine (g3_hit _ _ _ _ _ _ _ _ (by omega) (by omega) (by omega) (by omega) (by omega) (by omega)).trans ?_
      rw [show c + n - c = n by omega, Nat.sub_self, Nat.sub_self, h2]
      exact hw _ hn
    · exact (g3_miss _ _ _ _ _ _ _ _ (by omega) (by omega) (by omega) (by omega)).trans (h.new b r n hb hr (by omega) hn)

variable (E O : ℕ → ℕ → EReal)

/-- The codes of group `gi`; the values they stand for; the scales and their inverses. -/
def CV (Z : ℕ → ℕ → EReal) (m gi : ℕ) (v : S32x128.Idx → EReal) : Prop := ∀ p l, p < 32 → l < m → g2 (n0 := 32) (n1 := 128) v p l = cod Z (32 * gi + p) l
def AV (Z : ℕ → ℕ → EReal) (m gi : ℕ) (v : S32x128.Idx → EReal) : Prop := ∀ p l, p < 32 → l < m → g2 (n0 := 32) (n1 := 128) v p l = act Z (32 * gi + p) l
def SV (Z : ℕ → ℕ → EReal) (m : ℕ) (x : S12x128.Idx → EReal) : Prop := ∀ p l, p < 12 → l < m → g2 (n0 := 12) (n1 := 128) x p l = scl Z p l
def IV (Z : ℕ → ℕ → EReal) (m : ℕ) (x : S12x128.Idx → EReal) : Prop := ∀ p l, p < 12 → l < m → g2 (n0 := 12) (n1 := 128) x p l = isc Z p l

theorem SV.row {Z : ℕ → ℕ → EReal} {m : ℕ} {x : S12x128.Idx → EReal} (hm : m ≤ 128) (h : SV Z m x) (a : ℕ) (ha : a < 12) (inb) (l : ℕ) (hl : l < m) :
    g2 (n0 := 1) (n1 := 128) (rd x (Rect.unit (s := S12x128) ![a, 0] S1x128.size inb).toLoadRect) 0 l = scl Z a l := by
  rw [g2_rd' _ _ a 0 rfl _ _ _ (by omega) (by omega) (by omega) (by omega), Nat.add_zero, Nat.zero_add]
  exact h a l ha hl

theorem IV.row {Z : ℕ → ℕ → EReal} {m : ℕ} {x : S12x128.Idx → EReal} (hm : m ≤ 128) (h : IV Z m x) (a : ℕ) (ha : a < 12) (inb) (l : ℕ) (hl : l < m) :
    g2 (n0 := 1) (n1 := 128) (rd x (Rect.unit (s := S12x128) ![a, 0] S1x128.size inb).toLoadRect) 0 l = isc Z a l := by
  rw [g2_rd' _ _ a 0 rfl _ _ _ (by omega) (by omega) (by omega) (by omega), Nat.add_zero, Nat.zero_add]
  exact h a l ha hl

variable {E O}

theorem cod_of {m b g : ℕ} {z : S128x128.Idx → EReal} (hz : ZV E O m b g z) (i gi : ℕ) (hi : i < 4) (hgi : gi = 4 * g + i) {p l : ℕ} {a : EReal} (hp : p < 32) (hl : l < m)
    (ha : a = isc (Zt E O b) gi l) : clip (g2 (n0 := 128) (n1 := 128) z (32 * i + p) l * a) = cod (Zt E O b) (32 * gi + p) l := by
  unfold cod Zt
  rw [hz _ _ (by omega) hl, ha, show (32 * gi + p) / 32 = gi by omega, show 128 * g + (32 * i + p) = 32 * gi + p by omega]
  rfl

theorem act_of {Z : ℕ → ℕ → EReal} {gi p l : ℕ} {c a : EReal} (hp : p < 32) (hc : c = cod Z (32 * gi + p) l) (ha : a = scl Z gi l) : c * a = act Z (32 * gi + p) l := by
  unfold act
  rw [hc, ha, show (32 * gi + p) / 32 = gi by omega]

theorem off14 : ∀ k : Fin k0_t3_loop.trips, k0_off14 k = ![32 * 0, 128 + 128 * k.val] := by decide +kernel
theorem off15 : ∀ k : Fin k0_t3_loop.trips, k0_off15 k = ![32 * 1, 128 + 128 * k.val] := by decide +kernel
theorem off16 : ∀ k : Fin k0_t3_loop.trips, k0_off16 k = ![32 * 2, 128 + 128 * k.val] := by decide +kernel
theorem off17 : ∀ k : Fin k0_t3_loop.trips, k0_off17 k = ![32 * 3, 128 + 128 * k.val] := by decide +kernel
theorem off18 : ∀ k : Fin k0_t3_loop.trips, k0_off18 k = ![32 * 4, 128 + 128 * k.val] := by decide +kernel
theorem off19 : ∀ k : Fin k0_t3_loop.trips, k0_off19 k = ![32 * 5, 128 + 128 * k.val] := by decide +kernel
theorem off20 : ∀ k : Fin k0_t3_loop.trips, k0_off20 k = ![32 * 6, 128 + 128 * k.val] := by decide +kernel
theorem off21 : ∀ k : Fin k0_t3_loop.trips, k0_off21 k = ![32 * 7, 128 + 128 * k.val] := by decide +kernel
theorem off22 : ∀ k : Fin k0_t3_loop.trips, k0_off22 k = ![32 * 8, 128 + 128 * k.val] := by decide +kernel
theorem off23 : ∀ k : Fin k0_t3_loop.trips, k0_off23 k = ![32 * 9, 128 + 128 * k.val] := by decide +kernel
theorem off24 : ∀ k : Fin k0_t3_loop.trips, k0_off24 k = ![32 * 10, 128 + 128 * k.val] := by decide +kernel
theorem off25 : ∀ k : Fin k0_t3_loop.trips, k0_off25 k = ![32 * 11, 128 + 128 * k.val] := by decide +kernel
theorem off26 : ∀ k : Fin k0_t3_loop.trips, k0_off26 k = ![0, 0, 128 * k.val] := by decide +kernel
theorem off27 : ∀ k : Fin k0_t3_loop.trips, k0_off27 k = ![0, 0, 128 * k.val] := by decide +kernel
theorem off28 : ∀ k : Fin k0_t3_loop.trips, k0_off28 k = ![0, 32, 128 * k.val] := by decide +kernel
theorem off29 : ∀ k : Fin k0_t3_loop.trips, k0_off29 k = ![1, 0, 128 * k.val] := by decide +kernel
theorem off30 : ∀ k : Fin k0_t3_loop.trips, k0_off30 k = ![0, 64, 128 * k.val] := by decide +kernel
theorem off31 : ∀ k : Fin k0_t3_loop.trips, k0_off31 k = ![2, 0, 128 * k.val] := by decide +kernel
theorem off32 : ∀ k : Fin k0_t3_loop.trips, k0_off32 k = ![1, 0, 128 * k.val] := by decide +kernel
theorem off33 : ∀ k : Fin k0_t3_loop.trips, k0_off33 k = ![0, 1, 128 * k.val] := by decide +kernel
theorem off34 : ∀ k : Fin k0_t3_loop.trips, k0_off34 k = ![1, 32, 128 * k.val] := by decide +kernel
theorem off35 : ∀ k : Fin k0_t3_loop.trips, k0_off35 k = ![1, 1, 128 * k.val] := by decide +kernel
theorem off36 : ∀ k : Fin k0_t3_loop.trips, k0_off36 k = ![1, 64, 128 * k.val] := by decide +kernel
theorem off37 : ∀ k : Fin k0_t3_loop.trips, k0_off37 k = ![2, 1, 128 * k.val] := by decide +kernel
theorem off38 : ∀ k : Fin k0_t3_loop.trips, k0_off38 k = ![2, 0, 128 * k.val] := by decide +kernel
theorem off39 : ∀ k : Fin k0_t3_loop.trips, k0_off39 k = ![0, 2, 128 * k.val] := by decide +kernel
theorem off40 : ∀ k : Fin k0_t3_loop.trips, k0_off40 k = ![2, 32, 128 * k.val] := by decide +kernel
theorem off41 : ∀ k : Fin k0_t3_loop.trips, k0_off41 k = ![1, 2, 128 * k.val] := by decide +kernel
theorem off42 : ∀ k : Fin k0_t3_loop.trips, k0_off42 k = ![2, 64, 128 * k.val] := by decide +kernel
theorem off43 : ∀ k : Fin k0_t3_loop.trips, k0_off43 k = ![2, 2, 128 * k.val] := by decide +kernel
theorem off44 : ∀ k : Fin k0_t3_loop.trips, k0_off44 k = ![3, 0, 128 * k.val] := by decide +kernel
theorem off45 : ∀ k : Fin k0_t3_loop.trips, k0_off45 k = ![0, 3, 128 * k.val] := by decide +kernel
theorem off46 : ∀ k : Fin k0_t3_loop.trips, k0_off46 k = ![3, 32, 128 * k.val] := by decide +kernel
theorem off47 : ∀ k : Fin k0_t3_loop.trips, k0_off47 k = ![1, 3, 128 * k.val] := by decide +kernel
theorem off48 : ∀ k : Fin k0_t3_loop.trips, k0_off48 k = ![3, 64, 128 * k.val] := by decide +kernel
theorem off49 : ∀ k : Fin k0_t3_loop.trips, k0_off49 k = ![2, 3, 128 * k.val] := by decide +kernel

theorem trip_lt (k : Fin k0_t3_loop.trips) : k.val < 8 := lt_of_lt_of_eq k.isLt trips3

theorem part16_eq (i : grid0.Coords) (k : Fin k0_t3_loop.trips) {b : ℕ} (s : St Ideal) (v68 : BitVec 32) (v152 : FVec Ideal S128x128 .f32) (v422 : FVec Ideal S12x128 .f32) (hz : ZV E O 128 b 0 v152) (h422 : ∀ p l, p < 12 → l < 128 → g2 v422 p l = expo (amx (Zt E O b) p l)) (h18 : SV (Zt E O b) 128 s.s18) :
    ∃ r x y, m_part16 i k v68 v152 v422 s = (r, { s with s16 := x, s19 := y }) ∧ IV (Zt E O b) 128 y ∧ Done16 128 (128 + 128 * k.val) (act (Zt E O b)) s.s16 x 1 ∧ CV (Zt E O b) 128 0 r.1 ∧ CV (Zt E O b) 128 1 r.2.1 ∧ AV (Zt E O b) 128 1 (k0_pay71 r.2.1 r.2.2) := by
  have hk := trip_lt k
  unfold m_part16
  dsimp only [bind_apply, pure_apply, ld, st, St.set16, St.set19]
  have h19 : IV (Zt E O b) 128 (VecWindow.put (s := S12x128) s.s19 ![0, 0] S12x128.size (k0_pay66 v422)) := by
    intro p l hp hl
    refine (g2_hit (n0 := 12) (n1 := 128) _ 0 0 _ p l (by omega) (by omega) (by omega) (by omega)).trans ?_
    rw [Nat.sub_zero, Nat.sub_zero]
    refine (pay66 _ p l hp (by omega)).trans ?_
    rw [h422 p l hp hl]; rfl
  refine ⟨_, _, _, rfl, h19, ?_, ?_, ?_, ?_⟩
  · simp only [off14]
    exact (Done16.start s.s16).put le_rfl (by omega) (by omega) _ fun p l hp hl => (pay68 _ _ _ p l hp hl).trans
      (act_of hp (cod_of hz 0 0 (by omega) (by omega) hp hl (h19.row le_rfl 0 (by omega) _ l hl)) (h18.row le_rfl 0 (by omega) _ l hl))
  · exact fun p l hp hl => (pay67 _ _ p l hp hl).trans (cod_of hz 0 0 (by omega) (by omega) hp hl (h19.row le_rfl 0 (by omega) _ l hl))
  · exact fun p l hp hl => (pay69 _ _ p l hp hl).trans (cod_of hz 1 1 (by omega) (by omega) hp hl (h19.row le_rfl 1 (by omega) _ l hl))
  · exact fun p l hp hl => (pay71 _ _ p l hp hl).trans (act_of hp ((pay69 _ _ p l hp hl).trans (cod_of hz 1 1 (by omega) (by omega) hp hl (h19.row le_rfl 1 (by omega) _ l hl))) (h18.row le_rfl 1 (by omega) _ l hl))

theorem part17_eq (i : grid0.Coords) (k : Fin k0_t3_loop.trips) {b : ℕ} (s : St Ideal) (v68 : BitVec 32) (v152 : FVec Ideal S128x128 .f32) (vc : FVec Ideal S32x128 .fp8e4m3) (vs : FVec Ideal S32x128 .bf16) (hz : ZV E O 128 b 0 v152) (hA : AV (Zt E O b) 128 1 (k0_pay71 vc vs)) (h18 : SV (Zt E O b) 128 s.s18) (h19 : IV (Zt E O b) 128 s.s19) {x0 : S384x1280.Idx → EReal} (h16 : Done16 128 (128 + 128 * k.val) (act (Zt E O b)) x0 s.s16 1) :
    ∃ r x, m_part17 i k v68 v152 vc vs s = (r, { s with s16 := x }) ∧ Done16 128 (128 + 128 * k.val) (act (Zt E O b)) x0 x 3 ∧ CV (Zt E O b) 128 2 r.1 ∧ CV (Zt E O b) 128 3 r.2.1 ∧ AV (Zt E O b) 128 3 (k0_pay76 r.2.1 r.2.2) := by
  have hk := trip_lt k
  unfold m_part17
  dsimp only [bind_apply, pure_apply, ld, st, St.set16]
  refine ⟨_, _, rfl, ?_, ?_, ?_, ?_⟩
  · simp only [off15, off16]
    exact (h16.put le_rfl (by omega) (by omega) _ hA).put le_rfl (by omega) (by omega) _ fun p l hp hl => (pay73 _ _ _ p l hp hl).trans
      (act_of hp (cod_of hz 2 2 (by omega) (by omega) hp hl (h19.row le_rfl 2 (by omega) _ l hl)) (h18.row le_rfl 2 (by omega) _ l hl))
  · exact fun p l hp hl => (pay72 _ _ p l hp hl).trans (cod_of hz 2 2 (by omega) (by omega) hp hl (h19.row le_rfl 2 (by omega) _ l hl))
  · exact fun p l hp hl => (pay74 _ _ p l hp hl).trans (cod_of hz 3 3 (by omega) (by omega) hp hl (h19.row le_rfl 3 (by omega) _ l hl))
  · exact fun p l hp hl => (pay76 _ _ p l hp hl).trans (act_of hp ((pay74 _ _ p l hp hl).trans (cod_of hz 3 3 (by omega) (by omega) hp hl (h19.row le_rfl 3 (by omega) _ l hl))) (h18.row le_rfl 3 (by omega) _ l hl))

theorem part18_eq (i : grid0.Coords) (k : Fin k0_t3_loop.trips) {b : ℕ} (s : St Ideal) (v68 : BitVec 32) (v261 : FVec Ideal S128x128 .f32) (vc : FVec Ideal S32x128 .fp8e4m3) (vs : FVec Ideal S32x128 .bf16) (hz : ZV E O 128 b 1 v261) (hA : AV (Zt E O b) 128 3 (k0_pay76 vc vs)) (h18 : SV (Zt E O b) 128 s.s18) (h19 : IV (Zt E O b) 128 s.s19) {x0 : S384x1280.Idx → EReal} (h16 : Done16 128 (128 + 128 * k.val) (act (Zt E O b)) x0 s.s16 3) :
    ∃ r x, m_part18 i k v68 v261 vc vs s = (r, { s with s16 := x }) ∧ Done16 128 (128 + 128 * k.val) (act (Zt E O b)) x0 x 5 ∧ CV (Zt E O b) 128 4 r.1 ∧ CV (Zt E O b) 128 5 r.2.1 ∧ AV (Zt E O b) 128 5 (k0_pay81 r.2.1 r.2.2) := by
  have hk := trip_lt k
  unfold m_part18
  dsimp only [bind_apply, pure_apply, ld, st, St.set16]
  refine ⟨_, _, rfl, ?_, ?_, ?_, ?_⟩
  · simp only [off17, off18]
    exact (h16.put le_rfl (by omega) (by omega) _ hA).put le_rfl (by omega) (by omega) _ fun p l hp hl => (pay78 _ _ _ p l hp hl).trans
      (act_of hp (cod_of hz 0 4 (by omega) (by omega) hp hl (h19.row le_rfl 4 (by omega) _ l hl)) (h18.row le_rfl 4 (by omega) _ l hl))
  · exact fun p l hp hl => (pay77 _ _ p l hp hl).trans (cod_of hz 0 4 (by omega) (by omega) hp hl (h19.row le_rfl 4 (by omega) _ l hl))
  · exact fun p l hp hl => (pay79 _ _ p l hp hl).trans (cod_of hz 1 5 (by omega) (by omega) hp hl (h19.row le_rfl 5 (by omega) _ l hl))
  · exact fun p l hp hl => (pay81 _ _ p l hp hl).trans (act_of hp ((pay79 _ _ p l hp hl).trans (cod_of hz 1 5 (by omega) (by omega) hp hl (h19.row le_rfl 5 (by omega) _ l hl))) (h18.row le_rfl 5 (by omega) _ l hl))

theorem part19_eq (i : grid0.Coords) (k : Fin k0_t3_loop.trips) {b : ℕ} (s : St Ideal) (v68 : BitVec 32) (v261 : FVec Ideal S128x128 .f32) (vc : FVec Ideal S32x128 .fp8e4m3) (vs : FVec Ideal S32x128 .bf16) (hz : ZV E O 128 b 1 v261) (hA : AV (Zt E O b) 128 5 (k0_pay81 vc vs)) (h18 : SV (Zt E O b) 128 s.s18) (h19 : IV (Zt E O b) 128 s.s19) {x0 : S384x1280.Idx → EReal} (h16 : Done16 128 (128 + 128 * k.val) (act (Zt E O b)) x0 s.s16 5) :
    ∃ r x, m_part19 i k v68 v261 vc vs s = (r, { s with s16 := x }) ∧ Done16 128 (128 + 128 * k.val) (act (Zt E O b)) x0 x 7 ∧ CV (Zt E O b) 128 6 r.1 ∧ CV (Zt E O b) 128 7 r.2.1 ∧ AV (Zt E O b) 128 7 (k0_pay86 r.2.1 r.2.2) := by
  have hk := trip_lt k
  unfold m_part19
  dsimp only [bind_apply, pure_apply, ld, st, St.set16]
  refine ⟨_, _, rfl, ?_, ?_, ?_, ?_⟩
  · simp only [off19, off20]
    exact (h16.put le_rfl (by omega) (by omega) _ hA).put le_rfl (by omega) (by omega) _ fun p l hp hl => (pay83 _ _ _ p l hp hl).trans
      (act_of hp (cod_of hz 2 6 (by omega) (by omega) hp hl (h19.row le_rfl 6 (by omega) _ l hl)) (h18.row le_rfl 6 (by omega) _ l hl))
  · exact fun p l hp hl => (pay82 _ _ p l hp hl).trans (cod_of hz 2 6 (by omega) (by omega) hp hl (h19.row le_rfl 6 (by omega) _ l hl))
  · exact fun p l hp hl => (pay84 _ _ p l hp hl).trans (cod_of hz 3 7 (by omega) (by omega) hp hl (h19.row le_rfl 7 (by omega) _ l hl))
  · exact fun p l hp hl => (pay86 _ _ p l hp hl).trans (act_of hp ((pay84 _ _ p l hp hl).trans (cod_of hz 3 7 (by omega) (by omega) hp hl (h19.row le_rfl 7 (by omega) _ l hl))) (h18.row le_rfl 7 (by omega) _ l hl))

theorem part20_eq (i : grid0.Coords) (k : Fin k0_t3_loop.trips) {b : ℕ} (s : St Ideal) (v68 : BitVec 32) (v370 : FVec Ideal S128x128 .f32) (vc : FVec Ideal S32x128 .fp8e4m3) (vs : FVec Ideal S32x128 .bf16) (hz : ZV E O 128 b 2 v370) (hA : AV (Zt E O b) 128 7 (k0_pay86 vc vs)) (h18 : SV (Zt E O b) 128 s.s18) (h19 : IV (Zt E O b) 128 s.s19) {x0 : S384x1280.Idx → EReal} (h16 : Done16 128 (128 + 128 * k.val) (act (Zt E O b)) x0 s.s16 7) :
    ∃ r x, m_part20 i k v68 v370 vc vs s = (r, { s with s16 := x }) ∧ Done16 128 (128 + 128 * k.val) (act (Zt E O b)) x0 x 9 ∧ CV (Zt E O b) 128 8 r.1 ∧ CV (Zt E O b) 128 9 r.2.1 ∧ AV (Zt E O b) 128 9 (k0_pay91 r.2.1 r.2.2) := by
  have hk := trip_lt k
  unfold m_part20
  dsimp only [bind_apply, pure_apply, ld, st, St.set16]
  refine ⟨_, _, rfl, ?_, ?_, ?_, ?_⟩
  · simp only [off21, off22]
    exact (h16.put le_rfl (by omega) (by omega) _ hA).put le_rfl (by omega) (by omega) _ fun p l hp hl => (pay88 _ _ _ p l hp hl).trans
      (act_of hp (cod_of hz 0 8 (by omega) (by omega) hp hl (h19.row le_rfl 8 (by omega) _ l hl)) (h18.row le_rfl 8 (by omega) _ l hl))
  · exact fun p l hp hl => (pay87 _ _ p l hp hl).trans (cod_of hz 0 8 (by omega) (by omega) hp hl (h19.row le_rfl 8 (by omega) _ l hl))
  · exact fun p l hp hl => (pay89 _ _ p l hp hl).trans (cod_of hz 1 9 (by omega) (by omega) hp hl (h19.row le_rfl 9 (by omega) _ l hl))
  · exact fun p l hp hl => (pay91 _ _ p l hp hl).trans (act_of hp ((pay89 _ _ p l hp hl).trans (cod_of hz 1 9 (by omega) (by omega) hp hl (h19.row le_rfl 9 (by omega) _ l hl))) (h18.row le_rfl 9 (by omega) _ l hl))

theorem part21_eq (i : grid0.Coords) (k : Fin k0_t3_loop.trips) {b : ℕ} (s : St Ideal) (v68 : BitVec 32) (v370 : FVec Ideal S128x128 .f32) (vc : FVec Ideal S32x128 .fp8e4m3) (vs : FVec Ideal S32x128 .bf16) (hz : ZV E O 128 b 2 v370) (hA : AV (Zt E O b) 128 9 (k0_pay91 vc vs)) (h18 : SV (Zt E O b) 128 s.s18) (h19 : IV (Zt E O b) 128 s.s19) {x0 : S384x1280.Idx → EReal} (h16 : Done16 128 (128 + 128 * k.val) (act (Zt E O b)) x0 s.s16 9) :
    ∃ r x, m_part21 i k v68 v370 vc vs s = (r, { s with s16 := x }) ∧ Done16 128 (128 + 128 * k.val) (act (Zt E O b)) x0 x 11 ∧ CV (Zt E O b) 128 10 r.1 ∧ CV (Zt E O b) 128 11 r.2.1 ∧ AV (Zt E O b) 128 11 (k0_pay96 r.2.1 r.2.2) := by
  have hk := trip_lt k
  unfold m_part21
  dsimp only [bind_apply, pure_apply, ld, st, St.set16]
  refine ⟨_, _, rfl, ?_, ?_, ?_, ?_⟩
  · simp only [off23, off24]
    exact (h16.put le_rfl (by omega) (by omega) _ hA).put le_rfl (by omega) (by omega) _ fun p l hp hl => (pay93 _ _ _ p l hp hl).trans
      (act_of hp (cod_of hz 2 10 (by omega) (by omega) hp hl (h19.row le_rfl 10 (by omega) _ l hl)) (h18.row le_rfl 10 (by omega) _ l hl))
  · exact fun p l hp hl => (pay92 _ _ p l hp hl).trans (cod_of hz 2 10 (by omega) (by omega) hp hl (h19.row le_rfl 10 (by omega) _ l hl))
  · exact fun p l hp hl => (pay94 _ _ p l hp hl).trans (cod_of hz 3 11 (by omega) (by omega) hp hl (h19.row le_rfl 11 (by omega) _ l hl))
  · exact fun p l hp hl => (pay96 _ _ p l hp hl).trans (act_of hp ((pay94 _ _ p l hp hl).trans (cod_of hz 3 11 (by omega) (by omega) hp hl (h19.row le_rfl 11 (by omega) _ l hl))) (h18.row le_rfl 11 (by omega) _ l hl))

theorem part22_eq (i : grid0.Coords) (k : Fin k0_t3_loop.trips) {b : ℕ} (s : St Ideal) (v68 : BitVec 32) (v442 v463 v484 v673 : FVec Ideal S32x128 .fp8e4m3) (v677 : FVec Ideal S32x128 .bf16) (hv442 : CV (Zt E O b) 128 0 v442) (hv463 : CV (Zt E O b) 128 1 v463) (hv484 : CV (Zt E O b) 128 2 v484) (hA : AV (Zt E O b) 128 11 (k0_pay96 v673 v677))
    (h18 : SV (Zt E O b) 128 s.s18) {x0 : S384x1280.Idx → EReal} (h16 : Done16 128 (128 + 128 * k.val) (act (Zt E O b)) x0 s.s16 11) :
    ∃ r x y z, m_part22 i k v68 v442 v463 v484 v673 v677 s = (r, { s with s11 := y, s12 := z, s16 := x }) ∧ Done16 128 (128 + 128 * k.val) (act (Zt E O b)) x0 x 12 ∧
      Done11 (128 * k.val) (cod (Zt E O b)) s.s11 y 3 ∧ Done12 (128 * k.val) (scl (Zt E O b)) s.s12 z 2 ∧ ∀ l, l < 128 → g3 r 0 0 l = scl (Zt E O b) 2 l := by
  have hk := trip_lt k
  unfold m_part22
  dsimp only [bind_apply, pure_apply, ld, st, St.set16, St.set11, St.set12]
  refine ⟨_, _, _, _, rfl, ?_⟩
  simp only [off25, off26, off27, off28, off29, off30]
  refine ⟨h16.put le_rfl (by omega) (by omega) _ hA, ?_, ?_, ?_⟩
  · exact ((((Done11.start s.s11).put 0 0 (by omega) (by omega) (by omega) (by omega) _ fun p l hp hl => (pay97 _ p l hp hl).trans (hv442 p l hp hl)).put 0 32 (by omega) (by omega) (by omega) (by omega) _ fun p l hp hl => (pay99 _ p l hp hl).trans (hv463 p l hp hl)).put 0 64 (by omega) (by omega) (by omega) (by omega) _ fun p l hp hl => (pay101 _ p l hp hl).trans (hv484 p l hp hl))
  · exact (((Done12.start s.s12).put 0 0 (by omega) (by omega) (by omega) (by omega) _ fun l hl => (pay98 _ 0 l (by omega) hl).trans (h18.row le_rfl 0 (by omega) _ l hl)).put 1 0 (by omega) (by omega) (by omega) (by omega) _ fun l hl => (pay100 _ 0 l (by omega) hl).trans (h18.row le_rfl 1 (by omega) _ l hl))
  · exact fun l hl => (pay102 _ 0 l (by omega) hl).trans (h18.row le_rfl 2 (by omega) _ l hl)

theorem part23_eq (i : grid0.Coords) (k : Fin k0_t3_loop.trips) {b : ℕ} (s : St Ideal) (v68 : BitVec 32) (v505 v526 v547 v568 : FVec Ideal S32x128 .fp8e4m3) (v711 : FVec Ideal S1x1x128 .f32) (hv505 : CV (Zt E O b) 128 3 v505) (hv526 : CV (Zt E O b) 128 4 v526) (hv547 : CV (Zt E O b) 128 5 v547) (hv568 : CV (Zt E O b) 128 6 v568)
    (h711 : ∀ l, l < 128 → g3 v711 0 0 l = scl (Zt E O b) 2 l) (h18 : SV (Zt E O b) 128 s.s18) {y0 : S4x96x1024.Idx → EReal} {z0 : S3x4x1024.Idx → EReal} (h11 : Done11 (128 * k.val) (cod (Zt E O b)) y0 s.s11 3) (h12 : Done12 (128 * k.val) (scl (Zt E O b)) z0 s.s12 2) :
    ∃ y z, m_part23 i k v68 v505 v526 v547 v568 v711 s = (⟨⟩, { s with s11 := y, s12 := z }) ∧ Done11 (128 * k.val) (cod (Zt E O b)) y0 y 7 ∧ Done12 (128 * k.val) (scl (Zt E O b)) z0 z 6 := by
  have hk := trip_lt k
  unfold m_part23
  dsimp only [bind_apply, pure_apply, ld, st, St.set11, St.set12]
  refine ⟨_, _, rfl, ?_⟩
  simp only [off31, off32, off33, off34, off35, off36, off37, off38]
  refine ⟨?_, ?_⟩
  · exact ((((h11.put 1 0 (by omega) (by omega) (by omega) (by omega) _ fun p l hp hl => (pay103 _ p l hp hl).trans (hv505 p l hp hl)).put 1 32 (by omega) (by omega) (by omega) (by omega) _ fun p l hp hl => (pay105 _ p l hp hl).trans (hv526 p l hp hl)).put 1 64 (by omega) (by omega) (by omega) (by omega) _ fun p l hp hl => (pay107 _ p l hp hl).trans (hv547 p l hp hl)).put 2 0 (by omega) (by omega) (by omega) (by omega) _ fun p l hp hl => (pay109 _ p l hp hl).trans (hv568 p l hp hl))
  · exact ((((h12.put 2 0 (by omega) (by omega) (by omega) (by omega) _ h711).put 0 1 (by omega) (by omega) (by omega) (by omega) _ fun l hl => (pay104 _ 0 l (by omega) hl).trans (h18.row le_rfl 3 (by omega) _ l hl)).put 1 1 (by omega) (by omega) (by omega) (by omega) _ fun l hl => (pay106 _ 0 l (by omega) hl).trans (h18.row le_rfl 4 (by omega) _ l hl)).put 2 1 (by omega) (by omega) (by omega) (by omega) _ fun l hl => (pay108 _ 0 l (by omega) hl).trans (h18.row le_rfl 5 (by omega) _ l hl))

theorem part24_eq (i : grid0.Coords) (k : Fin k0_t3_loop.trips) {b : ℕ} (s : St Ideal) (v68 : BitVec 32) (v589 v610 v631 : FVec Ideal S32x128 .fp8e4m3) (hv589 : CV (Zt E O b) 128 7 v589) (hv610 : CV (Zt E O b) 128 8 v610) (hv631 : CV (Zt E O b) 128 9 v631)
    (h18 : SV (Zt E O b) 128 s.s18) {y0 : S4x96x1024.Idx → EReal} {z0 : S3x4x1024.Idx → EReal} (h11 : Done11 (128 * k.val) (cod (Zt E O b)) y0 s.s11 7) (h12 : Done12 (128 * k.val) (scl (Zt E O b)) z0 s.s12 6) :
    ∃ y z, m_part24 i k v68 v589 v610 v631 s = (⟨⟩, { s with s11 := y, s12 := z }) ∧ Done11 (128 * k.val) (cod (Zt E O b)) y0 y 10 ∧ Done12 (128 * k.val) (scl (Zt E O b)) z0 z 10 := by
  have hk := trip_lt k
  unfold m_part24
  dsimp only [bind_apply, pure_apply, ld, st, St.set11, St.set12]
  refine ⟨_, _, rfl, ?_⟩
  simp only [off39, off40, off41, off42, off43, off44, off45]
  refine ⟨?_, ?_⟩
  · exact (((h11.put 2 32 (by omega) (by omega) (by omega) (by omega) _ fun p l hp hl => (pay111 _ p l hp hl).trans (hv589 p l hp hl)).put 2 64 (by omega) (by omega) (by omega) (by omega) _ fun p l hp hl => (pay113 _ p l hp hl).trans (hv610 p l hp hl)).put 3 0 (by omega) (by omega) (by omega) (by omega) _ fun p l hp hl => (pay115 _ p l hp hl).trans (hv631 p l hp hl))
  · exact ((((h12.put 0 2 (by omega) (by omega) (by omega) (by omega) _ fun l hl => (pay110 _ 0 l (by omega) hl).trans (h18.row le_rfl 6 (by omega) _ l hl)).put 1 2 (by omega) (by omega) (by omega) (by omega) _ fun l hl => (pay112 _ 0 l (by omega) hl).trans (h18.row le_rfl 7 (by omega) _ l hl)).put 2 2 (by omega) (by omega) (by omega) (by omega) _ fun l hl => (pay114 _ 0 l (by omega) hl).trans (h18.row le_rfl 8 (by omega) _ l hl)).put 0 3 (by omega) (by omega) (by omega) (by omega) _ fun l hl => (pay116 _ 0 l (by omega) hl).trans (h18.row le_rfl 9 (by omega) _ l hl))

theorem bind_eq {S α β : Type} {m : M S α} {f : α → M S β} {s s' : S} {a : α} {r : β × S} (h : m s = (a, s')) (h' : f a s' = r) : (m >>= f) s = r := by
  rw [bind_apply, h]; exact h'

/-- The last stores of a tile. -/
def m_fin (k0_t3 : Fin k0_t3_loop.trips) (v652 v673 : FVec Ideal S32x128 .fp8e4m3) : M (St Ideal) Unit := do
  st St.s11 St.set11 (k0_off46 k0_t3) S1x32x128.size (k0_pay207 v652)
  let v779 : Vec Ideal S1x128 .f32 ← ld St.s18 (Rect.unit (s := S12x128) ![10, 0] S1x128.size inb_S12x128_S1x128_10_0).toLoadRect
  st St.s12 St.set12 (k0_off47 k0_t3) S1x1x128.size (k0_pay208 v779)
  st St.s11 St.set11 (k0_off48 k0_t3) S1x32x128.size (k0_pay209 v673)
  let v788 : Vec Ideal S1x128 .f32 ← ld St.s18 (Rect.unit (s := S12x128) ![11, 0] S1x128.size inb_S12x128_S1x128_11_0).toLoadRect
  st St.s12 St.set12 (k0_off49 k0_t3) S1x1x128.size (k0_pay210 v788)
  pure ⟨⟩

theorem fin_eq (k : Fin k0_t3_loop.trips) {b : ℕ} (s : St Ideal) (v652 v673 : FVec Ideal S32x128 .fp8e4m3) (hv652 : CV (Zt E O b) 128 10 v652) (hv673 : CV (Zt E O b) 128 11 v673)
    (h18 : SV (Zt E O b) 128 s.s18) {y0 : S4x96x1024.Idx → EReal} {z0 : S3x4x1024.Idx → EReal} (h11 : Done11 (128 * k.val) (cod (Zt E O b)) y0 s.s11 10) (h12 : Done12 (128 * k.val) (scl (Zt E O b)) z0 s.s12 10) :
    ∃ y z, m_fin k v652 v673 s = ((), { s with s11 := y, s12 := z }) ∧ Done11 (128 * k.val) (cod (Zt E O b)) y0 y 12 ∧ Done12 (128 * k.val) (scl (Zt E O b)) z0 z 12 := by
  have hk := trip_lt k
  unfold m_fin
  dsimp only [bind_apply, pure_apply, ld, st, St.set11, St.set12]
  refine ⟨_, _, rfl, ?_⟩
  simp only [off46, off47, off48, off49]
  refine ⟨?_, ?_⟩
  · exact ((h11.put 3 32 (by omega) (by omega) (by omega) (by omega) _ fun p l hp hl => (pay207 _ p l hp hl).trans (hv652 p l hp hl)).put 3 64 (by omega) (by omega) (by omega) (by omega) _ fun p l hp hl => (pay209 _ p l hp hl).trans (hv673 p l hp hl))
  · exact ((h12.put 1 3 (by omega) (by omega) (by omega) (by omega) _ fun l hl => (pay208 _ 0 l (by omega) hl).trans (h18.row le_rfl 10 (by omega) _ l hl)).put 2 3 (by omega) (by omega) (by omega) (by omega) _ fun l hl => (pay210 _ 0 l (by omega) hl).trans (h18.row le_rfl 11 (by omega) _ l hl))

/-- One tile: 128 more columns of the values, the codes and the scales. -/
theorem t3_step (i : grid0.Coords) (a : BitVec 32) (v : FVec Ideal S128x128 .bf16) (k : Fin k0_t3_loop.trips) (s : St Ideal) (t : Tile E O 128 (128 * k.val + 10) s) :
    ∃ x y z p q r, (m_t3 i a v k () s).2 = { s with s11 := y, s12 := z, s16 := x, s17 := p, s18 := q, s19 := r } ∧
      Done16 128 (128 + 128 * k.val) (act (Zt E O (128 * k.val + 10))) s.s16 x 12 ∧ Done11 (128 * k.val) (cod (Zt E O (128 * k.val + 10))) s.s11 y 12 ∧ Done12 (128 * k.val) (scl (Zt E O (128 * k.val + 10))) s.s12 z 12 := by
  have hk := trip_lt k
  have keep : ∀ p16 p17 p18 p19 p11 p12, Tile E O 128 (128 * k.val + 10) { s with s11 := p11, s12 := p12, s16 := p16, s17 := p17, s18 := p18, s19 := p19 } := fun _ _ _ _ _ _ => ⟨t.hm, t.hb, t.h14, t.h15⟩
  obtain ⟨v68, v95, e6, h95⟩ := part6_eq E O i k s t 0#32 1#32
  obtain ⟨v123, v134, v135, e7, h123, h134⟩ := part7_eq E O i k s t v68 v95 h95
  obtain ⟨v152, v173, x8, e8, z152, q8, h173⟩ := part8_eq E O i k s t v68 v123 v134 v135 h123 h134
  obtain ⟨v204, v208, x9, e9, q9, h204, h208⟩ := part9_eq E O i k { s with s17 := x8 } (keep _ _ _ _ _ _) v68 v173 q8 h173
  obtain ⟨v232, v245, e10, h232, h245⟩ := part10_eq E O i k { s with s17 := x9 } (keep _ _ _ _ _ _) v68 v204 v208 h204 h208
  obtain ⟨v261, v283, x11, e11, z261, q11, h283⟩ := part11_eq E O i k { s with s17 := x9 } (keep _ _ _ _ _ _) v68 v232 v245 q9 h232 h245
  obtain ⟨v313, v318, x12, e12, q12, h313, h318⟩ := part12_eq E O i k { s with s17 := x11 } (keep _ _ _ _ _ _) v68 v283 q11 h283
  obtain ⟨v355, e13, h355⟩ := part13_eq E O i k { s with s17 := x12 } (keep _ _ _ _ _ _) v68 v313 v318 h313 h318
  obtain ⟨v370, v392, x14, e14, z370, q14, h392⟩ := part14_eq E O i k { s with s17 := x12 } (keep _ _ _ _ _ _) v68 v355 q12 h355
  obtain ⟨v422, x15, y15, e15, h422, h18⟩ := part15_eq i le_rfl (Zt E O (128 * k.val + 10)) { s with s17 := x14 } v392 q14 h392
  obtain ⟨⟨v442, v463, v467⟩, x16, y16, e16, h19, d16, c0, c1, a1⟩ := part16_eq i k { s with s17 := x15, s18 := y15 } v68 v152 v422 z152 h422 h18
  obtain ⟨⟨v484, v505, v509⟩, x17, e17, d17, c2, c3, a3⟩ := part17_eq i k { s with s17 := x15, s18 := y15, s16 := x16, s19 := y16 } v68 v152 v463 v467 z152 a1 h18 h19 d16
  obtain ⟨⟨v526, v547, v551⟩, x18, e18, d18, c4, c5, a5⟩ := part18_eq i k { s with s17 := x15, s18 := y15, s16 := x17, s19 := y16 } v68 v261 v505 v509 z261 a3 h18 h19 d17
  obtain ⟨⟨v568, v589, v593⟩, x19, e19, d19, c6, c7, a7⟩ := part19_eq i k { s with s17 := x15, s18 := y15, s16 := x18, s19 := y16 } v68 v261 v547 v551 z261 a5 h18 h19 d18
  obtain ⟨⟨v610, v631, v635⟩, x20, e20, d20, c8, c9, a9⟩ := part20_eq i k { s with s17 := x15, s18 := y15, s16 := x19, s19 := y16 } v68 v370 v589 v593 z370 a7 h18 h19 d19
  obtain ⟨⟨v652, v673, v677⟩, x21, e21, d21, c10, c11, a11⟩ := part21_eq i k { s with s17 := x15, s18 := y15, s16 := x20, s19 := y16 } v68 v370 v631 v635 z370 a9 h18 h19 d20
  obtain ⟨v711, x22, y22, z22, e22, d22, f22, g22, h711⟩ := part22_eq i k { s with s17 := x15, s18 := y15, s16 := x21, s19 := y16 } v68 v442 v463 v484 v673 v677 c0 c1 c2 a11 h18 d21
  obtain ⟨y23, z23, e23, f23, g23⟩ := part23_eq i k { s with s11 := y22, s12 := z22, s17 := x15, s18 := y15, s16 := x22, s19 := y16 } v68 v505 v526 v547 v568 v711 c3 c4 c5 c6 h711 h18 f22 g22
  obtain ⟨y24, z24, e24, f24, g24⟩ := part24_eq i k { s with s11 := y23, s12 := z23, s17 := x15, s18 := y15, s16 := x22, s19 := y16 } v68 v589 v610 v631 c7 c8 c9 h18 f23 g23
  obtain ⟨yf, zf, ef, ff, gf⟩ := fin_eq k { s with s11 := y24, s12 := z24, s17 := x15, s18 := y15, s16 := x22, s19 := y16 } v652 v673 c10 c11 h18 f24 g24
  refine ⟨x22, yf, zf, x15, y15, y16, ?_, d22, ff, gf⟩
  have e : m_t3 i a v k () s = ((), { s with s11 := yf, s12 := zf, s16 := x22, s17 := x15, s18 := y15, s19 := y16 }) := by
    unfold m_t3
    refine bind_eq e6 ?_
    refine bind_eq e7 ?_
    refine bind_eq e8 ?_
    refine bind_eq e9 ?_
    refine bind_eq e10 ?_
    refine bind_eq e11 ?_
    refine bind_eq e12 ?_
    refine bind_eq e13 ?_
    refine bind_eq e14 ?_
    refine bind_eq e15 ?_
    refine bind_eq e16 ?_
    refine bind_eq e17 ?_
    refine bind_eq e18 ?_
    refine bind_eq e19 ?_
    refine bind_eq e20 ?_
    refine bind_eq e21 ?_
    refine bind_eq e22 ?_
    refine bind_eq e23 ?_
    refine bind_eq e24 ?_
    exact ef
  rw [e]

/-- What a column's codes, scales and values are depends only on that column of the filter output. -/
theorem amx_col {Z W : ℕ → ℕ → EReal} {n l : ℕ} (h : ∀ r, Z r n = W r l) (gi : ℕ) : amx Z gi n = amx W gi l := by
  unfold amx pm
  simp only [h]

theorem scl_col {Z W : ℕ → ℕ → EReal} {n l : ℕ} (h : ∀ r, Z r n = W r l) (gi : ℕ) : scl Z gi n = scl W gi l := by
  unfold scl; rw [amx_col h]

theorem cod_col {Z W : ℕ → ℕ → EReal} {n l : ℕ} (h : ∀ r, Z r n = W r l) (r : ℕ) : cod Z r n = cod W r l := by
  unfold cod isc; rw [amx_col h, h]

theorem act_col {Z W : ℕ → ℕ → EReal} {n l : ℕ} (h : ∀ r, Z r n = W r l) (r : ℕ) : act Z r n = act W r l := by
  unfold act; rw [cod_col h, scl_col h]

/-- After `k` tiles: the first `128 * k` columns hold the results for the chunk. -/
structure Cols (k : ℕ) (x0 x : S384x1280.Idx → EReal) (y : S4x96x1024.Idx → EReal) (z : S3x4x1024.Idx → EReal) : Prop where
  old : ∀ r n, r < 384 → n < 128 → g2 (n0 := 384) (n1 := 1280) x r n = g2 (n0 := 384) (n1 := 1280) x0 r n
  val : ∀ r n, r < 384 → n < 128 * k → g2 (n0 := 384) (n1 := 1280) x r (128 + n) = act (Zt E O 10) r n
  cod : ∀ b r n, b < 4 → r < 96 → n < 128 * k → g3 (n0 := 4) (n1 := 96) (n2 := 1024) y b r n = cod (Zt E O 10) (96 * b + r) n
  scl : ∀ g b n, g < 3 → b < 4 → n < 128 * k → g3 (n0 := 3) (n1 := 4) (n2 := 1024) z g b n = scl (Zt E O 10) (3 * b + g) n

theorem t3_loop (i : grid0.Coords) (a : BitVec 32) (v : FVec Ideal S128x128 .bf16) (s : St Ideal)
    (h14 : Rows s.s14 (fun q => q < 1050) fun g q l => E (128 * g + l) q) (h15 : Rows s.s15 (fun q => q < 1050) fun g q l => O (128 * g + l) q) :
    ∃ x y z p q r, (loop (m_t3 i a v) () s).2 = { s with s11 := y, s12 := z, s16 := x, s17 := p, s18 := q, s19 := r } ∧ Cols (E := E) (O := O) 8 s.s16 x y z := by
  have key := loop_inv (m_t3 i a v) (fun k u => ∃ x y z p q r, u = { s with s11 := y, s12 := z, s16 := x, s17 := p, s18 := q, s19 := r } ∧ Cols (E := E) (O := O) k s.s16 x y z) ?_ () s ?_
  · obtain ⟨x, y, z, p, q, r, e, hc⟩ := key
    exact ⟨x, y, z, p, q, r, e, by rw [← trips3]; exact hc⟩
  · rintro k _ u ⟨x, y, z, p, q, r, rfl, hc⟩
    have hk := trip_lt k
    obtain ⟨x', y', z', p', q', r', e, d16, d11, d12⟩ := t3_step (E := E) (O := O) i a v k { s with s11 := y, s12 := z, s16 := x, s17 := p, s18 := q, s19 := r } ⟨le_rfl, by omega, h14, h15⟩
    refine ⟨x', y', z', p', q', r', e, ?_⟩
    have hcol : ∀ n, ∀ r, Zt E O (128 * k.val + 10) r n = Zt E O 10 r (128 * k.val + n) := fun n r => by
      unfold Zt; congr 1; omega
    constructor
    · intro r n hr hn
      exact (d16.old r n hr (by omega) (by omega)).trans (hc.old r n hr hn)
    · intro r n hr hn
      by_cases h : n < 128 * k.val
      · exact (d16.old r _ hr (by omega) (by omega)).trans (hc.val r n hr h)
      · have := d16.new r (n - 128 * k.val) (by omega) (by omega)
        rw [act_col (hcol _), show 128 + 128 * k.val + (n - 128 * k.val) = 128 + n by omega, show 128 * k.val + (n - 128 * k.val) = n by omega] at this
        exact this
    · intro b r n hb hr hn
      by_cases h : n < 128 * k.val
      · exact (d11.old b r _ hb hr (by omega) (by omega)).trans (hc.cod b r n hb hr h)
      · have := d11.new b r (n - 128 * k.val) hb hr (by omega) (by omega)
        rw [cod_col (hcol _), show 128 * k.val + (n - 128 * k.val) = n by omega] at this
        exact this
    · intro g b n hg hb hn
      by_cases h : n < 128 * k.val
      · exact (d12.old g b _ hg hb (by omega) (by omega)).trans (hc.scl g b n hg hb h)
      · have := d12.new g b (n - 128 * k.val) hg hb (by omega) (by omega)
        rw [scl_col (hcol _), show 128 * k.val + (n - 128 * k.val) = n by omega] at this
        exact this
  · exact ⟨s.s16, s.s11, s.s12, s.s17, s.s18, s.s19, rfl, fun _ _ _ _ => rfl, fun _ _ _ h => absurd h (by omega), fun _ _ _ _ _ h => absurd h (by omega), fun _ _ _ _ _ h => absurd h (by omega)⟩

end Cert.KernelIdeal.Val
-- ==== Proof.Value.Taps.lean ====
/-
  The filter's twelve taps, and the matrix of the upsampling product: each tap doubled, in three bfloat16 parts that sum to it
  exactly.
-/
module

public import proofs.«01_k».proof.Proof.Value.Base
public import proofs.«01_k».proof.Proof.KernelIdealState

@[expose] public section

set_option maxRecDepth 16384

noncomputable section

namespace Cert.KernelIdeal.Val

open Idealize.ShloMosaic Cert.Val

/-- The word of tap `k`. -/
def tapBits (k : ℕ) : BitVec 32 := match k with
  | 0 => 0x3B04F869#32
  | 1 => 0x3C19D644#32
  | 2 => 0xBCD14087#32
  | 3 => 0xBD6C2A24#32
  | 4 => 0x3E03A88A#32
  | 5 => 0x3EE2EC65#32
  | 6 => 0x3EE2EC65#32
  | 7 => 0x3E03A88A#32
  | 8 => 0xBD6C2A24#32
  | 9 => 0xBCD14087#32
  | 10 => 0x3C19D644#32
  | 11 => 0x3B04F869#32
  | _ => 0#32

/-- Tap `k`. -/
def fr (k : ℕ) : ℝ := match k with
  | 0 => (8714345 / 4294967296 : ℝ)
  | 1 => (2520465 / 268435456 : ℝ)
  | 2 => (-13713543 / 536870912 : ℝ)
  | 3 => (-3869321 / 67108864 : ℝ)
  | 4 => (4314181 / 33554432 : ℝ)
  | 5 => (14871653 / 33554432 : ℝ)
  | 6 => (14871653 / 33554432 : ℝ)
  | 7 => (4314181 / 33554432 : ℝ)
  | 8 => (-3869321 / 67108864 : ℝ)
  | 9 => (-13713543 / 536870912 : ℝ)
  | 10 => (2520465 / 268435456 : ℝ)
  | 11 => (8714345 / 4294967296 : ℝ)
  | _ => 0

theorem tap_eq (k : ℕ) : Ideal.ofBits .f32 (tapBits k) = (fr k : EReal) := by
  unfold tapBits fr
  split <;> simp [Ideal.ofBits, Ideal.ieee, -EReal.coe_mul, -EReal.coe_neg] <;> norm_num

/-- The word of part 0 of tap `k` doubled. -/
def pb0 (k : ℕ) : BitVec 16 := match k with
  | 0 => 0x3B85#16
  | 1 => 0x3C9A#16
  | 2 => 0xBD51#16
  | 3 => 0xBDEC#16
  | 4 => 0x3E84#16
  | 5 => 0x3F63#16
  | 6 => 0x3F63#16
  | 7 => 0x3E84#16
  | 8 => 0xBDEC#16
  | 9 => 0xBD51#16
  | 10 => 0x3C9A#16
  | 11 => 0x3B85#16
  | _ => 0#16

/-- Part 0 of tap `k` doubled. -/
def pr0 (k : ℕ) : ℝ := match k with
  | 0 => (133 / 32768 : ℝ)
  | 1 => (77 / 4096 : ℝ)
  | 2 => (-209 / 4096 : ℝ)
  | 3 => (-59 / 512 : ℝ)
  | 4 => (33 / 128 : ℝ)
  | 5 => (227 / 256 : ℝ)
  | 6 => (227 / 256 : ℝ)
  | 7 => (33 / 128 : ℝ)
  | 8 => (-59 / 512 : ℝ)
  | 9 => (-209 / 4096 : ℝ)
  | 10 => (77 / 4096 : ℝ)
  | 11 => (133 / 32768 : ℝ)
  | _ => 0

theorem part0_eq (k : ℕ) : Ideal.ofBits .bf16 (pb0 k) = (pr0 k : EReal) := by
  unfold pb0 pr0
  split <;> simp [Ideal.ofBits, Ideal.ieee, -EReal.coe_mul, -EReal.coe_neg] <;> norm_num

/-- The word of part 1 of tap `k` doubled. -/
def pb1 (k : ℕ) : BitVec 16 := match k with
  | 0 => 0xB573#16
  | 1 => 0xB7A7#16
  | 2 => 0xB881#16
  | 3 => 0xB8A9#16
  | 4 => 0xBA2F#16
  | 5 => 0xB99D#16
  | 6 => 0xB99D#16
  | 7 => 0xBA2F#16
  | 8 => 0xB8A9#16
  | 9 => 0xB881#16
  | 10 => 0xB7A7#16
  | 11 => 0xB573#16
  | _ => 0#16

/-- Part 1 of tap `k` doubled. -/
def pr1 (k : ℕ) : ℝ := match k with
  | 0 => (-243 / 268435456 : ℝ)
  | 1 => (-167 / 8388608 : ℝ)
  | 2 => (-129 / 2097152 : ℝ)
  | 3 => (-169 / 2097152 : ℝ)
  | 4 => (-175 / 262144 : ℝ)
  | 5 => (-157 / 524288 : ℝ)
  | 6 => (-157 / 524288 : ℝ)
  | 7 => (-175 / 262144 : ℝ)
  | 8 => (-169 / 2097152 : ℝ)
  | 9 => (-129 / 2097152 : ℝ)
  | 10 => (-167 / 8388608 : ℝ)
  | 11 => (-243 / 268435456 : ℝ)
  | _ => 0

theorem part1_eq (k : ℕ) : Ideal.ofBits .bf16 (pb1 k) = (pr1 k : EReal) := by
  unfold pb1 pr1
  split <;> simp [Ideal.ofBits, Ideal.ieee, -EReal.coe_mul, -EReal.coe_neg] <;> norm_num

/-- The word of part 2 of tap `k` doubled. -/
def pb2 (k : ℕ) : BitVec 16 := match k with
  | 0 => 0x3000#16
  | 1 => 0x3200#16
  | 2 => 0xB2E0#16
  | 3 => 0x3460#16
  | 4 => 0x34A0#16
  | 5 => 0x34A0#16
  | 6 => 0x34A0#16
  | 7 => 0x34A0#16
  | 8 => 0x3460#16
  | 9 => 0xB2E0#16
  | 10 => 0x3200#16
  | 11 => 0x3000#16
  | _ => 0#16

/-- Part 2 of tap `k` doubled. -/
def pr2 (k : ℕ) : ℝ := match k with
  | 0 => (1 / 2147483648 : ℝ)
  | 1 => (1 / 134217728 : ℝ)
  | 2 => (-7 / 268435456 : ℝ)
  | 3 => (7 / 33554432 : ℝ)
  | 4 => (5 / 16777216 : ℝ)
  | 5 => (5 / 16777216 : ℝ)
  | 6 => (5 / 16777216 : ℝ)
  | 7 => (5 / 16777216 : ℝ)
  | 8 => (7 / 33554432 : ℝ)
  | 9 => (-7 / 268435456 : ℝ)
  | 10 => (1 / 134217728 : ℝ)
  | 11 => (1 / 2147483648 : ℝ)
  | _ => 0

theorem part2_eq (k : ℕ) : Ideal.ofBits .bf16 (pb2 k) = (pr2 k : EReal) := by
  unfold pb2 pr2
  split <;> simp [Ideal.ofBits, Ideal.ieee, -EReal.coe_mul, -EReal.coe_neg] <;> norm_num

theorem parts_sum (k : ℕ) : pr0 k + pr1 k + pr2 k = 2 * fr k := by
  unfold pr0 pr1 pr2 fr
  split <;> norm_num

/-- The word of the matrix at row `j` and column `x`: rows 0 to 63 are even outputs, rows 64 to 127 odd ones, and each third of
the columns holds one part. -/
def upPat (j x : ℕ) : BitVec 16 :=
  let pb := fun k => if x < 80 then pb0 k else if x < 160 then pb1 k else pb2 k
  let w := x % 80
  if j < 64 then (if w ≤ j + 5 ∧ j ≤ w then pb (2 * (j + 5 - w) + 1) else 0)
  else (if w ≤ j - 64 + 6 ∧ j - 64 + 1 ≤ w then pb (2 * (j - 64 + 6 - w)) else 0)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem ofBits_zero16 : Ideal.ofBits .bf16 0#16 = ((0 : ℝ) : EReal) := by simp [Ideal.ofBits, Ideal.ieee]

/-- The word in column `x` for tap `k`. -/
def part (x k : ℕ) : BitVec 16 := if x < 80 then pb0 k else if x < 160 then pb1 k else pb2 k

/-- The part in column `x` for tap `k`. -/
def partR (x k : ℕ) : ℝ := if x < 80 then pr0 k else if x < 160 then pr1 k else pr2 k

theorem part_eq (x k : ℕ) : Ideal.ofBits .bf16 (part x k) = (partR x k : EReal) := by
  unfold part partR
  split_ifs
  · exact part0_eq _
  · exact part1_eq _
  · exact part2_eq _

/-- Column `x` of a band from `a + b - 5` to `a + b`. -/
def bandR (a b c x : ℕ) : ℝ := if x % 80 ≤ a + b ∧ a + (b - 5) ≤ x % 80 then partR x (2 * (a + b - x % 80) + c) else 0

theorem band_third (W : ℕ → ℝ) (a b c w : ℕ) (hw : w < 80) :
    bandR a b c w * W (w % 80) + (bandR a b c (80 + w) * W ((80 + w) % 80) + bandR a b c (80 + (80 + w)) * W ((80 + (80 + w)) % 80)) =
      if w ∈ Finset.Ico (a + (b - 5)) (a + b + 1) then 2 * fr (2 * (a + b - w) + c) * W w else 0 := by
  have e0 : w % 80 = w := Nat.mod_eq_of_lt hw
  have e1 : (80 + w) % 80 = w := by omega
  have e2 : (80 + (80 + w)) % 80 = w := by omega
  unfold bandR
  rw [e0, e1, e2]
  by_cases h : w ≤ a + b ∧ a + (b - 5) ≤ w
  · rw [if_pos h, if_pos h, if_pos h, if_pos (by rw [Finset.mem_Ico]; omega), ← parts_sum]
    unfold partR
    rw [if_pos hw, if_neg (by omega : ¬ 80 + w < 80), if_pos (by omega : 80 + w < 160), if_neg (by omega : ¬ 80 + (80 + w) < 80),
      if_neg (by omega : ¬ 80 + (80 + w) < 160)]
    generalize pr0 _ = x0
    generalize pr1 _ = x1
    generalize pr2 _ = x2
    ring
  · rw [if_neg h, if_neg h, if_neg h, if_neg (by rw [Finset.mem_Ico]; omega)]; ring

/-- Row `a` of the product, for an even (`b = 5`, `c = 1`) or odd output. -/
theorem band_sum (W : ℕ → ℝ) (a b c : ℕ) (hb : a + b < 80) (hb5 : 5 ≤ b) (pat : ℕ → BitVec 16)
    (hp : ∀ x, x < 240 → pat x = if x % 80 ≤ a + b ∧ a + (b - 5) ≤ x % 80 then part x (2 * (a + b - x % 80) + c) else 0) :
    ∑ x : Fin 240, Ideal.ofBits .bf16 (pat x.val) * ((W (x.val % 80) : ℝ) : EReal) =
      ((2 * ∑ i ∈ Finset.range 6, fr (2 * i + c) * W (a + b - i) : ℝ) : EReal) := by
  have h1 : ∀ x : Fin 240, Ideal.ofBits .bf16 (pat x.val) * ((W (x.val % 80) : ℝ) : EReal) =
      ((bandR a b c x.val * W (x.val % 80) : ℝ) : EReal) := by
    intro x
    rw [hp _ x.isLt, EReal.coe_mul]
    congr 1
    unfold bandR
    split_ifs
    · exact part_eq _ _
    · exact ofBits_zero16
  rw [Finset.sum_congr rfl fun x _ => h1 x, ← coe_sum]
  apply congrArg
  rw [Fin.sum_univ_eq_sum_range (fun x => bandR a b c x * W (x % 80)) 240,
    show 240 = 80 + (80 + 80) from rfl, Finset.sum_range_add, Finset.sum_range_add, ← Finset.sum_add_distrib, ← Finset.sum_add_distrib]
  rw [Finset.sum_congr rfl fun w hw => band_third W a b c w (Finset.mem_range.mp hw), Finset.sum_ite_mem, Finset.inter_eq_right.mpr,
    Finset.sum_Ico_eq_sum_range, show a + b + 1 - (a + (b - 5)) = 6 by omega, ← Finset.sum_range_reflect, Finset.mul_sum]
  · refine Finset.sum_congr rfl fun i hi => ?_
    rw [Finset.mem_range] at hi
    have e1 : a + (b - 5) + (6 - 1 - i) = a + b - i := by omega
    have e2 : a + b - (a + b - i) = i := by omega
    rw [e1, e2]
    generalize fr _ = y
    ring
  · intro w hw
    rw [Finset.mem_Ico] at hw; rw [Finset.mem_range]; omega

theorem even_sum (W : ℕ → ℝ) (j : ℕ) (hj : j < 64) :
    ∑ x : Fin 240, Ideal.ofBits .bf16 (upPat j x.val) * ((W (x.val % 80) : ℝ) : EReal) =
      ((2 * ∑ i ∈ Finset.range 6, fr (2 * i + 1) * W (j + 5 - i) : ℝ) : EReal) :=
  band_sum W j 5 1 (by omega) (by omega) (upPat j) fun x _ => by unfold upPat; rw [if_pos hj]; rfl

theorem odd_sum (W : ℕ → ℝ) (j : ℕ) (hj : j < 64) :
    ∑ x : Fin 240, Ideal.ofBits .bf16 (upPat (64 + j) x.val) * ((W (x.val % 80) : ℝ) : EReal) =
      ((2 * ∑ i ∈ Finset.range 6, fr (2 * i) * W (j + 6 - i) : ℝ) : EReal) :=
  band_sum W j 6 0 (by omega) (by omega) (upPat (64 + j)) fun x _ => by
    unfold upPat; rw [if_neg (by omega), show 64 + j - 64 = j by omega]; rfl

end Cert.KernelIdeal.Val
-- ==== Proof.Value.Up.lean ====
/-
  The snake function, and the upsampled and activated signal that a trip of the upsampling loop stores.
-/
module

public import proofs.«01_k».proof.Proof.Value.Rows
public import proofs.«01_k».proof.Proof.Value.Taps

@[expose] public section

set_option maxRecDepth 16384
set_option maxHeartbeats 400000

noncomputable section

namespace Cert.KernelIdeal.Val

open Idealize.ShloMosaic Cert.Sem Cert.Val Cert.KernelIdeal.Gen Cert.KernelIdeal.Run

/-- The square of a fraction of a turn, less its nearest integer. -/
def turn (t : EReal) : EReal := (t - Ideal.liftRound Ideal.roundHalfEven t) * (t - Ideal.liftRound Ideal.roundHalfEven t)

/-- The polynomial of the squared sine. -/
def poly (q : EReal) : EReal :=
  q * (Ideal.ofBits .f32 0xC1AF79BD#32 + q * (Ideal.ofBits .f32 0x41905232#32 + q * (Ideal.ofBits .f32 0xC0BDBCFE#32 + q)))

/-- The snake of `u` at frequency `f` and gain `g`. -/
def snk (u f g : EReal) : EReal := u + g * (poly (turn (u * f)) * (poly (turn (u * f)) - Ideal.ofBits .f32 0xC10E3C31#32))

/-- The upsampling product, in group `g`. -/
theorem pay4 (v0 v1 v2 : Vec Ideal S1x80x128 .bf16) (up : Vec Ideal S128x240 .bf16) (W : ℕ → ℕ → ℕ → EReal) (g : ℕ) (hg : g < 3)
    (h0 : ∀ w l, w < 80 → l < 128 → g3 v0 0 w l = W 0 w l)
    (h1 : ∀ w l, w < 80 → l < 128 → g3 v1 0 w l = W 1 w l)
    (h2 : ∀ w l, w < 80 → l < 128 → g3 v2 0 w l = W 2 w l)
    (hup : ∀ j x, j < 128 → x < 240 → g2 up j x = Ideal.ofBits .bf16 (upPat j x)) (j l : ℕ) (hj : j < 128) (hl : l < 128) :
    g2 (k0_pay4 v0 v1 v2 up) j (128 * g + l) = ∑ x : Fin 240, Ideal.ofBits .bf16 (upPat j x.val) * W g (x.val % 80) l := by
  refine (g2_eq (k0_pay4 v0 v1 v2 up) ⟨j, hj⟩ ⟨128 * g + l, by omega⟩).symm.trans ?_
  pointwise [k0_pay4]
  simp only [g2_eq, g3_eq]
  refine Finset.sum_congr rfl fun x _ => ?_
  rw [hup j x.val hj x.isLt]
  congr 1
  have hx := x.isLt
  obtain rfl | rfl | rfl : g = 0 ∨ g = 1 ∨ g = 2 := by omega
  · simp only [dif_pos (show 128 * 0 + l < 128 by omega)]
    have e : 128 * 0 + l = l := by omega
    split_ifs
    · rw [e]; refine (h0 _ _ (by omega) hl).trans ?_; rw [Nat.mod_eq_of_lt (by omega)]
    · rw [e]; refine (h0 _ _ (by omega) hl).trans ?_; rw [show x.val % 80 = x.val - 80 by omega]
    · rw [e]; refine (h0 _ _ (by omega) hl).trans ?_; rw [show x.val % 80 = x.val - 80 - 80 by omega]
  · simp only [dif_neg (show ¬ 128 * 1 + l < 128 by omega), dif_pos (show 128 * 1 + l - 128 < 128 by omega)]
    have e : 128 * 1 + l - 128 = l := by omega
    split_ifs
    · rw [e]; refine (h1 _ _ (by omega) hl).trans ?_; rw [Nat.mod_eq_of_lt (by omega)]
    · rw [e]; refine (h1 _ _ (by omega) hl).trans ?_; rw [show x.val % 80 = x.val - 80 by omega]
    · rw [e]; refine (h1 _ _ (by omega) hl).trans ?_; rw [show x.val % 80 = x.val - 80 - 80 by omega]
  · simp only [dif_neg (show ¬ 128 * 2 + l < 128 by omega), dif_neg (show ¬ 128 * 2 + l - 128 < 128 by omega)]
    have e : 128 * 2 + l - 128 - 128 = l := by omega
    split_ifs
    · rw [e]; refine (h2 _ _ (by omega) hl).trans ?_; rw [Nat.mod_eq_of_lt (by omega)]
    · rw [e]; refine (h2 _ _ (by omega) hl).trans ?_; rw [show x.val % 80 = x.val - 80 by omega]
    · rw [e]; refine (h2 _ _ (by omega) hl).trans ?_; rw [show x.val % 80 = x.val - 80 - 80 by omega]

theorem pay8 (v71 v75 v79 : Vec Ideal S1x80x128 .bf16) (v82 : Vec Ideal S128x240 .bf16) (vf vg : Vec Ideal S1x128 .f32) (j l : ℕ) (hj : j < 64) (hl : l < 128) :
    g3 (k0_pay8 (k0_pay5 v71 v75 v79 v82) (k0_pay6 v71 v75 v79 v82 vf) vg) 0 j l = snk (g2 (k0_pay4 v71 v75 v79 v82) (0 + j) l) (g2 vf 0 l) (g2 vg 0 l) := by
  refine (g3_eq (k0_pay8 (k0_pay5 v71 v75 v79 v82) (k0_pay6 v71 v75 v79 v82 vf) vg) 0 ⟨j, hj⟩ ⟨l, hl⟩).symm.trans ?_
  have h5 : ∀ i : Fin 128, k0_pay5 v71 v75 v79 v82 (ix2 i ⟨l, hl⟩) = g2 (k0_pay4 v71 v75 v79 v82) i.val l := by
    intro i
    unfold k0_pay5
    generalize k0_pay4 v71 v75 v79 v82 = v
    pointwise
    exact g2_eq v ⟨i.val, _⟩ ⟨l, _⟩
  have h6 : ∀ i : Fin 128, k0_pay6 v71 v75 v79 v82 vf (ix2 i ⟨l, hl⟩) = poly (turn (g2 (k0_pay4 v71 v75 v79 v82) i.val l * g2 vf 0 l)) := by
    intro i
    rw [← h5]
    unfold k0_pay6
    generalize k0_pay5 v71 v75 v79 v82 = v
    pointwise
    have e : vf (ix2 0 ⟨l, hl⟩) = g2 vf 0 l := g2_eq vf 0 ⟨l, hl⟩
    simp only [poly, turn, e]
  generalize k0_pay6 v71 v75 v79 v82 vf = v6 at *
  generalize k0_pay5 v71 v75 v79 v82 = v5 at *
  pointwise [k0_pay8, k0_pay7]
  simp only [h5, h6]
  simp only [snk, g2_eq]
  try rfl

theorem pay9 (v71 v75 v79 : Vec Ideal S1x80x128 .bf16) (v82 : Vec Ideal S128x240 .bf16) (vf vg : Vec Ideal S1x128 .f32) (j l : ℕ) (hj : j < 64) (hl : l < 128) :
    g3 (k0_pay9 (k0_pay5 v71 v75 v79 v82) (k0_pay6 v71 v75 v79 v82 vf) vg) 0 j l = snk (g2 (k0_pay4 v71 v75 v79 v82) (64 + j) l) (g2 vf 0 l) (g2 vg 0 l) := by
  refine (g3_eq (k0_pay9 (k0_pay5 v71 v75 v79 v82) (k0_pay6 v71 v75 v79 v82 vf) vg) 0 ⟨j, hj⟩ ⟨l, hl⟩).symm.trans ?_
  have h5 : ∀ i : Fin 128, k0_pay5 v71 v75 v79 v82 (ix2 i ⟨l, hl⟩) = g2 (k0_pay4 v71 v75 v79 v82) i.val l := by
    intro i
    unfold k0_pay5
    generalize k0_pay4 v71 v75 v79 v82 = v
    pointwise
    exact g2_eq v ⟨i.val, _⟩ ⟨l, _⟩
  have h6 : ∀ i : Fin 128, k0_pay6 v71 v75 v79 v82 vf (ix2 i ⟨l, hl⟩) = poly (turn (g2 (k0_pay4 v71 v75 v79 v82) i.val l * g2 vf 0 l)) := by
    intro i
    rw [← h5]
    unfold k0_pay6
    generalize k0_pay5 v71 v75 v79 v82 = v
    pointwise
    have e : vf (ix2 0 ⟨l, hl⟩) = g2 vf 0 l := g2_eq vf 0 ⟨l, hl⟩
    simp only [poly, turn, e]
  generalize k0_pay6 v71 v75 v79 v82 vf = v6 at *
  generalize k0_pay5 v71 v75 v79 v82 = v5 at *
  pointwise [k0_pay9, k0_pay7]
  simp only [h5, h6]
  simp only [snk, g2_eq]
  try rfl

theorem pay12 (v84 : FVec Ideal S128x384 .f32) (vf vg : Vec Ideal S1x128 .f32) (j l : ℕ) (hj : j < 64) (hl : l < 128) :
    g3 (k0_pay12 (k0_pay11 v84 vf vg)) 0 j l = snk (g2 v84 (0 + j) (128 + l)) (g2 vf 0 l) (g2 vg 0 l) := by
  refine (g3_eq (k0_pay12 (k0_pay11 v84 vf vg)) 0 ⟨j, hj⟩ ⟨l, hl⟩).symm.trans ?_
  pointwise [k0_pay12, k0_pay11, k0_pay10]
  simp only [g2_eq, g3_eq]
  simp only [snk, poly, turn]
  try rfl

theorem pay13 (v84 : FVec Ideal S128x384 .f32) (vf vg : Vec Ideal S1x128 .f32) (j l : ℕ) (hj : j < 64) (hl : l < 128) :
    g3 (k0_pay13 (k0_pay10 v84 vf vg)) 0 j l = snk (g2 v84 (64 + j) (128 + l)) (g2 vf 0 l) (g2 vg 0 l) := by
  refine (g3_eq (k0_pay13 (k0_pay10 v84 vf vg)) 0 ⟨j, hj⟩ ⟨l, hl⟩).symm.trans ?_
  pointwise [k0_pay13, k0_pay10]
  simp only [g2_eq, g3_eq]
  simp only [snk, poly, turn]
  try rfl

theorem pay15 (v84 : FVec Ideal S128x384 .f32) (vf vg : Vec Ideal S1x128 .f32) (j l : ℕ) (hj : j < 64) (hl : l < 128) :
    g3 (k0_pay15 v84 vf vg) 0 j l = snk (g2 v84 (0 + j) (256 + l)) (g2 vf 0 l) (g2 vg 0 l) := by
  refine (g3_eq (k0_pay15 v84 vf vg) 0 ⟨j, hj⟩ ⟨l, hl⟩).symm.trans ?_
  pointwise [k0_pay15, k0_pay14]
  simp only [g2_eq, g3_eq]
  simp only [snk, poly, turn]
  try rfl

theorem pay202 (v84 : FVec Ideal S128x384 .f32) (vf vg : Vec Ideal S1x128 .f32) (j l : ℕ) (hj : j < 64) (hl : l < 128) :
    g3 (k0_pay202 (k0_pay16 v84 vf vg)) 0 j l = snk (g2 v84 (64 + j) (256 + l)) (g2 vf 0 l) (g2 vg 0 l) := by
  refine (g3_eq (k0_pay202 (k0_pay16 v84 vf vg)) 0 ⟨j, hj⟩ ⟨l, hl⟩).symm.trans ?_
  pointwise [k0_pay202, k0_pay16, k0_pay14]
  simp only [g2_eq, g3_eq]
  simp only [snk, poly, turn]
  try rfl

/-- An even output of the upsampling product, when only the six window entries it meets are known. -/
theorem even_sum' (V : ℕ → EReal) (W : ℕ → ℝ) (j : ℕ) (hj : j < 64) (h : ∀ w, j ≤ w → w ≤ j + 5 → V w = ((W w : ℝ) : EReal)) :
    ∑ x : Fin 240, Ideal.ofBits .bf16 (upPat j x.val) * V (x.val % 80) =
      ((2 * ∑ i ∈ Finset.range 6, fr (2 * i + 1) * W (j + 5 - i) : ℝ) : EReal) := by
  refine Eq.trans (Finset.sum_congr rfl fun x _ => ?_) (even_sum W j hj)
  by_cases hx : x.val % 80 ≤ j + 5 ∧ j ≤ x.val % 80
  · rw [h _ hx.2 hx.1]
  · have e : upPat j x.val = 0#16 := by unfold upPat; rw [if_pos hj]; exact if_neg hx
    rw [e, ofBits_zero16, EReal.coe_zero, zero_mul, zero_mul]

/-- An odd output of the upsampling product, when only the six window entries it meets are known. -/
theorem odd_sum' (V : ℕ → EReal) (W : ℕ → ℝ) (j : ℕ) (hj : j < 64) (h : ∀ w, j + 1 ≤ w → w ≤ j + 6 → V w = ((W w : ℝ) : EReal)) :
    ∑ x : Fin 240, Ideal.ofBits .bf16 (upPat (64 + j) x.val) * V (x.val % 80) =
      ((2 * ∑ i ∈ Finset.range 6, fr (2 * i) * W (j + 6 - i) : ℝ) : EReal) := by
  refine Eq.trans (Finset.sum_congr rfl fun x _ => ?_) (odd_sum W j hj)
  by_cases hx : x.val % 80 ≤ j + 6 ∧ j + 1 ≤ x.val % 80
  · rw [h _ hx.2 hx.1]
  · have e : upPat (64 + j) x.val = 0#16 := by
      unfold upPat; rw [if_neg (by omega), show 64 + j - 64 = j by omega]; exact if_neg hx
    rw [e, ofBits_zero16, EReal.coe_zero, zero_mul, zero_mul]

end Cert.KernelIdeal.Val
-- ==== Proof.Value.Up2.lean ====
/-
  The upsampling loop: every row of the two phase buffers holds the activated signal.
-/
module

public import proofs.«01_k».proof.Proof.Value.Up

@[expose] public section

set_option maxRecDepth 16384
set_option maxHeartbeats 400000

noncomputable section

namespace Cert.KernelIdeal.Val

open Idealize.ShloMosaic Cert.Sem Cert.Val Cert.KernelIdeal.Gen Cert.KernelIdeal.Run

/-- Store 64 rows from row `c` in each group, of which only those in `Q` are known. -/
theorem Rows.putQ {x : S3x1280x128.Idx → EReal} {P : ℕ → Prop} {G : ℕ → ℕ → ℕ → EReal} (h : Rows x P G) {m : ℕ} [NeZero m] (c : ℕ) (Q : ℕ → Prop)
    (w0 w1 w2 : (⟨3, ![1, m, 128]⟩ : Shape).Idx → EReal) (hc : c + m ≤ 1280)
    (h0 : ∀ p l, p < m → l < 128 → Q (c + p) → g3 w0 0 p l = G 0 (c + p) l)
    (h1 : ∀ p l, p < m → l < 128 → Q (c + p) → g3 w1 0 p l = G 1 (c + p) l)
    (h2 : ∀ p l, p < m → l < 128 → Q (c + p) → g3 w2 0 p l = G 2 (c + p) l) :
    Rows (VecWindow.put (s := S3x1280x128) (VecWindow.put (s := S3x1280x128) (VecWindow.put (s := S3x1280x128) x ![0, c, 0] ![1, m, 128] w0)
      ![1, c, 0] ![1, m, 128] w1) ![2, c, 0] ![1, m, 128] w2) (fun p => Q p ∧ (P p ∨ c ≤ p ∧ p < c + m)) G := by
  classical
  let G' : ℕ → ℕ → ℕ → EReal := fun g p l => if Q p then G g p l else
    if g = 0 then g3 w0 0 (p - c) l else if g = 1 then g3 w1 0 (p - c) l else g3 w2 0 (p - c) l
  have hx : Rows x (fun p => Q p ∧ P p) G' := by
    intro g p l hg hp hl hq
    simp only [G', if_pos hq.1]
    exact h g p l hg hp hl hq.2
  have := hx.put c w0 w1 w2 hc (fun p l hp hl => ?_) (fun p l hp hl => ?_) (fun p l hp hl => ?_)
  · intro g p l hg hp hl hq
    refine (this g p l hg hp hl (by tauto)).trans ?_
    simp only [G', if_pos hq.1]
  · simp only [G', if_true, if_neg one_ne_zero, if_neg two_ne_zero, if_neg (show ¬ (2:ℕ) = 1 by omega)]
    split_ifs with hq
    · exact h0 p l hp hl hq
    · simp
  · simp only [G', if_true, if_neg one_ne_zero, if_neg two_ne_zero, if_neg (show ¬ (2:ℕ) = 1 by omega)]
    split_ifs with hq
    · exact h1 p l hp hl hq
    · simp
  · simp only [G', if_true, if_neg one_ne_zero, if_neg two_ne_zero, if_neg (show ¬ (2:ℕ) = 1 by omega)]
    split_ifs with hq
    · exact h2 p l hp hl hq
    · simp

variable (xr : ℕ → ℕ → ℝ) (fq gn : ℕ → EReal)

/-- The activated signal of row `r`, even phase, at position `q`. -/
def se (r q : ℕ) : EReal := snk ((2 * ∑ i ∈ Finset.range 6, fr (2 * i + 1) * xr r (q + 117 - i) : ℝ) : EReal) (fq r) (gn r)

/-- The activated signal of row `r`, odd phase, at position `q`. -/
def so (r q : ℕ) : EReal := snk ((2 * ∑ i ∈ Finset.range 6, fr (2 * i) * xr r (q + 118 - i) : ℝ) : EReal) (fq r) (gn r)

/-- The upsampling matrix and the two rows of factors are in place. -/
structure Consts (s : St Ideal) : Prop where
  up : ∀ j x, j < 128 → x < 240 → g2 s.s4 j x = Ideal.ofBits .bf16 (upPat j x)
  freq : ∀ c, c < 384 → g2 s.s5 0 c = fq c
  gain : ∀ c, c < 384 → g2 s.s6 0 c = gn c

theorem off5 : ∀ k : Fin k0_t2_loop.trips, k0_off5 k = ![0, 112 + 64 * k.val, 0] := by decide +kernel
theorem off6 : ∀ k : Fin k0_t2_loop.trips, k0_off6 k = ![1, 112 + 64 * k.val, 0] := by decide +kernel
theorem off7 : ∀ k : Fin k0_t2_loop.trips, k0_off7 k = ![2, 112 + 64 * k.val, 0] := by decide +kernel
theorem off8 : ∀ k : Fin k0_t2_loop.trips, k0_off8 k = ![0, 64 * k.val, 0] := by decide +kernel
theorem off9 : ∀ k : Fin k0_t2_loop.trips, k0_off9 k = ![1, 64 * k.val, 0] := by decide +kernel
theorem off10 : ∀ k : Fin k0_t2_loop.trips, k0_off10 k = ![2, 64 * k.val, 0] := by decide +kernel
theorem trips2 : k0_t2_loop.trips = 17 := by decide +kernel

/-- One trip of the upsampling loop. -/
theorem t2_step (i : grid0.Coords) (a : BitVec 32) (v : FVec Ideal S128x128 .bf16) (k : Fin k0_t2_loop.trips) (u : Unit) (s : St Ideal)
    (P : ℕ → Prop) (hc : Consts fq gn s)
    (h13 : Rows s.s13 (fun p => 112 ≤ p ∧ p < 1168) fun g p l => ((xr (128 * g + l) p : ℝ) : EReal))
    (h14 : Rows s.s14 P fun g q l => se xr fq gn (128 * g + l) q) (h15 : Rows s.s15 P fun g q l => so xr fq gn (128 * g + l) q) :
    ∃ x y, (m_t2 i a v k u s).2 = { s with s14 := x, s15 := y } ∧
      Rows x (fun q => q < 1050 ∧ (P q ∨ 64 * k.val ≤ q ∧ q < 64 * k.val + 64)) (fun g q l => se xr fq gn (128 * g + l) q) ∧
      Rows y (fun q => q < 1050 ∧ (P q ∨ 64 * k.val ≤ q ∧ q < 64 * k.val + 64)) (fun g q l => so xr fq gn (128 * g + l) q) := by
  have hk : k.val < 17 := lt_of_lt_of_eq k.isLt trips2
  unfold m_t2 m_part1 m_part2 m_part3
  dsimp only [bind_apply, pure_apply, ld, st, St.set14, St.set15]
  refine ⟨_, _, rfl, ?_⟩
  simp only [off8, off9, off10]
  have r0 : ∀ w l, w < 80 → l < 128 → g3 (n0 := 1) (n1 := 80) (n2 := 128) (rd s.s13 (Rect.unit (s := S3x1280x128) (k0_off5 k) S1x80x128.size (k0_off5_inb k)).toLoadRect) 0 w l =
      (fun g w l => g3 s.s13 g (112 + 64 * k.val + w) l) 0 w l := by
    intro w l hw hl
    rw [g3_rd' _ _ _ _ _ (off5 k) _ _ _ _ (by omega) (by omega) (by omega) (by omega) (by omega) (by omega)]
    simp only [Nat.zero_add, Nat.add_zero]
  have r1 : ∀ w l, w < 80 → l < 128 → g3 (n0 := 1) (n1 := 80) (n2 := 128) (rd s.s13 (Rect.unit (s := S3x1280x128) (k0_off6 k) S1x80x128.size (k0_off6_inb k)).toLoadRect) 0 w l =
      (fun g w l => g3 s.s13 g (112 + 64 * k.val + w) l) 1 w l := by
    intro w l hw hl
    rw [g3_rd' _ _ _ _ _ (off6 k) _ _ _ _ (by omega) (by omega) (by omega) (by omega) (by omega) (by omega)]
    simp only [Nat.zero_add, Nat.add_zero]
  have r2 : ∀ w l, w < 80 → l < 128 → g3 (n0 := 1) (n1 := 80) (n2 := 128) (rd s.s13 (Rect.unit (s := S3x1280x128) (k0_off7 k) S1x80x128.size (k0_off7_inb k)).toLoadRect) 0 w l =
      (fun g w l => g3 s.s13 g (112 + 64 * k.val + w) l) 2 w l := by
    intro w l hw hl
    rw [g3_rd' _ _ _ _ _ (off7 k) _ _ _ _ (by omega) (by omega) (by omega) (by omega) (by omega) (by omega)]
    simp only [Nat.zero_add, Nat.add_zero]
  have rup : ∀ j x, j < 128 → x < 240 → g2 (n0 := 128) (n1 := 240) (rd s.s4 (Rect.unit (s := S128x240) ![0, 0] S128x240.size inb_S128x240_S128x240_0_0).toLoadRect) j x = Ideal.ofBits .bf16 (upPat j x) := by
    intro j x hj hx
    rw [g2_rd _ _ _ _ _ _ (by omega) (by omega) (by omega) (by omega), Nat.zero_add, Nat.zero_add]
    exact hc.up j x hj hx
  have f0 : ∀ l, l < 128 → g2 (n0 := 1) (n1 := 128) (rd s.s5 (Rect.unit (s := S1x384) ![0, 0] S1x128.size inb_S1x384_S1x128_0_0).toLoadRect) 0 l = fq (128 * 0 + l) := by
    intro l hl
    rw [g2_rd _ _ _ _ _ _ (by omega) (by omega) (by omega) (by omega)]
    exact hc.freq _ (by omega)
  have n0 : ∀ l, l < 128 → g2 (n0 := 1) (n1 := 128) (rd s.s6 (Rect.unit (s := S1x384) ![0, 0] S1x128.size inb_S1x384_S1x128_0_0).toLoadRect) 0 l = gn (128 * 0 + l) := by
    intro l hl
    rw [g2_rd _ _ _ _ _ _ (by omega) (by omega) (by omega) (by omega)]
    exact hc.gain _ (by omega)
  have f1 : ∀ l, l < 128 → g2 (n0 := 1) (n1 := 128) (rd s.s5 (Rect.unit (s := S1x384) ![0, 128] S1x128.size inb_S1x384_S1x128_0_128).toLoadRect) 0 l = fq (128 * 1 + l) := by
    intro l hl
    rw [g2_rd _ _ _ _ _ _ (by omega) (by omega) (by omega) (by omega)]
    exact hc.freq _ (by omega)
  have n1 : ∀ l, l < 128 → g2 (n0 := 1) (n1 := 128) (rd s.s6 (Rect.unit (s := S1x384) ![0, 128] S1x128.size inb_S1x384_S1x128_0_128).toLoadRect) 0 l = gn (128 * 1 + l) := by
    intro l hl
    rw [g2_rd _ _ _ _ _ _ (by omega) (by omega) (by omega) (by omega)]
    exact hc.gain _ (by omega)
  have f2 : ∀ l, l < 128 → g2 (n0 := 1) (n1 := 128) (rd s.s5 (Rect.unit (s := S1x384) ![0, 256] S1x128.size inb_S1x384_S1x128_0_256).toLoadRect) 0 l = fq (128 * 2 + l) := by
    intro l hl
    rw [g2_rd _ _ _ _ _ _ (by omega) (by omega) (by omega) (by omega)]
    exact hc.freq _ (by omega)
  have n2 : ∀ l, l < 128 → g2 (n0 := 1) (n1 := 128) (rd s.s6 (Rect.unit (s := S1x384) ![0, 256] S1x128.size inb_S1x384_S1x128_0_256).toLoadRect) 0 l = gn (128 * 2 + l) := by
    intro l hl
    rw [g2_rd _ _ _ _ _ _ (by omega) (by omega) (by omega) (by omega)]
    exact hc.gain _ (by omega)
  have E := fun g (hg : g < 3) j l (hj : j < 64) (hl : l < 128) (hq : 64 * k.val + j < 1050) =>
    (pay4 _ _ _ _ (fun g w l => g3 s.s13 g (112 + 64 * k.val + w) l) g hg r0 r1 r2 rup j l (by omega) hl).trans
      (even_sum' (fun w => g3 s.s13 g (112 + 64 * k.val + w) l) (fun w => xr (128 * g + l) (112 + 64 * k.val + w)) j hj
        fun w h1 h2 => h13 g _ l hg (by omega) hl (by omega))
  have O := fun g (hg : g < 3) j l (hj : j < 64) (hl : l < 128) (hq : 64 * k.val + j < 1050) =>
    (pay4 _ _ _ _ (fun g w l => g3 s.s13 g (112 + 64 * k.val + w) l) g hg r0 r1 r2 rup (64 + j) l (by omega) hl).trans
      (odd_sum' (fun w => g3 s.s13 g (112 + 64 * k.val + w) l) (fun w => xr (128 * g + l) (112 + 64 * k.val + w)) j hj
        fun w h1 h2 => h13 g _ l hg (by omega) hl (by omega))
  have eE : ∀ r j, (2 * ∑ i ∈ Finset.range 6, fr (2 * i + 1) * xr r (112 + 64 * k.val + (j + 5 - i)) : ℝ) = 2 * ∑ i ∈ Finset.range 6, fr (2 * i + 1) * xr r (64 * k.val + j + 117 - i) := by
    intro r j
    congr 1
    refine Finset.sum_congr rfl fun i hi => ?_
    rw [Finset.mem_range] at hi
    rw [show 112 + 64 * k.val + (j + 5 - i) = 64 * k.val + j + 117 - i by omega]
  have eO : ∀ r j, (2 * ∑ i ∈ Finset.range 6, fr (2 * i) * xr r (112 + 64 * k.val + (j + 6 - i)) : ℝ) = 2 * ∑ i ∈ Finset.range 6, fr (2 * i) * xr r (64 * k.val + j + 118 - i) := by
    intro r j
    congr 1
    refine Finset.sum_congr rfl fun i hi => ?_
    rw [Finset.mem_range] at hi
    rw [show 112 + 64 * k.val + (j + 6 - i) = 64 * k.val + j + 118 - i by omega]
  simp only [eE] at E
  simp only [eO] at O
  clear eE eO r0 r1 r2 rup
  refine ⟨h14.putQ _ (fun q => q < 1050) _ _ _ (by omega) (fun p l hp hl hq => ?_) (fun p l hp hl hq => ?_) (fun p l hp hl hq => ?_),
    h15.putQ _ (fun q => q < 1050) _ _ _ (by omega) (fun p l hp hl hq => ?_) (fun p l hp hl hq => ?_) (fun p l hp hl hq => ?_)⟩
  · refine (pay8 _ _ _ _ _ _ p l hp hl).trans ?_
    rw [f0 l hl, n0 l hl]
    refine congrArg (fun z => snk z (fq (128 * 0 + l)) (gn (128 * 0 + l))) ?_
    refine Eq.trans ?_ (E 0 (by omega) p l hp hl hq)
    congr 1 <;> omega
  · refine (pay12 _ _ _ p l hp hl).trans ?_
    rw [f1 l hl, n1 l hl]
    refine congrArg (fun z => snk z (fq (128 * 1 + l)) (gn (128 * 1 + l))) ?_
    refine Eq.trans ?_ (E 1 (by omega) p l hp hl hq)
    congr 1 <;> omega
  · refine (pay15 _ _ _ p l hp hl).trans ?_
    rw [f2 l hl, n2 l hl]
    refine congrArg (fun z => snk z (fq (128 * 2 + l)) (gn (128 * 2 + l))) ?_
    refine Eq.trans ?_ (E 2 (by omega) p l hp hl hq)
    congr 1 <;> omega
  · refine (pay9 _ _ _ _ _ _ p l hp hl).trans ?_
    rw [f0 l hl, n0 l hl]
    refine congrArg (fun z => snk z (fq (128 * 0 + l)) (gn (128 * 0 + l))) ?_
    refine Eq.trans ?_ (O 0 (by omega) p l hp hl hq)
    congr 1 <;> omega
  · refine (pay13 _ _ _ p l hp hl).trans ?_
    rw [f1 l hl, n1 l hl]
    refine congrArg (fun z => snk z (fq (128 * 1 + l)) (gn (128 * 1 + l))) ?_
    refine Eq.trans ?_ (O 1 (by omega) p l hp hl hq)
    congr 1 <;> omega
  · refine (pay202 _ _ _ p l hp hl).trans ?_
    rw [f2 l hl, n2 l hl]
    refine congrArg (fun z => snk z (fq (128 * 2 + l)) (gn (128 * 2 + l))) ?_
    refine Eq.trans ?_ (O 2 (by omega) p l hp hl hq)
    congr 1 <;> omega

/-- The upsampling loop. -/
theorem t2_loop (i : grid0.Coords) (a : BitVec 32) (v : FVec Ideal S128x128 .bf16) (s : St Ideal) (hc : Consts fq gn s)
    (h13 : Rows s.s13 (fun p => 112 ≤ p ∧ p < 1168) fun g p l => ((xr (128 * g + l) p : ℝ) : EReal)) :
    ∃ x y, (loop (m_t2 i a v) () s).2 = { s with s14 := x, s15 := y } ∧
      Rows x (fun q => q < 1050) (fun g q l => se xr fq gn (128 * g + l) q) ∧
      Rows y (fun q => q < 1050) (fun g q l => so xr fq gn (128 * g + l) q) := by
  have := loop_inv (m_t2 i a v) (fun k s' => ∃ x y, s' = { s with s14 := x, s15 := y } ∧
      Rows x (fun q => q < 1050 ∧ q < 64 * k) (fun g q l => se xr fq gn (128 * g + l) q) ∧
      Rows y (fun q => q < 1050 ∧ q < 64 * k) (fun g q l => so xr fq gn (128 * g + l) q)) ?_ () s
      ⟨s.s14, s.s15, rfl, fun g p l _ _ _ h => absurd h.2 (by omega), fun g p l _ _ _ h => absurd h.2 (by omega)⟩
  · obtain ⟨x, y, hx, h1, h2⟩ := this
    rw [trips2] at h1 h2
    exact ⟨x, y, hx, h1.mono fun p _ q => by omega, h2.mono fun p _ q => by omega⟩
  · rintro k u s' ⟨x, y, rfl, h1, h2⟩
    obtain ⟨x', y', hx, h1', h2'⟩ := t2_step xr fq gn i a v k u { s with s14 := x, s15 := y } _ ⟨hc.up, hc.freq, hc.gain⟩ h13 h1 h2
    exact ⟨x', y', hx, h1'.mono fun p _ q => by omega, h2'.mono fun p _ q => by omega⟩

end Cert.KernelIdeal.Val
-- ==== Proof.Value.Window.lean ====
/-
  The first phase of the kernel body: the time-major window of the input, group by group.
-/
module

public import proofs.«01_k».proof.Proof.Value.Rows

@[expose] public section

set_option maxRecDepth 16384
set_option maxHeartbeats 1000000

noncomputable section

namespace Cert.KernelIdeal.Val

open Idealize.ShloMosaic Cert.Sem Cert.Val Cert.KernelIdeal.Gen Cert.KernelIdeal.Run

variable (xw : ℕ → ℕ → EReal)

theorem pay184 (v : Vec Ideal S4x96x128 .bf16) (c : ℕ) (h : ∀ b d l, b < 4 → d < 96 → l < 128 → g3 v b d l = xw (96 * b + d) (c + l))
    (p l : ℕ) (hp : p < 128) (hl : l < 128) : g3 (k0_pay184 v) 0 p l = xw (128 * 0 + l) (c + p) := by
  refine (g3_eq (k0_pay184 v) 0 ⟨p, hp⟩ ⟨l, hl⟩).symm.trans ?_
  pointwise [k0_pay184, k0_pay183]
  simp only [g3_eq]
  rw [h _ _ _ (by omega) (by omega) (by omega)]
  congr 1; omega

theorem pay185 (v : Vec Ideal S4x96x128 .bf16) (c : ℕ) (h : ∀ b d l, b < 4 → d < 96 → l < 128 → g3 v b d l = xw (96 * b + d) (c + l))
    (p l : ℕ) (hp : p < 128) (hl : l < 128) : g3 (k0_pay185 v) 0 p l = xw (128 * 1 + l) (c + p) := by
  refine (g3_eq (k0_pay185 v) 0 ⟨p, hp⟩ ⟨l, hl⟩).symm.trans ?_
  pointwise [k0_pay185, k0_pay183]
  simp only [g3_eq]
  rw [h _ _ _ (by omega) (by omega) (by omega)]
  congr 1; omega

theorem pay186 (v : Vec Ideal S4x96x128 .bf16) (c : ℕ) (h : ∀ b d l, b < 4 → d < 96 → l < 128 → g3 v b d l = xw (96 * b + d) (c + l))
    (p l : ℕ) (hp : p < 128) (hl : l < 128) : g3 (k0_pay186 v) 0 p l = xw (128 * 2 + l) (c + p) := by
  refine (g3_eq (k0_pay186 v) 0 ⟨p, hp⟩ ⟨l, hl⟩).symm.trans ?_
  pointwise [k0_pay186, k0_pay183]
  simp only [g3_eq]
  rw [h _ _ _ (by omega) (by omega) (by omega)]
  congr 1; omega

theorem pay188 (v : Vec Ideal S4x96x128 .bf16) (c : ℕ) (h : ∀ b d l, b < 4 → d < 96 → l < 128 → g3 v b d l = xw (96 * b + d) (c + l))
    (p l : ℕ) (hp : p < 128) (hl : l < 128) : g3 (k0_pay188 v) 0 p l = xw (128 * 0 + l) (c + p) := by
  refine (g3_eq (k0_pay188 v) 0 ⟨p, hp⟩ ⟨l, hl⟩).symm.trans ?_
  pointwise [k0_pay188, k0_pay187]
  simp only [g3_eq]
  rw [h _ _ _ (by omega) (by omega) (by omega)]
  congr 1; omega

theorem pay189 (v : Vec Ideal S4x96x128 .bf16) (c : ℕ) (h : ∀ b d l, b < 4 → d < 96 → l < 128 → g3 v b d l = xw (96 * b + d) (c + l))
    (p l : ℕ) (hp : p < 128) (hl : l < 128) : g3 (k0_pay189 v) 0 p l = xw (128 * 1 + l) (c + p) := by
  refine (g3_eq (k0_pay189 v) 0 ⟨p, hp⟩ ⟨l, hl⟩).symm.trans ?_
  pointwise [k0_pay189, k0_pay187]
  simp only [g3_eq]
  rw [h _ _ _ (by omega) (by omega) (by omega)]
  congr 1; omega

theorem pay193 (v : Vec Ideal S4x96x128 .bf16) (c : ℕ) (h : ∀ b d l, b < 4 → d < 96 → l < 128 → g3 v b d l = xw (96 * b + d) (c + l))
    (p l : ℕ) (hp : p < 128) (hl : l < 128) : g3 (k0_pay193 v) 0 p l = xw (128 * 0 + l) (c + p) := by
  refine (g3_eq (k0_pay193 v) 0 ⟨p, hp⟩ ⟨l, hl⟩).symm.trans ?_
  pointwise [k0_pay193, k0_pay192]
  simp only [g3_eq]
  rw [h _ _ _ (by omega) (by omega) (by omega)]
  congr 1; omega

theorem pay194 (v : Vec Ideal S4x96x128 .bf16) (c : ℕ) (h : ∀ b d l, b < 4 → d < 96 → l < 128 → g3 v b d l = xw (96 * b + d) (c + l))
    (p l : ℕ) (hp : p < 128) (hl : l < 128) : g3 (k0_pay194 v) 0 p l = xw (128 * 1 + l) (c + p) := by
  refine (g3_eq (k0_pay194 v) 0 ⟨p, hp⟩ ⟨l, hl⟩).symm.trans ?_
  pointwise [k0_pay194, k0_pay192]
  simp only [g3_eq]
  rw [h _ _ _ (by omega) (by omega) (by omega)]
  congr 1; omega

theorem pay195 (v : Vec Ideal S4x96x128 .bf16) (c : ℕ) (h : ∀ b d l, b < 4 → d < 96 → l < 128 → g3 v b d l = xw (96 * b + d) (c + l))
    (p l : ℕ) (hp : p < 128) (hl : l < 128) : g3 (k0_pay195 v) 0 p l = xw (128 * 2 + l) (c + p) := by
  refine (g3_eq (k0_pay195 v) 0 ⟨p, hp⟩ ⟨l, hl⟩).symm.trans ?_
  pointwise [k0_pay195, k0_pay192]
  simp only [g3_eq]
  rw [h _ _ _ (by omega) (by omega) (by omega)]
  congr 1; omega

theorem pay191 (v : Vec Ideal S4x96x128 .bf16) (c : ℕ) (h : ∀ b d l, b < 4 → d < 96 → l < 128 → g3 v b d l = xw (96 * b + d) (c + l))
    (p l : ℕ) (hp : p < 128) (hl : l < 128) : g3 (k0_pay191 (k0_pay190 v)) 0 p l = xw (128 * 2 + l) (c + p) := by
  refine (g3_eq (k0_pay191 (k0_pay190 v)) 0 ⟨p, hp⟩ ⟨l, hl⟩).symm.trans ?_
  pointwise [k0_pay191, k0_pay190, k0_pay187]
  simp only [g3_eq]
  rw [h _ _ _ (by omega) (by omega) (by omega)]
  congr 1; omega

theorem pay196 (v : Vec Ideal S1x16x128 .bf16) (p l : ℕ) (hp : p < 16) (hl : l < 128) : g3 (k0_pay196 v) 0 p l = g3 v 0 0 l := by
  refine (g3_eq (k0_pay196 v) 0 ⟨p, hp⟩ ⟨l, hl⟩).symm.trans ?_
  pointwise [k0_pay196]
  simp only [g3_eq]
  rfl

theorem pay197 (v : Vec Ideal S1x16x128 .bf16) (p l : ℕ) (hp : p < 16) (hl : l < 128) : g3 (k0_pay197 v) 0 p l = g3 v 0 0 l := by
  refine (g3_eq (k0_pay197 v) 0 ⟨p, hp⟩ ⟨l, hl⟩).symm.trans ?_
  pointwise [k0_pay197]
  simp only [g3_eq]
  rfl

theorem pay198 (v : Vec Ideal S1x16x128 .bf16) (p l : ℕ) (hp : p < 16) (hl : l < 128) : g3 (k0_pay198 v) 0 p l = g3 v 0 0 l := by
  refine (g3_eq (k0_pay198 v) 0 ⟨p, hp⟩ ⟨l, hl⟩).symm.trans ?_
  pointwise [k0_pay198]
  simp only [g3_eq]
  rfl

theorem pay199 (v : Vec Ideal S1x16x128 .bf16) (p l : ℕ) (hp : p < 16) (hl : l < 128) : g3 (k0_pay199 v) 0 p l = g3 v 0 15 l := by
  refine (g3_eq (k0_pay199 v) 0 ⟨p, hp⟩ ⟨l, hl⟩).symm.trans ?_
  pointwise [k0_pay199]
  simp only [g3_eq]
  rfl

theorem pay200 (v : Vec Ideal S1x16x128 .bf16) (p l : ℕ) (hp : p < 16) (hl : l < 128) : g3 (k0_pay200 v) 0 p l = g3 v 0 15 l := by
  refine (g3_eq (k0_pay200 v) 0 ⟨p, hp⟩ ⟨l, hl⟩).symm.trans ?_
  pointwise [k0_pay200]
  simp only [g3_eq]
  rfl

theorem pay201 (v : Vec Ideal S1x16x128 .bf16) (p l : ℕ) (hp : p < 16) (hl : l < 128) : g3 (k0_pay201 v) 0 p l = g3 v 0 15 l := by
  refine (g3_eq (k0_pay201 v) 0 ⟨p, hp⟩ ⟨l, hl⟩).symm.trans ?_
  pointwise [k0_pay201]
  simp only [g3_eq]
  rfl

theorem off1 : ∀ k : Fin k0_t1_loop.trips, k0_off1 k = ![0, 0, 128 * k.val] := by decide +kernel
theorem off2 : ∀ k : Fin k0_t1_loop.trips, k0_off2 k = ![0, 128 + 128 * k.val, 0] := by decide +kernel
theorem off3 : ∀ k : Fin k0_t1_loop.trips, k0_off3 k = ![1, 128 + 128 * k.val, 0] := by decide +kernel
theorem off4 : ∀ k : Fin k0_t1_loop.trips, k0_off4 k = ![2, 128 + 128 * k.val, 0] := by decide +kernel
theorem trips1 : k0_t1_loop.trips = 8 := by decide +kernel

/-- One trip of the transposing loop. -/
theorem t1_step (i : grid0.Coords) (a : BitVec 32) (v : FVec Ideal S128x128 .bf16) (k : Fin k0_t1_loop.trips) (u : Unit) (s : St Ideal)
    (P : ℕ → Prop) (h2 : ∀ b d l, b < 4 → d < 96 → l < 1024 → g3 s.s2 b d l = xw (96 * b + d) (128 + l))
    (h : Rows s.s13 P fun g p l => xw (128 * g + l) p) :
    ∃ x, (m_t1 i a v k u s).2 = { s with s13 := x } ∧
      Rows x (fun p => P p ∨ 128 + 128 * k.val ≤ p ∧ p < 128 + 128 * k.val + 128) fun g p l => xw (128 * g + l) p := by
  refine ⟨_, rfl, ?_⟩
  have hk : k.val < 8 := lt_of_lt_of_eq k.isLt trips1
  dsimp only [bind_apply, pure_apply, ld, st, St.set13]
  simp only [off2, off3, off4]
  have hv : ∀ b d l, b < 4 → d < 96 → l < 128 →
      g3 (n0 := 4) (n1 := 96) (n2 := 128) (rd s.s2 (Rect.unit (s := S4x96x1024) (k0_off1 k) S4x96x128.size (k0_off1_inb k)).toLoadRect) b d l =
        xw (96 * b + d) (128 + 128 * k.val + l) := by
    intro b d l hb hd hl
    rw [g3_rd' _ _ _ _ _ (off1 k) _ _ _ _ (by omega) (by omega) (by omega) (by omega) (by omega) (by omega), h2 _ _ _ (by omega) (by omega) (by omega)]
    congr 1 <;> omega
  exact h.put _ _ _ _ (by omega) (fun p l hp hl => pay193 xw _ _ hv p l hp hl) (fun p l hp hl => pay194 xw _ _ hv p l hp hl)
    (fun p l hp hl => pay195 xw _ _ hv p l hp hl)

/-- The transposing loop. -/
theorem t1_loop (i : grid0.Coords) (a : BitVec 32) (v : FVec Ideal S128x128 .bf16) (s : St Ideal)
    (P : ℕ → Prop) (h2 : ∀ b d l, b < 4 → d < 96 → l < 1024 → g3 s.s2 b d l = xw (96 * b + d) (128 + l))
    (h : Rows s.s13 P fun g p l => xw (128 * g + l) p) :
    ∃ x, (loop (m_t1 i a v) () s).2 = { s with s13 := x } ∧
      Rows x (fun p => P p ∨ 128 ≤ p ∧ p < 1152) fun g p l => xw (128 * g + l) p := by
  have := loop_inv (m_t1 i a v) (fun k s' => ∃ x, s' = { s with s13 := x } ∧
      Rows x (fun p => P p ∨ 128 ≤ p ∧ p < 128 + 128 * k) fun g p l => xw (128 * g + l) p) ?_ () s ⟨s.s13, rfl, h.mono fun p _ q => by grind⟩
  · obtain ⟨x, hx, hr⟩ := this
    refine ⟨x, hx, hr.mono fun p _ q => ?_⟩
    rw [trips1]; exact q
  · rintro k u s' ⟨x, rfl, hr⟩
    obtain ⟨y, hy, hr'⟩ := t1_step xw i a v k u { s with s13 := x } _ h2 hr
    exact ⟨y, hy, hr'.mono fun p _ q => by grind⟩

end Cert.KernelIdeal.Val
-- ==== Proof.Value.Window2.lean ====
/-
  The window of the input is in place: the rows a step reads hold the input at the times around its block, and past either end
  of the signal the first or the last element again.
-/
module

public import proofs.«01_k».proof.Proof.Value.Window

@[expose] public section

set_option maxRecDepth 16384
set_option maxHeartbeats 200000

noncomputable section

namespace Cert.KernelIdeal.Val

open Idealize.ShloMosaic Cert.Sem Cert.Val Cert.KernelIdeal.Gen Cert.KernelIdeal.Run

theorem cond_eq0 : ∀ t : Fin 256, ((Scalar.cmpi .ne (Scalar.extui (Scalar.cmpi .eq (BitVec.ofNat 32 t.val) 0#32) : BitVec 32) 0#32) = 1#1) = (t.val = 0) := by decide +kernel
theorem cond_eq255 : ∀ t : Fin 256, ((Scalar.cmpi .ne (Scalar.extui (Scalar.cmpi .eq (BitVec.ofNat 32 t.val) 255#32) : BitVec 32) 0#32) = 1#1) = (t.val = 255) := by decide +kernel
theorem cond_gt0 : ∀ t : Fin 256, ((Scalar.cmpi .ne (Scalar.extui (Scalar.cmpi .sgt (BitVec.ofNat 32 t.val) 0#32) : BitVec 32) 0#32) = 1#1) = (0 < t.val) := by decide +kernel
theorem cond_lt255 : ∀ t : Fin 256, ((Scalar.cmpi .ne (Scalar.extui (Scalar.cmpi .slt (BitVec.ofNat 32 t.val) 255#32) : BitVec 32) 0#32) = 1#1) = (t.val < 255) := by decide +kernel

variable (xw : ℕ → ℕ → EReal)

theorem h1_eq (i : grid0.Coords) (a : BitVec 32) (v : FVec Ideal S128x128 .bf16) (K : M (St Ideal) PUnit) (s : St Ideal) (P : ℕ → Prop)
    (hP : P 128) (he : ∀ r p, 112 ≤ p → p < 128 → xw r p = xw r 128) (h : Rows s.s13 P fun g p l => xw (128 * g + l) p) :
    ∃ x, m_h1 i a v K s = K { s with s13 := x } ∧ Rows x (fun p => P p ∨ 112 ≤ p ∧ p < 112 + 16) fun g p l => xw (128 * g + l) p := by
  refine ⟨_, rfl, ?_⟩
  dsimp only [bind_apply, pure_apply, ld, st, St.set13]
  refine h.put _ _ _ _ (by omega) (fun p l hp hl => ?_) (fun p l hp hl => ?_) (fun p l hp hl => ?_)
  · refine (pay196 _ p l hp hl).trans ?_
    refine (g3_rd _ _ _ _ _ _ _ _ (by omega) (by omega) (by omega) (by omega) (by omega) (by omega)).trans ?_
    refine (h _ _ _ (by omega) (by omega) (by omega) hP).trans ?_
    refine Eq.trans ?_ (he _ _ (by omega) (by omega)).symm
    congr 1 <;> omega
  · refine (pay197 _ p l hp hl).trans ?_
    refine (g3_rd _ _ _ _ _ _ _ _ (by omega) (by omega) (by omega) (by omega) (by omega) (by omega)).trans ?_
    refine (g3_miss _ _ _ _ _ _ _ _ (by omega) (by omega) (by omega) (by omega)).trans ?_
    refine (h _ _ _ (by omega) (by omega) (by omega) hP).trans ?_
    refine Eq.trans ?_ (he _ _ (by omega) (by omega)).symm
    congr 1 <;> omega
  · refine (pay198 _ p l hp hl).trans ?_
    refine (g3_rd _ _ _ _ _ _ _ _ (by omega) (by omega) (by omega) (by omega) (by omega) (by omega)).trans ?_
    refine (g3_miss _ _ _ _ _ _ _ _ (by omega) (by omega) (by omega) (by omega)).trans ?_
    refine (g3_miss _ _ _ _ _ _ _ _ (by omega) (by omega) (by omega) (by omega)).trans ?_
    refine (h _ _ _ (by omega) (by omega) (by omega) hP).trans ?_
    refine Eq.trans ?_ (he _ _ (by omega) (by omega)).symm
    congr 1 <;> omega

theorem h2_eq (i : grid0.Coords) (a : BitVec 32) (v : FVec Ideal S128x128 .bf16) (K : M (St Ideal) PUnit) (s : St Ideal) (P : ℕ → Prop)
    (hP : P 1151) (he : ∀ r p, 1152 ≤ p → p < 1168 → xw r p = xw r 1151) (h : Rows s.s13 P fun g p l => xw (128 * g + l) p) :
    ∃ x, m_h2 i a v K s = K { s with s13 := x } ∧ Rows x (fun p => P p ∨ 1152 ≤ p ∧ p < 1152 + 16) fun g p l => xw (128 * g + l) p := by
  refine ⟨_, rfl, ?_⟩
  dsimp only [bind_apply, pure_apply, ld, st, St.set13]
  refine h.put _ _ _ _ (by omega) (fun p l hp hl => ?_) (fun p l hp hl => ?_) (fun p l hp hl => ?_)
  · refine (pay199 _ p l hp hl).trans ?_
    refine (g3_rd _ _ _ _ _ _ _ _ (by omega) (by omega) (by omega) (by omega) (by omega) (by omega)).trans ?_
    refine (h _ _ _ (by omega) (by omega) (by omega) hP).trans ?_
    refine Eq.trans ?_ (he _ _ (by omega) (by omega)).symm
    congr 1 <;> omega
  · refine (pay200 _ p l hp hl).trans ?_
    refine (g3_rd _ _ _ _ _ _ _ _ (by omega) (by omega) (by omega) (by omega) (by omega) (by omega)).trans ?_
    refine (g3_miss _ _ _ _ _ _ _ _ (by omega) (by omega) (by omega) (by omega)).trans ?_
    refine (h _ _ _ (by omega) (by omega) (by omega) hP).trans ?_
    refine Eq.trans ?_ (he _ _ (by omega) (by omega)).symm
    congr 1 <;> omega
  · refine (pay201 _ p l hp hl).trans ?_
    refine (g3_rd _ _ _ _ _ _ _ _ (by omega) (by omega) (by omega) (by omega) (by omega) (by omega)).trans ?_
    refine (g3_miss _ _ _ _ _ _ _ _ (by omega) (by omega) (by omega) (by omega)).trans ?_
    refine (g3_miss _ _ _ _ _ _ _ _ (by omega) (by omega) (by omega) (by omega)).trans ?_
    refine (h _ _ _ (by omega) (by omega) (by omega) hP).trans ?_
    refine Eq.trans ?_ (he _ _ (by omega) (by omega)).symm
    congr 1 <;> omega

/-- What the step's three input blocks hold: `xw r p` is row `r` of the input (batch and channel) at the time `p - 128` after
the start of the step's block, continued past either end of the signal by the element there. -/
structure InWindow (t : ℕ) (s : St Ideal) : Prop where
  prev : t ≠ 0 → ∀ b d l, b < 4 → d < 96 → l < 128 → g3 s.s1 b d l = xw (96 * b + d) l
  cur : ∀ b d l, b < 4 → d < 96 → l < 1024 → g3 s.s2 b d l = xw (96 * b + d) (128 + l)
  next : t ≠ 255 → ∀ b d l, b < 4 → d < 96 → l < 128 → g3 s.s3 b d l = xw (96 * b + d) (1152 + l)
  first : t = 0 → ∀ r p, 112 ≤ p → p < 128 → xw r p = xw r 128
  last : t = 255 → ∀ r p, 1152 ≤ p → p < 1168 → xw r p = xw r 1151

/-- The block before, as loaded. -/
def ld1 (s : St Ideal) : Vec Ideal S4x96x128 .bf16 :=
  rd s.s1 (Rect.unit (s := S4x96x128) ![0, 0, 0] S4x96x128.size inb_S4x96x128_S4x96x128_0_0_0).toLoadRect

/-- The block after, as loaded. -/
def ld3 (s : St Ideal) : Vec Ideal S4x96x128 .bf16 :=
  rd s.s3 (Rect.unit (s := S4x96x128) ![0, 0, 0] S4x96x128.size inb_S4x96x128_S4x96x128_0_0_0).toLoadRect

/-- The window after the block before is stored. -/
def win1 (s : St Ideal) : Vec Ideal S3x1280x128 .bf16 :=
  VecWindow.put (s := S3x1280x128) (VecWindow.put (s := S3x1280x128) (VecWindow.put (s := S3x1280x128) s.s13 ![0, 0, 0] S1x128x128.size
    (k0_pay184 (ld1 s))) ![1, 0, 0] S1x128x128.size (k0_pay185 (ld1 s))) ![2, 0, 0] S1x128x128.size (k0_pay186 (ld1 s))

/-- The window after the block after is stored as well. -/
def win2 (s : St Ideal) : Vec Ideal S3x1280x128 .bf16 :=
  VecWindow.put (s := S3x1280x128) (VecWindow.put (s := S3x1280x128) (VecWindow.put (s := S3x1280x128) (win1 s) ![0, 1152, 0] S1x128x128.size
    (k0_pay188 (ld3 s))) ![1, 1152, 0] S1x128x128.size (k0_pay189 (ld3 s))) ![2, 1152, 0] S1x128x128.size (k0_pay191 (k0_pay190 (ld3 s)))

/-- What the body does from the tail quantisation on. -/
def tail (i : grid0.Coords) (a : BitVec 32) (v : FVec Ideal S128x128 .bf16) : M (St Ideal) PUnit :=
  if (Scalar.cmpi .ne (Scalar.extui (Scalar.cmpi .slt a 255#32)) 0#32) = 1#1 then m_h7 i a v (m_h7_rest i a v) else m_h7_rest i a v

theorem part43_eq (i : grid0.Coords) (s : St Ideal) : m_part43 i s = (⟨BitVec.ofNat 32 (i 0).val, k0_pay190 (ld3 s)⟩, { s with s13 := (VecWindow.put (s := S3x1280x128) (VecWindow.put (s := S3x1280x128) (win1 s) ![0, 1152, 0] S1x128x128.size (k0_pay188 (ld3 s))) ![1, 1152, 0] S1x128x128.size (k0_pay189 (ld3 s))) }) := by
  unfold m_part43 win1 ld1 ld3
  dsimp only [bind_apply, pure_apply, ld, st, St.set13]

theorem part44_eq (i : grid0.Coords) (a : BitVec 32) (v : FVec Ideal S128x128 .bf16) (s : St Ideal) : m_part44 i a v s =
    (if (Scalar.cmpi .ne (Scalar.extui (Scalar.cmpi .eq a 0#32)) 0#32) = 1#1 then m_h1 i a v (m_h1_rest i a v) else m_h1_rest i a v)
      (loop (m_t1 i a v) () { s with s13 := VecWindow.put (s := S3x1280x128) s.s13 ![2, 1152, 0] S1x128x128.size (k0_pay191 v) }).2 := by
  unfold m_part44
  rw [bind_apply, bind_apply]
  rfl

theorem head_eq (i : grid0.Coords) (s : St Ideal) :
    m_body i s = tail i (BitVec.ofNat 32 (i 0).val) (k0_pay190 (ld3 s))
      ((if (Scalar.cmpi .ne (Scalar.extui (Scalar.cmpi .eq (BitVec.ofNat 32 (i 0).val) 0#32)) 0#32) = 1#1 then
          m_h1 i (BitVec.ofNat 32 (i 0).val) (k0_pay190 (ld3 s)) (m_h1_rest i (BitVec.ofNat 32 (i 0).val) (k0_pay190 (ld3 s)))
        else m_h1_rest i (BitVec.ofNat 32 (i 0).val) (k0_pay190 (ld3 s)))
        (loop (m_t1 i (BitVec.ofNat 32 (i 0).val) (k0_pay190 (ld3 s))) () { s with s13 := win2 s }).2).2 := by
  unfold m_body
  rw [bind_apply, part43_eq]
  dsimp only
  rw [bind_apply, part44_eq]
  rfl

variable {xw}

theorem win1_rows {t : ℕ} {s : St Ideal} (hs : InWindow xw t s) :
    Rows (win1 s) (fun p => p < 128 ∧ t ≠ 0) fun g p l => xw (128 * g + l) p := by
  by_cases h0 : t = 0
  · intro g p l _ _ _ h; exact absurd h0 h.2
  · have hv : ∀ b d l, b < 4 → d < 96 → l < 128 → g3 (ld1 s) b d l = xw (96 * b + d) (0 + l) := by
      intro b d l hb hd hl
      refine (g3_rd s.s1 0 0 0 _ b d l hb hd hl (by omega) (by omega) (by omega)).trans ?_
      rw [hs.prev h0 _ _ _ (by omega) (by omega) (by omega)]; congr 1; omega
    have h : Rows s.s13 (fun _ => False) fun g p l => xw (128 * g + l) p := fun _ _ _ _ _ _ h => h.elim
    refine (h.put 0 _ _ _ (by omega) (pay184 xw _ 0 hv) (pay185 xw _ 0 hv) (pay186 xw _ 0 hv)).mono fun p _ q => by grind

theorem win2_rows {t : ℕ} {s : St Ideal} (hs : InWindow xw t s) :
    Rows (win2 s) (fun p => (p < 128 ∧ t ≠ 0) ∨ (1152 ≤ p ∧ t ≠ 255)) fun g p l => xw (128 * g + l) p := by
  by_cases h0 : t = 255
  · have h := win1_rows hs
    intro g p l hg hp hl hP
    have hp' : p < 128 := by grind
    unfold win2
    rw [g3_miss _ _ _ _ _ _ _ _ (by omega) (by omega) (by omega) (by omega),
      g3_miss _ _ _ _ _ _ _ _ (by omega) (by omega) (by omega) (by omega),
      g3_miss _ _ _ _ _ _ _ _ (by omega) (by omega) (by omega) (by omega)]
    exact h g p l hg hp hl (by grind)
  · have hv : ∀ b d l, b < 4 → d < 96 → l < 128 → g3 (ld3 s) b d l = xw (96 * b + d) (1152 + l) := by
      intro b d l hb hd hl
      refine (g3_rd s.s3 0 0 0 _ b d l hb hd hl (by omega) (by omega) (by omega)).trans ?_
      rw [hs.next h0 _ _ _ (by omega) (by omega) (by omega)]; congr 1 <;> omega
    exact ((win1_rows hs).put 1152 _ _ _ (by omega) (pay188 xw _ 1152 hv) (pay189 xw _ 1152 hv) (pay191 xw _ 1152 hv)).mono fun p _ q => by grind

/-- The body of step `t` is what follows the transposition, from a state whose window rows hold the input. -/
theorem window_eq (i : grid0.Coords) (t : Fin 256) (ht : (i 0).val = t.val) (s : St Ideal) (hs : InWindow xw t s) :
    ∃ x v, m_body i s = tail i (BitVec.ofNat 32 t.val) v (m_h2_rest i (BitVec.ofNat 32 t.val) v { s with s13 := x }).2
      ∧ Rows x (fun p => 112 ≤ p ∧ p < 1168) fun g p l => xw (128 * g + l) p := by
  rw [head_eq, ht]
  generalize k0_pay190 (ld3 s) = v
  obtain ⟨x, hx, hr⟩ := t1_loop xw i (BitVec.ofNat 32 t.val) v { s with s13 := win2 s } _ hs.cur (win2_rows hs)
  rw [hx]
  have key : ∃ y, (if (Scalar.cmpi .ne (Scalar.extui (Scalar.cmpi .eq (BitVec.ofNat 32 t.val) 0#32)) 0#32) = 1#1 then
          m_h1 i (BitVec.ofNat 32 t.val) v (m_h1_rest i (BitVec.ofNat 32 t.val) v) else m_h1_rest i (BitVec.ofNat 32 t.val) v) { s with s13 := x } =
        m_h1_rest i (BitVec.ofNat 32 t.val) v { s with s13 := y } ∧
      Rows y (fun p => (112 ≤ p ∧ p < 1152) ∨ (1152 ≤ p ∧ t.val ≠ 255)) fun g p l => xw (128 * g + l) p := by
    by_cases h0 : t.val = 0
    · rw [if_pos ((cond_eq0 t).mpr h0)]
      obtain ⟨y, hy, hr'⟩ := h1_eq xw i _ v (m_h1_rest i (BitVec.ofNat 32 t.val) v) { s with s13 := x } _ (by omega) (hs.first h0) hr
      exact ⟨y, hy, hr'.mono fun p _ q => by grind⟩
    · rw [if_neg (fun h => h0 ((cond_eq0 t).mp h))]
      exact ⟨x, rfl, hr.mono fun p _ q => by grind⟩
  obtain ⟨y, hy, hr2⟩ := key
  rw [hy]
  unfold m_h1_rest
  by_cases h0 : t.val = 255
  · rw [if_pos ((cond_eq255 t).mpr h0)]
    obtain ⟨z, hz, hr'⟩ := h2_eq xw i _ v (m_h2_rest i (BitVec.ofNat 32 t.val) v) { s with s13 := y } _ (by omega) (hs.last h0) hr2
    exact ⟨z, v, congrArg (fun q => tail i (BitVec.ofNat 32 t.val) v q.2) hz, hr'.mono fun p _ q => by grind⟩
  · rw [if_neg (fun h => h0 ((cond_eq255 t).mp h))]
    exact ⟨y, v, rfl, hr2.mono fun p _ q => by grind⟩

end Cert.KernelIdeal.Val
-- ==== Proof.Value.Clamp.lean ====
/-
  The two ends of the signal, where the activated samples are those of the edge; the column carried from the step before.
-/
module

public import proofs.«01_k».proof.Proof.Value.Tile2
public import proofs.«01_k».proof.Proof.Value.Up2
public import proofs.«01_k».proof.Proof.Value.Window2

@[expose] public section

set_option maxRecDepth 16384
set_option maxHeartbeats 400000

noncomputable section

namespace Cert.KernelIdeal.Val

open Idealize.ShloMosaic Cert.Sem Cert.Val Cert.KernelIdeal.Gen Cert.KernelIdeal.Run

theorem pay18 (z : Vec Ideal S1x1x128 .f32) (p l : ℕ) (hp : p < 13) (hl : l < 128) : g3 (k0_pay18 z) 0 p l = g3 z 0 0 l := by
  refine (g3_eq (k0_pay18 z) 0 ⟨p, hp⟩ ⟨l, hl⟩).symm.trans ?_
  pointwise [k0_pay18, k0_pay17]
  simp only [g3_eq]
  try rfl

theorem pay19 (z : Vec Ideal S1x1x128 .f32) (p l : ℕ) (hp : p < 13) (hl : l < 128) : g3 (k0_pay19 z) 0 p l = g3 z 0 0 l := by
  refine (g3_eq (k0_pay19 z) 0 ⟨p, hp⟩ ⟨l, hl⟩).symm.trans ?_
  pointwise [k0_pay19, k0_pay17]
  simp only [g3_eq]
  try rfl

theorem pay21 (z : Vec Ideal S1x1x128 .f32) (p l : ℕ) (hp : p < 13) (hl : l < 128) : g3 (k0_pay21 z) 0 p l = g3 z 0 0 l := by
  refine (g3_eq (k0_pay21 z) 0 ⟨p, hp⟩ ⟨l, hl⟩).symm.trans ?_
  pointwise [k0_pay21, k0_pay20]
  simp only [g3_eq]
  try rfl

theorem pay22 (z : Vec Ideal S1x1x128 .f32) (p l : ℕ) (hp : p < 13) (hl : l < 128) : g3 (k0_pay22 z) 0 p l = g3 z 0 0 l := by
  refine (g3_eq (k0_pay22 z) 0 ⟨p, hp⟩ ⟨l, hl⟩).symm.trans ?_
  pointwise [k0_pay22, k0_pay20]
  simp only [g3_eq]
  try rfl

theorem pay24 (z : Vec Ideal S1x1x128 .f32) (p l : ℕ) (hp : p < 13) (hl : l < 128) : g3 (k0_pay24 z) 0 p l = g3 z 0 0 l := by
  refine (g3_eq (k0_pay24 z) 0 ⟨p, hp⟩ ⟨l, hl⟩).symm.trans ?_
  pointwise [k0_pay24, k0_pay23]
  simp only [g3_eq]
  try rfl

theorem pay203 (z : Vec Ideal S1x1x128 .f32) (p l : ℕ) (hp : p < 13) (hl : l < 128) : g3 (k0_pay203 (k0_pay23 z)) 0 p l = g3 z 0 0 l := by
  refine (g3_eq (k0_pay203 (k0_pay23 z)) 0 ⟨p, hp⟩ ⟨l, hl⟩).symm.trans ?_
  pointwise [k0_pay203, k0_pay23]
  simp only [g3_eq]
  try rfl

theorem pay26 (z : Vec Ideal S1x1x128 .f32) (p l : ℕ) (hp : p < 16) (hl : l < 128) : g3 (k0_pay26 z) 0 p l = g3 z 0 0 l := by
  refine (g3_eq (k0_pay26 z) 0 ⟨p, hp⟩ ⟨l, hl⟩).symm.trans ?_
  pointwise [k0_pay26, k0_pay25]
  simp only [g3_eq]
  try rfl

theorem pay27 (z : Vec Ideal S1x1x128 .f32) (p l : ℕ) (hp : p < 16) (hl : l < 128) : g3 (k0_pay27 z) 0 p l = g3 z 0 0 l := by
  refine (g3_eq (k0_pay27 z) 0 ⟨p, hp⟩ ⟨l, hl⟩).symm.trans ?_
  pointwise [k0_pay27, k0_pay25]
  simp only [g3_eq]
  try rfl

theorem pay29 (z : Vec Ideal S1x1x128 .f32) (p l : ℕ) (hp : p < 16) (hl : l < 128) : g3 (k0_pay29 z) 0 p l = g3 z 0 0 l := by
  refine (g3_eq (k0_pay29 z) 0 ⟨p, hp⟩ ⟨l, hl⟩).symm.trans ?_
  pointwise [k0_pay29, k0_pay28]
  simp only [g3_eq]
  try rfl

theorem pay30 (z : Vec Ideal S1x1x128 .f32) (p l : ℕ) (hp : p < 16) (hl : l < 128) : g3 (k0_pay30 z) 0 p l = g3 z 0 0 l := by
  refine (g3_eq (k0_pay30 z) 0 ⟨p, hp⟩ ⟨l, hl⟩).symm.trans ?_
  pointwise [k0_pay30, k0_pay28]
  simp only [g3_eq]
  try rfl

theorem pay32 (z : Vec Ideal S1x1x128 .f32) (p l : ℕ) (hp : p < 16) (hl : l < 128) : g3 (k0_pay32 z) 0 p l = g3 z 0 0 l := by
  refine (g3_eq (k0_pay32 z) 0 ⟨p, hp⟩ ⟨l, hl⟩).symm.trans ?_
  pointwise [k0_pay32, k0_pay31]
  simp only [g3_eq]
  try rfl

theorem pay204 (z : Vec Ideal S1x1x128 .f32) (p l : ℕ) (hp : p < 16) (hl : l < 128) : g3 (k0_pay204 (k0_pay31 z)) 0 p l = g3 z 0 0 l := by
  refine (g3_eq (k0_pay204 (k0_pay31 z)) 0 ⟨p, hp⟩ ⟨l, hl⟩).symm.trans ?_
  pointwise [k0_pay204, k0_pay31]
  simp only [g3_eq]
  try rfl

/-- Rows 0 to 12 take the value of row 13 of the even phase. -/
theorem h3_eq (E O : ℕ → ℕ → EReal) (i : grid0.Coords) (a : BitVec 32) (v : FVec Ideal S128x128 .bf16) (K : M (St Ideal) PUnit) (s : St Ideal)
    (hE : Rows s.s14 (fun q => q < 1050) fun g q l => E (128 * g + l) q) (hO : Rows s.s15 (fun q => q < 1050) fun g q l => O (128 * g + l) q) :
    ∃ x y, m_h3 i a v K s = K { s with s14 := x, s15 := y } ∧
      Rows x (fun q => q < 1050) (fun g q l => if q < 13 then E (128 * g + l) 13 else E (128 * g + l) q) ∧
      Rows y (fun q => q < 1050) (fun g q l => if q < 13 then E (128 * g + l) 13 else O (128 * g + l) q) := by
  unfold m_h3 m_part4
  dsimp only [bind_apply, pure_apply, ld, st, St.set14, St.set15]
  refine ⟨_, _, rfl, ?_, ?_⟩
  · have h0 : Rows s.s14 (fun q => q < 1050 ∧ 13 ≤ q) (fun g q l => if q < 13 then E (128 * g + l) 13 else E (128 * g + l) q) := by
      intro g q l hg hq hl hP
      exact (hE g q l hg hq hl (by grind)).trans (if_neg (by grind)).symm
    refine Rows.mono (h0.put 0 _ _ _ (by omega) (fun p l hp hl => ?_) (fun p l hp hl => ?_) (fun p l hp hl => ?_)) (fun p _ q => by grind)
    · refine (pay18 _ p l hp hl).trans ?_
      refine (g3_rd _ _ _ _ _ _ _ _ (by omega) (by omega) (by omega) (by omega) (by omega) (by omega)).trans ?_
      refine (hE _ _ _ (by omega) (by omega) (by omega) (by omega)).trans ?_
      rw [if_pos (by omega)]
      congr 1 <;> omega
    · refine (pay21 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (hE _ _ _ (by omega) (by omega) (by omega) (by omega)).trans ?_
      rw [if_pos (by omega)]
      congr 1 <;> omega
    · refine (pay24 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (g3_miss _ _ _ _ _ _ _ _ (by omega) (by omega) (by omega) (by omega)).trans ?_
      refine (hE _ _ _ (by omega) (by omega) (by omega) (by omega)).trans ?_
      rw [if_pos (by omega)]
      congr 1 <;> omega
  · have h0 : Rows s.s15 (fun q => q < 1050 ∧ 13 ≤ q) (fun g q l => if q < 13 then E (128 * g + l) 13 else O (128 * g + l) q) := by
      intro g q l hg hq hl hP
      exact (hO g q l hg hq hl (by grind)).trans (if_neg (by grind)).symm
    refine Rows.mono (h0.put 0 _ _ _ (by omega) (fun p l hp hl => ?_) (fun p l hp hl => ?_) (fun p l hp hl => ?_)) (fun p _ q => by grind)
    · refine (pay19 _ p l hp hl).trans ?_
      refine (g3_rd _ _ _ _ _ _ _ _ (by omega) (by omega) (by omega) (by omega) (by omega) (by omega)).trans ?_
      refine (hE _ _ _ (by omega) (by omega) (by omega) (by omega)).trans ?_
      rw [if_pos (by omega)]
      congr 1 <;> omega
    · refine (pay22 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (hE _ _ _ (by omega) (by omega) (by omega) (by omega)).trans ?_
      rw [if_pos (by omega)]
      congr 1 <;> omega
    · refine (pay203 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (g3_miss _ _ _ _ _ _ _ _ (by omega) (by omega) (by omega) (by omega)).trans ?_
      refine (hE _ _ _ (by omega) (by omega) (by omega) (by omega)).trans ?_
      rw [if_pos (by omega)]
      congr 1 <;> omega

/-- Rows 1037 to 1052 take the value of row 1036 of the odd phase. -/
theorem h4_eq (E O : ℕ → ℕ → EReal) (i : grid0.Coords) (a : BitVec 32) (v : FVec Ideal S128x128 .bf16) (K : M (St Ideal) PUnit) (s : St Ideal)
    (hE : Rows s.s14 (fun q => q < 1050) fun g q l => E (128 * g + l) q) (hO : Rows s.s15 (fun q => q < 1050) fun g q l => O (128 * g + l) q) :
    ∃ x y, m_h4 i a v K s = K { s with s14 := x, s15 := y } ∧
      Rows x (fun q => q < 1050) (fun g q l => if 1037 ≤ q then O (128 * g + l) 1036 else E (128 * g + l) q) ∧
      Rows y (fun q => q < 1050) (fun g q l => if 1037 ≤ q then O (128 * g + l) 1036 else O (128 * g + l) q) := by
  unfold m_h4 m_part5
  dsimp only [bind_apply, pure_apply, ld, st, St.set14, St.set15]
  refine ⟨_, _, rfl, ?_, ?_⟩
  · have h0 : Rows s.s14 (fun q => q < 1037) (fun g q l => if 1037 ≤ q then O (128 * g + l) 1036 else E (128 * g + l) q) := by
      intro g q l hg hq hl hP
      exact (hE g q l hg hq hl (by grind)).trans (if_neg (by grind)).symm
    refine Rows.mono (h0.put 1037 _ _ _ (by omega) (fun p l hp hl => ?_) (fun p l hp hl => ?_) (fun p l hp hl => ?_)) (fun p _ q => by grind)
    · refine (pay26 _ p l hp hl).trans ?_
      refine (g3_rd _ _ _ _ _ _ _ _ (by omega) (by omega) (by omega) (by omega) (by omega) (by omega)).trans ?_
      refine (hO _ _ _ (by omega) (by omega) (by omega) (by omega)).trans ?_
      rw [if_pos (by omega)]
      congr 1 <;> omega
    · refine (pay29 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (hO _ _ _ (by omega) (by omega) (by omega) (by omega)).trans ?_
      rw [if_pos (by omega)]
      congr 1 <;> omega
    · refine (pay32 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (g3_miss _ _ _ _ _ _ _ _ (by omega) (by omega) (by omega) (by omega)).trans ?_
      refine (hO _ _ _ (by omega) (by omega) (by omega) (by omega)).trans ?_
      rw [if_pos (by omega)]
      congr 1 <;> omega
  · have h0 : Rows s.s15 (fun q => q < 1037) (fun g q l => if 1037 ≤ q then O (128 * g + l) 1036 else O (128 * g + l) q) := by
      intro g q l hg hq hl hP
      exact (hO g q l hg hq hl (by grind)).trans (if_neg (by grind)).symm
    refine Rows.mono (h0.put 1037 _ _ _ (by omega) (fun p l hp hl => ?_) (fun p l hp hl => ?_) (fun p l hp hl => ?_)) (fun p _ q => by grind)
    · refine (pay27 _ p l hp hl).trans ?_
      refine (g3_rd _ _ _ _ _ _ _ _ (by omega) (by omega) (by omega) (by omega) (by omega) (by omega)).trans ?_
      refine (hO _ _ _ (by omega) (by omega) (by omega) (by omega)).trans ?_
      rw [if_pos (by omega)]
      congr 1 <;> omega
    · refine (pay30 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (hO _ _ _ (by omega) (by omega) (by omega) (by omega)).trans ?_
      rw [if_pos (by omega)]
      congr 1 <;> omega
    · refine (pay204 _ p l hp hl).trans ?_
      refine (g3_rd _ _ _ _ _ _ _ _ (by omega) (by omega) (by omega) (by omega) (by omega) (by omega)).trans ?_
      refine (g3_miss _ _ _ _ _ _ _ _ (by omega) (by omega) (by omega) (by omega)).trans ?_
      refine (g3_miss _ _ _ _ _ _ _ _ (by omega) (by omega) (by omega) (by omega)).trans ?_
      refine (hO _ _ _ (by omega) (by omega) (by omega) (by omega)).trans ?_
      rw [if_pos (by omega)]
      congr 1 <;> omega

theorem pay205 (r n : ℕ) (hr : r < 384) (hn : n < 128) : g2 (k0_pay205 (F := Ideal)) r n = 0 := by
  refine (g2_eq (k0_pay205 (F := Ideal)) ⟨r, hr⟩ ⟨n, hn⟩).symm.trans ?_
  pointwise [k0_pay205]
  try exact ofBits_zero16

theorem pay206 (z : Vec Ideal S384x128 .bf16) (r n : ℕ) (hr : r < 384) (hn : n < 128) : g2 (k0_pay206 z) r n = g2 z r n := by
  refine (g2_eq (k0_pay206 z) ⟨r, hr⟩ ⟨n, hn⟩).symm.trans ?_
  pointwise [k0_pay206]
  try simp only [g2_eq]

/-- The signal's ends: step `t` of `256`, even and odd phase. -/
def edE (t : ℕ) (E O : ℕ → ℕ → EReal) (r q : ℕ) : EReal := if t = 255 ∧ 1037 ≤ q then O r 1036 else if t = 0 ∧ q < 13 then E r 13 else E r q
def edO (t : ℕ) (E O : ℕ → ℕ → EReal) (r q : ℕ) : EReal := if t = 255 ∧ 1037 ≤ q then O r 1036 else if t = 0 ∧ q < 13 then E r 13 else O r q

theorem clamp_eq (E O : ℕ → ℕ → EReal) (i : grid0.Coords) (t : Fin 256) (v : FVec Ideal S128x128 .bf16) (s : St Ideal)
    (hE : Rows s.s14 (fun q => q < 1050) fun g q l => E (128 * g + l) q) (hO : Rows s.s15 (fun q => q < 1050) fun g q l => O (128 * g + l) q) :
    ∃ x y, (if (Scalar.cmpi .ne (Scalar.extui (Scalar.cmpi .eq (BitVec.ofNat 32 t.val) 0#32)) 0#32) = 1#1 then
          m_h3 i (BitVec.ofNat 32 t.val) v (m_h3_rest i (BitVec.ofNat 32 t.val) v) else m_h3_rest i (BitVec.ofNat 32 t.val) v) s =
        m_h4_rest i (BitVec.ofNat 32 t.val) v { s with s14 := x, s15 := y } ∧
      Rows x (fun q => q < 1050) (fun g q l => edE t E O (128 * g + l) q) ∧ Rows y (fun q => q < 1050) (fun g q l => edO t E O (128 * g + l) q) := by
  have ht := t.isLt
  by_cases h0 : t.val = 0
  · rw [if_pos ((cond_eq0 t).mpr h0)]
    obtain ⟨x, y, e, hx, hy⟩ := h3_eq E O i (BitVec.ofNat 32 t.val) v (m_h3_rest i (BitVec.ofNat 32 t.val) v) s hE hO
    rw [e]
    unfold m_h3_rest
    rw [if_neg (fun h => absurd ((cond_eq255 t).mp h) (by omega))]
    refine ⟨x, y, rfl, fun g q l hg hq hl hP => (hx g q l hg hq hl hP).trans ?_, fun g q l hg hq hl hP => (hy g q l hg hq hl hP).trans ?_⟩
    · unfold edE; dsimp only; rw [if_neg (show ¬(t.val = 255 ∧ 1037 ≤ q) by omega)]; simp only [h0, true_and]
    · unfold edO; dsimp only; rw [if_neg (show ¬(t.val = 255 ∧ 1037 ≤ q) by omega)]; simp only [h0, true_and]
  · rw [if_neg (fun h => h0 ((cond_eq0 t).mp h))]
    unfold m_h3_rest
    by_cases h1 : t.val = 255
    · rw [if_pos ((cond_eq255 t).mpr h1)]
      obtain ⟨x, y, e, hx, hy⟩ := h4_eq E O i (BitVec.ofNat 32 t.val) v (m_h4_rest i (BitVec.ofNat 32 t.val) v) s hE hO
      refine ⟨x, y, e, fun g q l hg hq hl hP => (hx g q l hg hq hl hP).trans ?_, fun g q l hg hq hl hP => (hy g q l hg hq hl hP).trans ?_⟩
      · unfold edE; simp only [h1, true_and, if_neg (show ¬(255 = 0 ∧ q < 13) by omega)]
      · unfold edO; simp only [h1, true_and, if_neg (show ¬(255 = 0 ∧ q < 13) by omega)]
    · rw [if_neg (fun h => h1 ((cond_eq255 t).mp h))]
      refine ⟨s.s14, s.s15, rfl, fun g q l hg hq hl hP => (hE g q l hg hq hl hP).trans ?_, fun g q l hg hq hl hP => (hO g q l hg hq hl hP).trans ?_⟩
      · unfold edE; dsimp only; rw [if_neg (show ¬(t.val = 255 ∧ 1037 ≤ q) by omega), if_neg (show ¬(t.val = 0 ∧ q < 13) by omega)]
      · unfold edO; dsimp only; rw [if_neg (show ¬(t.val = 255 ∧ 1037 ≤ q) by omega), if_neg (show ¬(t.val = 0 ∧ q < 13) by omega)]

/-- The last column of the step before moves in front of the chunk; zero in front of the signal. -/
theorem carry_eq (i : grid0.Coords) (t : Fin 256) (v : FVec Ideal S128x128 .bf16) (s : St Ideal) :
    ∃ w, m_h4_rest i (BitVec.ofNat 32 t.val) v s = m_h6_rest i (BitVec.ofNat 32 t.val) v { s with s16 := w } ∧
      ∀ r, r < 384 → g2 (n0 := 384) (n1 := 1280) w r 127 = if t.val = 0 then 0 else g2 (n0 := 384) (n1 := 1280) s.s16 r 1151 := by
  unfold m_h4_rest
  by_cases h0 : t.val = 0
  · rw [if_pos ((cond_eq0 t).mpr h0)]
    unfold m_h5
    dsimp only [bind_apply, pure_apply, ld, st, St.set16]
    unfold m_h5_rest
    rw [if_neg (fun h => absurd ((cond_gt0 t).mp h) (by omega))]
    refine ⟨_, rfl, fun r hr => ?_⟩
    rw [if_pos h0]
    exact (g2_hit _ _ _ _ _ _ (by omega) (by omega) (by omega) (by omega)).trans (pay205 _ _ (by omega) (by omega))
  · rw [if_neg (fun h => h0 ((cond_eq0 t).mp h))]
    unfold m_h5_rest
    rw [if_pos ((cond_gt0 t).mpr (by omega))]
    unfold m_h6
    dsimp only [bind_apply, pure_apply, ld, st, St.set16]
    refine ⟨_, rfl, fun r hr => ?_⟩
    rw [if_neg h0]
    refine (g2_hit _ _ _ _ _ _ (by omega) (by omega) (by omega) (by omega)).trans ?_
    refine (pay206 _ _ _ (by omega) (by omega)).trans ?_
    refine (g2_rd' _ _ 0 1024 rfl _ _ _ (by omega) (by omega) (by omega) (by omega)).trans ?_
    congr 1; omega

theorem h2_rest_eq (i : grid0.Coords) (t : Fin 256) (v : FVec Ideal S128x128 .bf16) (s : St Ideal) :
    m_h2_rest i (BitVec.ofNat 32 t.val) v s = (if (Scalar.cmpi .ne (Scalar.extui (Scalar.cmpi .eq (BitVec.ofNat 32 t.val) 0#32)) 0#32) = 1#1 then
      m_h3 i (BitVec.ofNat 32 t.val) v (m_h3_rest i (BitVec.ofNat 32 t.val) v) else m_h3_rest i (BitVec.ofNat 32 t.val) v) (loop (m_t2 i (BitVec.ofNat 32 t.val) v) () s).2 := by
  unfold m_h2_rest
  rw [bind_apply]

theorem h6_rest_eq (i : grid0.Coords) (a : BitVec 32) (v : FVec Ideal S128x128 .bf16) (s : St Ideal) :
    (m_h6_rest i a v s).2 = (loop (m_t3 i a v) () s).2 := by
  unfold m_h6_rest
  rw [bind_apply, pure_apply]

/-- From the window to the quantised chunk. -/
theorem chunk_eq (xr : ℕ → ℕ → ℝ) (fq gn : ℕ → EReal) (i : grid0.Coords) (t : Fin 256) (v : FVec Ideal S128x128 .bf16) (s : St Ideal) (hc : Consts fq gn s)
    (h13 : Rows s.s13 (fun p => 112 ≤ p ∧ p < 1168) fun g p l => ((xr (128 * g + l) p : ℝ) : EReal)) :
    ∃ x11 x12 x14 x15 x16 x17 x18 x19 w, (m_h2_rest i (BitVec.ofNat 32 t.val) v s).2 = { s with s11 := x11, s12 := x12, s14 := x14, s15 := x15, s16 := x16, s17 := x17, s18 := x18, s19 := x19 } ∧
      Rows x14 (fun q => q < 1050) (fun g q l => edE t (se xr fq gn) (so xr fq gn) (128 * g + l) q) ∧
      Rows x15 (fun q => q < 1050) (fun g q l => edO t (se xr fq gn) (so xr fq gn) (128 * g + l) q) ∧
      Cols (E := edE t (se xr fq gn) (so xr fq gn)) (O := edO t (se xr fq gn) (so xr fq gn)) 8 w x16 x11 x12 ∧
      ∀ r, r < 384 → g2 (n0 := 384) (n1 := 1280) w r 127 = if t.val = 0 then 0 else g2 (n0 := 384) (n1 := 1280) s.s16 r 1151 := by
  obtain ⟨x, y, e, hx, hy⟩ := t2_loop xr fq gn i (BitVec.ofNat 32 t.val) v s hc h13
  obtain ⟨x', y', e', hx', hy'⟩ := clamp_eq _ _ i t v { s with s14 := x, s15 := y } hx hy
  obtain ⟨w, e'', hw⟩ := carry_eq i t v { s with s14 := x', s15 := y' }
  obtain ⟨x16, x11, x12, x17, x18, x19, e3, hC⟩ := t3_loop (E := edE t (se xr fq gn) (so xr fq gn)) (O := edO t (se xr fq gn) (so xr fq gn)) i (BitVec.ofNat 32 t.val) v { s with s14 := x', s15 := y', s16 := w } hx' hy'
  refine ⟨x11, x12, x', y', x16, x17, x18, x19, w, ?_, hx', hy', hC, hw⟩
  refine (congrArg Prod.snd ((h2_rest_eq i t v s).trans ?_)).trans ((h6_rest_eq i (BitVec.ofNat 32 t.val) v _).trans e3)
  rw [e]
  exact e'.trans e''

end Cert.KernelIdeal.Val
-- ==== Proof.Value.Tail.lean ====
/-
  The column after the chunk, quantised as the columns of the chunk are; zero after the signal.
-/
module

public import proofs.«01_k».proof.Proof.Value.Clamp

@[expose] public section

set_option maxRecDepth 16384
set_option maxHeartbeats 400000

noncomputable section

namespace Cert.KernelIdeal.Val

open Idealize.ShloMosaic Cert.Sem Cert.Val Cert.KernelIdeal.Gen Cert.KernelIdeal.Run

variable {E O : ℕ → ℕ → EReal}

/-- The magnitudes of the filter output of lane group `g`. -/
def AZ (E O : ℕ → ℕ → EReal) (m b g : ℕ) (v : S128x128.Idx → EReal) : Prop :=
  ∀ c n, c < 128 → n < m → g2 (n0 := 128) (n1 := 128) v c n = FloatOps.absf (F := Ideal) (φ := .f32) (zz E O (128 * g + c) (b + n))

theorem az_pm {m b g : ℕ} {v : S128x128.Idx → EReal} (h : AZ E O m b g v) (i p n : ℕ) (hi : i < 4) (hp : p < 8) (hn : n < m) :
    (mx4 fun x => g2 (n0 := 128) (n1 := 128) v (32 * i + (x.val * 8 + p)) n) = pm (Zt E O b) (4 * g + i) p n := by
  unfold pm Zt
  congr 1; funext x
  have hx := x.isLt
  rw [h _ _ (by omega) hn]
  congr 2
  omega

theorem part25_eq (i : grid0.Coords) (s : St Ideal) (t : Tile E O 1 1034 s) :
    ∃ v, m_part25 i  s = (v, s) ∧ (∀ p l, p < 1 → l < 128 → g2 v p l = zb E O (128 * 0 + l) (1034 + p)) := by
  have hm : 1 ≤ 128 := by omega
  unfold m_part25
  dsimp only [bind_apply, pure_apply, ld, st, St.set16, St.set17, St.set18, St.set19]
  exact ⟨_, rfl, fun p l hp hl => (pay117 _ _ _ _ _ _ _ _ p l (by omega) hl).trans (zb_of E O (za_of E O (t.ld14 _ _ 0 1 p l rfl (by omega) (by omega) hp hl) (t.ld15 _ _ 0 5 p l rfl (by omega) (by omega) hp hl) (t.ld14 _ _ 0 2 p l rfl (by omega) (by omega) hp hl) (t.ld15 _ _ 0 4 p l rfl (by omega) (by omega) hp hl)) (t.ld14 _ _ 0 3 p l rfl (by omega) (by omega) hp hl) (t.ld15 _ _ 0 3 p l rfl (by omega) (by omega) hp hl) (t.ld14 _ _ 0 4 p l rfl (by omega) (by omega) hp hl) (t.ld15 _ _ 0 2 p l rfl (by omega) (by omega) hp hl))⟩

theorem fin26 (v95 : FVec Ideal S128x128 .f32) (e u e' u' : Vec Ideal S1x128x128 .f32) (x : S96x128.Idx → EReal) (h95 : (∀ p l, p < 1 → l < 128 → g2 v95 p l = zb E O (128 * 0 + l) (1034 + p)))
    (he : ∀ p l, p < 1 → l < 128 → g3 e 0 p l = E (128 * 0 + l) (1034 + p + 5)) (hu : ∀ p l, p < 1 → l < 128 → g3 u 0 p l = O (128 * 0 + l) (1034 + p + 1))
    (he' : ∀ p l, p < 1 → l < 128 → g3 e' 0 p l = E (128 * 0 + l) (1034 + p + 6)) (hu' : ∀ p l, p < 1 → l < 128 → g3 u' 0 p l = O (128 * 0 + l) (1034 + p + 0)) :
    ZV E O 1 1034 0 (k0_pay118 v95 e u e' u') ∧ AZ E O 1 1034 0 (k0_pay119 v95 e u e' u') ∧
      P17 1 (Zt E O 1034) (VecWindow.put (s := S96x128) (VecWindow.put (s := S96x128) x ![0, 0] S8x128.size (k0_pay120 v95 e u e' u')) ![8, 0] S8x128.size (k0_pay121 v95 e u e' u')) 2 ∧ (∀ p n, p < 8 → n < 1 → g2 (k0_pay122 v95 e u e' u') p n = pm (Zt E O 1034) 2 p n) := by
  have hm : 1 ≤ 128 := by omega
  have hz : ZV E O 1 1034 0 (k0_pay118 v95 e u e' u') := fun p l hp hl => (pay118 _ _ _ _ _ p l (by omega) (by omega)).trans
    (zz_of E O (h95 l p hl hp) (f9_of E O (he l p hl hp) (hu l p hl hp)) (he' l p hl hp) (hu' l p hl hp))
  have h0 : P17 1 (Zt E O 1034) x 0 := fun p n hp _ => absurd hp (by omega)
  refine ⟨hz, fun p l hp hl => (pay119 _ _ _ _ _ p l (by omega) (by omega)).trans (congrArg _ (hz p l hp hl)), ?_, (fun p n hp hn => (pay122 _ _ _ _ _ p n hp (by omega)).trans (zv_pm hz 2 p n (by omega) hp hn))⟩
  exact ((h0.put hm (by omega) _ (fun p n hp hn => (pay120 _ _ _ _ _ p n hp (by omega)).trans (zv_pm hz 0 p n (by omega) hp hn))).put hm (by omega) _ (fun p n hp hn => (pay121 _ _ _ _ _ p n hp (by omega)).trans (zv_pm hz 1 p n (by omega) hp hn)))

theorem part26_eq (i : grid0.Coords) (s : St Ideal) (t : Tile E O 1 1034 s) (v95 : FVec Ideal S128x128 .f32) (h95 : (∀ p l, p < 1 → l < 128 → g2 v95 p l = zb E O (128 * 0 + l) (1034 + p))) :
    ∃ v112 v113 v131 x, m_part26 i v95 s = (⟨v112, v113, v131⟩, { s with s17 := x }) ∧ ZV E O 1 1034 0 v112 ∧ AZ E O 1 1034 0 v113 ∧ P17 1 (Zt E O 1034) x 2 ∧ (∀ p n, p < 8 → n < 1 → g2 (v131) p n = pm (Zt E O 1034) 2 p n) := by
  have hm : 1 ≤ 128 := by omega
  unfold m_part26
  dsimp only [bind_apply, pure_apply, ld, st, St.set16, St.set17, St.set18, St.set19]
  exact ⟨_, _, _, _, rfl, fin26 v95 _ _ _ _ _ h95 (fun p l hp hl => (t.ld14 _ _ 0 5 p l rfl (by omega) (by omega) hp hl)) (fun p l hp hl => (t.ld15 _ _ 0 1 p l rfl (by omega) (by omega) hp hl)) (fun p l hp hl => (t.ld14 _ _ 0 6 p l rfl (by omega) (by omega) hp hl)) (fun p l hp hl => (t.ld15 _ _ 0 0 p l rfl (by omega) (by omega) hp hl))⟩

theorem part27_eq (i : grid0.Coords) (s : St Ideal) (t : Tile E O 1 1034 s) (v113 : FVec Ideal S128x128 .f32) (v131 : FVec Ideal S8x128 .f32) (ha : AZ E O 1 1034 0 v113) (h : P17 1 (Zt E O 1034) s.s17 2) (h131 : (∀ p n, p < 8 → n < 1 → g2 (v131) p n = pm (Zt E O 1034) 2 p n)) :
    ∃ v160 v162 x, m_part27 i v113 v131 s = (⟨v160, v162⟩, { s with s17 := x }) ∧ P17 1 (Zt E O 1034) x 4 ∧
      (∀ p l, p < 1 → l < 128 → g2 v160 p l = za E O (128 * 1 + l) (1034 + p) + Ideal.ofBits .f32 0x3EE2EC65#32 * (E (128 * 1 + l) (1034 + p + 3) + O (128 * 1 + l) (1034 + p + 3))) ∧ (∀ p l, p < 1 → l < 128 → g2 v162 p l = E (128 * 1 + l) (1034 + p + 4)) := by
  have hm : 1 ≤ 128 := by omega
  unfold m_part27
  dsimp only [bind_apply, pure_apply, ld, st, St.set16, St.set17, St.set18, St.set19]
  refine ⟨_, _, _, rfl, ((h.put hm (by omega) _ h131).put hm (by omega) _ (fun p n hp hn => (pay123 _ p n hp (by omega)).trans (az_pm ha 3 p n (by omega) hp hn))), fun p l hp hl => (pay124 _ _ _ _ _ _ p l (by omega) hl).trans ?_, fun p l hp hl => (pay125 _ p l (by omega) hl).trans (t.ld14 _ _ 1 4 p l rfl (by omega) (by omega) hp hl)⟩
  exact congrArg₂ _ (za_of E O (t.ld14 _ _ 1 1 p l rfl (by omega) (by omega) hp hl) (t.ld15 _ _ 1 5 p l rfl (by omega) (by omega) hp hl) (t.ld14 _ _ 1 2 p l rfl (by omega) (by omega) hp hl) (t.ld15 _ _ 1 4 p l rfl (by omega) (by omega) hp hl)) (congrArg _ (congrArg₂ _ (t.ld14 _ _ 1 3 p l rfl (by omega) (by omega) hp hl) (t.ld15 _ _ 1 3 p l rfl (by omega) (by omega) hp hl)))

theorem fin28 (z w : FVec Ideal S128x128 .f32) (a b c d e : Vec Ideal S1x128x128 .f32) (x : S96x128.Idx → EReal) (h : P17 1 (Zt E O 1034) x 4)
    (hz : ∀ p l, p < 1 → l < 128 → g2 z p l = za E O (128 * 1 + l) (1034 + p) + Ideal.ofBits .f32 0x3EE2EC65#32 * (E (128 * 1 + l) (1034 + p + 3) + O (128 * 1 + l) (1034 + p + 3)))
    (hw : (∀ p l, p < 1 → l < 128 → g2 w p l = E (128 * 1 + l) (1034 + p + 4))) (ha : ∀ p l, p < 1 → l < 128 → g3 a 0 p l = O (128 * 1 + l) (1034 + p + 2))
    (hb : ∀ p l, p < 1 → l < 128 → g3 b 0 p l = E (128 * 1 + l) (1034 + p + 5)) (hc : ∀ p l, p < 1 → l < 128 → g3 c 0 p l = O (128 * 1 + l) (1034 + p + 1))
    (hd : ∀ p l, p < 1 → l < 128 → g3 d 0 p l = E (128 * 1 + l) (1034 + p + 6)) (he : ∀ p l, p < 1 → l < 128 → g3 e 0 p l = O (128 * 1 + l) (1034 + p + 0)) :
    ZV E O 1 1034 1 (k0_pay126 z w a b c d e) ∧ AZ E O 1 1034 1 (k0_pay127 z w a b c d e) ∧
      P17 1 (Zt E O 1034) (VecWindow.put (s := S96x128) x ![32, 0] S8x128.size (k0_pay128 z w a b c d e)) 5 ∧ (∀ p n, p < 8 → n < 1 → g2 (k0_pay129 z w a b c d e) p n = pm (Zt E O 1034) 5 p n) := by
  have hm : 1 ≤ 128 := by omega
  have hz : ZV E O 1 1034 1 (k0_pay126 z w a b c d e) := fun p l hp hl => (pay126 _ _ _ _ _ _ _ p l (by omega) (by omega)).trans
    (zz_of E O ((congrArg₂ (fun q r => q + Ideal.ofBits .f32 0x3E03A88A#32 * r) (hz l p hl hp) (congrArg₂ _ (hw l p hl hp) (ha l p hl hp))).trans rfl) (f9_of E O (hb l p hl hp) (hc l p hl hp)) (hd l p hl hp) (he l p hl hp))
  exact ⟨hz, fun p l hp hl => (pay127 _ _ _ _ _ _ _ p l (by omega) (by omega)).trans (congrArg _ (hz p l hp hl)), (h.put hm (by omega) _ (fun p n hp hn => (pay128 _ _ _ _ _ _ _ p n hp (by omega)).trans (zv_pm hz 0 p n (by omega) hp hn))), (fun p n hp hn => (pay129 _ _ _ _ _ _ _ p n hp (by omega)).trans (zv_pm hz 1 p n (by omega) hp hn))⟩

theorem part28_eq (i : grid0.Coords) (s : St Ideal) (t : Tile E O 1 1034 s) (v160 v162 : FVec Ideal S128x128 .f32) (h : P17 1 (Zt E O 1034) s.s17 4) (hz : ∀ p l, p < 1 → l < 128 → g2 v160 p l = za E O (128 * 1 + l) (1034 + p) + Ideal.ofBits .f32 0x3EE2EC65#32 * (E (128 * 1 + l) (1034 + p + 3) + O (128 * 1 + l) (1034 + p + 3))) (hw : (∀ p l, p < 1 → l < 128 → g2 v162 p l = E (128 * 1 + l) (1034 + p + 4))) :
    ∃ v185 v186 v195 x, m_part28 i v160 v162 s = (⟨v185, v186, v195⟩, { s with s17 := x }) ∧ ZV E O 1 1034 1 v185 ∧ AZ E O 1 1034 1 v186 ∧ P17 1 (Zt E O 1034) x 5 ∧ (∀ p n, p < 8 → n < 1 → g2 (v195) p n = pm (Zt E O 1034) 5 p n) := by
  have hm : 1 ≤ 128 := by omega
  unfold m_part28
  dsimp only [bind_apply, pure_apply, ld, st, St.set16, St.set17, St.set18, St.set19]
  exact ⟨_, _, _, _, rfl, fin28 v160 v162 _ _ _ _ _ _ h hz hw (fun p l hp hl => (t.ld15 _ _ 1 2 p l rfl (by omega) (by omega) hp hl)) (fun p l hp hl => (t.ld14 _ _ 1 5 p l rfl (by omega) (by omega) hp hl)) (fun p l hp hl => (t.ld15 _ _ 1 1 p l rfl (by omega) (by omega) hp hl)) (fun p l hp hl => (t.ld14 _ _ 1 6 p l rfl (by omega) (by omega) hp hl)) (fun p l hp hl => (t.ld15 _ _ 1 0 p l rfl (by omega) (by omega) hp hl))⟩

theorem part29_eq (i : grid0.Coords) (s : St Ideal) (t : Tile E O 1 1034 s) (v186 : FVec Ideal S128x128 .f32) (v195 : FVec Ideal S8x128 .f32) (ha : AZ E O 1 1034 1 v186) (h : P17 1 (Zt E O 1034) s.s17 5) (h195 : (∀ p n, p < 8 → n < 1 → g2 (v195) p n = pm (Zt E O 1034) 5 p n)) :
    ∃ v225 v227 v228 x, m_part29 i v186 v195 s = (⟨v225, v227, v228⟩, { s with s17 := x }) ∧ P17 1 (Zt E O 1034) x 8 ∧ (∀ p l, p < 1 → l < 128 → g2 v225 p l = za E O (128 * 2 + l) (1034 + p)) ∧ (∀ p l, p < 1 → l < 128 → g2 v227 p l = E (128 * 2 + l) (1034 + p + 3)) ∧
      (∀ p l, p < 1 → l < 128 → g3 v228 0 p l = O (128 * 2 + l) (1034 + p + 3)) := by
  have hm : 1 ≤ 128 := by omega
  unfold m_part29
  dsimp only [bind_apply, pure_apply, ld, st, St.set16, St.set17, St.set18, St.set19]
  refine ⟨_, _, _, _, rfl, ?_, fun p l hp hl => (pay133 _ _ _ _ p l (by omega) hl).trans (za_of E O (t.ld14 _ _ 2 1 p l rfl (by omega) (by omega) hp hl) (t.ld15 _ _ 2 5 p l rfl (by omega) (by omega) hp hl) (t.ld14 _ _ 2 2 p l rfl (by omega) (by omega) hp hl) (t.ld15 _ _ 2 4 p l rfl (by omega) (by omega) hp hl)), fun p l hp hl => (pay134 _ p l (by omega) hl).trans (t.ld14 _ _ 2 3 p l rfl (by omega) (by omega) hp hl), fun p l hp hl => (t.ld15 _ _ 2 3 p l rfl (by omega) (by omega) hp hl)⟩
  exact (((h.put hm (by omega) _ (fun p n hp hn => (pay130 _ p n hp (by omega)).trans (h195 p n hp hn))).put hm (by omega) _ (fun p n hp hn => (pay131 _ p n hp (by omega)).trans (az_pm ha 2 p n (by omega) hp hn))).put hm (by omega) _ (fun p n hp hn => (pay132 _ p n hp (by omega)).trans (az_pm ha 3 p n (by omega) hp hn)))

theorem fin30 (z w : FVec Ideal S128x128 .f32) (a b c d e f g : Vec Ideal S1x128x128 .f32) (hz : (∀ p l, p < 1 → l < 128 → g2 z p l = za E O (128 * 2 + l) (1034 + p)))
    (hw : (∀ p l, p < 1 → l < 128 → g2 w p l = E (128 * 2 + l) (1034 + p + 3))) (ha : ∀ p l, p < 1 → l < 128 → g3 a 0 p l = O (128 * 2 + l) (1034 + p + 3))
    (hb : ∀ p l, p < 1 → l < 128 → g3 b 0 p l = E (128 * 2 + l) (1034 + p + 4)) (hc : ∀ p l, p < 1 → l < 128 → g3 c 0 p l = O (128 * 2 + l) (1034 + p + 2))
    (hd : ∀ p l, p < 1 → l < 128 → g3 d 0 p l = E (128 * 2 + l) (1034 + p + 5)) (he : ∀ p l, p < 1 → l < 128 → g3 e 0 p l = O (128 * 2 + l) (1034 + p + 1))
    (hf : ∀ p l, p < 1 → l < 128 → g3 f 0 p l = E (128 * 2 + l) (1034 + p + 6)) (hg : ∀ p l, p < 1 → l < 128 → g3 g 0 p l = O (128 * 2 + l) (1034 + p + 0)) :
    ZV E O 1 1034 2 (k0_pay135 z w a b c d e f g) ∧ AZ E O 1 1034 2 (k0_pay136 z w a b c d e f g) ∧ (∀ p n, p < 8 → n < 1 → g2 (k0_pay137 z w a b c d e f g) p n = pm (Zt E O 1034) 8 p n) := by
  have hz : ZV E O 1 1034 2 (k0_pay135 z w a b c d e f g) := fun p l hp hl => (pay135 _ _ _ _ _ _ _ _ _ p l (by omega) (by omega)).trans
    (zz_of E O (zb_of E O (hz l p hl hp) (hw l p hl hp) (ha l p hl hp) (hb l p hl hp) (hc l p hl hp)) (f9_of E O (hd l p hl hp) (he l p hl hp)) (hf l p hl hp) (hg l p hl hp))
  exact ⟨hz, fun p l hp hl => (pay136 _ _ _ _ _ _ _ _ _ p l (by omega) (by omega)).trans (congrArg _ (hz p l hp hl)), (fun p n hp hn => (pay137 _ _ _ _ _ _ _ _ _ p n hp (by omega)).trans (zv_pm hz 0 p n (by omega) hp hn))⟩

theorem part30_eq (i : grid0.Coords) (s : St Ideal) (t : Tile E O 1 1034 s) (v225 v227 : FVec Ideal S128x128 .f32) (v228 : Vec Ideal S1x128x128 .f32) (hz : (∀ p l, p < 1 → l < 128 → g2 v225 p l = za E O (128 * 2 + l) (1034 + p))) (hw : (∀ p l, p < 1 → l < 128 → g2 v227 p l = E (128 * 2 + l) (1034 + p + 3))) (ha : ∀ p l, p < 1 → l < 128 → g3 v228 0 p l = O (128 * 2 + l) (1034 + p + 3)) :
    ∃ v258 v259 v262 v263, m_part30 i v225 v227 v228 s = (⟨v258, v259, v262, v263⟩, s) ∧ ZV E O 1 1034 2 v258 ∧ AZ E O 1 1034 2 v259 ∧ (∀ p n, p < 8 → n < 1 → g2 (v262) p n = pm (Zt E O 1034) 8 p n) := by
  have hm : 1 ≤ 128 := by omega
  unfold m_part30
  dsimp only [bind_apply, pure_apply, ld, st, St.set16, St.set17, St.set18, St.set19]
  exact ⟨_, _, _, _, rfl, fin30 v225 v227 v228 _ _ _ _ _ _ hz hw ha (fun p l hp hl => (t.ld14 _ _ 2 4 p l rfl (by omega) (by omega) hp hl)) (fun p l hp hl => (t.ld15 _ _ 2 2 p l rfl (by omega) (by omega) hp hl)) (fun p l hp hl => (t.ld14 _ _ 2 5 p l rfl (by omega) (by omega) hp hl)) (fun p l hp hl => (t.ld15 _ _ 2 1 p l rfl (by omega) (by omega) hp hl)) (fun p l hp hl => (t.ld14 _ _ 2 6 p l rfl (by omega) (by omega) hp hl)) (fun p l hp hl => (t.ld15 _ _ 2 0 p l rfl (by omega) (by omega) hp hl))⟩

theorem part31_eq (i : grid0.Coords) (s : St Ideal) (v259 : FVec Ideal S128x128 .f32) (v262 : FVec Ideal S8x128 .f32) (v263 : Vec Ideal S8x128 .f32) (ha : AZ E O 1 1034 2 v259) (h : P17 1 (Zt E O 1034) s.s17 8) (h262 : (∀ p n, p < 8 → n < 1 → g2 (v262) p n = pm (Zt E O 1034) 8 p n)) :
    ∃ v296 x, m_part31 i v259 v262 v263 s = (v296, { s with s17 := x }) ∧ P17 1 (Zt E O 1034) x 12 ∧
      (∀ p l, p < 12 → l < 1 → g2 v296 p l = max (max (max (max (max (max (pm (Zt E O 1034) p 0 l) (pm (Zt E O 1034) p 1 l)) (pm (Zt E O 1034) p 2 l)) (pm (Zt E O 1034) p 3 l)) (pm (Zt E O 1034) p 4 l)) (pm (Zt E O 1034) p 5 l)) (pm (Zt E O 1034) p 6 l)) := by
  have hm : 1 ≤ 128 := by omega
  unfold m_part31
  dsimp only [bind_apply, pure_apply, ld, st, St.set16, St.set17, St.set18, St.set19]
  refine ⟨_, _, rfl, ?_⟩
  have h12 := ((((h.put hm (by omega) _ (fun p n hp hn => (pay138 _ p n hp (by omega)).trans (h262 p n hp hn))).put hm (by omega) _ (fun p n hp hn => (pay139 _ p n hp (by omega)).trans (az_pm ha 1 p n (by omega) hp hn))).put hm (by omega) _ (fun p n hp hn => (pay140 _ p n hp (by omega)).trans (az_pm ha 2 p n (by omega) hp hn))).put hm (by omega) _ (fun p n hp hn => (pay141 _ p n hp (by omega)).trans (az_pm ha 3 p n (by omega) hp hn)))
  have r := fun a ha inb p l hp hl => h12.rd8 hm a ha inb p l hp hl
  refine ⟨h12, fun p l hp hl => ?_⟩
  refine (pay142 _ _ _ _ _ _ _ p l hp (by omega)).trans ?_
  exact congrArg₂ max (congrArg₂ max (congrArg₂ max (congrArg₂ max (congrArg₂ max (congrArg₂ max (r 0 (by omega) _ p l hp hl) (r 1 (by omega) _ p l hp hl)) (r 2 (by omega) _ p l hp hl)) (r 3 (by omega) _ p l hp hl)) (r 4 (by omega) _ p l hp hl)) (r 5 (by omega) _ p l hp hl)) (r 6 (by omega) _ p l hp hl)

theorem part32_eq (i : grid0.Coords) (s : St Ideal) (v112 : FVec Ideal S128x128 .f32) (v296 : FVec Ideal S12x128 .f32) (hz0 : ZV E O 1 1034 0 v112) (h : P17 1 (Zt E O 1034) s.s17 12) (h296 : ∀ p l, p < 12 → l < 1 → g2 v296 p l = max (max (max (max (max (max (pm (Zt E O 1034) p 0 l) (pm (Zt E O 1034) p 1 l)) (pm (Zt E O 1034) p 2 l)) (pm (Zt E O 1034) p 3 l)) (pm (Zt E O 1034) p 4 l)) (pm (Zt E O 1034) p 5 l)) (pm (Zt E O 1034) p 6 l)) :
    ∃ v336 x y, m_part32 i v112 v296 s = (v336, { s with s18 := x, s19 := y }) ∧ SV (Zt E O 1034) 1 x ∧ IV (Zt E O 1034) 1 y ∧ AV (Zt E O 1034) 1 0 v336 := by
  have hm : 1 ≤ 128 := by omega
  unfold m_part32
  dsimp only [bind_apply, pure_apply, ld, st, St.set16, St.set17, St.set18, St.set19]
  refine ⟨_, _, _, rfl, ?_⟩
  have am : ∀ inb p l, p < 12 → l < 1 → max (g2 v296 p l) (g2 (n0 := 12) (n1 := 128) (rd s.s17 (⟨![7, 0], S12x128.size, ![8, 1], inb⟩ : LoadRect S96x128)) p l) = amx (Zt E O 1034) p l :=
    fun inb p l hp hl => congrArg₂ max (h296 p l hp hl) (h.rd8 hm 7 (by omega) inb p l hp hl)
  have h18 : SV (Zt E O 1034) 1 (VecWindow.put (s := S12x128) s.s18 ![0, 0] S12x128.size (k0_pay144 v296 (rd s.s17 (⟨![7, 0], S12x128.size, ![8, 1], inb_S96x128_S12x128_7_0_s_8_1⟩ : LoadRect S96x128)))) := by
    intro p l hp hl
    refine (g2_hit (n0 := 12) (n1 := 128) _ 0 0 _ p l (by omega) (by omega) (by omega) (by omega)).trans ?_
    rw [Nat.sub_zero, Nat.sub_zero]
    exact (pay144 _ _ p l hp (by omega)).trans (congrArg (fun z => FloatOps.exp2 (F := Ideal) (φ := .f32) (expo z)) (am _ p l hp hl))
  have h19 : IV (Zt E O 1034) 1 (VecWindow.put (s := S12x128) s.s19 ![0, 0] S12x128.size (k0_pay145 v296 (rd s.s17 (⟨![7, 0], S12x128.size, ![8, 1], inb_S96x128_S12x128_7_0_s_8_1⟩ : LoadRect S96x128)))) := by
    intro p l hp hl
    refine (g2_hit (n0 := 12) (n1 := 128) _ 0 0 _ p l (by omega) (by omega) (by omega) (by omega)).trans ?_
    rw [Nat.sub_zero, Nat.sub_zero]
    exact (pay145 _ _ p l hp (by omega)).trans (congrArg (fun z => FloatOps.exp2 (F := Ideal) (φ := .f32) (0 - expo z)) (am _ p l hp hl))
  exact ⟨h18, h19, (fun p l hp hl => (pay146 _ _ _ p l hp (by omega)).trans (act_of hp (cod_of hz0 0 0 (by omega) (by omega) hp hl (h19.row hm 0 (by omega) _ l hl)) (h18.row hm 0 (by omega) _ l hl)))⟩

theorem part33_eq (i : grid0.Coords) (s : St Ideal) (v112 : FVec Ideal S128x128 .f32) (v336 : FVec Ideal S32x128 .bf16) (hz0 : ZV E O 1 1034 0 v112) (h18 : SV (Zt E O 1034) 1 s.s18) (h19 : IV (Zt E O 1034) 1 s.s19) (hA : AV (Zt E O 1034) 1 0 v336) :
    ∃ v374 x, m_part33 i v112 v336 s = (v374, { s with s16 := x }) ∧ AV (Zt E O 1034) 1 2 v374 ∧ Done16 1 1152 (act (Zt E O 1034)) s.s16 x 2 := by
  have hm : 1 ≤ 128 := by omega
  unfold m_part33
  dsimp only [bind_apply, pure_apply, ld, st, St.set16, St.set17, St.set18, St.set19]
  refine ⟨_, _, rfl, (fun p l hp hl => (pay149 _ _ _ p l hp (by omega)).trans (act_of hp (cod_of hz0 2 2 (by omega) (by omega) hp hl (h19.row hm 2 (by omega) _ l hl)) (h18.row hm 2 (by omega) _ l hl))), ?_⟩
  exact (((Done16.start s.s16).put hm (by omega) (by omega) _ (fun p l hp hl => (pay147 _ p l hp (by omega)).trans (hA p l hp hl))).put hm (by omega) (by omega) _ (fun p l hp hl => (pay148 _ _ _ p l hp (by omega)).trans (act_of hp (cod_of hz0 1 1 (by omega) (by omega) hp hl (h19.row hm 1 (by omega) _ l hl)) (h18.row hm 1 (by omega) _ l hl))))

theorem part34_eq (i : grid0.Coords) (s : St Ideal) (v112 v185 : FVec Ideal S128x128 .f32) (v374 : FVec Ideal S32x128 .bf16) (hz0 : ZV E O 1 1034 0 v112) (hz1 : ZV E O 1 1034 1 v185) (h18 : SV (Zt E O 1034) 1 s.s18) (h19 : IV (Zt E O 1034) 1 s.s19) (hA : AV (Zt E O 1034) 1 2 v374) {x0 : S384x1280.Idx → EReal} (h16 : Done16 1 1152 (act (Zt E O 1034)) x0 s.s16 2) :
    ∃ x, m_part34 i v112 v185 v374 s = (⟨⟩, { s with s16 := x }) ∧ Done16 1 1152 (act (Zt E O 1034)) x0 x 5 := by
  have hm : 1 ≤ 128 := by omega
  unfold m_part34
  dsimp only [bind_apply, pure_apply, ld, st, St.set16, St.set17, St.set18, St.set19]
  refine ⟨_, rfl, ?_⟩
  exact (((h16.put hm (by omega) (by omega) _ (fun p l hp hl => (pay150 _ p l hp (by omega)).trans (hA p l hp hl))).put hm (by omega) (by omega) _ (fun p l hp hl => (pay151 _ _ _ p l hp (by omega)).trans (act_of hp (cod_of hz0 3 3 (by omega) (by omega) hp hl (h19.row hm 3 (by omega) _ l hl)) (h18.row hm 3 (by omega) _ l hl)))).put hm (by omega) (by omega) _ (fun p l hp hl => (pay152 _ _ _ p l hp (by omega)).trans (act_of hp (cod_of hz1 0 4 (by omega) (by omega) hp hl (h19.row hm 4 (by omega) _ l hl)) (h18.row hm 4 (by omega) _ l hl))))

theorem part35_eq (i : grid0.Coords) (s : St Ideal) (v185 : FVec Ideal S128x128 .f32) (hz1 : ZV E O 1 1034 1 v185) (h18 : SV (Zt E O 1034) 1 s.s18) (h19 : IV (Zt E O 1034) 1 s.s19) {x0 : S384x1280.Idx → EReal} (h16 : Done16 1 1152 (act (Zt E O 1034)) x0 s.s16 5) :
    ∃ w x, m_part35 i v185 s = (⟨k0_pay155 w, k0_pay156 v185⟩, { s with s16 := x }) ∧ Done16 1 1152 (act (Zt E O 1034)) x0 x 7 ∧ ∀ l, l < 1 → g2 w 0 l = isc (Zt E O 1034) 7 l := by
  have hm : 1 ≤ 128 := by omega
  unfold m_part35
  dsimp only [bind_apply, pure_apply, ld, st, St.set16, St.set17, St.set18, St.set19]
  refine ⟨_, _, rfl, ?_, fun l hl => h19.row hm 7 (by omega) _ l hl⟩
  exact ((h16.put hm (by omega) (by omega) _ (fun p l hp hl => (pay153 _ _ _ p l hp (by omega)).trans (act_of hp (cod_of hz1 1 5 (by omega) (by omega) hp hl (h19.row hm 5 (by omega) _ l hl)) (h18.row hm 5 (by omega) _ l hl)))).put hm (by omega) (by omega) _ (fun p l hp hl => (pay154 _ _ _ p l hp (by omega)).trans (act_of hp (cod_of hz1 2 6 (by omega) (by omega) hp hl (h19.row hm 6 (by omega) _ l hl)) (h18.row hm 6 (by omega) _ l hl))))

theorem part36_eq (i : grid0.Coords) (s : St Ideal) (v185 v258 : FVec Ideal S128x128 .f32) (w : Vec Ideal S1x128 .f32) (hz1 : ZV E O 1 1034 1 v185) (hz2 : ZV E O 1 1034 2 v258) (h18 : SV (Zt E O 1034) 1 s.s18) (h19 : IV (Zt E O 1034) 1 s.s19) (hw : ∀ l, l < 1 → g2 w 0 l = isc (Zt E O 1034) 7 l) {x0 : S384x1280.Idx → EReal} (h16 : Done16 1 1152 (act (Zt E O 1034)) x0 s.s16 7) :
    ∃ w2 x, m_part36 i v258 (k0_pay155 w) (k0_pay156 v185) s = (⟨k0_pay159 v258 w2, Scalar.ofBits .f32 0x43E00000#32, k0_pay160⟩, { s with s16 := x }) ∧ Done16 1 1152 (act (Zt E O 1034)) x0 x 9 ∧ ∀ l, l < 1 → g2 w2 0 l = isc (Zt E O 1034) 9 l := by
  have hm : 1 ≤ 128 := by omega
  unfold m_part36
  dsimp only [bind_apply, pure_apply, ld, st, St.set16, St.set17, St.set18, St.set19]
  refine ⟨_, _, rfl, ?_, fun l hl => h19.row hm 9 (by omega) _ l hl⟩
  exact ((h16.put hm (by omega) (by omega) _ (fun p l hp hl => (pay157 _ _ _ p l hp (by omega)).trans (act_of hp (cod_of hz1 3 7 (by omega) (by omega) hp hl (hw l hl)) (h18.row hm 7 (by omega) _ l hl)))).put hm (by omega) (by omega) _ (fun p l hp hl => (pay158 _ _ _ p l hp (by omega)).trans (act_of hp (cod_of hz2 0 8 (by omega) (by omega) hp hl (h19.row hm 8 (by omega) _ l hl)) (h18.row hm 8 (by omega) _ l hl))))

theorem part37_eq (i : grid0.Coords) (s : St Ideal) (v258 : FVec Ideal S128x128 .f32) (w : Vec Ideal S1x128 .f32) (hz2 : ZV E O 1 1034 2 v258) (h18 : SV (Zt E O 1034) 1 s.s18) (h19 : IV (Zt E O 1034) 1 s.s19) (hw : ∀ l, l < 1 → g2 w 0 l = isc (Zt E O 1034) 9 l) {x0 : S384x1280.Idx → EReal} (h16 : Done16 1 1152 (act (Zt E O 1034)) x0 s.s16 9) :
    ∃ v539 x, m_part37 i v258 (k0_pay159 v258 w) (Scalar.ofBits .f32 0x43E00000#32) k0_pay160 s = (v539, { s with s16 := x }) ∧ Done16 1 1152 (act (Zt E O 1034)) x0 x 11 ∧ CV (Zt E O 1034) 1 11 v539 := by
  have hm : 1 ≤ 128 := by omega
  unfold m_part37
  dsimp only [bind_apply, pure_apply, ld, st, St.set16, St.set17, St.set18, St.set19]
  refine ⟨_, _, rfl, ?_, fun p l hp hl => (pay163 _ _ p l hp (by omega)).trans (cod_of hz2 3 11 (by omega) (by omega) hp hl (h19.row hm 11 (by omega) _ l hl))⟩
  exact ((h16.put hm (by omega) (by omega) _ (fun p l hp hl => (pay161 _ _ _ p l hp (by omega)).trans (act_of hp (cod_of hz2 1 9 (by omega) (by omega) hp hl (hw l hl)) (h18.row hm 9 (by omega) _ l hl)))).put hm (by omega) (by omega) _ (fun p l hp hl => (pay162 _ _ _ p l hp (by omega)).trans (act_of hp (cod_of hz2 2 10 (by omega) (by omega) hp hl (h19.row hm 10 (by omega) _ l hl)) (h18.row hm 10 (by omega) _ l hl))))

/-- The last store of the column after the chunk, and what follows. -/
def m_fin7 (v539 : FVec Ideal S32x128 .fp8e4m3) (K : M (St Ideal) PUnit) : M (St Ideal) PUnit := do
  let v540 : Vec Ideal S1x128 .f32 ← ld St.s18 (Rect.unit (s := S12x128) ![11, 0] S1x128.size inb_S12x128_S1x128_11_0).toLoadRect
  st St.s16 St.set16 ![352, 1152] S32x128.size (k0_pay1 v539 v540)
  K

theorem fin7_eq (K : M (St Ideal) PUnit) (s : St Ideal) (v539 : FVec Ideal S32x128 .fp8e4m3) (hc : CV (Zt E O 1034) 1 11 v539) (h18 : SV (Zt E O 1034) 1 s.s18) {x0 : S384x1280.Idx → EReal} (h16 : Done16 1 1152 (act (Zt E O 1034)) x0 s.s16 11) :
    ∃ x, m_fin7 v539 K s = K { s with s16 := x } ∧ Done16 1 1152 (act (Zt E O 1034)) x0 x 12 := by
  have hm : 1 ≤ 128 := by omega
  unfold m_fin7
  dsimp only [bind_apply, pure_apply, ld, st, St.set16, St.set17, St.set18, St.set19]
  refine ⟨_, rfl, ?_⟩
  exact h16.put hm (by omega) (by omega) _ (fun p l hp hl => (pay1 _ _ p l hp (by omega)).trans (act_of hp (hc p l hp hl) (h18.row hm 11 (by omega) _ l hl)))

/-- The column after the chunk. -/
theorem h7_eq (i : grid0.Coords) (a : BitVec 32) (v : FVec Ideal S128x128 .bf16) (K : M (St Ideal) PUnit) (s : St Ideal) (t : Tile E O 1 1034 s) :
    ∃ x p q r, m_h7 i a v K s = K { s with s16 := x, s17 := p, s18 := q, s19 := r } ∧ Done16 1 1152 (act (Zt E O 1034)) s.s16 x 12 := by
  have keep : ∀ p16 p17 p18 p19, Tile E O 1 1034 { s with s16 := p16, s17 := p17, s18 := p18, s19 := p19 } := fun _ _ _ _ => ⟨t.hm, t.hb, t.h14, t.h15⟩
  obtain ⟨v95, e25, h95⟩ := part25_eq i s t
  obtain ⟨v112, v113, v131, x26, e26, z0, a0, q26, h131⟩ := part26_eq i s t v95 h95
  obtain ⟨v160, v162, x27, e27, q27, h160, h162⟩ := part27_eq i { s with s17 := x26 } (keep _ _ _ _) v113 v131 a0 q26 h131
  obtain ⟨v185, v186, v195, x28, e28, z1, a1, q28, h195⟩ := part28_eq i { s with s17 := x27 } (keep _ _ _ _) v160 v162 q27 h160 h162
  obtain ⟨v225, v227, v228, x29, e29, q29, h225, h227, h228⟩ := part29_eq i { s with s17 := x28 } (keep _ _ _ _) v186 v195 a1 q28 h195
  obtain ⟨v258, v259, v262, v263, e30, z2, a2, h262⟩ := part30_eq i { s with s17 := x29 } (keep _ _ _ _) v225 v227 v228 h225 h227 h228
  obtain ⟨v296, x31, e31, q31, h296⟩ := part31_eq i { s with s17 := x29 } v259 v262 v263 a2 q29 h262
  obtain ⟨v336, x32, y32, e32, h18, h19, av0⟩ := part32_eq i { s with s17 := x31 } v112 v296 z0 q31 h296
  obtain ⟨v374, x33, e33, av2, d33⟩ := part33_eq i { s with s17 := x31, s18 := x32, s19 := y32 } v112 v336 z0 h18 h19 av0
  obtain ⟨x34, e34, d34⟩ := part34_eq i { s with s17 := x31, s18 := x32, s19 := y32, s16 := x33 } v112 v185 v374 z0 z1 h18 h19 av2 d33
  obtain ⟨w35, x35, e35, d35, hw35⟩ := part35_eq i { s with s17 := x31, s18 := x32, s19 := y32, s16 := x34 } v185 z1 h18 h19 d34
  obtain ⟨w36, x36, e36, d36, hw36⟩ := part36_eq i { s with s17 := x31, s18 := x32, s19 := y32, s16 := x35 } v185 v258 w35 z1 z2 h18 h19 hw35 d35
  obtain ⟨v539, x37, e37, d37, c11⟩ := part37_eq i { s with s17 := x31, s18 := x32, s19 := y32, s16 := x36 } v258 w36 z2 h18 h19 hw36 d36
  obtain ⟨x38, e38, d38⟩ := fin7_eq K { s with s17 := x31, s18 := x32, s19 := y32, s16 := x37 } v539 c11 h18 d37
  refine ⟨x38, x31, x32, y32, ?_, d38⟩
  unfold m_h7
  refine bind_eq e25 ?_
  refine bind_eq e26 ?_
  refine bind_eq e27 ?_
  refine bind_eq e28 ?_
  refine bind_eq e29 ?_
  refine bind_eq e30 ?_
  refine bind_eq e31 ?_
  refine bind_eq e32 ?_
  refine bind_eq e33 ?_
  refine bind_eq e34 ?_
  refine bind_eq e35 ?_
  refine bind_eq e36 ?_
  refine bind_eq e37 ?_
  exact e38

theorem pay2 (r n : ℕ) (hr : r < 384) (hn : n < 128) : g2 (k0_pay2 (F := Ideal)) r n = 0 := by
  refine (g2_eq (k0_pay2 (F := Ideal)) ⟨r, hr⟩ ⟨n, hn⟩).symm.trans ?_
  pointwise [k0_pay2]
  try exact ofBits_zero16

/-- The column after the chunk is quantised from the next chunk's samples, or zero after the signal. -/
theorem after_eq (i : grid0.Coords) (t : Fin 256) (v : FVec Ideal S128x128 .bf16) (s : St Ideal) (h : Tile E O 1 1034 s) :
    ∃ x p q r, (if (Scalar.cmpi .ne (Scalar.extui (Scalar.cmpi .slt (BitVec.ofNat 32 t.val) 255#32)) 0#32) = 1#1 then
        m_h7 i (BitVec.ofNat 32 t.val) v (m_h7_rest i (BitVec.ofNat 32 t.val) v) else m_h7_rest i (BitVec.ofNat 32 t.val) v) s =
      m_h8_rest i (BitVec.ofNat 32 t.val) v { s with s16 := x, s17 := p, s18 := q, s19 := r } ∧
      (∀ r n, r < 384 → n < 1152 → g2 (n0 := 384) (n1 := 1280) x r n = g2 (n0 := 384) (n1 := 1280) s.s16 r n) ∧
      (∀ r, r < 384 → g2 (n0 := 384) (n1 := 1280) x r 1152 = if t.val = 255 then 0 else act (Zt E O 1034) r 0) := by
  have ht := t.isLt
  by_cases h1 : t.val = 255
  · rw [if_neg (fun h => absurd ((cond_lt255 t).mp h) (by omega))]
    unfold m_h7_rest
    rw [if_pos ((cond_eq255 t).mpr h1)]
    unfold m_h8
    dsimp only [bind_apply, pure_apply, ld, st, St.set16, St.set17, St.set18, St.set19]
    refine ⟨_, _, _, _, rfl, fun r n hr hn => ?_, fun r hr => ?_⟩
    · exact g2_miss _ _ _ _ _ _ (by omega) (by omega) (by omega)
    · rw [if_pos h1]
      exact (g2_hit _ _ _ _ _ _ (by omega) (by omega) (by omega) (by omega)).trans (pay2 _ _ (by omega) (by omega))
  · rw [if_pos ((cond_lt255 t).mpr (by omega))]
    obtain ⟨x, p, q, r, e, d⟩ := h7_eq i (BitVec.ofNat 32 t.val) v (m_h7_rest i (BitVec.ofNat 32 t.val) v) s h
    refine ⟨x, p, q, r, ?_, fun r n hr hn => d.old r n hr hn (by omega), fun r hr => ?_⟩
    · rw [e]
      unfold m_h7_rest
      rw [if_neg (fun h => h1 ((cond_eq255 t).mp h))]
    · rw [if_neg h1]
      exact d.new r 0 (by omega) (by omega)

end Cert.KernelIdeal.Val
-- ==== Proof.Value.Signal.lean ====
/-
  The signal of the whole input: the activated samples at twice the rate, the filtered samples, and how the samples that one
  step computes lie in it.
-/
module

public import proofs.«01_k».proof.Proof.Value.Tail

@[expose] public section

set_option maxRecDepth 16384
set_option maxHeartbeats 400000

noncomputable section

namespace Cert.KernelIdeal.Val

open Idealize.ShloMosaic Cert.Sem Cert.Val

variable (xs : ℕ → ℕ → ℝ) (fq gn : ℕ → EReal)

/-- The even and the odd samples of the signal at twice the rate. -/
def upE (r T : ℕ) : ℝ := 2 * ∑ i ∈ Finset.range 6, fr (2 * i + 1) * xs r (min (T + 5 - i - 3) 262143)
def upO (r T : ℕ) : ℝ := 2 * ∑ i ∈ Finset.range 6, fr (2 * i) * xs r (min (T + 6 - i - 3) 262143)

/-- The activated signal of row `r` at half sample `j`. -/
def wave (r j : ℕ) : EReal := snk ((if j % 2 = 0 then upE xs r (j / 2) else upO xs r (j / 2) : ℝ) : EReal) (fq r) (gn r)

/-- The filtered signal of row `r` at time `T`. -/
def Zg (r T : ℕ) : EReal := ∑ k ∈ Finset.range 12, (fr k : EReal) * wave xs fq gn r (min (2 * T + k - 5) 524287)

/-- The input as step `t` holds it. -/
def xr (t r p : ℕ) : ℝ := xs r (min (1024 * t + p - 128) 262143)

theorem se_eq (t r q : ℕ) (h : 13 ≤ 1024 * t + q) : se (xr xs t) fq gn r q = wave xs fq gn r (2 * (1024 * t + q - 13)) := by
  unfold se wave upE xr
  rw [if_pos (by omega), show 2 * (1024 * t + q - 13) / 2 = 1024 * t + q - 13 by omega]
  congr 3
  refine Finset.sum_congr rfl fun i hi => ?_
  have := Finset.mem_range.mp hi
  congr 3; omega

theorem so_eq (t r q : ℕ) (h : 13 ≤ 1024 * t + q) : so (xr xs t) fq gn r q = wave xs fq gn r (2 * (1024 * t + q - 13) + 1) := by
  unfold so wave upO xr
  rw [if_neg (by omega), show (2 * (1024 * t + q - 13) + 1) / 2 = 1024 * t + q - 13 by omega]
  congr 3
  refine Finset.sum_congr rfl fun i hi => ?_
  have := Finset.mem_range.mp hi
  congr 3; omega

theorem local_even (t r q : ℕ) (ht : t < 256) (hq : q < 1050) : edE t (se (xr xs t) fq gn) (so (xr xs t) fq gn) r q =
    wave xs fq gn r (min (2 * (1024 * t + q) - 26) 524287) := by
  unfold edE
  split_ifs with h1 h2
  · rw [so_eq _ _ _ _ _ _ (by omega)]; congr 1; omega
  · rw [se_eq _ _ _ _ _ _ (by omega)]; congr 1; omega
  · rw [se_eq _ _ _ _ _ _ (by omega)]; congr 1; omega

theorem local_odd (t r q : ℕ) (ht : t < 256) (hq : q < 1050) : edO t (se (xr xs t) fq gn) (so (xr xs t) fq gn) r q =
    wave xs fq gn r (min (2 * (1024 * t + q) + 1 - 26) 524287) := by
  unfold edO
  split_ifs with h1 h2
  · rw [so_eq _ _ _ _ _ _ (by omega)]; congr 1; omega
  · rw [se_eq _ _ _ _ _ _ (by omega)]; congr 1; omega
  · rw [so_eq _ _ _ _ _ _ (by omega)]; congr 1; omega

theorem distrib (c : ℝ) {a b : EReal} (ha : a ≠ ⊤) (hb : b ≠ ⊤) : (c : EReal) * (a + b) = c * a + c * b := by
  induction a with
  | top => exact absurd rfl ha
  | bot =>
    rcases lt_trichotomy c 0 with h | h | h
    · rw [EReal.bot_add, EReal.coe_mul_bot_of_neg h]
      induction b with
      | top => exact absurd rfl hb
      | bot => rw [EReal.coe_mul_bot_of_neg h]; rfl
      | coe b => rw [← EReal.coe_mul]; rfl
    · subst h; simp
    · rw [EReal.bot_add, EReal.coe_mul_bot_of_pos h, EReal.bot_add]
  | coe a =>
    induction b with
    | top => exact absurd rfl hb
    | bot =>
      rcases lt_trichotomy c 0 with h | h | h
      · rw [EReal.add_bot, EReal.coe_mul_bot_of_neg h, ← EReal.coe_mul]; rfl
      · subst h; simp
      · rw [EReal.add_bot, EReal.coe_mul_bot_of_pos h, EReal.add_bot]
    | coe b => rw [← EReal.coe_add, ← EReal.coe_mul, ← EReal.coe_mul, ← EReal.coe_mul, ← EReal.coe_add, mul_add]

theorem cast_ne_top {u : ℝ} {e : EReal} (h : e = (u : EReal)) : e ≠ ⊤ := by rw [h]; exact EReal.coe_ne_top u

theorem bits_real : (∃ a : ℝ, Ideal.ofBits .f32 0xC1AF79BD#32 = (a : EReal)) ∧ (∃ a : ℝ, Ideal.ofBits .f32 0x41905232#32 = (a : EReal)) ∧
    (∃ a : ℝ, Ideal.ofBits .f32 0xC0BDBCFE#32 = (a : EReal)) := by
  refine ⟨⟨_, rfl⟩, ⟨_, rfl⟩, ⟨_, rfl⟩⟩

/-- The constant subtracted in the activation, and its negative. -/
theorem bits_kc : ∃ k : ℝ, 0 < k ∧ Ideal.ofBits .f32 0x410E3C31#32 = (k : EReal) ∧ Ideal.ofBits .f32 0xC10E3C31#32 = ((-k : ℝ) : EReal) := by
  refine ⟨(9321521 / 1048576 : ℝ), by norm_num, ?_, ?_⟩
  · simp [Ideal.ofBits, Ideal.ieee, -EReal.coe_mul, -EReal.coe_neg] <;> norm_num
  · simp [Ideal.ofBits, Ideal.ieee, -EReal.coe_mul, -EReal.coe_neg] <;> norm_num

/-- The fraction of a turn squared is a number or infinite. -/
theorem turn_cases (θ : EReal) : (∃ q : ℝ, turn θ = (q : EReal)) ∨ turn θ = ⊤ := by
  unfold turn
  induction θ with
  | top => right; rfl
  | bot => right; rfl
  | coe θ =>
    left
    refine ⟨(θ - (Ideal.roundHalfEven θ : ℝ)) * (θ - (Ideal.roundHalfEven θ : ℝ)), ?_⟩
    rw [EReal.coe_mul, EReal.coe_sub]; rfl

/-- The activated signal is never plus infinity. -/
theorem snk_ne_top (u g : ℝ) (hg : g ≤ 0) (f : EReal) : snk (u : EReal) f (g : EReal) ≠ ⊤ := by
  unfold snk
  obtain ⟨⟨a, ha⟩, ⟨b, hb⟩, ⟨c, hc⟩⟩ := bits_real
  obtain ⟨k, hk, _, hk'⟩ := bits_kc
  rcases turn_cases ((u : EReal) * f) with ⟨q, h⟩ | h
  · rw [h]
    unfold poly
    rw [ha, hb, hc, hk']
    simp only [← EReal.coe_add, ← EReal.coe_mul, ← EReal.coe_sub]
    exact EReal.coe_ne_top _
  · rw [h]
    have hp : poly ⊤ = ⊤ := by
      unfold poly
      rw [ha, hb, hc]
      rw [EReal.coe_add_top, EReal.top_mul_top, EReal.coe_add_top, EReal.top_mul_top, EReal.coe_add_top, EReal.top_mul_top]
    rw [hp, hk', EReal.top_sub_coe, EReal.top_mul_top]
    rcases hg.lt_or_eq with h0 | h0
    · rw [EReal.coe_mul_top_of_neg h0, EReal.add_bot]; exact bot_ne_top
    · subst h0; rw [EReal.coe_zero, zero_mul, add_zero]; exact EReal.coe_ne_top _

variable (hgn : ∀ r, ∃ g : ℝ, g ≤ 0 ∧ gn r = (g : EReal))

include hgn in
theorem wave_ne_top (r j : ℕ) : wave xs fq gn r j ≠ ⊤ := by
  unfold wave
  obtain ⟨g, h, e⟩ := hgn r
  rw [e]
  exact snk_ne_top _ g h _

include hgn in
/-- The filtered samples of a step are those of the whole signal. -/
theorem Zt_eq (t b r n T : ℕ) (ht : t < 256) (hn : b + n + 6 < 1050) (hT : T + 10 = 1024 * t + b + n) :
    Zt (edE t (se (xr xs t) fq gn) (so (xr xs t) fq gn)) (edO t (se (xr xs t) fq gn) (so (xr xs t) fq gn)) b r n = Zg xs fq gn r T := by
  have hs := wave_ne_top xs fq gn hgn r
  have he (j k : ℕ) (hj : j ≤ 6) (hk : k + 6 = 2 * j + 5) : edE t (se (xr xs t) fq gn) (so (xr xs t) fq gn) r (b + n + j) = wave xs fq gn r (min (2 * T + k - 5) 524287) := by
    rw [local_even _ _ _ _ _ _ ht (by omega)]; congr 1; omega
  have ho (j k : ℕ) (hj : j ≤ 5) (hk : k = 2 * j) : edO t (se (xr xs t) fq gn) (so (xr xs t) fq gn) r (b + n + j) = wave xs fq gn r (min (2 * T + k - 5) 524287) := by
    rw [local_odd _ _ _ _ _ _ ht (by omega)]; congr 1; omega
  have ho0 : edO t (se (xr xs t) fq gn) (so (xr xs t) fq gn) r (b + n) = wave xs fq gn r (min (2 * T + 0 - 5) 524287) := ho 0 0 (by omega) rfl
  unfold Zt zz zb za
  rw [he 1 1 (by omega) (by omega), he 2 3 (by omega) (by omega), he 3 5 (by omega) (by omega), he 4 7 (by omega) (by omega), he 5 9 (by omega) (by omega),
    he 6 11 (by omega) (by omega), ho0, ho 1 2 (by omega) rfl, ho 2 4 (by omega) rfl, ho 3 6 (by omega) rfl, ho 4 8 (by omega) rfl, ho 5 10 (by omega) rfl]
  rw [show Ideal.ofBits .f32 0x3C19D644#32 = (fr 1 : EReal) from tap_eq 1, show Ideal.ofBits .f32 0xBD6C2A24#32 = (fr 3 : EReal) from tap_eq 3,
    show Ideal.ofBits .f32 0x3EE2EC65#32 = (fr 5 : EReal) from tap_eq 5, show Ideal.ofBits .f32 0x3E03A88A#32 = (fr 7 : EReal) from tap_eq 7,
    show Ideal.ofBits .f32 0xBCD14087#32 = (fr 9 : EReal) from tap_eq 9, show Ideal.ofBits .f32 0x3B04F869#32 = (fr 11 : EReal) from tap_eq 11]
  rw [distrib _ (hs _) (hs _), distrib _ (hs _) (hs _), distrib _ (hs _) (hs _), distrib _ (hs _) (hs _), distrib _ (hs _) (hs _), distrib _ (hs _) (hs _)]
  unfold Zg
  simp only [Finset.sum_range_succ, Finset.sum_range_zero, zero_add]
  rw [show (fr 0) = fr 11 from rfl, show (fr 2) = fr 9 from rfl, show (fr 4) = fr 7 from rfl, show (fr 6) = fr 5 from rfl, show (fr 8) = fr 3 from rfl,
    show (fr 10) = fr 1 from rfl]
  abel

theorem amx_congr {Z Z' : ℕ → ℕ → EReal} {n n' : ℕ} (h : ∀ r, Z r n = Z' r n') (gi : ℕ) : amx Z gi n = amx Z' gi n' := by
  simp only [amx, pm, h]

theorem scl_congr {Z Z' : ℕ → ℕ → EReal} {n n' : ℕ} (h : ∀ r, Z r n = Z' r n') (gi : ℕ) : scl Z gi n = scl Z' gi n' := by
  unfold scl; rw [amx_congr h]

theorem cod_congr {Z Z' : ℕ → ℕ → EReal} {n n' : ℕ} (h : ∀ r, Z r n = Z' r n') (r : ℕ) : cod Z r n = cod Z' r n' := by
  unfold cod isc; rw [amx_congr h, h]

theorem act_congr {Z Z' : ℕ → ℕ → EReal} {n n' : ℕ} (h : ∀ r, Z r n = Z' r n') (r : ℕ) : act Z r n = act Z' r n' := by
  unfold act; rw [scl_congr h, cod_congr h]

theorem ninf : Ideal.ofBits .f32 0xFF800000#32 = ⊥ := by
  simp [Ideal.ofBits, Ideal.ieee]

/-- The largest magnitude of a group, in one reduction. -/
theorem amx_eq (Z : ℕ → ℕ → EReal) (gi n : ℕ) : amx Z gi n =
    Finset.fold max (Ideal.ofBits .f32 0xFF800000#32) (fun x : Fin 32 => FloatOps.absf (F := Ideal) (φ := .f32) (Z (32 * gi + x.val) n)) Finset.univ := by
  have hp (j : ℕ) (hj : j < 8) : pm Z gi j n ≤ Finset.fold max (Ideal.ofBits .f32 0xFF800000#32) (fun x : Fin 32 => FloatOps.absf (F := Ideal) (φ := .f32) (Z (32 * gi + x.val) n)) Finset.univ := by
    unfold pm mx4
    rw [Finset.fold_max_le]
    refine ⟨by rw [ninf]; exact bot_le, fun x _ => ?_⟩
    rw [Finset.le_fold_max]
    right
    exact ⟨⟨x.val * 8 + j, by omega⟩, Finset.mem_univ _, le_rfl⟩
  have hq (j : ℕ) (x : Fin 4) : FloatOps.absf (F := Ideal) (φ := .f32) (Z (32 * gi + (x.val * 8 + j)) n) ≤ pm Z gi j n := by
    unfold pm mx4
    rw [Finset.le_fold_max]
    right
    exact ⟨x, Finset.mem_univ _, le_rfl⟩
  apply le_antisymm
  · unfold amx
    simp only [max_le_iff]
    exact ⟨⟨⟨⟨⟨⟨⟨hp 0 (by omega), hp 1 (by omega)⟩, hp 2 (by omega)⟩, hp 3 (by omega)⟩, hp 4 (by omega)⟩, hp 5 (by omega)⟩, hp 6 (by omega)⟩, hp 7 (by omega)⟩
  · rw [Finset.fold_max_le]
    refine ⟨by rw [ninf]; exact bot_le, fun y _ => ?_⟩
    have hy := y.isLt
    have := hq (y.val % 8) ⟨y.val / 8, by omega⟩
    rw [show 32 * gi + ((⟨y.val / 8, by omega⟩ : Fin 4).val * 8 + y.val % 8) = 32 * gi + y.val by dsimp only; omega] at this
    refine this.trans ?_
    unfold amx
    have h8 : y.val % 8 < 8 := Nat.mod_lt _ (by omega)
    generalize y.val % 8 = j at h8
    simp only [le_max_iff]
    interval_cases j <;> simp

/-- The frequency and the gain of a row. -/
def fqOf (α : ℕ → EReal) (r : ℕ) : EReal := Ideal.exp (α (r % 96)) * Ideal.ofBits .f32 0x3EA2F983#32
def gnOf (β : ℕ → EReal) (r : ℕ) : EReal := Ideal.div (Ideal.ofBits .f32 0xBD4F5288#32) (Ideal.exp (β (r % 96)) + Ideal.ofBits .f32 0x3089705F#32)

theorem bits_eps : ∃ k : ℝ, 0 < k ∧ Ideal.ofBits .f32 0x3089705F#32 = (k : EReal) := by
  refine ⟨(9007199 / 9007199254740992 : ℝ), by norm_num, ?_⟩
  simp [Ideal.ofBits, Ideal.ieee, -EReal.coe_mul, -EReal.coe_neg] <;> norm_num

theorem bits_c : ∃ k : ℝ, k < 0 ∧ Ideal.ofBits .f32 0xBD4F5288#32 = (k : EReal) := by
  refine ⟨(-(1698385 / 33554432) : ℝ), by norm_num, ?_⟩
  simp [Ideal.ofBits, Ideal.ieee, -EReal.coe_mul, -EReal.coe_neg] <;> norm_num

/-- The gain's divisor is a positive number or infinite. -/
theorem den_cases (b : EReal) : (∃ y : ℝ, 0 < y ∧ Ideal.exp b + Ideal.ofBits .f32 0x3089705F#32 = (y : EReal)) ∨ Ideal.exp b + Ideal.ofBits .f32 0x3089705F#32 = ⊤ := by
  obtain ⟨k, hk, e⟩ := bits_eps
  rw [e]
  induction b with
  | top => right; change (⊤ : EReal) + (k : EReal) = ⊤; exact EReal.top_add_coe k
  | bot => left; refine ⟨k, hk, ?_⟩; change (0 : EReal) + (k : EReal) = _; rw [zero_add]
  | coe b => left; refine ⟨Real.exp b + k, by positivity, ?_⟩; change (Real.exp b : EReal) + (k : EReal) = _; rw [← EReal.coe_add]

theorem den_ne_zero (b : EReal) : Ideal.exp b + Ideal.ofBits .f32 0x3089705F#32 ≠ 0 := by
  rcases den_cases b with ⟨y, hy, e⟩ | e
  · rw [e]; intro h; exact absurd (EReal.coe_eq_zero.mp h) hy.ne'
  · rw [e]; exact EReal.top_ne_zero

theorem gnOf_real (β : ℕ → EReal) (r : ℕ) : ∃ g : ℝ, g ≤ 0 ∧ gnOf β r = (g : EReal) := by
  obtain ⟨c, hc, ec⟩ := bits_c
  unfold gnOf Ideal.div
  rw [if_neg (den_ne_zero _), ec]
  rcases den_cases (β (r % 96)) with ⟨y, hy, e⟩ | e
  · rw [e]
    refine ⟨c * y⁻¹, mul_nonpos_of_nonpos_of_nonneg hc.le (inv_nonneg.mpr hy.le), ?_⟩
    rw [EReal.coe_mul, EReal.coe_inv]
  · rw [e]; refine ⟨0, le_rfl, ?_⟩; rw [EReal.inv_top, mul_zero]; rfl

/-- The activation as the reference writes it. -/
theorem snk_ref (u : EReal) (α β : ℕ → EReal) (r : ℕ) (W : EReal) (hW : W = poly (turn (u * Ideal.exp (α (r % 96)) * Ideal.ofBits .f32 0x3EA2F983#32))) :
    u + Ideal.div (Ideal.ofBits .f32 0xBD4F5288#32 * (W * (W + Ideal.ofBits .f32 0x410E3C31#32))) (Ideal.exp (β (r % 96)) + Ideal.ofBits .f32 0x3089705F#32) =
      snk u (fqOf α r) (gnOf β r) := by
  obtain ⟨k, _, e, e'⟩ := bits_kc
  unfold snk fqOf gnOf Ideal.div
  rw [if_neg (den_ne_zero _), if_neg (den_ne_zero _), ← mul_assoc u, ← hW, e, e', sub_eq_add_neg, EReal.coe_neg, neg_neg]
  congr 1
  ac_rfl

/-- The scale's exponent as the reference writes it. -/
theorem expo_ref (a : EReal) : (if a = 0 then (0 : EReal)
    else Ideal.liftRound Int.floor (Ideal.log (a * Ideal.ofBits .f32 0x3B124925#32) * Ideal.ofBits .f32 0x3FB8AA3B#32) + 1) = expo a := by
  have hc : ∃ k : ℝ, k ≠ 0 ∧ Ideal.ofBits .f32 0x3B124925#32 = (k : EReal) := by
    refine ⟨(9586981 / 4294967296 : ℝ), by norm_num, ?_⟩
    simp [Ideal.ofBits, Ideal.ieee, -EReal.coe_mul, -EReal.coe_neg] <;> norm_num
  obtain ⟨k, hk, e⟩ := hc
  unfold expo
  have : (a * Ideal.ofBits .f32 0x3B124925#32 = 0) ↔ a = 0 := by
    rw [e, mul_eq_zero]
    exact or_iff_left fun h => hk (EReal.coe_eq_zero.mp h)
  by_cases h : a = 0
  · rw [if_pos h, if_pos (this.mpr h)]
  · rw [if_neg h, if_neg (fun q => h (this.mp q))]

theorem pow_two (e : EReal) : Ideal.pow (Ideal.ofBits .f32 0x40000000#32) e = FloatOps.exp2 (F := Ideal) (φ := .f32) e := by
  have h2 : Ideal.ofBits .f32 0x40000000#32 = ((2 : ℝ) : EReal) := by
    simp [Ideal.ofBits, Ideal.ieee, -EReal.coe_mul, -EReal.coe_neg] <;> norm_num
  rw [h2]
  induction e with
  | top => change (if (2 : ℝ) < 0 then (⊥ : EReal) else if 1 < (2 : ℝ) then ⊤ else if (2 : ℝ) = 1 then 1 else 0) = ⊤; norm_num
  | bot => change (if (2 : ℝ) < 0 then (⊥ : EReal) else if 1 < (2 : ℝ) then 0 else if (2 : ℝ) = 1 then 1 else ⊤) = 0; norm_num
  | coe e => rfl

theorem clip_ref (z : EReal) : max (min z (Ideal.ofBits .f32 0x43E00000#32)) (Ideal.ofBits .f32 0xC3E00000#32) = clip z := by
  have h : Ideal.ofBits .f32 0xC3E00000#32 ≤ Ideal.ofBits .f32 0x43E00000#32 := by
    have h1 : Ideal.ofBits .f32 0x43E00000#32 = ((448 : ℝ) : EReal) := by
      simp [Ideal.ofBits, Ideal.ieee, -EReal.coe_mul, -EReal.coe_neg] <;> norm_num
    have h2 : Ideal.ofBits .f32 0xC3E00000#32 = ((-448 : ℝ) : EReal) := by
      simp [Ideal.ofBits, Ideal.ieee, -EReal.coe_mul, -EReal.coe_neg] <;> norm_num
    rw [h1, h2, EReal.coe_le_coe_iff]; norm_num
  unfold clip
  generalize Ideal.ofBits .f32 0xC3E00000#32 = a at *
  generalize Ideal.ofBits .f32 0x43E00000#32 = b at *
  rw [max_comm, max_min_distrib_left, max_eq_right h, min_comm]

end Cert.KernelIdeal.Val
-- ==== Proof.Value.RefHost.lean ====
/-
  What the reference computes before its last part, element by element.
-/
module

public import proofs.«01_k».proof.Proof.Value.Signal
public import proofs.«01_k».proof.Proof.Gen.ReferenceIdeal.Frame
public import Idealize.ShloMosaic.Lib.StableHlo.ReadAt

@[expose] public section

set_option maxRecDepth 16384
set_option maxHeartbeats 400000

noncomputable section

namespace Cert.ReferenceIdeal.Val

open Idealize.ShloMosaic Idealize.ShloMosaic.TcCoe Cert.Val Cert.ReferenceIdeal.Gen
open Cert.KernelIdeal.Val (fr tap_eq upE upO wave Zg snk turn poly fqOf gnOf snk_ref expo expo_ref pow_two clip clip_ref amx amx_eq scl isc cod act)

/-- The stretches of the reference's operations. -/
def opsA : List (HloOp τ sig (Elt Ideal)) := hostOps0.take 6
def opsB : List (HloOp τ sig (Elt Ideal)) := (hostOps0.drop 6).take 64
def opsC : List (HloOp τ sig (Elt Ideal)) := (hostOps0.drop 70).take 43
def opsD : List (HloOp τ sig (Elt Ideal)) := (hostOps0.drop 113).take 6
def opsE : List (HloOp τ sig (Elt Ideal)) := (hostOps0.drop 119).take 62
def opsF : List (HloOp τ sig (Elt Ideal)) := hostOps0.drop 181

def opsF1 : List (HloOp τ sig (Elt Ideal)) := opsF.take 4
def opsF2 : List (HloOp τ sig (Elt Ideal)) := (opsF.drop 4).take 22
def opsF3 : List (HloOp τ sig (Elt Ideal)) := opsF.drop 26
def opsC1 : List (HloOp τ sig (Elt Ideal)) := opsC.take 6
def opsC2 : List (HloOp τ sig (Elt Ideal)) := opsC.drop 6

theorem ops_eq : (hostOps0 : List (HloOp τ sig (Elt Ideal))) = opsA ++ (opsB ++ (opsC1 ++ (opsC2 ++ (opsD ++ (opsE ++ (opsF1 ++ (opsF2 ++ opsF3))))))) := rfl

variable (xs : ℕ → ℕ → ℝ) (α β : ℕ → EReal)

/-- The reference's filtered signal. -/
abbrev Zr : ℕ → ℕ → EReal := Zg xs (fqOf α) (gnOf β)

theorem readA (W : Valuation τ sig (Elt Ideal)) (b : Fin 4) (p : Fin 262150) (d : Fin 96) :
    (StableHlo.after opsA W (Proc.devRef .tc main_v5) : S4x262150x96.Idx → EReal) (ix3 b p d) =
      g3 (W (Proc.devRef .tc main_arg0) : S4x262144x96.Idx → EReal) b.val (min (p.val - 3) 262143) d.val := by
  after_reads_at
  after_reads_at
  have e (q : Fin 262144) (hq : q.val = min (p.val - 3) 262143) : (W (Proc.devRef .tc main_arg0) : S4x262144x96.Idx → EReal) (ix3 b q d) =
      g3 (W (Proc.devRef .tc main_arg0) : S4x262144x96.Idx → EReal) b.val (min (p.val - 3) 262143) d.val := by
    rw [← hq]; exact g3_eq (W (Proc.devRef .tc main_arg0) : S4x262144x96.Idx → EReal) b q d
  have hp := p.isLt
  split_ifs with h1 h2
  all_goals first
    | exact e ⟨0, by decide⟩ (by change 0 = _; omega)
    | exact e ⟨p.val - 3, by omega⟩ (by change p.val - 3 = _; omega)
    | exact e ⟨262143, by decide⟩ (by change 262143 = _; omega)

theorem stageB0 (W : Valuation τ sig (Elt Ideal))
    (hA : ∀ (b : Fin 4) (p : Fin 262150) (d : Fin 96), (W (Proc.devRef .tc main_v5) : S4x262150x96.Idx → EReal) (ix3 b p d) = (xs (96 * b.val + d.val) (min (p.val - 3) 262143) : EReal))
    (b : Fin 4) (p : Fin 262144) (d : Fin 96) :
    (StableHlo.after opsB W (Proc.devRef .tc main_v30) : S4x262144x96.Idx → EReal) (ix3 b p d) =
      ((∑ i ∈ Finset.range 6, fr (2 * i + 1) * xs (96 * b.val + d.val) (min (p.val + 5 - i - 3) 262143) : ℝ) : EReal) := by
  after_reads_at
  simp only [hA]
  rw [show Ideal.ofBits .f32 0x3C19D644#32 = (fr 1 : EReal) from tap_eq 1, show Ideal.ofBits .f32 0xBD6C2A24#32 = (fr 3 : EReal) from tap_eq 3, show Ideal.ofBits .f32 0x3EE2EC65#32 = (fr 5 : EReal) from tap_eq 5, show Ideal.ofBits .f32 0x3E03A88A#32 = (fr 7 : EReal) from tap_eq 7, show Ideal.ofBits .f32 0xBCD14087#32 = (fr 9 : EReal) from tap_eq 9, show Ideal.ofBits .f32 0x3B04F869#32 = (fr 11 : EReal) from tap_eq 11]
  simp only [Finset.sum_range_succ, Finset.sum_range_zero, zero_add, Nat.mul_zero, Nat.reduceMul, Nat.reduceAdd]
  rw [show p.val + 5 - 0 - 3 = 5 + p.val - 3 by omega, show p.val + 5 - 1 - 3 = 4 + p.val - 3 by omega, show p.val + 5 - 2 - 3 = 3 + p.val - 3 by omega, show p.val + 5 - 3 - 3 = 2 + p.val - 3 by omega, show p.val + 5 - 4 - 3 = 1 + p.val - 3 by omega, show p.val + 5 - 5 - 3 = p.val - 3 by omega]
  simp only [EReal.coe_add, EReal.coe_mul]

theorem stageB1 (W : Valuation τ sig (Elt Ideal))
    (hA : ∀ (b : Fin 4) (p : Fin 262150) (d : Fin 96), (W (Proc.devRef .tc main_v5) : S4x262150x96.Idx → EReal) (ix3 b p d) = (xs (96 * b.val + d.val) (min (p.val - 3) 262143) : EReal))
    (b : Fin 4) (p : Fin 262144) (d : Fin 96) :
    (StableHlo.after opsB W (Proc.devRef .tc main_v55) : S4x262144x96.Idx → EReal) (ix3 b p d) =
      ((∑ i ∈ Finset.range 6, fr (2 * i) * xs (96 * b.val + d.val) (min (p.val + 6 - i - 3) 262143) : ℝ) : EReal) := by
  after_reads_at
  simp only [hA]
  rw [show Ideal.ofBits .f32 0x3B04F869#32 = (fr 0 : EReal) from tap_eq 0, show Ideal.ofBits .f32 0xBCD14087#32 = (fr 2 : EReal) from tap_eq 2, show Ideal.ofBits .f32 0x3E03A88A#32 = (fr 4 : EReal) from tap_eq 4, show Ideal.ofBits .f32 0x3EE2EC65#32 = (fr 6 : EReal) from tap_eq 6, show Ideal.ofBits .f32 0xBD6C2A24#32 = (fr 8 : EReal) from tap_eq 8, show Ideal.ofBits .f32 0x3C19D644#32 = (fr 10 : EReal) from tap_eq 10]
  simp only [Finset.sum_range_succ, Finset.sum_range_zero, zero_add, Nat.mul_zero, Nat.reduceMul, Nat.reduceAdd]
  rw [show p.val + 6 - 0 - 3 = 6 + p.val - 3 by omega, show p.val + 6 - 1 - 3 = 5 + p.val - 3 by omega, show p.val + 6 - 2 - 3 = 4 + p.val - 3 by omega, show p.val + 6 - 3 - 3 = 3 + p.val - 3 by omega, show p.val + 6 - 4 - 3 = 2 + p.val - 3 by omega, show p.val + 6 - 5 - 3 = 1 + p.val - 3 by omega]
  simp only [EReal.coe_add, EReal.coe_mul]

theorem stageC1 (W : Valuation τ sig (Elt Ideal))
    (h0 : ∀ (b : Fin 4) (p : Fin 262144) (d : Fin 96), (W (Proc.devRef .tc main_v30) : S4x262144x96.Idx → EReal) (ix3 b p d) = ((∑ i ∈ Finset.range 6, fr (2 * i + 1) * xs (96 * b.val + d.val) (min (p.val + 5 - i - 3) 262143) : ℝ) : EReal))
    (h1 : ∀ (b : Fin 4) (p : Fin 262144) (d : Fin 96), (W (Proc.devRef .tc main_v55) : S4x262144x96.Idx → EReal) (ix3 b p d) = ((∑ i ∈ Finset.range 6, fr (2 * i) * xs (96 * b.val + d.val) (min (p.val + 6 - i - 3) 262143) : ℝ) : EReal))
    (b : Fin 4) (p : Fin 262144) (e : Fin 2) (d : Fin 96) :
    (StableHlo.after opsC1 W (Proc.devRef .tc main_v60) : S4x262144x2x96.Idx → EReal) (ix4 b p e d) =
      ((if e.val = 0 then upE xs (96 * b.val + d.val) p.val else upO xs (96 * b.val + d.val) p.val : ℝ) : EReal) := by
  after_reads_at
  after_reads_at
  simp only [h0, h1]
  have h2 : Ideal.ofBits .f32 0x40000000#32 = ((2 : ℝ) : EReal) := by
    simp [Ideal.ofBits, Ideal.ieee, -EReal.coe_mul, -EReal.coe_neg] <;> norm_num
  rw [h2]
  by_cases he : e.val < 1
  · rw [dif_pos he, if_pos (by omega), ← EReal.coe_mul]; rfl
  · rw [dif_neg he, if_neg (by omega), ← EReal.coe_mul]; rfl

theorem stageC2 (W : Valuation τ sig (Elt Ideal))
    (hα : ∀ d : Fin 96, (W (Proc.devRef .tc main_arg1) : S96.Idx → EReal) (ix1 d) = α d.val)
    (hβ : ∀ d : Fin 96, (W (Proc.devRef .tc main_arg2) : S96.Idx → EReal) (ix1 d) = β d.val)
    (hu : ∀ (b : Fin 4) (p : Fin 262144) (e : Fin 2) (d : Fin 96), (W (Proc.devRef .tc main_v60) : S4x262144x2x96.Idx → EReal) (ix4 b p e d) =
      ((if e.val = 0 then upE xs (96 * b.val + d.val) p.val else upO xs (96 * b.val + d.val) p.val : ℝ) : EReal))
    (b : Fin 4) (p : Fin 262144) (e : Fin 2) (d : Fin 96) :
    (StableHlo.after opsC2 W (Proc.devRef .tc main_v90) : S4x262144x2x96.Idx → EReal) (ix4 b p e d) =
      wave xs (fqOf α) (gnOf β) (96 * b.val + d.val) (2 * p.val + e.val) := by
  have hb := b.isLt
  have hd := d.isLt
  have he := e.isLt
  have h := snk_ref ((if e.val = 0 then upE xs (96 * b.val + d.val) p.val else upO xs (96 * b.val + d.val) p.val : ℝ) : EReal) α β (96 * b.val + d.val) _ rfl
  rw [show (96 * b.val + d.val) % 96 = d.val by omega] at h
  have hs : wave xs (fqOf α) (gnOf β) (96 * b.val + d.val) (2 * p.val + e.val) =
      snk ((if e.val = 0 then upE xs (96 * b.val + d.val) p.val else upO xs (96 * b.val + d.val) p.val : ℝ) : EReal) (fqOf α (96 * b.val + d.val)) (gnOf β (96 * b.val + d.val)) := by
    unfold wave
    rw [show (2 * p.val + e.val) % 2 = e.val by omega, show (2 * p.val + e.val) / 2 = p.val by omega]
  rw [hs]
  refine Eq.trans ?_ h
  after_reads_at
  simp only [hα, hβ, hu]
  rfl

theorem stageD (W : Valuation τ sig (Elt Ideal))
    (hs : ∀ (b : Fin 4) (p : Fin 262144) (e : Fin 2) (d : Fin 96), (W (Proc.devRef .tc main_v90) : S4x262144x2x96.Idx → EReal) (ix4 b p e d) =
      wave xs (fqOf α) (gnOf β) (96 * b.val + d.val) (2 * p.val + e.val))
    (b : Fin 4) (p : Fin 524299) (d : Fin 96) :
    (StableHlo.after opsD W (Proc.devRef .tc main_v96) : S4x524299x96.Idx → EReal) (ix3 b p d) =
      wave xs (fqOf α) (gnOf β) (96 * b.val + d.val) (min (p.val - 5) 524287) := by
  have hp := p.isLt
  after_reads_at
  after_reads_at
  have e (q : Fin 262144) (o : Fin 2) (h : 2 * q.val + o.val = min (p.val - 5) 524287) : (W (Proc.devRef .tc main_v90) : S4x262144x2x96.Idx → EReal) (ix4 b q o d) =
      wave xs (fqOf α) (gnOf β) (96 * b.val + d.val) (min (p.val - 5) 524287) := by
    rw [← h]; exact hs b q o d
  split_ifs with h1 h2
  all_goals first
    | exact e ⟨0, by decide⟩ ⟨0, by decide⟩ (by change 2 * 0 + 0 = _; omega)
    | exact e ⟨(p.val - 5) / 2, by omega⟩ ⟨(p.val - 5) % 2, by omega⟩ (by change 2 * ((p.val - 5) / 2) + (p.val - 5) % 2 = _; omega)
    | exact e ⟨262143, by decide⟩ ⟨1, by decide⟩ (by change 2 * 262143 + 1 = _; omega)

theorem stageE (W : Valuation τ sig (Elt Ideal))
    (hs : ∀ (b : Fin 4) (p : Fin 524299) (d : Fin 96), (W (Proc.devRef .tc main_v96) : S4x524299x96.Idx → EReal) (ix3 b p d) =
      wave xs (fqOf α) (gnOf β) (96 * b.val + d.val) (min (p.val - 5) 524287))
    (b : Fin 4) (p : Fin 262144) (d : Fin 96) :
    (StableHlo.after opsE W (Proc.devRef .tc main_v145) : S4x262144x96.Idx → EReal) (ix3 b p d) = Zr xs α β (96 * b.val + d.val) p.val := by
  unfold Zr Zg
  after_reads_at
  simp only [hs]
  rw [show Ideal.ofBits .f32 0x3B04F869#32 = (fr 0 : EReal) from tap_eq 0, show Ideal.ofBits .f32 0x3C19D644#32 = (fr 1 : EReal) from tap_eq 1, show Ideal.ofBits .f32 0xBCD14087#32 = (fr 2 : EReal) from tap_eq 2, show Ideal.ofBits .f32 0xBD6C2A24#32 = (fr 3 : EReal) from tap_eq 3, show Ideal.ofBits .f32 0x3E03A88A#32 = (fr 4 : EReal) from tap_eq 4, show Ideal.ofBits .f32 0x3EE2EC65#32 = (fr 5 : EReal) from tap_eq 5]
  simp only [Finset.sum_range_succ, Finset.sum_range_zero, zero_add]
  rw [show fr 11 = fr 0 from rfl, show fr 10 = fr 1 from rfl, show fr 9 = fr 2 from rfl, show fr 8 = fr 3 from rfl, show fr 7 = fr 4 from rfl, show fr 6 = fr 5 from rfl]
  rw [show 2 * p.val + 0 - 5 = 2 * p.val - 5 by omega, show 2 * p.val + 1 - 5 = 1 + 2 * p.val - 5 by omega, show 2 * p.val + 2 - 5 = 2 + 2 * p.val - 5 by omega, show 2 * p.val + 3 - 5 = 3 + 2 * p.val - 5 by omega, show 2 * p.val + 4 - 5 = 4 + 2 * p.val - 5 by omega, show 2 * p.val + 5 - 5 = 5 + 2 * p.val - 5 by omega, show 2 * p.val + 6 - 5 = 6 + 2 * p.val - 5 by omega, show 2 * p.val + 7 - 5 = 7 + 2 * p.val - 5 by omega, show 2 * p.val + 8 - 5 = 8 + 2 * p.val - 5 by omega, show 2 * p.val + 9 - 5 = 9 + 2 * p.val - 5 by omega, show 2 * p.val + 10 - 5 = 10 + 2 * p.val - 5 by omega, show 2 * p.val + 11 - 5 = 11 + 2 * p.val - 5 by omega]

theorem stageF0 (W : Valuation τ sig (Elt Ideal))
    (hz : ∀ (b : Fin 4) (p : Fin 262144) (d : Fin 96), (W (Proc.devRef .tc main_v145) : S4x262144x96.Idx → EReal) (ix3 b p d) = Zr xs α β (96 * b.val + d.val) p.val)
    (b : Fin 4) (p : Fin 262144) (g : Fin 3) :
    (StableHlo.after opsF1 W (Proc.devRef .tc main_v148) : S4x262144x3.Idx → EReal) (ix3 b p g) = amx (Zr xs α β) (3 * b.val + g.val) p.val := by
  rw [amx_eq]
  after_reads_at
  simp only [hz]
  congr 1
  funext x
  rw [show 96 * b.val + (g.val * 32 + x.val) = 32 * (3 * b.val + g.val) + x.val by omega]

theorem stageF0' (W : Valuation τ sig (Elt Ideal))
    (hz : ∀ (b : Fin 4) (p : Fin 262144) (d : Fin 96), (W (Proc.devRef .tc main_v145) : S4x262144x96.Idx → EReal) (ix3 b p d) = Zr xs α β (96 * b.val + d.val) p.val)
    (b : Fin 4) (p : Fin 262144) (g : Fin 3) (x : Fin 32) :
    (StableHlo.after opsF1 W (Proc.devRef .tc main_v146) : S4x262144x3x32.Idx → EReal) (ix4 b p g x) = Zr xs α β (96 * b.val + (g.val * 32 + x.val)) p.val := by
  after_reads_at
  simp only [hz]

theorem neg_eq (e : EReal) : -e = 0 - e := by rw [sub_eq_add_neg, zero_add]

theorem stageF1 (W : Valuation τ sig (Elt Ideal))
    (hm : ∀ (b : Fin 4) (p : Fin 262144) (g : Fin 3), (W (Proc.devRef .tc main_v148) : S4x262144x3.Idx → EReal) (ix3 b p g) = amx (Zr xs α β) (3 * b.val + g.val) p.val)
    (b : Fin 4) (p : Fin 262144) (g : Fin 3) :
    (StableHlo.after opsF2 W (Proc.devRef .tc main_v162) : S4x262144x3.Idx → EReal) (ix3 b p g) = scl (Zr xs α β) (3 * b.val + g.val) p.val := by
  after_reads_at
  simp only [hm]
  rw [expo_ref, pow_two]
  rfl

theorem stageF1' (W : Valuation τ sig (Elt Ideal))
    (hm : ∀ (b : Fin 4) (p : Fin 262144) (g : Fin 3), (W (Proc.devRef .tc main_v148) : S4x262144x3.Idx → EReal) (ix3 b p g) = amx (Zr xs α β) (3 * b.val + g.val) p.val)
    (b : Fin 4) (p : Fin 262144) (g : Fin 3) :
    (StableHlo.after opsF2 W (Proc.devRef .tc main_v164) : S4x262144x3.Idx → EReal) (ix3 b p g) = isc (Zr xs α β) (3 * b.val + g.val) p.val := by
  after_reads_at
  simp only [hm]
  rw [expo_ref, pow_two, neg_eq]
  rfl

theorem stageF2 (W : Valuation τ sig (Elt Ideal))
    (hz : ∀ (b : Fin 4) (p : Fin 262144) (g : Fin 3) (x : Fin 32), (W (Proc.devRef .tc main_v146) : S4x262144x3x32.Idx → EReal) (ix4 b p g x) = Zr xs α β (96 * b.val + (g.val * 32 + x.val)) p.val)
    (hi : ∀ (b : Fin 4) (p : Fin 262144) (g : Fin 3), (W (Proc.devRef .tc main_v164) : S4x262144x3.Idx → EReal) (ix3 b p g) = isc (Zr xs α β) (3 * b.val + g.val) p.val)
    (b : Fin 4) (p : Fin 262144) (d : Fin 96) :
    (StableHlo.after opsF3 W (Proc.devRef .tc main_v172) : S4x262144x96.Idx → EReal) (ix3 b p d) = cod (Zr xs α β) (96 * b.val + d.val) p.val := by
  after_reads_at
  simp only [hz, hi]
  rw [clip_ref]
  unfold cod
  rw [show d.val / 32 * 32 + d.val % 32 = d.val by omega, show (96 * b.val + d.val) / 32 = 3 * b.val + d.val / 32 by omega]

theorem stageF2' (W : Valuation τ sig (Elt Ideal))
    (hi : ∀ (b : Fin 4) (p : Fin 262144) (g : Fin 3), (W (Proc.devRef .tc main_v162) : S4x262144x3.Idx → EReal) (ix3 b p g) = scl (Zr xs α β) (3 * b.val + g.val) p.val)
    (b : Fin 4) (p : Fin 262144) (d : Fin 96) :
    (StableHlo.after opsF3 W (Proc.devRef .tc main_v175) : S4x262144x96.Idx → EReal) (ix3 b p d) = scl (Zr xs α β) (3 * b.val + d.val / 32) p.val := by
  after_reads_at
  simp only [hi]

/-- Buffers a stretch does not write. -/
theorem keep (W : Valuation τ sig (Elt Ideal)) :
    (∀ d, (StableHlo.after opsC1 (StableHlo.after opsB (StableHlo.after opsA W)) (Proc.devRef .tc main_arg1) : S96.Idx → EReal) (ix1 d) = (W (Proc.devRef .tc main_arg1) : S96.Idx → EReal) (ix1 d)) ∧
    (∀ d, (StableHlo.after opsC1 (StableHlo.after opsB (StableHlo.after opsA W)) (Proc.devRef .tc main_arg2) : S96.Idx → EReal) (ix1 d) = (W (Proc.devRef .tc main_arg2) : S96.Idx → EReal) (ix1 d)) ∧
    (∀ b p g x, (StableHlo.after opsF2 W (Proc.devRef .tc main_v146) : S4x262144x3x32.Idx → EReal) (ix4 b p g x) = (W (Proc.devRef .tc main_v146) : S4x262144x3x32.Idx → EReal) (ix4 b p g x)) ∧
    (∀ b p g, (StableHlo.after opsF3 W (Proc.devRef .tc main_v162) : S4x262144x3.Idx → EReal) (ix3 b p g) = (W (Proc.devRef .tc main_v162) : S4x262144x3.Idx → EReal) (ix3 b p g)) := by
  refine ⟨fun d => ?_, fun d => ?_, fun b p g x => ?_, fun b p g => ?_⟩
  all_goals repeat after_reads_at

/-- What the reference's last part reads, for an input of numbers. -/
theorem ref_values (W : Valuation τ sig (Elt Ideal))
    (hx : ∀ b p d, b < 4 → p < 262144 → d < 96 → g3 (W (Proc.devRef .tc main_arg0) : S4x262144x96.Idx → EReal) b p d = (xs (96 * b + d) p : EReal))
    (hα : ∀ d : Fin 96, (W (Proc.devRef .tc main_arg1) : S96.Idx → EReal) (ix1 d) = α d.val)
    (hβ : ∀ d : Fin 96, (W (Proc.devRef .tc main_arg2) : S96.Idx → EReal) (ix1 d) = β d.val) :
    (∀ b p d, (StableHlo.after hostOps0 W (Proc.devRef .tc main_v172) : S4x262144x96.Idx → EReal) (ix3 b p d) = cod (Zr xs α β) (96 * b.val + d.val) p.val) ∧
    (∀ b p d, (StableHlo.after hostOps0 W (Proc.devRef .tc main_v175) : S4x262144x96.Idx → EReal) (ix3 b p d) = scl (Zr xs α β) (3 * b.val + d.val / 32) p.val) ∧
    (∀ b p g, (StableHlo.after hostOps0 W (Proc.devRef .tc main_v162) : S4x262144x3.Idx → EReal) (ix3 b p g) = scl (Zr xs α β) (3 * b.val + g.val) p.val) := by
  rw [ops_eq]
  simp only [StableHlo.after_append]
  have hA := fun (b : Fin 4) (p : Fin 262150) (d : Fin 96) => (readA W b p d).trans (hx _ _ _ b.isLt (by omega) d.isLt)
  have hB0 := stageB0 xs _ hA
  have hB1 := stageB1 xs _ hA
  have hC1 := stageC1 xs _ hB0 hB1
  have hC2 := stageC2 xs α β _ (fun d => ((keep W).1 d).trans (hα d)) (fun d => ((keep W).2.1 d).trans (hβ d)) hC1
  have hD := stageD xs α β _ hC2
  have hE := stageE xs α β _ hD
  have hM := stageF0 xs α β _ hE
  have hZ := stageF0' xs α β _ hE
  have hS := stageF1 xs α β _ hM
  have hI := stageF1' xs α β _ hM
  exact ⟨stageF2 xs α β _ (fun b p g x => ((keep _).2.2.1 b p g x).trans (hZ b p g x)) hI, stageF2' xs α β _ hS, fun b p g => ((keep _).2.2.2 b p g).trans (hS b p g)⟩

end Cert.ReferenceIdeal.Val
-- ==== Proof.Value.RefPay.lean ====
/-
  The reference's last part, element by element.
-/
module

public import proofs.«01_k».proof.Proof.Value.RefHost
public import proofs.«01_k».proof.Proof.Gen.ReferenceIdeal.Frame
public import Idealize.ShloMosaic.Lib.Pointwise
public import Idealize.ShloMosaic.Lib.Pipeline.ValueKit

@[expose] public section

set_option maxRecDepth 16384
set_option maxHeartbeats 400000

noncomputable section

namespace Cert.ReferenceIdeal.Val

open Idealize.ShloMosaic Idealize.ShloMosaic.TcCoe Cert.Val Cert.ReferenceIdeal.Gen

/-- One tap of the convolution at a place of the signal. -/
def tap (a : S4x262144x96.Idx → EReal) (w : S1x96x96.Idx → EReal) (b : Fin 4) (p : Fin 262144) (o : Fin 96) : EReal :=
  ∑ k : Fin 96, a (ix3 b p k) * w (ix3 0 k o)

theorem pay7_at (v0 v4 : Vec Ideal S4x262144x96 .f32) (w : Vec Ideal S1x96x96 .fp8e4m3) (b : Fin 4) (p : Fin 262144) (o : Fin 96) :
    (k0_pay7 v0 v4 w : S4x262144x96.Idx → EReal) (ix3 b p o) = tap (fun i => (v0 : S4x262144x96.Idx → EReal) i * (v4 : S4x262144x96.Idx → EReal) i) w b p o := by
  unfold tap
  pointwise [k0_pay7, k0_pay5, k0_pay4]

theorem pay6_at (v0 v4 : Vec Ideal S4x262144x96 .f32) (w w' : Vec Ideal S1x96x96 .fp8e4m3) (b : Fin 4) (p : Fin 262144) (o : Fin 96) :
    (k0_pay6 v0 v4 w w' : S4x262144x96.Idx → EReal) (ix3 b p o) =
      (if h : p.val = 0 then 0 else tap (fun i => (v0 : S4x262144x96.Idx → EReal) i * (v4 : S4x262144x96.Idx → EReal) i) w b ⟨p.val - 1, by omega⟩ o) + tap (fun i => (v0 : S4x262144x96.Idx → EReal) i * (v4 : S4x262144x96.Idx → EReal) i) w' b p o := by
  unfold tap
  pointwise [k0_pay6, k0_pay5, k0_pay4]
  have hp := p.isLt
  have hb := b.isLt
  rw [dif_pos (show p.val < 262145 by omega), dif_pos (show 1 + p.val < 262145 by omega)]
  congr 1
  by_cases h : p.val = 0
  · rw [dif_pos (show p.val < 1 by omega), dif_pos h]
    simp
  · rw [dif_neg (show ¬ p.val < 1 by omega), dif_neg h]
    refine Finset.sum_congr rfl fun x _ => ?_
    have e : (b.val * 262144 + (p.val - 1)) % 262144 = p.val - 1 := by omega
    simp only [e]

theorem pay1_at (v33 v38 : FVec Ideal S4x262144x96 .f32) (v46 : Vec Ideal S4x262144x96 .bf16) (v48 v52 : Vec Ideal S96 .f32) (b : Fin 4) (o : Fin 96) (p : Fin 262144) :
    (k0_pay1 v33 v38 v46 v48 v52 : S4x96x262144.Idx → EReal) (ix3 b o p) =
      (v46 : S4x262144x96.Idx → EReal) (ix3 b p o) + (((v33 : S4x262144x96.Idx → EReal) (ix3 b p o) + (if h : p.val + 1 < 262144 then (v38 : S4x262144x96.Idx → EReal) (ix3 b ⟨p.val + 1, h⟩ o) else 0)) * (v48 : S96.Idx → EReal) (ix1 o) + (v52 : S96.Idx → EReal) (ix1 o)) := by
  pointwise [k0_pay1]
  have hp := p.isLt
  congr 4
  by_cases h : p.val + 1 < 262144
  · rw [dif_pos (show 2 + p.val < 262145 by omega), dif_neg (show ¬ 2 + p.val < 1 by omega), dif_pos h]
    have e : 2 + p.val - 1 = p.val + 1 := by omega
    simp only [e]
  · rw [dif_neg (show ¬ 2 + p.val < 262145 by omega), dif_neg h]
    simp

theorem pay2_at (v2 : Vec Ideal S4x262144x96 .f32) (b : Fin 4) (o : Fin 96) (p : Fin 262144) :
    (k0_pay2 (k0_pay4 v2) : S4x96x262144.Idx → EReal) (ix3 b o p) = (v2 : S4x262144x96.Idx → EReal) (ix3 b p o) := by
  pointwise [k0_pay2, k0_pay4]

theorem pay3_at (v : Vec Ideal S4x262144x3 .f32) (g : Fin 3) (b : Fin 4) (p : Fin 262144) :
    (k0_pay3 v : S3x4x262144.Idx → EReal) (ix3 g b p) = (v : S4x262144x3.Idx → EReal) (ix3 b p g) := by
  pointwise [k0_pay3]

end Cert.ReferenceIdeal.Val

end

end
-- ==== Proof.Value.Conv.lean ====
/-
  The convolution's payloads: three shifted copies of the activated samples, and the product with the weights.
-/
module

public import proofs.«01_k».proof.Proof.Value.Tile2

@[expose] public section

set_option maxRecDepth 16384
set_option maxHeartbeats 400000

noncomputable section

namespace Cert.KernelIdeal.Val

open Idealize.ShloMosaic Cert.Sem Cert.Val Cert.KernelIdeal.Gen Cert.KernelIdeal.Run

/-- The lane numbers. -/
abbrev lanes : IVec S1x128 32 := iota .tc S1x128 32 [1] iota_S1x128_d1_w32

/-- The three shifted copies, one below another, of a block and the blocks on either side. -/
def stk (u v w : ℕ → ℕ → EReal) (x l : ℕ) : EReal :=
  if x < 96 then (if l = 0 then u x 127 else v x (l - 1)) else if x < 192 then v (x - 96) l
    else (if l = 127 then w (x - 192) 0 else v (x - 192) (l + 1))

theorem sel_eq (n m l : ℕ) (a b : EReal) (hn : n < 128) (hl : l < 128) (h : m = n) :
    Scalar.select (IntOp.cmpi CmpIPredicate.eq (BitVec.ofNat 32 l) (BitVec.ofNat 32 n)) a b = if l = m then a else b := by
  subst h
  have e : IntOp.cmpi CmpIPredicate.eq (BitVec.ofNat 32 l) (BitVec.ofNat 32 m) = if l = m then 1#1 else 0#1 := by
    unfold IntOp.cmpi
    by_cases h : l = m
    · subst h; simp
    · have hne : BitVec.ofNat 32 l ≠ BitVec.ofNat 32 m := fun hh => h (by
        have := congrArg BitVec.toNat hh
        simp only [BitVec.toNat_ofNat] at this
        omega)
      rw [if_neg h]
      show BitVec.ofBool (BitVec.ofNat 32 l == BitVec.ofNat 32 m) = 0#1
      rw [beq_false_of_ne hne]; rfl
  rw [e]
  split_ifs <;> rfl

/-- Splitting the rows by parity and joining them again changes nothing; the rotations move the lanes by one. -/
theorem stk_shape (u v w : ℕ → ℕ → EReal) (x l : ℕ) (hl : l < 128) :
    (if x < 96 then
      (if x % 2 = 0 then
        Scalar.select (IntOp.cmpi CmpIPredicate.eq (BitVec.ofNat 32 l) 0#32) (u (2 * (x / 2)) ((l + 128 - 1) % 128)) (v (2 * (x / 2)) ((l + 128 - 1) % 128))
      else
        Scalar.select (IntOp.cmpi CmpIPredicate.eq (BitVec.ofNat 32 l) 0#32) (u (2 * (x / 2) + 1) ((l + 128 - 1) % 128)) (v (2 * (x / 2) + 1) ((l + 128 - 1) % 128)))
    else
      if x - 96 < 96 then v (x - 96) l
      else
        if (x - 96 - 96) % 2 = 0 then
          Scalar.select (IntOp.cmpi CmpIPredicate.eq (BitVec.ofNat 32 l) 127#32) (w (2 * ((x - 96 - 96) / 2)) ((l + 128 - 127) % 128)) (v (2 * ((x - 96 - 96) / 2)) ((l + 128 - 127) % 128))
        else
          Scalar.select (IntOp.cmpi CmpIPredicate.eq (BitVec.ofNat 32 l) 127#32) (w (2 * ((x - 96 - 96) / 2) + 1) ((l + 128 - 127) % 128)) (v (2 * ((x - 96 - 96) / 2) + 1) ((l + 128 - 127) % 128))) =
    stk u v w x l := by
  have s0 := fun a b => sel_eq 0 0 l a b (by omega) hl rfl
  have s1 := fun a b => sel_eq 127 127 l a b (by omega) hl rfl
  simp only [s0, s1]
  unfold stk
  split_ifs
  all_goals first | omega | (congr 1 <;> omega)

theorem pay164 (u v w : Vec Ideal S96x128 .bf16) (x l : ℕ) (hx : x < 288) (hl : l < 128) :
    g2 (k0_pay164 lanes u v w) x l = stk (g2 u) (g2 v) (g2 w) x l := by
  refine (g2_eq (k0_pay164 lanes u v w) ⟨x, hx⟩ ⟨l, hl⟩).symm.trans ?_
  pointwise [k0_pay164]
  simp only [g2_eq]
  exact stk_shape (g2 u) (g2 v) (g2 w) x l hl

theorem pay181 (u v w : Vec Ideal S96x128 .bf16) (x l : ℕ) (hx : x < 288) (hl : l < 128) :
    g2 (k0_pay181 lanes u v w) x l = stk (g2 u) (g2 v) (g2 w) x l := by
  refine (g2_eq (k0_pay181 lanes u v w) ⟨x, hx⟩ ⟨l, hl⟩).symm.trans ?_
  pointwise [k0_pay181]
  simp only [g2_eq]
  exact stk_shape (g2 u) (g2 v) (g2 w) x l hl

theorem pay165 (v : Vec Ideal S96x288 .fp8e4m3) : k0_pay165 v = v := by
  unfold k0_pay165; exact shapeCast_self _ _

theorem pay182 (v : Vec Ideal S96x288 .fp8e4m3) : k0_pay182 v = v := by
  unfold k0_pay182; exact shapeCast_self _ _

/-- One block of the convolution's result. -/
def cv (W : ℕ → ℕ → EReal) (A : ℕ → EReal) (x ws bs : EReal) (d : ℕ) : EReal :=
  x + ((∑ k : Fin 288, W d k.val * A k.val) * ws + bs)

theorem pay166 (a : FVec Ideal S288x128 .bf16) (w : FVec Ideal S96x288 .fp8e4m3) (x : Vec Ideal S1x96x128 .bf16) (p q : Vec Ideal S96x128 .f32) (d l : ℕ) (hd : d < 96) (hl : l < 128) :
    g3 (k0_pay166 a w x p q) 0 d l = cv (g2 w) (fun k => g2 a k l) (g3 x 0 d l) (g2 p d l) (g2 q d l) d := by
  refine (g3_eq (k0_pay166 a w x p q) 0 ⟨d, hd⟩ ⟨l, hl⟩).symm.trans ?_
  pointwise [k0_pay166]
  simp only [g2_eq, g3_eq]
  rfl

theorem pay3 (a : FVec Ideal S288x128 .bf16) (w : FVec Ideal S96x288 .fp8e4m3) (x : Vec Ideal S1x96x128 .bf16) (p q : Vec Ideal S96x128 .f32) (d l : ℕ) (hd : d < 96) (hl : l < 128) :
    g3 (k0_pay3 a w x p q) 0 d l = cv (g2 w) (fun k => g2 a k l) (g3 x 0 d l) (g2 p d l) (g2 q d l) d := by
  refine (g3_eq (k0_pay3 a w x p q) 0 ⟨d, hd⟩ ⟨l, hl⟩).symm.trans ?_
  pointwise [k0_pay3]
  simp only [g2_eq, g3_eq]
  rfl

theorem pay174 (u v w : Vec Ideal S96x128 .bf16) (c : Vec Ideal S96x288 .fp8e4m3) (x : Vec Ideal S1x96x128 .bf16) (p q : Vec Ideal S96x128 .f32) (d l : ℕ) (hd : d < 96) (hl : l < 128) :
    g3 (k0_pay174 lanes v (k0_pay167 v) (k0_pay168 v) (k0_pay169 w) (k0_pay170 w) (k0_pay172 lanes u v) (k0_pay173 lanes u v) c x p q) 0 d l =
      cv (g2 c) (fun k => stk (g2 u) (g2 v) (g2 w) k l) (g3 x 0 d l) (g2 p d l) (g2 q d l) d := by
  refine (g3_eq (k0_pay174 lanes v (k0_pay167 v) (k0_pay168 v) (k0_pay169 w) (k0_pay170 w) (k0_pay172 lanes u v) (k0_pay173 lanes u v) c x p q) 0 ⟨d, hd⟩ ⟨l, hl⟩).symm.trans ?_
  pointwise [k0_pay174, k0_pay167, k0_pay168, k0_pay169, k0_pay170, k0_pay171, k0_pay172, k0_pay173]
  simp only [g2_eq, g3_eq]
  unfold cv
  congr 3
  refine Finset.sum_congr rfl fun k _ => congrArg _ ?_
  exact stk_shape (g2 u) (g2 v) (g2 w) k.val l hl

theorem pay180 (u v w : Vec Ideal S96x128 .bf16) (c : Vec Ideal S96x288 .fp8e4m3) (x : Vec Ideal S1x96x128 .bf16) (p q : Vec Ideal S96x128 .f32) (d l : ℕ) (hd : d < 96) (hl : l < 128) :
    g3 (k0_pay180 (k0_pay179 lanes (k0_pay175 u) (k0_pay176 u) v (k0_pay177 v) (k0_pay178 v) w c x p q)) 0 d l =
      cv (g2 c) (fun k => stk (g2 u) (g2 v) (g2 w) k l) (g3 x 0 d l) (g2 p d l) (g2 q d l) d := by
  refine (g3_eq (k0_pay180 (k0_pay179 lanes (k0_pay175 u) (k0_pay176 u) v (k0_pay177 v) (k0_pay178 v) w c x p q)) 0 ⟨d, hd⟩ ⟨l, hl⟩).symm.trans ?_
  pointwise [k0_pay180, k0_pay179, k0_pay175, k0_pay176, k0_pay177, k0_pay178]
  simp only [g2_eq, g3_eq]
  unfold cv
  congr 3
  refine Finset.sum_congr rfl fun k _ => congrArg _ ?_
  exact stk_shape (g2 u) (g2 v) (g2 w) k.val l hl

theorem trips4 : k0_t4_loop.trips = 8 := by decide +kernel
theorem trip4_lt (k : Fin k0_t4_loop.trips) : k.val < 8 := lt_of_lt_of_eq k.isLt trips4

theorem off50 : ∀ k : Fin k0_t4_loop.trips, k0_off50 k = ![96 * 0, 128 * k.val] := by decide +kernel
theorem off51l : ∀ k : Fin k0_t4_loop.trips, k0_off51 k 128#32 = ![96 * 0, 128 * k.val + 128] := by decide +kernel
theorem off51r : ∀ k : Fin k0_t4_loop.trips, k0_off51 k 256#32 = ![96 * 0, 128 * k.val + 256] := by decide +kernel
theorem off52 : ∀ k : Fin k0_t4_loop.trips, k0_off52 k = ![0, 0, 128 * k.val] := by decide +kernel
theorem off53 : ∀ k : Fin k0_t4_loop.trips, k0_off53 k = ![96 * 1, 128 * k.val] := by decide +kernel
theorem off54l : ∀ k : Fin k0_t4_loop.trips, k0_off54 k 128#32 = ![96 * 1, 128 * k.val + 128] := by decide +kernel
theorem off54r : ∀ k : Fin k0_t4_loop.trips, k0_off54 k 256#32 = ![96 * 1, 128 * k.val + 256] := by decide +kernel
theorem off55 : ∀ k : Fin k0_t4_loop.trips, k0_off55 k = ![1, 0, 128 * k.val] := by decide +kernel
theorem off56 : ∀ k : Fin k0_t4_loop.trips, k0_off56 k = ![96 * 2, 128 * k.val] := by decide +kernel
theorem off57l : ∀ k : Fin k0_t4_loop.trips, k0_off57 k 128#32 = ![96 * 2, 128 * k.val + 128] := by decide +kernel
theorem off57r : ∀ k : Fin k0_t4_loop.trips, k0_off57 k 256#32 = ![96 * 2, 128 * k.val + 256] := by decide +kernel
theorem off58 : ∀ k : Fin k0_t4_loop.trips, k0_off58 k = ![2, 0, 128 * k.val] := by decide +kernel
theorem off59 : ∀ k : Fin k0_t4_loop.trips, k0_off59 k = ![96 * 3, 128 * k.val] := by decide +kernel
theorem off60l : ∀ k : Fin k0_t4_loop.trips, k0_off60 k 128#32 = ![96 * 3, 128 * k.val + 128] := by decide +kernel
theorem off60r : ∀ k : Fin k0_t4_loop.trips, k0_off60 k 256#32 = ![96 * 3, 128 * k.val + 256] := by decide +kernel
theorem off61 : ∀ k : Fin k0_t4_loop.trips, k0_off61 k = ![3, 0, 128 * k.val] := by decide +kernel

/-- What the convolution of batch `b` reads at row `x` of the stacked copies and column `n`. -/
def tapAt (s : St Ideal) (b n x : ℕ) : EReal := g2 (n0 := 384) (n1 := 1280) s.s16 (96 * b + x % 96) (127 + x / 96 + n)

/-- The convolution's result of batch `b`, channel `d`, column `n`. -/
def cvv (s : St Ideal) (b d n : ℕ) : EReal :=
  cv (g2 (n0 := 96) (n1 := 288) s.s7) (tapAt s b n) (g3 (n0 := 4) (n1 := 96) (n2 := 1024) s.s2 b d n) (g2 (n0 := 96) (n1 := 128) s.s8 d (n % 128)) (g2 (n0 := 96) (n1 := 128) s.s9 d (n % 128)) d

/-- The three blocks of batch `b` around tile `k`. -/
structure Blocks (s : St Ideal) (k b : ℕ) (u v w : S96x128.Idx → EReal) : Prop where
  u : ∀ r l, r < 96 → l < 128 → g2 (n0 := 96) (n1 := 128) u r l = g2 (n0 := 384) (n1 := 1280) s.s16 (96 * b + r) (128 * k + l)
  v : ∀ r l, r < 96 → l < 128 → g2 (n0 := 96) (n1 := 128) v r l = g2 (n0 := 384) (n1 := 1280) s.s16 (96 * b + r) (128 * k + 128 + l)
  w : ∀ r l, r < 96 → l < 128 → g2 (n0 := 96) (n1 := 128) w r l = g2 (n0 := 384) (n1 := 1280) s.s16 (96 * b + r) (128 * k + 256 + l)

theorem blocks (s : St Ideal) (k b : ℕ) (hk : k < 8) (hb : b < 4) (o1 o2 o3 : Fin 2 → ℕ) (i1 i2 i3) (e1 : o1 = ![96 * b, 128 * k]) (e2 : o2 = ![96 * b, 128 * k + 128]) (e3 : o3 = ![96 * b, 128 * k + 256]) :
    Blocks s k b (rd s.s16 (Rect.unit (s := S384x1280) o1 S96x128.size i1).toLoadRect) (rd s.s16 (Rect.unit (s := S384x1280) o2 S96x128.size i2).toLoadRect) (rd s.s16 (Rect.unit (s := S384x1280) o3 S96x128.size i3).toLoadRect) :=
  ⟨fun r l hr hl => g2_rd' _ _ _ _ e1 _ _ _ hr hl (by omega) (by omega),
   fun r l hr hl => g2_rd' _ _ _ _ e2 _ _ _ hr hl (by omega) (by omega),
   fun r l hr hl => g2_rd' _ _ _ _ e3 _ _ _ hr hl (by omega) (by omega)⟩

theorem Blocks.stk {s : St Ideal} {k b : ℕ} {u v w : S96x128.Idx → EReal} (h : Blocks s k b u v w) (x l : ℕ) (hx : x < 288) (hl : l < 128) :
    stk (g2 (n0 := 96) (n1 := 128) u) (g2 (n0 := 96) (n1 := 128) v) (g2 (n0 := 96) (n1 := 128) w) x l = tapAt s b (128 * k + l) x := by
  unfold Val.stk tapAt
  split_ifs
  · rw [h.u _ _ (by omega) (by omega)]; congr 1 <;> omega
  · rw [h.v _ _ (by omega) (by omega)]; congr 1 <;> omega
  · rw [h.v _ _ (by omega) (by omega)]; congr 1 <;> omega
  · rw [h.w _ _ (by omega) (by omega)]; congr 1 <;> omega
  · rw [h.v _ _ (by omega) (by omega)]; congr 1 <;> omega

theorem cv_congr {W W' : ℕ → ℕ → EReal} {A A' : ℕ → EReal} {x x' p p' q q' : EReal} {d : ℕ} (hW : ∀ k, k < 288 → W d k = W' d k) (hA : ∀ k, k < 288 → A k = A' k)
    (hx : x = x') (hp : p = p') (hq : q = q') : cv W A x p q d = cv W' A' x' p' q' d := by
  subst hx hp hq
  unfold cv
  congr 3
  exact Finset.sum_congr rfl fun k _ => by rw [hW _ k.isLt, hA _ k.isLt]

/-- The loads of the input block, the weights, the factors and the offsets, put together. -/
theorem cv_loads (s : St Ideal) (k b d l : ℕ) (hk : k < 8) (hb : b < 4) (hd : d < 96) (hl : l < 128) (A : ℕ → EReal) (hA : ∀ x, x < 288 → A x = tapAt s b (128 * k + l) x)
    (o : Fin 3 → ℕ) (eo : o = ![b, 0, 128 * k]) (io i7 i8 i9) :
    cv (g2 (n0 := 96) (n1 := 288) (rd s.s7 (Rect.unit (s := S96x288) ![0, 0] S96x288.size i7).toLoadRect)) A
      (g3 (n0 := 1) (n1 := 96) (n2 := 128) (rd s.s2 (Rect.unit (s := S4x96x1024) o S1x96x128.size io).toLoadRect) 0 d l)
      (g2 (n0 := 96) (n1 := 128) (rd s.s8 (Rect.unit (s := S96x128) ![0, 0] S96x128.size i8).toLoadRect) d l)
      (g2 (n0 := 96) (n1 := 128) (rd s.s9 (Rect.unit (s := S96x128) ![0, 0] S96x128.size i9).toLoadRect) d l) d = cvv s b d (128 * k + l) := by
  have el : (128 * k + l) % 128 = l := by omega
  unfold cvv
  rw [el]
  refine cv_congr (fun x hx => ?_) hA ?_ ?_ ?_
  · exact (g2_rd _ 0 0 _ _ _ hd hx (by omega) (by omega)).trans (by rw [Nat.zero_add, Nat.zero_add])
  · exact (g3_rd' _ _ _ _ _ eo _ _ _ _ (by omega) hd hl (by omega) (by omega) (by omega)).trans (by rw [Nat.zero_add, Nat.add_zero])
  · exact (g2_rd _ 0 0 _ _ _ hd hl (by omega) (by omega)).trans (by rw [Nat.zero_add, Nat.zero_add])
  · exact (g2_rd _ 0 0 _ _ _ hd hl (by omega) (by omega)).trans (by rw [Nat.zero_add, Nat.zero_add])

/-- A block of results of batch `b`, tile `k`. -/
def PF (s : St Ideal) (k b : ℕ) (p : S1x96x128.Idx → EReal) : Prop := ∀ d l, d < 96 → l < 128 → g3 (n0 := 1) (n1 := 96) (n2 := 128) p 0 d l = cvv s b d (128 * k + l)

theorem part38_eq (i : grid0.Coords) (k : Fin k0_t4_loop.trips) (s : St Ideal) (a b : BitVec 32) :
    ∃ q u v w c, m_part38 i lanes a b k s = (⟨q, k0_pay164 lanes u v w, c⟩, s) ∧ Blocks s k.val 0 u v w ∧ c = rd s.s7 (Rect.unit (s := S96x288) ![0, 0] S96x288.size inb_S96x288_S96x288_0_0).toLoadRect := by
  have hk := trip4_lt k
  unfold m_part38
  dsimp only [bind_apply, pure_apply, ld]
  exact ⟨_, _, _, _, _, rfl, blocks s k.val 0 hk (by omega) _ _ _ _ _ _ (off50 k) (off51l k) (off51r k), pay165 _⟩

theorem part39_eq (i : grid0.Coords) (k : Fin k0_t4_loop.trips) (s : St Ideal) (z : BitVec 32) (u v w : Vec Ideal S96x128 .bf16) (hb : Blocks s k.val 0 u v w) :
    ∃ u' v' w' p, m_part39 i lanes k z (k0_pay164 lanes u v w) (rd s.s7 (Rect.unit (s := S96x288) ![0, 0] S96x288.size inb_S96x288_S96x288_0_0).toLoadRect) s =
        (⟨v', k0_pay167 v', k0_pay168 v', k0_pay169 w', k0_pay170 w', k0_pay172 lanes u' v', k0_pay173 lanes u' v'⟩, { s with s10 := VecWindow.put s.s10 ![0, 0, 128 * k.val] S1x96x128.size p }) ∧
      Blocks s k.val 1 u' v' w' ∧ PF s k.val 0 p := by
  have hk := trip4_lt k
  unfold m_part39
  dsimp only [bind_apply, pure_apply, ld, st, St.set10]
  simp only [off52]
  refine ⟨_, _, _, _, rfl, blocks s k.val 1 hk (by omega) _ _ _ _ _ _ (off53 k) (off54l k) (off54r k), fun d l hd hl => ?_⟩
  refine (pay166 _ _ _ _ _ d l hd hl).trans ?_
  exact cv_loads s k.val 0 d l hk (by omega) hd hl _ (fun x hx => (pay164 u v w x l hx hl).trans (hb.stk x l hx hl)) _ (off52 k) _ _ _ _

theorem part40_eq (i : grid0.Coords) (k : Fin k0_t4_loop.trips) (s : St Ideal) (z : BitVec 32) (u v w : Vec Ideal S96x128 .bf16) (hb : Blocks s k.val 1 u v w) :
    ∃ u' v' p, m_part40 i lanes k z v (k0_pay167 v) (k0_pay168 v) (k0_pay169 w) (k0_pay170 w) (k0_pay172 lanes u v) (k0_pay173 lanes u v) s =
        (⟨k0_pay175 u', k0_pay176 u', v', k0_pay177 v', k0_pay178 v'⟩, { s with s10 := VecWindow.put s.s10 ![1, 0, 128 * k.val] S1x96x128.size p }) ∧
      (∀ i3, Blocks s k.val 2 u' v' (rd s.s16 (Rect.unit (s := S384x1280) (k0_off57 k 256#32) S96x128.size i3).toLoadRect)) ∧ PF s k.val 1 p := by
  have hk := trip4_lt k
  unfold m_part40
  dsimp only [bind_apply, pure_apply, ld, st, St.set10]
  simp only [off55]
  refine ⟨_, _, _, rfl, fun i3 => blocks s k.val 2 hk (by omega) _ _ _ _ _ _ (off56 k) (off57l k) (off57r k), fun d l hd hl => ?_⟩
  refine (pay174 _ _ _ _ _ _ _ d l hd hl).trans ?_
  exact cv_loads s k.val 1 d l hk (by omega) hd hl _ (fun x hx => hb.stk x l hx hl) _ (off55 k) _ _ _ _

theorem part41_eq (i : grid0.Coords) (k : Fin k0_t4_loop.trips) (s : St Ideal) (z : BitVec 32) (u v : Vec Ideal S96x128 .bf16)
    (hb : ∀ i3, Blocks s k.val 2 u v (rd s.s16 (Rect.unit (s := S384x1280) (k0_off57 k 256#32) S96x128.size i3).toLoadRect)) :
    ∃ y, m_part41 i lanes k z (k0_pay175 u) (k0_pay176 u) v (k0_pay177 v) (k0_pay178 v) s = (y, s) ∧ PF s k.val 2 (k0_pay180 y) := by
  have hk := trip4_lt k
  unfold m_part41
  dsimp only [bind_apply, pure_apply, ld, st, St.set10]
  refine ⟨_, rfl, fun d l hd hl => ?_⟩
  refine (pay180 _ _ _ _ _ _ _ d l hd hl).trans ?_
  exact cv_loads s k.val 2 d l hk (by omega) hd hl _ (fun x hx => (hb _).stk x l hx hl) _ (off58 k) _ _ _ _

theorem part42_eq (i : grid0.Coords) (k : Fin k0_t4_loop.trips) (s : St Ideal) (z : BitVec 32) (y : FVec Ideal S96x128 .f32) :
    ∃ u v w c, m_part42 i lanes k z y s = (⟨k0_pay181 lanes u v w, c⟩, { s with s10 := VecWindow.put s.s10 ![2, 0, 128 * k.val] S1x96x128.size (k0_pay180 y) }) ∧
      Blocks s k.val 3 u v w ∧ c = rd s.s7 (Rect.unit (s := S96x288) ![0, 0] S96x288.size inb_S96x288_S96x288_0_0).toLoadRect := by
  have hk := trip4_lt k
  unfold m_part42
  dsimp only [bind_apply, pure_apply, ld, st, St.set10]
  simp only [off58]
  exact ⟨_, _, _, _, rfl, blocks s k.val 3 hk (by omega) _ _ _ _ _ _ (off59 k) (off60l k) (off60r k), pay182 _⟩

/-- The last store of a tile. -/
def m_fin4 (k : Fin k0_t4_loop.trips) (v240 : FVec Ideal S288x128 .bf16) (v242 : FVec Ideal S96x288 .fp8e4m3) : M (St Ideal) Unit := do
  let v246 : Vec Ideal S1x96x128 .bf16 ← ld St.s2 (Rect.unit (s := S4x96x1024) (k0_off61 k) S1x96x128.size (k0_off61_inb k)).toLoadRect
  let v249 : Vec Ideal S96x128 .f32 ← ld St.s8 (Rect.unit (s := S96x128) ![0, 0] S96x128.size inb_S96x128_S96x128_0_0).toLoadRect
  let v252 : Vec Ideal S96x128 .f32 ← ld St.s9 (Rect.unit (s := S96x128) ![0, 0] S96x128.size inb_S96x128_S96x128_0_0).toLoadRect
  st St.s10 St.set10 (k0_off61 k) S1x96x128.size (k0_pay3 v240 v242 v246 v249 v252)
  pure ⟨⟩

theorem fin4_eq (k : Fin k0_t4_loop.trips) (s : St Ideal) (u v w : Vec Ideal S96x128 .bf16) (hb : Blocks s k.val 3 u v w) :
    ∃ p, m_fin4 k (k0_pay181 lanes u v w) (rd s.s7 (Rect.unit (s := S96x288) ![0, 0] S96x288.size inb_S96x288_S96x288_0_0).toLoadRect) s =
        ((), { s with s10 := VecWindow.put s.s10 ![3, 0, 128 * k.val] S1x96x128.size p }) ∧ PF s k.val 3 p := by
  have hk := trip4_lt k
  unfold m_fin4
  dsimp only [bind_apply, pure_apply, ld, st, St.set10]
  simp only [off61]
  refine ⟨_, rfl, fun d l hd hl => ?_⟩
  refine (pay3 _ _ _ _ _ d l hd hl).trans ?_
  exact cv_loads s k.val 3 d l hk (by omega) hd hl _ (fun x hx => (pay181 u v w x l hx hl).trans (hb.stk x l hx hl)) _ (off61 k) _ _ _ _

/-- One tile of the convolution. -/
theorem t4_step (i : grid0.Coords) (k : Fin k0_t4_loop.trips) (s : St Ideal) :
    ∃ p0 p1 p2 p3 : S1x96x128.Idx → EReal, (m_t4 i lanes k () s).2 = { s with s10 := VecWindow.put (VecWindow.put (VecWindow.put (VecWindow.put s.s10 ![0, 0, 128 * k.val] S1x96x128.size p0) ![1, 0, 128 * k.val] S1x96x128.size p1) ![2, 0, 128 * k.val] S1x96x128.size p2) ![3, 0, 128 * k.val] S1x96x128.size p3 } ∧
      PF s k.val 0 p0 ∧ PF s k.val 1 p1 ∧ PF s k.val 2 p2 ∧ PF s k.val 3 p3 := by
  obtain ⟨q, u0, v0, w0, c0, e38, b0, rfl⟩ := part38_eq i k s 0#32 1#32
  obtain ⟨u1, v1, w1, p0, e39, b1, f0⟩ := part39_eq i k s q u0 v0 w0 b0
  generalize hy0 : VecWindow.put s.s10 ![0, 0, 128 * k.val] S1x96x128.size p0 = y0 at e39
  obtain ⟨u2, v2, p1, e40, b2, f1⟩ := part40_eq i k { s with s10 := y0 } q u1 v1 w1 ⟨b1.u, b1.v, b1.w⟩
  dsimp only at e40
  generalize hy1 : VecWindow.put y0 ![1, 0, 128 * k.val] S1x96x128.size p1 = y1 at e40
  obtain ⟨y, e41, f2⟩ := part41_eq i k { s with s10 := y1 } q u2 v2 (fun i3 => ⟨(b2 i3).u, (b2 i3).v, (b2 i3).w⟩)
  obtain ⟨u3, v3, w3, c3, e42, b3, hc⟩ := part42_eq i k { s with s10 := y1 } q y
  dsimp only at e42 hc
  subst hc
  generalize hy2 : VecWindow.put y1 ![2, 0, 128 * k.val] S1x96x128.size (k0_pay180 y) = y2 at e42
  obtain ⟨p3, ef, f3⟩ := fin4_eq k { s with s10 := y2 } u3 v3 w3 ⟨b3.u, b3.v, b3.w⟩
  refine ⟨p0, p1, k0_pay180 y, p3, ?_, f0, f1, f2, f3⟩
  rw [hy0, hy1, hy2]
  refine congrArg Prod.snd (?_ : m_t4 i lanes k () s = ((), { s with s10 := VecWindow.put y2 ![3, 0, 128 * k.val] S1x96x128.size p3 }))
  unfold m_t4
  refine bind_eq e38 ?_
  refine bind_eq e39 ?_
  refine bind_eq e40 ?_
  refine bind_eq e41 ?_
  refine bind_eq e42 ?_
  exact ef

end Cert.KernelIdeal.Val

end

end
-- ==== Proof.Value.Conv2.lean ====
/-
  The loop over the tiles of the convolution.
-/
module

public import proofs.«01_k».proof.Proof.Value.Conv

@[expose] public section

set_option maxRecDepth 16384
set_option maxHeartbeats 200000

noncomputable section

namespace Cert.KernelIdeal.Val

open Idealize.ShloMosaic Cert.Sem Cert.Val Cert.KernelIdeal.Gen Cert.KernelIdeal.Run

/-- The tiles below `k` hold the results. -/
def Done (s : St Ideal) (k : ℕ) (y : S4x96x1024.Idx → EReal) : Prop :=
  ∀ b d n, b < 4 → d < 96 → n < 128 * k → g3 (n0 := 4) (n1 := 96) (n2 := 1024) y b d n = cvv s b d n

theorem put_hit (s : St Ideal) (k c : ℕ) (hc : c < 4) (hk : k < 8) (x : S4x96x1024.Idx → EReal) (p : S1x96x128.Idx → EReal) (hp : PF s k c p) (d n : ℕ) (hd : d < 96) (hn : n < 128 * (k + 1)) (h : ¬ n < 128 * k) :
    g3 (n0 := 4) (n1 := 96) (n2 := 1024) (VecWindow.put x ![c, 0, 128 * k] S1x96x128.size p) c d n = cvv s c d n := by
  refine (g3_hit (n0 := 4) (n1 := 96) (n2 := 1024) (m0 := 1) (m1 := 96) (m2 := 128) x c 0 (128 * k) p c d n ⟨by omega, by omega⟩ ⟨by omega, by omega⟩ ⟨by omega, by omega⟩ (by omega) (by omega) (by omega)).trans ?_
  rw [Nat.sub_self, Nat.sub_zero]
  refine (hp d (n - 128 * k) hd (by omega)).trans ?_
  rw [show 128 * k + (n - 128 * k) = n by omega]

theorem put_miss (k c : ℕ) (hk : k < 8) (hc : c < 4) (x : S4x96x1024.Idx → EReal) (p : S1x96x128.Idx → EReal) (b d n : ℕ) (hb : b < 4) (hd : d < 96) (hn : n < 1024) (h : b ≠ c ∨ n < 128 * k) :
    g3 (n0 := 4) (n1 := 96) (n2 := 1024) (VecWindow.put x ![c, 0, 128 * k] S1x96x128.size p) b d n = g3 (n0 := 4) (n1 := 96) (n2 := 1024) x b d n :=
  g3_miss (n0 := 4) (n1 := 96) (n2 := 1024) (m0 := 1) (m1 := 96) (m2 := 128) x c 0 (128 * k) p b d n hb hd hn (by omega)

theorem done_succ (s : St Ideal) (k : ℕ) (hk : k < 8) (y : S4x96x1024.Idx → EReal) (hy : Done s k y) (p0 p1 p2 p3 : S1x96x128.Idx → EReal)
    (f0 : PF s k 0 p0) (f1 : PF s k 1 p1) (f2 : PF s k 2 p2) (f3 : PF s k 3 p3) :
    Done s (k + 1) (VecWindow.put (VecWindow.put (VecWindow.put (VecWindow.put y ![0, 0, 128 * k] S1x96x128.size p0) ![1, 0, 128 * k] S1x96x128.size p1) ![2, 0, 128 * k] S1x96x128.size p2) ![3, 0, 128 * k] S1x96x128.size p3) := by
  intro b d n hb hd hn
  have hn' : n < 1024 := by omega
  by_cases h : n < 128 * k
  · exact (put_miss k 3 hk (by omega) _ p3 b d n hb hd hn' (.inr h)).trans ((put_miss k 2 hk (by omega) _ p2 b d n hb hd hn' (.inr h)).trans
      ((put_miss k 1 hk (by omega) _ p1 b d n hb hd hn' (.inr h)).trans ((put_miss k 0 hk (by omega) _ p0 b d n hb hd hn' (.inr h)).trans (hy b d n hb hd h))))
  obtain rfl | rfl | rfl | rfl : b = 3 ∨ b = 2 ∨ b = 1 ∨ b = 0 := by omega
  · exact put_hit s k 3 hb hk _ p3 f3 d n hd hn h
  · exact (put_miss k 3 hk (by omega) _ p3 2 d n hb hd hn' (.inl (by omega))).trans (put_hit s k 2 hb hk _ p2 f2 d n hd hn h)
  · exact (put_miss k 3 hk (by omega) _ p3 1 d n hb hd hn' (.inl (by omega))).trans ((put_miss k 2 hk (by omega) _ p2 1 d n hb hd hn' (.inl (by omega))).trans (put_hit s k 1 hb hk _ p1 f1 d n hd hn h))
  · exact (put_miss k 3 hk (by omega) _ p3 0 d n hb hd hn' (.inl (by omega))).trans ((put_miss k 2 hk (by omega) _ p2 0 d n hb hd hn' (.inl (by omega))).trans
      ((put_miss k 1 hk (by omega) _ p1 0 d n hb hd hn' (.inl (by omega))).trans (put_hit s k 0 hb hk _ p0 f0 d n hd hn h)))

theorem bnd_ret {S α β : Type} (f : M S α) (u : β) (s : S) : (bnd f (fun _ => ret u) s).2 = (f s).2 := rfl

theorem rest_loop (i : grid0.Coords) (a : BitVec 32) (v : FVec Ideal S128x128 .bf16) (s : St Ideal) :
    (m_h8_rest i a v s).2 = (loop (m_t4 i lanes) () s).2 := by
  have h : m_h8_rest i a v = bnd (loop (m_t4 (F := Ideal) i lanes) ()) (fun _ => ret PUnit.unit) := by
    unfold m_h8_rest
    dsimp only
    generalize loop (m_t4 (F := Ideal) i lanes) () = f
    rfl
  exact (congrFun (congrArg (fun f s => Prod.snd (f s)) h) s).trans (bnd_ret _ _ s)

theorem t4_done (i : grid0.Coords) (k : Fin k0_t4_loop.trips) (s : St Ideal) (y : S4x96x1024.Idx → EReal) (hy : Done s k.val y) :
    ∃ y' : S4x96x1024.Idx → EReal, (m_t4 i lanes k () { s with s10 := y }).2 = { s with s10 := y' } ∧ Done s (k.val + 1) y' := by
  obtain ⟨p0, p1, p2, p3, e, f0, f1, f2, f3⟩ := t4_step i k { s with s10 := y }
  exact ⟨_, e, done_succ s k.val (trip4_lt k) y hy p0 p1 p2 p3 f0 f1 f2 f3⟩

theorem t4_loop (i : grid0.Coords) (s : St Ideal) :
    ∃ y : S4x96x1024.Idx → EReal, (loop (m_t4 i lanes) () s).2 = { s with s10 := y } ∧ Done s k0_t4_loop.trips y := by
  refine loop_inv (m_t4 i lanes) (fun k u => ∃ y : S4x96x1024.Idx → EReal, u = { s with s10 := y } ∧ Done s k y) ?_ () s ?_
  · rintro k ⟨⟩ u ⟨y, rfl, hy⟩
    exact t4_done i k s y hy
  · exact ⟨s.s10, rfl, fun _ _ _ _ _ h => absurd h (by omega)⟩

/-- The whole convolution. -/
theorem conv_eq (i : grid0.Coords) (a : BitVec 32) (v : FVec Ideal S128x128 .bf16) (s : St Ideal) :
    ∃ y, (m_h8_rest i a v s).2 = { s with s10 := y } ∧ ∀ b d n, b < 4 → d < 96 → n < 1024 → g3 (n0 := 4) (n1 := 96) (n2 := 1024) y b d n = cvv s b d n := by
  obtain ⟨y, e, hy⟩ := t4_loop i s
  refine ⟨y, (rest_loop i a v s).trans e, fun b d n hb hd hn => hy b d n hb hd ?_⟩
  rw [trips4]
  exact hn

end Cert.KernelIdeal.Val

end

end
-- ==== Proof.Value.Step.lean ====
/-
  One step of the kernel: what it leaves in its three output blocks and in the column that the next step reads.
-/
module

public import proofs.«01_k».proof.Proof.Value.Signal
public import proofs.«01_k».proof.Proof.Value.Conv2

@[expose] public section

set_option maxRecDepth 16384
set_option maxHeartbeats 400000

noncomputable section

namespace Cert.KernelIdeal.Val

open Idealize.ShloMosaic Cert.Sem Cert.Val Cert.KernelIdeal.Gen Cert.KernelIdeal.Run

variable (xs : ℕ → ℕ → ℝ) (α β : ℕ → EReal)

/-- The filtered signal. -/
abbrev Zk : ℕ → ℕ → EReal := Zg xs (fqOf α) (gnOf β)

/-- The dequantised signal with a zero before its first sample and one after its last: sample `U - 1` at `U`. -/
def pad (r U : ℕ) : EReal := if U = 0 ∨ U = 262145 then 0 else act (Zk xs α β) r (U - 1)

theorem step_eq (i : grid0.Coords) (t : Fin 256) (ht : (i 0).val = t.val) (s : St Ideal)
    (hx : InWindow (fun r p => ((xr xs t.val r p : ℝ) : EReal)) t s) (hc : Consts (fqOf α) (gnOf β) s)
    (hcar : t.val ≠ 0 → ∀ r, r < 384 → g2 (n0 := 384) (n1 := 1280) s.s16 r 1151 = act (Zk xs α β) r (1024 * t.val - 1)) :
    ∃ y10 y11 y12 x13 x14 x15 x16 x17 x18 x19, (m_body i s).2 = { s with s10 := y10, s11 := y11, s12 := y12, s13 := x13, s14 := x14, s15 := x15, s16 := x16, s17 := x17, s18 := x18, s19 := x19 } ∧
      (∀ b d n, b < 4 → d < 96 → n < 1024 → g3 (n0 := 4) (n1 := 96) (n2 := 1024) y10 b d n =
        cv (g2 (n0 := 96) (n1 := 288) s.s7) (fun k => pad xs α β (96 * b + k % 96) (1024 * t.val + n + k / 96)) (g3 (n0 := 4) (n1 := 96) (n2 := 1024) s.s2 b d n) (g2 (n0 := 96) (n1 := 128) s.s8 d (n % 128)) (g2 (n0 := 96) (n1 := 128) s.s9 d (n % 128)) d) ∧
      (∀ b d n, b < 4 → d < 96 → n < 1024 → g3 (n0 := 4) (n1 := 96) (n2 := 1024) y11 b d n = cod (Zk xs α β) (96 * b + d) (1024 * t.val + n)) ∧
      (∀ g b n, g < 3 → b < 4 → n < 1024 → g3 (n0 := 3) (n1 := 4) (n2 := 1024) y12 g b n = scl (Zk xs α β) (3 * b + g) (1024 * t.val + n)) ∧
      ∀ r, r < 384 → g2 (n0 := 384) (n1 := 1280) x16 r 1151 = act (Zk xs α β) r (1024 * (t.val + 1) - 1) := by
  have htl := t.isLt
  obtain ⟨x13, v, eW, h13⟩ := window_eq i t ht s hx
  obtain ⟨x11, x12, x14, x15, w16, x17, x18, x19, w, eC, h14, h15, hC, hw⟩ := chunk_eq (xr xs t.val) (fqOf α) (gnOf β) i t v { s with s13 := x13 } ⟨hc.up, hc.freq, hc.gain⟩ h13
  obtain ⟨x16, p, q, r', eA, hA, hA'⟩ := after_eq (E := edE t.val (se (xr xs t.val) (fqOf α) (gnOf β)) (so (xr xs t.val) (fqOf α) (gnOf β))) (O := edO t.val (se (xr xs t.val) (fqOf α) (gnOf β)) (so (xr xs t.val) (fqOf α) (gnOf β))) i t v
    { s with s11 := x11, s12 := x12, s13 := x13, s14 := x14, s15 := x15, s16 := w16, s17 := x17, s18 := x18, s19 := x19 } ⟨by omega, by omega, h14, h15⟩
  obtain ⟨y10, eY, hY⟩ := conv_eq i (BitVec.ofNat 32 t.val) v { s with s11 := x11, s12 := x12, s13 := x13, s14 := x14, s15 := x15, s16 := x16, s17 := p, s18 := q, s19 := r' }
  have hgn : ∀ r, ∃ g : ℝ, g ≤ 0 ∧ gnOf β r = g := fun r => gnOf_real β r
  have hZ : ∀ n, n < 1024 → ∀ r, Zt (edE t.val (se (xr xs t.val) (fqOf α) (gnOf β)) (so (xr xs t.val) (fqOf α) (gnOf β))) (edO t.val (se (xr xs t.val) (fqOf α) (gnOf β)) (so (xr xs t.val) (fqOf α) (gnOf β))) 10 r n = Zk xs α β r (1024 * t.val + n) :=
    fun n hn r => Zt_eq xs (fqOf α) (gnOf β) hgn t.val 10 r n _ htl (by omega) (by omega)
  have hZ' : ∀ r, Zt (edE t.val (se (xr xs t.val) (fqOf α) (gnOf β)) (so (xr xs t.val) (fqOf α) (gnOf β))) (edO t.val (se (xr xs t.val) (fqOf α) (gnOf β)) (so (xr xs t.val) (fqOf α) (gnOf β))) 1034 r 0 = Zk xs α β r (1024 * (t.val + 1)) :=
    fun r => Zt_eq xs (fqOf α) (gnOf β) hgn t.val 1034 r 0 _ htl (by omega) (by omega)
  have hval : ∀ r n, r < 384 → n < 1024 → g2 (n0 := 384) (n1 := 1280) x16 r (128 + n) = act (Zk xs α β) r (1024 * t.val + n) := fun r n hr hn =>
    (hA r _ hr (by omega)).trans ((hC.val r n hr (by omega)).trans (act_congr (hZ n hn) r))
  have hpad : ∀ r n, r < 384 → n < 1026 → g2 (n0 := 384) (n1 := 1280) x16 r (127 + n) = pad xs α β r (1024 * t.val + n) := by
    intro r n hr hn
    unfold pad
    by_cases h0 : n = 0
    · subst h0
      refine (hA r _ hr (by omega)).trans ((hC.old r 127 hr (by omega)).trans ((hw r hr).trans ?_))
      by_cases h1 : t.val = 0
      · exact (if_pos h1).trans (if_pos (.inl (by omega))).symm
      · exact (if_neg h1).trans ((hcar h1 r hr).trans (if_neg (by omega)).symm)
    by_cases h1 : n = 1025
    · subst h1
      refine (hA' r hr).trans ?_
      by_cases h1 : t.val = 255
      · exact (if_pos h1).trans (if_pos (.inr (by omega))).symm
      · exact (if_neg h1).trans ((act_congr hZ' r).trans ((congrArg (act (Zk xs α β) r) (by omega)).trans (if_neg (by omega)).symm))
    rw [if_neg (by omega), show 127 + n = 128 + (n - 1) by omega, hval r _ hr (by omega)]
    exact congrArg (act (Zk xs α β) r) (by omega)
  refine ⟨y10, x11, x12, x13, x14, x15, x16, p, q, r', ?_, fun b d n hb hd hn => ?_, fun b d n hb hd hn => ?_, fun g b n hg hb hn => ?_, fun r hr => ?_⟩
  · rw [eW, eC]
    exact (congrArg Prod.snd eA).trans eY
  · refine (hY b d n hb hd hn).trans ?_
    unfold cvv
    refine cv_congr (fun _ _ => rfl) (fun k hk => ?_) rfl rfl rfl
    unfold tapAt
    refine Eq.trans ?_ ((hpad (96 * b + k % 96) (n + k / 96) (by omega) (by omega)).trans ?_)
    · rw [show 127 + k / 96 + n = 127 + (n + k / 96) by omega]
    · rw [show 1024 * t.val + (n + k / 96) = 1024 * t.val + n + k / 96 by omega]
  · exact (hC.cod b d n hb hd (by omega)).trans (cod_congr (hZ n hn) _)
  · exact (hC.scl g b n hg hb (by omega)).trans (scl_congr (hZ n hn) _)
  · refine (hval r 1023 hr (by omega)).trans (congrArg (act (Zk xs α β) r) (by omega))

end Cert.KernelIdeal.Val

end

end
-- ==== Proof.Value.Lit0.lean ====
/-
  Rows 0 to 15 of the upsampling matrix, word by word.
-/
module

public import proofs.«01_k».proof.Proof.Value.Taps

@[expose] public section

set_option maxRecDepth 16384

noncomputable section

namespace Cert.KernelIdeal.Val

theorem lit0_rows0 : ∀ (j : Fin 16) (x : Fin 240), lit0 ⟨240 * (0 + j.val) + x.val, by omega⟩ = upPat (0 + j.val) x.val := by
  decide +kernel

end Cert.KernelIdeal.Val
-- ==== Proof.Value.Lit1.lean ====
/-
  Rows 16 to 31 of the upsampling matrix, word by word.
-/
module

public import proofs.«01_k».proof.Proof.Value.Taps

@[expose] public section

set_option maxRecDepth 16384

noncomputable section

namespace Cert.KernelIdeal.Val

theorem lit0_rows1 : ∀ (j : Fin 16) (x : Fin 240), lit0 ⟨240 * (16 + j.val) + x.val, by omega⟩ = upPat (16 + j.val) x.val := by
  decide +kernel

end Cert.KernelIdeal.Val
-- ==== Proof.Value.Lit2.lean ====
/-
  Rows 32 to 47 of the upsampling matrix, word by word.
-/
module

public import proofs.«01_k».proof.Proof.Value.Taps

@[expose] public section

set_option maxRecDepth 16384

noncomputable section

namespace Cert.KernelIdeal.Val

theorem lit0_rows2 : ∀ (j : Fin 16) (x : Fin 240), lit0 ⟨240 * (32 + j.val) + x.val, by omega⟩ = upPat (32 + j.val) x.val := by
  decide +kernel

end Cert.KernelIdeal.Val
-- ==== Proof.Value.Lit3.lean ====
/-
  Rows 48 to 63 of the upsampling matrix, word by word.
-/
module

public import proofs.«01_k».proof.Proof.Value.Taps

@[expose] public section

set_option maxRecDepth 16384

noncomputable section

namespace Cert.KernelIdeal.Val

theorem lit0_rows3 : ∀ (j : Fin 16) (x : Fin 240), lit0 ⟨240 * (48 + j.val) + x.val, by omega⟩ = upPat (48 + j.val) x.val := by
  decide +kernel

end Cert.KernelIdeal.Val
-- ==== Proof.Value.Lit4.lean ====
/-
  Rows 64 to 79 of the upsampling matrix, word by word.
-/
module

public import proofs.«01_k».proof.Proof.Value.Taps

@[expose] public section

set_option maxRecDepth 16384

noncomputable section

namespace Cert.KernelIdeal.Val

theorem lit0_rows4 : ∀ (j : Fin 16) (x : Fin 240), lit0 ⟨240 * (64 + j.val) + x.val, by omega⟩ = upPat (64 + j.val) x.val := by
  decide +kernel

end Cert.KernelIdeal.Val
-- ==== Proof.Value.Lit5.lean ====
/-
  Rows 80 to 95 of the upsampling matrix, word by word.
-/
module

public import proofs.«01_k».proof.Proof.Value.Taps

@[expose] public section

set_option maxRecDepth 16384

noncomputable section

namespace Cert.KernelIdeal.Val

theorem lit0_rows5 : ∀ (j : Fin 16) (x : Fin 240), lit0 ⟨240 * (80 + j.val) + x.val, by omega⟩ = upPat (80 + j.val) x.val := by
  decide +kernel

end Cert.KernelIdeal.Val
-- ==== Proof.Value.Lit6.lean ====
/-
  Rows 96 to 111 of the upsampling matrix, word by word.
-/
module

public import proofs.«01_k».proof.Proof.Value.Taps

@[expose] public section

set_option maxRecDepth 16384

noncomputable section

namespace Cert.KernelIdeal.Val

theorem lit0_rows6 : ∀ (j : Fin 16) (x : Fin 240), lit0 ⟨240 * (96 + j.val) + x.val, by omega⟩ = upPat (96 + j.val) x.val := by
  decide +kernel

end Cert.KernelIdeal.Val
-- ==== Proof.Value.Lit7.lean ====
/-
  Rows 112 to 127 of the upsampling matrix, word by word.
-/
module

public import proofs.«01_k».proof.Proof.Value.Taps

@[expose] public section

set_option maxRecDepth 16384

noncomputable section

namespace Cert.KernelIdeal.Val

theorem lit0_rows7 : ∀ (j : Fin 16) (x : Fin 240), lit0 ⟨240 * (112 + j.val) + x.val, by omega⟩ = upPat (112 + j.val) x.val := by
  decide +kernel

end Cert.KernelIdeal.Val
-- ==== Proof.Value.Lit.lean ====
/-
  The upsampling matrix, word by word.
-/
module

public import proofs.«01_k».proof.Proof.Value.Lit0
public import proofs.«01_k».proof.Proof.Value.Lit1
public import proofs.«01_k».proof.Proof.Value.Lit2
public import proofs.«01_k».proof.Proof.Value.Lit3
public import proofs.«01_k».proof.Proof.Value.Lit4
public import proofs.«01_k».proof.Proof.Value.Lit5
public import proofs.«01_k».proof.Proof.Value.Lit6
public import proofs.«01_k».proof.Proof.Value.Lit7

@[expose] public section

set_option maxRecDepth 16384

noncomputable section

namespace Cert.KernelIdeal.Val

theorem lit0_eq (j x : ℕ) (hj : j < 128) (hx : x < 240) : lit0 ⟨240 * j + x, by omega⟩ = upPat j x := by
  have key : ∀ (b r : ℕ) (hr : r < 16) (hb : j = b + r),
      (∀ (j : Fin 16) (x : Fin 240) (h : 240 * (b + j.val) + x.val < 30720), lit0 ⟨240 * (b + j.val) + x.val, h⟩ = upPat (b + j.val) x.val) →
      lit0 ⟨240 * j + x, by omega⟩ = upPat j x := by
    intro b r hr hb h
    subst hb
    exact h ⟨r, hr⟩ ⟨x, hx⟩ (by simp only; omega)
  have h8 : j / 16 < 8 := by omega
  obtain h | h | h | h | h | h | h | h : j / 16 = 0 ∨ j / 16 = 1 ∨ j / 16 = 2 ∨ j / 16 = 3 ∨ j / 16 = 4 ∨ j / 16 = 5 ∨ j / 16 = 6 ∨ j / 16 = 7 := by omega
  · exact key 0 (j - 0) (by omega) (by omega) fun j x _ => lit0_rows0 j x
  · exact key 16 (j - 16) (by omega) (by omega) fun j x _ => lit0_rows1 j x
  · exact key 32 (j - 32) (by omega) (by omega) fun j x _ => lit0_rows2 j x
  · exact key 48 (j - 48) (by omega) (by omega) fun j x _ => lit0_rows3 j x
  · exact key 64 (j - 64) (by omega) (by omega) fun j x _ => lit0_rows4 j x
  · exact key 80 (j - 80) (by omega) (by omega) fun j x _ => lit0_rows5 j x
  · exact key 96 (j - 96) (by omega) (by omega) fun j x _ => lit0_rows6 j x
  · exact key 112 (j - 112) (by omega) (by omega) fun j x _ => lit0_rows7 j x

end Cert.KernelIdeal.Val
-- ==== Proof.Value.KerHost.lean ====
/-
  What the kernel's arguments are when its steps begin, element by element.
-/
module

public import proofs.«01_k».proof.Proof.Value.Signal
public import proofs.«01_k».proof.Proof.Gen.KernelIdeal.Frame
public import proofs.«01_k».proof.Proof.Value.Lit
public import Idealize.ShloMosaic.Lib.StableHlo.ReadAt

@[expose] public section

set_option maxRecDepth 16384
set_option maxHeartbeats 400000

noncomputable section

namespace Cert.KernelIdeal.Val

open Idealize.ShloMosaic Idealize.ShloMosaic.TcCoe Cert.Val Cert.KernelIdeal.Gen

variable (W : Valuation τ sig (Elt Ideal))

theorem host_up (j : Fin 128) (x : Fin 240) : (StableHlo.after hostOps0 W (Proc.devRef .tc main_cst) : S128x240.Idx → EReal) (ix2 j x) = Ideal.ofBits .bf16 (upPat j.val x.val) := by
  after_reads_at
  refine congrArg (Ideal.ofBits .bf16) (Eq.trans (congrArg lit0 (Fin.ext ?_)) (lit0_eq j.val x.val j.isLt x.isLt))
  show (S128x240.rowMajor (ix2 j x)).val = 240 * j.val + x.val
  show j.val * (240 * 1) + (x.val * 1 + 0) = _
  omega

theorem host_x (b : Fin 4) (d : Fin 96) (p : Fin 262144) : (StableHlo.after hostOps0 W (Proc.devRef .tc main_v0) : S4x96x262144.Idx → EReal) (ix3 b d p) = (W (Proc.devRef .tc main_arg0) : S4x262144x96.Idx → EReal) (ix3 b p d) := by
  after_reads_at

theorem host_freq (α : ℕ → EReal) (hα : ∀ d : Fin 96, (W (Proc.devRef .tc main_arg1) : S96.Idx → EReal) (ix1 d) = α d.val) (c : Fin 384) :
    (StableHlo.after hostOps0 W (Proc.devRef .tc main_v7) : S1x384.Idx → EReal) (ix2 0 c) = fqOf α c.val := by
  after_reads_at
  simp only [hα]
  rfl

theorem host_gain (β : ℕ → EReal) (hβ : ∀ d : Fin 96, (W (Proc.devRef .tc main_arg2) : S96.Idx → EReal) (ix1 d) = β d.val) (c : Fin 384) :
    (StableHlo.after hostOps0 W (Proc.devRef .tc main_v16) : S1x384.Idx → EReal) (ix2 0 c) = gnOf β c.val := by
  after_reads_at
  simp only [hβ]
  rfl

theorem host_w (d : Fin 96) (x : Fin 288) : (StableHlo.after hostOps0 W (Proc.devRef .tc main_v18) : S96x288.Idx → EReal) (ix2 d x) =
    g3 (W (Proc.devRef .tc main_arg3) : S3x96x96.Idx → EReal) (x.val / 96) (x.val % 96) d.val := by
  after_reads_at
  exact g3_eq (W (Proc.devRef .tc main_arg3) : S3x96x96.Idx → EReal) ⟨_, _⟩ ⟨_, _⟩ d

theorem host_ws (d : Fin 96) (l : Fin 128) : (StableHlo.after hostOps0 W (Proc.devRef .tc main_v20) : S96x128.Idx → EReal) (ix2 d l) = (W (Proc.devRef .tc main_arg4) : S96.Idx → EReal) (ix1 d) := by
  after_reads_at

theorem host_bias (d : Fin 96) (l : Fin 128) : (StableHlo.after hostOps0 W (Proc.devRef .tc main_v22) : S96x128.Idx → EReal) (ix2 d l) = (W (Proc.devRef .tc main_arg5) : S96.Idx → EReal) (ix1 d) := by
  after_reads_at

end Cert.KernelIdeal.Val

end

end
-- ==== Proof.Value.KerRun.lean ====
/-
  The kernel's run, from what each of its steps leaves: the arrays it ends with hold, place by place, what the step that
  writes the place leaves there.
-/
module

public import proofs.«01_k».proof.Proof.KernelIdealFrame
public import proofs.«01_k».proof.Proof.Value.Base
public import Idealize.ShloMosaic.Lib.Pipeline.ValueKit

@[expose] public section

set_option maxRecDepth 16384
set_option pp.maxSteps 60

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.KernelIdeal.Run Cert.Val
open Cert.KernelIdeal.Whole (scratch_eq defs₀_row)

local notation "𝕄" => MT nD τ sig Unit (Elt Ideal) ℕ (UR sig nD τ) ℕ

variable (m : (ℓ : Loc nD τ sig) → Buf (Elt Ideal) ℓ) (ρ : Dev nD → PrngReg)
variable (car : Dev nD → ℕ → ℕ → EReal) (oY oC oS : Dev nD → ℕ → ℕ → ℕ → EReal)

/-- What a step leaves in its blocks of a four by 96 result, and of the three by four result. -/
def blkA (f : ℕ → ℕ → ℕ → EReal) (t : ℕ) : S4x96x1024.Idx → EReal := fun y => f (y 0).val (y 1).val (1024 * t + (y 2).val)
def blkB (f : ℕ → ℕ → ℕ → EReal) (t : ℕ) : S3x4x1024.Idx → EReal := fun y => f (y 0).val (y 1).val (1024 * t + (y 2).val)

/-- What holds between steps: before step `t > 0` the dequantised signal's last written column is known. -/
def inv (c : Dev nD) (t : Fin (cfg0.N + 1)) : sProp 𝕄 :=
  iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, ⌜(t).val ≠ 0 → ∀ r, r < 384 → g2 (n0 := 384) (n1 := 1280) (X : S384x1280.Idx → EReal) r 1151 = car c (t).val r⌝ ∗ owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) ∗ ∃ r, prngReg c r)

/-- The proof data of the run. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blkA (oY c) t.val
    | ⟨10, _⟩ => blkA (oC c) t.val
    | ⟨11, _⟩ => blkB (oS c) t.val
  Φ t := inv car c t
  q w := Pipeline.shareOf spec0 w
  owed _ := 0

theorem A_eq (c : Dev nD) (w : Fin cfg0.W) : (dats m car oY oC oS 0 c).A w = V m c (Pipeline.arrRef spec0 w) := by
  dsimp only [dats]

theorem after0_0 (c : Dev nD) (t : Fin cfg0.N) : (dats m car oY oC oS 0 c).after 0 t = iblk m c 0 t := by dsimp only [dats]
theorem after0_1 (c : Dev nD) (t : Fin cfg0.N) : (dats m car oY oC oS 0 c).after 1 t = iblk m c 1 t := by dsimp only [dats]
theorem after0_2 (c : Dev nD) (t : Fin cfg0.N) : (dats m car oY oC oS 0 c).after 2 t = iblk m c 2 t := by dsimp only [dats]
theorem after0_3 (c : Dev nD) (t : Fin cfg0.N) : (dats m car oY oC oS 0 c).after 3 t = iblk m c 3 t := by dsimp only [dats]
theorem after0_4 (c : Dev nD) (t : Fin cfg0.N) : (dats m car oY oC oS 0 c).after 4 t = iblk m c 4 t := by dsimp only [dats]
theorem after0_5 (c : Dev nD) (t : Fin cfg0.N) : (dats m car oY oC oS 0 c).after 5 t = iblk m c 5 t := by dsimp only [dats]
theorem after0_6 (c : Dev nD) (t : Fin cfg0.N) : (dats m car oY oC oS 0 c).after 6 t = iblk m c 6 t := by dsimp only [dats]
theorem after0_7 (c : Dev nD) (t : Fin cfg0.N) : (dats m car oY oC oS 0 c).after 7 t = iblk m c 7 t := by dsimp only [dats]
theorem after0_8 (c : Dev nD) (t : Fin cfg0.N) : (dats m car oY oC oS 0 c).after 8 t = iblk m c 8 t := by dsimp only [dats]
theorem after0_9 (c : Dev nD) (t : Fin cfg0.N) : (dats m car oY oC oS 0 c).after 9 t = blkA (oY c) t.val := by dsimp only [dats]
theorem after0_10 (c : Dev nD) (t : Fin cfg0.N) : (dats m car oY oC oS 0 c).after 10 t = blkA (oC c) t.val := by dsimp only [dats]
theorem after0_11 (c : Dev nD) (t : Fin cfg0.N) : (dats m car oY oC oS 0 c).after 11 t = blkB (oS c) t.val := by dsimp only [dats]

theorem before0_0 (c : Dev nD) (t : Fin cfg0.N) (d) : (dats m car oY oC oS 0 c).before 0 t d = iblk m c 0 t :=
  before0_0_of m (dats m car oY oC oS 0 c) (A_eq m car oY oC oS c 0) (after0_0 m car oY oC oS c) t d
theorem before0_1 (c : Dev nD) (t : Fin cfg0.N) (d) : (dats m car oY oC oS 0 c).before 1 t d = iblk m c 1 t :=
  before0_1_of m (dats m car oY oC oS 0 c) (A_eq m car oY oC oS c 1) (after0_1 m car oY oC oS c) t d
theorem before0_2 (c : Dev nD) (t : Fin cfg0.N) (d) : (dats m car oY oC oS 0 c).before 2 t d = iblk m c 2 t :=
  before0_2_of m (dats m car oY oC oS 0 c) (A_eq m car oY oC oS c 2) (after0_2 m car oY oC oS c) t d
theorem before0_3 (c : Dev nD) (t : Fin cfg0.N) (d) : (dats m car oY oC oS 0 c).before 3 t d = iblk m c 3 t :=
  before0_3_of m (dats m car oY oC oS 0 c) (A_eq m car oY oC oS c 3) (after0_3 m car oY oC oS c) t d
theorem before0_4 (c : Dev nD) (t : Fin cfg0.N) (d) : (dats m car oY oC oS 0 c).before 4 t d = iblk m c 4 t :=
  before0_4_of m (dats m car oY oC oS 0 c) (A_eq m car oY oC oS c 4) (after0_4 m car oY oC oS c) t d
theorem before0_5 (c : Dev nD) (t : Fin cfg0.N) (d) : (dats m car oY oC oS 0 c).before 5 t d = iblk m c 5 t :=
  before0_5_of m (dats m car oY oC oS 0 c) (A_eq m car oY oC oS c 5) (after0_5 m car oY oC oS c) t d
theorem before0_6 (c : Dev nD) (t : Fin cfg0.N) (d) : (dats m car oY oC oS 0 c).before 6 t d = iblk m c 6 t :=
  before0_6_of m (dats m car oY oC oS 0 c) (A_eq m car oY oC oS c 6) (after0_6 m car oY oC oS c) t d
theorem before0_7 (c : Dev nD) (t : Fin cfg0.N) (d) : (dats m car oY oC oS 0 c).before 7 t d = iblk m c 7 t :=
  before0_7_of m (dats m car oY oC oS 0 c) (A_eq m car oY oC oS c 7) (after0_7 m car oY oC oS c) t d
theorem before0_8 (c : Dev nD) (t : Fin cfg0.N) (d) : (dats m car oY oC oS 0 c).before 8 t d = iblk m c 8 t :=
  before0_8_of m (dats m car oY oC oS 0 c) (A_eq m car oY oC oS c 8) (after0_8 m car oY oC oS c) t d

/-- What is asked of a step: from the blocks of the point and the last column of the step before it leaves the results'
    blocks and its own last column. -/
def StepOk : Prop := ∀ (c : Dev nD) (t : Fin cfg0.N) (s : St Ideal),
  s.s1 = iblk m c 0 t → s.s2 = iblk m c 1 t → s.s3 = iblk m c 2 t → s.s4 = iblk m c 3 t → s.s5 = iblk m c 4 t → s.s6 = iblk m c 5 t → s.s7 = iblk m c 6 t → s.s8 = iblk m c 7 t → s.s9 = iblk m c 8 t →
  (t.val ≠ 0 → ∀ r, r < 384 → g2 (n0 := 384) (n1 := 1280) s.s16 r 1151 = car c t.val r) →
  ∃ x13 x14 x15 x16 x17 x18 x19, (m_body (grid0.coords t) s).2 = { s with s10 := blkA (oY c) t.val, s11 := blkA (oC c) t.val, s12 := blkB (oS c) t.val, s13 := x13, s14 := x14, s15 := x15, s16 := x16, s17 := x17, s18 := x18, s19 := x19 } ∧
    ∀ r, r < 384 → g2 (n0 := 384) (n1 := 1280) x16 r 1151 = car c (t.val + 1) r

/-- The body's run from named contents. -/
theorem body_core (c : Dev nD) (t : Fin cfg0.N) (x1 : Vec Ideal S4x96x128 .bf16) (x2 : Vec Ideal S4x96x1024 .bf16) (x3 : Vec Ideal S4x96x128 .bf16) (x4 : Vec Ideal S128x240 .bf16) (x5 : Vec Ideal S1x384 .f32) (x6 : Vec Ideal S1x384 .f32) (x7 : Vec Ideal S96x288 .fp8e4m3) (x8 : Vec Ideal S96x128 .f32) (x9 : Vec Ideal S96x128 .f32) (x10 : Vec Ideal S4x96x1024 .bf16) (x11 : Vec Ideal S4x96x1024 .fp8e4m3) (x12 : Vec Ideal S3x4x1024 .f32) (x13 : Vec Ideal S3x1280x128 .bf16) (x14 : Vec Ideal S3x1280x128 .f32) (x15 : Vec Ideal S3x1280x128 .f32) (x16 : Vec Ideal S384x1280 .bf16) (x17 : Vec Ideal S96x128 .f32) (x18 : Vec Ideal S12x128 .f32) (x19 : Vec Ideal S12x128 .f32) (y1 : Vec Ideal S4x96x128 .bf16) (y2 : Vec Ideal S4x96x1024 .bf16) (y3 : Vec Ideal S4x96x128 .bf16) (y4 : Vec Ideal S128x240 .bf16) (y5 : Vec Ideal S1x384 .f32) (y6 : Vec Ideal S1x384 .f32) (y7 : Vec Ideal S96x288 .fp8e4m3) (y8 : Vec Ideal S96x128 .f32) (y9 : Vec Ideal S96x128 .f32) (y10 : Vec Ideal S4x96x1024 .bf16) (y11 : Vec Ideal S4x96x1024 .fp8e4m3) (y12 : Vec Ideal S3x4x1024 .f32) (y13 : Vec Ideal S3x1280x128 .bf16) (y14 : Vec Ideal S3x1280x128 .f32) (y15 : Vec Ideal S3x1280x128 .f32) (y16 : Vec Ideal S384x1280 .bf16) (y17 : Vec Ideal S96x128 .f32) (y18 : Vec Ideal S12x128 .f32) (y19 : Vec Ideal S12x128 .f32)
    (e : (m_body (grid0.coords t) ⟨x1, x2, x3, x4, x5, x6, x7, x8, x9, x10, x11, x12, x13, x14, x15, x16, x17, x18, x19⟩).2 = ⟨y1, y2, y3, y4, y5, y6, y7, y8, y9, y10, y11, y12, y13, y14, y15, y16, y17, y18, y19⟩) (Q : sProp 𝕄) :
    (iprop(owns (c : Thread nD τ) (st0_0 t) fullShare x1 ∗ owns (c : Thread nD τ) (st0_1 t) fullShare x2 ∗ owns (c : Thread nD τ) (st0_2 t) fullShare x3 ∗ owns (c : Thread nD τ) (st0_3 t) fullShare x4 ∗ owns (c : Thread nD τ) (st0_4 t) fullShare x5 ∗ owns (c : Thread nD τ) (st0_5 t) fullShare x6 ∗ owns (c : Thread nD τ) (st0_6 t) fullShare x7 ∗ owns (c : Thread nD τ) (st0_7 t) fullShare x8 ∗ owns (c : Thread nD τ) (st0_8 t) fullShare x9 ∗ owns (c : Thread nD τ) (st0_9 t) fullShare x10 ∗ owns (c : Thread nD τ) (st0_10 t) fullShare x11 ∗ owns (c : Thread nD τ) (st0_11 t) fullShare x12 ∗ owns (c : Thread nD τ) (Memref.whole cc0_scratch0) fullShare x13 ∗ owns (c : Thread nD τ) (Memref.whole cc0_scratch1) fullShare x14 ∗ owns (c : Thread nD τ) (Memref.whole cc0_scratch2) fullShare x15 ∗ owns (c : Thread nD τ) (Memref.whole cc0_scratch3) fullShare x16 ∗ owns (c : Thread nD τ) (Memref.whole cc0_scratch4) fullShare x17 ∗ owns (c : Thread nD τ) (Memref.whole cc0_scratch5) fullShare x18 ∗ owns (c : Thread nD τ) (Memref.whole cc0_scratch6) fullShare x19) : sProp 𝕄)
      ⊢ iprop(((owns (c : Thread nD τ) (st0_0 t) fullShare y1 ∗ owns (c : Thread nD τ) (st0_1 t) fullShare y2 ∗ owns (c : Thread nD τ) (st0_2 t) fullShare y3 ∗ owns (c : Thread nD τ) (st0_3 t) fullShare y4 ∗ owns (c : Thread nD τ) (st0_4 t) fullShare y5 ∗ owns (c : Thread nD τ) (st0_5 t) fullShare y6 ∗ owns (c : Thread nD τ) (st0_6 t) fullShare y7 ∗ owns (c : Thread nD τ) (st0_7 t) fullShare y8 ∗ owns (c : Thread nD τ) (st0_8 t) fullShare y9 ∗ owns (c : Thread nD τ) (st0_9 t) fullShare y10 ∗ owns (c : Thread nD τ) (st0_10 t) fullShare y11 ∗ owns (c : Thread nD τ) (st0_11 t) fullShare y12 ∗ owns (c : Thread nD τ) (Memref.whole cc0_scratch0) fullShare y13 ∗ owns (c : Thread nD τ) (Memref.whole cc0_scratch1) fullShare y14 ∗ owns (c : Thread nD τ) (Memref.whole cc0_scratch2) fullShare y15 ∗ owns (c : Thread nD τ) (Memref.whole cc0_scratch3) fullShare y16 ∗ owns (c : Thread nD τ) (Memref.whole cc0_scratch4) fullShare y17 ∗ owns (c : Thread nD τ) (Memref.whole cc0_scratch5) fullShare y18 ∗ owns (c : Thread nD τ) (Memref.whole cc0_scratch6) fullShare y19) -∗ Q) -∗ wp frame (wpE (defs₀ (F := Ideal)) Variants.none c none) Set.univ (bodyAt0 t) (fun _ => Q)) := by
  iintro HR HQ
  ihave HR := (show (iprop(owns (c : Thread nD τ) (st0_0 t) fullShare x1 ∗ owns (c : Thread nD τ) (st0_1 t) fullShare x2 ∗ owns (c : Thread nD τ) (st0_2 t) fullShare x3 ∗ owns (c : Thread nD τ) (st0_3 t) fullShare x4 ∗ owns (c : Thread nD τ) (st0_4 t) fullShare x5 ∗ owns (c : Thread nD τ) (st0_5 t) fullShare x6 ∗ owns (c : Thread nD τ) (st0_6 t) fullShare x7 ∗ owns (c : Thread nD τ) (st0_7 t) fullShare x8 ∗ owns (c : Thread nD τ) (st0_8 t) fullShare x9 ∗ owns (c : Thread nD τ) (st0_9 t) fullShare x10 ∗ owns (c : Thread nD τ) (st0_10 t) fullShare x11 ∗ owns (c : Thread nD τ) (st0_11 t) fullShare x12 ∗ owns (c : Thread nD τ) (Memref.whole cc0_scratch0) fullShare x13 ∗ owns (c : Thread nD τ) (Memref.whole cc0_scratch1) fullShare x14 ∗ owns (c : Thread nD τ) (Memref.whole cc0_scratch2) fullShare x15 ∗ owns (c : Thread nD τ) (Memref.whole cc0_scratch3) fullShare x16 ∗ owns (c : Thread nD τ) (Memref.whole cc0_scratch4) fullShare x17 ∗ owns (c : Thread nD τ) (Memref.whole cc0_scratch5) fullShare x18 ∗ owns (c : Thread nD τ) (Memref.whole cc0_scratch6) fullShare x19) : sProp 𝕄) ⊢ Res c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) ⟨x1, x2, x3, x4, x5, x6, x7, x8, x9, x10, x11, x12, x13, x14, x15, x16, x17, x18, x19⟩ from .rfl) $$ HR
  iapply (Run.den_body c (grid0.coords t) _ _) $$ HR
  rw [e]
  iintro HR
  ihave HR := (show Res c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) ⟨y1, y2, y3, y4, y5, y6, y7, y8, y9, y10, y11, y12, y13, y14, y15, y16, y17, y18, y19⟩ ⊢ (iprop(owns (c : Thread nD τ) (st0_0 t) fullShare y1 ∗ owns (c : Thread nD τ) (st0_1 t) fullShare y2 ∗ owns (c : Thread nD τ) (st0_2 t) fullShare y3 ∗ owns (c : Thread nD τ) (st0_3 t) fullShare y4 ∗ owns (c : Thread nD τ) (st0_4 t) fullShare y5 ∗ owns (c : Thread nD τ) (st0_5 t) fullShare y6 ∗ owns (c : Thread nD τ) (st0_6 t) fullShare y7 ∗ owns (c : Thread nD τ) (st0_7 t) fullShare y8 ∗ owns (c : Thread nD τ) (st0_8 t) fullShare y9 ∗ owns (c : Thread nD τ) (st0_9 t) fullShare y10 ∗ owns (c : Thread nD τ) (st0_10 t) fullShare y11 ∗ owns (c : Thread nD τ) (st0_11 t) fullShare y12 ∗ owns (c : Thread nD τ) (Memref.whole cc0_scratch0) fullShare y13 ∗ owns (c : Thread nD τ) (Memref.whole cc0_scratch1) fullShare y14 ∗ owns (c : Thread nD τ) (Memref.whole cc0_scratch2) fullShare y15 ∗ owns (c : Thread nD τ) (Memref.whole cc0_scratch3) fullShare y16 ∗ owns (c : Thread nD τ) (Memref.whole cc0_scratch4) fullShare y17 ∗ owns (c : Thread nD τ) (Memref.whole cc0_scratch5) fullShare y18 ∗ owns (c : Thread nD τ) (Memref.whole cc0_scratch6) fullShare y19) : sProp 𝕄) from .rfl) $$ HR
  iapply HQ
  iexact HR

def bodyPre (c : Dev nD) (t : Fin cfg0.N) : sProp 𝕄 :=
  iprop((dats m car oY oC oS 0 c).Φ t.castSucc ∗ (dats m car oY oC oS 0 c).owesAt () t.castSucc ∗ (∃ d, owns (c : Thread nD τ) (st0_0 t) fullShare ((dats m car oY oC oS 0 c).before 0 t d)) ∗ (∃ d, owns (c : Thread nD τ) (st0_1 t) fullShare ((dats m car oY oC oS 0 c).before 1 t d)) ∗ (∃ d, owns (c : Thread nD τ) (st0_2 t) fullShare ((dats m car oY oC oS 0 c).before 2 t d)) ∗ (∃ d, owns (c : Thread nD τ) (st0_3 t) fullShare ((dats m car oY oC oS 0 c).before 3 t d)) ∗ (∃ d, owns (c : Thread nD τ) (st0_4 t) fullShare ((dats m car oY oC oS 0 c).before 4 t d)) ∗ (∃ d, owns (c : Thread nD τ) (st0_5 t) fullShare ((dats m car oY oC oS 0 c).before 5 t d)) ∗ (∃ d, owns (c : Thread nD τ) (st0_6 t) fullShare ((dats m car oY oC oS 0 c).before 6 t d)) ∗ (∃ d, owns (c : Thread nD τ) (st0_7 t) fullShare ((dats m car oY oC oS 0 c).before 7 t d)) ∗ (∃ d, owns (c : Thread nD τ) (st0_8 t) fullShare ((dats m car oY oC oS 0 c).before 8 t d)) ∗ (∃ d, owns (c : Thread nD τ) (st0_9 t) fullShare ((dats m car oY oC oS 0 c).before 9 t d)) ∗ (∃ d, owns (c : Thread nD τ) (st0_10 t) fullShare ((dats m car oY oC oS 0 c).before 10 t d)) ∗ (∃ d, owns (c : Thread nD τ) (st0_11 t) fullShare ((dats m car oY oC oS 0 c).before 11 t d)))

def bodyPost (c : Dev nD) (t : Fin cfg0.N) : sProp 𝕄 :=
  iprop((dats m car oY oC oS 0 c).Φ t.succ ∗ (dats m car oY oC oS 0 c).owesAt () t.succ ∗ owns (c : Thread nD τ) (st0_0 t) fullShare ((dats m car oY oC oS 0 c).after 0 t) ∗ owns (c : Thread nD τ) (st0_1 t) fullShare ((dats m car oY oC oS 0 c).after 1 t) ∗ owns (c : Thread nD τ) (st0_2 t) fullShare ((dats m car oY oC oS 0 c).after 2 t) ∗ owns (c : Thread nD τ) (st0_3 t) fullShare ((dats m car oY oC oS 0 c).after 3 t) ∗ owns (c : Thread nD τ) (st0_4 t) fullShare ((dats m car oY oC oS 0 c).after 4 t) ∗ owns (c : Thread nD τ) (st0_5 t) fullShare ((dats m car oY oC oS 0 c).after 5 t) ∗ owns (c : Thread nD τ) (st0_6 t) fullShare ((dats m car oY oC oS 0 c).after 6 t) ∗ owns (c : Thread nD τ) (st0_7 t) fullShare ((dats m car oY oC oS 0 c).after 7 t) ∗ owns (c : Thread nD τ) (st0_8 t) fullShare ((dats m car oY oC oS 0 c).after 8 t) ∗ owns (c : Thread nD τ) (st0_9 t) fullShare ((dats m car oY oC oS 0 c).after 9 t) ∗ owns (c : Thread nD τ) (st0_10 t) fullShare ((dats m car oY oC oS 0 c).after 10 t) ∗ owns (c : Thread nD τ) (st0_11 t) fullShare ((dats m car oY oC oS 0 c).after 11 t))

set_option maxHeartbeats 800000 in
/-- The body at any point. -/
theorem sound_body (h : StepOk m car oY oC oS) (c : Dev nD) (t : Fin cfg0.N) :
    bodyPre m car oY oC oS c t ⊢ wp frame (wpE (defs₀ (F := Ideal)) Variants.none c none) Set.univ (bodyAt0 t) (fun _ => bodyPost m car oY oC oS c t) := by
  unfold bodyPre bodyPost
  simp only [before0_0, before0_1, before0_2, before0_3, before0_4, before0_5, before0_6, before0_7, before0_8]
  rw [show (dats m car oY oC oS 0 c).Φ t.castSucc = inv car c t.castSucc from rfl, show (dats m car oY oC oS 0 c).Φ t.succ = inv car c t.succ from rfl,
    show (dats m car oY oC oS 0 c).owesAt () t.succ = (dats m car oY oC oS 0 c).owesAt () t.castSucc from rfl,
    after0_0, after0_1, after0_2, after0_3, after0_4, after0_5, after0_6, after0_7, after0_8, after0_9, after0_10, after0_11]
  unfold inv
  iintro ⟨⟨⟨⟨%f0, S0⟩, ⟨%f1, S1⟩, ⟨%f2, S2⟩, ⟨%f3, %hf, S3⟩, ⟨%f4, S4⟩, ⟨%f5, S5⟩, ⟨%f6, S6⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  generalize (dats m car oY oC oS 0 c).before 9 t d9 = x9
  generalize (dats m car oY oC oS 0 c).before 10 t d10 = x10
  generalize (dats m car oY oC oS 0 c).before 11 t d11 = x11
  obtain ⟨x13, x14, x15, x16, x17, x18, x19, es, hl⟩ := h c t ⟨(iblk m c 0 t), (iblk m c 1 t), (iblk m c 2 t), (iblk m c 3 t), (iblk m c 4 t), (iblk m c 5 t), (iblk m c 6 t), (iblk m c 7 t), (iblk m c 8 t), x9, x10, x11, f0, f1, f2, f3, f4, f5, f6⟩ rfl rfl rfl rfl rfl rfl rfl rfl rfl hf
  iapply (body_core c t (iblk m c 0 t) (iblk m c 1 t) (iblk m c 2 t) (iblk m c 3 t) (iblk m c 4 t) (iblk m c 5 t) (iblk m c 6 t) (iblk m c 7 t) (iblk m c 8 t) x9 x10 x11 f0 f1 f2 f3 f4 f5 f6 (iblk m c 0 t) (iblk m c 1 t) (iblk m c 2 t) (iblk m c 3 t) (iblk m c 4 t) (iblk m c 5 t) (iblk m c 6 t) (iblk m c 7 t) (iblk m c 8 t) (blkA (oY c) t.val) (blkA (oC c) t.val) (blkB (oS c) t.val) x13 x14 x15 x16 x17 x18 x19 es _) $$ [H0 H1 H2 H3 H4 H5 H6 H7 H8 H9 H10 H11 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, H11, S0, S1, S2, S3, S4, S5, S6⟩
  isplitl [S0 S1 S2 S3 S4 S5 S6 Hg]
  · isplitr [Hg]
    · isplitl [S0]; · iexists _; iexact S0
      isplitl [S1]; · iexists _; iexact S1
      isplitl [S2]; · iexists _; iexact S2
      isplitl [S3]
      · iexists _
        isplitr
        · ipureintro; exact fun _ => hl
        · iexact S3
      isplitl [S4]; · iexists _; iexact S4
      isplitl [S5]; · iexists _; iexact S5
      iexists _; iexact S6
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (h : StepOk m car oY oC oS) (c : Dev nD) : BodyObligation (dats m car oY oC oS 0 c) (defs₀ (F := Ideal)) Variants.none () Set.univ := fun t => by
  rw [bigSep_W0, bigSep_W0, defs₀_row]
  exact triple_restated (sound_body m car oY oC oS h c t) rfl .rfl fun _ => .rfl

theorem inv_in (c : Dev nD) : (Pipeline.ΦA spec0 c : sProp 𝕄) ⊢ inv car c 0 := by
  unfold Pipeline.ΦA inv
  rw [scratch_eq]
  iintro ⟨⟨S0, S1, S2, ⟨%f3, S3⟩, S4, S5, S6⟩, Hg⟩
  isplitr [Hg]
  · isplitl [S0]; · iexact S0
    isplitl [S1]; · iexact S1
    isplitl [S2]; · iexact S2
    isplitl [S3]
    · iexists f3
      isplitr
      · ipureintro; exact fun h => absurd rfl h
      · iexact S3
    isplitl [S4]; · iexact S4
    isplitl [S5]; · iexact S5
    iexact S6
  · iexact Hg

theorem inv_out (c : Dev nD) (t) : inv car c t ⊢ (Pipeline.ΦA spec0 c : sProp 𝕄) := by
  unfold Pipeline.ΦA inv
  rw [scratch_eq]
  iintro ⟨⟨S0, S1, S2, ⟨%f3, %h, S3⟩, S4, S5, S6⟩, Hg⟩
  isplitr [Hg]
  · isplitl [S0]; · iexact S0
    isplitl [S1]; · iexact S1
    isplitl [S2]; · iexact S2
    isplitl [S3]; · iexists _; iexact S3
    isplitl [S4]; · iexact S4
    isplitl [S5]; · iexact S5
    iexact S6
  · iexact Hg

set_option backward.isDefEq.respectTransparency.types false in
set_option maxHeartbeats 800000 in
theorem run_value (h : StepOk m car oY oC oS) : θ_run defs (onTc (τ := τ) (main (F := Ideal))) ⟨m, fun _ => 0, ρ⟩ (Pipeline.FramePost cfgs (dats m car oY oC oS) 0 (V m)) :=
  Pipeline.θ_run_frame_track_shared (Q' := _) cfgs (dats m car oY oC oS) (0 : Fin 1) launch₀0 defs₀ Variants.none m ρ main
    (hbody := fun c => (body_obligation m car oY oC oS h c).loose) (hq := fun _ _ _ => rfl)
    (howed := fun _ _ => rfl) (V := V m) (hmain := hmain m Variants.none) (hA := A_eq m car oY oC oS)
    (hin := fun c => inv_in car c) (hout := fun c => inv_out car c _) (hQ' := fun _ h => h.1)

theorem e9 : ∀ t : Fin cfg0.N, win0_9.index t = ![0, 0, t.val] := (by decide +kernel : ∀ t : Fin grid0.N, _)
theorem e10 : ∀ t : Fin cfg0.N, win0_10.index t = ![0, 0, t.val] := (by decide +kernel : ∀ t : Fin grid0.N, _)
theorem e11 : ∀ t : Fin cfg0.N, win0_11.index t = ![0, 0, t.val] := (by decide +kernel : ∀ t : Fin grid0.N, _)

/-- The three results at the end. -/
def outA (f : ℕ → ℕ → ℕ → EReal) : S4x96x262144.Idx → EReal := fun y => f (y 0).val (y 1).val (y 2).val
def outB (f : ℕ → ℕ → ℕ → EReal) : S3x4x262144.Idx → EReal := fun y => f (y 0).val (y 1).val (y 2).val

theorem final9 (c : Dev nD) : (dats m car oY oC oS 0 c).arrAt 9 (cfgs 0).N = outA (oY c) := by
  refine (dats m car oY oC oS 0 c).arrAt_eq_of_covers 9 _ (by decide +kernel) fun t _ y => ?_
  blk_simp
  rw [after0_9]
  unfold blkA outA
  blk_simp [e9]
  congr 1; omega

theorem final10 (c : Dev nD) : (dats m car oY oC oS 0 c).arrAt 10 (cfgs 0).N = outA (oC c) := by
  refine (dats m car oY oC oS 0 c).arrAt_eq_of_covers 10 _ (by decide +kernel) fun t _ y => ?_
  blk_simp
  rw [after0_10]
  unfold blkA outA
  blk_simp [e10]
  congr 1; omega

theorem final11 (c : Dev nD) : (dats m car oY oC oS 0 c).arrAt 11 (cfgs 0).N = outB (oS c) := by
  refine (dats m car oY oC oS 0 c).arrAt_eq_of_covers 11 _ (by decide +kernel) fun t _ y => ?_
  blk_simp
  rw [after0_11]
  unfold blkB outB
  blk_simp [e11]
  congr 1; omega

/-- The kernel's run: the results, and the arguments unchanged. -/
theorem run_results (h : StepOk m car oY oC oS) : θ_run defs (onTc (τ := τ) (main (F := Ideal))) ⟨m, fun _ => 0, ρ⟩ (fun r => ∀ c : Dev nD,
      r.2.mem ((c.tc : Thread nD τ).loc main_v23_0) = outA (oY c)
      ∧ r.2.mem ((c.tc : Thread nD τ).loc main_v23_1) = outA (oC c)
      ∧ r.2.mem ((c.tc : Thread nD τ).loc main_v23_2) = outB (oS c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => fun c => ⟨(h.out_eq c 9).trans (final9 m car oY oC oS c), (h.out_eq c 10).trans (final10 m car oY oC oS c), (h.out_eq c 11).trans (final11 m car oY oC oS c),
    ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c)⟩) (run_value m ρ car oY oC oS h)

end Cert.KernelIdeal.Launch

end

end
-- ==== Proof.Value.KerVal.lean ====
/-
  The kernel's results, from its arguments.
-/
module

public import proofs.«01_k».proof.Proof.Value.Step
public import proofs.«01_k».proof.Proof.Value.KerHost
public import proofs.«01_k».proof.Proof.Value.KerRun

@[expose] public section

set_option maxRecDepth 16384
set_option maxHeartbeats 400000

noncomputable section

namespace Cert.KernelIdeal.Val

open Idealize.ShloMosaic Idealize.ShloMosaic.TcCoe Cert.Sem Cert.Val Cert.KernelIdeal.Gen Cert.KernelIdeal.Run Cert.KernelIdeal.Launch

variable (m : (ℓ : Loc nD τ sig) → Buf (Elt Ideal) ℓ)

theorem e0 : ∀ t : Fin cfg0.N, win0_0.index t = ![0, 0, 8 * t.val - 1] := (by decide +kernel : ∀ t : Fin grid0.N, _)
theorem e1 : ∀ t : Fin cfg0.N, win0_1.index t = ![0, 0, t.val] := (by decide +kernel : ∀ t : Fin grid0.N, _)
theorem e2 : ∀ t : Fin cfg0.N, win0_2.index t = ![0, 0, min (8 * (t.val + 1)) 2047] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem ecoord : ∀ t : Fin cfg0.N, (grid0.coords t 0).val = t.val := (by decide +kernel : ∀ t : Fin grid0.N, _)
theorem tlt (t : Fin cfg0.N) : t.val < 256 := t.isLt

theorem blk0 (c : Dev nD) (t : Fin cfg0.N) (b : Fin 4) (d : Fin 96) (l : Fin 128) (p : Fin 262144) (hp : p.val = 128 * (8 * t.val - 1) + l.val) :
    (show S4x96x128.Idx → EReal from iblk m c 0 t) (ix3 b d l) = (show S4x96x262144.Idx → EReal from V m c main_v0) (ix3 b d p) := by
  blk_ext [iblk, e0]

theorem blk1 (c : Dev nD) (t : Fin cfg0.N) (b : Fin 4) (d : Fin 96) (l : Fin 1024) (p : Fin 262144) (hp : p.val = 1024 * t.val + l.val) :
    (show S4x96x1024.Idx → EReal from iblk m c 1 t) (ix3 b d l) = (show S4x96x262144.Idx → EReal from V m c main_v0) (ix3 b d p) := by
  blk_ext [iblk, e1]

theorem blk2 (c : Dev nD) (t : Fin cfg0.N) (b : Fin 4) (d : Fin 96) (l : Fin 128) (p : Fin 262144) (hp : p.val = 128 * min (8 * (t.val + 1)) 2047 + l.val) :
    (show S4x96x128.Idx → EReal from iblk m c 2 t) (ix3 b d l) = (show S4x96x262144.Idx → EReal from V m c main_v0) (ix3 b d p) := by
  blk_ext [iblk, e2]

theorem blk3 (c : Dev nD) (t : Fin cfg0.N) (b : Fin 128) (d : Fin 240) :
    (show S128x240.Idx → EReal from iblk m c 3 t) (ix2 b d) = (show S128x240.Idx → EReal from V m c main_cst) (ix2 b d) := by
  blk_ext [iblk, e3]

theorem blk4 (c : Dev nD) (t : Fin cfg0.N) (b : Fin 1) (d : Fin 384) :
    (show S1x384.Idx → EReal from iblk m c 4 t) (ix2 b d) = (show S1x384.Idx → EReal from V m c main_v7) (ix2 b d) := by
  blk_ext [iblk, e4]

theorem blk5 (c : Dev nD) (t : Fin cfg0.N) (b : Fin 1) (d : Fin 384) :
    (show S1x384.Idx → EReal from iblk m c 5 t) (ix2 b d) = (show S1x384.Idx → EReal from V m c main_v16) (ix2 b d) := by
  blk_ext [iblk, e5]

theorem blk6 (c : Dev nD) (t : Fin cfg0.N) (b : Fin 96) (d : Fin 288) :
    (show S96x288.Idx → EReal from iblk m c 6 t) (ix2 b d) = (show S96x288.Idx → EReal from V m c main_v18) (ix2 b d) := by
  blk_ext [iblk, e6]

theorem blk7 (c : Dev nD) (t : Fin cfg0.N) (b : Fin 96) (d : Fin 128) :
    (show S96x128.Idx → EReal from iblk m c 7 t) (ix2 b d) = (show S96x128.Idx → EReal from V m c main_v20) (ix2 b d) := by
  blk_ext [iblk, e7]

theorem blk8 (c : Dev nD) (t : Fin cfg0.N) (b : Fin 96) (d : Fin 128) :
    (show S96x128.Idx → EReal from iblk m c 8 t) (ix2 b d) = (show S96x128.Idx → EReal from V m c main_v22) (ix2 b d) := by
  blk_ext [iblk, e8]

end Cert.KernelIdeal.Val

end

end
-- ==== Proof.Value.KerFin.lean ====
/-
  The kernel's three results, as functions of its arguments.
-/
module

public import proofs.«01_k».proof.Proof.Value.KerVal

@[expose] public section

set_option maxRecDepth 16384
set_option maxHeartbeats 400000

noncomputable section

namespace Cert.KernelIdeal.Val

open Idealize.ShloMosaic Idealize.ShloMosaic.TcCoe Cert.Sem Cert.Val Cert.KernelIdeal.Gen Cert.KernelIdeal.Run Cert.KernelIdeal.Launch

variable (m : (ℓ : Loc nD τ sig) → Buf (Elt Ideal) ℓ)

theorem idx3 {n0 n1 n2 : ℕ} (j : (⟨3, ![n0, n1, n2]⟩ : Shape).Idx) : ∃ a b c, j = ix3 a b c := ⟨j 0, j 1, j 2, by funext a; fin_cases a <;> rfl⟩

theorem blkA_of (y : S4x96x1024.Idx → EReal) (f : ℕ → ℕ → ℕ → EReal) (t : ℕ)
    (h : ∀ b d n, b < 4 → d < 96 → n < 1024 → g3 (n0 := 4) (n1 := 96) (n2 := 1024) y b d n = f b d (1024 * t + n)) : y = blkA f t := by
  funext j
  obtain ⟨b, d, n, rfl⟩ := idx3 j
  exact (g3_eq y b d n).trans (h b d n b.isLt d.isLt n.isLt)

theorem blkB_of (y : S3x4x1024.Idx → EReal) (f : ℕ → ℕ → ℕ → EReal) (t : ℕ)
    (h : ∀ g b n, g < 3 → b < 4 → n < 1024 → g3 (n0 := 3) (n1 := 4) (n2 := 1024) y g b n = f g b (1024 * t + n)) : y = blkB f t := by
  funext j
  obtain ⟨g, b, n, rfl⟩ := idx3 j
  exact (g3_eq y g b n).trans (h g b n g.isLt b.isLt n.isLt)

section
variable (xs : ℕ → ℕ → ℝ) (α β : ℕ → EReal) (c : Dev nD)

/-- The arguments of device `c`: a finite input, the two rows of per-channel parameters. -/
structure Args : Prop where
  x : ∀ (b : Fin 4) (p : Fin 262144) (d : Fin 96), (m ((c : Thread nD τ).loc main_arg0) : S4x262144x96.Idx → EReal) (ix3 b p d) = ((xs (96 * b.val + d.val) p.val : ℝ) : EReal)
  α : ∀ d : Fin 96, (m ((c : Thread nD τ).loc main_arg1) : S96.Idx → EReal) (ix1 d) = α d.val
  β : ∀ d : Fin 96, (m ((c : Thread nD τ).loc main_arg2) : S96.Idx → EReal) (ix1 d) = β d.val

/-- The first result: the input plus the convolution of the dequantised signal. -/
def outY (x : S4x262144x96.Idx → EReal) (w : S3x96x96.Idx → EReal) (ws bs : S96.Idx → EReal) (b d T : ℕ) : EReal :=
  cv (fun d k => g3 (n0 := 3) (n1 := 96) (n2 := 96) w (k / 96) (k % 96) d) (fun k => pad xs α β (96 * b + k % 96) (T + k / 96))
    (g3 (n0 := 4) (n1 := 262144) (n2 := 96) x b T d) (ws (ix1 (Fin.ofNat 96 d))) (bs (ix1 (Fin.ofNat 96 d))) d

variable {m xs α β c}

theorem xval (h : Args m xs α β c) (b : Fin 4) (d : Fin 96) (p : Fin 262144) :
    (show S4x96x262144.Idx → EReal from V m c main_v0) (ix3 b d p) = ((xs (96 * b.val + d.val) p.val : ℝ) : EReal) :=
  (host_x (fun b => m (c, b)) b d p).trans (h.x b p d)

theorem inWindow (h : Args m xs α β c) (t : Fin cfg0.N) (s : St Ideal) (h1 : s.s1 = iblk m c 0 t) (h2 : s.s2 = iblk m c 1 t) (h3 : s.s3 = iblk m c 2 t) :
    InWindow (fun r p => ((xr xs t.val r p : ℝ) : EReal)) (⟨t.val, tlt t⟩ : Fin 256) s := by
  have htl := tlt t
  have hv : ∀ r p q, q = min (1024 * t.val + p - 128) 262143 → ((xs r q : ℝ) : EReal) = ((xr xs t.val r p : ℝ) : EReal) := fun r p q e => by rw [e]; rfl
  constructor
  · intro h0 b d l hb hd hl
    have h0' : t.val ≠ 0 := h0
    rw [h1]
    refine (g3_eq (n0 := 4) (n1 := 96) (n2 := 128) (show S4x96x128.Idx → EReal from iblk m c 0 t) ⟨b, hb⟩ ⟨d, hd⟩ ⟨l, hl⟩).symm.trans ?_
    refine (blk0 m c t ⟨b, hb⟩ ⟨d, hd⟩ ⟨l, hl⟩ ⟨128 * (8 * t.val - 1) + l, by omega⟩ rfl).trans ((xval h _ _ _).trans ?_)
    exact hv _ _ _ (by dsimp only; omega)
  · intro b d l hb hd hl
    rw [h2]
    refine (g3_eq (n0 := 4) (n1 := 96) (n2 := 1024) (show S4x96x1024.Idx → EReal from iblk m c 1 t) ⟨b, hb⟩ ⟨d, hd⟩ ⟨l, hl⟩).symm.trans ?_
    refine (blk1 m c t ⟨b, hb⟩ ⟨d, hd⟩ ⟨l, hl⟩ ⟨1024 * t.val + l, by omega⟩ rfl).trans ((xval h _ _ _).trans ?_)
    exact hv _ _ _ (by dsimp only; omega)
  · intro h0 b d l hb hd hl
    have h0' : t.val ≠ 255 := h0
    rw [h3]
    refine (g3_eq (n0 := 4) (n1 := 96) (n2 := 128) (show S4x96x128.Idx → EReal from iblk m c 2 t) ⟨b, hb⟩ ⟨d, hd⟩ ⟨l, hl⟩).symm.trans ?_
    refine (blk2 m c t ⟨b, hb⟩ ⟨d, hd⟩ ⟨l, hl⟩ ⟨128 * min (8 * (t.val + 1)) 2047 + l, by omega⟩ rfl).trans ((xval h _ _ _).trans ?_)
    exact hv _ _ _ (by dsimp only; omega)
  · intro h0 r p hp hp'
    have h0' : t.val = 0 := h0
    show ((xs r _ : ℝ) : EReal) = ((xs r _ : ℝ) : EReal)
    congr 2; omega
  · intro h0 r p hp hp'
    have h0' : t.val = 255 := h0
    show ((xs r _ : ℝ) : EReal) = ((xs r _ : ℝ) : EReal)
    congr 2; omega

theorem consts (h : Args m xs α β c) (t : Fin cfg0.N) (s : St Ideal) (h4 : s.s4 = iblk m c 3 t) (h5 : s.s5 = iblk m c 4 t) (h6 : s.s6 = iblk m c 5 t) :
    Consts (fqOf α) (gnOf β) s := by
  constructor
  · intro j x hj hx
    rw [h4]
    refine (g2_eq (n0 := 128) (n1 := 240) (show S128x240.Idx → EReal from iblk m c 3 t) ⟨j, hj⟩ ⟨x, hx⟩).symm.trans ?_
    exact (blk3 m c t ⟨j, hj⟩ ⟨x, hx⟩).trans (host_up (fun b => m (c, b)) ⟨j, hj⟩ ⟨x, hx⟩)
  · intro a ha
    rw [h5]
    refine (g2_eq (n0 := 1) (n1 := 384) (show S1x384.Idx → EReal from iblk m c 4 t) 0 ⟨a, ha⟩).symm.trans ?_
    exact (blk4 m c t 0 ⟨a, ha⟩).trans (host_freq (fun b => m (c, b)) α h.α ⟨a, ha⟩)
  · intro a ha
    rw [h6]
    refine (g2_eq (n0 := 1) (n1 := 384) (show S1x384.Idx → EReal from iblk m c 5 t) 0 ⟨a, ha⟩).symm.trans ?_
    exact (blk5 m c t 0 ⟨a, ha⟩).trans (host_gain (fun b => m (c, b)) β h.β ⟨a, ha⟩)

end

variable (xs : Dev nD → ℕ → ℕ → ℝ) (α β : Dev nD → ℕ → EReal)

theorem step_ok (h : ∀ c, Args m (xs c) (α c) (β c) c) : StepOk m (fun c t r => act (Zk (xs c) (α c) (β c)) r (1024 * t - 1))
    (fun c => outY (xs c) (α c) (β c) (m ((c : Thread nD τ).loc main_arg0)) (m ((c : Thread nD τ).loc main_arg3)) (m ((c : Thread nD τ).loc main_arg4)) (m ((c : Thread nD τ).loc main_arg5)))
    (fun c b d T => cod (Zk (xs c) (α c) (β c)) (96 * b + d) T) (fun c g b T => scl (Zk (xs c) (α c) (β c)) (3 * b + g) T) := by
  intro c t s h1 h2 h3 h4 h5 h6 h7 h8 h9 hcar
  have htl := tlt t
  obtain ⟨y10, y11, y12, x13, x14, x15, x16, x17, x18, x19, e, hy, hco, hs, hl⟩ := step_eq (xs c) (α c) (β c) (grid0.coords t) ⟨t.val, htl⟩ (ecoord t) s
    (inWindow (h c) t s h1 h2 h3) (consts (h c) t s h4 h5 h6) hcar
  have E10 : y10 = blkA (outY (xs c) (α c) (β c) (m ((c : Thread nD τ).loc main_arg0)) (m ((c : Thread nD τ).loc main_arg3)) (m ((c : Thread nD τ).loc main_arg4)) (m ((c : Thread nD τ).loc main_arg5))) t.val := by
    refine blkA_of y10 _ t.val fun b d n hb hd hn => (hy b d n hb hd hn).trans ?_
    unfold outY
    refine cv_congr (fun k hk => ?_) (fun k hk => rfl) ?_ ?_ ?_
    · rw [h7]
      refine (g2_eq (n0 := 96) (n1 := 288) (show S96x288.Idx → EReal from iblk m c 6 t) ⟨d, hd⟩ ⟨k, hk⟩).symm.trans ?_
      exact (blk6 m c t ⟨d, hd⟩ ⟨k, hk⟩).trans (host_w (fun b => m (c, b)) ⟨d, hd⟩ ⟨k, hk⟩)
    · rw [h2]
      refine (g3_eq (n0 := 4) (n1 := 96) (n2 := 1024) (show S4x96x1024.Idx → EReal from iblk m c 1 t) ⟨b, hb⟩ ⟨d, hd⟩ ⟨n, hn⟩).symm.trans ?_
      refine (blk1 m c t ⟨b, hb⟩ ⟨d, hd⟩ ⟨n, hn⟩ ⟨1024 * t.val + n, by omega⟩ rfl).trans ((host_x (fun b => m (c, b)) _ _ _).trans ?_)
      exact g3_eq (n0 := 4) (n1 := 262144) (n2 := 96) (m ((c : Thread nD τ).loc main_arg0) : S4x262144x96.Idx → EReal) ⟨b, hb⟩ ⟨1024 * t.val + n, by omega⟩ ⟨d, hd⟩
    · rw [h8]
      refine (g2_eq (n0 := 96) (n1 := 128) (show S96x128.Idx → EReal from iblk m c 7 t) ⟨d, hd⟩ ⟨n % 128, by omega⟩).symm.trans ?_
      refine (blk7 m c t ⟨d, hd⟩ ⟨n % 128, by omega⟩).trans ((host_ws (fun b => m (c, b)) ⟨d, hd⟩ ⟨n % 128, by omega⟩).trans ?_)
      exact congrArg (fun i => (m ((c : Thread nD τ).loc main_arg4) : S96.Idx → EReal) (ix1 i)) (Fin.ext (Nat.mod_eq_of_lt hd).symm)
    · rw [h9]
      refine (g2_eq (n0 := 96) (n1 := 128) (show S96x128.Idx → EReal from iblk m c 8 t) ⟨d, hd⟩ ⟨n % 128, by omega⟩).symm.trans ?_
      refine (blk8 m c t ⟨d, hd⟩ ⟨n % 128, by omega⟩).trans ((host_bias (fun b => m (c, b)) ⟨d, hd⟩ ⟨n % 128, by omega⟩).trans ?_)
      exact congrArg (fun i => (m ((c : Thread nD τ).loc main_arg5) : S96.Idx → EReal) (ix1 i)) (Fin.ext (Nat.mod_eq_of_lt hd).symm)
  have E11 := blkA_of y11 (fun b d T => cod (Zk (xs c) (α c) (β c)) (96 * b + d) T) t.val hco
  have E12 := blkB_of y12 (fun g b T => scl (Zk (xs c) (α c) (β c)) (3 * b + g) T) t.val hs
  refine ⟨x13, x14, x15, x16, x17, x18, x19, ?_, hl⟩
  rw [e, E10, E11, E12]

end Cert.KernelIdeal.Val

end

end
-- ==== Proof.Value.RefBlk.lean ====
/-
  The reference's last part: its three arrays from the ones it reads.
-/
module

public import proofs.«01_k».proof.Proof.Value.RefPay
public import proofs.«01_k».proof.Proof.Value.KerFin

@[expose] public section

set_option maxRecDepth 16384
set_option maxHeartbeats 400000

noncomputable section

namespace Cert.ReferenceIdeal.Val

open Idealize.ShloMosaic Idealize.ShloMosaic.TcCoe Cert.Val Cert.ReferenceIdeal.Gen
open Idealize.SL.Sem
open Cert.KernelIdeal.Val (cod scl act pad cv outY idx3)

theorem ld_w (w : S3x96x96.Idx → EReal) (i o : Fin 96) :
   ((View.ld (Val := Elt Ideal) (e' := .fp8e4m3) w r0_1 : S1x96x96.Idx → EReal) (ix3 0 i o) = w (ix3 0 i o)) ∧ ((View.ld (Val := Elt Ideal) (e' := .fp8e4m3) w r0_2 : S1x96x96.Idx → EReal) (ix3 0 i o) = w (ix3 1 i o)) ∧
    ((View.ld (Val := Elt Ideal) (e' := .fp8e4m3) w r0_3 : S1x96x96.Idx → EReal) (ix3 0 i o) = w (ix3 2 i o)) := by
  refine ⟨?_, ?_, ?_⟩
  · show w _ = w _
    refine congrArg w ?_
    funext y; apply Fin.ext; match y with
    | ⟨0, _⟩ => show 0 + 1 * 0 = 0; omega
    | ⟨1, _⟩ => show 0 + 1 * i.val = i.val; omega
    | ⟨2, _⟩ => show 0 + 1 * o.val = o.val; omega
  · show w _ = w _
    refine congrArg w ?_
    funext y; apply Fin.ext; match y with
    | ⟨0, _⟩ => show 1 + 1 * 0 = 1; omega
    | ⟨1, _⟩ => show 0 + 1 * i.val = i.val; omega
    | ⟨2, _⟩ => show 0 + 1 * o.val = o.val; omega
  · show w _ = w _
    refine congrArg w ?_
    funext y; apply Fin.ext; match y with
    | ⟨0, _⟩ => show 2 + 1 * 0 = 2; omega
    | ⟨1, _⟩ => show 0 + 1 * i.val = i.val; omega
    | ⟨2, _⟩ => show 0 + 1 * o.val = o.val; omega

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 0] ∧ win0_3.index t = ![0, 0, 0] ∧
    win0_4.index t = ![0, 0, 0] ∧ win0_5.index t = ![0] ∧ win0_6.index t = ![0] :=
  (by decide +kernel : ∀ t : Fin grid0.N, _)

theorem blk0 (t : Fin cfg0.N) : (iblk m c 0 t : S4x262144x96.Idx → EReal) = V m c main_arg0 := by blk_ext! [iblk, idx t]
theorem blk4 (t : Fin cfg0.N) : (iblk m c 4 t : S3x96x96.Idx → EReal) = V m c main_arg3 := by blk_ext! [iblk, idx t]
theorem blk5 (t : Fin cfg0.N) : (iblk m c 5 t : S96.Idx → EReal) = V m c main_arg4 := by blk_ext! [iblk, idx t]
theorem blk6 (t : Fin cfg0.N) : (iblk m c 6 t : S96.Idx → EReal) = V m c main_arg5 := by blk_ext! [iblk, idx t]

theorem rd1 (A : (Pipeline.arrRef spec0 1).ty.shape.Idx → Elt Ideal (Pipeline.arrRef spec0 1).ty.elt) (t : Fin cfg0.N) (b : Fin 4) (p : Fin 262144) (d : Fin 96) :
    (show S4x262144x96.Idx → EReal from ((cfg0.win 1).blk t).view.read (Elt Ideal) A) (ix3 b p d) = (show S4x262144x96.Idx → EReal from A) (ix3 b p d) := by
  blk_ext [idx t]

theorem blk1' (t : Fin cfg0.N) (b : Fin 4) (p : Fin 262144) (d : Fin 96) :
    (show S4x262144x96.Idx → EReal from iblk m c 1 t) (ix3 b p d) = (show S4x262144x96.Idx → EReal from V m c (Pipeline.arrRef spec0 1)) (ix3 b p d) :=
  rd1 (V m c (Pipeline.arrRef spec0 1)) t b p d

theorem blk1 (t : Fin cfg0.N) : (iblk m c 1 t : S4x262144x96.Idx → EReal) = (V m c main_v172 : S4x262144x96.Idx → EReal) := by
  funext j
  obtain ⟨b, p, d, rfl⟩ := idx3 j
  exact blk1' m c t b p d

theorem rd2 (A : (Pipeline.arrRef spec0 2).ty.shape.Idx → Elt Ideal (Pipeline.arrRef spec0 2).ty.elt) (t : Fin cfg0.N) (b : Fin 4) (p : Fin 262144) (d : Fin 96) :
    (show S4x262144x96.Idx → EReal from ((cfg0.win 2).blk t).view.read (Elt Ideal) A) (ix3 b p d) = (show S4x262144x96.Idx → EReal from A) (ix3 b p d) := by
  blk_ext [idx t]

theorem blk2' (t : Fin cfg0.N) (b : Fin 4) (p : Fin 262144) (d : Fin 96) :
    (show S4x262144x96.Idx → EReal from iblk m c 2 t) (ix3 b p d) = (show S4x262144x96.Idx → EReal from V m c (Pipeline.arrRef spec0 2)) (ix3 b p d) :=
  rd2 (V m c (Pipeline.arrRef spec0 2)) t b p d

theorem blk2 (t : Fin cfg0.N) : (iblk m c 2 t : S4x262144x96.Idx → EReal) = (V m c main_v175 : S4x262144x96.Idx → EReal) := by
  funext j
  obtain ⟨b, p, d, rfl⟩ := idx3 j
  exact blk2' m c t b p d

theorem rd3 (A : (Pipeline.arrRef spec0 3).ty.shape.Idx → Elt Ideal (Pipeline.arrRef spec0 3).ty.elt) (t : Fin cfg0.N) (b : Fin 4) (p : Fin 262144) (d : Fin 3) :
    (show S4x262144x3.Idx → EReal from ((cfg0.win 3).blk t).view.read (Elt Ideal) A) (ix3 b p d) = (show S4x262144x3.Idx → EReal from A) (ix3 b p d) := by
  blk_ext [idx t]

theorem blk3' (t : Fin cfg0.N) (b : Fin 4) (p : Fin 262144) (d : Fin 3) :
    (show S4x262144x3.Idx → EReal from iblk m c 3 t) (ix3 b p d) = (show S4x262144x3.Idx → EReal from V m c (Pipeline.arrRef spec0 3)) (ix3 b p d) :=
  rd3 (V m c (Pipeline.arrRef spec0 3)) t b p d

theorem blk3 (t : Fin cfg0.N) : (iblk m c 3 t : S4x262144x3.Idx → EReal) = (V m c main_v162 : S4x262144x3.Idx → EReal) := by
  funext j
  obtain ⟨b, p, d, rfl⟩ := idx3 j
  exact blk3' m c t b p d

theorem cg8 {u v : S4x262144x96.Idx → EReal} (e : u = v) (j : S4x96x262144.Idx) : (k0_pay2 (F := Ideal) (k0_pay4 u) : S4x96x262144.Idx → EReal) j = (k0_pay2 (F := Ideal) (k0_pay4 v) : S4x96x262144.Idx → EReal) j := by rw [e]

theorem cg9 {u v : S4x262144x3.Idx → EReal} (e : u = v) (j : S3x4x262144.Idx) : (k0_pay3 (F := Ideal) u : S3x4x262144.Idx → EReal) j = (k0_pay3 (F := Ideal) v : S3x4x262144.Idx → EReal) j := by rw [e]

set_option backward.isDefEq.respectTransparency false in
theorem arr8 : (dats m 0 c).arrAt 8 cfg0.N = (k0_pay2 (F := Ideal) (k0_pay4 (V m c main_v172)) : S4x96x262144.Idx → EReal) := by
  refine (dats m 0 c).arrAt_eq_of_after_last 8 t0_0 (by decide +kernel) _ fun j => ?_
  blk_simp
  rw [after0_8]
  frame_out
  exact cg8 (blk1 m c t0_0) j

set_option backward.isDefEq.respectTransparency false in
theorem arr9 : (dats m 0 c).arrAt 9 cfg0.N = (k0_pay3 (F := Ideal) (V m c main_v162) : S3x4x262144.Idx → EReal) := by
  refine (dats m 0 c).arrAt_eq_of_after_last 9 t0_0 (by decide +kernel) _ fun j => ?_
  blk_simp
  rw [after0_9]
  frame_out
  exact cg9 (blk3 m c t0_0) j

/-- The reference's first result from the arrays its last part reads. -/
def yOf (x v s : S4x262144x96.Idx → EReal) (w : S3x96x96.Idx → EReal) (a b : S96.Idx → EReal) : S4x96x262144.Idx → EReal :=
  k0_pay1 (F := Ideal) (k0_pay6 v s (View.ld (Val := Elt Ideal) (e' := .fp8e4m3) w r0_1) (View.ld (Val := Elt Ideal) (e' := .fp8e4m3) w r0_2)) (k0_pay7 v s (View.ld (Val := Elt Ideal) (e' := .fp8e4m3) w r0_3)) x a b

theorem yOf_congr {x v s x' v' s' : S4x262144x96.Idx → EReal} {w w' : S3x96x96.Idx → EReal} {a b a' b' : S96.Idx → EReal} (h0 : x = x') (h1 : v = v') (h2 : s = s') (h4 : w = w') (h5 : a = a') (h6 : b = b') (j : S4x96x262144.Idx) :
    yOf x v s w a b j = yOf x' v' s' w' a' b' j := by rw [h0, h1, h2, h4, h5, h6]

set_option backward.isDefEq.respectTransparency false in
theorem arr7 : (dats m 0 c).arrAt 7 cfg0.N = yOf (V m c main_arg0) (V m c main_v172) (V m c main_v175) (V m c main_arg3) (V m c main_arg4) (V m c main_arg5) := by
  refine (dats m 0 c).arrAt_eq_of_after_last 7 t0_0 (by decide +kernel) _ fun j => ?_
  blk_simp
  rw [after0_7]
  frame_out
  exact yOf_congr (blk0 m c t0_0) (blk1 m c t0_0) (blk2 m c t0_0) (blk4 m c t0_0) (blk5 m c t0_0) (blk6 m c t0_0) j

end Cert.ReferenceIdeal.Val

end

end
-- ==== Proof.Value.RefFin.lean ====
/-
  The reference's three results, as the same functions of its arguments as the kernel's.
-/
module

public import proofs.«01_k».proof.Proof.Value.RefBlk
public import proofs.«01_k».proof.Proof.Value.KerFin

@[expose] public section

set_option maxRecDepth 16384
set_option maxHeartbeats 400000

noncomputable section

namespace Cert.ReferenceIdeal.Val

open Idealize.ShloMosaic Idealize.ShloMosaic.TcCoe Cert.Val Cert.ReferenceIdeal.Gen
open Idealize.SL.Sem
open Cert.KernelIdeal.Val (cod scl act pad cv outY idx3)

theorem sum3 (f : ℕ → EReal) : (∑ k : Fin 288, f k.val) = ((∑ i : Fin 96, f i.val) + ∑ i : Fin 96, f (96 + i.val)) + ∑ i : Fin 96, f (192 + i.val) := by
  rw [Fin.sum_univ_eq_sum_range f 288, Fin.sum_univ_eq_sum_range f 96, Fin.sum_univ_eq_sum_range (fun i => f (96 + i)) 96,
    Fin.sum_univ_eq_sum_range (fun i => f (192 + i)) 96]
  rw [show (288 : ℕ) = 96 + 96 + 96 from rfl, Finset.sum_range_add, Finset.sum_range_add]

theorem conv_eq (xs : ℕ → ℕ → ℝ) (α β : ℕ → EReal) (w : S3x96x96.Idx → EReal) (b : Fin 4) (d : Fin 96) (T : Fin 262144) :
    (∑ k : Fin 288, g3 (n0 := 3) (n1 := 96) (n2 := 96) w (k.val / 96) (k.val % 96) d.val * pad xs α β (96 * b.val + k.val % 96) (T.val + k.val / 96)) =
      ((if T.val = 0 then 0 else ∑ i : Fin 96, act (Zr xs α β) (96 * b.val + i.val) (T.val - 1) * w (ix3 0 i d)) +
        ∑ i : Fin 96, act (Zr xs α β) (96 * b.val + i.val) T.val * w (ix3 1 i d)) +
        (if T.val + 1 < 262144 then ∑ i : Fin 96, act (Zr xs α β) (96 * b.val + i.val) (T.val + 1) * w (ix3 2 i d) else 0) := by
  rw [sum3 fun k => g3 (n0 := 3) (n1 := 96) (n2 := 96) w (k / 96) (k % 96) d.val * pad xs α β (96 * b.val + k % 96) (T.val + k / 96)]
  have hT := T.isLt
  congr 1
  · congr 1
    · by_cases h : T.val = 0
      · rw [if_pos h]
        refine Finset.sum_eq_zero fun i _ => ?_
        have hi := i.isLt
        rw [show i.val / 96 = 0 by omega, h]
        exact (congrArg _ (if_pos (Or.inl rfl))).trans (mul_zero _)
      · rw [if_neg h]
        refine Finset.sum_congr rfl fun i _ => ?_
        have hi := i.isLt
        rw [show i.val / 96 = 0 by omega, show i.val % 96 = i.val by omega, mul_comm, g3_eq w 0 i d]
        exact congrArg (· * _) (if_neg (by omega))
    · refine Finset.sum_congr rfl fun i _ => ?_
      have hi := i.isLt
      rw [show (96 + i.val) / 96 = 1 by omega, show (96 + i.val) % 96 = i.val by omega, mul_comm, g3_eq w 1 i d]
      exact congrArg (· * _) (if_neg (by omega))
  · by_cases h : T.val + 1 < 262144
    · rw [if_pos h]
      refine Finset.sum_congr rfl fun i _ => ?_
      have hi := i.isLt
      rw [show (192 + i.val) / 96 = 2 by omega, show (192 + i.val) % 96 = i.val by omega, mul_comm, g3_eq w 2 i d]
      exact congrArg (· * _) (if_neg (by omega))
    · rw [if_neg h]
      refine Finset.sum_eq_zero fun i _ => ?_
      have hi := i.isLt
      rw [show (192 + i.val) / 96 = 2 by omega]
      exact (congrArg _ (if_pos (by omega))).trans (mul_zero _)

/-- The reference's first result at a place, from what its last part reads. -/
theorem yOf_at (xs : ℕ → ℕ → ℝ) (α β : ℕ → EReal) (x v s : S4x262144x96.Idx → EReal) (w : S3x96x96.Idx → EReal) (ws bs : S96.Idx → EReal)
    (hv : ∀ (b : Fin 4) (p : Fin 262144) (d : Fin 96), v (ix3 b p d) = cod (Zr xs α β) (96 * b.val + d.val) p.val)
    (hs : ∀ (b : Fin 4) (p : Fin 262144) (d : Fin 96), s (ix3 b p d) = scl (Zr xs α β) (3 * b.val + d.val / 32) p.val) (b : Fin 4) (o : Fin 96) (p : Fin 262144) :
    yOf x v s w ws bs (ix3 b o p) = outY xs α β x w ws bs b.val o.val p.val := by
  have ha : ∀ (b : Fin 4) (p : Fin 262144) (i : Fin 96), v (ix3 b p i) * s (ix3 b p i) = act (Zr xs α β) (96 * b.val + i.val) p.val := fun b p i => by
    rw [hv, hs]
    exact congrArg (fun n => cod (Zr xs α β) (96 * b.val + i.val) p.val * scl (Zr xs α β) n p.val) (by omega)
  have hw := fun i o => ld_w w i o
  refine (pay1_at _ _ _ _ _ b o p).trans ?_
  rw [pay6_at]
  unfold outY cv
  have e := conv_eq xs α β w b o p
  refine Eq.trans ?_ (congrArg (fun z => g3 (n0 := 4) (n1 := 262144) (n2 := 96) x b.val p.val o.val + (z * ws (ix1 (Fin.ofNat 96 o.val)) + bs (ix1 (Fin.ofNat 96 o.val)))) e.symm)
  have e96 : Fin.ofNat 96 o.val = o := Fin.ext (Nat.mod_eq_of_lt o.isLt)
  rw [e96, ← g3_eq x b p o]
  congr 4
  · congr 1
    · by_cases h : p.val = 0
      · rw [dif_pos h, if_pos h]
      · rw [dif_neg h, if_neg h]
        exact Finset.sum_congr rfl fun i _ => congrArg₂ (· * ·) (ha b ⟨p.val - 1, by omega⟩ i) (hw i o).1
    · exact Finset.sum_congr rfl fun i _ => congrArg₂ (· * ·) (ha b p i) (hw i o).2.1
  · by_cases h : p.val + 1 < 262144
    · rw [dif_pos h, if_pos h]
      refine (pay7_at _ _ _ _ _ _).trans ?_
      exact Finset.sum_congr rfl fun i _ => congrArg₂ (· * ·) (ha b ⟨p.val + 1, h⟩ i) (hw i o).2.2
    · rw [dif_neg h, if_neg h]

variable (m : (ℓ : Loc nD τ sig) → Buf (Elt Ideal) ℓ) (c : Dev nD)

/-- The arguments of device `c`: a finite input, the two rows of per-channel parameters. -/
structure Args (xs : ℕ → ℕ → ℝ) (α β : ℕ → EReal) : Prop where
  x : ∀ (b : Fin 4) (p : Fin 262144) (d : Fin 96), (m ((c : Thread nD τ).loc main_arg0) : S4x262144x96.Idx → EReal) (ix3 b p d) = ((xs (96 * b.val + d.val) p.val : ℝ) : EReal)
  α : ∀ d : Fin 96, (m ((c : Thread nD τ).loc main_arg1) : S96.Idx → EReal) (ix1 d) = α d.val
  β : ∀ d : Fin 96, (m ((c : Thread nD τ).loc main_arg2) : S96.Idx → EReal) (ix1 d) = β d.val

variable {m c} {xs : ℕ → ℕ → ℝ} {α β : ℕ → EReal}

theorem host (h : Args m c xs α β) :
    (∀ (b : Fin 4) (p : Fin 262144) (d : Fin 96), (V m c main_v172 : S4x262144x96.Idx → EReal) (ix3 b p d) = cod (Zr xs α β) (96 * b.val + d.val) p.val) ∧
    (∀ (b : Fin 4) (p : Fin 262144) (d : Fin 96), (V m c main_v175 : S4x262144x96.Idx → EReal) (ix3 b p d) = scl (Zr xs α β) (3 * b.val + d.val / 32) p.val) ∧
    (∀ (b : Fin 4) (p : Fin 262144) (g : Fin 3), (V m c main_v162 : S4x262144x3.Idx → EReal) (ix3 b p g) = scl (Zr xs α β) (3 * b.val + g.val) p.val) :=
  ref_values xs α β (fun b => m (c, b))
    (fun b p d hb hp hd => (g3_eq (n0 := 4) (n1 := 262144) (n2 := 96) _ ⟨b, hb⟩ ⟨p, hp⟩ ⟨d, hd⟩).symm.trans (h.x ⟨b, hb⟩ ⟨p, hp⟩ ⟨d, hd⟩)) h.α h.β

theorem final7 (h : Args m c xs α β) : (dats m 0 c).arrAt 7 cfg0.N = Cert.KernelIdeal.Launch.outA (outY xs α β (m ((c : Thread nD τ).loc main_arg0)) (m ((c : Thread nD τ).loc main_arg3)) (m ((c : Thread nD τ).loc main_arg4)) (m ((c : Thread nD τ).loc main_arg5))) := by
  refine (arr7 m c).trans ?_
  funext j
  obtain ⟨b, o, p, rfl⟩ := idx3 j
  rw [V_main_arg0, V_main_arg3, V_main_arg4, V_main_arg5]
  exact yOf_at xs α β _ _ _ _ _ _ (host h).1 (host h).2.1 b o p

theorem final8 (h : Args m c xs α β) : (dats m 0 c).arrAt 8 cfg0.N = Cert.KernelIdeal.Launch.outA (fun b d T => cod (Zr xs α β) (96 * b + d) T) := by
  refine (arr8 m c).trans ?_
  funext j
  obtain ⟨b, o, p, rfl⟩ := idx3 j
  exact (pay2_at _ b o p).trans ((host h).1 b p o)

theorem final9 (h : Args m c xs α β) : (dats m 0 c).arrAt 9 cfg0.N = Cert.KernelIdeal.Launch.outB (fun g b T => scl (Zr xs α β) (3 * b + g) T) := by
  refine (arr9 m c).trans ?_
  funext j
  obtain ⟨g, b, p, rfl⟩ := idx3 j
  exact (pay3_at _ g b p).trans ((host h).2.2 b p g)

end Cert.ReferenceIdeal.Val

end

end
-- ==== Proof.lean ====
/-
  The proof of the claim: each program runs to its end and leaves its arguments as they were, the
  pair of 16-bit halves that the idealized kernel reads differently is read as the rule allows, and
  the idealized kernel and the idealized reference end with the same three results.
-/
module

public import proofs.«01_k».proof.Defs
public import proofs.«01_k».proof.Proof.KernelFrame
public import proofs.«01_k».proof.Proof.KernelIdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Value.Finite
public import proofs.«01_k».proof.Proof.Value.RefFin
public import Idealize.ShloMosaic.Lib.Bf16Pair

@[expose] public section

set_option maxRecDepth 16384

noncomputable section

namespace Cert.Proof

open Idealize.ShloMosaic Idealize.ShloMosaic.TcCoe Idealize.SL.Sem

theorem preserves : Cert.preserves_Kernel_KernelIdeal :=
  IdealRules.bf16_pair.statement _ _ (by decide)

/-- The row `96 b + d` of the input at the time `p`, as a real number. -/
def row (x : Cert.KernelIdeal.S4x262144x96.Idx → EReal) (r p : ℕ) : ℝ :=
  (Cert.Val.g3 (n0 := 4) (n1 := 262144) (n2 := 96) x (r / 96) p (r % 96)).toReal

/-- The per-channel parameter `d`. -/
def chan (a : Cert.KernelIdeal.S96.Idx → EReal) (d : ℕ) : EReal := a (ix1 (Fin.ofNat 96 d))

theorem row_eq (x : Cert.KernelIdeal.S4x262144x96.Idx → EReal) (h : ∀ i, ((x i).toReal : EReal) = x i) (b : Fin 4) (p : Fin 262144) (d : Fin 96) :
    x (ix3 b p d) = ((row x (96 * b.val + d.val) p.val : ℝ) : EReal) := by
  have hd := d.isLt
  unfold row
  rw [show (96 * b.val + d.val) / 96 = b.val by omega, show (96 * b.val + d.val) % 96 = d.val by omega, ← Cert.Val.g3_eq x b p d]
  exact (h _).symm

theorem chan_eq (a : Cert.KernelIdeal.S96.Idx → EReal) (d : Fin 96) : a (ix1 d) = chan a d.val :=
  congrArg (fun d => a (ix1 d)) (Fin.ext (Nat.mod_eq_of_lt d.isLt).symm)

open Cert.KernelIdeal.Val (outY cod scl Zk) in
theorem algebraic : Cert.algebraic_KernelIdeal_ReferenceIdeal_pre_finite := by
  intro m g m' g' hpre hag
  have hx := fun (c : Dev Cert.KernelIdeal.nD) (i : Cert.KernelIdeal.S4x262144x96.Idx) => Cert.Pre_finite.real_of _ _ _ _ _ _ i (congrFun (hpre c) i)
  have hA : ∀ c : Dev Cert.KernelIdeal.nD, Cert.KernelIdeal.Val.Args m (row (m ((c.tc : Thread Cert.KernelIdeal.nD Cert.KernelIdeal.τ).loc Cert.KernelIdeal.main_arg0)))
      (chan (m ((c.tc : Thread Cert.KernelIdeal.nD Cert.KernelIdeal.τ).loc Cert.KernelIdeal.main_arg1)))
      (chan (m ((c.tc : Thread Cert.KernelIdeal.nD Cert.KernelIdeal.τ).loc Cert.KernelIdeal.main_arg2))) c :=
    fun c => ⟨row_eq _ (hx c), chan_eq _, chan_eq _⟩
  have hB : ∀ c : Dev Cert.KernelIdeal.nD, Cert.ReferenceIdeal.Val.Args m' c (row (m ((c.tc : Thread Cert.KernelIdeal.nD Cert.KernelIdeal.τ).loc Cert.KernelIdeal.main_arg0)))
      (chan (m ((c.tc : Thread Cert.KernelIdeal.nD Cert.KernelIdeal.τ).loc Cert.KernelIdeal.main_arg1)))
      (chan (m ((c.tc : Thread Cert.KernelIdeal.nD Cert.KernelIdeal.τ).loc Cert.KernelIdeal.main_arg2))) :=
    fun c => ⟨fun b p d => (congrFun (hag c).1 (ix3 b p d)).trans ((hA c).x b p d), fun d => (congrFun (hag c).2.1 (ix1 d)).trans ((hA c).α d),
      fun d => (congrFun (hag c).2.2.1 (ix1 d)).trans ((hA c).β d)⟩
  refine ⟨_, _, _, Cert.KernelIdeal.Launch.run_results m g _ _ _ _ (Cert.KernelIdeal.Val.step_ok m _ _ _ hA), ?_⟩
  refine (θ_run _ _ _).mono (fun r hr c => ?_) (θ_run_and (Cert.ReferenceIdeal.Gen.run_main m' g') (Cert.ReferenceIdeal.Gen.unchanged m' g'))
  have e7 := (hr.1.out_eq c 7).trans (Cert.ReferenceIdeal.Val.final7 (hB c))
  rw [(hag c).1, (hag c).2.2.2.1, (hag c).2.2.2.2.1, (hag c).2.2.2.2.2] at e7
  exact ⟨e7, (hr.1.out_eq c 8).trans (Cert.ReferenceIdeal.Val.final8 (hB c)), (hr.1.out_eq c 9).trans (Cert.ReferenceIdeal.Val.final9 (hB c)), hr.2 c⟩

theorem claim : Cert.Claim :=
  ⟨Cert.Kernel.Gen.facts, Cert.KernelIdeal.Gen.facts, Cert.ReferenceIdeal.Gen.facts, Cert.Pre_finite.facts,
    fun m ρ _ => Cert.Kernel.Whole.frame m ρ,
    fun m ρ _ => Cert.KernelIdeal.Whole.frame m ρ,
    fun m ρ _ => Cert.KernelIdeal.Whole.frame m ρ,
    fun m ρ _ => Cert.ReferenceIdeal.Gen.frame m ρ,
    fun m ρ _ => Cert.ReferenceIdeal.Gen.frame m ρ,
    preserves, algebraic⟩

end Cert.Proof

end
